-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5)
      ∧ r.2.mem ((c.tc : Thread Cert.Kernel14.nD Cert.Kernel14.τ).loc Cert.Kernel14.main_arg6) = m ((c.tc : Thread Cert.Kernel14.nD Cert.Kernel14.τ).loc Cert.Kernel14.main_arg6))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
      ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5)
      ∧ r.2.mem ((c.tc : Thread Cert.Reference14Ideal.nD Cert.Reference14Ideal.τ).loc Cert.Reference14Ideal.main_arg6) = m ((c.tc : Thread Cert.Reference14Ideal.nD Cert.Reference14Ideal.τ).loc Cert.Reference14Ideal.main_arg6))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def preserves_Kernel_KernelIdeal : Prop :=
  IdealRules.named_const.Statement Cert.KernelIdeal.κ "decay0" .f32 0x3C8CC36A#32 ((78396524673059168935135267129777069613296345595630703725521524943634535507969383755197623356051954795321353669855221370862828507625207993636119503453243704432660074542086103959358842624471041 / 4562440617622195218641171605700291324893228507248559930579192517899275167208677386505912811317371399778642309573594407310688704721375437998252661319722214188251994674360264950082874192246603776 : ℝ) : EReal)
  ∧ IdealRules.named_const.Statement Cert.KernelIdeal.κ "decay1" .f32 0x3E08698E#32 ((206818950539439974611426494768646509052450548467862700447621795740222426769977288960977743464810862855020740953892191788741654107464722037227942902092362014238569158361477328071348684792194146041516068394618902177421160615463608321 / 1552518092300708935148979488462502555256886017116696611139052038026050952686376886330878408828646477950487730697131073206171580044114814391444287275041181139204454976020849905550265285631598444825262999193716468750892846853816057856 : ℝ) : EReal)
  ∧ IdealRules.named_const.Statement Cert.KernelIdeal.κ "decay2" .f32 0x3EBB9DB9#32 ((193587041323456767073378744577144446238302802122755626265377701497888780029664683420821685794909561110112747584183810952248255320179325448240268888426074358932225073573129703527667374571068332710586954198407984961320402885440313498999562662298934347135846335745400750081 / 528294531135665246352339784916516606518847326036121522127960709026673902556724859474417255887657187894674394993257128678882347559502685537250538978462939576908386683999005084168731517676426441053024232908211188404148028292751561738838396898767036476489538580897737998336 : ℝ) : EReal)
  ∧ IdealRules.named_const.Statement Cert.KernelIdeal.κ "decay3" .f32 0x3F1B1EB1#32 ((108928894366787909538482854136354399894027807047938726384754988597771177118744824750036685260233948099017113922415252234011703451806056104642801051378500851854629730635169211674367174308372494347446246524392175556695189741637351359098122801357656299133935250096489309214187191088285544537939131259918212890625 / 179769313486231590772930519078902473361797697894230657273430081157732675805500963132708477322407536021120113879871393357658789768814416622492847430639474124377767893424865485276302219601246094119453082952085005768838150682342462881473913110540827237163350510684586298239947245938479716304835356329624224137216 : ℝ) : EReal)
  ∧ IdealRules.named_const.Statement Cert.KernelIdeal.κ "decay4" .f32 0x3F475303#32 ((47629411692907116618449907612943127113503058551675946475726046321068673767448309433604978842042244727950808621043443846226460652335771338586632158945163132521668959777554552621550652820578661694876446670852176498616800683992861587538664151446101098738528916217395117383283261069385353239390029990732456890130741979784965471495112669402908501934081 / 61172327492847069472032393719205726809135813743440799050195397570919697796091958321786863938157971792315844506873509046544459008355036150650333616890210625686064472971480622053109783197015954399612052812141827922088117778074833698589048132156300022844899841969874763871624802603515651998113045708569927237462546233168834543264678118409417047146496 : ℝ) : EReal)
  ∧ IdealRules.named_const.Statement Cert.KernelIdeal.κ "decay5" .f32 0x3F61E7C9#32 ((18368813940068701121309471031748546166409385177907889681567909204907843101356355113621789948457578423950951357861201635378353901841502083551214518705094576000801881609357528370927695345999771540811130220701806311437704123410191713207648461265752321556704891384575009631286846774765075276410443802620990291581417820693201927792904733968311586634391883874777008525219926635061949132308481 / 20815864389328798163850480654728171077230524494533409610638224700807216119346720596024478883464648369684843227908562015582767132496646929816279813211354641525848259018778440691546366699323167100945918841095379622423387354295096957733925002768876520583464697770622321657076833170056511209332449663781837603694136444406281042053396870977465916057756101739472373801429441421111406337458176 : ℝ) : EReal)
  ∧ IdealRules.named_const.Statement Cert.KernelIdeal.κ "decay6" .f32 0x3F707C6F#32 ((6654016306095794578375805711706083627451106248621586707412028597044408595312882379735073979112908018757447922758800571158845448981108241366532934936903543922134307313033151462922936471521739184867036790102713388902849653985362444399390130211558444266640229528797001241261265790623485036884367437026101609929603420057467875778203261521955819753306746817495538758501232080385332001279585751237624806311955763606715255754588161 / 7083271603906078757501937199839970337237042072752024044272935252133021449487672037753077279976540494138725768234495819230178699615482523444525217326451885295083794903354995236859949814158861106339793498427520403285563504697437506153794873484561573759163876734171825622767620957924878367969185009358384129424236514293956457858505582263102570156257796764049361854053114869322098725721757629614488965634874516982012228724064256 : ℝ) : EReal)
  ∧ IdealRules.named_const.Statement Cert.KernelIdeal.κ "decay7" .f32 0x3F781F6D#32 ((2336145996485715011108153785615776499858733148743538919007787240374300769161677364451330588546379393934710767297948693750212977182432144756693222913694201351415707587213845469885411951467421009026364398236912296974770937803354917816344076178184271938993357862007940537484988845481851311787727821040804576004627517636545830787600741566109129512685857776895668995836668969820089659981854127844078976793816477847952302188670216376298327531912946142256259918212890625 / 2410312426921032588580116606028314112912093247945688951359675039065257391591803200669085024107346049663448766280888004787862416978794958324969612987890774651455213339381625224770782077917681499676845543137387820057597345857904599109461387122099507964997815641342300677629473355281617428411794163967785870370368969109221591943054232011562758450080579587850900993714892283476646631181515063804873375182260506246992837898705971012525843324401232986857004760339316736 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v304)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v304) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v197) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v2_0)) (v1 : (c : Dev Cert.Kernel2Ideal.nD) → Buf (Elt Ideal) ((c.tc : Thread Cert.Kernel2Ideal.nD Cert.Kernel2Ideal.τ).loc Cert.Kernel2Ideal.main_v2_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2_0) = v0 c
          ∧ r.2.mem ((c.tc : Thread Cert.Kernel2Ideal.nD Cert.Kernel2Ideal.τ).loc Cert.Kernel2Ideal.main_v2_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v8) = v0 c
          ∧ r.2.mem ((c.tc : Thread Cert.Reference2Ideal.nD Cert.Reference2Ideal.τ).loc Cert.Reference2Ideal.main_v9) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v16)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v16) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v22)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v22) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v56) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v9_0)) (v1 : (c : Dev Cert.Kernel6Ideal.nD) → Buf (Elt Ideal) ((c.tc : Thread Cert.Kernel6Ideal.nD Cert.Kernel6Ideal.τ).loc Cert.Kernel6Ideal.main_v9_1)) (v2 : (c : Dev Cert.Kernel6Ideal.nD) → Buf (Elt Ideal) ((c.tc : Thread Cert.Kernel6Ideal.nD Cert.Kernel6Ideal.τ).loc Cert.Kernel6Ideal.main_v9_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v9_0) = v0 c
          ∧ r.2.mem ((c.tc : Thread Cert.Kernel6Ideal.nD Cert.Kernel6Ideal.τ).loc Cert.Kernel6Ideal.main_v9_1) = v1 c
          ∧ r.2.mem ((c.tc : Thread Cert.Kernel6Ideal.nD Cert.Kernel6Ideal.τ).loc Cert.Kernel6Ideal.main_v9_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_v11) = v1 c
          ∧ r.2.mem ((c.tc : Thread Cert.Reference6Ideal.nD Cert.Reference6Ideal.τ).loc Cert.Reference6Ideal.main_v15) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)) (v3 : (c : Dev Cert.Kernel7Ideal.nD) → Buf (Elt Ideal) ((c.tc : Thread Cert.Kernel7Ideal.nD Cert.Kernel7Ideal.τ).loc Cert.Kernel7Ideal.main_v0_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_v0_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_arg1) = v0 c
          ∧ r.2.mem ((c.tc : Thread Cert.Reference7Ideal.nD Cert.Reference7Ideal.τ).loc Cert.Reference7Ideal.main_v23) = v1 c
          ∧ r.2.mem ((c.tc : Thread Cert.Reference7Ideal.nD Cert.Reference7Ideal.τ).loc Cert.Reference7Ideal.main_v4) = v2 c
          ∧ r.2.mem ((c.tc : Thread Cert.Reference7Ideal.nD Cert.Reference7Ideal.τ).loc Cert.Reference7Ideal.main_v10) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)) (v3 : (c : Dev Cert.Kernel8Ideal.nD) → Buf (Elt Ideal) ((c.tc : Thread Cert.Kernel8Ideal.nD Cert.Kernel8Ideal.τ).loc Cert.Kernel8Ideal.main_v0_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_v0_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_arg1) = v0 c
          ∧ r.2.mem ((c.tc : Thread Cert.Reference8Ideal.nD Cert.Reference8Ideal.τ).loc Cert.Reference8Ideal.main_v23) = v1 c
          ∧ r.2.mem ((c.tc : Thread Cert.Reference8Ideal.nD Cert.Reference8Ideal.τ).loc Cert.Reference8Ideal.main_v4) = v2 c
          ∧ r.2.mem ((c.tc : Thread Cert.Reference8Ideal.nD Cert.Reference8Ideal.τ).loc Cert.Reference8Ideal.main_v10) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v6_0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v6_0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v9_0)) (v1 : (c : Dev Cert.Kernel11Ideal.nD) → Buf (Elt Ideal) ((c.tc : Thread Cert.Kernel11Ideal.nD Cert.Kernel11Ideal.τ).loc Cert.Kernel11Ideal.main_v9_1)) (v2 : (c : Dev Cert.Kernel11Ideal.nD) → Buf (Elt Ideal) ((c.tc : Thread Cert.Kernel11Ideal.nD Cert.Kernel11Ideal.τ).loc Cert.Kernel11Ideal.main_v9_2)) (v3 : (c : Dev Cert.Kernel11Ideal.nD) → Buf (Elt Ideal) ((c.tc : Thread Cert.Kernel11Ideal.nD Cert.Kernel11Ideal.τ).loc Cert.Kernel11Ideal.main_v9_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v9_0) = v0 c
          ∧ r.2.mem ((c.tc : Thread Cert.Kernel11Ideal.nD Cert.Kernel11Ideal.τ).loc Cert.Kernel11Ideal.main_v9_1) = v1 c
          ∧ r.2.mem ((c.tc : Thread Cert.Kernel11Ideal.nD Cert.Kernel11Ideal.τ).loc Cert.Kernel11Ideal.main_v9_2) = v2 c
          ∧ r.2.mem ((c.tc : Thread Cert.Kernel11Ideal.nD Cert.Kernel11Ideal.τ).loc Cert.Kernel11Ideal.main_v9_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_v31) = v1 c
          ∧ r.2.mem ((c.tc : Thread Cert.Reference11Ideal.nD Cert.Reference11Ideal.τ).loc Cert.Reference11Ideal.main_v32) = v2 c
          ∧ r.2.mem ((c.tc : Thread Cert.Reference11Ideal.nD Cert.Reference11Ideal.τ).loc Cert.Reference11Ideal.main_v34) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)) →
    ∃ (v0 : (c : Dev Cert.Kernel12Ideal.nD) → Buf (Elt Ideal) ((c.tc : Thread Cert.Kernel12Ideal.nD Cert.Kernel12Ideal.τ).loc Cert.Kernel12Ideal.main_v10_0)) (v1 : (c : Dev Cert.Kernel12Ideal.nD) → Buf (Elt Ideal) ((c.tc : Thread Cert.Kernel12Ideal.nD Cert.Kernel12Ideal.τ).loc Cert.Kernel12Ideal.main_v10_1)) (v2 : (c : Dev Cert.Kernel12Ideal.nD) → Buf (Elt Ideal) ((c.tc : Thread Cert.Kernel12Ideal.nD Cert.Kernel12Ideal.τ).loc Cert.Kernel12Ideal.main_v10_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v10_0) = v0 c
          ∧ r.2.mem ((c.tc : Thread Cert.Kernel12Ideal.nD Cert.Kernel12Ideal.τ).loc Cert.Kernel12Ideal.main_v10_1) = v1 c
          ∧ r.2.mem ((c.tc : Thread Cert.Kernel12Ideal.nD Cert.Kernel12Ideal.τ).loc Cert.Kernel12Ideal.main_v10_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v21) = v0 c
          ∧ r.2.mem ((c.tc : Thread Cert.Reference12Ideal.nD Cert.Reference12Ideal.τ).loc Cert.Reference12Ideal.main_v22) = v1 c
          ∧ r.2.mem ((c.tc : Thread Cert.Reference12Ideal.nD Cert.Reference12Ideal.τ).loc Cert.Reference12Ideal.main_v23) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v6_0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v6_0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v7) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)
      ∧ m' ((c.tc : Thread Cert.Reference14Ideal.nD Cert.Reference14Ideal.τ).loc Cert.Reference14Ideal.main_arg6) = m ((c.tc : Thread Cert.Kernel14Ideal.nD Cert.Kernel14Ideal.τ).loc Cert.Kernel14Ideal.main_arg6)) →
    ∃ (v0 : (c : Dev Cert.Kernel14Ideal.nD) → Buf (Elt Ideal) ((c.tc : Thread Cert.Kernel14Ideal.nD Cert.Kernel14Ideal.τ).loc Cert.Kernel14Ideal.main_v16)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v16) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
          ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v5) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5)
          ∧ r.2.mem ((c.tc : Thread Cert.Reference14Ideal.nD Cert.Reference14Ideal.τ).loc Cert.Reference14Ideal.main_arg6) = m' ((c.tc : Thread Cert.Reference14Ideal.nD Cert.Reference14Ideal.τ).loc Cert.Reference14Ideal.main_arg6))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v6_0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v6_0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v8) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v6_0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v6_0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v7) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v3_0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v3_0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v6) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)) →
    ∃ (v0 : (c : Dev Cert.Kernel19Ideal.nD) → Buf (Elt Ideal) ((c.tc : Thread Cert.Kernel19Ideal.nD Cert.Kernel19Ideal.τ).loc Cert.Kernel19Ideal.main_v3_0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v3_0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v7) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
-- ==== Kernel.lean ====
abbrev S4096x4096 : Shape := ⟨2, ![4096, 4096]⟩
abbrev S4096x2048 : Shape := ⟨2, ![4096, 2048]⟩
abbrev S4096x10240 : Shape := ⟨2, ![4096, 10240]⟩
abbrev S64 : Shape := ⟨1, ![64]⟩
abbrev S_ : Shape := ⟨0, ![]⟩
abbrev S4096 : Shape := ⟨1, ![4096]⟩
abbrev S4096x1 : Shape := ⟨2, ![4096, 1]⟩
abbrev S1x64 : Shape := ⟨2, ![1, 64]⟩
abbrev S4096x64 : Shape := ⟨2, ![4096, 64]⟩
abbrev S4096x128 : Shape := ⟨2, ![4096, 128]⟩
abbrev S8 : Shape := ⟨1, ![8]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S8x1x1 : Shape := ⟨3, ![8, 1, 1]⟩
abbrev S8x128x128 : Shape := ⟨3, ![8, 128, 128]⟩
abbrev S8x1 : Shape := ⟨2, ![8, 1]⟩
abbrev S8x128 : Shape := ⟨2, ![8, 128]⟩
abbrev S8x128x1 : Shape := ⟨3, ![8, 128, 1]⟩
abbrev S8x128x256 : Shape := ⟨3, ![8, 128, 256]⟩
abbrev S4096x1024 : Shape := ⟨2, ![4096, 1024]⟩
abbrev S4096x1x64 : Shape := ⟨3, ![4096, 1, 64]⟩
abbrev S4096x8x128 : Shape := ⟨3, ![4096, 8, 128]⟩
abbrev S4096x8x64 : Shape := ⟨3, ![4096, 8, 64]⟩
abbrev S4096x6144 : Shape := ⟨2, ![4096, 6144]⟩
abbrev S32x128x8x128 : Shape := ⟨4, ![32, 128, 8, 128]⟩
abbrev S32x128x8x256 : Shape := ⟨4, ![32, 128, 8, 256]⟩
abbrev S1x8 : Shape := ⟨2, ![1, 8]⟩
abbrev S128x8 : Shape := ⟨2, ![128, 8]⟩
abbrev S128x8x1 : Shape := ⟨3, ![128, 8, 1]⟩
abbrev S1x128x8x1 : Shape := ⟨4, ![1, 128, 8, 1]⟩
abbrev S32x8x128x256 : Shape := ⟨4, ![32, 8, 128, 256]⟩
abbrev S0x8x128x256 : Shape := ⟨4, ![0, 8, 128, 256]⟩
abbrev S1x8x128x256 : Shape := ⟨4, ![1, 8, 128, 256]⟩
abbrev S16x8x128x256 : Shape := ⟨4, ![16, 8, 128, 256]⟩
abbrev S32x1024x256 : Shape := ⟨3, ![32, 1024, 256]⟩
abbrev S256x1024 : Shape := ⟨2, ![256, 1024]⟩
abbrev S256x2048 : Shape := ⟨2, ![256, 2048]⟩
abbrev S2x1024x256 : Shape := ⟨3, ![2, 1024, 256]⟩
abbrev S256x128 : Shape := ⟨2, ![256, 128]⟩
abbrev S256x4096 : Shape := ⟨2, ![256, 4096]⟩
abbrev S1024x256 : Shape := ⟨2, ![1024, 256]⟩
abbrev S128x256 : Shape := ⟨2, ![128, 256]⟩
abbrev S1x128x256 : Shape := ⟨3, ![1, 128, 256]⟩

abbrev nBuf : Space → Nat
  | .hbm => 330
  | .vmem => 20
  | .smem => 0
  | _ => 0

abbrev hbmTy0_0 (i : Nat) : BufTy := match i % 128 with
  | 0 => ⟨S4096x4096, .f32⟩
  | 1 => ⟨S4096x2048, .bf16⟩
  | 2 => ⟨S4096x10240, .bf16⟩
  | 3 => ⟨S64, .f32⟩
  | 4 => ⟨S64, .f32⟩
  | 5 => ⟨S_, .f32⟩
  | 6 => ⟨S64, .f32⟩
  | 7 => ⟨S64, .f32⟩
  | 8 => ⟨S_, .f32⟩
  | 9 => ⟨S64, .f32⟩
  | 10 => ⟨S64, .f32⟩
  | 11 => ⟨S4096, .f32⟩
  | 12 => ⟨S4096x1, .f32⟩
  | 13 => ⟨S1x64, .f32⟩
  | 14 => ⟨S4096x64, .f32⟩
  | 15 => ⟨S4096x64, .f32⟩
  | 16 => ⟨S4096x64, .f32⟩
  | 17 => ⟨S4096x64, .f32⟩
  | 18 => ⟨S4096x64, .f32⟩
  | 19 => ⟨S4096x128, .f32⟩
  | 20 => ⟨S4096x64, .f32⟩
  | 21 => ⟨S4096x128, .f32⟩
  | 22 => ⟨S8, .f32⟩
  | 23 => ⟨S_, .f32⟩
  | 24 => ⟨S8, .f32⟩
  | 25 => ⟨S8, .f32⟩
  | 26 => ⟨S_, .f32⟩
  | 27 => ⟨S8, .f32⟩
  | 28 => ⟨S8, .f32⟩
  | 29 => ⟨S_, .f32⟩
  | 30 => ⟨S8, .f32⟩
  | 31 => ⟨S8, .f32⟩
  | 32 => ⟨S8, .f32⟩
  | 33 => ⟨S128, .f32⟩
  | 34 => ⟨S128x1, .f32⟩
  | 35 => ⟨S1x128, .f32⟩
  | 36 => ⟨S128x128, .f32⟩
  | 37 => ⟨S128x128, .f32⟩
  | 38 => ⟨S128x128, .f32⟩
  | 39 => ⟨S1x128x128, .f32⟩
  | 40 => ⟨S_, .f32⟩
  | 41 => ⟨S1x128x128, .f32⟩
  | 42 => ⟨S1x128x128, .i1⟩
  | 43 => ⟨S_, .f32⟩
  | 44 => ⟨S128x128, .f32⟩
  | 45 => ⟨S128x128, .f32⟩
  | 46 => ⟨S1x128x128, .f32⟩
  | 47 => ⟨S8x1x1, .f32⟩
  | 48 => ⟨S8x128x128, .f32⟩
  | 49 => ⟨S8x128x128, .f32⟩
  | 50 => ⟨S8x128x128, .f32⟩
  | 51 => ⟨S8x128x128, .f32⟩
  | 52 => ⟨S_, .f32⟩
  | 53 => ⟨S_, .f32⟩
  | 54 => ⟨S8x128x128, .i1⟩
  | 55 => ⟨S8x128x128, .f32⟩
  | 56 => ⟨S8x128x128, .f32⟩
  | 57 => ⟨S1x128, .f32⟩
  | 58 => ⟨S_, .f32⟩
  | 59 => ⟨S1x128, .f32⟩
  | 60 => ⟨S1x128, .f32⟩
  | 61 => ⟨S8x1, .f32⟩
  | 62 => ⟨S8x128, .f32⟩
  | 63 => ⟨S8x128, .f32⟩
  | 64 => ⟨S8x128, .f32⟩
  | 65 => ⟨S8x128, .f32⟩
  | 66 => ⟨S_, .f32⟩
  | 67 => ⟨S128, .f32⟩
  | 68 => ⟨S128, .f32⟩
  | 69 => ⟨S1x128, .f32⟩
  | 70 => ⟨S8x1, .f32⟩
  | 71 => ⟨S8x128, .f32⟩
  | 72 => ⟨S8x128, .f32⟩
  | 73 => ⟨S8x128, .f32⟩
  | 74 => ⟨S8x128, .f32⟩
  | 75 => ⟨S8x128x1, .f32⟩
  | 76 => ⟨S8x128x256, .f32⟩
  | 77 => ⟨S8x128x1, .f32⟩
  | 78 => ⟨S8x128x128, .f32⟩
  | 79 => ⟨S4096x1024, .f32⟩
  | 80 => ⟨S4096x1024, .f32⟩
  | 81 => ⟨S4096x2048, .f32⟩
  | 82 => ⟨S4096x64, .f32⟩
  | 83 => ⟨S4096x1x64, .f32⟩
  | 84 => ⟨S4096x64, .f32⟩
  | 85 => ⟨S4096x1x64, .f32⟩
  | 86 => ⟨S4096x8x128, .f32⟩
  | 87 => ⟨S4096x8x64, .f32⟩
  | 88 => ⟨S4096x8x64, .f32⟩
  | 89 => ⟨S4096x8x64, .f32⟩
  | 90 => ⟨S4096x8x64, .f32⟩
  | 91 => ⟨S4096x8x64, .f32⟩
  | 92 => ⟨S4096x8x64, .f32⟩
  | 93 => ⟨S4096x8x64, .f32⟩
  | 94 => ⟨S4096x8x64, .f32⟩
  | 95 => ⟨S4096x8x64, .f32⟩
  | 96 => ⟨S4096x8x64, .f32⟩
  | 97 => ⟨S4096x8x64, .f32⟩
  | 98 => ⟨S4096x8x64, .f32⟩
  | 99 => ⟨S4096x8x128, .f32⟩
  | 100 => ⟨S_, .f32⟩
  | 101 => ⟨S4096x8x128, .f32⟩
  | 102 => ⟨S4096x8x128, .f32⟩
  | 103 => ⟨S4096x8x128, .f32⟩
  | 104 => ⟨S4096x8x64, .f32⟩
  | 105 => ⟨S4096x8x64, .f32⟩
  | 106 => ⟨S4096x8x64, .f32⟩
  | 107 => ⟨S4096x8x64, .f32⟩
  | 108 => ⟨S4096x8x64, .f32⟩
  | 109 => ⟨S4096x8x64, .f32⟩
  | 110 => ⟨S4096x8x64, .f32⟩
  | 111 => ⟨S4096x8x64, .f32⟩
  | 112 => ⟨S4096x8x64, .f32⟩
  | 113 => ⟨S4096x8x64, .f32⟩
  | 114 => ⟨S4096x8x64, .f32⟩
  | 115 => ⟨S4096x8x64, .f32⟩
  | 116 => ⟨S4096x8x128, .f32⟩
  | 117 => ⟨S4096x1024, .f32⟩
  | 118 => ⟨S4096x1024, .f32⟩
  | 119 => ⟨S_, .f32⟩
  | 120 => ⟨S4096x6144, .f32⟩
  | 121 => ⟨S4096x10240, .f32⟩
  | 122 => ⟨S4096x10240, .bf16⟩
  | 123 => ⟨S32x128x8x128, .f32⟩
  | 124 => ⟨S32x128x8x256, .f32⟩
  | 125 => ⟨S8, .f32⟩
  | 126 => ⟨S_, .f32⟩
  | 127 => ⟨S8, .f32⟩
  | _ => ⟨S4096x4096, .f32⟩

abbrev hbmTy0_1 (i : Nat) : BufTy := match i % 128 with
  | 0 => ⟨S8, .f32⟩
  | 1 => ⟨S_, .f32⟩
  | 2 => ⟨S8, .f32⟩
  | 3 => ⟨S8, .f32⟩
  | 4 => ⟨S_, .f32⟩
  | 5 => ⟨S8, .f32⟩
  | 6 => ⟨S8, .f32⟩
  | 7 => ⟨S8, .f32⟩
  | 8 => ⟨S128, .f32⟩
  | 9 => ⟨S_, .f32⟩
  | 10 => ⟨S128, .f32⟩
  | 11 => ⟨S128, .f32⟩
  | 12 => ⟨S128x1, .f32⟩
  | 13 => ⟨S1x8, .f32⟩
  | 14 => ⟨S128x8, .f32⟩
  | 15 => ⟨S128x8, .f32⟩
  | 16 => ⟨S128x8, .f32⟩
  | 17 => ⟨S128x8, .f32⟩
  | 18 => ⟨S_, .f32⟩
  | 19 => ⟨S8, .f32⟩
  | 20 => ⟨S8, .f32⟩
  | 21 => ⟨S8, .f32⟩
  | 22 => ⟨S128x8x1, .f32⟩
  | 23 => ⟨S1x128x8x1, .f32⟩
  | 24 => ⟨S32x128x8x128, .f32⟩
  | 25 => ⟨S32x128x8x128, .f32⟩
  | 26 => ⟨S32x8x128x256, .f32⟩
  | 27 => ⟨S8x1x1, .f32⟩
  | 28 => ⟨S8x128x256, .f32⟩
  | 29 => ⟨S_, .f32⟩
  | 30 => ⟨S8x128x256, .f32⟩
  | 31 => ⟨S0x8x128x256, .f32⟩
  | 32 => ⟨S32x8x128x256, .f32⟩
  | 33 => ⟨S_, .f32⟩
  | 34 => ⟨S0x8x128x256, .f32⟩
  | 35 => ⟨S1x8x128x256, .f32⟩
  | 36 => ⟨S8x128x256, .f32⟩
  | 37 => ⟨S8x128x256, .f32⟩
  | 38 => ⟨S8x128x256, .f32⟩
  | 39 => ⟨S1x8x128x256, .f32⟩
  | 40 => ⟨S8x128x256, .f32⟩
  | 41 => ⟨S8x128x256, .f32⟩
  | 42 => ⟨S8x128x256, .f32⟩
  | 43 => ⟨S1x8x128x256, .f32⟩
  | 44 => ⟨S8x128x256, .f32⟩
  | 45 => ⟨S8x128x256, .f32⟩
  | 46 => ⟨S8x128x256, .f32⟩
  | 47 => ⟨S1x8x128x256, .f32⟩
  | 48 => ⟨S8x128x256, .f32⟩
  | 49 => ⟨S8x128x256, .f32⟩
  | 50 => ⟨S8x128x256, .f32⟩
  | 51 => ⟨S1x8x128x256, .f32⟩
  | 52 => ⟨S8x128x256, .f32⟩
  | 53 => ⟨S8x128x256, .f32⟩
  | 54 => ⟨S8x128x256, .f32⟩
  | 55 => ⟨S1x8x128x256, .f32⟩
  | 56 => ⟨S8x128x256, .f32⟩
  | 57 => ⟨S8x128x256, .f32⟩
  | 58 => ⟨S8x128x256, .f32⟩
  | 59 => ⟨S1x8x128x256, .f32⟩
  | 60 => ⟨S8x128x256, .f32⟩
  | 61 => ⟨S8x128x256, .f32⟩
  | 62 => ⟨S8x128x256, .f32⟩
  | 63 => ⟨S1x8x128x256, .f32⟩
  | 64 => ⟨S8x128x256, .f32⟩
  | 65 => ⟨S8x128x256, .f32⟩
  | 66 => ⟨S8x128x256, .f32⟩
  | 67 => ⟨S1x8x128x256, .f32⟩
  | 68 => ⟨S8x128x256, .f32⟩
  | 69 => ⟨S8x128x256, .f32⟩
  | 70 => ⟨S8x128x256, .f32⟩
  | 71 => ⟨S1x8x128x256, .f32⟩
  | 72 => ⟨S8x128x256, .f32⟩
  | 73 => ⟨S8x128x256, .f32⟩
  | 74 => ⟨S8x128x256, .f32⟩
  | 75 => ⟨S1x8x128x256, .f32⟩
  | 76 => ⟨S8x128x256, .f32⟩
  | 77 => ⟨S8x128x256, .f32⟩
  | 78 => ⟨S8x128x256, .f32⟩
  | 79 => ⟨S1x8x128x256, .f32⟩
  | 80 => ⟨S8x128x256, .f32⟩
  | 81 => ⟨S8x128x256, .f32⟩
  | 82 => ⟨S8x128x256, .f32⟩
  | 83 => ⟨S1x8x128x256, .f32⟩
  | 84 => ⟨S8x128x256, .f32⟩
  | 85 => ⟨S8x128x256, .f32⟩
  | 86 => ⟨S8x128x256, .f32⟩
  | 87 => ⟨S1x8x128x256, .f32⟩
  | 88 => ⟨S8x128x256, .f32⟩
  | 89 => ⟨S8x128x256, .f32⟩
  | 90 => ⟨S8x128x256, .f32⟩
  | 91 => ⟨S1x8x128x256, .f32⟩
  | 92 => ⟨S8x128x256, .f32⟩
  | 93 => ⟨S8x128x256, .f32⟩
  | 94 => ⟨S8x128x256, .f32⟩
  | 95 => ⟨S1x8x128x256, .f32⟩
  | 96 => ⟨S8x128x256, .f32⟩
  | 97 => ⟨S8x128x256, .f32⟩
  | 98 => ⟨S8x128x256, .f32⟩
  | 99 => ⟨S1x8x128x256, .f32⟩
  | 100 => ⟨S8x128x256, .f32⟩
  | 101 => ⟨S8x128x256, .f32⟩
  | 102 => ⟨S8x128x256, .f32⟩
  | 103 => ⟨S1x8x128x256, .f32⟩
  | 104 => ⟨S8x128x256, .f32⟩
  | 105 => ⟨S8x128x256, .f32⟩
  | 106 => ⟨S8x128x256, .f32⟩
  | 107 => ⟨S1x8x128x256, .f32⟩
  | 108 => ⟨S8x128x256, .f32⟩
  | 109 => ⟨S8x128x256, .f32⟩
  | 110 => ⟨S8x128x256, .f32⟩
  | 111 => ⟨S1x8x128x256, .f32⟩
  | 112 => ⟨S8x128x256, .f32⟩
  | 113 => ⟨S8x128x256, .f32⟩
  | 114 => ⟨S8x128x256, .f32⟩
  | 115 => ⟨S1x8x128x256, .f32⟩
  | 116 => ⟨S8x128x256, .f32⟩
  | 117 => ⟨S8x128x256, .f32⟩
  | 118 => ⟨S8x128x256, .f32⟩
  | 119 => ⟨S1x8x128x256, .f32⟩
  | 120 => ⟨S8x128x256, .f32⟩
  | 121 => ⟨S8x128x256, .f32⟩
  | 122 => ⟨S8x128x256, .f32⟩
  | 123 => ⟨S1x8x128x256, .f32⟩
  | 124 => ⟨S8x128x256, .f32⟩
  | 125 => ⟨S8x128x256, .f32⟩
  | 126 => ⟨S8x128x256, .f32⟩
  | 127 => ⟨S1x8x128x256, .f32⟩
  | _ => ⟨S4096x4096, .f32⟩

abbrev hbmTy0_2 (i : Nat) : BufTy := match i % 128 with
  | 0 => ⟨S8x128x256, .f32⟩
  | 1 => ⟨S8x128x256, .f32⟩
  | 2 => ⟨S8x128x256, .f32⟩
  | 3 => ⟨S1x8x128x256, .f32⟩
  | 4 => ⟨S8x128x256, .f32⟩
  | 5 => ⟨S8x128x256, .f32⟩
  | 6 => ⟨S8x128x256, .f32⟩
  | 7 => ⟨S1x8x128x256, .f32⟩
  | 8 => ⟨S8x128x256, .f32⟩
  | 9 => ⟨S8x128x256, .f32⟩
  | 10 => ⟨S8x128x256, .f32⟩
  | 11 => ⟨S1x8x128x256, .f32⟩
  | 12 => ⟨S8x128x256, .f32⟩
  | 13 => ⟨S8x128x256, .f32⟩
  | 14 => ⟨S8x128x256, .f32⟩
  | 15 => ⟨S1x8x128x256, .f32⟩
  | 16 => ⟨S8x128x256, .f32⟩
  | 17 => ⟨S8x128x256, .f32⟩
  | 18 => ⟨S8x128x256, .f32⟩
  | 19 => ⟨S1x8x128x256, .f32⟩
  | 20 => ⟨S8x128x256, .f32⟩
  | 21 => ⟨S8x128x256, .f32⟩
  | 22 => ⟨S8x128x256, .f32⟩
  | 23 => ⟨S1x8x128x256, .f32⟩
  | 24 => ⟨S8x128x256, .f32⟩
  | 25 => ⟨S8x128x256, .f32⟩
  | 26 => ⟨S8x128x256, .f32⟩
  | 27 => ⟨S1x8x128x256, .f32⟩
  | 28 => ⟨S8x128x256, .f32⟩
  | 29 => ⟨S8x128x256, .f32⟩
  | 30 => ⟨S8x128x256, .f32⟩
  | 31 => ⟨S1x8x128x256, .f32⟩
  | 32 => ⟨S8x128x256, .f32⟩
  | 33 => ⟨S8x128x256, .f32⟩
  | 34 => ⟨S8x128x256, .f32⟩
  | 35 => ⟨S1x8x128x256, .f32⟩
  | 36 => ⟨S1x8x128x256, .f32⟩
  | 37 => ⟨S1x8x128x256, .f32⟩
  | 38 => ⟨S1x8x128x256, .f32⟩
  | 39 => ⟨S1x8x128x256, .f32⟩
  | 40 => ⟨S1x8x128x256, .f32⟩
  | 41 => ⟨S1x8x128x256, .f32⟩
  | 42 => ⟨S1x8x128x256, .f32⟩
  | 43 => ⟨S1x8x128x256, .f32⟩
  | 44 => ⟨S1x8x128x256, .f32⟩
  | 45 => ⟨S1x8x128x256, .f32⟩
  | 46 => ⟨S1x8x128x256, .f32⟩
  | 47 => ⟨S1x8x128x256, .f32⟩
  | 48 => ⟨S1x8x128x256, .f32⟩
  | 49 => ⟨S1x8x128x256, .f32⟩
  | 50 => ⟨S1x8x128x256, .f32⟩
  | 51 => ⟨S1x8x128x256, .f32⟩
  | 52 => ⟨S1x8x128x256, .f32⟩
  | 53 => ⟨S1x8x128x256, .f32⟩
  | 54 => ⟨S1x8x128x256, .f32⟩
  | 55 => ⟨S1x8x128x256, .f32⟩
  | 56 => ⟨S1x8x128x256, .f32⟩
  | 57 => ⟨S1x8x128x256, .f32⟩
  | 58 => ⟨S1x8x128x256, .f32⟩
  | 59 => ⟨S1x8x128x256, .f32⟩
  | 60 => ⟨S1x8x128x256, .f32⟩
  | 61 => ⟨S1x8x128x256, .f32⟩
  | 62 => ⟨S1x8x128x256, .f32⟩
  | 63 => ⟨S1x8x128x256, .f32⟩
  | 64 => ⟨S1x8x128x256, .f32⟩
  | 65 => ⟨S1x8x128x256, .f32⟩
  | 66 => ⟨S1x8x128x256, .f32⟩
  | 67 => ⟨S16x8x128x256, .f32⟩
  | 68 => ⟨S16x8x128x256, .f32⟩
  | 69 => ⟨S32x8x128x256, .f32⟩
  | 70 => ⟨S32x8x128x256, .f32⟩
  | 71 => ⟨S32x1024x256, .f32⟩
  | 72 => ⟨S32x1024x256, .bf16⟩
  | 73 => ⟨S4096x10240, .bf16⟩
  | _ => ⟨S4096x4096, .f32⟩

abbrev hbmTy (i : Nat) : BufTy := match i / 128 with
  | 0 => hbmTy0_0 i
  | 1 => hbmTy0_1 i
  | 2 => hbmTy0_2 i
  | _ => ⟨S4096x4096, .f32⟩

abbrev bufTy : (tb : Table) → Fin (tcTables nBuf tb) → BufTy
  | .hbm, ⟨i, _⟩ => hbmTy i
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S2x1024x256, .bf16⟩
  | .local _ .vmem, ⟨9, _⟩ => ⟨S2x1024x256, .bf16⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S8x128x128, .f32⟩
  | .local _ .vmem, ⟨15, _⟩ => ⟨S8x128x256, .f32⟩
  | .local _ .vmem, ⟨16, _⟩ => ⟨S8x128x128, .f32⟩
  | .local _ .vmem, ⟨17, _⟩ => ⟨S256x4096, .bf16⟩
  | .local _ .vmem, ⟨18, _⟩ => ⟨S256x4096, .bf16⟩
  | .local _ .vmem, ⟨19, _⟩ => ⟨S1024x256, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_1 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_4 : Ref sig .tc := ⟨.hbm, 40, rfl⟩
abbrev main_v32 : Ref sig .tc := ⟨.hbm, 41, rfl⟩
abbrev main_v33 : Ref sig .tc := ⟨.hbm, 42, rfl⟩
abbrev main_cst_5 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst_6 : Ref sig .tc := ⟨.hbm, 52, rfl⟩
abbrev main_call0_v0 : Ref sig .tc := ⟨.hbm, 53, rfl⟩
abbrev main_call0_v1 : Ref sig .tc := ⟨.hbm, 54, rfl⟩
abbrev main_call0_v2 : Ref sig .tc := ⟨.hbm, 55, rfl⟩
abbrev main_v42 : Ref sig .tc := ⟨.hbm, 56, rfl⟩
abbrev main_v43 : Ref sig .tc := ⟨.hbm, 57, rfl⟩
abbrev main_cst_7 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_8 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_cst_9 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_cst_10 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_cst_11 : Ref sig .tc := ⟨.hbm, 126, rfl⟩
abbrev main_v108 : Ref sig .tc := ⟨.hbm, 127, rfl⟩
abbrev main_v109 : Ref sig .tc := ⟨.hbm, 128, rfl⟩
abbrev main_cst_12 : Ref sig .tc := ⟨.hbm, 129, rfl⟩
abbrev main_v110 : Ref sig .tc := ⟨.hbm, 130, rfl⟩
abbrev main_v111 : Ref sig .tc := ⟨.hbm, 131, rfl⟩
abbrev main_cst_13 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_cst_14 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_cst_15 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_cst_16 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_cst_17 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_v140 : Ref sig .tc := ⟨.hbm, 165, rfl⟩
abbrev main_v141 : Ref sig .tc := ⟨.hbm, 166, rfl⟩
abbrev main_v142 : Ref sig .tc := ⟨.hbm, 167, rfl⟩
abbrev main_v143 : Ref sig .tc := ⟨.hbm, 168, rfl⟩
abbrev main_v144 : Ref sig .tc := ⟨.hbm, 169, rfl⟩
abbrev main_v145 : Ref sig .tc := ⟨.hbm, 170, rfl⟩
abbrev main_v146 : Ref sig .tc := ⟨.hbm, 171, rfl⟩
abbrev main_v147 : Ref sig .tc := ⟨.hbm, 172, rfl⟩
abbrev main_v148 : Ref sig .tc := ⟨.hbm, 173, rfl⟩
abbrev main_v149 : Ref sig .tc := ⟨.hbm, 174, rfl⟩
abbrev main_v150 : Ref sig .tc := ⟨.hbm, 175, rfl⟩
abbrev main_v151 : Ref sig .tc := ⟨.hbm, 176, rfl⟩
abbrev main_v152 : Ref sig .tc := ⟨.hbm, 177, rfl⟩
abbrev main_v153 : Ref sig .tc := ⟨.hbm, 178, rfl⟩
abbrev main_v154 : Ref sig .tc := ⟨.hbm, 179, rfl⟩
abbrev main_v155 : Ref sig .tc := ⟨.hbm, 180, rfl⟩
abbrev main_v156 : Ref sig .tc := ⟨.hbm, 181, rfl⟩
abbrev main_v157 : Ref sig .tc := ⟨.hbm, 182, rfl⟩
abbrev main_v158 : Ref sig .tc := ⟨.hbm, 183, rfl⟩
abbrev main_v159 : Ref sig .tc := ⟨.hbm, 184, rfl⟩
abbrev main_v160 : Ref sig .tc := ⟨.hbm, 185, rfl⟩
abbrev main_v161 : Ref sig .tc := ⟨.hbm, 186, rfl⟩
abbrev main_v162 : Ref sig .tc := ⟨.hbm, 187, rfl⟩
abbrev main_v163 : Ref sig .tc := ⟨.hbm, 188, rfl⟩
abbrev main_v164 : Ref sig .tc := ⟨.hbm, 189, rfl⟩
abbrev main_v165 : Ref sig .tc := ⟨.hbm, 190, rfl⟩
abbrev main_v166 : Ref sig .tc := ⟨.hbm, 191, rfl⟩
abbrev main_v167 : Ref sig .tc := ⟨.hbm, 192, rfl⟩
abbrev main_v168 : Ref sig .tc := ⟨.hbm, 193, rfl⟩
abbrev main_v169 : Ref sig .tc := ⟨.hbm, 194, rfl⟩
abbrev main_v170 : Ref sig .tc := ⟨.hbm, 195, rfl⟩
abbrev main_v171 : Ref sig .tc := ⟨.hbm, 196, rfl⟩
abbrev main_v172 : Ref sig .tc := ⟨.hbm, 197, rfl⟩
abbrev main_v173 : Ref sig .tc := ⟨.hbm, 198, rfl⟩
abbrev main_v174 : Ref sig .tc := ⟨.hbm, 199, rfl⟩
abbrev main_v175 : Ref sig .tc := ⟨.hbm, 200, rfl⟩
abbrev main_v176 : Ref sig .tc := ⟨.hbm, 201, rfl⟩
abbrev main_v177 : Ref sig .tc := ⟨.hbm, 202, rfl⟩
abbrev main_v178 : Ref sig .tc := ⟨.hbm, 203, rfl⟩
abbrev main_v179 : Ref sig .tc := ⟨.hbm, 204, rfl⟩
abbrev main_v180 : Ref sig .tc := ⟨.hbm, 205, rfl⟩
abbrev main_v181 : Ref sig .tc := ⟨.hbm, 206, rfl⟩
abbrev main_v182 : Ref sig .tc := ⟨.hbm, 207, rfl⟩
abbrev main_v183 : Ref sig .tc := ⟨.hbm, 208, rfl⟩
abbrev main_v184 : Ref sig .tc := ⟨.hbm, 209, rfl⟩
abbrev main_v185 : Ref sig .tc := ⟨.hbm, 210, rfl⟩
abbrev main_v186 : Ref sig .tc := ⟨.hbm, 211, rfl⟩
abbrev main_v187 : Ref sig .tc := ⟨.hbm, 212, rfl⟩
abbrev main_v188 : Ref sig .tc := ⟨.hbm, 213, rfl⟩
abbrev main_v189 : Ref sig .tc := ⟨.hbm, 214, rfl⟩
abbrev main_v190 : Ref sig .tc := ⟨.hbm, 215, rfl⟩
abbrev main_v191 : Ref sig .tc := ⟨.hbm, 216, rfl⟩
abbrev main_v192 : Ref sig .tc := ⟨.hbm, 217, rfl⟩
abbrev main_v193 : Ref sig .tc := ⟨.hbm, 218, rfl⟩
abbrev main_v194 : Ref sig .tc := ⟨.hbm, 219, rfl⟩
abbrev main_v195 : Ref sig .tc := ⟨.hbm, 220, rfl⟩
abbrev main_v196 : Ref sig .tc := ⟨.hbm, 221, rfl⟩
abbrev main_v197 : Ref sig .tc := ⟨.hbm, 222, rfl⟩
abbrev main_v198 : Ref sig .tc := ⟨.hbm, 223, rfl⟩
abbrev main_v199 : Ref sig .tc := ⟨.hbm, 224, rfl⟩
abbrev main_v200 : Ref sig .tc := ⟨.hbm, 225, rfl⟩
abbrev main_v201 : Ref sig .tc := ⟨.hbm, 226, rfl⟩
abbrev main_v202 : Ref sig .tc := ⟨.hbm, 227, rfl⟩
abbrev main_v203 : Ref sig .tc := ⟨.hbm, 228, rfl⟩
abbrev main_v204 : Ref sig .tc := ⟨.hbm, 229, rfl⟩
abbrev main_v205 : Ref sig .tc := ⟨.hbm, 230, rfl⟩
abbrev main_v206 : Ref sig .tc := ⟨.hbm, 231, rfl⟩
abbrev main_v207 : Ref sig .tc := ⟨.hbm, 232, rfl⟩
abbrev main_v208 : Ref sig .tc := ⟨.hbm, 233, rfl⟩
abbrev main_v209 : Ref sig .tc := ⟨.hbm, 234, rfl⟩
abbrev main_v210 : Ref sig .tc := ⟨.hbm, 235, rfl⟩
abbrev main_v211 : Ref sig .tc := ⟨.hbm, 236, rfl⟩
abbrev main_v212 : Ref sig .tc := ⟨.hbm, 237, rfl⟩
abbrev main_v213 : Ref sig .tc := ⟨.hbm, 238, rfl⟩
abbrev main_v214 : Ref sig .tc := ⟨.hbm, 239, rfl⟩
abbrev main_v215 : Ref sig .tc := ⟨.hbm, 240, rfl⟩
abbrev main_v216 : Ref sig .tc := ⟨.hbm, 241, rfl⟩
abbrev main_v217 : Ref sig .tc := ⟨.hbm, 242, rfl⟩
abbrev main_v218 : Ref sig .tc := ⟨.hbm, 243, rfl⟩
abbrev main_v219 : Ref sig .tc := ⟨.hbm, 244, rfl⟩
abbrev main_v220 : Ref sig .tc := ⟨.hbm, 245, rfl⟩
abbrev main_v221 : Ref sig .tc := ⟨.hbm, 246, rfl⟩
abbrev main_v222 : Ref sig .tc := ⟨.hbm, 247, rfl⟩
abbrev main_v223 : Ref sig .tc := ⟨.hbm, 248, rfl⟩
abbrev main_v224 : Ref sig .tc := ⟨.hbm, 249, rfl⟩
abbrev main_v225 : Ref sig .tc := ⟨.hbm, 250, rfl⟩
abbrev main_v226 : Ref sig .tc := ⟨.hbm, 251, rfl⟩
abbrev main_v227 : Ref sig .tc := ⟨.hbm, 252, rfl⟩
abbrev main_v228 : Ref sig .tc := ⟨.hbm, 253, rfl⟩
abbrev main_v229 : Ref sig .tc := ⟨.hbm, 254, rfl⟩
abbrev main_v230 : Ref sig .tc := ⟨.hbm, 255, rfl⟩
abbrev main_v231 : Ref sig .tc := ⟨.hbm, 256, rfl⟩
abbrev main_v232 : Ref sig .tc := ⟨.hbm, 257, rfl⟩
abbrev main_v233 : Ref sig .tc := ⟨.hbm, 258, rfl⟩
abbrev main_v234 : Ref sig .tc := ⟨.hbm, 259, rfl⟩
abbrev main_v235 : Ref sig .tc := ⟨.hbm, 260, rfl⟩
abbrev main_v236 : Ref sig .tc := ⟨.hbm, 261, rfl⟩
abbrev main_v237 : Ref sig .tc := ⟨.hbm, 262, rfl⟩
abbrev main_v238 : Ref sig .tc := ⟨.hbm, 263, rfl⟩
abbrev main_v239 : Ref sig .tc := ⟨.hbm, 264, rfl⟩
abbrev main_v240 : Ref sig .tc := ⟨.hbm, 265, rfl⟩
abbrev main_v241 : Ref sig .tc := ⟨.hbm, 266, rfl⟩
abbrev main_v242 : Ref sig .tc := ⟨.hbm, 267, rfl⟩
abbrev main_v243 : Ref sig .tc := ⟨.hbm, 268, rfl⟩
abbrev main_v244 : Ref sig .tc := ⟨.hbm, 269, rfl⟩
abbrev main_v245 : Ref sig .tc := ⟨.hbm, 270, rfl⟩
abbrev main_v246 : Ref sig .tc := ⟨.hbm, 271, rfl⟩
abbrev main_v247 : Ref sig .tc := ⟨.hbm, 272, rfl⟩
abbrev main_v248 : Ref sig .tc := ⟨.hbm, 273, rfl⟩
abbrev main_v249 : Ref sig .tc := ⟨.hbm, 274, rfl⟩
abbrev main_v250 : Ref sig .tc := ⟨.hbm, 275, rfl⟩
abbrev main_v251 : Ref sig .tc := ⟨.hbm, 276, rfl⟩
abbrev main_v252 : Ref sig .tc := ⟨.hbm, 277, rfl⟩
abbrev main_v253 : Ref sig .tc := ⟨.hbm, 278, rfl⟩
abbrev main_v254 : Ref sig .tc := ⟨.hbm, 279, rfl⟩
abbrev main_v255 : Ref sig .tc := ⟨.hbm, 280, rfl⟩
abbrev main_v256 : Ref sig .tc := ⟨.hbm, 281, rfl⟩
abbrev main_v257 : Ref sig .tc := ⟨.hbm, 282, rfl⟩
abbrev main_v258 : Ref sig .tc := ⟨.hbm, 283, rfl⟩
abbrev main_v259 : Ref sig .tc := ⟨.hbm, 284, rfl⟩
abbrev main_v260 : Ref sig .tc := ⟨.hbm, 285, rfl⟩
abbrev main_v261 : Ref sig .tc := ⟨.hbm, 286, rfl⟩
abbrev main_v262 : Ref sig .tc := ⟨.hbm, 287, rfl⟩
abbrev main_v263 : Ref sig .tc := ⟨.hbm, 288, rfl⟩
abbrev main_v264 : Ref sig .tc := ⟨.hbm, 289, rfl⟩
abbrev main_v265 : Ref sig .tc := ⟨.hbm, 290, rfl⟩
abbrev main_v266 : Ref sig .tc := ⟨.hbm, 291, rfl⟩
abbrev main_v267 : Ref sig .tc := ⟨.hbm, 292, rfl⟩
abbrev main_v268 : Ref sig .tc := ⟨.hbm, 293, rfl⟩
abbrev main_v269 : Ref sig .tc := ⟨.hbm, 294, rfl⟩
abbrev main_v270 : Ref sig .tc := ⟨.hbm, 295, rfl⟩
abbrev main_v271 : Ref sig .tc := ⟨.hbm, 296, rfl⟩
abbrev main_v272 : Ref sig .tc := ⟨.hbm, 297, rfl⟩
abbrev main_v273 : Ref sig .tc := ⟨.hbm, 298, rfl⟩
abbrev main_v274 : Ref sig .tc := ⟨.hbm, 299, rfl⟩
abbrev main_v275 : Ref sig .tc := ⟨.hbm, 300, rfl⟩
abbrev main_v276 : Ref sig .tc := ⟨.hbm, 301, rfl⟩
abbrev main_v277 : Ref sig .tc := ⟨.hbm, 302, rfl⟩
abbrev main_v278 : Ref sig .tc := ⟨.hbm, 303, rfl⟩
abbrev main_v279 : Ref sig .tc := ⟨.hbm, 304, rfl⟩
abbrev main_v280 : Ref sig .tc := ⟨.hbm, 305, rfl⟩
abbrev main_v281 : Ref sig .tc := ⟨.hbm, 306, rfl⟩
abbrev main_v282 : Ref sig .tc := ⟨.hbm, 307, rfl⟩
abbrev main_v283 : Ref sig .tc := ⟨.hbm, 308, rfl⟩
abbrev main_v284 : Ref sig .tc := ⟨.hbm, 309, rfl⟩
abbrev main_v285 : Ref sig .tc := ⟨.hbm, 310, rfl⟩
abbrev main_v286 : Ref sig .tc := ⟨.hbm, 311, rfl⟩
abbrev main_v287 : Ref sig .tc := ⟨.hbm, 312, rfl⟩
abbrev main_v288 : Ref sig .tc := ⟨.hbm, 313, rfl⟩
abbrev main_v289 : Ref sig .tc := ⟨.hbm, 314, rfl⟩
abbrev main_v290 : Ref sig .tc := ⟨.hbm, 315, rfl⟩
abbrev main_v291 : Ref sig .tc := ⟨.hbm, 316, rfl⟩
abbrev main_v292 : Ref sig .tc := ⟨.hbm, 317, rfl⟩
abbrev main_v293 : Ref sig .tc := ⟨.hbm, 318, rfl⟩
abbrev main_v294 : Ref sig .tc := ⟨.hbm, 319, rfl⟩
abbrev main_v295 : Ref sig .tc := ⟨.hbm, 320, rfl⟩
abbrev main_v296 : Ref sig .tc := ⟨.hbm, 321, rfl⟩
abbrev main_v297 : Ref sig .tc := ⟨.hbm, 322, rfl⟩
abbrev main_v298 : Ref sig .tc := ⟨.hbm, 323, rfl⟩
abbrev main_v299 : Ref sig .tc := ⟨.hbm, 324, rfl⟩
abbrev main_v300 : Ref sig .tc := ⟨.hbm, 325, rfl⟩
abbrev main_v301 : Ref sig .tc := ⟨.hbm, 326, rfl⟩
abbrev main_v302 : Ref sig .tc := ⟨.hbm, 327, rfl⟩
abbrev main_v303 : Ref sig .tc := ⟨.hbm, 328, rfl⟩
abbrev main_v304 : Ref sig .tc := ⟨.hbm, 329, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c1_i32 : BitVec 32 := 1#32
  let c0_i32 : BitVec 32 := 0#32
  ![v0.toNat, c1_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c1_i32 : BitVec 32 := 1#32
  let c0_i32 : BitVec 32 := 0#32
  ![v0.toNat, c1_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_4 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![v0.toNat, c0_i32.toNat, c0_i32_0.toNat]

def cc0_transform_5 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== KernelIdeal.lean ====
variable {F : FTy → Type} [FloatOps F] [Named F]
def κ : String → Option EReal := fun
  | "decay0" => some ((78396524673059168935135267129777069613296345595630703725521524943634535507969383755197623356051954795321353669855221370862828507625207993636119503453243704432660074542086103959358842624471041 / 4562440617622195218641171605700291324893228507248559930579192517899275167208677386505912811317371399778642309573594407310688704721375437998252661319722214188251994674360264950082874192246603776 : ℝ) : EReal)
  | "decay1" => some ((206818950539439974611426494768646509052450548467862700447621795740222426769977288960977743464810862855020740953892191788741654107464722037227942902092362014238569158361477328071348684792194146041516068394618902177421160615463608321 / 1552518092300708935148979488462502555256886017116696611139052038026050952686376886330878408828646477950487730697131073206171580044114814391444287275041181139204454976020849905550265285631598444825262999193716468750892846853816057856 : ℝ) : EReal)
  | "decay2" => some ((193587041323456767073378744577144446238302802122755626265377701497888780029664683420821685794909561110112747584183810952248255320179325448240268888426074358932225073573129703527667374571068332710586954198407984961320402885440313498999562662298934347135846335745400750081 / 528294531135665246352339784916516606518847326036121522127960709026673902556724859474417255887657187894674394993257128678882347559502685537250538978462939576908386683999005084168731517676426441053024232908211188404148028292751561738838396898767036476489538580897737998336 : ℝ) : EReal)
  | "decay3" => some ((108928894366787909538482854136354399894027807047938726384754988597771177118744824750036685260233948099017113922415252234011703451806056104642801051378500851854629730635169211674367174308372494347446246524392175556695189741637351359098122801357656299133935250096489309214187191088285544537939131259918212890625 / 179769313486231590772930519078902473361797697894230657273430081157732675805500963132708477322407536021120113879871393357658789768814416622492847430639474124377767893424865485276302219601246094119453082952085005768838150682342462881473913110540827237163350510684586298239947245938479716304835356329624224137216 : ℝ) : EReal)
  | "decay4" => some ((47629411692907116618449907612943127113503058551675946475726046321068673767448309433604978842042244727950808621043443846226460652335771338586632158945163132521668959777554552621550652820578661694876446670852176498616800683992861587538664151446101098738528916217395117383283261069385353239390029990732456890130741979784965471495112669402908501934081 / 61172327492847069472032393719205726809135813743440799050195397570919697796091958321786863938157971792315844506873509046544459008355036150650333616890210625686064472971480622053109783197015954399612052812141827922088117778074833698589048132156300022844899841969874763871624802603515651998113045708569927237462546233168834543264678118409417047146496 : ℝ) : EReal)
  | "decay5" => some ((18368813940068701121309471031748546166409385177907889681567909204907843101356355113621789948457578423950951357861201635378353901841502083551214518705094576000801881609357528370927695345999771540811130220701806311437704123410191713207648461265752321556704891384575009631286846774765075276410443802620990291581417820693201927792904733968311586634391883874777008525219926635061949132308481 / 20815864389328798163850480654728171077230524494533409610638224700807216119346720596024478883464648369684843227908562015582767132496646929816279813211354641525848259018778440691546366699323167100945918841095379622423387354295096957733925002768876520583464697770622321657076833170056511209332449663781837603694136444406281042053396870977465916057756101739472373801429441421111406337458176 : ℝ) : EReal)
  | "decay6" => some ((6654016306095794578375805711706083627451106248621586707412028597044408595312882379735073979112908018757447922758800571158845448981108241366532934936903543922134307313033151462922936471521739184867036790102713388902849653985362444399390130211558444266640229528797001241261265790623485036884367437026101609929603420057467875778203261521955819753306746817495538758501232080385332001279585751237624806311955763606715255754588161 / 7083271603906078757501937199839970337237042072752024044272935252133021449487672037753077279976540494138725768234495819230178699615482523444525217326451885295083794903354995236859949814158861106339793498427520403285563504697437506153794873484561573759163876734171825622767620957924878367969185009358384129424236514293956457858505582263102570156257796764049361854053114869322098725721757629614488965634874516982012228724064256 : ℝ) : EReal)
  | "decay7" => some ((2336145996485715011108153785615776499858733148743538919007787240374300769161677364451330588546379393934710767297948693750212977182432144756693222913694201351415707587213845469885411951467421009026364398236912296974770937803354917816344076178184271938993357862007940537484988845481851311787727821040804576004627517636545830787600741566109129512685857776895668995836668969820089659981854127844078976793816477847952302188670216376298327531912946142256259918212890625 / 2410312426921032588580116606028314112912093247945688951359675039065257391591803200669085024107346049663448766280888004787862416978794958324969612987890774651455213339381625224770782077917681499676845543137387820057597345857904599109461387122099507964997815641342300677629473355281617428411794163967785870370368969109221591943054232011562758450080579587850900993714892283476646631181515063804873375182260506246992837898705971012525843324401232986857004760339316736 : ℝ) : EReal)
  | _ => none
-- ==== ReferenceIdeal.lean ====
abbrev S4096x4096 : Shape := ⟨2, ![4096, 4096]⟩
abbrev S4096x2048 : Shape := ⟨2, ![4096, 2048]⟩
abbrev S4096x10240 : Shape := ⟨2, ![4096, 10240]⟩
abbrev S64 : Shape := ⟨1, ![64]⟩
abbrev S_ : Shape := ⟨0, ![]⟩
abbrev S4096 : Shape := ⟨1, ![4096]⟩
abbrev S4096x1 : Shape := ⟨2, ![4096, 1]⟩
abbrev S1x64 : Shape := ⟨2, ![1, 64]⟩
abbrev S4096x64 : Shape := ⟨2, ![4096, 64]⟩
abbrev S4096x1x64 : Shape := ⟨3, ![4096, 1, 64]⟩
abbrev S1x4096x4096 : Shape := ⟨3, ![1, 4096, 4096]⟩
abbrev S1x4096x1024 : Shape := ⟨3, ![1, 4096, 1024]⟩
abbrev S1x4096x2048 : Shape := ⟨3, ![1, 4096, 2048]⟩
abbrev S1x4096x8x128 : Shape := ⟨4, ![1, 4096, 8, 128]⟩
abbrev S1x4096x8x64 : Shape := ⟨4, ![1, 4096, 8, 64]⟩
abbrev S1x4096x1x64 : Shape := ⟨4, ![1, 4096, 1, 64]⟩
abbrev S1x4096x8x256 : Shape := ⟨4, ![1, 4096, 8, 256]⟩
abbrev S8 : Shape := ⟨1, ![8]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S8x1x1 : Shape := ⟨3, ![8, 1, 1]⟩
abbrev S8x128x128 : Shape := ⟨3, ![8, 128, 128]⟩
abbrev S1x32x128x8x128 : Shape := ⟨5, ![1, 32, 128, 8, 128]⟩
abbrev S1x32x128x8x256 : Shape := ⟨5, ![1, 32, 128, 8, 256]⟩
abbrev S1x32x8x128x128 : Shape := ⟨5, ![1, 32, 8, 128, 128]⟩
abbrev S1x1x8x128x128 : Shape := ⟨5, ![1, 1, 8, 128, 128]⟩
abbrev S1x32x8x256x128 : Shape := ⟨5, ![1, 32, 8, 256, 128]⟩
abbrev S1x8 : Shape := ⟨2, ![1, 8]⟩
abbrev S128x8 : Shape := ⟨2, ![128, 8]⟩
abbrev S1x8x128x256 : Shape := ⟨4, ![1, 8, 128, 256]⟩
abbrev S32x1x128x8x128 : Shape := ⟨5, ![32, 1, 128, 8, 128]⟩
abbrev S32x1x128x8x256 : Shape := ⟨5, ![32, 1, 128, 8, 256]⟩
abbrev S1x128x8x1 : Shape := ⟨4, ![1, 128, 8, 1]⟩
abbrev S1x8x1x1 : Shape := ⟨4, ![1, 8, 1, 1]⟩
abbrev S32x1x8x128x256 : Shape := ⟨5, ![32, 1, 8, 128, 256]⟩
abbrev S1x1x128x8x128 : Shape := ⟨5, ![1, 1, 128, 8, 128]⟩
abbrev S1x128x8x128 : Shape := ⟨4, ![1, 128, 8, 128]⟩
abbrev S1x1x128x8x256 : Shape := ⟨5, ![1, 1, 128, 8, 256]⟩
abbrev S1x128x8x256 : Shape := ⟨4, ![1, 128, 8, 256]⟩
abbrev S1x8x256x128 : Shape := ⟨4, ![1, 8, 256, 128]⟩
abbrev S1x1x8x128x256 : Shape := ⟨5, ![1, 1, 8, 128, 256]⟩
abbrev S1x8x128x128 : Shape := ⟨4, ![1, 8, 128, 128]⟩
abbrev S4096x6144 : Shape := ⟨2, ![4096, 6144]⟩

abbrev nBuf : Space → Nat
  | .hbm => 377
  | .vmem => 0
  | .smem => 0
  | _ => 0

abbrev hbmTy0_0 (i : Nat) : BufTy := match i % 128 with
  | 0 => ⟨S4096x4096, .f32⟩
  | 1 => ⟨S4096x2048, .bf16⟩
  | 2 => ⟨S4096x10240, .bf16⟩
  | 3 => ⟨S64, .f32⟩
  | 4 => ⟨S64, .f32⟩
  | 5 => ⟨S_, .f32⟩
  | 6 => ⟨S64, .f32⟩
  | 7 => ⟨S64, .f32⟩
  | 8 => ⟨S_, .f32⟩
  | 9 => ⟨S64, .f32⟩
  | 10 => ⟨S64, .f32⟩
  | 11 => ⟨S4096, .f32⟩
  | 12 => ⟨S4096x1, .f32⟩
  | 13 => ⟨S1x64, .f32⟩
  | 14 => ⟨S4096x64, .f32⟩
  | 15 => ⟨S4096x64, .f32⟩
  | 16 => ⟨S4096x64, .f32⟩
  | 17 => ⟨S4096x64, .f32⟩
  | 18 => ⟨S4096x1x64, .f32⟩
  | 19 => ⟨S4096x64, .f32⟩
  | 20 => ⟨S4096x1x64, .f32⟩
  | 21 => ⟨S1x4096x4096, .f32⟩
  | 22 => ⟨S1x4096x1024, .f32⟩
  | 23 => ⟨S1x4096x1024, .f32⟩
  | 24 => ⟨S1x4096x2048, .f32⟩
  | 25 => ⟨S1x4096x8x128, .f32⟩
  | 26 => ⟨S1x4096x8x64, .f32⟩
  | 27 => ⟨S1x4096x8x64, .f32⟩
  | 28 => ⟨S1x4096x1x64, .f32⟩
  | 29 => ⟨S1x4096x8x64, .f32⟩
  | 30 => ⟨S1x4096x8x64, .f32⟩
  | 31 => ⟨S1x4096x1x64, .f32⟩
  | 32 => ⟨S1x4096x8x64, .f32⟩
  | 33 => ⟨S1x4096x8x64, .f32⟩
  | 34 => ⟨S1x4096x8x64, .f32⟩
  | 35 => ⟨S1x4096x1x64, .f32⟩
  | 36 => ⟨S1x4096x8x64, .f32⟩
  | 37 => ⟨S1x4096x8x64, .f32⟩
  | 38 => ⟨S1x4096x1x64, .f32⟩
  | 39 => ⟨S1x4096x8x64, .f32⟩
  | 40 => ⟨S1x4096x8x64, .f32⟩
  | 41 => ⟨S1x4096x8x64, .f32⟩
  | 42 => ⟨S1x4096x8x128, .f32⟩
  | 43 => ⟨S_, .f32⟩
  | 44 => ⟨S1x4096x8x128, .f32⟩
  | 45 => ⟨S1x4096x8x128, .f32⟩
  | 46 => ⟨S1x4096x8x128, .f32⟩
  | 47 => ⟨S1x4096x8x64, .f32⟩
  | 48 => ⟨S1x4096x8x64, .f32⟩
  | 49 => ⟨S1x4096x1x64, .f32⟩
  | 50 => ⟨S1x4096x8x64, .f32⟩
  | 51 => ⟨S1x4096x8x64, .f32⟩
  | 52 => ⟨S1x4096x1x64, .f32⟩
  | 53 => ⟨S1x4096x8x64, .f32⟩
  | 54 => ⟨S1x4096x8x64, .f32⟩
  | 55 => ⟨S1x4096x8x64, .f32⟩
  | 56 => ⟨S1x4096x1x64, .f32⟩
  | 57 => ⟨S1x4096x8x64, .f32⟩
  | 58 => ⟨S1x4096x8x64, .f32⟩
  | 59 => ⟨S1x4096x1x64, .f32⟩
  | 60 => ⟨S1x4096x8x64, .f32⟩
  | 61 => ⟨S1x4096x8x64, .f32⟩
  | 62 => ⟨S1x4096x8x64, .f32⟩
  | 63 => ⟨S1x4096x8x128, .f32⟩
  | 64 => ⟨S1x4096x8x256, .f32⟩
  | 65 => ⟨S8, .f32⟩
  | 66 => ⟨S_, .f32⟩
  | 67 => ⟨S8, .f32⟩
  | 68 => ⟨S8, .f32⟩
  | 69 => ⟨S_, .f32⟩
  | 70 => ⟨S8, .f32⟩
  | 71 => ⟨S8, .f32⟩
  | 72 => ⟨S_, .f32⟩
  | 73 => ⟨S8, .f32⟩
  | 74 => ⟨S8, .f32⟩
  | 75 => ⟨S8, .f32⟩
  | 76 => ⟨S128, .f32⟩
  | 77 => ⟨S128x1, .f32⟩
  | 78 => ⟨S1x128, .f32⟩
  | 79 => ⟨S128x128, .f32⟩
  | 80 => ⟨S128x128, .f32⟩
  | 81 => ⟨S128x128, .f32⟩
  | 82 => ⟨S1x128x128, .f32⟩
  | 83 => ⟨S_, .f32⟩
  | 84 => ⟨S1x128x128, .f32⟩
  | 85 => ⟨S1x128x128, .i1⟩
  | 86 => ⟨S_, .f32⟩
  | 87 => ⟨S128x128, .f32⟩
  | 88 => ⟨S128x128, .f32⟩
  | 89 => ⟨S1x128x128, .f32⟩
  | 90 => ⟨S8x1x1, .f32⟩
  | 91 => ⟨S8x128x128, .f32⟩
  | 92 => ⟨S8x128x128, .f32⟩
  | 93 => ⟨S8x128x128, .f32⟩
  | 94 => ⟨S8x128x128, .f32⟩
  | 95 => ⟨S_, .f32⟩
  | 96 => ⟨S_, .f32⟩
  | 97 => ⟨S8x128x128, .i1⟩
  | 98 => ⟨S8x128x128, .f32⟩
  | 99 => ⟨S8x128x128, .f32⟩
  | 100 => ⟨S1x32x128x8x128, .f32⟩
  | 101 => ⟨S1x32x128x8x128, .f32⟩
  | 102 => ⟨S1x32x128x8x256, .f32⟩
  | 103 => ⟨S1x32x8x128x128, .f32⟩
  | 104 => ⟨S1x1x8x128x128, .f32⟩
  | 105 => ⟨S1x32x8x128x128, .f32⟩
  | 106 => ⟨S1x32x8x128x128, .f32⟩
  | 107 => ⟨S1x32x8x256x128, .f32⟩
  | 108 => ⟨S1x32x128x8x256, .f32⟩
  | 109 => ⟨S128x1, .f32⟩
  | 110 => ⟨S_, .f32⟩
  | 111 => ⟨S128x1, .f32⟩
  | 112 => ⟨S128x1, .f32⟩
  | 113 => ⟨S1x8, .f32⟩
  | 114 => ⟨S128x8, .f32⟩
  | 115 => ⟨S128x8, .f32⟩
  | 116 => ⟨S128x8, .f32⟩
  | 117 => ⟨S128x8, .f32⟩
  | 118 => ⟨S_, .f32⟩
  | 119 => ⟨S128, .f32⟩
  | 120 => ⟨S128, .f32⟩
  | 121 => ⟨S128x1, .f32⟩
  | 122 => ⟨S1x8, .f32⟩
  | 123 => ⟨S128x8, .f32⟩
  | 124 => ⟨S128x8, .f32⟩
  | 125 => ⟨S128x8, .f32⟩
  | 126 => ⟨S128x8, .f32⟩
  | 127 => ⟨S_, .f32⟩
  | _ => ⟨S4096x4096, .f32⟩

abbrev hbmTy0_1 (i : Nat) : BufTy := match i % 128 with
  | 0 => ⟨S8, .f32⟩
  | 1 => ⟨S8, .f32⟩
  | 2 => ⟨S8, .f32⟩
  | 3 => ⟨S_, .f32⟩
  | 4 => ⟨S1x8x128x256, .f32⟩
  | 5 => ⟨S32x1x128x8x128, .f32⟩
  | 6 => ⟨S32x1x128x8x128, .f32⟩
  | 7 => ⟨S32x1x128x8x256, .f32⟩
  | 8 => ⟨S1x128x8x1, .f32⟩
  | 9 => ⟨S1x8x1x1, .f32⟩
  | 10 => ⟨S1x128x8x1, .f32⟩
  | 11 => ⟨S_, .f32⟩
  | 12 => ⟨S32x1x128x8x256, .f32⟩
  | 13 => ⟨S_, .f32⟩
  | 14 => ⟨S32x1x8x128x256, .f32⟩
  | 15 => ⟨S_, .f32⟩
  | 16 => ⟨S32x1x128x8x128, .f32⟩
  | 17 => ⟨S_, .i32⟩
  | 18 => ⟨S32x1x128x8x128, .f32⟩
  | 19 => ⟨S32x1x128x8x128, .f32⟩
  | 20 => ⟨S32x1x128x8x256, .f32⟩
  | 21 => ⟨S1x8x1x1, .f32⟩
  | 22 => ⟨S1x128x8x1, .f32⟩
  | 23 => ⟨S1x128x8x1, .f32⟩
  | 24 => ⟨S_, .i32⟩
  | 25 => ⟨S1x8x128x256, .f32⟩
  | 26 => ⟨S32x1x128x8x256, .f32⟩
  | 27 => ⟨S32x1x8x128x256, .f32⟩
  | 28 => ⟨S32x1x128x8x128, .f32⟩
  | 29 => ⟨S_, .i32⟩
  | 30 => ⟨S_, .i1⟩
  | 31 => ⟨S_, .i32⟩
  | 32 => ⟨S_, .i32⟩
  | 33 => ⟨S_, .i32⟩
  | 34 => ⟨S_, .i32⟩
  | 35 => ⟨S1x1x128x8x128, .f32⟩
  | 36 => ⟨S1x128x8x128, .f32⟩
  | 37 => ⟨S_, .i32⟩
  | 38 => ⟨S_, .i32⟩
  | 39 => ⟨S_, .i32⟩
  | 40 => ⟨S_, .i32⟩
  | 41 => ⟨S1x1x128x8x128, .f32⟩
  | 42 => ⟨S1x128x8x128, .f32⟩
  | 43 => ⟨S_, .i32⟩
  | 44 => ⟨S_, .i32⟩
  | 45 => ⟨S_, .i32⟩
  | 46 => ⟨S_, .i32⟩
  | 47 => ⟨S1x1x128x8x256, .f32⟩
  | 48 => ⟨S1x128x8x256, .f32⟩
  | 49 => ⟨S1x8x256x128, .f32⟩
  | 50 => ⟨S1x128x8x256, .f32⟩
  | 51 => ⟨S1x128x8x256, .f32⟩
  | 52 => ⟨S1x128x8x256, .f32⟩
  | 53 => ⟨S1x8x128x256, .f32⟩
  | 54 => ⟨S1x8x128x256, .f32⟩
  | 55 => ⟨S1x128x8x128, .f32⟩
  | 56 => ⟨S1x128x8x128, .f32⟩
  | 57 => ⟨S1x8x128x256, .f32⟩
  | 58 => ⟨S1x8x128x256, .f32⟩
  | 59 => ⟨S1x1x128x8x256, .f32⟩
  | 60 => ⟨S_, .i32⟩
  | 61 => ⟨S_, .i32⟩
  | 62 => ⟨S_, .i32⟩
  | 63 => ⟨S_, .i32⟩
  | 64 => ⟨S32x1x128x8x256, .f32⟩
  | 65 => ⟨S1x1x8x128x256, .f32⟩
  | 66 => ⟨S_, .i32⟩
  | 67 => ⟨S_, .i32⟩
  | 68 => ⟨S_, .i32⟩
  | 69 => ⟨S_, .i32⟩
  | 70 => ⟨S32x1x8x128x256, .f32⟩
  | 71 => ⟨S1x1x128x8x128, .f32⟩
  | 72 => ⟨S_, .i32⟩
  | 73 => ⟨S_, .i32⟩
  | 74 => ⟨S_, .i32⟩
  | 75 => ⟨S_, .i32⟩
  | 76 => ⟨S32x1x128x8x128, .f32⟩
  | 77 => ⟨S_, .i32⟩
  | 78 => ⟨S_, .i32⟩
  | 79 => ⟨S1x32x128x8x256, .f32⟩
  | 80 => ⟨S1x32x128x8x256, .f32⟩
  | 81 => ⟨S1x4096x8x256, .f32⟩
  | 82 => ⟨S4096x2048, .f32⟩
  | 83 => ⟨S1x4096x8x256, .f32⟩
  | 84 => ⟨S_, .f32⟩
  | 85 => ⟨S1x8x128x256, .f32⟩
  | 86 => ⟨S1x32x128x8x256, .f32⟩
  | 87 => ⟨S32x1x128x8x256, .f32⟩
  | 88 => ⟨S_, .f32⟩
  | 89 => ⟨S1x8x128x256, .f32⟩
  | 90 => ⟨S_, .f32⟩
  | 91 => ⟨S32x1x128x8x128, .f32⟩
  | 92 => ⟨S_, .f32⟩
  | 93 => ⟨S32x1x128x8x128, .f32⟩
  | 94 => ⟨S_, .f32⟩
  | 95 => ⟨S32x1x128x8x256, .f32⟩
  | 96 => ⟨S_, .i32⟩
  | 97 => ⟨S32x1x128x8x256, .f32⟩
  | 98 => ⟨S32x1x128x8x128, .f32⟩
  | 99 => ⟨S32x1x8x128x256, .f32⟩
  | 100 => ⟨S32x1x128x8x256, .f32⟩
  | 101 => ⟨S32x1x128x8x128, .f32⟩
  | 102 => ⟨S1x128x8x1, .f32⟩
  | 103 => ⟨S1x8x1x1, .f32⟩
  | 104 => ⟨S1x128x8x1, .f32⟩
  | 105 => ⟨S_, .i32⟩
  | 106 => ⟨S1x8x128x256, .f32⟩
  | 107 => ⟨S32x1x128x8x128, .f32⟩
  | 108 => ⟨S32x1x128x8x128, .f32⟩
  | 109 => ⟨S32x1x128x8x256, .f32⟩
  | 110 => ⟨S_, .i32⟩
  | 111 => ⟨S_, .i1⟩
  | 112 => ⟨S_, .i32⟩
  | 113 => ⟨S_, .i32⟩
  | 114 => ⟨S_, .i32⟩
  | 115 => ⟨S_, .i32⟩
  | 116 => ⟨S_, .i32⟩
  | 117 => ⟨S_, .i32⟩
  | 118 => ⟨S_, .i32⟩
  | 119 => ⟨S_, .i32⟩
  | 120 => ⟨S1x1x128x8x256, .f32⟩
  | 121 => ⟨S1x128x8x256, .f32⟩
  | 122 => ⟨S_, .i32⟩
  | 123 => ⟨S_, .i32⟩
  | 124 => ⟨S_, .i32⟩
  | 125 => ⟨S_, .i32⟩
  | 126 => ⟨S1x1x128x8x128, .f32⟩
  | 127 => ⟨S1x128x8x128, .f32⟩
  | _ => ⟨S4096x4096, .f32⟩

abbrev hbmTy0_2 (i : Nat) : BufTy := match i % 128 with
  | 0 => ⟨S_, .i32⟩
  | 1 => ⟨S_, .i32⟩
  | 2 => ⟨S_, .i32⟩
  | 3 => ⟨S_, .i32⟩
  | 4 => ⟨S1x1x8x128x256, .f32⟩
  | 5 => ⟨S1x8x128x256, .f32⟩
  | 6 => ⟨S_, .i32⟩
  | 7 => ⟨S_, .i32⟩
  | 8 => ⟨S_, .i32⟩
  | 9 => ⟨S_, .i32⟩
  | 10 => ⟨S1x1x128x8x256, .f32⟩
  | 11 => ⟨S1x128x8x256, .f32⟩
  | 12 => ⟨S_, .i32⟩
  | 13 => ⟨S_, .i32⟩
  | 14 => ⟨S_, .i32⟩
  | 15 => ⟨S_, .i32⟩
  | 16 => ⟨S1x1x128x8x128, .f32⟩
  | 17 => ⟨S1x128x8x128, .f32⟩
  | 18 => ⟨S1x8x256x128, .f32⟩
  | 19 => ⟨S1x128x8x256, .f32⟩
  | 20 => ⟨S1x8x128x128, .f32⟩
  | 21 => ⟨S1x128x8x128, .f32⟩
  | 22 => ⟨S1x128x8x128, .f32⟩
  | 23 => ⟨S1x128x8x128, .f32⟩
  | 24 => ⟨S1x8x128x256, .f32⟩
  | 25 => ⟨S1x8x128x256, .f32⟩
  | 26 => ⟨S1x128x8x256, .f32⟩
  | 27 => ⟨S1x128x8x256, .f32⟩
  | 28 => ⟨S1x8x256x128, .f32⟩
  | 29 => ⟨S1x8x128x128, .f32⟩
  | 30 => ⟨S1x128x8x128, .f32⟩
  | 31 => ⟨S1x8x256x128, .f32⟩
  | 32 => ⟨S1x8x128x256, .f32⟩
  | 33 => ⟨S1x8x128x256, .f32⟩
  | 34 => ⟨S1x1x128x8x128, .f32⟩
  | 35 => ⟨S_, .i32⟩
  | 36 => ⟨S_, .i32⟩
  | 37 => ⟨S_, .i32⟩
  | 38 => ⟨S_, .i32⟩
  | 39 => ⟨S32x1x128x8x128, .f32⟩
  | 40 => ⟨S1x1x128x8x128, .f32⟩
  | 41 => ⟨S_, .i32⟩
  | 42 => ⟨S_, .i32⟩
  | 43 => ⟨S_, .i32⟩
  | 44 => ⟨S_, .i32⟩
  | 45 => ⟨S32x1x128x8x128, .f32⟩
  | 46 => ⟨S1x1x128x8x256, .f32⟩
  | 47 => ⟨S_, .i32⟩
  | 48 => ⟨S_, .i32⟩
  | 49 => ⟨S_, .i32⟩
  | 50 => ⟨S_, .i32⟩
  | 51 => ⟨S32x1x128x8x256, .f32⟩
  | 52 => ⟨S_, .i32⟩
  | 53 => ⟨S_, .i32⟩
  | 54 => ⟨S1x32x128x8x256, .f32⟩
  | 55 => ⟨S1x32x128x8x128, .f32⟩
  | 56 => ⟨S1x32x128x8x128, .f32⟩
  | 57 => ⟨S1x32x8x256x128, .f32⟩
  | 58 => ⟨S1x32x8x128x128, .f32⟩
  | 59 => ⟨S1x32x8x256x128, .f32⟩
  | 60 => ⟨S1x32x128x8x256, .f32⟩
  | 61 => ⟨S1x32x128x8x256, .f32⟩
  | 62 => ⟨S1x32x8x128x128, .f32⟩
  | 63 => ⟨S1x32x8x128x128, .f32⟩
  | 64 => ⟨S1x32x8x128x128, .f32⟩
  | 65 => ⟨S1x32x128x8x128, .f32⟩
  | 66 => ⟨S1x32x128x8x128, .f32⟩
  | 67 => ⟨S1x32x8x128x128, .f32⟩
  | 68 => ⟨S1x32x128x8x128, .f32⟩
  | 69 => ⟨S1x32x128x8x128, .f32⟩
  | 70 => ⟨S1x4096x8x256, .f32⟩
  | 71 => ⟨S1x4096x8x128, .f32⟩
  | 72 => ⟨S1x4096x8x128, .f32⟩
  | 73 => ⟨S1x4096x2048, .f32⟩
  | 74 => ⟨S1x4096x8x64, .f32⟩
  | 75 => ⟨S1x4096x8x64, .f32⟩
  | 76 => ⟨S1x4096x8x64, .f32⟩
  | 77 => ⟨S1x4096x8x64, .f32⟩
  | 78 => ⟨S1x4096x8x64, .f32⟩
  | 79 => ⟨S1x4096x8x64, .f32⟩
  | 80 => ⟨S1x4096x8x64, .f32⟩
  | 81 => ⟨S1x4096x8x64, .f32⟩
  | 82 => ⟨S1x4096x8x64, .f32⟩
  | 83 => ⟨S1x4096x8x64, .f32⟩
  | 84 => ⟨S1x4096x8x64, .f32⟩
  | 85 => ⟨S1x4096x8x64, .f32⟩
  | 86 => ⟨S1x4096x8x64, .f32⟩
  | 87 => ⟨S_, .f32⟩
  | 88 => ⟨S1x4096x8x128, .f32⟩
  | 89 => ⟨S_, .f32⟩
  | 90 => ⟨S1x4096x8x128, .f32⟩
  | 91 => ⟨S1x4096x8x128, .f32⟩
  | 92 => ⟨S1x4096x1024, .f32⟩
  | 93 => ⟨S_, .f32⟩
  | 94 => ⟨S1x4096x8x128, .f32⟩
  | 95 => ⟨S1x4096x8x128, .f32⟩
  | 96 => ⟨S1x4096x8x64, .f32⟩
  | 97 => ⟨S1x4096x8x64, .f32⟩
  | 98 => ⟨S1x4096x8x64, .f32⟩
  | 99 => ⟨S1x4096x8x64, .f32⟩
  | 100 => ⟨S1x4096x8x64, .f32⟩
  | 101 => ⟨S1x4096x8x64, .f32⟩
  | 102 => ⟨S1x4096x8x64, .f32⟩
  | 103 => ⟨S1x4096x8x64, .f32⟩
  | 104 => ⟨S1x4096x8x64, .f32⟩
  | 105 => ⟨S1x4096x8x64, .f32⟩
  | 106 => ⟨S1x4096x8x64, .f32⟩
  | 107 => ⟨S1x4096x8x64, .f32⟩
  | 108 => ⟨S1x4096x8x64, .f32⟩
  | 109 => ⟨S_, .f32⟩
  | 110 => ⟨S1x4096x8x128, .f32⟩
  | 111 => ⟨S_, .f32⟩
  | 112 => ⟨S1x4096x8x128, .f32⟩
  | 113 => ⟨S1x4096x8x128, .f32⟩
  | 114 => ⟨S1x4096x1024, .f32⟩
  | 115 => ⟨S1x4096x4096, .f32⟩
  | 116 => ⟨S_, .f32⟩
  | 117 => ⟨S4096x4096, .f32⟩
  | 118 => ⟨S4096x4096, .bf16⟩
  | 119 => ⟨S4096x6144, .bf16⟩
  | 120 => ⟨S4096x10240, .bf16⟩
  | _ => ⟨S4096x4096, .f32⟩

abbrev hbmTy (i : Nat) : BufTy := match i / 128 with
  | 0 => hbmTy0_0 i
  | 1 => hbmTy0_1 i
  | 2 => hbmTy0_2 i
  | _ => ⟨S4096x4096, .f32⟩

abbrev bufTy : (tb : Table) → Fin (tcTables nBuf tb) → BufTy
  | .hbm, ⟨i, _⟩ => hbmTy i
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_cst_1 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_cst_2 : Ref sig .tc := ⟨.hbm, 66, rfl⟩
abbrev main_v60 : Ref sig .tc := ⟨.hbm, 67, rfl⟩
abbrev main_v61 : Ref sig .tc := ⟨.hbm, 68, rfl⟩
abbrev main_cst_3 : Ref sig .tc := ⟨.hbm, 69, rfl⟩
abbrev main_v62 : Ref sig .tc := ⟨.hbm, 70, rfl⟩
abbrev main_v63 : Ref sig .tc := ⟨.hbm, 71, rfl⟩
abbrev main_cst_4 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_cst_5 : Ref sig .tc := ⟨.hbm, 83, rfl⟩
abbrev main_v74 : Ref sig .tc := ⟨.hbm, 84, rfl⟩
abbrev main_v75 : Ref sig .tc := ⟨.hbm, 85, rfl⟩
abbrev main_cst_6 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_cst_7 : Ref sig .tc := ⟨.hbm, 95, rfl⟩
abbrev main_call0_v0 : Ref sig .tc := ⟨.hbm, 96, rfl⟩
abbrev main_call0_v1 : Ref sig .tc := ⟨.hbm, 97, rfl⟩
abbrev main_call0_v2 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_cst_8 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_cst_9 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_cst_10 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_cst_11 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_cst_12 : Ref sig .tc := ⟨.hbm, 139, rfl⟩
abbrev main_v120 : Ref sig .tc := ⟨.hbm, 140, rfl⟩
abbrev main_cst_13 : Ref sig .tc := ⟨.hbm, 141, rfl⟩
abbrev main_v121 : Ref sig .tc := ⟨.hbm, 142, rfl⟩
abbrev main_cst_14 : Ref sig .tc := ⟨.hbm, 143, rfl⟩
abbrev main_v122 : Ref sig .tc := ⟨.hbm, 144, rfl⟩
abbrev main_c : Ref sig .tc := ⟨.hbm, 145, rfl⟩
abbrev main_v123_0 : Ref sig .tc := ⟨.hbm, 146, rfl⟩
abbrev main_v123_1 : Ref sig .tc := ⟨.hbm, 147, rfl⟩
abbrev main_v123_2 : Ref sig .tc := ⟨.hbm, 148, rfl⟩
abbrev main_v123_3 : Ref sig .tc := ⟨.hbm, 149, rfl⟩
abbrev main_v123_4 : Ref sig .tc := ⟨.hbm, 150, rfl⟩
abbrev main_v123_5 : Ref sig .tc := ⟨.hbm, 151, rfl⟩
abbrev main_v123_6 : Ref sig .tc := ⟨.hbm, 152, rfl⟩
abbrev main_v123_7 : Ref sig .tc := ⟨.hbm, 153, rfl⟩
abbrev main_v123_8 : Ref sig .tc := ⟨.hbm, 154, rfl⟩
abbrev main_v123_9 : Ref sig .tc := ⟨.hbm, 155, rfl⟩
abbrev main_v123_10 : Ref sig .tc := ⟨.hbm, 156, rfl⟩
abbrev main_while0c_c_37 : Ref sig .tc := ⟨.hbm, 157, rfl⟩
abbrev main_while0c_v198 : Ref sig .tc := ⟨.hbm, 158, rfl⟩
abbrev main_while0b_call1_c : Ref sig .tc := ⟨.hbm, 159, rfl⟩
abbrev main_while0b_call1_c_0 : Ref sig .tc := ⟨.hbm, 160, rfl⟩
abbrev main_while0b_call1_c_1 : Ref sig .tc := ⟨.hbm, 161, rfl⟩
abbrev main_while0b_call1_c_2 : Ref sig .tc := ⟨.hbm, 162, rfl⟩
abbrev main_while0b_call1_v0 : Ref sig .tc := ⟨.hbm, 163, rfl⟩
abbrev main_while0b_v198 : Ref sig .tc := ⟨.hbm, 164, rfl⟩
abbrev main_while0b_call2_c : Ref sig .tc := ⟨.hbm, 165, rfl⟩
abbrev main_while0b_call2_c_0 : Ref sig .tc := ⟨.hbm, 166, rfl⟩
abbrev main_while0b_call2_c_1 : Ref sig .tc := ⟨.hbm, 167, rfl⟩
abbrev main_while0b_call2_c_2 : Ref sig .tc := ⟨.hbm, 168, rfl⟩
abbrev main_while0b_call2_v0 : Ref sig .tc := ⟨.hbm, 169, rfl⟩
abbrev main_while0b_v199 : Ref sig .tc := ⟨.hbm, 170, rfl⟩
abbrev main_while0b_call3_c : Ref sig .tc := ⟨.hbm, 171, rfl⟩
abbrev main_while0b_call3_c_0 : Ref sig .tc := ⟨.hbm, 172, rfl⟩
abbrev main_while0b_call3_c_1 : Ref sig .tc := ⟨.hbm, 173, rfl⟩
abbrev main_while0b_call3_c_2 : Ref sig .tc := ⟨.hbm, 174, rfl⟩
abbrev main_while0b_call3_v0 : Ref sig .tc := ⟨.hbm, 175, rfl⟩
abbrev main_while0b_v200 : Ref sig .tc := ⟨.hbm, 176, rfl⟩
abbrev main_while0b_v201 : Ref sig .tc := ⟨.hbm, 177, rfl⟩
abbrev main_while0b_v202 : Ref sig .tc := ⟨.hbm, 178, rfl⟩
abbrev main_while0b_v203 : Ref sig .tc := ⟨.hbm, 179, rfl⟩
abbrev main_while0b_v204 : Ref sig .tc := ⟨.hbm, 180, rfl⟩
abbrev main_while0b_v205 : Ref sig .tc := ⟨.hbm, 181, rfl⟩
abbrev main_while0b_v206 : Ref sig .tc := ⟨.hbm, 182, rfl⟩
abbrev main_while0b_v207 : Ref sig .tc := ⟨.hbm, 183, rfl⟩
abbrev main_while0b_v208 : Ref sig .tc := ⟨.hbm, 184, rfl⟩
abbrev main_while0b_v209 : Ref sig .tc := ⟨.hbm, 185, rfl⟩
abbrev main_while0b_v210 : Ref sig .tc := ⟨.hbm, 186, rfl⟩
abbrev main_while0b_call4_v0 : Ref sig .tc := ⟨.hbm, 187, rfl⟩
abbrev main_while0b_call4_c : Ref sig .tc := ⟨.hbm, 188, rfl⟩
abbrev main_while0b_call4_c_0 : Ref sig .tc := ⟨.hbm, 189, rfl⟩
abbrev main_while0b_call4_c_1 : Ref sig .tc := ⟨.hbm, 190, rfl⟩
abbrev main_while0b_call4_c_2 : Ref sig .tc := ⟨.hbm, 191, rfl⟩
abbrev main_while0b_v211 : Ref sig .tc := ⟨.hbm, 192, rfl⟩
abbrev main_while0b_call5_v0 : Ref sig .tc := ⟨.hbm, 193, rfl⟩
abbrev main_while0b_call5_c : Ref sig .tc := ⟨.hbm, 194, rfl⟩
abbrev main_while0b_call5_c_0 : Ref sig .tc := ⟨.hbm, 195, rfl⟩
abbrev main_while0b_call5_c_1 : Ref sig .tc := ⟨.hbm, 196, rfl⟩
abbrev main_while0b_call5_c_2 : Ref sig .tc := ⟨.hbm, 197, rfl⟩
abbrev main_while0b_v212 : Ref sig .tc := ⟨.hbm, 198, rfl⟩
abbrev main_while0b_call6_v0 : Ref sig .tc := ⟨.hbm, 199, rfl⟩
abbrev main_while0b_call6_c : Ref sig .tc := ⟨.hbm, 200, rfl⟩
abbrev main_while0b_call6_c_0 : Ref sig .tc := ⟨.hbm, 201, rfl⟩
abbrev main_while0b_call6_c_1 : Ref sig .tc := ⟨.hbm, 202, rfl⟩
abbrev main_while0b_call6_c_2 : Ref sig .tc := ⟨.hbm, 203, rfl⟩
abbrev main_while0b_v213 : Ref sig .tc := ⟨.hbm, 204, rfl⟩
abbrev main_while0b_c_37 : Ref sig .tc := ⟨.hbm, 205, rfl⟩
abbrev main_while0b_v214 : Ref sig .tc := ⟨.hbm, 206, rfl⟩
abbrev main_v124 : Ref sig .tc := ⟨.hbm, 207, rfl⟩
abbrev main_v125 : Ref sig .tc := ⟨.hbm, 208, rfl⟩
abbrev main_v126 : Ref sig .tc := ⟨.hbm, 209, rfl⟩
abbrev main_v127 : Ref sig .tc := ⟨.hbm, 210, rfl⟩
abbrev main_v128 : Ref sig .tc := ⟨.hbm, 211, rfl⟩
abbrev main_cst_15 : Ref sig .tc := ⟨.hbm, 212, rfl⟩
abbrev main_v129 : Ref sig .tc := ⟨.hbm, 213, rfl⟩
abbrev main_v130 : Ref sig .tc := ⟨.hbm, 214, rfl⟩
abbrev main_v131 : Ref sig .tc := ⟨.hbm, 215, rfl⟩
abbrev main_cst_16 : Ref sig .tc := ⟨.hbm, 216, rfl⟩
abbrev main_v132 : Ref sig .tc := ⟨.hbm, 217, rfl⟩
abbrev main_cst_17 : Ref sig .tc := ⟨.hbm, 218, rfl⟩
abbrev main_v133 : Ref sig .tc := ⟨.hbm, 219, rfl⟩
abbrev main_cst_18 : Ref sig .tc := ⟨.hbm, 220, rfl⟩
abbrev main_v134 : Ref sig .tc := ⟨.hbm, 221, rfl⟩
abbrev main_cst_19 : Ref sig .tc := ⟨.hbm, 222, rfl⟩
abbrev main_v135 : Ref sig .tc := ⟨.hbm, 223, rfl⟩
abbrev main_c_20 : Ref sig .tc := ⟨.hbm, 224, rfl⟩
abbrev main_v136_0 : Ref sig .tc := ⟨.hbm, 225, rfl⟩
abbrev main_v136_1 : Ref sig .tc := ⟨.hbm, 226, rfl⟩
abbrev main_v136_2 : Ref sig .tc := ⟨.hbm, 227, rfl⟩
abbrev main_v136_3 : Ref sig .tc := ⟨.hbm, 228, rfl⟩
abbrev main_v136_4 : Ref sig .tc := ⟨.hbm, 229, rfl⟩
abbrev main_v136_5 : Ref sig .tc := ⟨.hbm, 230, rfl⟩
abbrev main_v136_6 : Ref sig .tc := ⟨.hbm, 231, rfl⟩
abbrev main_v136_7 : Ref sig .tc := ⟨.hbm, 232, rfl⟩
abbrev main_v136_8 : Ref sig .tc := ⟨.hbm, 233, rfl⟩
abbrev main_v136_9 : Ref sig .tc := ⟨.hbm, 234, rfl⟩
abbrev main_v136_10 : Ref sig .tc := ⟨.hbm, 235, rfl⟩
abbrev main_v136_11 : Ref sig .tc := ⟨.hbm, 236, rfl⟩
abbrev main_v136_12 : Ref sig .tc := ⟨.hbm, 237, rfl⟩
abbrev main_while1c_c_39 : Ref sig .tc := ⟨.hbm, 238, rfl⟩
abbrev main_while1c_v198 : Ref sig .tc := ⟨.hbm, 239, rfl⟩
abbrev main_while1b_c_39 : Ref sig .tc := ⟨.hbm, 240, rfl⟩
abbrev main_while1b_v198 : Ref sig .tc := ⟨.hbm, 241, rfl⟩
abbrev main_while1b_c_40 : Ref sig .tc := ⟨.hbm, 242, rfl⟩
abbrev main_while1b_v199 : Ref sig .tc := ⟨.hbm, 243, rfl⟩
abbrev main_while1b_call7_c : Ref sig .tc := ⟨.hbm, 244, rfl⟩
abbrev main_while1b_call7_c_0 : Ref sig .tc := ⟨.hbm, 245, rfl⟩
abbrev main_while1b_call7_c_1 : Ref sig .tc := ⟨.hbm, 246, rfl⟩
abbrev main_while1b_call7_c_2 : Ref sig .tc := ⟨.hbm, 247, rfl⟩
abbrev main_while1b_call7_v0 : Ref sig .tc := ⟨.hbm, 248, rfl⟩
abbrev main_while1b_v200 : Ref sig .tc := ⟨.hbm, 249, rfl⟩
abbrev main_while1b_call8_c : Ref sig .tc := ⟨.hbm, 250, rfl⟩
abbrev main_while1b_call8_c_0 : Ref sig .tc := ⟨.hbm, 251, rfl⟩
abbrev main_while1b_call8_c_1 : Ref sig .tc := ⟨.hbm, 252, rfl⟩
abbrev main_while1b_call8_c_2 : Ref sig .tc := ⟨.hbm, 253, rfl⟩
abbrev main_while1b_call8_v0 : Ref sig .tc := ⟨.hbm, 254, rfl⟩
abbrev main_while1b_v201 : Ref sig .tc := ⟨.hbm, 255, rfl⟩
abbrev main_while1b_call9_c : Ref sig .tc := ⟨.hbm, 256, rfl⟩
abbrev main_while1b_call9_c_0 : Ref sig .tc := ⟨.hbm, 257, rfl⟩
abbrev main_while1b_call9_c_1 : Ref sig .tc := ⟨.hbm, 258, rfl⟩
abbrev main_while1b_call9_c_2 : Ref sig .tc := ⟨.hbm, 259, rfl⟩
abbrev main_while1b_call9_v0 : Ref sig .tc := ⟨.hbm, 260, rfl⟩
abbrev main_while1b_v202 : Ref sig .tc := ⟨.hbm, 261, rfl⟩
abbrev main_while1b_call10_c : Ref sig .tc := ⟨.hbm, 262, rfl⟩
abbrev main_while1b_call10_c_0 : Ref sig .tc := ⟨.hbm, 263, rfl⟩
abbrev main_while1b_call10_c_1 : Ref sig .tc := ⟨.hbm, 264, rfl⟩
abbrev main_while1b_call10_c_2 : Ref sig .tc := ⟨.hbm, 265, rfl⟩
abbrev main_while1b_call10_v0 : Ref sig .tc := ⟨.hbm, 266, rfl⟩
abbrev main_while1b_v203 : Ref sig .tc := ⟨.hbm, 267, rfl⟩
abbrev main_while1b_call11_c : Ref sig .tc := ⟨.hbm, 268, rfl⟩
abbrev main_while1b_call11_c_0 : Ref sig .tc := ⟨.hbm, 269, rfl⟩
abbrev main_while1b_call11_c_1 : Ref sig .tc := ⟨.hbm, 270, rfl⟩
abbrev main_while1b_call11_c_2 : Ref sig .tc := ⟨.hbm, 271, rfl⟩
abbrev main_while1b_call11_v0 : Ref sig .tc := ⟨.hbm, 272, rfl⟩
abbrev main_while1b_v204 : Ref sig .tc := ⟨.hbm, 273, rfl⟩
abbrev main_while1b_v205 : Ref sig .tc := ⟨.hbm, 274, rfl⟩
abbrev main_while1b_v206 : Ref sig .tc := ⟨.hbm, 275, rfl⟩
abbrev main_while1b_v207 : Ref sig .tc := ⟨.hbm, 276, rfl⟩
abbrev main_while1b_v208 : Ref sig .tc := ⟨.hbm, 277, rfl⟩
abbrev main_while1b_v209 : Ref sig .tc := ⟨.hbm, 278, rfl⟩
abbrev main_while1b_v210 : Ref sig .tc := ⟨.hbm, 279, rfl⟩
abbrev main_while1b_v211 : Ref sig .tc := ⟨.hbm, 280, rfl⟩
abbrev main_while1b_v212 : Ref sig .tc := ⟨.hbm, 281, rfl⟩
abbrev main_while1b_v213 : Ref sig .tc := ⟨.hbm, 282, rfl⟩
abbrev main_while1b_v214 : Ref sig .tc := ⟨.hbm, 283, rfl⟩
abbrev main_while1b_v215 : Ref sig .tc := ⟨.hbm, 284, rfl⟩
abbrev main_while1b_v216 : Ref sig .tc := ⟨.hbm, 285, rfl⟩
abbrev main_while1b_v217 : Ref sig .tc := ⟨.hbm, 286, rfl⟩
abbrev main_while1b_v218 : Ref sig .tc := ⟨.hbm, 287, rfl⟩
abbrev main_while1b_v219 : Ref sig .tc := ⟨.hbm, 288, rfl⟩
abbrev main_while1b_v220 : Ref sig .tc := ⟨.hbm, 289, rfl⟩
abbrev main_while1b_call12_v0 : Ref sig .tc := ⟨.hbm, 290, rfl⟩
abbrev main_while1b_call12_c : Ref sig .tc := ⟨.hbm, 291, rfl⟩
abbrev main_while1b_call12_c_0 : Ref sig .tc := ⟨.hbm, 292, rfl⟩
abbrev main_while1b_call12_c_1 : Ref sig .tc := ⟨.hbm, 293, rfl⟩
abbrev main_while1b_call12_c_2 : Ref sig .tc := ⟨.hbm, 294, rfl⟩
abbrev main_while1b_v221 : Ref sig .tc := ⟨.hbm, 295, rfl⟩
abbrev main_while1b_call13_v0 : Ref sig .tc := ⟨.hbm, 296, rfl⟩
abbrev main_while1b_call13_c : Ref sig .tc := ⟨.hbm, 297, rfl⟩
abbrev main_while1b_call13_c_0 : Ref sig .tc := ⟨.hbm, 298, rfl⟩
abbrev main_while1b_call13_c_1 : Ref sig .tc := ⟨.hbm, 299, rfl⟩
abbrev main_while1b_call13_c_2 : Ref sig .tc := ⟨.hbm, 300, rfl⟩
abbrev main_while1b_v222 : Ref sig .tc := ⟨.hbm, 301, rfl⟩
abbrev main_while1b_call14_v0 : Ref sig .tc := ⟨.hbm, 302, rfl⟩
abbrev main_while1b_call14_c : Ref sig .tc := ⟨.hbm, 303, rfl⟩
abbrev main_while1b_call14_c_0 : Ref sig .tc := ⟨.hbm, 304, rfl⟩
abbrev main_while1b_call14_c_1 : Ref sig .tc := ⟨.hbm, 305, rfl⟩
abbrev main_while1b_call14_c_2 : Ref sig .tc := ⟨.hbm, 306, rfl⟩
abbrev main_while1b_v223 : Ref sig .tc := ⟨.hbm, 307, rfl⟩
abbrev main_while1b_c_41 : Ref sig .tc := ⟨.hbm, 308, rfl⟩
abbrev main_while1b_v224 : Ref sig .tc := ⟨.hbm, 309, rfl⟩
abbrev main_v137 : Ref sig .tc := ⟨.hbm, 310, rfl⟩
abbrev main_v138 : Ref sig .tc := ⟨.hbm, 311, rfl⟩
abbrev main_v139 : Ref sig .tc := ⟨.hbm, 312, rfl⟩
abbrev main_v140 : Ref sig .tc := ⟨.hbm, 313, rfl⟩
abbrev main_v141 : Ref sig .tc := ⟨.hbm, 314, rfl⟩
abbrev main_v142 : Ref sig .tc := ⟨.hbm, 315, rfl⟩
abbrev main_v143 : Ref sig .tc := ⟨.hbm, 316, rfl⟩
abbrev main_v144 : Ref sig .tc := ⟨.hbm, 317, rfl⟩
abbrev main_v145 : Ref sig .tc := ⟨.hbm, 318, rfl⟩
abbrev main_v146 : Ref sig .tc := ⟨.hbm, 319, rfl⟩
abbrev main_v147 : Ref sig .tc := ⟨.hbm, 320, rfl⟩
abbrev main_v148 : Ref sig .tc := ⟨.hbm, 321, rfl⟩
abbrev main_v149 : Ref sig .tc := ⟨.hbm, 322, rfl⟩
abbrev main_v150 : Ref sig .tc := ⟨.hbm, 323, rfl⟩
abbrev main_v151 : Ref sig .tc := ⟨.hbm, 324, rfl⟩
abbrev main_v152 : Ref sig .tc := ⟨.hbm, 325, rfl⟩
abbrev main_v153 : Ref sig .tc := ⟨.hbm, 326, rfl⟩
abbrev main_v154 : Ref sig .tc := ⟨.hbm, 327, rfl⟩
abbrev main_v155 : Ref sig .tc := ⟨.hbm, 328, rfl⟩
abbrev main_v156 : Ref sig .tc := ⟨.hbm, 329, rfl⟩
abbrev main_v157 : Ref sig .tc := ⟨.hbm, 330, rfl⟩
abbrev main_v158 : Ref sig .tc := ⟨.hbm, 331, rfl⟩
abbrev main_v159 : Ref sig .tc := ⟨.hbm, 332, rfl⟩
abbrev main_v160 : Ref sig .tc := ⟨.hbm, 333, rfl⟩
abbrev main_v161 : Ref sig .tc := ⟨.hbm, 334, rfl⟩
abbrev main_v162 : Ref sig .tc := ⟨.hbm, 335, rfl⟩
abbrev main_v163 : Ref sig .tc := ⟨.hbm, 336, rfl⟩
abbrev main_v164 : Ref sig .tc := ⟨.hbm, 337, rfl⟩
abbrev main_v165 : Ref sig .tc := ⟨.hbm, 338, rfl⟩
abbrev main_v166 : Ref sig .tc := ⟨.hbm, 339, rfl⟩
abbrev main_v167 : Ref sig .tc := ⟨.hbm, 340, rfl⟩
abbrev main_v168 : Ref sig .tc := ⟨.hbm, 341, rfl⟩
abbrev main_v169 : Ref sig .tc := ⟨.hbm, 342, rfl⟩
abbrev main_cst_21 : Ref sig .tc := ⟨.hbm, 343, rfl⟩
abbrev main_v170 : Ref sig .tc := ⟨.hbm, 344, rfl⟩
abbrev main_cst_22 : Ref sig .tc := ⟨.hbm, 345, rfl⟩
abbrev main_v171 : Ref sig .tc := ⟨.hbm, 346, rfl⟩
abbrev main_v172 : Ref sig .tc := ⟨.hbm, 347, rfl⟩
abbrev main_v173 : Ref sig .tc := ⟨.hbm, 348, rfl⟩
abbrev main_cst_23 : Ref sig .tc := ⟨.hbm, 349, rfl⟩
abbrev main_v174 : Ref sig .tc := ⟨.hbm, 350, rfl⟩
abbrev main_v175 : Ref sig .tc := ⟨.hbm, 351, rfl⟩
abbrev main_v176 : Ref sig .tc := ⟨.hbm, 352, rfl⟩
abbrev main_v177 : Ref sig .tc := ⟨.hbm, 353, rfl⟩
abbrev main_v178 : Ref sig .tc := ⟨.hbm, 354, rfl⟩
abbrev main_v179 : Ref sig .tc := ⟨.hbm, 355, rfl⟩
abbrev main_v180 : Ref sig .tc := ⟨.hbm, 356, rfl⟩
abbrev main_v181 : Ref sig .tc := ⟨.hbm, 357, rfl⟩
abbrev main_v182 : Ref sig .tc := ⟨.hbm, 358, rfl⟩
abbrev main_v183 : Ref sig .tc := ⟨.hbm, 359, rfl⟩
abbrev main_v184 : Ref sig .tc := ⟨.hbm, 360, rfl⟩
abbrev main_v185 : Ref sig .tc := ⟨.hbm, 361, rfl⟩
abbrev main_v186 : Ref sig .tc := ⟨.hbm, 362, rfl⟩
abbrev main_v187 : Ref sig .tc := ⟨.hbm, 363, rfl⟩
abbrev main_v188 : Ref sig .tc := ⟨.hbm, 364, rfl⟩
abbrev main_cst_24 : Ref sig .tc := ⟨.hbm, 365, rfl⟩
abbrev main_v189 : Ref sig .tc := ⟨.hbm, 366, rfl⟩
abbrev main_cst_25 : Ref sig .tc := ⟨.hbm, 367, rfl⟩
abbrev main_v190 : Ref sig .tc := ⟨.hbm, 368, rfl⟩
abbrev main_v191 : Ref sig .tc := ⟨.hbm, 369, rfl⟩
abbrev main_v192 : Ref sig .tc := ⟨.hbm, 370, rfl⟩
abbrev main_v193 : Ref sig .tc := ⟨.hbm, 371, rfl⟩
abbrev main_cst_26 : Ref sig .tc := ⟨.hbm, 372, rfl⟩
abbrev main_v194 : Ref sig .tc := ⟨.hbm, 373, rfl⟩
abbrev main_v195 : Ref sig .tc := ⟨.hbm, 374, rfl⟩
abbrev main_v196 : Ref sig .tc := ⟨.hbm, 375, rfl⟩
abbrev main_v197 : Ref sig .tc := ⟨.hbm, 376, rfl⟩

abbrev nD : Nat := 1
abbrev τ : Topo := Topo.v7x

variable {F : FTy → Type} [FloatOps F]

abbrev main_while0_count : Scf.Loop 32 := ⟨0#32, 32#32, 1#32⟩

abbrev main_while1_count : Scf.Loop 32 := ⟨0#32, 32#32, 1#32⟩
-- ==== Kernel2.lean ====
abbrev S4096x1024 : Shape := ⟨2, ![4096, 1024]⟩
abbrev S4096x10240 : Shape := ⟨2, ![4096, 10240]⟩
abbrev S1024x4096 : Shape := ⟨2, ![1024, 4096]⟩
abbrev S4x1024x2560 : Shape := ⟨3, ![4, 1024, 2560]⟩
abbrev S1x10240 : Shape := ⟨2, ![1, 10240]⟩
abbrev S8x128 : Shape := ⟨2, ![8, 128]⟩
abbrev S4096x512 : Shape := ⟨2, ![4096, 512]⟩
abbrev S1x1024x512 : Shape := ⟨3, ![1, 1024, 512]⟩
abbrev S1x512 : Shape := ⟨2, ![1, 512]⟩
abbrev S1024x512 : Shape := ⟨2, ![1024, 512]⟩
abbrev S512 : Shape := ⟨1, ![512]⟩

abbrev nBuf : Space → Nat
  | .hbm => 7
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S4096x10240, .bf16⟩
  | .hbm, ⟨2, _⟩ => ⟨S1024x4096, .f32⟩
  | .hbm, ⟨3, _⟩ => ⟨S1024x4096, .bf16⟩
  | .hbm, ⟨4, _⟩ => ⟨S4x1024x2560, .bf16⟩
  | .hbm, ⟨5, _⟩ => ⟨S1x10240, .f32⟩
  | .hbm, ⟨6, _⟩ => ⟨S8x128, .f32⟩
  | .local _ .vmem, ⟨0, _⟩ => ⟨S1024x4096, .bf16⟩
  | .local _ .vmem, ⟨1, _⟩ => ⟨S4096x512, .bf16⟩
  | .local _ .vmem, ⟨2, _⟩ => ⟨S4096x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x512, .f32⟩
  | .local _ .vmem, ⟨6, _⟩ => ⟨S1x512, .f32⟩
  | .local _ .vmem, ⟨7, _⟩ => ⟨S8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c5_i32 : BitVec 32 := 5#32
  let v0 : BitVec 32 := Scalar.divsi arg0 c5_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c5_i32 c0_i32_1
  let v7 : BitVec 32 := Scalar.extui v6
  let c0_i32_2 : BitVec 32 := 0#32
  let v8 : BitVec 1 := Scalar.cmpi .slt c5_i32 c0_i32_2
  let v9 : BitVec 32 := Scalar.extui v8
  let v10 : BitVec 32 := Scalar.subi v7 v9
  let v11 : BitVec 1 := Scalar.cmpi .ne v5 v10
  let v12 : BitVec 32 := Scalar.remsi arg0 c5_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c5_i32_4 : BitVec 32 := 5#32
  let c0_i32_5 : BitVec 32 := 0#32
  let v17 : BitVec 1 := Scalar.cmpi .eq c5_i32_4 c0_i32_5
  let c1_i32_6 : BitVec 32 := 1#32
  let v18 : BitVec 32 := Scalar.select v17 c1_i32_6 c5_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let v27 : BitVec 32 := Scalar.addi c0_i32_10 v26
  let c0_i32_11 : BitVec 32 := 0#32
  let c0_i32_12 : BitVec 32 := 0#32
  ![v16.toNat, c0_i32_11.toNat, v27.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference2Ideal.lean ====
abbrev S4096x1024 : Shape := ⟨2, ![4096, 1024]⟩
abbrev S4096x10240 : Shape := ⟨2, ![4096, 10240]⟩
abbrev S_ : Shape := ⟨0, ![]⟩
abbrev S10240 : Shape := ⟨1, ![10240]⟩
abbrev S1x10240 : Shape := ⟨2, ![1, 10240]⟩
abbrev S10240x1024 : Shape := ⟨2, ![10240, 1024]⟩
abbrev S1024x10240 : Shape := ⟨2, ![1024, 10240]⟩
abbrev S1024x4x2560 : Shape := ⟨3, ![1024, 4, 2560]⟩
abbrev S4x1024x2560 : Shape := ⟨3, ![4, 1024, 2560]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x10240, .bf16⟩
  | .hbm, ⟨2, _⟩ => ⟨S4096x10240, .f32⟩
  | .hbm, ⟨3, _⟩ => ⟨S_, .f32⟩
  | .hbm, ⟨4, _⟩ => ⟨S10240, .f32⟩
  | .hbm, ⟨5, _⟩ => ⟨S1x10240, .f32⟩
  | .hbm, ⟨6, _⟩ => ⟨S_, .f32⟩
  | .hbm, ⟨7, _⟩ => ⟨S10240, .f32⟩
  | .hbm, ⟨8, _⟩ => ⟨S10240x1024, .f32⟩
  | .hbm, ⟨9, _⟩ => ⟨S1024x10240, .f32⟩
  | .hbm, ⟨10, _⟩ => ⟨S1024x4x2560, .f32⟩
  | .hbm, ⟨11, _⟩ => ⟨S4x1024x2560, .f32⟩
  | .hbm, ⟨12, _⟩ => ⟨S4x1024x2560, .bf16⟩
  | .hbm, ⟨13, _⟩ => ⟨S1x10240, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel3.lean ====
abbrev S4096x2816 : Shape := ⟨2, ![4096, 2816]⟩
abbrev S1024x2816 : Shape := ⟨2, ![1024, 2816]⟩
abbrev S4096x1024 : Shape := ⟨2, ![4096, 1024]⟩
abbrev S1024x4x704 : Shape := ⟨3, ![1024, 4, 704]⟩
abbrev S_ : Shape := ⟨0, ![]⟩
abbrev S1024x4x768 : Shape := ⟨3, ![1024, 4, 768]⟩
abbrev S4x1024x768 : Shape := ⟨3, ![4, 1024, 768]⟩
abbrev S4x1024x1536 : Shape := ⟨3, ![4, 1024, 1536]⟩
abbrev S4096x4x704 : Shape := ⟨3, ![4096, 4, 704]⟩
abbrev S4096x4x768 : Shape := ⟨3, ![4096, 4, 768]⟩
abbrev S4096x3072 : Shape := ⟨2, ![4096, 3072]⟩
abbrev S512x3072 : Shape := ⟨2, ![512, 3072]⟩
abbrev S512x1024 : Shape := ⟨2, ![512, 1024]⟩
abbrev S256x768 : Shape := ⟨2, ![256, 768]⟩
abbrev S1x1024x768 : Shape := ⟨3, ![1, 1024, 768]⟩
abbrev S1024x768 : Shape := ⟨2, ![1024, 768]⟩
abbrev S256x1024 : Shape := ⟨2, ![256, 1024]⟩

abbrev nBuf : Space → Nat
  | .hbm => 30
  | .vmem => 9
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S1024x2816, .f32⟩
  | .hbm, ⟨3, _⟩ => ⟨S1024x2816, .f32⟩
  | .hbm, ⟨4, _⟩ => ⟨S4096x1024, .f32⟩
  | .hbm, ⟨5, _⟩ => ⟨S1024x4x704, .f32⟩
  | .hbm, ⟨6, _⟩ => ⟨S_, .i32⟩
  | .hbm, ⟨7, _⟩ => ⟨S_, .f32⟩
  | .hbm, ⟨8, _⟩ => ⟨S1024x4x768, .f32⟩
  | .hbm, ⟨9, _⟩ => ⟨S4x1024x768, .f32⟩
  | .hbm, ⟨10, _⟩ => ⟨S1024x4x704, .f32⟩
  | .hbm, ⟨11, _⟩ => ⟨S_, .i32⟩
  | .hbm, ⟨12, _⟩ => ⟨S_, .f32⟩
  | .hbm, ⟨13, _⟩ => ⟨S1024x4x768, .f32⟩
  | .hbm, ⟨14, _⟩ => ⟨S4x1024x768, .f32⟩
  | .hbm, ⟨15, _⟩ => ⟨S4x1024x1536, .f32⟩
  | .hbm, ⟨16, _⟩ => ⟨S4x1024x1536, .bf16⟩
  | .hbm, ⟨17, _⟩ => ⟨S4096x4x704, .f32⟩
  | .hbm, ⟨18, _⟩ => ⟨S_, .i32⟩
  | .hbm, ⟨19, _⟩ => ⟨S_, .f32⟩
  | .hbm, ⟨20, _⟩ => ⟨S4096x4x768, .f32⟩
  | .hbm, ⟨21, _⟩ => ⟨S4096x3072, .f32⟩
  | .hbm, ⟨22, _⟩ => ⟨S4096x3072, .bf16⟩
  | .hbm, ⟨23, _⟩ => ⟨S4096x4x704, .f32⟩
  | .hbm, ⟨24, _⟩ => ⟨S_, .i32⟩
  | .hbm, ⟨25, _⟩ => ⟨S_, .f32⟩
  | .hbm, ⟨26, _⟩ => ⟨S4096x4x768, .f32⟩
  | .hbm, ⟨27, _⟩ => ⟨S4096x3072, .f32⟩
  | .hbm, ⟨28, _⟩ => ⟨S4096x3072, .bf16⟩
  | .hbm, ⟨29, _⟩ => ⟨S4096x1024, .f32⟩
  | .local _ .vmem, ⟨0, _⟩ => ⟨S512x3072, .bf16⟩
  | .local _ .vmem, ⟨1, _⟩ => ⟨S512x3072, .bf16⟩
  | .local _ .vmem, ⟨2, _⟩ => ⟨S512x3072, .bf16⟩
  | .local _ .vmem, ⟨3, _⟩ => ⟨S512x3072, .bf16⟩
  | .local _ .vmem, ⟨4, _⟩ => ⟨S4x1024x1536, .bf16⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_call1_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_call2_v0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_call3_v0 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S4096x2816 : Shape := ⟨2, ![4096, 2816]⟩
abbrev S1024x2816 : Shape := ⟨2, ![1024, 2816]⟩
abbrev S4096x1024 : Shape := ⟨2, ![4096, 1024]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S1024x2816, .f32⟩
  | .hbm, ⟨3, _⟩ => ⟨S1024x2816, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩

abbrev nD : Nat := 1
abbrev τ : Topo := Topo.v7x

variable {F : FTy → Type} [FloatOps F]
-- ==== Kernel5.lean ====
abbrev S4096x1024 : Shape := ⟨2, ![4096, 1024]⟩
abbrev S1024x10240 : Shape := ⟨2, ![1024, 10240]⟩
abbrev S10240 : Shape := ⟨1, ![10240]⟩
abbrev S1024x4x2560 : Shape := ⟨3, ![1024, 4, 2560]⟩
abbrev S4x1024x2560 : Shape := ⟨3, ![4, 1024, 2560]⟩
abbrev S64 : Shape := ⟨1, ![64]⟩
abbrev S_ : Shape := ⟨0, ![]⟩
abbrev S4096 : Shape := ⟨1, ![4096]⟩
abbrev S4096x1 : Shape := ⟨2, ![4096, 1]⟩
abbrev S1x64 : Shape := ⟨2, ![1, 64]⟩
abbrev S4096x64 : Shape := ⟨2, ![4096, 64]⟩
abbrev S4096x128 : Shape := ⟨2, ![4096, 128]⟩
abbrev S1x10240 : Shape := ⟨2, ![1, 10240]⟩
abbrev S4096x10240 : Shape := ⟨2, ![4096, 10240]⟩
abbrev S512x1024 : Shape := ⟨2, ![512, 1024]⟩
abbrev S512x128 : Shape := ⟨2, ![512, 128]⟩
abbrev S512x10240 : Shape := ⟨2, ![512, 10240]⟩
abbrev S1x1024x512 : Shape := ⟨3, ![1, 1024, 512]⟩
abbrev S1024x512 : Shape := ⟨2, ![1024, 512]⟩
abbrev S512x512 : Shape := ⟨2, ![512, 512]⟩
abbrev S1x512 : Shape := ⟨2, ![1, 512]⟩

abbrev nBuf : Space → Nat
  | .hbm => 28
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1024x10240, .f32⟩
  | .hbm, ⟨2, _⟩ => ⟨S10240, .f32⟩
  | .hbm, ⟨3, _⟩ => ⟨S1024x4x2560, .f32⟩
  | .hbm, ⟨4, _⟩ => ⟨S4x1024x2560, .f32⟩
  | .hbm, ⟨5, _⟩ => ⟨S4x1024x2560, .bf16⟩
  | .hbm, ⟨6, _⟩ => ⟨S64, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S4096, .f32⟩
  | .hbm, ⟨15, _⟩ => ⟨S4096x1, .f32⟩
  | .hbm, ⟨16, _⟩ => ⟨S1x64, .f32⟩
  | .hbm, ⟨17, _⟩ => ⟨S4096x64, .f32⟩
  | .hbm, ⟨18, _⟩ => ⟨S4096x64, .f32⟩
  | .hbm, ⟨19, _⟩ => ⟨S4096x64, .f32⟩
  | .hbm, ⟨20, _⟩ => ⟨S4096x64, .f32⟩
  | .hbm, ⟨21, _⟩ => ⟨S4096x64, .f32⟩
  | .hbm, ⟨22, _⟩ => ⟨S4096x128, .f32⟩
  | .hbm, ⟨23, _⟩ => ⟨S4096x64, .f32⟩
  | .hbm, ⟨24, _⟩ => ⟨S4096x128, .f32⟩
  | .hbm, ⟨25, _⟩ => ⟨S4096x1024, .bf16⟩
  | .hbm, ⟨26, _⟩ => ⟨S1x10240, .f32⟩
  | .hbm, ⟨27, _⟩ => ⟨S4096x10240, .bf16⟩
  | .local _ .vmem, ⟨0, _⟩ => ⟨S512x1024, .bf16⟩
  | .local _ .vmem, ⟨1, _⟩ => ⟨S512x1024, .bf16⟩
  | .local _ .vmem, ⟨2, _⟩ => ⟨S4x1024x2560, .bf16⟩
  | .local _ .vmem, ⟨3, _⟩ => ⟨S1x10240, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x10240, .bf16⟩
  | .local _ .vmem, ⟨9, _⟩ => ⟨S512x10240, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x10240 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x10240 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference5Ideal.lean ====
abbrev S4096x1024 : Shape := ⟨2, ![4096, 1024]⟩
abbrev S1024x10240 : Shape := ⟨2, ![1024, 10240]⟩
abbrev S10240 : Shape := ⟨1, ![10240]⟩
abbrev S64 : Shape := ⟨1, ![64]⟩
abbrev S_ : Shape := ⟨0, ![]⟩
abbrev S4096 : Shape := ⟨1, ![4096]⟩
abbrev S4096x1 : Shape := ⟨2, ![4096, 1]⟩
abbrev S1x64 : Shape := ⟨2, ![1, 64]⟩
abbrev S4096x64 : Shape := ⟨2, ![4096, 64]⟩
abbrev S4096x1x64 : Shape := ⟨3, ![4096, 1, 64]⟩
abbrev S4096x10240 : Shape := ⟨2, ![4096, 10240]⟩
abbrev S1x10240 : Shape := ⟨2, ![1, 10240]⟩
abbrev S4096x8192 : Shape := ⟨2, ![4096, 8192]⟩
abbrev S4096x8x128 : Shape := ⟨3, ![4096, 8, 128]⟩
abbrev S4096x8x64 : Shape := ⟨3, ![4096, 8, 64]⟩

abbrev nBuf : Space → Nat
  | .hbm => 63
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x10240, .f32⟩
  | .hbm, ⟨2, _⟩ => ⟨S10240, .f32⟩
  | .hbm, ⟨3, _⟩ => ⟨S64, .f32⟩
  | .hbm, ⟨4, _⟩ => ⟨S64, .f32⟩
  | .hbm, ⟨5, _⟩ => ⟨S_, .f32⟩
  | .hbm, ⟨6, _⟩ => ⟨S64, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S4096, .f32⟩
  | .hbm, ⟨12, _⟩ => ⟨S4096x1, .f32⟩
  | .hbm, ⟨13, _⟩ => ⟨S1x64, .f32⟩
  | .hbm, ⟨14, _⟩ => ⟨S4096x64, .f32⟩
  | .hbm, ⟨15, _⟩ => ⟨S4096x64, .f32⟩
  | .hbm, ⟨16, _⟩ => ⟨S4096x64, .f32⟩
  | .hbm, ⟨17, _⟩ => ⟨S4096x64, .f32⟩
  | .hbm, ⟨18, _⟩ => ⟨S4096x1x64, .f32⟩
  | .hbm, ⟨19, _⟩ => ⟨S4096x64, .f32⟩
  | .hbm, ⟨20, _⟩ => ⟨S4096x1x64, .f32⟩
  | .hbm, ⟨21, _⟩ => ⟨S4096x10240, .f32⟩
  | .hbm, ⟨22, _⟩ => ⟨S1x10240, .f32⟩
  | .hbm, ⟨23, _⟩ => ⟨S4096x10240, .f32⟩
  | .hbm, ⟨24, _⟩ => ⟨S4096x10240, .f32⟩
  | .hbm, ⟨25, _⟩ => ⟨S4096x1024, .f32⟩
  | .hbm, ⟨26, _⟩ => ⟨S4096x1024, .f32⟩
  | .hbm, ⟨27, _⟩ => ⟨S4096x8192, .f32⟩
  | .hbm, ⟨28, _⟩ => ⟨S4096x8x128, .f32⟩
  | .hbm, ⟨29, _⟩ => ⟨S4096x8x64, .f32⟩
  | .hbm, ⟨30, _⟩ => ⟨S4096x8x64, .f32⟩
  | .hbm, ⟨31, _⟩ => ⟨S4096x8x64, .f32⟩
  | .hbm, ⟨32, _⟩ => ⟨S4096x8x64, .f32⟩
  | .hbm, ⟨33, _⟩ => ⟨S4096x8x64, .f32⟩
  | .hbm, ⟨34, _⟩ => ⟨S4096x8x64, .f32⟩
  | .hbm, ⟨35, _⟩ => ⟨S4096x8x64, .f32⟩
  | .hbm, ⟨36, _⟩ => ⟨S4096x8x64, .f32⟩
  | .hbm, ⟨37, _⟩ => ⟨S4096x8x64, .f32⟩
  | .hbm, ⟨38, _⟩ => ⟨S4096x8x64, .f32⟩
  | .hbm, ⟨39, _⟩ => ⟨S4096x8x64, .f32⟩
  | .hbm, ⟨40, _⟩ => ⟨S4096x8x64, .f32⟩
  | .hbm, ⟨41, _⟩ => ⟨S4096x8x128, .f32⟩
  | .hbm, ⟨42, _⟩ => ⟨S_, .f32⟩
  | .hbm, ⟨43, _⟩ => ⟨S4096x8x128, .f32⟩
  | .hbm, ⟨44, _⟩ => ⟨S4096x8x128, .f32⟩
  | .hbm, ⟨45, _⟩ => ⟨S4096x8x128, .f32⟩
  | .hbm, ⟨46, _⟩ => ⟨S4096x8x64, .f32⟩
  | .hbm, ⟨47, _⟩ => ⟨S4096x8x64, .f32⟩
  | .hbm, ⟨48, _⟩ => ⟨S4096x8x64, .f32⟩
  | .hbm, ⟨49, _⟩ => ⟨S4096x8x64, .f32⟩
  | .hbm, ⟨50, _⟩ => ⟨S4096x8x64, .f32⟩
  | .hbm, ⟨51, _⟩ => ⟨S4096x8x64, .f32⟩
  | .hbm, ⟨52, _⟩ => ⟨S4096x8x64, .f32⟩
  | .hbm, ⟨53, _⟩ => ⟨S4096x8x64, .f32⟩
  | .hbm, ⟨54, _⟩ => ⟨S4096x8x64, .f32⟩
  | .hbm, ⟨55, _⟩ => ⟨S4096x8x64, .f32⟩
  | .hbm, ⟨56, _⟩ => ⟨S4096x8x64, .f32⟩
  | .hbm, ⟨57, _⟩ => ⟨S4096x8x64, .f32⟩
  | .hbm, ⟨58, _⟩ => ⟨S4096x8x128, .f32⟩
  | .hbm, ⟨59, _⟩ => ⟨S4096x1024, .f32⟩
  | .hbm, ⟨60, _⟩ => ⟨S4096x1024, .f32⟩
  | .hbm, ⟨61, _⟩ => ⟨S4096x10240, .f32⟩
  | .hbm, ⟨62, _⟩ => ⟨S4096x10240, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_cst_1 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩

abbrev nD : Nat := 1
abbrev τ : Topo := Topo.v7x

variable {F : FTy → Type} [FloatOps F]
-- ==== Kernel6.lean ====
abbrev S4096x1024 : Shape := ⟨2, ![4096, 1024]⟩
abbrev S1024x2816 : Shape := ⟨2, ![1024, 2816]⟩
abbrev S1024x4x704 : Shape := ⟨3, ![1024, 4, 704]⟩
abbrev S_ : Shape := ⟨0, ![]⟩
abbrev S1024x4x768 : Shape := ⟨3, ![1024, 4, 768]⟩
abbrev S4x1024x768 : Shape := ⟨3, ![4, 1024, 768]⟩
abbrev S4x1024x1536 : Shape := ⟨3, ![4, 1024, 1536]⟩
abbrev S4096x3072 : Shape := ⟨2, ![4096, 3072]⟩
abbrev S512x1024 : Shape := ⟨2, ![512, 1024]⟩
abbrev S512x3072 : Shape := ⟨2, ![512, 3072]⟩
abbrev S1x1024x768 : Shape := ⟨3, ![1, 1024, 768]⟩
abbrev S1024x768 : Shape := ⟨2, ![1024, 768]⟩
abbrev S512x768 : Shape := ⟨2, ![512, 768]⟩

abbrev nBuf : Space → Nat
  | .hbm => 19
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S4096x1024, .bf16⟩
  | .hbm, ⟨4, _⟩ => ⟨S1024x4x704, .f32⟩
  | .hbm, ⟨5, _⟩ => ⟨S_, .i32⟩
  | .hbm, ⟨6, _⟩ => ⟨S_, .f32⟩
  | .hbm, ⟨7, _⟩ => ⟨S1024x4x768, .f32⟩
  | .hbm, ⟨8, _⟩ => ⟨S4x1024x768, .f32⟩
  | .hbm, ⟨9, _⟩ => ⟨S1024x4x704, .f32⟩
  | .hbm, ⟨10, _⟩ => ⟨S_, .i32⟩
  | .hbm, ⟨11, _⟩ => ⟨S_, .f32⟩
  | .hbm, ⟨12, _⟩ => ⟨S1024x4x768, .f32⟩
  | .hbm, ⟨13, _⟩ => ⟨S4x1024x768, .f32⟩
  | .hbm, ⟨14, _⟩ => ⟨S4x1024x1536, .f32⟩
  | .hbm, ⟨15, _⟩ => ⟨S4x1024x1536, .bf16⟩
  | .hbm, ⟨16, _⟩ => ⟨S4096x3072, .bf16⟩
  | .hbm, ⟨17, _⟩ => ⟨S4096x3072, .bf16⟩
  | .hbm, ⟨18, _⟩ => ⟨S4096x3072, .bf16⟩
  | .local _ .vmem, ⟨0, _⟩ => ⟨S512x1024, .bf16⟩
  | .local _ .vmem, ⟨1, _⟩ => ⟨S512x1024, .bf16⟩
  | .local _ .vmem, ⟨2, _⟩ => ⟨S4x1024x1536, .bf16⟩
  | .local _ .vmem, ⟨3, _⟩ => ⟨S512x3072, .bf16⟩
  | .local _ .vmem, ⟨4, _⟩ => ⟨S512x3072, .bf16⟩
  | .local _ .vmem, ⟨5, _⟩ => ⟨S512x3072, .bf16⟩
  | .local _ .vmem, ⟨6, _⟩ => ⟨S512x3072, .bf16⟩
  | .local _ .vmem, ⟨7, _⟩ => ⟨S512x3072, .bf16⟩
  | .local _ .vmem, ⟨8, _⟩ => ⟨S512x3072, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_call1_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference6Ideal.lean ====
abbrev S4096x1024 : Shape := ⟨2, ![4096, 1024]⟩
abbrev S1024x2816 : Shape := ⟨2, ![1024, 2816]⟩
abbrev S4096x2816 : Shape := ⟨2, ![4096, 2816]⟩
abbrev S_ : Shape := ⟨0, ![]⟩
abbrev S4096x4x704 : Shape := ⟨3, ![4096, 4, 704]⟩
abbrev S4096x4x768 : Shape := ⟨3, ![4096, 4, 768]⟩
abbrev S4096x3072 : Shape := ⟨2, ![4096, 3072]⟩

abbrev nBuf : Space → Nat
  | .hbm => 33
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S4096x2816, .f32⟩
  | .hbm, ⟨4, _⟩ => ⟨S4096x2816, .f32⟩
  | .hbm, ⟨5, _⟩ => ⟨S4096x2816, .f32⟩
  | .hbm, ⟨6, _⟩ => ⟨S4096x2816, .f32⟩
  | .hbm, ⟨7, _⟩ => ⟨S_, .f32⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S4096x2816, .f32⟩
  | .hbm, ⟨12, _⟩ => ⟨S4096x2816, .f32⟩
  | .hbm, ⟨13, _⟩ => ⟨S4096x2816, .f32⟩
  | .hbm, ⟨14, _⟩ => ⟨S4096x2816, .f32⟩
  | .hbm, ⟨15, _⟩ => ⟨S4096x4x704, .f32⟩
  | .hbm, ⟨16, _⟩ => ⟨S_, .i32⟩
  | .hbm, ⟨17, _⟩ => ⟨S_, .f32⟩
  | .hbm, ⟨18, _⟩ => ⟨S4096x4x768, .f32⟩
  | .hbm, ⟨19, _⟩ => ⟨S4096x3072, .f32⟩
  | .hbm, ⟨20, _⟩ => ⟨S4096x3072, .bf16⟩
  | .hbm, ⟨21, _⟩ => ⟨S4096x4x704, .f32⟩
  | .hbm, ⟨22, _⟩ => ⟨S_, .i32⟩
  | .hbm, ⟨23, _⟩ => ⟨S_, .f32⟩
  | .hbm, ⟨24, _⟩ => ⟨S4096x4x768, .f32⟩
  | .hbm, ⟨25, _⟩ => ⟨S4096x3072, .f32⟩
  | .hbm, ⟨26, _⟩ => ⟨S4096x3072, .bf16⟩
  | .hbm, ⟨27, _⟩ => ⟨S4096x4x704, .f32⟩
  | .hbm, ⟨28, _⟩ => ⟨S_, .i32⟩
  | .hbm, ⟨29, _⟩ => ⟨S_, .f32⟩
  | .hbm, ⟨30, _⟩ => ⟨S4096x4x768, .f32⟩
  | .hbm, ⟨31, _⟩ => ⟨S4096x3072, .f32⟩
  | .hbm, ⟨32, _⟩ => ⟨S4096x3072, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_call1_v0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c_0 : Ref sig .tc := ⟨.hbm, 22, rfl⟩
abbrev main_call2_v0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c_1 : Ref sig .tc := ⟨.hbm, 28, rfl⟩
abbrev main_call3_v0 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩

abbrev nD : Nat := 1
abbrev τ : Topo := Topo.v7x

variable {F : FTy → Type} [FloatOps F]
-- ==== Kernel7.lean ====
abbrev S1024x2560 : Shape := ⟨2, ![1024, 2560]⟩
abbrev S128x2560 : Shape := ⟨2, ![128, 2560]⟩

abbrev nBuf : Space → Nat
  | .hbm => 8
  | .vmem => 16
  | .smem => 0
  | _ => 0

abbrev bufTy : (tb : Table) → Fin (tcTables nBuf tb) → BufTy
  | .hbm, ⟨0, _⟩ => ⟨S1024x2560, .f32⟩
  | .hbm, ⟨1, _⟩ => ⟨S1024x2560, .f32⟩
  | .hbm, ⟨2, _⟩ => ⟨S1024x2560, .f32⟩
  | .hbm, ⟨3, _⟩ => ⟨S1024x2560, .f32⟩
  | .hbm, ⟨4, _⟩ => ⟨S1024x2560, .f32⟩
  | .hbm, ⟨5, _⟩ => ⟨S1024x2560, .f32⟩
  | .hbm, ⟨6, _⟩ => ⟨S1024x2560, .f32⟩
  | .hbm, ⟨7, _⟩ => ⟨S1024x2560, .f32⟩
  | .local _ .vmem, ⟨0, _⟩ => ⟨S128x2560, .f32⟩
  | .local _ .vmem, ⟨1, _⟩ => ⟨S128x2560, .f32⟩
  | .local _ .vmem, ⟨2, _⟩ => ⟨S128x2560, .f32⟩
  | .local _ .vmem, ⟨3, _⟩ => ⟨S128x2560, .f32⟩
  | .local _ .vmem, ⟨4, _⟩ => ⟨S128x2560, .f32⟩
  | .local _ .vmem, ⟨5, _⟩ => ⟨S128x2560, .f32⟩
  | .local _ .vmem, ⟨6, _⟩ => ⟨S128x2560, .f32⟩
  | .local _ .vmem, ⟨7, _⟩ => ⟨S128x2560, .f32⟩
  | .local _ .vmem, ⟨8, _⟩ => ⟨S128x2560, .f32⟩
  | .local _ .vmem, ⟨9, _⟩ => ⟨S128x2560, .f32⟩
  | .local _ .vmem, ⟨10, _⟩ => ⟨S128x2560, .f32⟩
  | .local _ .vmem, ⟨11, _⟩ => ⟨S128x2560, .f32⟩
  | .local _ .vmem, ⟨12, _⟩ => ⟨S128x2560, .f32⟩
  | .local _ .vmem, ⟨13, _⟩ => ⟨S128x2560, .f32⟩
  | .local _ .vmem, ⟨14, _⟩ => ⟨S128x2560, .f32⟩
  | .local _ .vmem, ⟨15, _⟩ => ⟨S128x2560, .f32⟩
  | _, _ => ⟨S1024x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2560 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2560 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2560 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2560 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2560 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2560 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2560 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2560 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference7Ideal.lean ====
abbrev S1024x2560 : Shape := ⟨2, ![1024, 2560]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x2560, .f32⟩
  | .hbm, ⟨1, _⟩ => ⟨S1024x2560, .f32⟩
  | .hbm, ⟨2, _⟩ => ⟨S1024x2560, .f32⟩
  | .hbm, ⟨3, _⟩ => ⟨S1024x2560, .f32⟩
  | .hbm, ⟨4, _⟩ => ⟨S_, .f32⟩
  | .hbm, ⟨5, _⟩ => ⟨S1024x2560, .f32⟩
  | .hbm, ⟨6, _⟩ => ⟨S1024x2560, .f32⟩
  | .hbm, ⟨7, _⟩ => ⟨S_, .f32⟩
  | .hbm, ⟨8, _⟩ => ⟨S1024x2560, .f32⟩
  | .hbm, ⟨9, _⟩ => ⟨S1024x2560, .f32⟩
  | .hbm, ⟨10, _⟩ => ⟨S1024x2560, .f32⟩
  | .hbm, ⟨11, _⟩ => ⟨S_, .f32⟩
  | .hbm, ⟨12, _⟩ => ⟨S1024x2560, .f32⟩
  | .hbm, ⟨13, _⟩ => ⟨S1024x2560, .f32⟩
  | .hbm, ⟨14, _⟩ => ⟨S1024x2560, .f32⟩
  | .hbm, ⟨15, _⟩ => ⟨S_, .f32⟩
  | .hbm, ⟨16, _⟩ => ⟨S1024x2560, .f32⟩
  | .hbm, ⟨17, _⟩ => ⟨S1024x2560, .f32⟩
  | .hbm, ⟨18, _⟩ => ⟨S1024x2560, .f32⟩
  | .hbm, ⟨19, _⟩ => ⟨S_, .f32⟩
  | .hbm, ⟨20, _⟩ => ⟨S1024x2560, .f32⟩
  | .hbm, ⟨21, _⟩ => ⟨S1024x2560, .f32⟩
  | .hbm, ⟨22, _⟩ => ⟨S_, .f32⟩
  | .hbm, ⟨23, _⟩ => ⟨S1024x2560, .f32⟩
  | .hbm, ⟨24, _⟩ => ⟨S1024x2560, .f32⟩
  | .hbm, ⟨25, _⟩ => ⟨S1024x2560, .f32⟩
  | .hbm, ⟨26, _⟩ => ⟨S_, .f32⟩
  | .hbm, ⟨27, _⟩ => ⟨S1024x2560, .f32⟩
  | .hbm, ⟨28, _⟩ => ⟨S1024x2560, .f32⟩
  | .hbm, ⟨29, _⟩ => ⟨S1024x2560, .f32⟩
  | .hbm, ⟨30, _⟩ => ⟨S_, .f32⟩
  | .hbm, ⟨31, _⟩ => ⟨S1024x2560, .f32⟩
  | .hbm, ⟨32, _⟩ => ⟨S1024x2560, .f32⟩
  | .hbm, ⟨33, _⟩ => ⟨S1024x2560, .f32⟩
  | .hbm, ⟨34, _⟩ => ⟨S_, .f32⟩
  | .hbm, ⟨35, _⟩ => ⟨S1024x2560, .f32⟩
  | .hbm, ⟨36, _⟩ => ⟨S1024x2560, .f32⟩
  | _, _ => ⟨S1024x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel8.lean ====
abbrev S704x1024 : Shape := ⟨2, ![704, 1024]⟩
abbrev S352x1024 : Shape := ⟨2, ![352, 1024]⟩

abbrev nBuf : Space → Nat
  | .hbm => 8
  | .vmem => 16
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | .local _ .vmem, ⟨14, _⟩ => ⟨S352x1024, .f32⟩
  | .local _ .vmem, ⟨15, _⟩ => ⟨S352x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference8Ideal.lean ====
abbrev S704x1024 : Shape := ⟨2, ![704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S_, .f32⟩
  | .hbm, ⟨5, _⟩ => ⟨S704x1024, .f32⟩
  | .hbm, ⟨6, _⟩ => ⟨S704x1024, .f32⟩
  | .hbm, ⟨7, _⟩ => ⟨S_, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S_, .f32⟩
  | .hbm, ⟨12, _⟩ => ⟨S704x1024, .f32⟩
  | .hbm, ⟨13, _⟩ => ⟨S704x1024, .f32⟩
  | .hbm, ⟨14, _⟩ => ⟨S704x1024, .f32⟩
  | .hbm, ⟨15, _⟩ => ⟨S_, .f32⟩
  | .hbm, ⟨16, _⟩ => ⟨S704x1024, .f32⟩
  | .hbm, ⟨17, _⟩ => ⟨S704x1024, .f32⟩
  | .hbm, ⟨18, _⟩ => ⟨S704x1024, .f32⟩
  | .hbm, ⟨19, _⟩ => ⟨S_, .f32⟩
  | .hbm, ⟨20, _⟩ => ⟨S704x1024, .f32⟩
  | .hbm, ⟨21, _⟩ => ⟨S704x1024, .f32⟩
  | .hbm, ⟨22, _⟩ => ⟨S_, .f32⟩
  | .hbm, ⟨23, _⟩ => ⟨S704x1024, .f32⟩
  | .hbm, ⟨24, _⟩ => ⟨S704x1024, .f32⟩
  | .hbm, ⟨25, _⟩ => ⟨S704x1024, .f32⟩
  | .hbm, ⟨26, _⟩ => ⟨S_, .f32⟩
  | .hbm, ⟨27, _⟩ => ⟨S704x1024, .f32⟩
  | .hbm, ⟨28, _⟩ => ⟨S704x1024, .f32⟩
  | .hbm, ⟨29, _⟩ => ⟨S704x1024, .f32⟩
  | .hbm, ⟨30, _⟩ => ⟨S_, .f32⟩
  | .hbm, ⟨31, _⟩ => ⟨S704x1024, .f32⟩
  | .hbm, ⟨32, _⟩ => ⟨S704x1024, .f32⟩
  | .hbm, ⟨33, _⟩ => ⟨S704x1024, .f32⟩
  | .hbm, ⟨34, _⟩ => ⟨S_, .f32⟩
  | .hbm, ⟨35, _⟩ => ⟨S704x1024, .f32⟩
  | .hbm, ⟨36, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel9.lean ====
abbrev S4096x10240 : Shape := ⟨2, ![4096, 10240]⟩
abbrev S1024x10240 : Shape := ⟨2, ![1024, 10240]⟩
abbrev S1024x4x2560 : Shape := ⟨3, ![1024, 4, 2560]⟩
abbrev S4x1024x2560 : Shape := ⟨3, ![4, 1024, 2560]⟩
abbrev S4096x1024 : Shape := ⟨2, ![4096, 1024]⟩
abbrev S512x5120 : Shape := ⟨2, ![512, 5120]⟩
abbrev S2x1024x2560 : Shape := ⟨3, ![2, 1024, 2560]⟩
abbrev S512x1024 : Shape := ⟨2, ![512, 1024]⟩
abbrev S256x2560 : Shape := ⟨2, ![256, 2560]⟩
abbrev S1x1024x2560 : Shape := ⟨3, ![1, 1024, 2560]⟩
abbrev S1024x2560 : Shape := ⟨2, ![1024, 2560]⟩
abbrev S256x1024 : Shape := ⟨2, ![256, 1024]⟩

abbrev nBuf : Space → Nat
  | .hbm => 6
  | .vmem => 5
  | .smem => 0
  | _ => 0

abbrev bufTy : (tb : Table) → Fin (tcTables nBuf tb) → BufTy
  | .hbm, ⟨0, _⟩ => ⟨S4096x10240, .bf16⟩
  | .hbm, ⟨1, _⟩ => ⟨S1024x10240, .f32⟩
  | .hbm, ⟨2, _⟩ => ⟨S1024x4x2560, .f32⟩
  | .hbm, ⟨3, _⟩ => ⟨S4x1024x2560, .f32⟩
  | .hbm, ⟨4, _⟩ => ⟨S4x1024x2560, .bf16⟩
  | .hbm, ⟨5, _⟩ => ⟨S4096x1024, .f32⟩
  | .local _ .vmem, ⟨0, _⟩ => ⟨S512x5120, .bf16⟩
  | .local _ .vmem, ⟨1, _⟩ => ⟨S512x5120, .bf16⟩
  | .local _ .vmem, ⟨2, _⟩ => ⟨S2x1024x2560, .bf16⟩
  | .local _ .vmem, ⟨3, _⟩ => ⟨S512x1024, .f32⟩
  | .local _ .vmem, ⟨4, _⟩ => ⟨S512x1024, .f32⟩
  | _, _ => ⟨S4096x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x1024x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference9Ideal.lean ====
abbrev S4096x10240 : Shape := ⟨2, ![4096, 10240]⟩
abbrev S1024x10240 : Shape := ⟨2, ![1024, 10240]⟩
abbrev S1024x5120 : Shape := ⟨2, ![1024, 5120]⟩
abbrev S4096x5120 : Shape := ⟨2, ![4096, 5120]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x10240, .bf16⟩
  | .hbm, ⟨1, _⟩ => ⟨S1024x10240, .f32⟩
  | .hbm, ⟨2, _⟩ => ⟨S1024x5120, .f32⟩
  | .hbm, ⟨3, _⟩ => ⟨S4096x5120, .bf16⟩
  | .hbm, ⟨4, _⟩ => ⟨S4096x5120, .f32⟩
  | .hbm, ⟨5, _⟩ => ⟨S4096x1024, .f32⟩
  | _, _ => ⟨S4096x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel10.lean ====
abbrev S4096x2816 : Shape := ⟨2, ![4096, 2816]⟩
abbrev S4096x1024 : Shape := ⟨2, ![4096, 1024]⟩
abbrev S4096x4x704 : Shape := ⟨3, ![4096, 4, 704]⟩
abbrev S_ : Shape := ⟨0, ![]⟩
abbrev S4096x4x768 : Shape := ⟨3, ![4096, 4, 768]⟩
abbrev S4096x3072 : Shape := ⟨2, ![4096, 3072]⟩
abbrev S1024x4096 : Shape := ⟨2, ![1024, 4096]⟩
abbrev S4x1024x768 : Shape := ⟨3, ![4, 1024, 768]⟩
abbrev S8x128 : Shape := ⟨2, ![8, 128]⟩
abbrev S4096x768 : Shape := ⟨2, ![4096, 768]⟩
abbrev S1x1024x768 : Shape := ⟨3, ![1, 1024, 768]⟩
abbrev S1024x768 : Shape := ⟨2, ![1024, 768]⟩

abbrev nBuf : Space → Nat
  | .hbm => 12
  | .vmem => 6
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S4096x4x704, .f32⟩
  | .hbm, ⟨3, _⟩ => ⟨S_, .i32⟩
  | .hbm, ⟨4, _⟩ => ⟨S_, .f32⟩
  | .hbm, ⟨5, _⟩ => ⟨S4096x4x768, .f32⟩
  | .hbm, ⟨6, _⟩ => ⟨S4096x3072, .f32⟩
  | .hbm, ⟨7, _⟩ => ⟨S4096x3072, .bf16⟩
  | .hbm, ⟨8, _⟩ => ⟨S1024x4096, .f32⟩
  | .hbm, ⟨9, _⟩ => ⟨S1024x4096, .bf16⟩
  | .hbm, ⟨10, _⟩ => ⟨S4x1024x768, .bf16⟩
  | .hbm, ⟨11, _⟩ => ⟨S8x128, .f32⟩
  | .local _ .vmem, ⟨0, _⟩ => ⟨S1024x4096, .bf16⟩
  | .local _ .vmem, ⟨1, _⟩ => ⟨S4096x768, .bf16⟩
  | .local _ .vmem, ⟨2, _⟩ => ⟨S4096x768, .bf16⟩
  | .local _ .vmem, ⟨3, _⟩ => ⟨S1x1024x768, .bf16⟩
  | .local _ .vmem, ⟨4, _⟩ => ⟨S1x1024x768, .bf16⟩
  | .local _ .vmem, ⟨5, _⟩ => ⟨S8x128, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let v27 : BitVec 32 := Scalar.addi c0_i32_11 v26
  let c0_i32_12 : BitVec 32 := 0#32
  let c0_i32_13 : BitVec 32 := 0#32
  ![v16.toNat, c0_i32_12.toNat, v27.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference10Ideal.lean ====
abbrev S4096x2816 : Shape := ⟨2, ![4096, 2816]⟩
abbrev S4096x1024 : Shape := ⟨2, ![4096, 1024]⟩
abbrev S1024x2816 : Shape := ⟨2, ![1024, 2816]⟩
abbrev S2816x1024 : Shape := ⟨2, ![2816, 1024]⟩
abbrev S4x704x1024 : Shape := ⟨3, ![4, 704, 1024]⟩
abbrev S_ : Shape := ⟨0, ![]⟩
abbrev S4x768x1024 : Shape := ⟨3, ![4, 768, 1024]⟩
abbrev S4x1024x768 : Shape := ⟨3, ![4, 1024, 768]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S1024x2816, .f32⟩
  | .hbm, ⟨3, _⟩ => ⟨S2816x1024, .f32⟩
  | .hbm, ⟨4, _⟩ => ⟨S4x704x1024, .f32⟩
  | .hbm, ⟨5, _⟩ => ⟨S_, .i32⟩
  | .hbm, ⟨6, _⟩ => ⟨S_, .f32⟩
  | .hbm, ⟨7, _⟩ => ⟨S4x768x1024, .f32⟩
  | .hbm, ⟨8, _⟩ => ⟨S4x1024x768, .f32⟩
  | .hbm, ⟨9, _⟩ => ⟨S4x1024x768, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel11.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S4096x4x704 : Shape := ⟨3, ![4096, 4, 704]⟩
abbrev S_ : Shape := ⟨0, ![]⟩
abbrev S4096x4x768 : Shape := ⟨3, ![4096, 4, 768]⟩
abbrev S4096x3072 : Shape := ⟨2, ![4096, 3072]⟩
abbrev S1024x2816 : Shape := ⟨2, ![1024, 2816]⟩
abbrev S1024x4x704 : Shape := ⟨3, ![1024, 4, 704]⟩
abbrev S1024x4x768 : Shape := ⟨3, ![1024, 4, 768]⟩
abbrev S4x1024x768 : Shape := ⟨3, ![4, 1024, 768]⟩
abbrev S1024x4096 : Shape := ⟨2, ![1024, 4096]⟩
abbrev S512x3072 : Shape := ⟨2, ![512, 3072]⟩
abbrev S512x1024 : Shape := ⟨2, ![512, 1024]⟩
abbrev S1024x512 : Shape := ⟨2, ![1024, 512]⟩
abbrev S256x768 : Shape := ⟨2, ![256, 768]⟩
abbrev S1x1024x768 : Shape := ⟨3, ![1, 1024, 768]⟩
abbrev S1024x768 : Shape := ⟨2, ![1024, 768]⟩
abbrev S256x1024 : Shape := ⟨2, ![256, 1024]⟩
abbrev S256 : Shape := ⟨1, ![256]⟩
abbrev S256x1 : Shape := ⟨2, ![256, 1]⟩
abbrev S1024x256 : Shape := ⟨2, ![1024, 256]⟩

abbrev nBuf : Space → Nat
  | .hbm => 22
  | .vmem => 15
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x4x704, .f32⟩
  | .hbm, ⟨6, _⟩ => ⟨S_, .i32⟩
  | .hbm, ⟨7, _⟩ => ⟨S_, .f32⟩
  | .hbm, ⟨8, _⟩ => ⟨S4096x4x768, .f32⟩
  | .hbm, ⟨9, _⟩ => ⟨S4096x3072, .f32⟩
  | .hbm, ⟨10, _⟩ => ⟨S4096x3072, .bf16⟩
  | .hbm, ⟨11, _⟩ => ⟨S1024x2816, .f32⟩
  | .hbm, ⟨12, _⟩ => ⟨S1024x4x704, .f32⟩
  | .hbm, ⟨13, _⟩ => ⟨S_, .i32⟩
  | .hbm, ⟨14, _⟩ => ⟨S_, .f32⟩
  | .hbm, ⟨15, _⟩ => ⟨S1024x4x768, .f32⟩
  | .hbm, ⟨16, _⟩ => ⟨S4x1024x768, .f32⟩
  | .hbm, ⟨17, _⟩ => ⟨S4x1024x768, .bf16⟩
  | .hbm, ⟨18, _⟩ => ⟨S4096x1024, .f32⟩
  | .hbm, ⟨19, _⟩ => ⟨S4096x1024, .f32⟩
  | .hbm, ⟨20, _⟩ => ⟨S4096x1024, .bf16⟩
  | .hbm, ⟨21, _⟩ => ⟨S1024x4096, .bf16⟩
  | .local _ .vmem, ⟨0, _⟩ => ⟨S512x3072, .bf16⟩
  | .local _ .vmem, ⟨1, _⟩ => ⟨S512x3072, .bf16⟩
  | .local _ .vmem, ⟨2, _⟩ => ⟨S4x1024x768, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S1024x512, .bf16⟩
  | .local _ .vmem, ⟨14, _⟩ => ⟨S1024x512, .bf16⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_call1_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev main_v9_2 : Ref sig .tc := ⟨.hbm, 20, rfl⟩
abbrev main_v9_3 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference11Ideal.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S_ : Shape := ⟨0, ![]⟩
abbrev S1024 : Shape := ⟨1, ![1024]⟩
abbrev S4096 : Shape := ⟨1, ![4096]⟩
abbrev S4096x1 : Shape := ⟨2, ![4096, 1]⟩
abbrev S1024x4096 : Shape := ⟨2, ![1024, 4096]⟩

abbrev nBuf : Space → Nat
  | .hbm => 47
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S1024, .f32⟩
  | .hbm, ⟨14, _⟩ => ⟨S1024, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S1x1024, .f32⟩
  | .hbm, ⟨42, _⟩ => ⟨S4096x1024, .f32⟩
  | .hbm, ⟨43, _⟩ => ⟨S4096x1024, .f32⟩
  | .hbm, ⟨44, _⟩ => ⟨S4096x1024, .bf16⟩
  | .hbm, ⟨45, _⟩ => ⟨S1024x4096, .f32⟩
  | .hbm, ⟨46, _⟩ => ⟨S1024x4096, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Kernel12.lean ====
abbrev S4096x2048 : Shape := ⟨2, ![4096, 2048]⟩
abbrev S4096x1024 : Shape := ⟨2, ![4096, 1024]⟩
abbrev S4096x10240 : Shape := ⟨2, ![4096, 10240]⟩
abbrev S2048x1024 : Shape := ⟨2, ![2048, 1024]⟩
abbrev S1024x1024 : Shape := ⟨2, ![1024, 1024]⟩
abbrev S4x512x1024 : Shape := ⟨3, ![4, 512, 1024]⟩
abbrev S4x1024x512 : Shape := ⟨3, ![4, 1024, 512]⟩
abbrev S4x256x1024 : Shape := ⟨3, ![4, 256, 1024]⟩
abbrev S4x1024x256 : Shape := ⟨3, ![4, 1024, 256]⟩
abbrev S4x1024x1024 : Shape := ⟨3, ![4, 1024, 1024]⟩
abbrev S512x2048 : Shape := ⟨2, ![512, 2048]⟩
abbrev S512x1024 : Shape := ⟨2, ![512, 1024]⟩
abbrev S512x512 : Shape := ⟨2, ![512, 512]⟩
abbrev S1x1024x512 : Shape := ⟨3, ![1, 1024, 512]⟩
abbrev S1024x512 : Shape := ⟨2, ![1024, 512]⟩
abbrev S512x256 : Shape := ⟨2, ![512, 256]⟩
abbrev S1x1024x256 : Shape := ⟨3, ![1, 1024, 256]⟩
abbrev S1024x256 : Shape := ⟨2, ![1024, 256]⟩

abbrev nBuf : Space → Nat
  | .hbm => 19
  | .vmem => 16
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S4096x10240, .bf16⟩
  | .hbm, ⟨3, _⟩ => ⟨S2048x1024, .f32⟩
  | .hbm, ⟨4, _⟩ => ⟨S1024x1024, .f32⟩
  | .hbm, ⟨5, _⟩ => ⟨S1024x1024, .f32⟩
  | .hbm, ⟨6, _⟩ => ⟨S4x512x1024, .f32⟩
  | .hbm, ⟨7, _⟩ => ⟨S4x1024x512, .f32⟩
  | .hbm, ⟨8, _⟩ => ⟨S4x256x1024, .f32⟩
  | .hbm, ⟨9, _⟩ => ⟨S4x1024x256, .f32⟩
  | .hbm, ⟨10, _⟩ => ⟨S4x256x1024, .f32⟩
  | .hbm, ⟨11, _⟩ => ⟨S4x1024x256, .f32⟩
  | .hbm, ⟨12, _⟩ => ⟨S4x1024x1024, .f32⟩
  | .hbm, ⟨13, _⟩ => ⟨S4x1024x1024, .bf16⟩
  | .hbm, ⟨14, _⟩ => ⟨S4096x2048, .bf16⟩
  | .hbm, ⟨15, _⟩ => ⟨S4096x1024, .bf16⟩
  | .hbm, ⟨16, _⟩ => ⟨S4096x1024, .bf16⟩
  | .hbm, ⟨17, _⟩ => ⟨S4096x1024, .bf16⟩
  | .hbm, ⟨18, _⟩ => ⟨S4096x1024, .bf16⟩
  | .local _ .vmem, ⟨0, _⟩ => ⟨S512x2048, .bf16⟩
  | .local _ .vmem, ⟨1, _⟩ => ⟨S512x2048, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S4x1024x512, .bf16⟩
  | .local _ .vmem, ⟨9, _⟩ => ⟨S4x1024x256, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev main_v10_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_3 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c2_i32 : BitVec 32 := 2#32
  let c0_i32_1 : BitVec 32 := 0#32
  ![c0_i32.toNat, c0_i32_0.toNat, c2_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference12Ideal.lean ====
abbrev S4096x2048 : Shape := ⟨2, ![4096, 2048]⟩
abbrev S4096x1024 : Shape := ⟨2, ![4096, 1024]⟩
abbrev S4096x10240 : Shape := ⟨2, ![4096, 10240]⟩
abbrev S2048x1024 : Shape := ⟨2, ![2048, 1024]⟩
abbrev S1024x1024 : Shape := ⟨2, ![1024, 1024]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S4096x10240, .bf16⟩
  | .hbm, ⟨3, _⟩ => ⟨S2048x1024, .f32⟩
  | .hbm, ⟨4, _⟩ => ⟨S1024x1024, .f32⟩
  | .hbm, ⟨5, _⟩ => ⟨S1024x1024, .f32⟩
  | .hbm, ⟨6, _⟩ => ⟨S4096x1024, .bf16⟩
  | .hbm, ⟨7, _⟩ => ⟨S4096x1024, .f32⟩
  | .hbm, ⟨8, _⟩ => ⟨S4096x1024, .bf16⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .bf16⟩
  | .hbm, ⟨32, _⟩ => ⟨S4096x1024, .bf16⟩
  | .hbm, ⟨33, _⟩ => ⟨S4096x1024, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]
-- ==== Kernel13.lean ====
abbrev S4096x1024 : Shape := ⟨2, ![4096, 1024]⟩
abbrev S4096x2816 : Shape := ⟨2, ![4096, 2816]⟩
abbrev S4x1024x1536 : Shape := ⟨3, ![4, 1024, 1536]⟩
abbrev S4096x4x704 : Shape := ⟨3, ![4096, 4, 704]⟩
abbrev S_ : Shape := ⟨0, ![]⟩
abbrev S4096x4x768 : Shape := ⟨3, ![4096, 4, 768]⟩
abbrev S4096x3072 : Shape := ⟨2, ![4096, 3072]⟩
abbrev S1024x4096 : Shape := ⟨2, ![1024, 4096]⟩
abbrev S8x128 : Shape := ⟨2, ![8, 128]⟩
abbrev S4096x768 : Shape := ⟨2, ![4096, 768]⟩
abbrev S1x1024x768 : Shape := ⟨3, ![1, 1024, 768]⟩
abbrev S1024x768 : Shape := ⟨2, ![1024, 768]⟩

abbrev nBuf : Space → Nat
  | .hbm => 13
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S4x1024x1536, .bf16⟩
  | .hbm, ⟨3, _⟩ => ⟨S4096x4x704, .f32⟩
  | .hbm, ⟨4, _⟩ => ⟨S_, .i32⟩
  | .hbm, ⟨5, _⟩ => ⟨S_, .f32⟩
  | .hbm, ⟨6, _⟩ => ⟨S4096x4x768, .f32⟩
  | .hbm, ⟨7, _⟩ => ⟨S4096x3072, .f32⟩
  | .hbm, ⟨8, _⟩ => ⟨S4096x3072, .bf16⟩
  | .hbm, ⟨9, _⟩ => ⟨S1024x4096, .f32⟩
  | .hbm, ⟨10, _⟩ => ⟨S1024x4096, .bf16⟩
  | .hbm, ⟨11, _⟩ => ⟨S4x1024x1536, .bf16⟩
  | .hbm, ⟨12, _⟩ => ⟨S8x128, .f32⟩
  | .local _ .vmem, ⟨0, _⟩ => ⟨S1024x4096, .bf16⟩
  | .local _ .vmem, ⟨1, _⟩ => ⟨S4096x768, .bf16⟩
  | .local _ .vmem, ⟨2, _⟩ => ⟨S4096x768, .bf16⟩
  | .local _ .vmem, ⟨3, _⟩ => ⟨S1x1024x768, .bf16⟩
  | .local _ .vmem, ⟨4, _⟩ => ⟨S1x1024x768, .bf16⟩
  | .local _ .vmem, ⟨5, _⟩ => ⟨S8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c1_i32_11 : BitVec 32 := 1#32
  let v27 : BitVec 32 := Scalar.addi c1_i32_11 v26
  let c0_i32_12 : BitVec 32 := 0#32
  let c0_i32_13 : BitVec 32 := 0#32
  ![v16.toNat, c0_i32_12.toNat, v27.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference13Ideal.lean ====
abbrev S4096x1024 : Shape := ⟨2, ![4096, 1024]⟩
abbrev S4096x2816 : Shape := ⟨2, ![4096, 2816]⟩
abbrev S4x1024x1536 : Shape := ⟨3, ![4, 1024, 1536]⟩
abbrev S2816x1024 : Shape := ⟨2, ![2816, 1024]⟩
abbrev S1024x2816 : Shape := ⟨2, ![1024, 2816]⟩
abbrev S1024x4x704 : Shape := ⟨3, ![1024, 4, 704]⟩
abbrev S_ : Shape := ⟨0, ![]⟩
abbrev S1024x4x768 : Shape := ⟨3, ![1024, 4, 768]⟩
abbrev S4x1024x768 : Shape := ⟨3, ![4, 1024, 768]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S4x1024x1536, .bf16⟩
  | .hbm, ⟨3, _⟩ => ⟨S2816x1024, .f32⟩
  | .hbm, ⟨4, _⟩ => ⟨S1024x2816, .f32⟩
  | .hbm, ⟨5, _⟩ => ⟨S1024x4x704, .f32⟩
  | .hbm, ⟨6, _⟩ => ⟨S_, .i32⟩
  | .hbm, ⟨7, _⟩ => ⟨S_, .f32⟩
  | .hbm, ⟨8, _⟩ => ⟨S1024x4x768, .f32⟩
  | .hbm, ⟨9, _⟩ => ⟨S4x1024x768, .bf16⟩
  | .hbm, ⟨10, _⟩ => ⟨S4x1024x768, .f32⟩
  | .hbm, ⟨11, _⟩ => ⟨S4x1024x768, .bf16⟩
  | .hbm, ⟨12, _⟩ => ⟨S4x1024x1536, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Kernel14.lean ====
abbrev S4096x2816 : Shape := ⟨2, ![4096, 2816]⟩
abbrev S1024x2816 : Shape := ⟨2, ![1024, 2816]⟩
abbrev S2816x1024 : Shape := ⟨2, ![2816, 1024]⟩
abbrev S4096x1024 : Shape := ⟨2, ![4096, 1024]⟩
abbrev S1x1024 : Shape := ⟨2, ![1, 1024]⟩
abbrev S4096x4x704 : Shape := ⟨3, ![4096, 4, 704]⟩
abbrev S_ : Shape := ⟨0, ![]⟩
abbrev S4096x4x768 : Shape := ⟨3, ![4096, 4, 768]⟩
abbrev S4096x3072 : Shape := ⟨2, ![4096, 3072]⟩
abbrev S1024x4x704 : Shape := ⟨3, ![1024, 4, 704]⟩
abbrev S1024x4x768 : Shape := ⟨3, ![1024, 4, 768]⟩
abbrev S4x1024x768 : Shape := ⟨3, ![4, 1024, 768]⟩
abbrev S4x1024x2304 : Shape := ⟨3, ![4, 1024, 2304]⟩
abbrev S512x3072 : Shape := ⟨2, ![512, 3072]⟩
abbrev S512x1024 : Shape := ⟨2, ![512, 1024]⟩
abbrev S256x768 : Shape := ⟨2, ![256, 768]⟩
abbrev S1x1024x768 : Shape := ⟨3, ![1, 1024, 768]⟩
abbrev S1024x768 : Shape := ⟨2, ![1024, 768]⟩
abbrev S256x1024 : Shape := ⟨2, ![256, 1024]⟩

abbrev nBuf : Space → Nat
  | .hbm => 32
  | .vmem => 9
  | .smem => 0
  | _ => 0

abbrev bufTy : (tb : Table) → Fin (tcTables nBuf tb) → BufTy
  | .hbm, ⟨0, _⟩ => ⟨S4096x2816, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S4096x1024, .f32⟩
  | .hbm, ⟨5, _⟩ => ⟨S1x1024, .f32⟩
  | .hbm, ⟨6, _⟩ => ⟨S1x1024, .f32⟩
  | .hbm, ⟨7, _⟩ => ⟨S4096x4x704, .f32⟩
  | .hbm, ⟨8, _⟩ => ⟨S_, .i32⟩
  | .hbm, ⟨9, _⟩ => ⟨S_, .f32⟩
  | .hbm, ⟨10, _⟩ => ⟨S4096x4x768, .f32⟩
  | .hbm, ⟨11, _⟩ => ⟨S4096x3072, .f32⟩
  | .hbm, ⟨12, _⟩ => ⟨S4096x3072, .bf16⟩
  | .hbm, ⟨13, _⟩ => ⟨S1024x2816, .f32⟩
  | .hbm, ⟨14, _⟩ => ⟨S1024x4x704, .f32⟩
  | .hbm, ⟨15, _⟩ => ⟨S_, .i32⟩
  | .hbm, ⟨16, _⟩ => ⟨S_, .f32⟩
  | .hbm, ⟨17, _⟩ => ⟨S1024x4x768, .f32⟩
  | .hbm, ⟨18, _⟩ => ⟨S4x1024x768, .f32⟩
  | .hbm, ⟨19, _⟩ => ⟨S1024x4x704, .f32⟩
  | .hbm, ⟨20, _⟩ => ⟨S_, .i32⟩
  | .hbm, ⟨21, _⟩ => ⟨S_, .f32⟩
  | .hbm, ⟨22, _⟩ => ⟨S1024x4x768, .f32⟩
  | .hbm, ⟨23, _⟩ => ⟨S4x1024x768, .f32⟩
  | .hbm, ⟨24, _⟩ => ⟨S1024x4x704, .f32⟩
  | .hbm, ⟨25, _⟩ => ⟨S_, .i32⟩
  | .hbm, ⟨26, _⟩ => ⟨S_, .f32⟩
  | .hbm, ⟨27, _⟩ => ⟨S1024x4x768, .f32⟩
  | .hbm, ⟨28, _⟩ => ⟨S4x1024x768, .f32⟩
  | .hbm, ⟨29, _⟩ => ⟨S4x1024x2304, .f32⟩
  | .hbm, ⟨30, _⟩ => ⟨S4x1024x2304, .bf16⟩
  | .hbm, ⟨31, _⟩ => ⟨S4096x1024, .f32⟩
  | .local _ .vmem, ⟨0, _⟩ => ⟨S512x3072, .bf16⟩
  | .local _ .vmem, ⟨1, _⟩ => ⟨S512x3072, .bf16⟩
  | .local _ .vmem, ⟨2, _⟩ => ⟨S4x1024x768, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_call1_v0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_1 : Ref sig .tc := ⟨.hbm, 20, rfl⟩
abbrev main_call2_v0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c_2 : Ref sig .tc := ⟨.hbm, 25, rfl⟩
abbrev main_call3_v0 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c2_i32 : BitVec 32 := 2#32
  let c0_i32_1 : BitVec 32 := 0#32
  ![c0_i32.toNat, c0_i32_0.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference14Ideal.lean ====
abbrev S4096x2816 : Shape := ⟨2, ![4096, 2816]⟩
abbrev S1024x2816 : Shape := ⟨2, ![1024, 2816]⟩
abbrev S2816x1024 : Shape := ⟨2, ![2816, 1024]⟩
abbrev S4096x1024 : Shape := ⟨2, ![4096, 1024]⟩
abbrev S1x1024 : Shape := ⟨2, ![1, 1024]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S4096x1024, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S4096x1024, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩

abbrev nD : Nat := 1
abbrev τ : Topo := Topo.v7x

variable {F : FTy → Type} [FloatOps F]
-- ==== Kernel16.lean ====
abbrev S4096x1024 : Shape := ⟨2, ![4096, 1024]⟩
abbrev S4096x2816 : Shape := ⟨2, ![4096, 2816]⟩
abbrev S4x1024x2304 : Shape := ⟨3, ![4, 1024, 2304]⟩
abbrev S4096x4x704 : Shape := ⟨3, ![4096, 4, 704]⟩
abbrev S_ : Shape := ⟨0, ![]⟩
abbrev S4096x4x768 : Shape := ⟨3, ![4096, 4, 768]⟩
abbrev S4096x3072 : Shape := ⟨2, ![4096, 3072]⟩
abbrev S1024x4096 : Shape := ⟨2, ![1024, 4096]⟩
abbrev S8x128 : Shape := ⟨2, ![8, 128]⟩
abbrev S4096x768 : Shape := ⟨2, ![4096, 768]⟩
abbrev S1x1024x768 : Shape := ⟨3, ![1, 1024, 768]⟩
abbrev S1024x768 : Shape := ⟨2, ![1024, 768]⟩

abbrev nBuf : Space → Nat
  | .hbm => 13
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S4x1024x2304, .bf16⟩
  | .hbm, ⟨3, _⟩ => ⟨S4096x4x704, .f32⟩
  | .hbm, ⟨4, _⟩ => ⟨S_, .i32⟩
  | .hbm, ⟨5, _⟩ => ⟨S_, .f32⟩
  | .hbm, ⟨6, _⟩ => ⟨S4096x4x768, .f32⟩
  | .hbm, ⟨7, _⟩ => ⟨S4096x3072, .f32⟩
  | .hbm, ⟨8, _⟩ => ⟨S4096x3072, .bf16⟩
  | .hbm, ⟨9, _⟩ => ⟨S1024x4096, .f32⟩
  | .hbm, ⟨10, _⟩ => ⟨S1024x4096, .bf16⟩
  | .hbm, ⟨11, _⟩ => ⟨S4x1024x2304, .bf16⟩
  | .hbm, ⟨12, _⟩ => ⟨S8x128, .f32⟩
  | .local _ .vmem, ⟨0, _⟩ => ⟨S1024x4096, .bf16⟩
  | .local _ .vmem, ⟨1, _⟩ => ⟨S4096x768, .bf16⟩
  | .local _ .vmem, ⟨2, _⟩ => ⟨S4096x768, .bf16⟩
  | .local _ .vmem, ⟨3, _⟩ => ⟨S1x1024x768, .bf16⟩
  | .local _ .vmem, ⟨4, _⟩ => ⟨S1x1024x768, .bf16⟩
  | .local _ .vmem, ⟨5, _⟩ => ⟨S8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c1_i32_11 : BitVec 32 := 1#32
  let v27 : BitVec 32 := Scalar.addi c1_i32_11 v26
  let c0_i32_12 : BitVec 32 := 0#32
  let c0_i32_13 : BitVec 32 := 0#32
  ![v16.toNat, c0_i32_12.toNat, v27.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference16Ideal.lean ====
abbrev S4096x1024 : Shape := ⟨2, ![4096, 1024]⟩
abbrev S4096x2816 : Shape := ⟨2, ![4096, 2816]⟩
abbrev S4x1024x2304 : Shape := ⟨3, ![4, 1024, 2304]⟩
abbrev S2816x1024 : Shape := ⟨2, ![2816, 1024]⟩
abbrev S1024x2816 : Shape := ⟨2, ![1024, 2816]⟩
abbrev S1024x4x704 : Shape := ⟨3, ![1024, 4, 704]⟩
abbrev S_ : Shape := ⟨0, ![]⟩
abbrev S1024x4x768 : Shape := ⟨3, ![1024, 4, 768]⟩
abbrev S4x1024x768 : Shape := ⟨3, ![4, 1024, 768]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S4x1024x2304, .bf16⟩
  | .hbm, ⟨3, _⟩ => ⟨S2816x1024, .f32⟩
  | .hbm, ⟨4, _⟩ => ⟨S1024x2816, .f32⟩
  | .hbm, ⟨5, _⟩ => ⟨S1024x4x704, .f32⟩
  | .hbm, ⟨6, _⟩ => ⟨S_, .i32⟩
  | .hbm, ⟨7, _⟩ => ⟨S_, .f32⟩
  | .hbm, ⟨8, _⟩ => ⟨S1024x4x768, .f32⟩
  | .hbm, ⟨9, _⟩ => ⟨S4x1024x768, .bf16⟩
  | .hbm, ⟨10, _⟩ => ⟨S4x1024x768, .f32⟩
  | .hbm, ⟨11, _⟩ => ⟨S4x1024x768, .bf16⟩
  | .hbm, ⟨12, _⟩ => ⟨S4x1024x768, .bf16⟩
  | .hbm, ⟨13, _⟩ => ⟨S4x1024x2304, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel17.lean ====
abbrev S4096x1024 : Shape := ⟨2, ![4096, 1024]⟩
abbrev S4096x2816 : Shape := ⟨2, ![4096, 2816]⟩
abbrev S4x1024x2304 : Shape := ⟨3, ![4, 1024, 2304]⟩
abbrev S4096x4x704 : Shape := ⟨3, ![4096, 4, 704]⟩
abbrev S_ : Shape := ⟨0, ![]⟩
abbrev S4096x4x768 : Shape := ⟨3, ![4096, 4, 768]⟩
abbrev S4096x3072 : Shape := ⟨2, ![4096, 3072]⟩
abbrev S1024x4096 : Shape := ⟨2, ![1024, 4096]⟩
abbrev S8x128 : Shape := ⟨2, ![8, 128]⟩
abbrev S4096x768 : Shape := ⟨2, ![4096, 768]⟩
abbrev S1x1024x768 : Shape := ⟨3, ![1, 1024, 768]⟩
abbrev S1024x768 : Shape := ⟨2, ![1024, 768]⟩

abbrev nBuf : Space → Nat
  | .hbm => 13
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S4x1024x2304, .bf16⟩
  | .hbm, ⟨3, _⟩ => ⟨S4096x4x704, .f32⟩
  | .hbm, ⟨4, _⟩ => ⟨S_, .i32⟩
  | .hbm, ⟨5, _⟩ => ⟨S_, .f32⟩
  | .hbm, ⟨6, _⟩ => ⟨S4096x4x768, .f32⟩
  | .hbm, ⟨7, _⟩ => ⟨S4096x3072, .f32⟩
  | .hbm, ⟨8, _⟩ => ⟨S4096x3072, .bf16⟩
  | .hbm, ⟨9, _⟩ => ⟨S1024x4096, .f32⟩
  | .hbm, ⟨10, _⟩ => ⟨S1024x4096, .bf16⟩
  | .hbm, ⟨11, _⟩ => ⟨S4x1024x2304, .bf16⟩
  | .hbm, ⟨12, _⟩ => ⟨S8x128, .f32⟩
  | .local _ .vmem, ⟨0, _⟩ => ⟨S1024x4096, .bf16⟩
  | .local _ .vmem, ⟨1, _⟩ => ⟨S4096x768, .bf16⟩
  | .local _ .vmem, ⟨2, _⟩ => ⟨S4096x768, .bf16⟩
  | .local _ .vmem, ⟨3, _⟩ => ⟨S1x1024x768, .bf16⟩
  | .local _ .vmem, ⟨4, _⟩ => ⟨S1x1024x768, .bf16⟩
  | .local _ .vmem, ⟨5, _⟩ => ⟨S8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let v27 : BitVec 32 := Scalar.addi c0_i32_11 v26
  let c0_i32_12 : BitVec 32 := 0#32
  let c0_i32_13 : BitVec 32 := 0#32
  ![v16.toNat, c0_i32_12.toNat, v27.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference17Ideal.lean ====
abbrev S4096x1024 : Shape := ⟨2, ![4096, 1024]⟩
abbrev S4096x2816 : Shape := ⟨2, ![4096, 2816]⟩
abbrev S4x1024x2304 : Shape := ⟨3, ![4, 1024, 2304]⟩
abbrev S2816x1024 : Shape := ⟨2, ![2816, 1024]⟩
abbrev S1024x2816 : Shape := ⟨2, ![1024, 2816]⟩
abbrev S1024x4x704 : Shape := ⟨3, ![1024, 4, 704]⟩
abbrev S_ : Shape := ⟨0, ![]⟩
abbrev S1024x4x768 : Shape := ⟨3, ![1024, 4, 768]⟩
abbrev S4x1024x768 : Shape := ⟨3, ![4, 1024, 768]⟩
abbrev S4x1024x1536 : Shape := ⟨3, ![4, 1024, 1536]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S4x1024x2304, .bf16⟩
  | .hbm, ⟨3, _⟩ => ⟨S2816x1024, .f32⟩
  | .hbm, ⟨4, _⟩ => ⟨S1024x2816, .f32⟩
  | .hbm, ⟨5, _⟩ => ⟨S1024x4x704, .f32⟩
  | .hbm, ⟨6, _⟩ => ⟨S_, .i32⟩
  | .hbm, ⟨7, _⟩ => ⟨S_, .f32⟩
  | .hbm, ⟨8, _⟩ => ⟨S1024x4x768, .f32⟩
  | .hbm, ⟨9, _⟩ => ⟨S4x1024x768, .f32⟩
  | .hbm, ⟨10, _⟩ => ⟨S4x1024x768, .bf16⟩
  | .hbm, ⟨11, _⟩ => ⟨S4x1024x1536, .bf16⟩
  | .hbm, ⟨12, _⟩ => ⟨S4x1024x2304, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Kernel18.lean ====
abbrev S4096x2048 : Shape := ⟨2, ![4096, 2048]⟩
abbrev S4096x1024 : Shape := ⟨2, ![4096, 1024]⟩
abbrev S4x1024x1024 : Shape := ⟨3, ![4, 1024, 1024]⟩
abbrev S1024x4096 : Shape := ⟨2, ![1024, 4096]⟩
abbrev S8x128 : Shape := ⟨2, ![8, 128]⟩
abbrev S4096x512 : Shape := ⟨2, ![4096, 512]⟩
abbrev S1x1024x512 : Shape := ⟨3, ![1, 1024, 512]⟩
abbrev S1024x512 : Shape := ⟨2, ![1024, 512]⟩

abbrev nBuf : Space → Nat
  | .hbm => 8
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S4x1024x1024, .bf16⟩
  | .hbm, ⟨3, _⟩ => ⟨S1024x4096, .f32⟩
  | .hbm, ⟨4, _⟩ => ⟨S1024x4096, .bf16⟩
  | .hbm, ⟨5, _⟩ => ⟨S4096x2048, .bf16⟩
  | .hbm, ⟨6, _⟩ => ⟨S4x1024x1024, .bf16⟩
  | .hbm, ⟨7, _⟩ => ⟨S8x128, .f32⟩
  | .local _ .vmem, ⟨0, _⟩ => ⟨S1024x4096, .bf16⟩
  | .local _ .vmem, ⟨1, _⟩ => ⟨S4096x512, .bf16⟩
  | .local _ .vmem, ⟨2, _⟩ => ⟨S4096x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S8x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let v27 : BitVec 32 := Scalar.addi c0_i32_11 v26
  let c0_i32_12 : BitVec 32 := 0#32
  let c0_i32_13 : BitVec 32 := 0#32
  ![v16.toNat, c0_i32_12.toNat, v27.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference18Ideal.lean ====
abbrev S4096x2048 : Shape := ⟨2, ![4096, 2048]⟩
abbrev S4096x1024 : Shape := ⟨2, ![4096, 1024]⟩
abbrev S4x1024x1024 : Shape := ⟨3, ![4, 1024, 1024]⟩
abbrev S1024x2048 : Shape := ⟨2, ![1024, 2048]⟩
abbrev S2048x1024 : Shape := ⟨2, ![2048, 1024]⟩
abbrev S4x512x1024 : Shape := ⟨3, ![4, 512, 1024]⟩
abbrev S4x1024x512 : Shape := ⟨3, ![4, 1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S4x1024x1024, .bf16⟩
  | .hbm, ⟨3, _⟩ => ⟨S1024x2048, .f32⟩
  | .hbm, ⟨4, _⟩ => ⟨S2048x1024, .f32⟩
  | .hbm, ⟨5, _⟩ => ⟨S4x512x1024, .f32⟩
  | .hbm, ⟨6, _⟩ => ⟨S4x1024x512, .f32⟩
  | .hbm, ⟨7, _⟩ => ⟨S4x1024x512, .bf16⟩
  | .hbm, ⟨8, _⟩ => ⟨S4x1024x512, .bf16⟩
  | .hbm, ⟨9, _⟩ => ⟨S4x1024x1024, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel19.lean ====
abbrev S4096x1024 : Shape := ⟨2, ![4096, 1024]⟩
abbrev S4x1024x1024 : Shape := ⟨3, ![4, 1024, 1024]⟩
abbrev S1024x4096 : Shape := ⟨2, ![1024, 4096]⟩
abbrev S8x128 : Shape := ⟨2, ![8, 128]⟩
abbrev S4096x256 : Shape := ⟨2, ![4096, 256]⟩
abbrev S1x1024x256 : Shape := ⟨3, ![1, 1024, 256]⟩
abbrev S1024x256 : Shape := ⟨2, ![1024, 256]⟩

abbrev nBuf : Space → Nat
  | .hbm => 8
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4x1024x1024, .bf16⟩
  | .hbm, ⟨3, _⟩ => ⟨S1024x4096, .f32⟩
  | .hbm, ⟨4, _⟩ => ⟨S1024x4096, .bf16⟩
  | .hbm, ⟨5, _⟩ => ⟨S4096x1024, .bf16⟩
  | .hbm, ⟨6, _⟩ => ⟨S4x1024x1024, .bf16⟩
  | .hbm, ⟨7, _⟩ => ⟨S8x128, .f32⟩
  | .local _ .vmem, ⟨0, _⟩ => ⟨S1024x4096, .bf16⟩
  | .local _ .vmem, ⟨1, _⟩ => ⟨S4096x256, .bf16⟩
  | .local _ .vmem, ⟨2, _⟩ => ⟨S4096x256, .bf16⟩
  | .local _ .vmem, ⟨3, _⟩ => ⟨S1x1024x256, .bf16⟩
  | .local _ .vmem, ⟨4, _⟩ => ⟨S1x1024x256, .bf16⟩
  | .local _ .vmem, ⟨5, _⟩ => ⟨S8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c2_i32 : BitVec 32 := 2#32
  let v27 : BitVec 32 := Scalar.addi c2_i32 v26
  let c0_i32_11 : BitVec 32 := 0#32
  let c0_i32_12 : BitVec 32 := 0#32
  ![v16.toNat, c0_i32_11.toNat, v27.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference19Ideal.lean ====
abbrev S4096x1024 : Shape := ⟨2, ![4096, 1024]⟩
abbrev S4x1024x1024 : Shape := ⟨3, ![4, 1024, 1024]⟩
abbrev S1024x1024 : Shape := ⟨2, ![1024, 1024]⟩
abbrev S4x256x1024 : Shape := ⟨3, ![4, 256, 1024]⟩
abbrev S4x1024x256 : Shape := ⟨3, ![4, 1024, 256]⟩
abbrev S4x1024x512 : Shape := ⟨3, ![4, 1024, 512]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4x1024x1024, .bf16⟩
  | .hbm, ⟨3, _⟩ => ⟨S1024x1024, .f32⟩
  | .hbm, ⟨4, _⟩ => ⟨S1024x1024, .f32⟩
  | .hbm, ⟨5, _⟩ => ⟨S4x256x1024, .f32⟩
  | .hbm, ⟨6, _⟩ => ⟨S4x1024x256, .f32⟩
  | .hbm, ⟨7, _⟩ => ⟨S4x1024x256, .bf16⟩
  | .hbm, ⟨8, _⟩ => ⟨S4x1024x512, .bf16⟩
  | .hbm, ⟨9, _⟩ => ⟨S4x1024x256, .bf16⟩
  | .hbm, ⟨10, _⟩ => ⟨S4x1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Proof.RefOps.lean ====
/- Hand-written, untrusted. The reference's host operations outside its two loops, as lists, and @main as the chain of them. -/
module

public import proofs.«01_k».proof.Proof.Gen.ReferenceIdeal
public import Idealize.ShloMosaic.Lib.Pipeline.Kit
public import Idealize.ShloMosaic.Lib.Pipeline.Regions
public import Idealize.ShloMosaic.Lib.StableHlo.RunLoop

@[expose] public section

set_option maxRecDepth 4096

noncomputable section

namespace Cert.ReferenceIdeal.Run

open Idealize.ShloMosaic Idealize.ShloMosaic.TcCoe Idealize.ShloMosaic.StableHlo
open Idealize.SL Idealize.SL.RA Idealize.SL.BI
open scoped Idealize.SL.BI
open Idealize.SL.BI.BIBase Idealize.SL.Sem
open Cert.ReferenceIdeal.Gen

variable {F : FTy → Type} [FloatOps F]

/-- The contents of an array of shape `S`. -/
abbrev Arr (F : FTy → Type) (S : Shape) (e : EltTy) : Type := (⟨S, e⟩ : BufTy).Contents (Elt F)

/-- 60 host operations of @main, window 0 (statements 1 … 60), in order. -/
abbrev main_part0_ops0 : List (HloOp τ sig (Elt F)) :=
  ( nullary main_v0 (sitofp .f32 (iotaInDim S64 32 0))
  :: unary main_v0 main_v1 (Host.negf : Arr F S64 .f32 → Arr F S64 .f32)
  :: nullary main_cst (constant S_ .f32 0x42800000#32)
  :: unary main_cst main_v2 (broadcastInDim S64 ![] bcast_S_S64 : Arr F S_ .f32 → Arr F S64 .f32)
  :: binary main_v1 main_v2 main_v3 (Host.divf : Arr F S64 .f32 → Arr F S64 .f32 → Arr F S64 .f32)
  :: nullary main_cst_0 (constant S_ .f32 0x461C4000#32)
  :: unary main_cst_0 main_v4 (broadcastInDim S64 ![] bcast_S_S64 : Arr F S_ .f32 → Arr F S64 .f32)
  :: binary main_v4 main_v3 main_v5 (Host.powf : Arr F S64 .f32 → Arr F S64 .f32 → Arr F S64 .f32)
  :: nullary main_v6 (sitofp .f32 (iotaInDim S4096 32 0))
  :: unary main_v6 main_v7 (broadcastInDim S4096x1 ![0] bcast_S4096_S4096x1_0 : Arr F S4096 .f32 → Arr F S4096x1 .f32)
  :: unary main_v5 main_v8 (broadcastInDim S1x64 ![1] bcast_S64_S1x64_1 : Arr F S64 .f32 → Arr F S1x64 .f32)
  :: unary main_v7 main_v9 (broadcastInDim S4096x64 ![0, 1] bcast_S4096x1_S4096x64_0_1 : Arr F S4096x1 .f32 → Arr F S4096x64 .f32)
  :: unary main_v8 main_v10 (broadcastInDim S4096x64 ![0, 1] bcast_S1x64_S4096x64_0_1 : Arr F S1x64 .f32 → Arr F S4096x64 .f32)
  :: binary main_v9 main_v10 main_v11 (mulf : Arr F S4096x64 .f32 → Arr F S4096x64 .f32 → Arr F S4096x64 .f32)
  :: unary main_v11 main_v12 (Host.cos : Arr F S4096x64 .f32 → Arr F S4096x64 .f32)
  :: unary main_v12 main_v13 (broadcastInDim S4096x1x64 ![0, 2] bcast_S4096x64_S4096x1x64_0_2 : Arr F S4096x64 .f32 → Arr F S4096x1x64 .f32)
  :: unary main_v11 main_v14 (Host.sin : Arr F S4096x64 .f32 → Arr F S4096x64 .f32)
  :: unary main_v14 main_v15 (broadcastInDim S4096x1x64 ![0, 2] bcast_S4096x64_S4096x1x64_0_2 : Arr F S4096x64 .f32 → Arr F S4096x1x64 .f32)
  :: unary main_arg0 main_v16 (broadcastInDim S1x4096x4096 ![1, 2] bcast_S4096x4096_S1x4096x4096_1_2 : Arr F S4096x4096 .f32 → Arr F S1x4096x4096 .f32)
  :: unary main_v16 main_v17 ((extractStridedSlice S1x4096x1024 ![0, 0, 0] · slices_S1x4096x4096_S1x4096x1024_0_0_0) : Arr F S1x4096x4096 .f32 → Arr F S1x4096x1024 .f32)
  :: unary main_v16 main_v18 ((extractStridedSlice S1x4096x1024 ![0, 0, 1024] · slices_S1x4096x4096_S1x4096x1024_0_0_1024) : Arr F S1x4096x4096 .f32 → Arr F S1x4096x1024 .f32)
  :: unary main_v16 main_v19 ((extractStridedSlice S1x4096x2048 ![0, 0, 2048] · slices_S1x4096x4096_S1x4096x2048_0_0_2048) : Arr F S1x4096x4096 .f32 → Arr F S1x4096x2048 .f32)
  :: reshape main_v17 main_v20 (rfl : (.f32 : EltTy) = .f32) shapeCasts_S1x4096x1024_S1x4096x8x128
  :: unary main_v20 main_v21 ((extractStridedSlice S1x4096x8x64 ![0, 0, 0, 0] · slices_S1x4096x8x128_S1x4096x8x64_0_0_0_0) : Arr F S1x4096x8x128 .f32 → Arr F S1x4096x8x64 .f32)
  :: unary main_v20 main_v22 ((extractStridedSlice S1x4096x8x64 ![0, 0, 0, 64] · slices_S1x4096x8x128_S1x4096x8x64_0_0_0_64) : Arr F S1x4096x8x128 .f32 → Arr F S1x4096x8x64 .f32)
  :: unary main_v13 main_v23 (broadcastInDim S1x4096x1x64 ![1, 2, 3] bcast_S4096x1x64_S1x4096x1x64_1_2_3 : Arr F S4096x1x64 .f32 → Arr F S1x4096x1x64 .f32)
  :: unary main_v23 main_v24 (broadcastInDim S1x4096x8x64 ![0, 1, 2, 3] bcast_S1x4096x1x64_S1x4096x8x64_0_1_2_3 : Arr F S1x4096x1x64 .f32 → Arr F S1x4096x8x64 .f32)
  :: binary main_v21 main_v24 main_v25 (mulf : Arr F S1x4096x8x64 .f32 → Arr F S1x4096x8x64 .f32 → Arr F S1x4096x8x64 .f32)
  :: unary main_v15 main_v26 (broadcastInDim S1x4096x1x64 ![1, 2, 3] bcast_S4096x1x64_S1x4096x1x64_1_2_3 : Arr F S4096x1x64 .f32 → Arr F S1x4096x1x64 .f32)
  :: unary main_v26 main_v27 (broadcastInDim S1x4096x8x64 ![0, 1, 2, 3] bcast_S1x4096x1x64_S1x4096x8x64_0_1_2_3 : Arr F S1x4096x1x64 .f32 → Arr F S1x4096x8x64 .f32)
  :: binary main_v22 main_v27 main_v28 (mulf : Arr F S1x4096x8x64 .f32 → Arr F S1x4096x8x64 .f32 → Arr F S1x4096x8x64 .f32)
  :: binary main_v25 main_v28 main_v29 (subf : Arr F S1x4096x8x64 .f32 → Arr F S1x4096x8x64 .f32 → Arr F S1x4096x8x64 .f32)
  :: unary main_v13 main_v30 (broadcastInDim S1x4096x1x64 ![1, 2, 3] bcast_S4096x1x64_S1x4096x1x64_1_2_3 : Arr F S4096x1x64 .f32 → Arr F S1x4096x1x64 .f32)
  :: unary main_v30 main_v31 (broadcastInDim S1x4096x8x64 ![0, 1, 2, 3] bcast_S1x4096x1x64_S1x4096x8x64_0_1_2_3 : Arr F S1x4096x1x64 .f32 → Arr F S1x4096x8x64 .f32)
  :: binary main_v22 main_v31 main_v32 (mulf : Arr F S1x4096x8x64 .f32 → Arr F S1x4096x8x64 .f32 → Arr F S1x4096x8x64 .f32)
  :: unary main_v15 main_v33 (broadcastInDim S1x4096x1x64 ![1, 2, 3] bcast_S4096x1x64_S1x4096x1x64_1_2_3 : Arr F S4096x1x64 .f32 → Arr F S1x4096x1x64 .f32)
  :: unary main_v33 main_v34 (broadcastInDim S1x4096x8x64 ![0, 1, 2, 3] bcast_S1x4096x1x64_S1x4096x8x64_0_1_2_3 : Arr F S1x4096x1x64 .f32 → Arr F S1x4096x8x64 .f32)
  :: binary main_v21 main_v34 main_v35 (mulf : Arr F S1x4096x8x64 .f32 → Arr F S1x4096x8x64 .f32 → Arr F S1x4096x8x64 .f32)
  :: binary main_v32 main_v35 main_v36 (addf : Arr F S1x4096x8x64 .f32 → Arr F S1x4096x8x64 .f32 → Arr F S1x4096x8x64 .f32)
  :: binary main_v29 main_v36 main_v37 ((fun a b => concatenate S1x4096x8x128 3 [⟨S1x4096x8x64, a⟩, ⟨S1x4096x8x64, b⟩] concatenates_S1x4096x8x64_S1x4096x8x64_S1x4096x8x128_d3) : Arr F S1x4096x8x64 .f32 → Arr F S1x4096x8x64 .f32 → Arr F S1x4096x8x128 .f32)
  :: nullary main_cst_1 (constant S_ .f32 0x3DB504F3#32)
  :: unary main_cst_1 main_v38 (broadcastInDim S1x4096x8x128 ![] bcast_S_S1x4096x8x128 : Arr F S_ .f32 → Arr F S1x4096x8x128 .f32)
  :: binary main_v37 main_v38 main_v39 (mulf : Arr F S1x4096x8x128 .f32 → Arr F S1x4096x8x128 .f32 → Arr F S1x4096x8x128 .f32)
  :: reshape main_v18 main_v40 (rfl : (.f32 : EltTy) = .f32) shapeCasts_S1x4096x1024_S1x4096x8x128
  :: unary main_v40 main_v41 ((extractStridedSlice S1x4096x8x64 ![0, 0, 0, 0] · slices_S1x4096x8x128_S1x4096x8x64_0_0_0_0) : Arr F S1x4096x8x128 .f32 → Arr F S1x4096x8x64 .f32)
  :: unary main_v40 main_v42 ((extractStridedSlice S1x4096x8x64 ![0, 0, 0, 64] · slices_S1x4096x8x128_S1x4096x8x64_0_0_0_64) : Arr F S1x4096x8x128 .f32 → Arr F S1x4096x8x64 .f32)
  :: unary main_v13 main_v43 (broadcastInDim S1x4096x1x64 ![1, 2, 3] bcast_S4096x1x64_S1x4096x1x64_1_2_3 : Arr F S4096x1x64 .f32 → Arr F S1x4096x1x64 .f32)
  :: unary main_v43 main_v44 (broadcastInDim S1x4096x8x64 ![0, 1, 2, 3] bcast_S1x4096x1x64_S1x4096x8x64_0_1_2_3 : Arr F S1x4096x1x64 .f32 → Arr F S1x4096x8x64 .f32)
  :: binary main_v41 main_v44 main_v45 (mulf : Arr F S1x4096x8x64 .f32 → Arr F S1x4096x8x64 .f32 → Arr F S1x4096x8x64 .f32)
  :: unary main_v15 main_v46 (broadcastInDim S1x4096x1x64 ![1, 2, 3] bcast_S4096x1x64_S1x4096x1x64_1_2_3 : Arr F S4096x1x64 .f32 → Arr F S1x4096x1x64 .f32)
  :: unary main_v46 main_v47 (broadcastInDim S1x4096x8x64 ![0, 1, 2, 3] bcast_S1x4096x1x64_S1x4096x8x64_0_1_2_3 : Arr F S1x4096x1x64 .f32 → Arr F S1x4096x8x64 .f32)
  :: binary main_v42 main_v47 main_v48 (mulf : Arr F S1x4096x8x64 .f32 → Arr F S1x4096x8x64 .f32 → Arr F S1x4096x8x64 .f32)
  :: binary main_v45 main_v48 main_v49 (subf : Arr F S1x4096x8x64 .f32 → Arr F S1x4096x8x64 .f32 → Arr F S1x4096x8x64 .f32)
  :: unary main_v13 main_v50 (broadcastInDim S1x4096x1x64 ![1, 2, 3] bcast_S4096x1x64_S1x4096x1x64_1_2_3 : Arr F S4096x1x64 .f32 → Arr F S1x4096x1x64 .f32)
  :: unary main_v50 main_v51 (broadcastInDim S1x4096x8x64 ![0, 1, 2, 3] bcast_S1x4096x1x64_S1x4096x8x64_0_1_2_3 : Arr F S1x4096x1x64 .f32 → Arr F S1x4096x8x64 .f32)
  :: binary main_v42 main_v51 main_v52 (mulf : Arr F S1x4096x8x64 .f32 → Arr F S1x4096x8x64 .f32 → Arr F S1x4096x8x64 .f32)
  :: unary main_v15 main_v53 (broadcastInDim S1x4096x1x64 ![1, 2, 3] bcast_S4096x1x64_S1x4096x1x64_1_2_3 : Arr F S4096x1x64 .f32 → Arr F S1x4096x1x64 .f32)
  :: unary main_v53 main_v54 (broadcastInDim S1x4096x8x64 ![0, 1, 2, 3] bcast_S1x4096x1x64_S1x4096x8x64_0_1_2_3 : Arr F S1x4096x1x64 .f32 → Arr F S1x4096x8x64 .f32)
  :: binary main_v41 main_v54 main_v55 (mulf : Arr F S1x4096x8x64 .f32 → Arr F S1x4096x8x64 .f32 → Arr F S1x4096x8x64 .f32)
  :: binary main_v52 main_v55 main_v56 (addf : Arr F S1x4096x8x64 .f32 → Arr F S1x4096x8x64 .f32 → Arr F S1x4096x8x64 .f32)
  :: [] )
theorem main_part0_ops0_sub : (main_part0_ops0 : List (HloOp τ sig (Elt F))).Forall fun op => op.bufs ⊆ tcRefs τ sig :=
  ⟨nullary_bufs_sub .., unary_bufs_sub .., nullary_bufs_sub .., unary_bufs_sub .., binary_bufs_sub .., nullary_bufs_sub .., unary_bufs_sub .., binary_bufs_sub .., nullary_bufs_sub .., unary_bufs_sub .., unary_bufs_sub .., unary_bufs_sub .., unary_bufs_sub .., binary_bufs_sub .., unary_bufs_sub .., unary_bufs_sub .., unary_bufs_sub .., unary_bufs_sub .., unary_bufs_sub .., unary_bufs_sub .., unary_bufs_sub .., unary_bufs_sub .., reshape_bufs_sub .., unary_bufs_sub .., unary_bufs_sub .., unary_bufs_sub .., unary_bufs_sub .., binary_bufs_sub .., unary_bufs_sub .., unary_bufs_sub .., binary_bufs_sub .., binary_bufs_sub .., unary_bufs_sub .., unary_bufs_sub .., binary_bufs_sub .., unary_bufs_sub .., unary_bufs_sub .., binary_bufs_sub .., binary_bufs_sub .., binary_bufs_sub .., nullary_bufs_sub .., unary_bufs_sub .., binary_bufs_sub .., reshape_bufs_sub .., unary_bufs_sub .., unary_bufs_sub .., unary_bufs_sub .., unary_bufs_sub .., binary_bufs_sub .., unary_bufs_sub .., unary_bufs_sub .., binary_bufs_sub .., binary_bufs_sub .., unary_bufs_sub .., unary_bufs_sub .., binary_bufs_sub .., unary_bufs_sub .., unary_bufs_sub .., binary_bufs_sub .., binary_bufs_sub ..⟩
/-- The window is the chain of its stretches and loops. -/
theorem main_part0_chain (c : Dev nD) : main_part0 (F := F) c = (Pipeline.chainK
  [  ]
  (seq main_part0_ops0) : Prog (TpuEff nD τ sig (Elt F) (HostLoop.Sig (Pipeline.Sig Λ₀ (Fin 0) fun p => (pcfgs (F := F) p).Adm) 2) .tc) PUnit) := by
  chain_rfl

/-- 33 host operations of @main, window 1 (statements 61 … 120), in order. -/
abbrev main_part1_ops0 : List (HloOp τ sig (Elt F)) :=
  ( binary main_v49 main_v56 main_v57 ((fun a b => concatenate S1x4096x8x128 3 [⟨S1x4096x8x64, a⟩, ⟨S1x4096x8x64, b⟩] concatenates_S1x4096x8x64_S1x4096x8x64_S1x4096x8x128_d3) : Arr F S1x4096x8x64 .f32 → Arr F S1x4096x8x64 .f32 → Arr F S1x4096x8x128 .f32)
  :: reshape main_v19 main_v58 (rfl : (.f32 : EltTy) = .f32) shapeCasts_S1x4096x2048_S1x4096x8x256
  :: nullary main_v59 (sitofp .f32 (iotaInDim S8 32 0))
  :: nullary main_cst_2 (constant S_ .f32 0x40A00000#32)
  :: unary main_cst_2 main_v60 (broadcastInDim S8 ![] bcast_S_S8 : Arr F S_ .f32 → Arr F S8 .f32)
  :: binary main_v60 main_v59 main_v61 (addf : Arr F S8 .f32 → Arr F S8 .f32 → Arr F S8 .f32)
  :: nullary main_cst_3 (constant S_ .f32 0x3F000000#32)
  :: unary main_cst_3 main_v62 (broadcastInDim S8 ![] bcast_S_S8 : Arr F S_ .f32 → Arr F S8 .f32)
  :: binary main_v62 main_v61 main_v63 (Host.powf : Arr F S8 .f32 → Arr F S8 .f32 → Arr F S8 .f32)
  :: nullary main_cst_4 (constant S_ .f32 0x3F800000#32)
  :: unary main_cst_4 main_v64 (broadcastInDim S8 ![] bcast_S_S8 : Arr F S_ .f32 → Arr F S8 .f32)
  :: binary main_v64 main_v63 main_v65 (subf : Arr F S8 .f32 → Arr F S8 .f32 → Arr F S8 .f32)
  :: unary main_v65 main_v66 (Host.log : Arr F S8 .f32 → Arr F S8 .f32)
  :: nullary main_v67 (sitofp .f32 (iotaInDim S128 32 0))
  :: unary main_v67 main_v68 (broadcastInDim S128x1 ![0] bcast_S128_S128x1_0 : Arr F S128 .f32 → Arr F S128x1 .f32)
  :: unary main_v67 main_v69 (broadcastInDim S1x128 ![1] bcast_S128_S1x128_1 : Arr F S128 .f32 → Arr F S1x128 .f32)
  :: unary main_v68 main_v70 (broadcastInDim S128x128 ![0, 1] bcast_S128x1_S128x128_0_1 : Arr F S128x1 .f32 → Arr F S128x128 .f32)
  :: unary main_v69 main_v71 (broadcastInDim S128x128 ![0, 1] bcast_S1x128_S128x128_0_1 : Arr F S1x128 .f32 → Arr F S128x128 .f32)
  :: binary main_v70 main_v71 main_v72 (subf : Arr F S128x128 .f32 → Arr F S128x128 .f32 → Arr F S128x128 .f32)
  :: unary main_v72 main_v73 (broadcastInDim S1x128x128 ![1, 2] bcast_S128x128_S1x128x128_1_2 : Arr F S128x128 .f32 → Arr F S1x128x128 .f32)
  :: nullary main_cst_5 (constant S_ .f32 0x00000000#32)
  :: unary main_cst_5 main_v74 (broadcastInDim S1x128x128 ![] bcast_S_S1x128x128 : Arr F S_ .f32 → Arr F S1x128x128 .f32)
  :: binary main_v73 main_v74 main_v75 (cmpf .oge : Arr F S1x128x128 .f32 → Arr F S1x128x128 .f32 → Arr F S1x128x128 .i1)
  :: nullary main_cst_6 (constant S_ .f32 0x00000000#32)
  :: unary main_cst_6 main_v76 (broadcastInDim S128x128 ![] bcast_S_S128x128 : Arr F S_ .f32 → Arr F S128x128 .f32)
  :: binary main_v72 main_v76 main_v77 (maximumf : Arr F S128x128 .f32 → Arr F S128x128 .f32 → Arr F S128x128 .f32)
  :: unary main_v77 main_v78 (broadcastInDim S1x128x128 ![1, 2] bcast_S128x128_S1x128x128_1_2 : Arr F S128x128 .f32 → Arr F S1x128x128 .f32)
  :: unary main_v66 main_v79 (broadcastInDim S8x1x1 ![0] bcast_S8_S8x1x1_0 : Arr F S8 .f32 → Arr F S8x1x1 .f32)
  :: unary main_v78 main_v80 (broadcastInDim S8x128x128 ![0, 1, 2] bcast_S1x128x128_S8x128x128_0_1_2 : Arr F S1x128x128 .f32 → Arr F S8x128x128 .f32)
  :: unary main_v79 main_v81 (broadcastInDim S8x128x128 ![0, 1, 2] bcast_S8x1x1_S8x128x128_0_1_2 : Arr F S8x1x1 .f32 → Arr F S8x128x128 .f32)
  :: binary main_v80 main_v81 main_v82 (mulf : Arr F S8x128x128 .f32 → Arr F S8x128x128 .f32 → Arr F S8x128x128 .f32)
  :: unary main_v82 main_v83 (Host.exp : Arr F S8x128x128 .f32 → Arr F S8x128x128 .f32)
  :: nullary main_cst_7 (constant S_ .f32 0x00000000#32)
  :: [] )
theorem main_part1_ops0_sub : (main_part1_ops0 : List (HloOp τ sig (Elt F))).Forall fun op => op.bufs ⊆ tcRefs τ sig :=
  ⟨binary_bufs_sub .., reshape_bufs_sub .., nullary_bufs_sub .., nullary_bufs_sub .., unary_bufs_sub .., binary_bufs_sub .., nullary_bufs_sub .., unary_bufs_sub .., binary_bufs_sub .., nullary_bufs_sub .., unary_bufs_sub .., binary_bufs_sub .., unary_bufs_sub .., nullary_bufs_sub .., unary_bufs_sub .., unary_bufs_sub .., unary_bufs_sub .., unary_bufs_sub .., binary_bufs_sub .., unary_bufs_sub .., nullary_bufs_sub .., unary_bufs_sub .., binary_bufs_sub .., nullary_bufs_sub .., unary_bufs_sub .., binary_bufs_sub .., unary_bufs_sub .., unary_bufs_sub .., unary_bufs_sub .., unary_bufs_sub .., binary_bufs_sub .., unary_bufs_sub .., nullary_bufs_sub ..⟩
/-- 4 host operations of @_where (main_call0), window 1 (statements 61 … 120), in order. -/
abbrev main_part1_ops1 : List (HloOp τ sig (Elt F)) :=
  [ TRef.unary (.of main_cst_7 : TRef sig ⟨S_, .f32⟩) (.of main_call0_v0 : TRef sig ⟨S_, .f32⟩) id,
    TRef.unary (.of main_v75 : TRef sig ⟨S1x128x128, .i1⟩) (.of main_call0_v1 : TRef sig ⟨S8x128x128, .i1⟩) (broadcastInDim S8x128x128 ![0, 1, 2] bcast_S1x128x128_S8x128x128_0_1_2),
    TRef.unary (.of main_call0_v0 : TRef sig ⟨S_, .f32⟩) (.of main_call0_v2 : TRef sig ⟨S8x128x128, .f32⟩) (broadcastInDim S8x128x128 ![] bcast_S_S8x128x128),
    TRef.ternary (.of main_call0_v1 : TRef sig ⟨S8x128x128, .i1⟩) (.of main_v83 : TRef sig ⟨S8x128x128, .f32⟩) (.of main_call0_v2 : TRef sig ⟨S8x128x128, .f32⟩) (.of main_v84 : TRef sig ⟨S8x128x128, .f32⟩) select ]
theorem main_part1_ops1_sub : (main_part1_ops1 : List (HloOp τ sig (Elt F))).Forall fun op => op.bufs ⊆ tcRefs τ sig :=
  ⟨unary_bufs_sub .., unary_bufs_sub .., unary_bufs_sub .., ternary_bufs_sub ..⟩
/-- 26 host operations of @main, window 1 (statements 61 … 120), in order. -/
abbrev main_part1_ops2 : List (HloOp τ sig (Elt F)) :=
  [ reshape main_v39 main_v85 (rfl : (.f32 : EltTy) = .f32) shapeCasts_S1x4096x8x128_S1x32x128x8x128,
    reshape main_v57 main_v86 (rfl : (.f32 : EltTy) = .f32) shapeCasts_S1x4096x8x128_S1x32x128x8x128,
    reshape main_v58 main_v87 (rfl : (.f32 : EltTy) = .f32) shapeCasts_S1x4096x8x256_S1x32x128x8x256,
    binary main_v85 main_v86 main_v88 ((fun l r => Host.dotGeneral dot_S1x32x128x8x128_S1x32x128x8x128_S1x32x8x128x128_4_4_2_2_013_013 none l r) : Arr F S1x32x128x8x128 .f32 → Arr F S1x32x128x8x128 .f32 → Arr F S1x32x8x128x128 .f32),
    unary main_v84 main_v89 (broadcastInDim S1x1x8x128x128 ![2, 3, 4] bcast_S8x128x128_S1x1x8x128x128_2_3_4 : Arr F S8x128x128 .f32 → Arr F S1x1x8x128x128 .f32),
    unary main_v89 main_v90 (broadcastInDim S1x32x8x128x128 ![0, 1, 2, 3, 4] bcast_S1x1x8x128x128_S1x32x8x128x128_0_1_2_3_4 : Arr F S1x1x8x128x128 .f32 → Arr F S1x32x8x128x128 .f32),
    binary main_v88 main_v90 main_v91 (mulf : Arr F S1x32x8x128x128 .f32 → Arr F S1x32x8x128x128 .f32 → Arr F S1x32x8x128x128 .f32),
    binary main_v87 main_v91 main_v92 ((fun l r => Host.dotGeneral dot_S1x32x128x8x256_S1x32x8x128x128_S1x32x8x256x128_2_4_4_3_013_012 none l r) : Arr F S1x32x128x8x256 .f32 → Arr F S1x32x8x128x128 .f32 → Arr F S1x32x8x256x128 .f32),
    unary main_v92 main_v93 ((transpose S1x32x128x8x256 [0, 1, 4, 2, 3] · transposes_S1x32x8x256x128_S1x32x128x8x256_0_1_4_2_3) : Arr F S1x32x8x256x128 .f32 → Arr F S1x32x128x8x256 .f32),
    unary main_v67 main_v94 (broadcastInDim S128x1 ![0] bcast_S128_S128x1_0 : Arr F S128 .f32 → Arr F S128x1 .f32),
    nullary main_cst_8 (constant S_ .f32 0x3F800000#32),
    unary main_cst_8 main_v95 (broadcastInDim S128x1 ![] bcast_S_S128x1 : Arr F S_ .f32 → Arr F S128x1 .f32),
    binary main_v94 main_v95 main_v96 (addf : Arr F S128x1 .f32 → Arr F S128x1 .f32 → Arr F S128x1 .f32),
    unary main_v66 main_v97 (broadcastInDim S1x8 ![1] bcast_S8_S1x8_1 : Arr F S8 .f32 → Arr F S1x8 .f32),
    unary main_v96 main_v98 (broadcastInDim S128x8 ![0, 1] bcast_S128x1_S128x8_0_1 : Arr F S128x1 .f32 → Arr F S128x8 .f32),
    unary main_v97 main_v99 (broadcastInDim S128x8 ![0, 1] bcast_S1x8_S128x8_0_1 : Arr F S1x8 .f32 → Arr F S128x8 .f32),
    binary main_v98 main_v99 main_v100 (mulf : Arr F S128x8 .f32 → Arr F S128x8 .f32 → Arr F S128x8 .f32),
    unary main_v100 main_v101 (Host.exp : Arr F S128x8 .f32 → Arr F S128x8 .f32),
    nullary main_cst_9 (constant S_ .f32 0x42FE0000#32),
    unary main_cst_9 main_v102 (broadcastInDim S128 ![] bcast_S_S128 : Arr F S_ .f32 → Arr F S128 .f32),
    binary main_v102 main_v67 main_v103 (subf : Arr F S128 .f32 → Arr F S128 .f32 → Arr F S128 .f32),
    unary main_v103 main_v104 (broadcastInDim S128x1 ![0] bcast_S128_S128x1_0 : Arr F S128 .f32 → Arr F S128x1 .f32),
    unary main_v66 main_v105 (broadcastInDim S1x8 ![1] bcast_S8_S1x8_1 : Arr F S8 .f32 → Arr F S1x8 .f32),
    unary main_v104 main_v106 (broadcastInDim S128x8 ![0, 1] bcast_S128x1_S128x8_0_1 : Arr F S128x1 .f32 → Arr F S128x8 .f32),
    unary main_v105 main_v107 (broadcastInDim S128x8 ![0, 1] bcast_S1x8_S128x8_0_1 : Arr F S1x8 .f32 → Arr F S128x8 .f32),
    binary main_v106 main_v107 main_v108 (mulf : Arr F S128x8 .f32 → Arr F S128x8 .f32 → Arr F S128x8 .f32) ]
theorem main_part1_ops2_sub : (main_part1_ops2 : List (HloOp τ sig (Elt F))).Forall fun op => op.bufs ⊆ tcRefs τ sig :=
  ⟨reshape_bufs_sub .., reshape_bufs_sub .., reshape_bufs_sub .., binary_bufs_sub .., unary_bufs_sub .., unary_bufs_sub .., binary_bufs_sub .., binary_bufs_sub .., unary_bufs_sub .., unary_bufs_sub .., nullary_bufs_sub .., unary_bufs_sub .., binary_bufs_sub .., unary_bufs_sub .., unary_bufs_sub .., unary_bufs_sub .., binary_bufs_sub .., unary_bufs_sub .., nullary_bufs_sub .., unary_bufs_sub .., binary_bufs_sub .., unary_bufs_sub .., unary_bufs_sub .., unary_bufs_sub .., unary_bufs_sub .., binary_bufs_sub ..⟩
/-- The window is the chain of its stretches and loops. -/
theorem main_part1_chain (c : Dev nD) : main_part1 (F := F) c = (Pipeline.chainK
  [ seq main_part1_ops0,
    seq main_part1_ops1 ]
  (seq main_part1_ops2) : Prog (TpuEff nD τ sig (Elt F) (HostLoop.Sig (Pipeline.Sig Λ₀ (Fin 0) fun p => (pcfgs (F := F) p).Adm) 2) .tc) PUnit) := by
  rewrite [chainK_seq_cons, Pipeline.chainK_cons]
  chain_rfl

/-- 31 host operations of @main, window 2 (statements 121 … 180), in order. -/
abbrev main_part2_ops0 : List (HloOp τ sig (Elt F)) :=
  [ unary main_v108 main_v109 (Host.exp : Arr F S128x8 .f32 → Arr F S128x8 .f32),
    nullary main_cst_10 (constant S_ .f32 0x43000000#32),
    unary main_cst_10 main_v110 (broadcastInDim S8 ![] bcast_S_S8 : Arr F S_ .f32 → Arr F S8 .f32),
    binary main_v110 main_v66 main_v111 (mulf : Arr F S8 .f32 → Arr F S8 .f32 → Arr F S8 .f32),
    unary main_v111 main_v112 (Host.exp : Arr F S8 .f32 → Arr F S8 .f32),
    nullary main_cst_11 (constant S_ .f32 0x00000000#32),
    unary main_cst_11 main_v113 (broadcastInDim S1x8x128x256 ![] bcast_S_S1x8x128x256 : Arr F S_ .f32 → Arr F S1x8x128x256 .f32),
    unary main_v85 main_v114 ((transpose S32x1x128x8x128 [1, 0, 2, 3, 4] · transposes_S1x32x128x8x128_S32x1x128x8x128_1_0_2_3_4) : Arr F S1x32x128x8x128 .f32 → Arr F S32x1x128x8x128 .f32),
    unary main_v86 main_v115 ((transpose S32x1x128x8x128 [1, 0, 2, 3, 4] · transposes_S1x32x128x8x128_S32x1x128x8x128_1_0_2_3_4) : Arr F S1x32x128x8x128 .f32 → Arr F S32x1x128x8x128 .f32),
    unary main_v87 main_v116 ((transpose S32x1x128x8x256 [1, 0, 2, 3, 4] · transposes_S1x32x128x8x256_S32x1x128x8x256_1_0_2_3_4) : Arr F S1x32x128x8x256 .f32 → Arr F S32x1x128x8x256 .f32),
    unary main_v101 main_v117 (broadcastInDim S1x128x8x1 ![1, 2] bcast_S128x8_S1x128x8x1_1_2 : Arr F S128x8 .f32 → Arr F S1x128x8x1 .f32),
    unary main_v112 main_v118 (broadcastInDim S1x8x1x1 ![1] bcast_S8_S1x8x1x1_1 : Arr F S8 .f32 → Arr F S1x8x1x1 .f32),
    unary main_v109 main_v119 (broadcastInDim S1x128x8x1 ![1, 2] bcast_S128x8_S1x128x8x1_1_2 : Arr F S128x8 .f32 → Arr F S1x128x8x1 .f32),
    nullary main_cst_12 (constant S_ .f32 0x00000000#32),
    unary main_cst_12 main_v120 (broadcastInDim S32x1x128x8x256 ![] bcast_S_S32x1x128x8x256 : Arr F S_ .f32 → Arr F S32x1x128x8x256 .f32),
    nullary main_cst_13 (constant S_ .f32 0x00000000#32),
    unary main_cst_13 main_v121 (broadcastInDim S32x1x8x128x256 ![] bcast_S_S32x1x8x128x256 : Arr F S_ .f32 → Arr F S32x1x8x128x256 .f32),
    nullary main_cst_14 (constant S_ .f32 0x00000000#32),
    unary main_cst_14 main_v122 (broadcastInDim S32x1x128x8x128 ![] bcast_S_S32x1x128x8x128 : Arr F S_ .f32 → Arr F S32x1x128x8x128 .f32),
    nullary main_c (constantI S_ 32 0#32),
    unary main_v114 main_v123_0 id,
    unary main_v115 main_v123_1 id,
    unary main_v116 main_v123_2 id,
    unary main_v118 main_v123_3 id,
    unary main_v119 main_v123_4 id,
    unary main_v117 main_v123_5 id,
    unary main_c main_v123_6 id,
    unary main_v113 main_v123_7 id,
    unary main_v120 main_v123_8 id,
    unary main_v121 main_v123_9 id,
    unary main_v122 main_v123_10 id ]
theorem main_part2_ops0_sub : (main_part2_ops0 : List (HloOp τ sig (Elt F))).Forall fun op => op.bufs ⊆ tcRefs τ sig :=
  ⟨unary_bufs_sub .., nullary_bufs_sub .., unary_bufs_sub .., binary_bufs_sub .., unary_bufs_sub .., nullary_bufs_sub .., unary_bufs_sub .., unary_bufs_sub .., unary_bufs_sub .., unary_bufs_sub .., unary_bufs_sub .., unary_bufs_sub .., unary_bufs_sub .., nullary_bufs_sub .., unary_bufs_sub .., nullary_bufs_sub .., unary_bufs_sub .., nullary_bufs_sub .., unary_bufs_sub .., nullary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub ..⟩
/-- 28 host operations of @main, window 2 (statements 121 … 180), in order. -/
abbrev main_part2_ops1 : List (HloOp τ sig (Elt F)) :=
  [ unary main_v123_8 main_v124 ((transpose S1x32x128x8x256 [1, 0, 2, 3, 4] · transposes_S32x1x128x8x256_S1x32x128x8x256_1_0_2_3_4) : Arr F S32x1x128x8x256 .f32 → Arr F S1x32x128x8x256 .f32),
    binary main_v93 main_v124 main_v125 (addf : Arr F S1x32x128x8x256 .f32 → Arr F S1x32x128x8x256 .f32 → Arr F S1x32x128x8x256 .f32),
    reshape main_v125 main_v126 (rfl : (.f32 : EltTy) = .f32) shapeCasts_S1x32x128x8x256_S1x4096x8x256,
    unary main_arg1 main_v127 ((extf .f32 · bitsLt_bf16_f32) : Arr F S4096x2048 .bf16 → Arr F S4096x2048 .f32),
    reshape main_v127 main_v128 (rfl : (.f32 : EltTy) = .f32) shapeCasts_S4096x2048_S1x4096x8x256,
    nullary main_cst_15 (constant S_ .f32 0x00000000#32),
    unary main_cst_15 main_v129 (broadcastInDim S1x8x128x256 ![] bcast_S_S1x8x128x256 : Arr F S_ .f32 → Arr F S1x8x128x256 .f32),
    reshape main_v128 main_v130 (rfl : (.f32 : EltTy) = .f32) shapeCasts_S1x4096x8x256_S1x32x128x8x256,
    unary main_v130 main_v131 ((transpose S32x1x128x8x256 [1, 0, 2, 3, 4] · transposes_S1x32x128x8x256_S32x1x128x8x256_1_0_2_3_4) : Arr F S1x32x128x8x256 .f32 → Arr F S32x1x128x8x256 .f32),
    nullary main_cst_16 (constant S_ .f32 0x00000000#32),
    unary main_cst_16 main_v132 (broadcastInDim S1x8x128x256 ![] bcast_S_S1x8x128x256 : Arr F S_ .f32 → Arr F S1x8x128x256 .f32),
    nullary main_cst_17 (constant S_ .f32 0x00000000#32),
    unary main_cst_17 main_v133 (broadcastInDim S32x1x128x8x128 ![] bcast_S_S32x1x128x8x128 : Arr F S_ .f32 → Arr F S32x1x128x8x128 .f32),
    nullary main_cst_18 (constant S_ .f32 0x00000000#32),
    unary main_cst_18 main_v134 (broadcastInDim S32x1x128x8x128 ![] bcast_S_S32x1x128x8x128 : Arr F S_ .f32 → Arr F S32x1x128x8x128 .f32),
    nullary main_cst_19 (constant S_ .f32 0x00000000#32),
    unary main_cst_19 main_v135 (broadcastInDim S32x1x128x8x256 ![] bcast_S_S32x1x128x8x256 : Arr F S_ .f32 → Arr F S32x1x128x8x256 .f32),
    nullary main_c_20 (constantI S_ 32 0#32),
    unary main_v131 main_v136_0 id,
    unary main_v114 main_v136_1 id,
    unary main_v123_9 main_v136_2 id,
    unary main_v116 main_v136_3 id,
    unary main_v123_10 main_v136_4 id,
    unary main_v117 main_v136_5 id,
    unary main_v118 main_v136_6 id,
    unary main_v119 main_v136_7 id,
    unary main_c_20 main_v136_8 id,
    unary main_v132 main_v136_9 id ]
theorem main_part2_ops1_sub : (main_part2_ops1 : List (HloOp τ sig (Elt F))).Forall fun op => op.bufs ⊆ tcRefs τ sig :=
  ⟨unary_bufs_sub .., binary_bufs_sub .., reshape_bufs_sub .., unary_bufs_sub .., reshape_bufs_sub .., nullary_bufs_sub .., unary_bufs_sub .., reshape_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., unary_bufs_sub .., unary_bufs_sub .., unary_bufs_sub .., unary_bufs_sub .., unary_bufs_sub .., unary_bufs_sub .., unary_bufs_sub .., unary_bufs_sub .., unary_bufs_sub ..⟩
/-- The window is the chain of its stretches and loops. -/
theorem main_part2_chain (c : Dev nD) : main_part2 (F := F) c = (Pipeline.chainK
  [ seq main_part2_ops0,
    HostLoop.enter 0 ]
  (seq main_part2_ops1) : Prog (TpuEff nD τ sig (Elt F) (HostLoop.Sig (Pipeline.Sig Λ₀ (Fin 0) fun p => (pcfgs (F := F) p).Adm) 2) .tc) PUnit) := by
  rewrite [chainK_seq_cons, Pipeline.chainK_cons]
  chain_rfl

/-- 3 host operations of @main, window 3 (statements 181 … 240), in order. -/
abbrev main_part3_ops0 : List (HloOp τ sig (Elt F)) :=
  [ unary main_v133 main_v136_10 id,
    unary main_v134 main_v136_11 id,
    unary main_v135 main_v136_12 id ]
theorem main_part3_ops0_sub : (main_part3_ops0 : List (HloOp τ sig (Elt F))).Forall fun op => op.bufs ⊆ tcRefs τ sig :=
  ⟨unary_bufs_sub .., unary_bufs_sub .., unary_bufs_sub ..⟩
/-- 56 host operations of @main, window 3 (statements 181 … 240), in order. -/
abbrev main_part3_ops1 : List (HloOp τ sig (Elt F)) :=
  ( unary main_v136_12 main_v137 ((transpose S1x32x128x8x256 [1, 0, 2, 3, 4] · transposes_S32x1x128x8x256_S1x32x128x8x256_1_0_2_3_4) : Arr F S32x1x128x8x256 .f32 → Arr F S1x32x128x8x256 .f32)
  :: unary main_v136_11 main_v138 ((transpose S1x32x128x8x128 [1, 0, 2, 3, 4] · transposes_S32x1x128x8x128_S1x32x128x8x128_1_0_2_3_4) : Arr F S32x1x128x8x128 .f32 → Arr F S1x32x128x8x128 .f32)
  :: unary main_v136_10 main_v139 ((transpose S1x32x128x8x128 [1, 0, 2, 3, 4] · transposes_S32x1x128x8x128_S1x32x128x8x128_1_0_2_3_4) : Arr F S32x1x128x8x128 .f32 → Arr F S1x32x128x8x128 .f32)
  :: unary main_v130 main_v140 ((transpose S1x32x8x256x128 [0, 1, 3, 4, 2] · transposes_S1x32x128x8x256_S1x32x8x256x128_0_1_3_4_2) : Arr F S1x32x128x8x256 .f32 → Arr F S1x32x8x256x128 .f32)
  :: binary main_v140 main_v87 main_v141 ((fun l r => Host.dotGeneral dot_S1x32x8x256x128_S1x32x128x8x256_S1x32x8x128x128_3_4_4_2_012_013 none l r) : Arr F S1x32x8x256x128 .f32 → Arr F S1x32x128x8x256 .f32 → Arr F S1x32x8x128x128 .f32)
  :: binary main_v140 main_v91 main_v142 ((fun l r => Host.dotGeneral dot_S1x32x8x256x128_S1x32x8x128x128_S1x32x8x256x128_4_3_3_4_012_012 none l r) : Arr F S1x32x8x256x128 .f32 → Arr F S1x32x8x128x128 .f32 → Arr F S1x32x8x256x128 .f32)
  :: unary main_v142 main_v143 ((transpose S1x32x128x8x256 [0, 1, 4, 2, 3] · transposes_S1x32x8x256x128_S1x32x128x8x256_0_1_4_2_3) : Arr F S1x32x8x256x128 .f32 → Arr F S1x32x128x8x256 .f32)
  :: binary main_v137 main_v143 main_v144 (addf : Arr F S1x32x128x8x256 .f32 → Arr F S1x32x128x8x256 .f32 → Arr F S1x32x128x8x256 .f32)
  :: unary main_v89 main_v145 (broadcastInDim S1x32x8x128x128 ![0, 1, 2, 3, 4] bcast_S1x1x8x128x128_S1x32x8x128x128_0_1_2_3_4 : Arr F S1x1x8x128x128 .f32 → Arr F S1x32x8x128x128 .f32)
  :: binary main_v141 main_v145 main_v146 (mulf : Arr F S1x32x8x128x128 .f32 → Arr F S1x32x8x128x128 .f32 → Arr F S1x32x8x128x128 .f32)
  :: binary main_v146 main_v85 main_v147 ((fun l r => Host.dotGeneral dot_S1x32x8x128x128_S1x32x128x8x128_S1x32x8x128x128_3_2_4_4_012_013 none l r) : Arr F S1x32x8x128x128 .f32 → Arr F S1x32x128x8x128 .f32 → Arr F S1x32x8x128x128 .f32)
  :: unary main_v147 main_v148 ((transpose S1x32x128x8x128 [0, 1, 3, 2, 4] · transposes_S1x32x8x128x128_S1x32x128x8x128_0_1_3_2_4) : Arr F S1x32x8x128x128 .f32 → Arr F S1x32x128x8x128 .f32)
  :: binary main_v138 main_v148 main_v149 (addf : Arr F S1x32x128x8x128 .f32 → Arr F S1x32x128x8x128 .f32 → Arr F S1x32x128x8x128 .f32)
  :: binary main_v146 main_v86 main_v150 ((fun l r => Host.dotGeneral dot_S1x32x8x128x128_S1x32x128x8x128_S1x32x8x128x128_4_2_3_4_012_013 none l r) : Arr F S1x32x8x128x128 .f32 → Arr F S1x32x128x8x128 .f32 → Arr F S1x32x8x128x128 .f32)
  :: unary main_v150 main_v151 ((transpose S1x32x128x8x128 [0, 1, 3, 2, 4] · transposes_S1x32x8x128x128_S1x32x128x8x128_0_1_3_2_4) : Arr F S1x32x8x128x128 .f32 → Arr F S1x32x128x8x128 .f32)
  :: binary main_v139 main_v151 main_v152 (addf : Arr F S1x32x128x8x128 .f32 → Arr F S1x32x128x8x128 .f32 → Arr F S1x32x128x8x128 .f32)
  :: reshape main_v144 main_v153 (rfl : (.f32 : EltTy) = .f32) shapeCasts_S1x32x128x8x256_S1x4096x8x256
  :: reshape main_v149 main_v154 (rfl : (.f32 : EltTy) = .f32) shapeCasts_S1x32x128x8x128_S1x4096x8x128
  :: reshape main_v152 main_v155 (rfl : (.f32 : EltTy) = .f32) shapeCasts_S1x32x128x8x128_S1x4096x8x128
  :: reshape main_v153 main_v156 (rfl : (.f32 : EltTy) = .f32) shapeCasts_S1x4096x8x256_S1x4096x2048
  :: unary main_v154 main_v157 ((extractStridedSlice S1x4096x8x64 ![0, 0, 0, 0] · slices_S1x4096x8x128_S1x4096x8x64_0_0_0_0) : Arr F S1x4096x8x128 .f32 → Arr F S1x4096x8x64 .f32)
  :: unary main_v154 main_v158 ((extractStridedSlice S1x4096x8x64 ![0, 0, 0, 64] · slices_S1x4096x8x128_S1x4096x8x64_0_0_0_64) : Arr F S1x4096x8x128 .f32 → Arr F S1x4096x8x64 .f32)
  :: unary main_v53 main_v159 (broadcastInDim S1x4096x8x64 ![0, 1, 2, 3] bcast_S1x4096x1x64_S1x4096x8x64_0_1_2_3 : Arr F S1x4096x1x64 .f32 → Arr F S1x4096x8x64 .f32)
  :: binary main_v158 main_v159 main_v160 (mulf : Arr F S1x4096x8x64 .f32 → Arr F S1x4096x8x64 .f32 → Arr F S1x4096x8x64 .f32)
  :: unary main_v50 main_v161 (broadcastInDim S1x4096x8x64 ![0, 1, 2, 3] bcast_S1x4096x1x64_S1x4096x8x64_0_1_2_3 : Arr F S1x4096x1x64 .f32 → Arr F S1x4096x8x64 .f32)
  :: binary main_v158 main_v161 main_v162 (mulf : Arr F S1x4096x8x64 .f32 → Arr F S1x4096x8x64 .f32 → Arr F S1x4096x8x64 .f32)
  :: unary main_v157 main_v163 (Host.negf : Arr F S1x4096x8x64 .f32 → Arr F S1x4096x8x64 .f32)
  :: unary main_v46 main_v164 (broadcastInDim S1x4096x8x64 ![0, 1, 2, 3] bcast_S1x4096x1x64_S1x4096x8x64_0_1_2_3 : Arr F S1x4096x1x64 .f32 → Arr F S1x4096x8x64 .f32)
  :: binary main_v163 main_v164 main_v165 (mulf : Arr F S1x4096x8x64 .f32 → Arr F S1x4096x8x64 .f32 → Arr F S1x4096x8x64 .f32)
  :: binary main_v162 main_v165 main_v166 (addf : Arr F S1x4096x8x64 .f32 → Arr F S1x4096x8x64 .f32 → Arr F S1x4096x8x64 .f32)
  :: unary main_v43 main_v167 (broadcastInDim S1x4096x8x64 ![0, 1, 2, 3] bcast_S1x4096x1x64_S1x4096x8x64_0_1_2_3 : Arr F S1x4096x1x64 .f32 → Arr F S1x4096x8x64 .f32)
  :: binary main_v157 main_v167 main_v168 (mulf : Arr F S1x4096x8x64 .f32 → Arr F S1x4096x8x64 .f32 → Arr F S1x4096x8x64 .f32)
  :: binary main_v160 main_v168 main_v169 (addf : Arr F S1x4096x8x64 .f32 → Arr F S1x4096x8x64 .f32 → Arr F S1x4096x8x64 .f32)
  :: nullary main_cst_21 (constant S_ .f32 0x00000000#32)
  :: binary main_v166 main_cst_21 main_v170 ((fun x v => pad S1x4096x8x128 ![0, 0, 0, 64] ![0, 0, 0, 0] ![0, 0, 0, 0] x v pads_S1x4096x8x64_S1x4096x8x128_000_000_000_6400 h_S_) : Arr F S1x4096x8x64 .f32 → Arr F S_ .f32 → Arr F S1x4096x8x128 .f32)
  :: nullary main_cst_22 (constant S_ .f32 0x00000000#32)
  :: binary main_v169 main_cst_22 main_v171 ((fun x v => pad S1x4096x8x128 ![0, 0, 0, 0] ![0, 0, 0, 64] ![0, 0, 0, 0] x v pads_S1x4096x8x64_S1x4096x8x128_000_000_000_0640 h_S_) : Arr F S1x4096x8x64 .f32 → Arr F S_ .f32 → Arr F S1x4096x8x128 .f32)
  :: binary main_v170 main_v171 main_v172 (addf : Arr F S1x4096x8x128 .f32 → Arr F S1x4096x8x128 .f32 → Arr F S1x4096x8x128 .f32)
  :: reshape main_v172 main_v173 (rfl : (.f32 : EltTy) = .f32) shapeCasts_S1x4096x8x128_S1x4096x1024
  :: nullary main_cst_23 (constant S_ .f32 0x3DB504F3#32)
  :: unary main_cst_23 main_v174 (broadcastInDim S1x4096x8x128 ![] bcast_S_S1x4096x8x128 : Arr F S_ .f32 → Arr F S1x4096x8x128 .f32)
  :: binary main_v155 main_v174 main_v175 (mulf : Arr F S1x4096x8x128 .f32 → Arr F S1x4096x8x128 .f32 → Arr F S1x4096x8x128 .f32)
  :: unary main_v175 main_v176 ((extractStridedSlice S1x4096x8x64 ![0, 0, 0, 0] · slices_S1x4096x8x128_S1x4096x8x64_0_0_0_0) : Arr F S1x4096x8x128 .f32 → Arr F S1x4096x8x64 .f32)
  :: unary main_v175 main_v177 ((extractStridedSlice S1x4096x8x64 ![0, 0, 0, 64] · slices_S1x4096x8x128_S1x4096x8x64_0_0_0_64) : Arr F S1x4096x8x128 .f32 → Arr F S1x4096x8x64 .f32)
  :: unary main_v33 main_v178 (broadcastInDim S1x4096x8x64 ![0, 1, 2, 3] bcast_S1x4096x1x64_S1x4096x8x64_0_1_2_3 : Arr F S1x4096x1x64 .f32 → Arr F S1x4096x8x64 .f32)
  :: binary main_v177 main_v178 main_v179 (mulf : Arr F S1x4096x8x64 .f32 → Arr F S1x4096x8x64 .f32 → Arr F S1x4096x8x64 .f32)
  :: unary main_v30 main_v180 (broadcastInDim S1x4096x8x64 ![0, 1, 2, 3] bcast_S1x4096x1x64_S1x4096x8x64_0_1_2_3 : Arr F S1x4096x1x64 .f32 → Arr F S1x4096x8x64 .f32)
  :: binary main_v177 main_v180 main_v181 (mulf : Arr F S1x4096x8x64 .f32 → Arr F S1x4096x8x64 .f32 → Arr F S1x4096x8x64 .f32)
  :: unary main_v176 main_v182 (Host.negf : Arr F S1x4096x8x64 .f32 → Arr F S1x4096x8x64 .f32)
  :: unary main_v26 main_v183 (broadcastInDim S1x4096x8x64 ![0, 1, 2, 3] bcast_S1x4096x1x64_S1x4096x8x64_0_1_2_3 : Arr F S1x4096x1x64 .f32 → Arr F S1x4096x8x64 .f32)
  :: binary main_v182 main_v183 main_v184 (mulf : Arr F S1x4096x8x64 .f32 → Arr F S1x4096x8x64 .f32 → Arr F S1x4096x8x64 .f32)
  :: binary main_v181 main_v184 main_v185 (addf : Arr F S1x4096x8x64 .f32 → Arr F S1x4096x8x64 .f32 → Arr F S1x4096x8x64 .f32)
  :: unary main_v23 main_v186 (broadcastInDim S1x4096x8x64 ![0, 1, 2, 3] bcast_S1x4096x1x64_S1x4096x8x64_0_1_2_3 : Arr F S1x4096x1x64 .f32 → Arr F S1x4096x8x64 .f32)
  :: binary main_v176 main_v186 main_v187 (mulf : Arr F S1x4096x8x64 .f32 → Arr F S1x4096x8x64 .f32 → Arr F S1x4096x8x64 .f32)
  :: binary main_v179 main_v187 main_v188 (addf : Arr F S1x4096x8x64 .f32 → Arr F S1x4096x8x64 .f32 → Arr F S1x4096x8x64 .f32)
  :: nullary main_cst_24 (constant S_ .f32 0x00000000#32)
  :: [] )
theorem main_part3_ops1_sub : (main_part3_ops1 : List (HloOp τ sig (Elt F))).Forall fun op => op.bufs ⊆ tcRefs τ sig :=
  ⟨unary_bufs_sub .., unary_bufs_sub .., unary_bufs_sub .., unary_bufs_sub .., binary_bufs_sub .., binary_bufs_sub .., unary_bufs_sub .., binary_bufs_sub .., unary_bufs_sub .., binary_bufs_sub .., binary_bufs_sub .., unary_bufs_sub .., binary_bufs_sub .., binary_bufs_sub .., unary_bufs_sub .., binary_bufs_sub .., reshape_bufs_sub .., reshape_bufs_sub .., reshape_bufs_sub .., reshape_bufs_sub .., unary_bufs_sub .., unary_bufs_sub .., unary_bufs_sub .., binary_bufs_sub .., unary_bufs_sub .., binary_bufs_sub .., unary_bufs_sub .., unary_bufs_sub .., binary_bufs_sub .., binary_bufs_sub .., unary_bufs_sub .., binary_bufs_sub .., binary_bufs_sub .., nullary_bufs_sub .., binary_bufs_sub .., nullary_bufs_sub .., binary_bufs_sub .., binary_bufs_sub .., reshape_bufs_sub .., nullary_bufs_sub .., unary_bufs_sub .., binary_bufs_sub .., unary_bufs_sub .., unary_bufs_sub .., unary_bufs_sub .., binary_bufs_sub .., unary_bufs_sub .., binary_bufs_sub .., unary_bufs_sub .., unary_bufs_sub .., binary_bufs_sub .., binary_bufs_sub .., unary_bufs_sub .., binary_bufs_sub .., binary_bufs_sub .., nullary_bufs_sub ..⟩
/-- The window is the chain of its stretches and loops. -/
theorem main_part3_chain (c : Dev nD) : main_part3 (F := F) c = (Pipeline.chainK
  [ seq main_part3_ops0,
    HostLoop.enter 1 ]
  (seq main_part3_ops1) : Prog (TpuEff nD τ sig (Elt F) (HostLoop.Sig (Pipeline.Sig Λ₀ (Fin 0) fun p => (pcfgs (F := F) p).Adm) 2) .tc) PUnit) := by
  rewrite [chainK_seq_cons, Pipeline.chainK_cons]
  chain_rfl

/-- 11 host operations of @main, window 4 (statements 241 … 252), in order. -/
abbrev main_part4_ops0 : List (HloOp τ sig (Elt F)) :=
  [ binary main_v185 main_cst_24 main_v189 ((fun x v => pad S1x4096x8x128 ![0, 0, 0, 64] ![0, 0, 0, 0] ![0, 0, 0, 0] x v pads_S1x4096x8x64_S1x4096x8x128_000_000_000_6400 h_S_) : Arr F S1x4096x8x64 .f32 → Arr F S_ .f32 → Arr F S1x4096x8x128 .f32),
    nullary main_cst_25 (constant S_ .f32 0x00000000#32),
    binary main_v188 main_cst_25 main_v190 ((fun x v => pad S1x4096x8x128 ![0, 0, 0, 0] ![0, 0, 0, 64] ![0, 0, 0, 0] x v pads_S1x4096x8x64_S1x4096x8x128_000_000_000_0640 h_S_) : Arr F S1x4096x8x64 .f32 → Arr F S_ .f32 → Arr F S1x4096x8x128 .f32),
    binary main_v189 main_v190 main_v191 (addf : Arr F S1x4096x8x128 .f32 → Arr F S1x4096x8x128 .f32 → Arr F S1x4096x8x128 .f32),
    reshape main_v191 main_v192 (rfl : (.f32 : EltTy) = .f32) shapeCasts_S1x4096x8x128_S1x4096x1024,
    nary ![main_v192, main_v173, main_v156] main_v193 (fun u => (concatenate S1x4096x4096 2 [⟨S1x4096x1024, (u 0 : Arr F S1x4096x1024 .f32)⟩, ⟨S1x4096x1024, (u 1 : Arr F S1x4096x1024 .f32)⟩, ⟨S1x4096x2048, (u 2 : Arr F S1x4096x2048 .f32)⟩] concatenates_S1x4096x1024_S1x4096x1024_S1x4096x2048_S1x4096x4096_d2 : Arr F S1x4096x4096 .f32)),
    nullary main_cst_26 (constant S_ .f32 0x00000000#32),
    binary main_v193 main_cst_26 main_v194 ((fun x v => Host.reduceAdd x v reducesTo_S1x4096x4096_S4096x4096_d0 h_S_) : Arr F S1x4096x4096 .f32 → Arr F S_ .f32 → Arr F S4096x4096 .f32),
    unary main_v194 main_v195 ((truncf .bf16 · bitsLt_bf16_f32) : Arr F S4096x4096 .f32 → Arr F S4096x4096 .bf16),
    unary main_arg2 main_v196 ((extractStridedSlice S4096x6144 ![0, 4096] · slices_S4096x10240_S4096x6144_0_4096) : Arr F S4096x10240 .bf16 → Arr F S4096x6144 .bf16),
    binary main_v195 main_v196 main_v197 ((fun a b => concatenate S4096x10240 1 [⟨S4096x4096, a⟩, ⟨S4096x6144, b⟩] concatenates_S4096x4096_S4096x6144_S4096x10240_d1) : Arr F S4096x4096 .bf16 → Arr F S4096x6144 .bf16 → Arr F S4096x10240 .bf16) ]
theorem main_part4_ops0_sub : (main_part4_ops0 : List (HloOp τ sig (Elt F))).Forall fun op => op.bufs ⊆ tcRefs τ sig :=
  ⟨binary_bufs_sub .., nullary_bufs_sub .., binary_bufs_sub .., binary_bufs_sub .., reshape_bufs_sub .., nary_bufs_sub .., nullary_bufs_sub .., binary_bufs_sub .., unary_bufs_sub .., unary_bufs_sub .., binary_bufs_sub ..⟩
/-- The last window is the chain of its stretch. -/
theorem main_part4_chain (c : Dev nD) : main_part4 (F := F) c = (Pipeline.chain
  [ seq main_part4_ops0 ] : Prog (TpuEff nD τ sig (Elt F) (HostLoop.Sig (Pipeline.Sig Λ₀ (Fin 0) fun p => (pcfgs (F := F) p).Adm) 2) .tc) PUnit) := by
  rewrite [chain_seq_cons]
  chain_rfl

/-- `main` is the chain of its stretches and its two loops. -/
theorem main_chain_windows (c : Dev nD) : main (F := F) c = (Pipeline.chain
  [ seq main_part0_ops0,
    seq main_part1_ops0,
    seq main_part1_ops1,
    seq main_part1_ops2,
    seq main_part2_ops0,
    HostLoop.enter 0,
    seq main_part2_ops1,
    seq main_part3_ops0,
    HostLoop.enter 1,
    seq main_part3_ops1,
    seq main_part4_ops0 ] : Prog (TpuEff nD τ sig (Elt F) (HostLoop.Sig (Pipeline.Sig Λ₀ (Fin 0) fun p => (pcfgs (F := F) p).Adm) 2) .tc) PUnit) := by
  show (main_part0 (F := F) c >>= fun _ => main_part1 (F := F) c >>= fun _ => main_part2 (F := F) c >>= fun _ => main_part3 (F := F) c >>= fun _ => main_part4 (F := F) c) = _
  rewrite [main_part4_chain, main_part3_chain, Pipeline.chainK_bind_chain, main_part2_chain, Pipeline.chainK_bind_chain, main_part1_chain, Pipeline.chainK_bind_chain, main_part0_chain, Pipeline.chainK_bind_chain]
  chain_rfl

end Cert.ReferenceIdeal.Run

end

end
-- ==== Proof.RefLoopOps.lean ====
/- Hand-written, untrusted. The host operations of the reference's two loop bodies, as lists, and the bodies as the chains of them. -/
module

public import proofs.«01_k».proof.Proof.Gen.ReferenceIdeal
public import Idealize.ShloMosaic.Lib.Pipeline.Kit
public import Idealize.ShloMosaic.Lib.Pipeline.Regions
public import Idealize.ShloMosaic.Lib.StableHlo.RunLoop
public import proofs.«01_k».proof.Proof.RefOps

@[expose] public section

set_option maxRecDepth 4096

noncomputable section

namespace Cert.ReferenceIdeal.Run

open Idealize.ShloMosaic Idealize.ShloMosaic.TcCoe Idealize.ShloMosaic.StableHlo
open Idealize.SL Idealize.SL.RA Idealize.SL.BI
open scoped Idealize.SL.BI
open Idealize.SL.BI.BIBase Idealize.SL.Sem
open Cert.ReferenceIdeal.Gen

variable {F : FTy → Type} [FloatOps F]

/-- 6 host operations of @dynamic_index_in_dim (main_while0b_call1), in order. -/
abbrev while0Ops0 : List (HloOp τ sig (Elt F)) :=
  [ TRef.nullary (.of main_while0b_call1_c : TRef sig ⟨S_, .i32⟩) (constantI S_ 32 0#32),
    TRef.nullary (.of main_while0b_call1_c_0 : TRef sig ⟨S_, .i32⟩) (constantI S_ 32 0#32),
    TRef.nullary (.of main_while0b_call1_c_1 : TRef sig ⟨S_, .i32⟩) (constantI S_ 32 0#32),
    TRef.nullary (.of main_while0b_call1_c_2 : TRef sig ⟨S_, .i32⟩) (constantI S_ 32 0#32),
    TRef.unaryIndexed (.of main_v123_0 : TRef sig ⟨S32x1x128x8x128, .f32⟩) ![(.of main_v123_6 : TRef sig ⟨S_, .i32⟩), (.of main_while0b_call1_c : TRef sig ⟨S_, .i32⟩), (.of main_while0b_call1_c_0 : TRef sig ⟨S_, .i32⟩), (.of main_while0b_call1_c_1 : TRef sig ⟨S_, .i32⟩), (.of main_while0b_call1_c_2 : TRef sig ⟨S_, .i32⟩)] (.of main_while0b_call1_v0 : TRef sig ⟨S1x1x128x8x128, .f32⟩) (fun x i => Host.dynamicSlice S1x1x128x8x128 x (fun k => (i k (Shape.Idx.first h_S_)).toInt) sliceFits_S32x1x128x8x128_S1x1x128x8x128),
    TRef.reshape (.of main_while0b_call1_v0 : TRef sig ⟨S1x1x128x8x128, .f32⟩) (.of main_while0b_v198 : TRef sig ⟨S1x128x8x128, .f32⟩) (rfl : (.f32 : EltTy) = .f32) shapeCasts_S1x1x128x8x128_S1x128x8x128 ]
theorem while0Ops0_sub : (while0Ops0 : List (HloOp τ sig (Elt F))).Forall fun op => op.bufs ⊆ tcRefs τ sig :=
  ⟨nullary_bufs_sub .., nullary_bufs_sub .., nullary_bufs_sub .., nullary_bufs_sub .., unaryIndexed_bufs_sub .., reshape_bufs_sub ..⟩
/-- 6 host operations of @dynamic_index_in_dim (main_while0b_call2), in order. -/
abbrev while0Ops0_1 : List (HloOp τ sig (Elt F)) :=
  [ TRef.nullary (.of main_while0b_call2_c : TRef sig ⟨S_, .i32⟩) (constantI S_ 32 0#32),
    TRef.nullary (.of main_while0b_call2_c_0 : TRef sig ⟨S_, .i32⟩) (constantI S_ 32 0#32),
    TRef.nullary (.of main_while0b_call2_c_1 : TRef sig ⟨S_, .i32⟩) (constantI S_ 32 0#32),
    TRef.nullary (.of main_while0b_call2_c_2 : TRef sig ⟨S_, .i32⟩) (constantI S_ 32 0#32),
    TRef.unaryIndexed (.of main_v123_1 : TRef sig ⟨S32x1x128x8x128, .f32⟩) ![(.of main_v123_6 : TRef sig ⟨S_, .i32⟩), (.of main_while0b_call2_c : TRef sig ⟨S_, .i32⟩), (.of main_while0b_call2_c_0 : TRef sig ⟨S_, .i32⟩), (.of main_while0b_call2_c_1 : TRef sig ⟨S_, .i32⟩), (.of main_while0b_call2_c_2 : TRef sig ⟨S_, .i32⟩)] (.of main_while0b_call2_v0 : TRef sig ⟨S1x1x128x8x128, .f32⟩) (fun x i => Host.dynamicSlice S1x1x128x8x128 x (fun k => (i k (Shape.Idx.first h_S_)).toInt) sliceFits_S32x1x128x8x128_S1x1x128x8x128),
    TRef.reshape (.of main_while0b_call2_v0 : TRef sig ⟨S1x1x128x8x128, .f32⟩) (.of main_while0b_v199 : TRef sig ⟨S1x128x8x128, .f32⟩) (rfl : (.f32 : EltTy) = .f32) shapeCasts_S1x1x128x8x128_S1x128x8x128 ]
theorem while0Ops0_1_sub : (while0Ops0_1 : List (HloOp τ sig (Elt F))).Forall fun op => op.bufs ⊆ tcRefs τ sig :=
  ⟨nullary_bufs_sub .., nullary_bufs_sub .., nullary_bufs_sub .., nullary_bufs_sub .., unaryIndexed_bufs_sub .., reshape_bufs_sub ..⟩
/-- 6 host operations of @dynamic_index_in_dim_0 (main_while0b_call3), in order. -/
abbrev while0Ops0_2 : List (HloOp τ sig (Elt F)) :=
  [ TRef.nullary (.of main_while0b_call3_c : TRef sig ⟨S_, .i32⟩) (constantI S_ 32 0#32),
    TRef.nullary (.of main_while0b_call3_c_0 : TRef sig ⟨S_, .i32⟩) (constantI S_ 32 0#32),
    TRef.nullary (.of main_while0b_call3_c_1 : TRef sig ⟨S_, .i32⟩) (constantI S_ 32 0#32),
    TRef.nullary (.of main_while0b_call3_c_2 : TRef sig ⟨S_, .i32⟩) (constantI S_ 32 0#32),
    TRef.unaryIndexed (.of main_v123_2 : TRef sig ⟨S32x1x128x8x256, .f32⟩) ![(.of main_v123_6 : TRef sig ⟨S_, .i32⟩), (.of main_while0b_call3_c : TRef sig ⟨S_, .i32⟩), (.of main_while0b_call3_c_0 : TRef sig ⟨S_, .i32⟩), (.of main_while0b_call3_c_1 : TRef sig ⟨S_, .i32⟩), (.of main_while0b_call3_c_2 : TRef sig ⟨S_, .i32⟩)] (.of main_while0b_call3_v0 : TRef sig ⟨S1x1x128x8x256, .f32⟩) (fun x i => Host.dynamicSlice S1x1x128x8x256 x (fun k => (i k (Shape.Idx.first h_S_)).toInt) sliceFits_S32x1x128x8x256_S1x1x128x8x256),
    TRef.reshape (.of main_while0b_call3_v0 : TRef sig ⟨S1x1x128x8x256, .f32⟩) (.of main_while0b_v200 : TRef sig ⟨S1x128x8x256, .f32⟩) (rfl : (.f32 : EltTy) = .f32) shapeCasts_S1x1x128x8x256_S1x128x8x256 ]
theorem while0Ops0_2_sub : (while0Ops0_2 : List (HloOp τ sig (Elt F))).Forall fun op => op.bufs ⊆ tcRefs τ sig :=
  ⟨nullary_bufs_sub .., nullary_bufs_sub .., nullary_bufs_sub .., nullary_bufs_sub .., unaryIndexed_bufs_sub .., reshape_bufs_sub ..⟩
/-- 10 host operations of host loop 0's body region, in order. -/
abbrev while0Ops0_3 : List (HloOp τ sig (Elt F)) :=
  [ binary main_v123_7 main_while0b_v198 main_while0b_v201 ((fun l r => Host.dotGeneral dot_S1x8x128x256_S1x128x8x128_S1x8x256x128_2_3_3_1_01_02 none l r) : Arr F S1x8x128x256 .f32 → Arr F S1x128x8x128 .f32 → Arr F S1x8x256x128 .f32),
    unary main_while0b_v201 main_while0b_v202 ((transpose S1x128x8x256 [0, 3, 1, 2] · transposes_S1x8x256x128_S1x128x8x256_0_3_1_2) : Arr F S1x8x256x128 .f32 → Arr F S1x128x8x256 .f32),
    unary main_v123_5 main_while0b_v203 (broadcastInDim S1x128x8x256 ![0, 1, 2, 3] bcast_S1x128x8x1_S1x128x8x256_0_1_2_3 : Arr F S1x128x8x1 .f32 → Arr F S1x128x8x256 .f32),
    binary main_while0b_v202 main_while0b_v203 main_while0b_v204 (mulf : Arr F S1x128x8x256 .f32 → Arr F S1x128x8x256 .f32 → Arr F S1x128x8x256 .f32),
    unary main_v123_3 main_while0b_v205 (broadcastInDim S1x8x128x256 ![0, 1, 2, 3] bcast_S1x8x1x1_S1x8x128x256_0_1_2_3 : Arr F S1x8x1x1 .f32 → Arr F S1x8x128x256 .f32),
    binary main_while0b_v205 main_v123_7 main_while0b_v206 (mulf : Arr F S1x8x128x256 .f32 → Arr F S1x8x128x256 .f32 → Arr F S1x8x128x256 .f32),
    unary main_v123_4 main_while0b_v207 (broadcastInDim S1x128x8x128 ![0, 1, 2, 3] bcast_S1x128x8x1_S1x128x8x128_0_1_2_3 : Arr F S1x128x8x1 .f32 → Arr F S1x128x8x128 .f32),
    binary main_while0b_v199 main_while0b_v207 main_while0b_v208 (mulf : Arr F S1x128x8x128 .f32 → Arr F S1x128x8x128 .f32 → Arr F S1x128x8x128 .f32),
    binary main_while0b_v208 main_while0b_v200 main_while0b_v209 ((fun l r => Host.dotGeneral dot_S1x128x8x128_S1x128x8x256_S1x8x128x256_1_1_3_3_02_02 none l r) : Arr F S1x128x8x128 .f32 → Arr F S1x128x8x256 .f32 → Arr F S1x8x128x256 .f32),
    binary main_while0b_v206 main_while0b_v209 main_while0b_v210 (addf : Arr F S1x8x128x256 .f32 → Arr F S1x8x128x256 .f32 → Arr F S1x8x128x256 .f32) ]
theorem while0Ops0_3_sub : (while0Ops0_3 : List (HloOp τ sig (Elt F))).Forall fun op => op.bufs ⊆ tcRefs τ sig :=
  ⟨binary_bufs_sub .., unary_bufs_sub .., unary_bufs_sub .., binary_bufs_sub .., unary_bufs_sub .., binary_bufs_sub .., unary_bufs_sub .., binary_bufs_sub .., binary_bufs_sub .., binary_bufs_sub ..⟩
/-- 6 host operations of @dynamic_update_index_in_dim (main_while0b_call4), in order. -/
abbrev while0Ops0_4 : List (HloOp τ sig (Elt F)) :=
  [ TRef.unary (.of main_while0b_v204 : TRef sig ⟨S1x128x8x256, .f32⟩) (.of main_while0b_call4_v0 : TRef sig ⟨S1x1x128x8x256, .f32⟩) (broadcastInDim S1x1x128x8x256 ![1, 2, 3, 4] bcast_S1x128x8x256_S1x1x128x8x256_1_2_3_4),
    TRef.nullary (.of main_while0b_call4_c : TRef sig ⟨S_, .i32⟩) (constantI S_ 32 0#32),
    TRef.nullary (.of main_while0b_call4_c_0 : TRef sig ⟨S_, .i32⟩) (constantI S_ 32 0#32),
    TRef.nullary (.of main_while0b_call4_c_1 : TRef sig ⟨S_, .i32⟩) (constantI S_ 32 0#32),
    TRef.nullary (.of main_while0b_call4_c_2 : TRef sig ⟨S_, .i32⟩) (constantI S_ 32 0#32),
    TRef.binaryIndexed (.of main_v123_8 : TRef sig ⟨S32x1x128x8x256, .f32⟩) (.of main_while0b_call4_v0 : TRef sig ⟨S1x1x128x8x256, .f32⟩) ![(.of main_v123_6 : TRef sig ⟨S_, .i32⟩), (.of main_while0b_call4_c : TRef sig ⟨S_, .i32⟩), (.of main_while0b_call4_c_0 : TRef sig ⟨S_, .i32⟩), (.of main_while0b_call4_c_1 : TRef sig ⟨S_, .i32⟩), (.of main_while0b_call4_c_2 : TRef sig ⟨S_, .i32⟩)] (.of main_while0b_v211 : TRef sig ⟨S32x1x128x8x256, .f32⟩) (fun x u i => Host.dynamicUpdateSlice x u (fun k => (i k (Shape.Idx.first h_S_)).toInt) updateFits_S32x1x128x8x256_S1x1x128x8x256) ]
theorem while0Ops0_4_sub : (while0Ops0_4 : List (HloOp τ sig (Elt F))).Forall fun op => op.bufs ⊆ tcRefs τ sig :=
  ⟨unary_bufs_sub .., nullary_bufs_sub .., nullary_bufs_sub .., nullary_bufs_sub .., nullary_bufs_sub .., binaryIndexed_bufs_sub ..⟩
/-- 6 host operations of @dynamic_update_index_in_dim_1 (main_while0b_call5), in order. -/
abbrev while0Ops0_5 : List (HloOp τ sig (Elt F)) :=
  [ TRef.unary (.of main_v123_7 : TRef sig ⟨S1x8x128x256, .f32⟩) (.of main_while0b_call5_v0 : TRef sig ⟨S1x1x8x128x256, .f32⟩) (broadcastInDim S1x1x8x128x256 ![1, 2, 3, 4] bcast_S1x8x128x256_S1x1x8x128x256_1_2_3_4),
    TRef.nullary (.of main_while0b_call5_c : TRef sig ⟨S_, .i32⟩) (constantI S_ 32 0#32),
    TRef.nullary (.of main_while0b_call5_c_0 : TRef sig ⟨S_, .i32⟩) (constantI S_ 32 0#32),
    TRef.nullary (.of main_while0b_call5_c_1 : TRef sig ⟨S_, .i32⟩) (constantI S_ 32 0#32),
    TRef.nullary (.of main_while0b_call5_c_2 : TRef sig ⟨S_, .i32⟩) (constantI S_ 32 0#32),
    TRef.binaryIndexed (.of main_v123_9 : TRef sig ⟨S32x1x8x128x256, .f32⟩) (.of main_while0b_call5_v0 : TRef sig ⟨S1x1x8x128x256, .f32⟩) ![(.of main_v123_6 : TRef sig ⟨S_, .i32⟩), (.of main_while0b_call5_c : TRef sig ⟨S_, .i32⟩), (.of main_while0b_call5_c_0 : TRef sig ⟨S_, .i32⟩), (.of main_while0b_call5_c_1 : TRef sig ⟨S_, .i32⟩), (.of main_while0b_call5_c_2 : TRef sig ⟨S_, .i32⟩)] (.of main_while0b_v212 : TRef sig ⟨S32x1x8x128x256, .f32⟩) (fun x u i => Host.dynamicUpdateSlice x u (fun k => (i k (Shape.Idx.first h_S_)).toInt) updateFits_S32x1x8x128x256_S1x1x8x128x256) ]
theorem while0Ops0_5_sub : (while0Ops0_5 : List (HloOp τ sig (Elt F))).Forall fun op => op.bufs ⊆ tcRefs τ sig :=
  ⟨unary_bufs_sub .., nullary_bufs_sub .., nullary_bufs_sub .., nullary_bufs_sub .., nullary_bufs_sub .., binaryIndexed_bufs_sub ..⟩
/-- 6 host operations of @dynamic_update_index_in_dim_2 (main_while0b_call6), in order. -/
abbrev while0Ops0_6 : List (HloOp τ sig (Elt F)) :=
  [ TRef.unary (.of main_while0b_v208 : TRef sig ⟨S1x128x8x128, .f32⟩) (.of main_while0b_call6_v0 : TRef sig ⟨S1x1x128x8x128, .f32⟩) (broadcastInDim S1x1x128x8x128 ![1, 2, 3, 4] bcast_S1x128x8x128_S1x1x128x8x128_1_2_3_4),
    TRef.nullary (.of main_while0b_call6_c : TRef sig ⟨S_, .i32⟩) (constantI S_ 32 0#32),
    TRef.nullary (.of main_while0b_call6_c_0 : TRef sig ⟨S_, .i32⟩) (constantI S_ 32 0#32),
    TRef.nullary (.of main_while0b_call6_c_1 : TRef sig ⟨S_, .i32⟩) (constantI S_ 32 0#32),
    TRef.nullary (.of main_while0b_call6_c_2 : TRef sig ⟨S_, .i32⟩) (constantI S_ 32 0#32),
    TRef.binaryIndexed (.of main_v123_10 : TRef sig ⟨S32x1x128x8x128, .f32⟩) (.of main_while0b_call6_v0 : TRef sig ⟨S1x1x128x8x128, .f32⟩) ![(.of main_v123_6 : TRef sig ⟨S_, .i32⟩), (.of main_while0b_call6_c : TRef sig ⟨S_, .i32⟩), (.of main_while0b_call6_c_0 : TRef sig ⟨S_, .i32⟩), (.of main_while0b_call6_c_1 : TRef sig ⟨S_, .i32⟩), (.of main_while0b_call6_c_2 : TRef sig ⟨S_, .i32⟩)] (.of main_while0b_v213 : TRef sig ⟨S32x1x128x8x128, .f32⟩) (fun x u i => Host.dynamicUpdateSlice x u (fun k => (i k (Shape.Idx.first h_S_)).toInt) updateFits_S32x1x128x8x128_S1x1x128x8x128) ]
theorem while0Ops0_6_sub : (while0Ops0_6 : List (HloOp τ sig (Elt F))).Forall fun op => op.bufs ⊆ tcRefs τ sig :=
  ⟨unary_bufs_sub .., nullary_bufs_sub .., nullary_bufs_sub .., nullary_bufs_sub .., nullary_bufs_sub .., binaryIndexed_bufs_sub ..⟩
/-- 7 host operations of host loop 0's body region, in order. -/
abbrev while0Ops0_7 : List (HloOp τ sig (Elt F)) :=
  [ nullary main_while0b_c_37 (constantI S_ 32 1#32),
    binary main_v123_6 main_while0b_c_37 main_while0b_v214 (addi : Arr F S_ .i32 → Arr F S_ .i32 → Arr F S_ .i32),
    unary main_while0b_v214 main_v123_6 id,
    unary main_while0b_v210 main_v123_7 id,
    unary main_while0b_v211 main_v123_8 id,
    unary main_while0b_v212 main_v123_9 id,
    unary main_while0b_v213 main_v123_10 id ]
theorem while0Ops0_7_sub : (while0Ops0_7 : List (HloOp τ sig (Elt F))).Forall fun op => op.bufs ⊆ tcRefs τ sig :=
  ⟨nullary_bufs_sub .., binary_bufs_sub .., unary_bufs_sub .., unary_bufs_sub .., unary_bufs_sub .., unary_bufs_sub .., unary_bufs_sub ..⟩
/-- The loop body is the chain of its stretches. -/
theorem while0_body_chain : main_while0_body (F := F) = (Pipeline.chain
  [ seq while0Ops0,
    seq while0Ops0_1,
    seq while0Ops0_2,
    seq while0Ops0_3,
    seq while0Ops0_4,
    seq while0Ops0_5,
    seq while0Ops0_6,
    seq while0Ops0_7 ] : Prog (TpuEff nD τ sig (Elt F) (HostLoop.Sig (Pipeline.Sig Λ₀ (Fin 0) fun p => (pcfgs (F := F) p).Adm) 2) .tc) PUnit) := by
  rewrite [Pipeline.chain_cons, Pipeline.chain_cons, Pipeline.chain_cons, chain_seq_cons, Pipeline.chain_cons, Pipeline.chain_cons, Pipeline.chain_cons, chain_seq_cons]
  chain_rfl

/-- 4 host operations of host loop 1's body region, in order. -/
abbrev while1Ops0 : List (HloOp τ sig (Elt F)) :=
  [ nullary main_while1b_c_39 (constantI S_ 32 32#32),
    binary main_while1b_c_39 main_v136_8 main_while1b_v198 (subi : Arr F S_ .i32 → Arr F S_ .i32 → Arr F S_ .i32),
    nullary main_while1b_c_40 (constantI S_ 32 1#32),
    binary main_while1b_v198 main_while1b_c_40 main_while1b_v199 (subi : Arr F S_ .i32 → Arr F S_ .i32 → Arr F S_ .i32) ]
theorem while1Ops0_sub : (while1Ops0 : List (HloOp τ sig (Elt F))).Forall fun op => op.bufs ⊆ tcRefs τ sig :=
  ⟨nullary_bufs_sub .., binary_bufs_sub .., nullary_bufs_sub .., binary_bufs_sub ..⟩
/-- 6 host operations of @dynamic_index_in_dim_0 (main_while1b_call7), in order. -/
abbrev while1Ops0_1 : List (HloOp τ sig (Elt F)) :=
  [ TRef.nullary (.of main_while1b_call7_c : TRef sig ⟨S_, .i32⟩) (constantI S_ 32 0#32),
    TRef.nullary (.of main_while1b_call7_c_0 : TRef sig ⟨S_, .i32⟩) (constantI S_ 32 0#32),
    TRef.nullary (.of main_while1b_call7_c_1 : TRef sig ⟨S_, .i32⟩) (constantI S_ 32 0#32),
    TRef.nullary (.of main_while1b_call7_c_2 : TRef sig ⟨S_, .i32⟩) (constantI S_ 32 0#32),
    TRef.unaryIndexed (.of main_v136_0 : TRef sig ⟨S32x1x128x8x256, .f32⟩) ![(.of main_while1b_v199 : TRef sig ⟨S_, .i32⟩), (.of main_while1b_call7_c : TRef sig ⟨S_, .i32⟩), (.of main_while1b_call7_c_0 : TRef sig ⟨S_, .i32⟩), (.of main_while1b_call7_c_1 : TRef sig ⟨S_, .i32⟩), (.of main_while1b_call7_c_2 : TRef sig ⟨S_, .i32⟩)] (.of main_while1b_call7_v0 : TRef sig ⟨S1x1x128x8x256, .f32⟩) (fun x i => Host.dynamicSlice S1x1x128x8x256 x (fun k => (i k (Shape.Idx.first h_S_)).toInt) sliceFits_S32x1x128x8x256_S1x1x128x8x256),
    TRef.reshape (.of main_while1b_call7_v0 : TRef sig ⟨S1x1x128x8x256, .f32⟩) (.of main_while1b_v200 : TRef sig ⟨S1x128x8x256, .f32⟩) (rfl : (.f32 : EltTy) = .f32) shapeCasts_S1x1x128x8x256_S1x128x8x256 ]
theorem while1Ops0_1_sub : (while1Ops0_1 : List (HloOp τ sig (Elt F))).Forall fun op => op.bufs ⊆ tcRefs τ sig :=
  ⟨nullary_bufs_sub .., nullary_bufs_sub .., nullary_bufs_sub .., nullary_bufs_sub .., unaryIndexed_bufs_sub .., reshape_bufs_sub ..⟩
/-- 6 host operations of @dynamic_index_in_dim (main_while1b_call8), in order. -/
abbrev while1Ops0_2 : List (HloOp τ sig (Elt F)) :=
  [ TRef.nullary (.of main_while1b_call8_c : TRef sig ⟨S_, .i32⟩) (constantI S_ 32 0#32),
    TRef.nullary (.of main_while1b_call8_c_0 : TRef sig ⟨S_, .i32⟩) (constantI S_ 32 0#32),
    TRef.nullary (.of main_while1b_call8_c_1 : TRef sig ⟨S_, .i32⟩) (constantI S_ 32 0#32),
    TRef.nullary (.of main_while1b_call8_c_2 : TRef sig ⟨S_, .i32⟩) (constantI S_ 32 0#32),
    TRef.unaryIndexed (.of main_v136_1 : TRef sig ⟨S32x1x128x8x128, .f32⟩) ![(.of main_while1b_v199 : TRef sig ⟨S_, .i32⟩), (.of main_while1b_call8_c : TRef sig ⟨S_, .i32⟩), (.of main_while1b_call8_c_0 : TRef sig ⟨S_, .i32⟩), (.of main_while1b_call8_c_1 : TRef sig ⟨S_, .i32⟩), (.of main_while1b_call8_c_2 : TRef sig ⟨S_, .i32⟩)] (.of main_while1b_call8_v0 : TRef sig ⟨S1x1x128x8x128, .f32⟩) (fun x i => Host.dynamicSlice S1x1x128x8x128 x (fun k => (i k (Shape.Idx.first h_S_)).toInt) sliceFits_S32x1x128x8x128_S1x1x128x8x128),
    TRef.reshape (.of main_while1b_call8_v0 : TRef sig ⟨S1x1x128x8x128, .f32⟩) (.of main_while1b_v201 : TRef sig ⟨S1x128x8x128, .f32⟩) (rfl : (.f32 : EltTy) = .f32) shapeCasts_S1x1x128x8x128_S1x128x8x128 ]
theorem while1Ops0_2_sub : (while1Ops0_2 : List (HloOp τ sig (Elt F))).Forall fun op => op.bufs ⊆ tcRefs τ sig :=
  ⟨nullary_bufs_sub .., nullary_bufs_sub .., nullary_bufs_sub .., nullary_bufs_sub .., unaryIndexed_bufs_sub .., reshape_bufs_sub ..⟩
/-- 6 host operations of @dynamic_index_in_dim_3 (main_while1b_call9), in order. -/
abbrev while1Ops0_3 : List (HloOp τ sig (Elt F)) :=
  [ TRef.nullary (.of main_while1b_call9_c : TRef sig ⟨S_, .i32⟩) (constantI S_ 32 0#32),
    TRef.nullary (.of main_while1b_call9_c_0 : TRef sig ⟨S_, .i32⟩) (constantI S_ 32 0#32),
    TRef.nullary (.of main_while1b_call9_c_1 : TRef sig ⟨S_, .i32⟩) (constantI S_ 32 0#32),
    TRef.nullary (.of main_while1b_call9_c_2 : TRef sig ⟨S_, .i32⟩) (constantI S_ 32 0#32),
    TRef.unaryIndexed (.of main_v136_2 : TRef sig ⟨S32x1x8x128x256, .f32⟩) ![(.of main_while1b_v199 : TRef sig ⟨S_, .i32⟩), (.of main_while1b_call9_c : TRef sig ⟨S_, .i32⟩), (.of main_while1b_call9_c_0 : TRef sig ⟨S_, .i32⟩), (.of main_while1b_call9_c_1 : TRef sig ⟨S_, .i32⟩), (.of main_while1b_call9_c_2 : TRef sig ⟨S_, .i32⟩)] (.of main_while1b_call9_v0 : TRef sig ⟨S1x1x8x128x256, .f32⟩) (fun x i => Host.dynamicSlice S1x1x8x128x256 x (fun k => (i k (Shape.Idx.first h_S_)).toInt) sliceFits_S32x1x8x128x256_S1x1x8x128x256),
    TRef.reshape (.of main_while1b_call9_v0 : TRef sig ⟨S1x1x8x128x256, .f32⟩) (.of main_while1b_v202 : TRef sig ⟨S1x8x128x256, .f32⟩) (rfl : (.f32 : EltTy) = .f32) shapeCasts_S1x1x8x128x256_S1x8x128x256 ]
theorem while1Ops0_3_sub : (while1Ops0_3 : List (HloOp τ sig (Elt F))).Forall fun op => op.bufs ⊆ tcRefs τ sig :=
  ⟨nullary_bufs_sub .., nullary_bufs_sub .., nullary_bufs_sub .., nullary_bufs_sub .., unaryIndexed_bufs_sub .., reshape_bufs_sub ..⟩
/-- 6 host operations of @dynamic_index_in_dim_0 (main_while1b_call10), in order. -/
abbrev while1Ops0_4 : List (HloOp τ sig (Elt F)) :=
  [ TRef.nullary (.of main_while1b_call10_c : TRef sig ⟨S_, .i32⟩) (constantI S_ 32 0#32),
    TRef.nullary (.of main_while1b_call10_c_0 : TRef sig ⟨S_, .i32⟩) (constantI S_ 32 0#32),
    TRef.nullary (.of main_while1b_call10_c_1 : TRef sig ⟨S_, .i32⟩) (constantI S_ 32 0#32),
    TRef.nullary (.of main_while1b_call10_c_2 : TRef sig ⟨S_, .i32⟩) (constantI S_ 32 0#32),
    TRef.unaryIndexed (.of main_v136_3 : TRef sig ⟨S32x1x128x8x256, .f32⟩) ![(.of main_while1b_v199 : TRef sig ⟨S_, .i32⟩), (.of main_while1b_call10_c : TRef sig ⟨S_, .i32⟩), (.of main_while1b_call10_c_0 : TRef sig ⟨S_, .i32⟩), (.of main_while1b_call10_c_1 : TRef sig ⟨S_, .i32⟩), (.of main_while1b_call10_c_2 : TRef sig ⟨S_, .i32⟩)] (.of main_while1b_call10_v0 : TRef sig ⟨S1x1x128x8x256, .f32⟩) (fun x i => Host.dynamicSlice S1x1x128x8x256 x (fun k => (i k (Shape.Idx.first h_S_)).toInt) sliceFits_S32x1x128x8x256_S1x1x128x8x256),
    TRef.reshape (.of main_while1b_call10_v0 : TRef sig ⟨S1x1x128x8x256, .f32⟩) (.of main_while1b_v203 : TRef sig ⟨S1x128x8x256, .f32⟩) (rfl : (.f32 : EltTy) = .f32) shapeCasts_S1x1x128x8x256_S1x128x8x256 ]
theorem while1Ops0_4_sub : (while1Ops0_4 : List (HloOp τ sig (Elt F))).Forall fun op => op.bufs ⊆ tcRefs τ sig :=
  ⟨nullary_bufs_sub .., nullary_bufs_sub .., nullary_bufs_sub .., nullary_bufs_sub .., unaryIndexed_bufs_sub .., reshape_bufs_sub ..⟩
/-- 6 host operations of @dynamic_index_in_dim (main_while1b_call11), in order. -/
abbrev while1Ops0_5 : List (HloOp τ sig (Elt F)) :=
  [ TRef.nullary (.of main_while1b_call11_c : TRef sig ⟨S_, .i32⟩) (constantI S_ 32 0#32),
    TRef.nullary (.of main_while1b_call11_c_0 : TRef sig ⟨S_, .i32⟩) (constantI S_ 32 0#32),
    TRef.nullary (.of main_while1b_call11_c_1 : TRef sig ⟨S_, .i32⟩) (constantI S_ 32 0#32),
    TRef.nullary (.of main_while1b_call11_c_2 : TRef sig ⟨S_, .i32⟩) (constantI S_ 32 0#32),
    TRef.unaryIndexed (.of main_v136_4 : TRef sig ⟨S32x1x128x8x128, .f32⟩) ![(.of main_while1b_v199 : TRef sig ⟨S_, .i32⟩), (.of main_while1b_call11_c : TRef sig ⟨S_, .i32⟩), (.of main_while1b_call11_c_0 : TRef sig ⟨S_, .i32⟩), (.of main_while1b_call11_c_1 : TRef sig ⟨S_, .i32⟩), (.of main_while1b_call11_c_2 : TRef sig ⟨S_, .i32⟩)] (.of main_while1b_call11_v0 : TRef sig ⟨S1x1x128x8x128, .f32⟩) (fun x i => Host.dynamicSlice S1x1x128x8x128 x (fun k => (i k (Shape.Idx.first h_S_)).toInt) sliceFits_S32x1x128x8x128_S1x1x128x8x128),
    TRef.reshape (.of main_while1b_call11_v0 : TRef sig ⟨S1x1x128x8x128, .f32⟩) (.of main_while1b_v204 : TRef sig ⟨S1x128x8x128, .f32⟩) (rfl : (.f32 : EltTy) = .f32) shapeCasts_S1x1x128x8x128_S1x128x8x128 ]
theorem while1Ops0_5_sub : (while1Ops0_5 : List (HloOp τ sig (Elt F))).Forall fun op => op.bufs ⊆ tcRefs τ sig :=
  ⟨nullary_bufs_sub .., nullary_bufs_sub .., nullary_bufs_sub .., nullary_bufs_sub .., unaryIndexed_bufs_sub .., reshape_bufs_sub ..⟩
/-- 16 host operations of host loop 1's body region, in order. -/
abbrev while1Ops0_6 : List (HloOp τ sig (Elt F)) :=
  [ binary main_v136_9 main_while1b_v204 main_while1b_v205 ((fun l r => Host.dotGeneral dot_S1x8x128x256_S1x128x8x128_S1x8x256x128_2_3_3_1_01_02 none l r) : Arr F S1x8x128x256 .f32 → Arr F S1x128x8x128 .f32 → Arr F S1x8x256x128 .f32),
    unary main_while1b_v205 main_while1b_v206 ((transpose S1x128x8x256 [0, 3, 1, 2] · transposes_S1x8x256x128_S1x128x8x256_0_3_1_2) : Arr F S1x8x256x128 .f32 → Arr F S1x128x8x256 .f32),
    binary main_v136_9 main_while1b_v203 main_while1b_v207 ((fun l r => Host.dotGeneral dot_S1x8x128x256_S1x128x8x256_S1x8x128x128_3_3_2_1_01_02 none l r) : Arr F S1x8x128x256 .f32 → Arr F S1x128x8x256 .f32 → Arr F S1x8x128x128 .f32),
    unary main_while1b_v207 main_while1b_v208 ((transpose S1x128x8x128 [0, 3, 1, 2] · transposes_S1x8x128x128_S1x128x8x128_0_3_1_2) : Arr F S1x8x128x128 .f32 → Arr F S1x128x8x128 .f32),
    unary main_v136_7 main_while1b_v209 (broadcastInDim S1x128x8x128 ![0, 1, 2, 3] bcast_S1x128x8x1_S1x128x8x128_0_1_2_3 : Arr F S1x128x8x1 .f32 → Arr F S1x128x8x128 .f32),
    binary main_while1b_v208 main_while1b_v209 main_while1b_v210 (mulf : Arr F S1x128x8x128 .f32 → Arr F S1x128x8x128 .f32 → Arr F S1x128x8x128 .f32),
    unary main_v136_6 main_while1b_v211 (broadcastInDim S1x8x128x256 ![0, 1, 2, 3] bcast_S1x8x1x1_S1x8x128x256_0_1_2_3 : Arr F S1x8x1x1 .f32 → Arr F S1x8x128x256 .f32),
    binary main_while1b_v211 main_v136_9 main_while1b_v212 (mulf : Arr F S1x8x128x256 .f32 → Arr F S1x8x128x256 .f32 → Arr F S1x8x128x256 .f32),
    unary main_v136_5 main_while1b_v213 (broadcastInDim S1x128x8x256 ![0, 1, 2, 3] bcast_S1x128x8x1_S1x128x8x256_0_1_2_3 : Arr F S1x128x8x1 .f32 → Arr F S1x128x8x256 .f32),
    binary main_while1b_v200 main_while1b_v213 main_while1b_v214 (mulf : Arr F S1x128x8x256 .f32 → Arr F S1x128x8x256 .f32 → Arr F S1x128x8x256 .f32),
    unary main_while1b_v214 main_while1b_v215 ((transpose S1x8x256x128 [0, 2, 3, 1] · transposes_S1x128x8x256_S1x8x256x128_0_2_3_1) : Arr F S1x128x8x256 .f32 → Arr F S1x8x256x128 .f32),
    binary main_while1b_v215 main_while1b_v202 main_while1b_v216 ((fun l r => Host.dotGeneral dot_S1x8x256x128_S1x8x128x256_S1x8x128x128_2_3_3_2_01_01 none l r) : Arr F S1x8x256x128 .f32 → Arr F S1x8x128x256 .f32 → Arr F S1x8x128x128 .f32),
    unary main_while1b_v216 main_while1b_v217 ((transpose S1x128x8x128 [0, 2, 1, 3] · transposes_S1x8x128x128_S1x128x8x128_0_2_1_3) : Arr F S1x8x128x128 .f32 → Arr F S1x128x8x128 .f32),
    binary main_while1b_v215 main_while1b_v201 main_while1b_v218 ((fun l r => Host.dotGeneral dot_S1x8x256x128_S1x128x8x128_S1x8x256x128_3_1_2_3_01_02 none l r) : Arr F S1x8x256x128 .f32 → Arr F S1x128x8x128 .f32 → Arr F S1x8x256x128 .f32),
    unary main_while1b_v218 main_while1b_v219 ((transpose S1x8x128x256 [0, 1, 3, 2] · transposes_S1x8x256x128_S1x8x128x256_0_1_3_2) : Arr F S1x8x256x128 .f32 → Arr F S1x8x128x256 .f32),
    binary main_while1b_v212 main_while1b_v219 main_while1b_v220 (addf : Arr F S1x8x128x256 .f32 → Arr F S1x8x128x256 .f32 → Arr F S1x8x128x256 .f32) ]
theorem while1Ops0_6_sub : (while1Ops0_6 : List (HloOp τ sig (Elt F))).Forall fun op => op.bufs ⊆ tcRefs τ sig :=
  ⟨binary_bufs_sub .., unary_bufs_sub .., binary_bufs_sub .., unary_bufs_sub .., unary_bufs_sub .., binary_bufs_sub .., unary_bufs_sub .., binary_bufs_sub .., unary_bufs_sub .., binary_bufs_sub .., unary_bufs_sub .., binary_bufs_sub .., unary_bufs_sub .., binary_bufs_sub .., unary_bufs_sub .., binary_bufs_sub ..⟩
/-- 6 host operations of @dynamic_update_index_in_dim_2 (main_while1b_call12), in order. -/
abbrev while1Ops0_7 : List (HloOp τ sig (Elt F)) :=
  [ TRef.unary (.of main_while1b_v217 : TRef sig ⟨S1x128x8x128, .f32⟩) (.of main_while1b_call12_v0 : TRef sig ⟨S1x1x128x8x128, .f32⟩) (broadcastInDim S1x1x128x8x128 ![1, 2, 3, 4] bcast_S1x128x8x128_S1x1x128x8x128_1_2_3_4),
    TRef.nullary (.of main_while1b_call12_c : TRef sig ⟨S_, .i32⟩) (constantI S_ 32 0#32),
    TRef.nullary (.of main_while1b_call12_c_0 : TRef sig ⟨S_, .i32⟩) (constantI S_ 32 0#32),
    TRef.nullary (.of main_while1b_call12_c_1 : TRef sig ⟨S_, .i32⟩) (constantI S_ 32 0#32),
    TRef.nullary (.of main_while1b_call12_c_2 : TRef sig ⟨S_, .i32⟩) (constantI S_ 32 0#32),
    TRef.binaryIndexed (.of main_v136_10 : TRef sig ⟨S32x1x128x8x128, .f32⟩) (.of main_while1b_call12_v0 : TRef sig ⟨S1x1x128x8x128, .f32⟩) ![(.of main_while1b_v199 : TRef sig ⟨S_, .i32⟩), (.of main_while1b_call12_c : TRef sig ⟨S_, .i32⟩), (.of main_while1b_call12_c_0 : TRef sig ⟨S_, .i32⟩), (.of main_while1b_call12_c_1 : TRef sig ⟨S_, .i32⟩), (.of main_while1b_call12_c_2 : TRef sig ⟨S_, .i32⟩)] (.of main_while1b_v221 : TRef sig ⟨S32x1x128x8x128, .f32⟩) (fun x u i => Host.dynamicUpdateSlice x u (fun k => (i k (Shape.Idx.first h_S_)).toInt) updateFits_S32x1x128x8x128_S1x1x128x8x128) ]
theorem while1Ops0_7_sub : (while1Ops0_7 : List (HloOp τ sig (Elt F))).Forall fun op => op.bufs ⊆ tcRefs τ sig :=
  ⟨unary_bufs_sub .., nullary_bufs_sub .., nullary_bufs_sub .., nullary_bufs_sub .., nullary_bufs_sub .., binaryIndexed_bufs_sub ..⟩
/-- 6 host operations of @dynamic_update_index_in_dim_2 (main_while1b_call13), in order. -/
abbrev while1Ops0_8 : List (HloOp τ sig (Elt F)) :=
  [ TRef.unary (.of main_while1b_v210 : TRef sig ⟨S1x128x8x128, .f32⟩) (.of main_while1b_call13_v0 : TRef sig ⟨S1x1x128x8x128, .f32⟩) (broadcastInDim S1x1x128x8x128 ![1, 2, 3, 4] bcast_S1x128x8x128_S1x1x128x8x128_1_2_3_4),
    TRef.nullary (.of main_while1b_call13_c : TRef sig ⟨S_, .i32⟩) (constantI S_ 32 0#32),
    TRef.nullary (.of main_while1b_call13_c_0 : TRef sig ⟨S_, .i32⟩) (constantI S_ 32 0#32),
    TRef.nullary (.of main_while1b_call13_c_1 : TRef sig ⟨S_, .i32⟩) (constantI S_ 32 0#32),
    TRef.nullary (.of main_while1b_call13_c_2 : TRef sig ⟨S_, .i32⟩) (constantI S_ 32 0#32),
    TRef.binaryIndexed (.of main_v136_11 : TRef sig ⟨S32x1x128x8x128, .f32⟩) (.of main_while1b_call13_v0 : TRef sig ⟨S1x1x128x8x128, .f32⟩) ![(.of main_while1b_v199 : TRef sig ⟨S_, .i32⟩), (.of main_while1b_call13_c : TRef sig ⟨S_, .i32⟩), (.of main_while1b_call13_c_0 : TRef sig ⟨S_, .i32⟩), (.of main_while1b_call13_c_1 : TRef sig ⟨S_, .i32⟩), (.of main_while1b_call13_c_2 : TRef sig ⟨S_, .i32⟩)] (.of main_while1b_v222 : TRef sig ⟨S32x1x128x8x128, .f32⟩) (fun x u i => Host.dynamicUpdateSlice x u (fun k => (i k (Shape.Idx.first h_S_)).toInt) updateFits_S32x1x128x8x128_S1x1x128x8x128) ]
theorem while1Ops0_8_sub : (while1Ops0_8 : List (HloOp τ sig (Elt F))).Forall fun op => op.bufs ⊆ tcRefs τ sig :=
  ⟨unary_bufs_sub .., nullary_bufs_sub .., nullary_bufs_sub .., nullary_bufs_sub .., nullary_bufs_sub .., binaryIndexed_bufs_sub ..⟩
/-- 6 host operations of @dynamic_update_index_in_dim (main_while1b_call14), in order. -/
abbrev while1Ops0_9 : List (HloOp τ sig (Elt F)) :=
  [ TRef.unary (.of main_while1b_v206 : TRef sig ⟨S1x128x8x256, .f32⟩) (.of main_while1b_call14_v0 : TRef sig ⟨S1x1x128x8x256, .f32⟩) (broadcastInDim S1x1x128x8x256 ![1, 2, 3, 4] bcast_S1x128x8x256_S1x1x128x8x256_1_2_3_4),
    TRef.nullary (.of main_while1b_call14_c : TRef sig ⟨S_, .i32⟩) (constantI S_ 32 0#32),
    TRef.nullary (.of main_while1b_call14_c_0 : TRef sig ⟨S_, .i32⟩) (constantI S_ 32 0#32),
    TRef.nullary (.of main_while1b_call14_c_1 : TRef sig ⟨S_, .i32⟩) (constantI S_ 32 0#32),
    TRef.nullary (.of main_while1b_call14_c_2 : TRef sig ⟨S_, .i32⟩) (constantI S_ 32 0#32),
    TRef.binaryIndexed (.of main_v136_12 : TRef sig ⟨S32x1x128x8x256, .f32⟩) (.of main_while1b_call14_v0 : TRef sig ⟨S1x1x128x8x256, .f32⟩) ![(.of main_while1b_v199 : TRef sig ⟨S_, .i32⟩), (.of main_while1b_call14_c : TRef sig ⟨S_, .i32⟩), (.of main_while1b_call14_c_0 : TRef sig ⟨S_, .i32⟩), (.of main_while1b_call14_c_1 : TRef sig ⟨S_, .i32⟩), (.of main_while1b_call14_c_2 : TRef sig ⟨S_, .i32⟩)] (.of main_while1b_v223 : TRef sig ⟨S32x1x128x8x256, .f32⟩) (fun x u i => Host.dynamicUpdateSlice x u (fun k => (i k (Shape.Idx.first h_S_)).toInt) updateFits_S32x1x128x8x256_S1x1x128x8x256) ]
theorem while1Ops0_9_sub : (while1Ops0_9 : List (HloOp τ sig (Elt F))).Forall fun op => op.bufs ⊆ tcRefs τ sig :=
  ⟨unary_bufs_sub .., nullary_bufs_sub .., nullary_bufs_sub .., nullary_bufs_sub .., nullary_bufs_sub .., binaryIndexed_bufs_sub ..⟩
/-- 7 host operations of host loop 1's body region, in order. -/
abbrev while1Ops0_10 : List (HloOp τ sig (Elt F)) :=
  [ nullary main_while1b_c_41 (constantI S_ 32 1#32),
    binary main_v136_8 main_while1b_c_41 main_while1b_v224 (addi : Arr F S_ .i32 → Arr F S_ .i32 → Arr F S_ .i32),
    unary main_while1b_v224 main_v136_8 id,
    unary main_while1b_v220 main_v136_9 id,
    unary main_while1b_v221 main_v136_10 id,
    unary main_while1b_v222 main_v136_11 id,
    unary main_while1b_v223 main_v136_12 id ]
theorem while1Ops0_10_sub : (while1Ops0_10 : List (HloOp τ sig (Elt F))).Forall fun op => op.bufs ⊆ tcRefs τ sig :=
  ⟨nullary_bufs_sub .., binary_bufs_sub .., unary_bufs_sub .., unary_bufs_sub .., unary_bufs_sub .., unary_bufs_sub .., unary_bufs_sub ..⟩
/-- The loop body is the chain of its stretches. -/
theorem while1_body_chain : main_while1_body (F := F) = (Pipeline.chain
  [ seq while1Ops0,
    seq while1Ops0_1,
    seq while1Ops0_2,
    seq while1Ops0_3,
    seq while1Ops0_4,
    seq while1Ops0_5,
    seq while1Ops0_6,
    seq while1Ops0_7,
    seq while1Ops0_8,
    seq while1Ops0_9,
    seq while1Ops0_10 ] : Prog (TpuEff nD τ sig (Elt F) (HostLoop.Sig (Pipeline.Sig Λ₀ (Fin 0) fun p => (pcfgs (F := F) p).Adm) 2) .tc) PUnit) := by
  rewrite [chain_seq_cons, Pipeline.chain_cons, Pipeline.chain_cons, Pipeline.chain_cons, Pipeline.chain_cons, Pipeline.chain_cons, chain_seq_cons, Pipeline.chain_cons, Pipeline.chain_cons, Pipeline.chain_cons, chain_seq_cons]
  chain_rfl

end Cert.ReferenceIdeal.Run

end

end
-- ==== Proof.RefRun.lean ====
/- Hand-written, untrusted. The run of the reference: straight host lines, the scan of the chunks forwards, host lines, the scan of
   the chunks backwards, host lines. It ends at the fold of them all, and the arguments are never written. -/
module

public import proofs.«01_k».proof.Proof.RefOps
public import proofs.«01_k».proof.Proof.RefLoopOps
public import Idealize.ShloMosaic.Lib.Pipeline.RegionsLoop
public import Idealize.ShloMosaic.Lib.Pipeline.RegionsOwned
public import Idealize.ShloMosaic.Lib.StableHlo.RunLoop
public import Idealize.ShloMosaic.Lib.Scf.ExitTest
public import Idealize.ShloMosaic.Lib.Scf.Counter
public import Idealize.ShloMosaic.Lib.Quiescent

@[expose] public section

set_option maxRecDepth 4096

noncomputable section

namespace Cert.ReferenceIdeal.Run

open Idealize.ShloMosaic Idealize.ShloMosaic.TcCoe Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Pipeline (CSeg ucRefs sub_ucRefs)
open Cert.ReferenceIdeal.Gen

variable {F : FTy → Type} [FloatOps F]

/-! ## What each stretch writes -/

/-- What `main_part0_ops0` writes. -/
abbrev main_part0_ops0_W : List (Ref sig .tc) :=
  [main_v0, main_v1, main_cst, main_v2, main_v3, main_cst_0, main_v4, main_v5, main_v6, main_v7, main_v8, main_v9, main_v10, main_v11, main_v12, main_v13,
   main_v14, main_v15, main_v16, main_v17, main_v18, main_v19, main_v20, main_v21, main_v22, main_v23, main_v24, main_v25, main_v26, main_v27, main_v28,
   main_v29, main_v30, main_v31, main_v32, main_v33, main_v34, main_v35, main_v36, main_v37, main_cst_1, main_v38, main_v39, main_v40, main_v41, main_v42,
   main_v43, main_v44, main_v45, main_v46, main_v47, main_v48, main_v49, main_v50, main_v51, main_v52, main_v53, main_v54, main_v55, main_v56]
theorem main_part0_ops0_writes : (main_part0_ops0 : List (HloOp τ sig (Elt F))).Forall fun op => op.writes ⊆ (main_part0_ops0_W.map (Proc.devRef (τ := τ) .tc)).toFinset :=
  StableHlo.forall_writes_sub_of_map rfl
/-- What `main_part1_ops0` writes. -/
abbrev main_part1_ops0_W : List (Ref sig .tc) :=
  [main_v57, main_v58, main_v59, main_cst_2, main_v60, main_v61, main_cst_3, main_v62, main_v63, main_cst_4, main_v64, main_v65, main_v66, main_v67,
   main_v68, main_v69, main_v70, main_v71, main_v72, main_v73, main_cst_5, main_v74, main_v75, main_cst_6, main_v76, main_v77, main_v78, main_v79,
   main_v80, main_v81, main_v82, main_v83, main_cst_7]
theorem main_part1_ops0_writes : (main_part1_ops0 : List (HloOp τ sig (Elt F))).Forall fun op => op.writes ⊆ (main_part1_ops0_W.map (Proc.devRef (τ := τ) .tc)).toFinset :=
  StableHlo.forall_writes_sub_of_map rfl
/-- What `main_part1_ops1` writes. -/
abbrev main_part1_ops1_W : List (Ref sig .tc) :=
  [main_call0_v0, main_call0_v1, main_call0_v2, main_v84]
theorem main_part1_ops1_writes : (main_part1_ops1 : List (HloOp τ sig (Elt F))).Forall fun op => op.writes ⊆ (main_part1_ops1_W.map (Proc.devRef (τ := τ) .tc)).toFinset :=
  StableHlo.forall_writes_sub_of_map rfl
/-- What `main_part1_ops2` writes. -/
abbrev main_part1_ops2_W : List (Ref sig .tc) :=
  [main_v85, main_v86, main_v87, main_v88, main_v89, main_v90, main_v91, main_v92, main_v93, main_v94, main_cst_8, main_v95, main_v96, main_v97, main_v98,
   main_v99, main_v100, main_v101, main_cst_9, main_v102, main_v103, main_v104, main_v105, main_v106, main_v107, main_v108]
theorem main_part1_ops2_writes : (main_part1_ops2 : List (HloOp τ sig (Elt F))).Forall fun op => op.writes ⊆ (main_part1_ops2_W.map (Proc.devRef (τ := τ) .tc)).toFinset :=
  StableHlo.forall_writes_sub_of_map rfl
/-- What `main_part2_ops0` writes. -/
abbrev main_part2_ops0_W : List (Ref sig .tc) :=
  [main_v109, main_cst_10, main_v110, main_v111, main_v112, main_cst_11, main_v113, main_v114, main_v115, main_v116, main_v117, main_v118, main_v119,
   main_cst_12, main_v120, main_cst_13, main_v121, main_cst_14, main_v122, main_c, main_v123_0, main_v123_1, main_v123_2, main_v123_3, main_v123_4,
   main_v123_5, main_v123_6, main_v123_7, main_v123_8, main_v123_9, main_v123_10]
theorem main_part2_ops0_writes : (main_part2_ops0 : List (HloOp τ sig (Elt F))).Forall fun op => op.writes ⊆ (main_part2_ops0_W.map (Proc.devRef (τ := τ) .tc)).toFinset :=
  StableHlo.forall_writes_sub_of_map rfl
/-- What `main_part2_ops1` writes. -/
abbrev main_part2_ops1_W : List (Ref sig .tc) :=
  [main_v124, main_v125, main_v126, main_v127, main_v128, main_cst_15, main_v129, main_v130, main_v131, main_cst_16, main_v132, main_cst_17, main_v133,
   main_cst_18, main_v134, main_cst_19, main_v135, main_c_20, main_v136_0, main_v136_1, main_v136_2, main_v136_3, main_v136_4, main_v136_5, main_v136_6,
   main_v136_7, main_v136_8, main_v136_9]
theorem main_part2_ops1_writes : (main_part2_ops1 : List (HloOp τ sig (Elt F))).Forall fun op => op.writes ⊆ (main_part2_ops1_W.map (Proc.devRef (τ := τ) .tc)).toFinset :=
  StableHlo.forall_writes_sub_of_map rfl
/-- What `main_part3_ops0` writes. -/
abbrev main_part3_ops0_W : List (Ref sig .tc) :=
  [main_v136_10, main_v136_11, main_v136_12]
theorem main_part3_ops0_writes : (main_part3_ops0 : List (HloOp τ sig (Elt F))).Forall fun op => op.writes ⊆ (main_part3_ops0_W.map (Proc.devRef (τ := τ) .tc)).toFinset :=
  StableHlo.forall_writes_sub_of_map rfl
/-- What `main_part3_ops1` writes. -/
abbrev main_part3_ops1_W : List (Ref sig .tc) :=
  [main_v137, main_v138, main_v139, main_v140, main_v141, main_v142, main_v143, main_v144, main_v145, main_v146, main_v147, main_v148, main_v149,
   main_v150, main_v151, main_v152, main_v153, main_v154, main_v155, main_v156, main_v157, main_v158, main_v159, main_v160, main_v161, main_v162,
   main_v163, main_v164, main_v165, main_v166, main_v167, main_v168, main_v169, main_cst_21, main_v170, main_cst_22, main_v171, main_v172, main_v173,
   main_cst_23, main_v174, main_v175, main_v176, main_v177, main_v178, main_v179, main_v180, main_v181, main_v182, main_v183, main_v184, main_v185,
   main_v186, main_v187, main_v188, main_cst_24]
theorem main_part3_ops1_writes : (main_part3_ops1 : List (HloOp τ sig (Elt F))).Forall fun op => op.writes ⊆ (main_part3_ops1_W.map (Proc.devRef (τ := τ) .tc)).toFinset :=
  StableHlo.forall_writes_sub_of_map rfl
/-- What `main_part4_ops0` writes. -/
abbrev main_part4_ops0_W : List (Ref sig .tc) :=
  [main_v189, main_cst_25, main_v190, main_v191, main_v192, main_v193, main_cst_26, main_v194, main_v195, main_v196, main_v197]
theorem main_part4_ops0_writes : (main_part4_ops0 : List (HloOp τ sig (Elt F))).Forall fun op => op.writes ⊆ (main_part4_ops0_W.map (Proc.devRef (τ := τ) .tc)).toFinset :=
  StableHlo.forall_writes_sub_of_map rfl
/-- What `while0Ops0` writes. -/
abbrev while0Ops0_W : List (Ref sig .tc) :=
  [main_while0b_call1_c, main_while0b_call1_c_0, main_while0b_call1_c_1, main_while0b_call1_c_2, main_while0b_call1_v0, main_while0b_v198]
theorem while0Ops0_writes : (while0Ops0 : List (HloOp τ sig (Elt F))).Forall fun op => op.writes ⊆ (while0Ops0_W.map (Proc.devRef (τ := τ) .tc)).toFinset :=
  StableHlo.forall_writes_sub_of_map rfl
/-- What `while0Ops0_1` writes. -/
abbrev while0Ops0_1_W : List (Ref sig .tc) :=
  [main_while0b_call2_c, main_while0b_call2_c_0, main_while0b_call2_c_1, main_while0b_call2_c_2, main_while0b_call2_v0, main_while0b_v199]
theorem while0Ops0_1_writes : (while0Ops0_1 : List (HloOp τ sig (Elt F))).Forall fun op => op.writes ⊆ (while0Ops0_1_W.map (Proc.devRef (τ := τ) .tc)).toFinset :=
  StableHlo.forall_writes_sub_of_map rfl
/-- What `while0Ops0_2` writes. -/
abbrev while0Ops0_2_W : List (Ref sig .tc) :=
  [main_while0b_call3_c, main_while0b_call3_c_0, main_while0b_call3_c_1, main_while0b_call3_c_2, main_while0b_call3_v0, main_while0b_v200]
theorem while0Ops0_2_writes : (while0Ops0_2 : List (HloOp τ sig (Elt F))).Forall fun op => op.writes ⊆ (while0Ops0_2_W.map (Proc.devRef (τ := τ) .tc)).toFinset :=
  StableHlo.forall_writes_sub_of_map rfl
/-- What `while0Ops0_3` writes. -/
abbrev while0Ops0_3_W : List (Ref sig .tc) :=
  [main_while0b_v201, main_while0b_v202, main_while0b_v203, main_while0b_v204, main_while0b_v205, main_while0b_v206, main_while0b_v207, main_while0b_v208,
   main_while0b_v209, main_while0b_v210]
theorem while0Ops0_3_writes : (while0Ops0_3 : List (HloOp τ sig (Elt F))).Forall fun op => op.writes ⊆ (while0Ops0_3_W.map (Proc.devRef (τ := τ) .tc)).toFinset :=
  StableHlo.forall_writes_sub_of_map rfl
/-- What `while0Ops0_4` writes. -/
abbrev while0Ops0_4_W : List (Ref sig .tc) :=
  [main_while0b_call4_v0, main_while0b_call4_c, main_while0b_call4_c_0, main_while0b_call4_c_1, main_while0b_call4_c_2, main_while0b_v211]
theorem while0Ops0_4_writes : (while0Ops0_4 : List (HloOp τ sig (Elt F))).Forall fun op => op.writes ⊆ (while0Ops0_4_W.map (Proc.devRef (τ := τ) .tc)).toFinset :=
  StableHlo.forall_writes_sub_of_map rfl
/-- What `while0Ops0_5` writes. -/
abbrev while0Ops0_5_W : List (Ref sig .tc) :=
  [main_while0b_call5_v0, main_while0b_call5_c, main_while0b_call5_c_0, main_while0b_call5_c_1, main_while0b_call5_c_2, main_while0b_v212]
theorem while0Ops0_5_writes : (while0Ops0_5 : List (HloOp τ sig (Elt F))).Forall fun op => op.writes ⊆ (while0Ops0_5_W.map (Proc.devRef (τ := τ) .tc)).toFinset :=
  StableHlo.forall_writes_sub_of_map rfl
/-- What `while0Ops0_6` writes. -/
abbrev while0Ops0_6_W : List (Ref sig .tc) :=
  [main_while0b_call6_v0, main_while0b_call6_c, main_while0b_call6_c_0, main_while0b_call6_c_1, main_while0b_call6_c_2, main_while0b_v213]
theorem while0Ops0_6_writes : (while0Ops0_6 : List (HloOp τ sig (Elt F))).Forall fun op => op.writes ⊆ (while0Ops0_6_W.map (Proc.devRef (τ := τ) .tc)).toFinset :=
  StableHlo.forall_writes_sub_of_map rfl
/-- What `while0Ops0_7` writes. -/
abbrev while0Ops0_7_W : List (Ref sig .tc) :=
  [main_while0b_c_37, main_while0b_v214, main_v123_6, main_v123_7, main_v123_8, main_v123_9, main_v123_10]
theorem while0Ops0_7_writes : (while0Ops0_7 : List (HloOp τ sig (Elt F))).Forall fun op => op.writes ⊆ (while0Ops0_7_W.map (Proc.devRef (τ := τ) .tc)).toFinset :=
  StableHlo.forall_writes_sub_of_map rfl
/-- What `while1Ops0` writes. -/
abbrev while1Ops0_W : List (Ref sig .tc) :=
  [main_while1b_c_39, main_while1b_v198, main_while1b_c_40, main_while1b_v199]
theorem while1Ops0_writes : (while1Ops0 : List (HloOp τ sig (Elt F))).Forall fun op => op.writes ⊆ (while1Ops0_W.map (Proc.devRef (τ := τ) .tc)).toFinset :=
  StableHlo.forall_writes_sub_of_map rfl
/-- What `while1Ops0_1` writes. -/
abbrev while1Ops0_1_W : List (Ref sig .tc) :=
  [main_while1b_call7_c, main_while1b_call7_c_0, main_while1b_call7_c_1, main_while1b_call7_c_2, main_while1b_call7_v0, main_while1b_v200]
theorem while1Ops0_1_writes : (while1Ops0_1 : List (HloOp τ sig (Elt F))).Forall fun op => op.writes ⊆ (while1Ops0_1_W.map (Proc.devRef (τ := τ) .tc)).toFinset :=
  StableHlo.forall_writes_sub_of_map rfl
/-- What `while1Ops0_2` writes. -/
abbrev while1Ops0_2_W : List (Ref sig .tc) :=
  [main_while1b_call8_c, main_while1b_call8_c_0, main_while1b_call8_c_1, main_while1b_call8_c_2, main_while1b_call8_v0, main_while1b_v201]
theorem while1Ops0_2_writes : (while1Ops0_2 : List (HloOp τ sig (Elt F))).Forall fun op => op.writes ⊆ (while1Ops0_2_W.map (Proc.devRef (τ := τ) .tc)).toFinset :=
  StableHlo.forall_writes_sub_of_map rfl
/-- What `while1Ops0_3` writes. -/
abbrev while1Ops0_3_W : List (Ref sig .tc) :=
  [main_while1b_call9_c, main_while1b_call9_c_0, main_while1b_call9_c_1, main_while1b_call9_c_2, main_while1b_call9_v0, main_while1b_v202]
theorem while1Ops0_3_writes : (while1Ops0_3 : List (HloOp τ sig (Elt F))).Forall fun op => op.writes ⊆ (while1Ops0_3_W.map (Proc.devRef (τ := τ) .tc)).toFinset :=
  StableHlo.forall_writes_sub_of_map rfl
/-- What `while1Ops0_4` writes. -/
abbrev while1Ops0_4_W : List (Ref sig .tc) :=
  [main_while1b_call10_c, main_while1b_call10_c_0, main_while1b_call10_c_1, main_while1b_call10_c_2, main_while1b_call10_v0, main_while1b_v203]
theorem while1Ops0_4_writes : (while1Ops0_4 : List (HloOp τ sig (Elt F))).Forall fun op => op.writes ⊆ (while1Ops0_4_W.map (Proc.devRef (τ := τ) .tc)).toFinset :=
  StableHlo.forall_writes_sub_of_map rfl
/-- What `while1Ops0_5` writes. -/
abbrev while1Ops0_5_W : List (Ref sig .tc) :=
  [main_while1b_call11_c, main_while1b_call11_c_0, main_while1b_call11_c_1, main_while1b_call11_c_2, main_while1b_call11_v0, main_while1b_v204]
theorem while1Ops0_5_writes : (while1Ops0_5 : List (HloOp τ sig (Elt F))).Forall fun op => op.writes ⊆ (while1Ops0_5_W.map (Proc.devRef (τ := τ) .tc)).toFinset :=
  StableHlo.forall_writes_sub_of_map rfl
/-- What `while1Ops0_6` writes. -/
abbrev while1Ops0_6_W : List (Ref sig .tc) :=
  [main_while1b_v205, main_while1b_v206, main_while1b_v207, main_while1b_v208, main_while1b_v209, main_while1b_v210, main_while1b_v211, main_while1b_v212,
   main_while1b_v213, main_while1b_v214, main_while1b_v215, main_while1b_v216, main_while1b_v217, main_while1b_v218, main_while1b_v219, main_while1b_v220]
theorem while1Ops0_6_writes : (while1Ops0_6 : List (HloOp τ sig (Elt F))).Forall fun op => op.writes ⊆ (while1Ops0_6_W.map (Proc.devRef (τ := τ) .tc)).toFinset :=
  StableHlo.forall_writes_sub_of_map rfl
/-- What `while1Ops0_7` writes. -/
abbrev while1Ops0_7_W : List (Ref sig .tc) :=
  [main_while1b_call12_v0, main_while1b_call12_c, main_while1b_call12_c_0, main_while1b_call12_c_1, main_while1b_call12_c_2, main_while1b_v221]
theorem while1Ops0_7_writes : (while1Ops0_7 : List (HloOp τ sig (Elt F))).Forall fun op => op.writes ⊆ (while1Ops0_7_W.map (Proc.devRef (τ := τ) .tc)).toFinset :=
  StableHlo.forall_writes_sub_of_map rfl
/-- What `while1Ops0_8` writes. -/
abbrev while1Ops0_8_W : List (Ref sig .tc) :=
  [main_while1b_call13_v0, main_while1b_call13_c, main_while1b_call13_c_0, main_while1b_call13_c_1, main_while1b_call13_c_2, main_while1b_v222]
theorem while1Ops0_8_writes : (while1Ops0_8 : List (HloOp τ sig (Elt F))).Forall fun op => op.writes ⊆ (while1Ops0_8_W.map (Proc.devRef (τ := τ) .tc)).toFinset :=
  StableHlo.forall_writes_sub_of_map rfl
/-- What `while1Ops0_9` writes. -/
abbrev while1Ops0_9_W : List (Ref sig .tc) :=
  [main_while1b_call14_v0, main_while1b_call14_c, main_while1b_call14_c_0, main_while1b_call14_c_1, main_while1b_call14_c_2, main_while1b_v223]
theorem while1Ops0_9_writes : (while1Ops0_9 : List (HloOp τ sig (Elt F))).Forall fun op => op.writes ⊆ (while1Ops0_9_W.map (Proc.devRef (τ := τ) .tc)).toFinset :=
  StableHlo.forall_writes_sub_of_map rfl
/-- What `while1Ops0_10` writes. -/
abbrev while1Ops0_10_W : List (Ref sig .tc) :=
  [main_while1b_c_41, main_while1b_v224, main_v136_8, main_v136_9, main_v136_10, main_v136_11, main_v136_12]
theorem while1Ops0_10_writes : (while1Ops0_10 : List (HloOp τ sig (Elt F))).Forall fun op => op.writes ⊆ (while1Ops0_10_W.map (Proc.devRef (τ := τ) .tc)).toFinset :=
  StableHlo.forall_writes_sub_of_map rfl

/-- Every operation of the stretches writes references of `W` only. -/
def Writes (items : List (List (HloOp τ sig (Elt F)))) (W : List (Ref sig .tc)) : Prop :=
  ∀ ops ∈ items, ops.Forall fun op => op.writes ⊆ (W.map (Proc.devRef (τ := τ) .tc)).toFinset

theorem Writes.nil : Writes ([] : List (List (HloOp τ sig (Elt F)))) [] := fun _ h => nomatch h

theorem Writes.cons {ops : List (HloOp τ sig (Elt F))} {rest : List (List (HloOp τ sig (Elt F)))} {W W' : List (Ref sig .tc)}
    (h : ops.Forall fun op => op.writes ⊆ (W.map (Proc.devRef (τ := τ) .tc)).toFinset) (h' : Writes rest W') : Writes (ops :: rest) (W ++ W') := by
  intro o ho
  rcases List.mem_cons.mp ho with rfl | ho
  · refine List.forall_iff_forall_mem.mpr fun op hop => (List.forall_iff_forall_mem.mp h op hop).trans ?_
    intro b hb
    rw [List.mem_toFinset] at hb ⊢
    rw [List.map_append]
    exact List.mem_append_left _ hb
  · refine List.forall_iff_forall_mem.mpr fun op hop => (List.forall_iff_forall_mem.mp (h' o ho) op hop).trans ?_
    intro b hb
    rw [List.mem_toFinset] at hb ⊢
    rw [List.map_append]
    exact List.mem_append_right _ hb

/-- A reference no operation writes keeps its contents. -/
theorem Writes.keep {W : List (Ref sig .tc)} {r : Ref sig .tc} (hr : r ∉ W) : ∀ {items : List (List (HloOp τ sig (Elt F)))}, Writes items W →
    ∀ V : Valuation τ sig (Elt F), afterL items V (Proc.devRef .tc r) = V (Proc.devRef .tc r)
  | [], _, _ => rfl
  | ops :: _, h, V => by
    rw [afterL_cons, Writes.keep hr (fun o ho => h o (List.mem_cons_of_mem _ ho)), after_of_writes_sub ops V (h ops List.mem_cons_self) hr]

/-- Nor does a loop that does not write it change a reference. -/
theorem Writes.keep_trips {condOps : List (HloOp τ sig (Elt F))} {bodyI : List (List (HloOp τ sig (Elt F)))} {Wc W : List (Ref sig .tc)} {r : Ref sig .tc}
    (hc : condOps.Forall fun op => op.writes ⊆ (Wc.map (Proc.devRef (τ := τ) .tc)).toFinset) (hb : Writes bodyI W) (hrc : r ∉ Wc) (hr : r ∉ W)
    (W₀ : Dev nD → Valuation τ sig (Elt F)) (c : Dev nD) : ∀ k, atTrip condOps bodyI W₀ k c (Proc.devRef .tc r) = W₀ c (Proc.devRef .tc r)
  | 0 => rfl
  | k + 1 => by rw [atTrip_succ, hb.keep hr, after_of_writes_sub condOps _ hc hrc, Writes.keep_trips hc hb hrc hr W₀ c k]

/-! ## The lists -/

abbrev Ops (F : FTy → Type) [FloatOps F] : Type := List (HloOp τ sig (Elt F))

/-- @main up to the first scan; between the scans; after the second. -/
abbrev preI : List (Ops F) := [main_part0_ops0, main_part1_ops0, main_part1_ops1, main_part1_ops2, main_part2_ops0]
abbrev midI : List (Ops F) := [main_part2_ops1, main_part3_ops0]
abbrev postI : List (Ops F) := [main_part3_ops1, main_part4_ops0]
/-- The scans' bodies. -/
abbrev body0I : List (Ops F) := [while0Ops0, while0Ops0_1, while0Ops0_2, while0Ops0_3, while0Ops0_4, while0Ops0_5, while0Ops0_6, while0Ops0_7]
abbrev body1I : List (Ops F) := [while1Ops0, while1Ops0_1, while1Ops0_2, while1Ops0_3, while1Ops0_4, while1Ops0_5, while1Ops0_6, while1Ops0_7,
  while1Ops0_8, while1Ops0_9, while1Ops0_10]
/-- Their conditions: the counter against 32. -/
abbrev cond0 : Ops F := [nullary main_while0c_c_37 (constantI S_ 32 32#32), binary main_v123_6 main_while0c_c_37 main_while0c_v198 (cmpi .slt)]
abbrev cond1 : Ops F := [nullary main_while1c_c_39 (constantI S_ 32 32#32), binary main_v136_8 main_while1c_c_39 main_while1c_v198 (cmpi .slt)]

abbrev preI_W : List (Ref sig .tc) := main_part0_ops0_W ++ (main_part1_ops0_W ++ (main_part1_ops1_W ++ (main_part1_ops2_W ++ (main_part2_ops0_W ++ []))))
abbrev midI_W : List (Ref sig .tc) := main_part2_ops1_W ++ (main_part3_ops0_W ++ [])
abbrev postI_W : List (Ref sig .tc) := main_part3_ops1_W ++ (main_part4_ops0_W ++ [])
abbrev body0I_W : List (Ref sig .tc) := while0Ops0_W ++ (while0Ops0_1_W ++ (while0Ops0_2_W ++ (while0Ops0_3_W ++ (while0Ops0_4_W ++ (while0Ops0_5_W
  ++ (while0Ops0_6_W ++ (while0Ops0_7_W ++ [])))))))
abbrev body1I_W : List (Ref sig .tc) := while1Ops0_W ++ (while1Ops0_1_W ++ (while1Ops0_2_W ++ (while1Ops0_3_W ++ (while1Ops0_4_W ++ (while1Ops0_5_W
  ++ (while1Ops0_6_W ++ (while1Ops0_7_W ++ (while1Ops0_8_W ++ (while1Ops0_9_W ++ (while1Ops0_10_W ++ []))))))))))
abbrev cond0_W : List (Ref sig .tc) := [main_while0c_c_37, main_while0c_v198]
abbrev cond1_W : List (Ref sig .tc) := [main_while1c_c_39, main_while1c_v198]

theorem preI_writes : Writes (preI (F := F)) preI_W :=
  .cons main_part0_ops0_writes (.cons main_part1_ops0_writes (.cons main_part1_ops1_writes (.cons main_part1_ops2_writes (.cons main_part2_ops0_writes .nil))))
theorem midI_writes : Writes (midI (F := F)) midI_W := .cons main_part2_ops1_writes (.cons main_part3_ops0_writes .nil)
theorem postI_writes : Writes (postI (F := F)) postI_W := .cons main_part3_ops1_writes (.cons main_part4_ops0_writes .nil)
theorem body0I_writes : Writes (body0I (F := F)) body0I_W :=
  .cons while0Ops0_writes (.cons while0Ops0_1_writes (.cons while0Ops0_2_writes (.cons while0Ops0_3_writes (.cons while0Ops0_4_writes
    (.cons while0Ops0_5_writes (.cons while0Ops0_6_writes (.cons while0Ops0_7_writes .nil)))))))
theorem body1I_writes : Writes (body1I (F := F)) body1I_W :=
  .cons while1Ops0_writes (.cons while1Ops0_1_writes (.cons while1Ops0_2_writes (.cons while1Ops0_3_writes (.cons while1Ops0_4_writes
    (.cons while1Ops0_5_writes (.cons while1Ops0_6_writes (.cons while1Ops0_7_writes (.cons while1Ops0_8_writes (.cons while1Ops0_9_writes
      (.cons while1Ops0_10_writes .nil))))))))))
theorem cond0_writes : (cond0 (F := F)).Forall fun op => op.writes ⊆ (cond0_W.map (Proc.devRef (τ := τ) .tc)).toFinset := StableHlo.forall_writes_sub_of_map rfl
theorem cond1_writes : (cond1 (F := F)).Forall fun op => op.writes ⊆ (cond1_W.map (Proc.devRef (τ := τ) .tc)).toFinset := StableHlo.forall_writes_sub_of_map rfl

theorem preI_plain : Plain (preI (F := F)) :=
  .cons main_part0_ops0_sub (.cons main_part1_ops0_sub (.cons main_part1_ops1_sub (.cons main_part1_ops2_sub (.cons main_part2_ops0_sub .nil))))
theorem midI_plain : Plain (midI (F := F)) := .cons main_part2_ops1_sub (.cons main_part3_ops0_sub .nil)
theorem postI_plain : Plain (postI (F := F)) := .cons main_part3_ops1_sub (.cons main_part4_ops0_sub .nil)
theorem body0I_plain : Plain (body0I (F := F)) :=
  .cons while0Ops0_sub (.cons while0Ops0_1_sub (.cons while0Ops0_2_sub (.cons while0Ops0_3_sub (.cons while0Ops0_4_sub (.cons while0Ops0_5_sub
    (.cons while0Ops0_6_sub (.cons while0Ops0_7_sub .nil)))))))
theorem body1I_plain : Plain (body1I (F := F)) :=
  .cons while1Ops0_sub (.cons while1Ops0_1_sub (.cons while1Ops0_2_sub (.cons while1Ops0_3_sub (.cons while1Ops0_4_sub (.cons while1Ops0_5_sub
    (.cons while1Ops0_6_sub (.cons while1Ops0_7_sub (.cons while1Ops0_8_sub (.cons while1Ops0_9_sub (.cons while1Ops0_10_sub .nil))))))))))

/-! ## The contents along the run -/

variable (m : (ℓ : Loc nD τ sig) → Buf (Elt F) ℓ)

/-- At the first scan's entry, before its trip `k`, and after it. -/
abbrev E0 (c : Dev nD) : Valuation τ sig (Elt F) := afterL preI (launchContents m c)
abbrev W0 (k : ℕ) (c : Dev nD) : Valuation τ sig (Elt F) := atTrip cond0 body0I (E0 m) k c
abbrev X0 (c : Dev nD) : Valuation τ sig (Elt F) := after cond0 (W0 m 32 c)
/-- At the second scan's entry, before its trip `k`, and after it. -/
abbrev E1 (c : Dev nD) : Valuation τ sig (Elt F) := afterL midI (X0 m c)
abbrev W1 (k : ℕ) (c : Dev nD) : Valuation τ sig (Elt F) := atTrip cond1 body1I (E1 m) k c
abbrev X1 (c : Dev nD) : Valuation τ sig (Elt F) := after cond1 (W1 m 32 c)
/-- At the end. -/
abbrev Fin' (c : Dev nD) : Valuation τ sig (Elt F) := afterL postI (X1 m c)

/-- A reference nothing writes, an argument, ends as it began. -/
theorem fin_keep (c : Dev nD) (r : Ref sig .tc) (h : r ∉ preI_W ∧ r ∉ cond0_W ∧ r ∉ body0I_W ∧ r ∉ midI_W ∧ r ∉ cond1_W ∧ r ∉ body1I_W ∧ r ∉ postI_W) :
    Fin' m c (Proc.devRef .tc r) = launchContents m c (Proc.devRef .tc r) := by
  obtain ⟨h1, h2, h3, h4, h5, h6, h7⟩ := h
  exact (postI_writes.keep h7 _).trans <| (after_of_writes_sub cond1 _ cond1_writes h5).trans <|
    (Writes.keep_trips cond1_writes body1I_writes h5 h6 _ c 32).trans <| (midI_writes.keep h4 _).trans <|
    (after_of_writes_sub cond0 _ cond0_writes h2).trans <| (Writes.keep_trips cond0_writes body0I_writes h2 h3 _ c 32).trans <| preI_writes.keep h1 _

/-! ## The counters -/

theorem ctr0_entry (c : Dev nD) : E0 m c (Proc.devRef .tc main_v123_6) = fun _ => (0#32 : BitVec 32) := by
  rw [show E0 m c = after main_part2_ops0 (afterL [main_part0_ops0, main_part1_ops0, main_part1_ops1, main_part1_ops2] (launchContents m c)) from rfl]
  generalize afterL [main_part0_ops0, main_part1_ops0, main_part1_ops1, main_part1_ops2] (launchContents m c) = V
  after_results
  rfl

theorem ctr0_step (V : Valuation τ sig (Elt F)) : afterL body0I (after cond0 V) (Proc.devRef .tc main_v123_6)
    = addi (V (Proc.devRef .tc main_v123_6)) (constantI S_ 32 1#32) := by
  have h : Writes (F := F) [while0Ops0, while0Ops0_1, while0Ops0_2, while0Ops0_3, while0Ops0_4, while0Ops0_5, while0Ops0_6]
      (while0Ops0_W ++ (while0Ops0_1_W ++ (while0Ops0_2_W ++ (while0Ops0_3_W ++ (while0Ops0_4_W ++ (while0Ops0_5_W ++ (while0Ops0_6_W ++ []))))))) :=
    .cons while0Ops0_writes (.cons while0Ops0_1_writes (.cons while0Ops0_2_writes (.cons while0Ops0_3_writes (.cons while0Ops0_4_writes
      (.cons while0Ops0_5_writes (.cons while0Ops0_6_writes .nil))))))
  have hk := h.keep (r := main_v123_6) (by decide) (after cond0 V)
  rw [after_of_writes_sub cond0 V cond0_writes (by decide)] at hk
  rw [← hk]
  rw [show afterL body0I (after cond0 V) = after while0Ops0_7 (afterL [while0Ops0, while0Ops0_1, while0Ops0_2, while0Ops0_3, while0Ops0_4, while0Ops0_5, while0Ops0_6] (after cond0 V)) from rfl]
  generalize afterL [while0Ops0, while0Ops0_1, while0Ops0_2, while0Ops0_3, while0Ops0_4, while0Ops0_5, while0Ops0_6] (after cond0 V) = X
  after_results
  rfl

theorem ctr0 (c : Dev nD) : ∀ k, W0 m k c (Proc.devRef .tc main_v123_6) = fun _ => Scf.iv 0#32 1#32 k
  | 0 => by rw [show W0 m 0 c = E0 m c from rfl, ctr0_entry, Scf.iv_zero]
  | k + 1 => by
    rw [show W0 m (k + 1) c = afterL body0I (after cond0 (W0 m k c)) from rfl, ctr0_step, ctr0 c k, Scf.iv_succ]
    rfl

theorem ctr1_entry (c : Dev nD) : E1 m c (Proc.devRef .tc main_v136_8) = fun _ => (0#32 : BitVec 32) := by
  rw [show E1 m c = after main_part3_ops0 (after main_part2_ops1 (X0 m c)) from rfl]
  generalize X0 m c = V
  after_results
  rfl

theorem ctr1_step (V : Valuation τ sig (Elt F)) : afterL body1I (after cond1 V) (Proc.devRef .tc main_v136_8)
    = addi (V (Proc.devRef .tc main_v136_8)) (constantI S_ 32 1#32) := by
  have h : Writes (F := F) [while1Ops0, while1Ops0_1, while1Ops0_2, while1Ops0_3, while1Ops0_4, while1Ops0_5, while1Ops0_6, while1Ops0_7, while1Ops0_8, while1Ops0_9]
      (while1Ops0_W ++ (while1Ops0_1_W ++ (while1Ops0_2_W ++ (while1Ops0_3_W ++ (while1Ops0_4_W ++ (while1Ops0_5_W ++ (while1Ops0_6_W ++ (while1Ops0_7_W ++ (while1Ops0_8_W ++ (while1Ops0_9_W ++ [])))))))))) :=
    .cons while1Ops0_writes (.cons while1Ops0_1_writes (.cons while1Ops0_2_writes (.cons while1Ops0_3_writes (.cons while1Ops0_4_writes
      (.cons while1Ops0_5_writes (.cons while1Ops0_6_writes (.cons while1Ops0_7_writes (.cons while1Ops0_8_writes (.cons while1Ops0_9_writes .nil)))))))))
  have hk := h.keep (r := main_v136_8) (by decide) (after cond1 V)
  rw [after_of_writes_sub cond1 V cond1_writes (by decide)] at hk
  rw [← hk]
  rw [show afterL body1I (after cond1 V) = after while1Ops0_10 (afterL [while1Ops0, while1Ops0_1, while1Ops0_2, while1Ops0_3, while1Ops0_4, while1Ops0_5, while1Ops0_6, while1Ops0_7, while1Ops0_8, while1Ops0_9] (after cond1 V)) from rfl]
  generalize afterL [while1Ops0, while1Ops0_1, while1Ops0_2, while1Ops0_3, while1Ops0_4, while1Ops0_5, while1Ops0_6, while1Ops0_7, while1Ops0_8, while1Ops0_9] (after cond1 V) = X
  after_results
  rfl

theorem ctr1 (c : Dev nD) : ∀ k, W1 m k c (Proc.devRef .tc main_v136_8) = fun _ => Scf.iv 0#32 1#32 k
  | 0 => by rw [show W1 m 0 c = E1 m c from rfl, ctr1_entry, Scf.iv_zero]
  | k + 1 => by
    rw [show W1 m (k + 1) c = afterL body1I (after cond1 (W1 m k c)) from rfl, ctr1_step, ctr1 c k, Scf.iv_succ]
    rfl

/-! ## The conditions -/

local notation "𝕄" => MT nD τ sig Unit (Elt F) ℕ (Option PUnit) ℕ

set_option backward.isDefEq.respectTransparency.types false in
/-- The first scan's condition holds exactly for the first 32 trips. -/
theorem cond0_spec (Rc : Dev nD → sProp 𝕄) :
    LoopCond (pcfgs (F := F)) defs₀ Variants.none loops Rc (main_while0_cond (F := F)) cond0 body0I (E0 m) 32 := by
  intro k hk c bd
  have hctr := ctr0 m c k
  unfold main_while0_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (W0 m k c) main_v123_6 HostLoop.idx0)
        (HloOp.result _ (W0 m k c) main_while0c_c_37 HostLoop.idx0) = 1#1) (k < 32)
    rw [nullary_result_ne _ _ _ _ (by decide), nullary_result, hctr]
    exact Scf.cmpi_slt_iv_ub_iff (lb := 0#32) (ub := 32#32) (st := 1#32) (by decide) (show k ≤ Scf.trips 0#32 32#32 1#32 from hk)
  isplitl [Hb]; · iexact Hb
  isplitl [Hh]; · rw [after_cons, after_cons, after_nil]; iexact Hh
  iexact HR

set_option backward.isDefEq.respectTransparency.types false in
/-- The second scan's condition holds exactly for the first 32 trips. -/
theorem cond1_spec (Rc : Dev nD → sProp 𝕄) :
    LoopCond (pcfgs (F := F)) defs₀ Variants.none loops Rc (main_while1_cond (F := F)) cond1 body1I (E1 m) 32 := by
  intro k hk c bd
  have hctr := ctr1 m c k
  unfold main_while1_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (W1 m k c) main_v136_8 HostLoop.idx0)
        (HloOp.result _ (W1 m k c) main_while1c_c_39 HostLoop.idx0) = 1#1) (k < 32)
    rw [nullary_result_ne _ _ _ _ (by decide), nullary_result, hctr]
    exact Scf.cmpi_slt_iv_ub_iff (lb := 0#32) (ub := 32#32) (st := 1#32) (by decide) (show k ≤ Scf.trips 0#32 32#32 1#32 from hk)
  isplitl [Hb]; · iexact Hb
  isplitl [Hh]; · rw [after_cons, after_cons, after_nil]; iexact Hh
  iexact HR

/-! ## The segments and the run -/

/-- No pipeline: nothing admitted, no ticket, no level. -/
abbrev adm : (p : Fin 0) → (pcfgs (F := F) p).Adm := fun p => p.elim0
abbrev tk : Fin 0 → Pipeline.Ticket (Ix := Unit) (Name := ℕ) (U := Option PUnit) (Lvl := ℕ) (nD := nD) (τ := τ) (pcfgs (F := F)) adm := fun j => j.elim0
abbrev lev : GSem nD τ sig → Finset Unit := fun _ => ∅
abbrev lv : GSem nD τ sig → Unit → ℕ := fun _ _ => 0
/-- What rides along beside the buffers: the core owes nothing. -/
abbrev Rw (c : Dev nD) : sProp 𝕄 := iprop(∃ W, owes (c : Thread nD τ) (0 : CellTallies nD τ sig Unit) W)

theorem cellOf_inj : Function.Injective (Pipeline.cellOf (nD := nD) (τ := τ) (Pipeline.pin (pcfgs (F := F)) adm)) := fun k => k.1.elim0

abbrev KSeg : Type 1 := CSeg (pcfgs (F := F)) adm defs₀ Variants.none lev lv loops tk

/-- The scans, each one segment. -/
abbrev scan0 : KSeg (F := F) := loopSeg _ _ _ _ _ _ _ _ 0 main_while0_cond main_while0_body rfl cond0 body0I body0I_plain while0_body_chain 32 (E0 m) Rw (cond0_spec m Rw)
abbrev scan1 : KSeg (F := F) := loopSeg _ _ _ _ _ _ _ _ 1 main_while1_cond main_while1_body rfl cond1 body1I body1I_plain while1_body_chain 32 (E1 m) Rw (cond1_spec m Rw)

abbrev segs : List (KSeg (F := F)) :=
  segsOf _ _ _ _ _ _ _ _ Rw preI preI_plain (launchContents m)
    ++ scan0 m :: (segsOf _ _ _ _ _ _ _ _ Rw midI midI_plain (X0 m) ++ scan1 m :: segsOf _ _ _ _ _ _ _ _ Rw postI postI_plain (X1 m))

theorem segs_prog : (segs m).map CSeg.prog = [ seq main_part0_ops0, seq main_part1_ops0, seq main_part1_ops1, seq main_part1_ops2, seq main_part2_ops0,
    HostLoop.enter 0, seq main_part2_ops1, seq main_part3_ops0, HostLoop.enter 1, seq main_part3_ops1, seq main_part4_ops0 ] := by
  unfold segs
  rw [List.map_append, List.map_cons, List.map_append, List.map_cons, segsOf_prog, segsOf_prog, segsOf_prog]
  rfl

theorem segs_chains : CSeg.Chains (fun c => iprop(held (c : Thread nD τ) (ucRefs τ sig) (launchContents m c) ∗ Rw c)) (segs m)
    (fun c => iprop(iprop(held (c : Thread nD τ) (ucRefs τ sig) (Fin' m c)) ∗ ∃ W, owes (c : Thread nD τ) (0 : CellTallies nD τ sig Unit) W)) := by
  unfold segs
  exact CSeg.Chains.append (segsOf_chains _ _ _ _ _ _ _ _ Rw preI preI_plain _)
    ⟨fun _ => .rfl, CSeg.Chains.append (segsOf_chains _ _ _ _ _ _ _ _ Rw midI midI_plain _) ⟨fun _ => .rfl, segsOf_chains _ _ _ _ _ _ _ _ Rw postI postI_plain _⟩⟩

/-- THE RUN: every buffer of the program ends at the fold of all its operations. -/
theorem run (ρ : Dev nD → PrngReg) : θ_run defs (onTc (τ := τ) main) ⟨m, fun _ => 0, ρ⟩
    (fun r => ∀ (c : Dev nD) (b : Ref sig .tc), (Proc.devRef .tc b : DevRef τ sig).isScoped = false →
      r.2.mem ((c.tc : Thread nD τ).loc b) = Fin' m c (Proc.devRef .tc b)) :=
  Pipeline.θ_run_regions_loop_kit (Ix := Unit) (Name := ℕ) (U := Option PUnit) (Lvl := ℕ) (J := Fin 0) (P := Fin 0) (Val := Elt F)
    pcfgs adm cellOf_inj defs₀ Variants.none lev lv loops tk m ρ main (segs m)
    (fun c Q => by
      rw [main_chain_windows c]
      unfold CSeg.runL
      rw [segs_prog])
    (CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ Rw c))
    (Tₙ := fun c => iprop(held (c : Thread nD τ) (ucRefs τ sig) (Fin' m c)))
    (hch := segs_chains m)
    (hinit := by
      refine Pipeline.initEach lev lv fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = Fin' m c b)
    (hfin := fun c s' => by
      unfold held
      iintro ⟨Hh, HSI⟩
      ihave Hr := (pointsTo_read_all (ucRefs τ sig) (fun b => ((c : Dev nD), b)) (fun b => Fin' m c b) s') $$ [Hh HSI]
      · isplitl [Hh] <;> iassumption
      icases Hr with ⟨%h, HSI⟩
      imodintro
      isplitr; · ipureintro; exact h
      iexact HSI)
    (hQ := fun _ h c b hb => h c _ (devRef_mem_ucRefs b hb))

/-- An argument ends as it began, and every semaphore (there is none) at zero. -/
theorem frame (ρ : Dev nD → PrngReg) : θ_run defs (onTc (τ := τ) main) ⟨m, fun _ => 0, ρ⟩
    (fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun r h => ⟨fun c => ⟨(h c main_arg0 rfl).trans (fin_keep m c _ (by decide)), (h c main_arg1 rfl).trans (fin_keep m c _ (by decide)),
    (h c main_arg2 rfl).trans (fin_keep m c _ (by decide))⟩, sem_eq_zero_of_no_sems rfl _⟩) (run m ρ)

end Cert.ReferenceIdeal.Run

end
-- ==== Proof.Tile.lean ====
module
public import proofs.«01_k».proof.Proof.Gen.KernelIdeal.Value
@[expose] public section

/-!
# What one chunk of one head computes

The kernel's body visits the eight heads and, in each of them, the two chunks of a block, the later chunk first. Here the
values of one such visit are written once, over any element values; the stores of the whole body are then a list over the
heads and chunks (`stores_first`, `stores_later`).
-/
noncomputable section

namespace Cert.KernelIdeal.Tile
open Cert.KernelIdeal Cert.KernelIdeal.Gen Idealize.ShloMosaic Idealize.ShloMosaic.TcCoe Idealize.SL.Sem

variable {F : FTy → Type} [FloatOps F] [Named F]

/-- The zero matrix that a product is added to. -/
abbrev z128 : FVec F S128x128 .f32 := constant S128x128 .f32 0x00000000#32
/-- The zero matrix that a product with 256 columns is added to. -/
abbrev z256 : FVec F S128x256 .f32 := constant S128x256 .f32 0x00000000#32

/-- The masked scores of a chunk: `(q kᵀ) ∘ mask`. -/
def sc (dm : FVec F S128x128 .f32) (q k : FVec F S128x128 .bf16) : FVec F S128x128 .f32 :=
  mulf (matmul dot_S128x128_S128x128_S128x128_1_1_0_0_n_n none q k z128) dm

/-- The gradient of the scores: `(dr vᵀ) ∘ mask`. -/
def dsc (dm : FVec F S128x128 .f32) (dr v : FVec F S128x256 .bf16) : FVec F S128x128 .f32 :=
  mulf (matmul dot_S128x256_S128x256_S128x128_1_1_0_0_n_n none dr v z128) dm

/-- The output gradient, decayed from the start of the chunk. -/
def drx (dr : FVec F S128x256 .bf16) (xi : FVec F S128x256 .f32) : FVec F S128x256 .bf16 :=
  truncf .bf16 (mulf (extf .f32 dr bitsLt_bf16_f32) xi) bitsLt_bf16_f32

/-- The keys, decayed to the end of the chunk. -/
def kz (k : FVec F S128x128 .bf16) (zt : FVec F S128x128 .f32) : FVec F S128x128 .bf16 :=
  truncf .bf16 (mulf (extf .f32 k bitsLt_bf16_f32) zt) bitsLt_bf16_f32

/-- The gradient of the queries: through the scores and through the state. -/
def dq (ds : FVec F S128x128 .f32) (k : FVec F S128x128 .bf16) (x s : FVec F S128x256 .bf16) : FVec F S128x128 .f32 :=
  addf (matmul dot_S128x128_S128x128_S128x128_1_0_0_1_n_n none (truncf .bf16 ds bitsLt_bf16_f32) k z128)
    (matmul dot_S128x256_S128x256_S128x128_1_1_0_0_n_n none x s z128)

/-- The gradient of the keys. -/
def dk (ds : FVec F S128x128 .f32) (q : FVec F S128x128 .bf16) (v : FVec F S128x256 .bf16) (g : FVec F S128x256 .f32)
    (zt : FVec F S128x128 .f32) : FVec F S128x128 .f32 :=
  addf
    (matmul dot_S128x128_S128x128_S128x128_1_0_0_1_n_n none
      (truncf .bf16 (transpose S128x128 [1, 0] ds transposes_S128x128_p1_0_S128x128) bitsLt_bf16_f32) q z128)
    (mulf (matmul dot_S128x256_S128x256_S128x128_1_1_0_0_n_n none v (truncf .bf16 g bitsLt_bf16_f32) z128) zt)

/-- The gradient of the values. -/
def dv (s : FVec F S128x128 .f32) (dr : FVec F S128x256 .bf16) (x : FVec F S128x128 .bf16) (g : FVec F S128x256 .f32) :
    FVec F S128x256 .bf16 :=
  truncf .bf16
    (addf
      (matmul dot_S128x128_S128x256_S128x256_1_0_0_1_n_n none
        (truncf .bf16 (transpose S128x128 [1, 0] s transposes_S128x128_p1_0_S128x128) bitsLt_bf16_f32) dr z256)
      (matmul dot_S128x128_S128x256_S128x256_1_0_0_1_n_n none x (truncf .bf16 g bitsLt_bf16_f32) z256))
    bitsLt_bf16_f32

/-- The gradient of the state before a chunk, of the one after it. -/
def gN (cd : F .f32) (g : FVec F S128x256 .f32) (q : FVec F S128x128 .bf16) (x : FVec F S128x256 .bf16) :
    FVec F S128x256 .f32 :=
  addf (mulf (broadcast S128x256 cd) g)
    (matmul dot_S128x128_S128x256_S128x256_1_0_0_1_n_n none
      (truncf .bf16 (transpose S128x128 [1, 0] (extf .f32 q bitsLt_bf16_f32) transposes_S128x128_p1_0_S128x128)
        bitsLt_bf16_f32) x z256)

/-- The rotation undone. -/
def unrope (d cos sin : FVec F S128x128 .f32) : FVec F S128x128 .bf16 :=
  truncf .bf16 (addf (mulf d cos) (dynamicRotate 1 64#32 none (mulf d sin) rotates_S128x128_d1)) bitsLt_bf16_f32

/-- A gradient times the scale of the queries. -/
def scaled (d : FVec F S128x128 .f32) : FVec F S128x128 .f32 :=
  mulf d (broadcast S128x128 (Scalar.ofBits .f32 0x3DB504F3#32))

/-- The decay of a whole chunk, of every head. -/
def cd (h : Fin 8) : F .f32 := match h with
  | 0 => Named.named κ "decay0" 0x3C8CC36A#32
  | 1 => Named.named κ "decay1" 0x3E08698E#32
  | 2 => Named.named κ "decay2" 0x3EBB9DB9#32
  | 3 => Named.named κ "decay3" 0x3F1B1EB1#32
  | 4 => Named.named κ "decay4" 0x3F475303#32
  | 5 => Named.named κ "decay5" 0x3F61E7C9#32
  | 6 => Named.named κ "decay6" 0x3F707C6F#32
  | 7 => Named.named κ "decay7" 0x3F781F6D#32

/-- What a block's body reads: of every head and of either chunk. -/
structure Loads (F : FTy → Type) where
  q : Fin 8 → Fin 2 → FVec F S128x128 .bf16
  k : Fin 8 → Fin 2 → FVec F S128x128 .bf16
  v : Fin 8 → Fin 2 → FVec F S128x256 .bf16
  dr : Fin 8 → Fin 2 → FVec F S128x256 .bf16
  s : Fin 8 → Fin 2 → FVec F S128x256 .bf16
  cos : Fin 2 → FVec F S128x128 .f32
  sin : Fin 2 → FVec F S128x128 .f32
  dm : Fin 8 → FVec F S128x128 .f32
  xi : Fin 8 → FVec F S128x256 .f32
  zt : Fin 8 → FVec F S128x128 .f32

namespace Loads
variable (L : Loads F) (g : FVec F S128x256 .f32) (h : Fin 8) (j : Fin 2)

/-- The state's gradient after one chunk's step. -/
def step : FVec F S128x256 .f32 := gN (cd h) g (L.q h j) (drx (L.dr h j) (L.xi h))
/-- The state's gradient that the chunk `j` takes, of what the block's later chunk takes. -/
def gAt (g : FVec F S128x256 .f32) (h : Fin 8) : Fin 2 → FVec F S128x256 .f32
  | 0 => L.step g h 1
  | 1 => g
/-- What the chunk stores for the queries. -/
def oq : FVec F S128x128 .bf16 :=
  unrope (scaled (dq (dsc (L.dm h) (L.dr h j) (L.v h j)) (L.k h j) (drx (L.dr h j) (L.xi h)) (L.s h j))) (L.cos j) (L.sin j)
/-- What the chunk stores for the keys. -/
def ok : FVec F S128x128 .bf16 :=
  unrope (dk (dsc (L.dm h) (L.dr h j) (L.v h j)) (L.q h j) (L.v h j) (L.gAt g h j) (L.zt h)) (L.cos j) (L.sin j)
/-- What the chunk stores for the values. -/
def ov : FVec F S128x256 .bf16 := dv (sc (L.dm h) (L.q h j) (L.k h j)) (L.dr h j) (kz (L.k h j) (L.zt h)) (L.gAt g h j)

end Loads

theorem inb_rc {R C r c w : ℕ} (hr : r + 128 ≤ R) (hc : c + w ≤ C) :
    ∀ a : Fin 2, (![r, c] : Fin 2 → ℕ) a + (![128, w] : Fin 2 → ℕ) a ≤ (![R, C] : Fin 2 → ℕ) a := by
  intro a; fin_cases a <;> simpa

theorem inb_slab {N R C n r w : ℕ} (hn : n + 1 ≤ N) (hr : r + 128 ≤ R) (hc : w ≤ C) :
    ∀ a : Fin 3, (![n, r, 0] : Fin 3 → ℕ) a + (![1, 128, w] : Fin 3 → ℕ) a ≤ (![N, R, C] : Fin 3 → ℕ) a := by
  intro a; fin_cases a <;> simpa

/-- The three stores of one chunk, the last first. -/
def pcs (L : Loads F) (g : FVec F S128x256 .f32) (h : Fin 8) (j : Fin 2) : List (View.Piece (Elt F) S256x4096 .bf16) :=
  [⟨Rect.unit (s := S256x4096) ![128 * j, 2048 + 256 * h] ![128, 256] (inb_rc (by omega) (by omega)), L.ov g h j⟩,
   ⟨Rect.unit (s := S256x4096) ![128 * j, 1024 + 128 * h] ![128, 128] (inb_rc (by omega) (by omega)), L.ok g h j⟩,
   ⟨Rect.unit (s := S256x4096) ![128 * j, 128 * h] ![128, 128] (inb_rc (by omega) (by omega)), L.oq h j⟩]

/-- The stores of the whole body, the last first. -/
def stores (L : Loads F) (g : Fin 8 → FVec F S128x256 .f32) : List (View.Piece (Elt F) S256x4096 .bf16) :=
  [7, 6, 5, 4, 3, 2, 1, 0].flatMap fun h => pcs L (g h) h 0 ++ pcs L (g h) h 1

/-- The state's gradient that a head leaves, as it is stored. -/
def stored (L : Loads F) (g : FVec F S128x256 .f32) (h : Fin 8) : View.Piece (Elt F) S1024x256 .f32 :=
  ⟨Rect.unit (s := S1024x256) ![128 * h, 0] ![128, 256] (inb_rc (by omega) (by omega)),
    shapeCast S128x256 (L.step (L.step g h 1) h 0) shapeCasts_S128x256_S128x256⟩

/-- The stores into the state's gradient of the first block, which starts from zero, after `n` heads. -/
def sofar (L : Loads F) (arg13 : Memref sig .tc .vmem S1024x256 .f32) : ℕ → List (View.Piece (Elt F) S1024x256 .f32)
  | 0 => [⟨Rect.unit (s := S1024x256) ![0, 0] ![1024, 256] inb_S1024x256_S1024x256_0_0, k0_pay2⟩]
  | n + 1 =>
    stored L
      (arg13.view.readCov (sofar L arg13 n)
        (Rect.unit (s := S1024x256) ![128 * (n % 8), 0] ![128, 256] (inb_rc (by omega) (by omega))).toLoadRect)
      ⟨n % 8, by omega⟩ :: sofar L arg13 n

/-- The state's gradient that the first block reads, of one head. -/
def gFirst (L : Loads F) (arg13 : Memref sig .tc .vmem S1024x256 .f32) (h : Fin 8) : FVec F S128x256 .f32 :=
  arg13.view.readCov (sofar L arg13 h)
    (Rect.unit (s := S1024x256) ![128 * (h.val % 8), 0] ![128, 256] (inb_rc (by omega) (by omega))).toLoadRect

section run
variable (c : Dev nD) (i : grid0.Coords)
  (arg1 : Memref sig .tc .vmem S256x1024 .bf16) (harg1 : arg1.IsWhole)
  (arg2 : Memref sig .tc .vmem S256x1024 .bf16) (harg2 : arg2.IsWhole)
  (arg3 : Memref sig .tc .vmem S256x2048 .bf16) (harg3 : arg3.IsWhole)
  (arg4 : Memref sig .tc .vmem S256x2048 .bf16) (harg4 : arg4.IsWhole)
  (arg5 : Memref sig .tc .vmem S2x1024x256 .bf16) (harg5 : arg5.IsWhole)
  (arg6 : Memref sig .tc .vmem S256x128 .f32) (harg6 : arg6.IsWhole)
  (arg7 : Memref sig .tc .vmem S256x128 .f32) (harg7 : arg7.IsWhole)
  (arg8 : Memref sig .tc .vmem S8x128x128 .f32) (harg8 : arg8.IsWhole)
  (arg9 : Memref sig .tc .vmem S8x128x256 .f32) (harg9 : arg9.IsWhole)
  (arg10 : Memref sig .tc .vmem S8x128x128 .f32) (harg10 : arg10.IsWhole)
  (arg12 : Memref sig .tc .vmem S256x4096 .bf16) (harg12 : arg12.IsWhole)
  (arg13 : Memref sig .tc .vmem S1024x256 .f32) (harg13 : arg13.IsWhole)
  (x0 : Vec F S256x1024 .bf16) (x1 : Vec F S256x1024 .bf16) (x2 : Vec F S256x2048 .bf16) (x3 : Vec F S256x2048 .bf16)
  (x4 : Vec F S2x1024x256 .bf16) (x5 : Vec F S256x128 .f32) (x6 : Vec F S256x128 .f32) (x7 : Vec F S8x128x128 .f32)
  (x8 : Vec F S8x128x256 .f32) (x9 : Vec F S8x128x128 .f32) (xs0 : Vec F S1024x256 .f32)

/-- The reads of a block's body, of the whole blocks. -/
def loads : Loads F where
  q h j := shapeCast S128x128 (View.readAt (Elt F) arg1.view (Rect.unit (s := S256x1024) ![128 * j, 128 * h] ![128, 128] (inb_rc (by omega) (by omega))).toLoadRect (harg1.unread x0)) shapeCasts_S128x128_S128x128
  k h j := shapeCast S128x128 (View.readAt (Elt F) arg2.view (Rect.unit (s := S256x1024) ![128 * j, 128 * h] ![128, 128] (inb_rc (by omega) (by omega))).toLoadRect (harg2.unread x1)) shapeCasts_S128x128_S128x128
  v h j := shapeCast S128x256 (View.readAt (Elt F) arg3.view (Rect.unit (s := S256x2048) ![128 * j, 256 * h] ![128, 256] (inb_rc (by omega) (by omega))).toLoadRect (harg3.unread x2)) shapeCasts_S128x256_S128x256
  dr h j := View.readAt (Elt F) arg4.view (Rect.unit (s := S256x2048) ![128 * j, 256 * h] ![128, 256] (inb_rc (by omega) (by omega))).toLoadRect (harg4.unread x3)
  s h j := shapeCast S128x256 (View.readAt (Elt F) arg5.view (Rect.unit (s := S2x1024x256) ![j, 128 * h, 0] ![1, 128, 256] (inb_slab (by omega) (by omega) (by omega))).toLoadRect (harg5.unread x4)) shapeCasts_S1x128x256_S128x256
  cos j := shapeCast S128x128 (View.readAt (Elt F) arg6.view (Rect.unit (s := S256x128) ![128 * j, 0] ![128, 128] (inb_rc (by omega) (by omega))).toLoadRect (harg6.unread x5)) shapeCasts_S128x128_S128x128
  sin j := shapeCast S128x128 (View.readAt (Elt F) arg7.view (Rect.unit (s := S256x128) ![128 * j, 0] ![128, 128] (inb_rc (by omega) (by omega))).toLoadRect (harg7.unread x6)) shapeCasts_S128x128_S128x128
  dm h := shapeCast S128x128 (View.readAt (Elt F) arg8.view (Rect.unit (s := S8x128x128) ![h, 0, 0] ![1, 128, 128] (inb_slab (by omega) (by omega) (by omega))).toLoadRect (harg8.unread x7)) shapeCasts_S1x128x128_S128x128
  xi h := shapeCast S128x256 (View.readAt (Elt F) arg9.view (Rect.unit (s := S8x128x256) ![h, 0, 0] ![1, 128, 256] (inb_slab (by omega) (by omega) (by omega))).toLoadRect (harg9.unread x8)) shapeCasts_S1x128x256_S128x256
  zt h := shapeCast S128x128 (View.readAt (Elt F) arg10.view (Rect.unit (s := S8x128x128) ![h, 0, 0] ![1, 128, 128] (inb_slab (by omega) (by omega) (by omega))).toLoadRect (harg10.unread x9)) shapeCasts_S1x128x128_S128x128

/-- The state's gradient that a later block finds, of one head. -/
def gIn (h : Fin 8) : FVec F S128x256 .f32 :=
  View.readAt (Elt F) arg13.view (Rect.unit (s := S1024x256) ![128 * h, 0] ![128, 256] (inb_rc (by omega) (by omega))).toLoadRect (harg13.unread xs0)

/-- The stores of a later block. -/
theorem stores_later (hc0 : ¬cond0_0 i) :
    (kernelRun0_B c i arg1 harg1 arg2 harg2 arg3 harg3 arg4 harg4 arg5 harg5 arg6 harg6 arg7 harg7 arg8 harg8 arg9 harg9 arg10 harg10 arg12 harg12 arg13 harg13 hc0 x0 x1 x2 x3 x4 x5 x6 x7 x8 x9 xs0).1
      = stores (loads arg1 harg1 arg2 harg2 arg3 harg3 arg4 harg4 arg5 harg5 arg6 harg6 arg7 harg7 arg8 harg8 arg9 harg9 arg10 harg10 x0 x1 x2 x3 x4 x5 x6 x7 x8 x9) (gIn arg13 harg13 xs0) := by
  sl_kernel_rfl

/-- What a later block leaves of the state's gradient: every head's, the last first. -/
theorem left_later (hc0 : ¬cond0_0 i) :
    (kernelRun0_B c i arg1 harg1 arg2 harg2 arg3 harg3 arg4 harg4 arg5 harg5 arg6 harg6 arg7 harg7 arg8 harg8 arg9 harg9 arg10 harg10 arg12 harg12 arg13 harg13 hc0 x0 x1 x2 x3 x4 x5 x6 x7 x8 x9 xs0).2.1
      = [7, 6, 5, 4, 3, 2, 1, 0].map fun h => stored (loads arg1 harg1 arg2 harg2 arg3 harg3 arg4 harg4 arg5 harg5 arg6 harg6 arg7 harg7 arg8 harg8 arg9 harg9 arg10 harg10 x0 x1 x2 x3 x4 x5 x6 x7 x8 x9) (gIn arg13 harg13 xs0 h) h := by
  sl_kernel_rfl

/-- The stores of the first block. -/
theorem stores_first (hc0 : cond0_0 i) :
    (kernelRun0_A c i arg1 harg1 arg2 harg2 arg3 harg3 arg4 harg4 arg5 harg5 arg6 harg6 arg7 harg7 arg8 harg8 arg9 harg9 arg10 harg10 arg12 harg12 arg13 harg13 hc0 x0 x1 x2 x3 x4 x5 x6 x7 x8 x9).1
      = stores (loads arg1 harg1 arg2 harg2 arg3 harg3 arg4 harg4 arg5 harg5 arg6 harg6 arg7 harg7 arg8 harg8 arg9 harg9 arg10 harg10 x0 x1 x2 x3 x4 x5 x6 x7 x8 x9)
          (gFirst (loads arg1 harg1 arg2 harg2 arg3 harg3 arg4 harg4 arg5 harg5 arg6 harg6 arg7 harg7 arg8 harg8 arg9 harg9 arg10 harg10 x0 x1 x2 x3 x4 x5 x6 x7 x8 x9) arg13) := by
  sl_kernel_rfl

/-- What the first block leaves of the state's gradient. -/
theorem left_first (hc0 : cond0_0 i) :
    (kernelRun0_A c i arg1 harg1 arg2 harg2 arg3 harg3 arg4 harg4 arg5 harg5 arg6 harg6 arg7 harg7 arg8 harg8 arg9 harg9 arg10 harg10 arg12 harg12 arg13 harg13 hc0 x0 x1 x2 x3 x4 x5 x6 x7 x8 x9).2.1
      = sofar (loads arg1 harg1 arg2 harg2 arg3 harg3 arg4 harg4 arg5 harg5 arg6 harg6 arg7 harg7 arg8 harg8 arg9 harg9 arg10 harg10 x0 x1 x2 x3 x4 x5 x6 x7 x8 x9) arg13 8 := by
  sl_kernel_rfl

end run
end Cert.KernelIdeal.Tile
end
-- ==== Proof.Spec.lean ====
module
public import Mathlib.Data.EReal.Operations
public import Mathlib.Algebra.BigOperators.Fin
@[expose] public section

/-!
# The backward pass of a chunkwise retention, over the extended reals

Chunk `n`, token `i` of the chunk, head `h`; `d` is a coordinate of the queries and keys, `e` one of the values.
-/
noncomputable section

namespace Retention

/-- The inputs: queries, keys, values, the output's gradient, the mask, the decay from a chunk's start (`xi`), the decay to
its end (`zt`) and the decay of a whole chunk (`cd`). -/
structure Data where
  q : ℕ → Fin 128 → Fin 8 → Fin 128 → EReal
  k : ℕ → Fin 128 → Fin 8 → Fin 128 → EReal
  v : ℕ → Fin 128 → Fin 8 → Fin 256 → EReal
  dr : ℕ → Fin 128 → Fin 8 → Fin 256 → EReal
  dm : Fin 8 → Fin 128 → Fin 128 → EReal
  xi : Fin 8 → Fin 128 → EReal
  zt : Fin 8 → Fin 128 → EReal
  cd : Fin 8 → EReal

namespace Data
variable (D : Data)

/-- The state before chunk `n`. -/
def S : ℕ → Fin 8 → Fin 128 → Fin 256 → EReal
  | 0, _, _, _ => 0
  | n + 1, h, d, e => D.cd h * S n h d e + ∑ j : Fin 128, (D.k n j h d * D.zt h j) * D.v n j h e

/-- The gradient of the state, after the last `r` of the 32 chunks. -/
def G : ℕ → Fin 8 → Fin 128 → Fin 256 → EReal
  | 0, _, _, _ => 0
  | r + 1, h, d, e =>
    D.cd h * G r h d e + ∑ j : Fin 128, D.q (31 - r) j h d * (D.dr (31 - r) j h e * D.xi h j)

/-- A chunk's masked scores. -/
def sc (n : ℕ) (h : Fin 8) (i j : Fin 128) : EReal := (∑ d : Fin 128, D.q n i h d * D.k n j h d) * D.dm h i j

/-- Their gradient. -/
def dsc (n : ℕ) (h : Fin 8) (i j : Fin 128) : EReal := (∑ e : Fin 256, D.dr n i h e * D.v n j h e) * D.dm h i j

/-- The gradient of the queries. -/
def dq (n : ℕ) (i : Fin 128) (h : Fin 8) (d : Fin 128) : EReal :=
  ∑ j : Fin 128, D.dsc n h i j * D.k n j h d + ∑ e : Fin 256, (D.dr n i h e * D.xi h i) * D.S n h d e

/-- The gradient of the keys. -/
def dk (n : ℕ) (j : Fin 128) (h : Fin 8) (d : Fin 128) : EReal :=
  ∑ i : Fin 128, D.dsc n h i j * D.q n i h d + (∑ e : Fin 256, D.v n j h e * D.G (31 - n) h d e) * D.zt h j

/-- The gradient of the values. -/
def dv (n : ℕ) (j : Fin 128) (h : Fin 8) (e : Fin 256) : EReal :=
  ∑ i : Fin 128, D.sc n h i j * D.dr n i h e + ∑ d : Fin 128, (D.k n j h d * D.zt h j) * D.G (31 - n) h d e

end Data

/-- A rotation of the two halves undone: the coordinate `d` times its cosine, plus its partner's times the partner's
signed sine. -/
def unrope (f c s : Fin 128 → EReal) (d : Fin 128) : EReal := f d * c d + f (d + 64) * s (d + 64)

end Retention
end
-- ==== Proof.TileVal.lean ====
module
public import proofs.«01_k».proof.Proof.Tile
public import proofs.«01_k».proof.Proof.Spec
public import Idealize.ShloMosaic.Lib.Pointwise
@[expose] public section

/-!
# A chunk's values over the extended reals, read at an index
-/
noncomputable section

namespace Cert.KernelIdeal.Tile
open Cert.KernelIdeal Cert.KernelIdeal.Gen Idealize.ShloMosaic Idealize.ShloMosaic.TcCoe Idealize.SL.Sem

theorem sc_apply (dm : FVec Ideal S128x128 .f32) (q k : FVec Ideal S128x128 .bf16) (i j : Fin 128) :
    sc dm q k (ix2 i j) = (∑ d : Fin 128, q (ix2 i d) * k (ix2 j d)) * dm (ix2 i j) := by
  unfold sc
  pointwise
theorem dsc_apply (dm : FVec Ideal S128x128 .f32) (dr v : FVec Ideal S128x256 .bf16) (i j : Fin 128) :
    dsc dm dr v (ix2 i j) = (∑ e : Fin 256, dr (ix2 i e) * v (ix2 j e)) * dm (ix2 i j) := by
  unfold dsc
  pointwise
theorem gN_apply (cd : Ideal .f32) (g : FVec Ideal S128x256 .f32) (q : FVec Ideal S128x128 .bf16) (x : FVec Ideal S128x256 .bf16) (d : Fin 128) (e : Fin 256) :
    gN cd g q x (ix2 d e) = cd * g (ix2 d e) + ∑ j : Fin 128, q (ix2 j d) * x (ix2 j e) := by
  unfold gN
  pointwise
theorem unrope_apply (d c s : FVec Ideal S128x128 .f32) (i k : Fin 128) :
    unrope d c s (ix2 i k) = Retention.unrope (fun k => d (ix2 i k)) (fun k => c (ix2 i k)) (fun k => s (ix2 i k)) k := by
  unfold unrope
  pointwise
  have e : (⟨(k.val + 128 - 64) % 128, Nat.mod_lt _ (by decide)⟩ : Fin 128) = k + 64 :=
    Fin.ext (by rw [Fin.val_add]; have := k.isLt; show (k.val + 128 - 64) % 128 = (k.val + 64) % 128; omega)
  rw [e]
  rfl
theorem drx_apply (dr : FVec Ideal S128x256 .bf16) (xi : FVec Ideal S128x256 .f32) (i : Fin 128) (e : Fin 256) :
    drx dr xi (ix2 i e) = dr (ix2 i e) * xi (ix2 i e) := rfl
theorem kz_apply (k : FVec Ideal S128x128 .bf16) (zt : FVec Ideal S128x128 .f32) (i : Fin 128) (d : Fin 128) :
    kz k zt (ix2 i d) = k (ix2 i d) * zt (ix2 i d) := rfl
theorem dq_apply (ds : FVec Ideal S128x128 .f32) (k : FVec Ideal S128x128 .bf16) (x s : FVec Ideal S128x256 .bf16) (i d : Fin 128) :
    dq ds k x s (ix2 i d) = ∑ j : Fin 128, ds (ix2 i j) * k (ix2 j d) + ∑ e : Fin 256, x (ix2 i e) * s (ix2 d e) := by
  unfold dq
  pointwise
theorem dk_apply (ds : FVec Ideal S128x128 .f32) (q : FVec Ideal S128x128 .bf16) (v : FVec Ideal S128x256 .bf16)
    (g : FVec Ideal S128x256 .f32) (zt : FVec Ideal S128x128 .f32) (j d : Fin 128) :
    dk ds q v g zt (ix2 j d)
      = ∑ i : Fin 128, ds (ix2 i j) * q (ix2 i d) + (∑ e : Fin 256, v (ix2 j e) * g (ix2 d e)) * zt (ix2 j d) := by
  unfold dk
  pointwise
theorem dv_apply (s : FVec Ideal S128x128 .f32) (dr : FVec Ideal S128x256 .bf16) (x : FVec Ideal S128x128 .bf16)
    (g : FVec Ideal S128x256 .f32) (j : Fin 128) (e : Fin 256) :
    dv s dr x g (ix2 j e)
      = ∑ i : Fin 128, s (ix2 i j) * dr (ix2 i e) + ∑ d : Fin 128, x (ix2 j d) * g (ix2 d e) := by
  unfold dv
  pointwise

/-- The factor of the queries, as the program writes it. -/
abbrev scale : EReal := Ideal.ofBits .f32 0x3DB504F3#32

theorem scaled_apply (d : FVec Ideal S128x128 .f32) (i k : Fin 128) : scaled d (ix2 i k) = d (ix2 i k) * scale := rfl

/-- The reads `L` of block `b` (its chunks are `2 b` and `2 b + 1`) are those of the data `D`, with the rotation's cosines `C`
and signed sines `N`. -/
structure Fits (L : Loads Ideal) (D : Retention.Data) (C N : ℕ → Fin 128 → Fin 128 → EReal) (b : ℕ) : Prop where
  q : ∀ h (j : Fin 2) i d, L.q h j (ix2 i d) = D.q (2 * b + j) i h d
  k : ∀ h (j : Fin 2) i d, L.k h j (ix2 i d) = D.k (2 * b + j) i h d
  v : ∀ h (j : Fin 2) i e, L.v h j (ix2 i e) = D.v (2 * b + j) i h e
  dr : ∀ h (j : Fin 2) i e, L.dr h j (ix2 i e) = D.dr (2 * b + j) i h e
  s : ∀ h (j : Fin 2) d e, L.s h j (ix2 d e) = D.S (2 * b + j) h d e
  cos : ∀ (j : Fin 2) i d, L.cos j (ix2 i d) = C (2 * b + j) i d
  sin : ∀ (j : Fin 2) i d, L.sin j (ix2 i d) = N (2 * b + j) i d
  dm : ∀ h i j, L.dm h (ix2 i j) = D.dm h i j
  xi : ∀ h i e, L.xi h (ix2 i e) = D.xi h i
  zt : ∀ h i d, L.zt h (ix2 i d) = D.zt h i
  cd : ∀ h, Tile.cd (F := Ideal) h = D.cd h
  le : b ≤ 15

namespace Fits
variable {L : Loads Ideal} {D : Retention.Data} {C N : ℕ → Fin 128 → Fin 128 → EReal} {b : ℕ} (H : Fits L D C N b)
include H

theorem step (g : FVec Ideal S128x256 .f32) (h : Fin 8) (j : Fin 2)
    (hg : ∀ d e, g (ix2 d e) = D.G (31 - (2 * b + j)) h d e) (d : Fin 128) (e : Fin 256) :
    L.step g h j (ix2 d e) = D.G (31 - (2 * b + j) + 1) h d e := by
  have hn : 31 - (31 - (2 * b + j.val)) = 2 * b + j.val := by have := H.le; have := j.isLt; omega
  unfold Loads.step
  rw [gN_apply, Retention.Data.G, hn, hg, H.cd]
  simp only [drx_apply, H.q, H.dr, H.xi]

variable (g : FVec Ideal S128x256 .f32) (h : Fin 8) (hg : ∀ d e, g (ix2 d e) = D.G (31 - (2 * b + 1)) h d e)
include hg

theorem gAt (j : Fin 2) (d : Fin 128) (e : Fin 256) : L.gAt g h j (ix2 d e) = D.G (31 - (2 * b + j)) h d e := by
  match j with
  | 1 => exact hg d e
  | 0 =>
    refine (H.step g h 1 hg d e).trans (congrArg (fun r => D.G r h d e) ?_)
    have := H.le
    show 31 - (2 * b + 1) + 1 = 31 - (2 * b + 0)
    omega

theorem left (d : Fin 128) (e : Fin 256) :
    L.step (L.step g h 1) h 0 (ix2 d e) = D.G (32 - 2 * b) h d e := by
  refine (H.step _ h 0 (H.gAt g h hg 0) d e).trans (congrArg (fun r => D.G r h d e) ?_)
  have := H.le
  show 31 - (2 * b + 0) + 1 = 32 - 2 * b
  omega

omit hg in
theorem oq (j : Fin 2) (i k : Fin 128) :
    L.oq h j (ix2 i k)
      = Retention.unrope (fun d => D.dq (2 * b + j) i h d * scale) (C (2 * b + j) i) (N (2 * b + j) i) k := by
  unfold Loads.oq
  rw [unrope_apply]
  simp only [scaled_apply, dq_apply, dsc_apply, drx_apply, H.q, H.k, H.v, H.dr, H.s, H.cos, H.sin, H.dm, H.xi]
  rfl

theorem ok (j : Fin 2) (i k : Fin 128) :
    L.ok g h j (ix2 i k)
      = Retention.unrope (fun d => D.dk (2 * b + j) i h d) (C (2 * b + j) i) (N (2 * b + j) i) k := by
  unfold Loads.ok
  rw [unrope_apply]
  simp only [dk_apply, dsc_apply, H.q, H.k, H.v, H.dr, H.cos, H.sin, H.dm, H.zt, H.gAt g h hg]
  rfl

theorem ov (j : Fin 2) (i : Fin 128) (e : Fin 256) : L.ov g h j (ix2 i e) = D.dv (2 * b + j) i h e := by
  unfold Loads.ov
  simp only [dv_apply, sc_apply, kz_apply, H.q, H.k, H.dr, H.dm, H.zt, H.gAt g h hg]
  rfl

end Fits
end Cert.KernelIdeal.Tile
end
-- ==== Proof.Inputs.lean ====
module
public import proofs.«01_k».proof.Proof.Spec
public import Idealize.ShloMosaic.Lib.Pointwise
@[expose] public section

/-!
# The retention's inputs, from the arrays that both programs are given

`x` is the input projection, read at a row and a column (columns 0..1023 the queries, 1024..2047 the keys, 2048..4095 the
values), `y` the gradient of the retention's output. Row `128 n + i` is token `i` of chunk `n`.
-/
noncomputable section

namespace Retention
open Idealize.ShloMosaic

/-- A natural number as the element that an integer-to-float conversion makes of it. -/
def int (n : ℕ) : EReal := FloatOps.sitofp (F := Ideal) .f32 (BitVec.ofNat 32 n)

/-- The rotation angle of token `t` at coordinate `d` of the half. -/
def angle (t d : ℕ) : EReal :=
  int t * Ideal.pow (Ideal.ofBits .f32 1176256512#32) (Ideal.div (-int d) (Ideal.ofBits .f32 1115684864#32))

/-- The logarithm of head `h`'s decay per token. -/
def logg (h : ℕ) : EReal :=
  Ideal.log (1 - Ideal.pow (Ideal.ofBits .f32 1056964608#32) (Ideal.ofBits .f32 1084227584#32 + int h))

/-- The decay from token `j` of a chunk to token `i`; nothing reaches an earlier token. -/
def mask (h i j : ℕ) : EReal := if 0 ≤ int i - int j then Ideal.exp (max (int i - int j) 0 * logg h) else 0

/-- The decay from a chunk's start to token `i`. -/
def fromStart (h i : ℕ) : EReal := Ideal.exp ((int i + 1) * logg h)

/-- The decay from token `i` to the chunk's end. -/
def toEnd (h i : ℕ) : EReal := Ideal.exp ((Ideal.ofBits .f32 1123942400#32 - int i) * logg h)

/-- The decay of a whole chunk. -/
def decay (h : ℕ) : EReal := Ideal.exp (Ideal.ofBits .f32 1124073472#32 * logg h)

/-- The scale of the queries. -/
def scl : EReal := Ideal.ofBits .f32 0x3DB504F3#32

/-- The rotation of a row `f` of 128 coordinates, at token `t`. -/
def rot (f : ℕ → EReal) (t d : ℕ) : EReal :=
  if d < 64 then f d * Ideal.cos (angle t d) - f (64 + d) * Ideal.sin (angle t d)
  else f d * Ideal.cos (angle t (d - 64)) + f (d - 64) * Ideal.sin (angle t (d - 64))

/-- The cosines, the half of a row twice. -/
def cosT (t d : ℕ) : EReal := Ideal.cos (angle t (if d < 64 then d else d - 64))

/-- The sines, negative in the first half. -/
def sinT (t d : ℕ) : EReal := if d < 64 then -Ideal.sin (angle t d) else Ideal.sin (angle t (d - 64))

/-- The inputs of the retention. -/
def inputs (x y : ℕ → ℕ → EReal) : Data where
  q n i h d := rot (fun k => x (128 * n + i) (128 * h + k)) (128 * n + i) d * scl
  k n i h d := rot (fun k => x (128 * n + i) (1024 + (128 * h + k))) (128 * n + i) d
  v n i h e := x (128 * n + i) (2048 + (256 * h + e))
  dr n i h e := y (128 * n + i) (256 * h + e)
  dm h i j := mask h i j
  xi h i := fromStart h i
  zt h i := toEnd h i
  cd h := decay h

/-- A matrix read at natural numbers. -/
def at2 {a b : ℕ} {α : Type} [Zero α] (x : Shape.Idx ⟨2, ![a, b]⟩ → α) (r c : ℕ) : α :=
  if h : r < a ∧ c < b then x (ix2 ⟨r, h.1⟩ ⟨c, h.2⟩) else 0

theorem at2_ix {a b : ℕ} {α : Type} [Zero α] (x : Shape.Idx ⟨2, ![a, b]⟩ → α) (r : Fin a) (c : Fin b) :
    x (ix2 r c) = at2 x r c := by
  simp [at2]

/-- The result: the gradients of the queries, keys and values before the rotation, beside the columns that are handed
through. -/
def out (x y z : ℕ → ℕ → EReal) (r c : ℕ) : EReal :=
  let D := inputs x y
  let n := r / 128
  let i : Fin 128 := ⟨r % 128, Nat.mod_lt _ (by decide)⟩
  if c < 1024 then
    unrope (fun d => D.dq n i ⟨c / 128 % 8, Nat.mod_lt _ (by decide)⟩ d * scl) (fun d => cosT r d) (fun d => sinT r d)
      ⟨c % 128, Nat.mod_lt _ (by decide)⟩
  else if c < 2048 then
    unrope (D.dk n i ⟨c / 128 % 8, Nat.mod_lt _ (by decide)⟩) (fun d => cosT r d) (fun d => sinT r d)
      ⟨c % 128, Nat.mod_lt _ (by decide)⟩
  else if c < 4096 then
    D.dv n i ⟨c / 256 % 8, Nat.mod_lt _ (by decide)⟩ ⟨c % 256, Nat.mod_lt _ (by decide)⟩
  else z r c

end Retention
end
-- ==== Proof.KernelReads.lean ====
module
public import proofs.«01_k».proof.Proof.TileVal
public import proofs.«01_k».proof.Proof.Inputs
public import Idealize.ShloMosaic.Lib.StableHlo.ReadAt
@[expose] public section

/-!
# What the host prepares for the kernel, element by element

The rotated queries and keys, the values, the rotation tables, the mask and the decays, over the program's arguments.
-/
noncomputable section
namespace Cert.KernelIdeal.Host
open Cert.KernelIdeal Cert.KernelIdeal.Gen Idealize.ShloMosaic Idealize.ShloMosaic.TcCoe Idealize.SL.Sem
open Retention

variable (m : (ℓ : Loc nD τ sig) → Buf (Elt Ideal) ℓ) (c : Dev nD)

/-- The input projection. -/
def x : ℕ → ℕ → EReal := at2 (α := EReal) (a := 4096) (b := 4096) (m (c, Proc.tc.devRef main_arg0))
/-- The gradient of the retention's output. -/
def y : ℕ → ℕ → EReal := at2 (α := EReal) (a := 4096) (b := 2048) (m (c, Proc.tc.devRef main_arg1))
/-- The gradient's array before the call. -/
def z : ℕ → ℕ → EReal := at2 (α := EReal) (a := 4096) (b := 10240) (m (c, Proc.tc.devRef main_arg2))

theorem x_ix (r s : Fin 4096) : m (c, Proc.tc.devRef main_arg0) (ix2 r s) = x m c r s :=
  at2_ix (α := EReal) (m (c, Proc.tc.devRef main_arg0)) r s

theorem cos (r : Fin 4096) (d : Fin 128) : V m c main_v14 (ix2 r d) = cosT r d := by
  unfold V
  after_reads_at
  by_cases h : d.val < 64 <;> simp only [h, cosT, angle, int, dif_pos, dif_neg, if_pos, if_neg, not_false_eq_true]

theorem sin (r : Fin 4096) (d : Fin 128) : V m c main_v16 (ix2 r d) = sinT r d := by
  unfold V
  after_reads_at
  unfold sinT
  by_cases h : d.val < 64
  · rw [dif_pos h, if_pos h]
    rfl
  · rw [dif_neg h, if_neg h]
    rfl

theorem maskAt (h : Fin 8) (i j : Fin 128) : V m c main_v42 (ix3 h i j) = mask h i j := by
  unfold V
  after_reads_at
  simp only [mask, int, logg, id_eq]
  congr 1
  exact Ideal.ofBits_zero_f32

theorem fromStartAt (h : Fin 8) (i : Fin 128) (e : Fin 256) : V m c main_v60 (ix3 h i e) = fromStart h i := by
  unfold V
  after_reads_at
  rfl

theorem toEndAt (h : Fin 8) (i d : Fin 128) : V m c main_v62 (ix3 h i d) = toEnd h i := by
  unfold V
  after_reads_at
  rfl

theorem query (r : Fin 4096) (h : Fin 8) (d : Fin 128) :
    V m c main_v104 (ix2 r ⟨128 * h + d, by omega⟩) = rot (fun k => x m c r (128 * h + k)) r d * scl := by
  unfold V
  after_reads_at
  rw [dif_pos (by omega)]
  after_reads_at
  unfold rot
  by_cases hd : d.val < 64
  · rw [dif_pos hd, if_pos hd]
    after_reads_at
    simp only [hd, ↓reduceDIte]
    after_reads_at
    simp only [x_ix m c, mul_comm h.val 128]
    rfl
  · rw [dif_neg hd, if_neg hd]
    after_reads_at
    rw [dif_pos (by omega)]
    after_reads_at
    have e : 64 + (d.val - 64) = d := by omega
    simp only [x_ix m c, mul_comm h.val 128, e]
    rfl

theorem key (r : Fin 4096) (h : Fin 8) (d : Fin 128) :
    V m c main_v104 (ix2 r ⟨1024 + (128 * h + d), by omega⟩) = rot (fun k => x m c r (1024 + (128 * h + k))) r d := by
  unfold V
  after_reads_at
  rw [dif_pos (by omega)]
  after_reads_at
  unfold rot
  by_cases hd : d.val < 64
  · rw [dif_pos hd, if_pos hd]
    after_reads_at
    simp only [hd, ↓reduceDIte]
    after_reads_at
    simp only [x_ix m c, mul_comm h.val 128]
    rfl
  · rw [dif_neg hd, if_neg hd]
    after_reads_at
    rw [dif_pos (by omega)]
    after_reads_at
    have e : 64 + (d.val - 64) = d := by omega
    simp only [x_ix m c, mul_comm h.val 128, e]
    rfl

theorem value (r : Fin 4096) (h : Fin 8) (e : Fin 256) :
    V m c main_v104 (ix2 r ⟨2048 + (256 * h + e), by omega⟩) = x m c r (2048 + (256 * h + e)) := by
  unfold V
  after_reads_at
  rw [dif_neg (by omega), dif_neg (by omega), dif_pos (by omega)]
  after_reads_at
  rw [x_ix m c]
  have h1 : 2048 + (2048 + (256 * h.val + e) - 1024 - 1024) = 2048 + (256 * h.val + e) := by omega
  simp only [h1]

theorem decayAt (h : Fin 8) (d : Fin 128) (e : Fin 256) : V m c main_v133 (ix3 h d e) = decay h := by
  unfold V
  after_reads_at
  rfl
end Cert.KernelIdeal.Host
end
-- ==== Proof.KernelStates.lean ====
module
public import proofs.«01_k».proof.Proof.TileVal
public import Idealize.ShloMosaic.Lib.StableHlo.ReadAt
@[expose] public section

/-!
# The states before the chunks, as the host computes them

The last operations of the host: 32 unrolled steps of the recurrence, whose states are stacked.
-/
noncomputable section
namespace Cert.KernelIdeal.Host
open Cert.KernelIdeal Cert.KernelIdeal.Gen Idealize.ShloMosaic Idealize.ShloMosaic.TcCoe Idealize.SL.Sem

/-- The operations before the kernel. -/
abbrev ops : List (HloOp τ sig (Elt Ideal)) := [hostOps0, hostOps0_1, hostOps0_2].flatten

/-- A first-order recurrence: start `s`, factor `a`, terms `b`. -/
def chain (s a : EReal) (b : ℕ → EReal) : ℕ → EReal
  | 0 => s
  | n + 1 => a * chain s a b n + b n

theorem states_stacked (W : Valuation τ sig (Elt Ideal)) (n : Fin 32) (h : Fin 8) (d : Fin 128) (e : Fin 256) :
    StableHlo.after (ops.drop 160) W (Proc.tc.devRef main_v303) (ix3 n ⟨128 * h.val + d.val, by omega⟩ e) =
      StableHlo.upto (ops.drop 160) W 163 (Proc.tc.devRef main_v300) (ix4 n h d e) := by
  generalize hX : StableHlo.upto (ops.drop 160) W 163 (Proc.tc.devRef main_v300) = X
  after_reads_at
  rw [dif_neg (by omega), hX]
  congr 2 <;> ext <;> simp <;> omega

set_option maxHeartbeats 4000000 in -- 32 states, the last of them a term of 32 products
theorem states_steps (W : Valuation τ sig (Elt Ideal)) (n : Fin 32) (h : Fin 8) (d : Fin 128) (e : Fin 256) :
    StableHlo.upto (ops.drop 160) W 163 (Proc.tc.devRef main_v300) (ix4 n h d e) =
      chain (W (Proc.tc.devRef main_v134) (ix3 h d e)) (W (Proc.tc.devRef main_v133) (ix3 h d e))
        (fun k => W (Proc.tc.devRef main_v136) (ix4 ⟨k % 32, by omega⟩ h d e)) n := by
  fin_cases n
  all_goals after_reads_at
  all_goals try after_reads_at
  all_goals simp only [chain, Nat.reduceMod]
  all_goals rfl

end Cert.KernelIdeal.Host
end
-- ==== Proof.KernelStateVal.lean ====
module
public import proofs.«01_k».proof.Proof.KernelReads
public import proofs.«01_k».proof.Proof.KernelStates
@[expose] public section

/-!
# The states are the retention's
-/
noncomputable section
namespace Cert.KernelIdeal.Host
open Cert.KernelIdeal Cert.KernelIdeal.Gen Idealize.ShloMosaic Idealize.ShloMosaic.TcCoe Idealize.SL.Sem
open Retention

variable (m : (ℓ : Loc nD τ sig) → Buf (Elt Ideal) ℓ) (c : Dev nD)

/-- What the first 160 operations leave. -/
abbrev W : Valuation τ sig (Elt Ideal) := StableHlo.upto ops (fun b => m (c, b)) 160

theorem V_split (r : Ref sig .tc) : V m c r = StableHlo.after (ops.drop 160) (W m c) (Proc.tc.devRef r) := by
  show StableHlo.after ops _ _ = _
  conv_lhs => rw [← List.take_append_drop 160 ops]
  rw [StableHlo.after_append]
  rfl

theorem W_zero (h : Fin 8) (d : Fin 128) (e : Fin 256) : W m c (Proc.tc.devRef main_v134) (ix3 h d e) = (0 : EReal) := by
  unfold W
  after_reads_at

theorem W_decay (h : Fin 8) (d : Fin 128) (e : Fin 256) :
    W m c (Proc.tc.devRef main_v133) (ix3 h d e) = decay h := by
  unfold W
  after_reads_at
  rfl

theorem W_term (n : Fin 32) (h : Fin 8) (d : Fin 128) (e : Fin 256) :
    W m c (Proc.tc.devRef main_v136) (ix4 n h d e) =
      ∑ j : Fin 128, ((inputs (x m c) (y m c)).k n j h d * (inputs (x m c) (y m c)).zt h j) *
        (inputs (x m c) (y m c)).v n j h e := by
  unfold W
  after_reads_at
  refine Finset.sum_congr rfl fun j _ => ?_
  unfold inputs rot
  by_cases hd : d.val < 64
  · simp only [hd, ↓reduceDIte, ↓reduceIte]
    after_reads_at
    simp only [hd, ↓reduceDIte]
    after_reads_at
    simp only [x_ix m c, mul_comm h.val, mul_comm n.val 128]
    rfl
  · simp only [hd, ↓reduceDIte, ↓reduceIte]
    after_reads_at
    have e1 : 64 + (d.val - 64) = d := by omega
    have e2 : d.val - 64 < 64 := by omega
    simp only [e2, ↓reduceDIte]
    after_reads_at
    simp only [x_ix m c, mul_comm h.val, mul_comm n.val 128, e1]
    rfl

theorem chain_S (D : Data) (h : Fin 8) (d : Fin 128) (e : Fin 256) (b : ℕ → EReal)
    (hb : ∀ k < 32, b k = ∑ j : Fin 128, (D.k k j h d * D.zt h j) * D.v k j h e) (n : ℕ) (hn : n ≤ 32) :
    chain 0 (D.cd h) b n = D.S n h d e := by
  induction n with
  | zero => rfl
  | succ n ih => rw [chain, Data.S, ih (by omega), hb n (by omega)]

theorem states (n : Fin 32) (h : Fin 8) (d : Fin 128) (e : Fin 256) :
    V m c main_v303 (ix3 n ⟨128 * h.val + d.val, by omega⟩ e) = (inputs (x m c) (y m c)).S n h d e := by
  rw [V_split, states_stacked, states_steps, W_zero, W_decay]
  refine chain_S (inputs (x m c) (y m c)) h d e _ (fun k hk => ?_) n (by omega)
  rw [W_term]
  simp only [Nat.mod_eq_of_lt hk]

end Cert.KernelIdeal.Host
end
-- ==== Proof.Reads.lean ====
module
public import proofs.«01_k».proof.Proof.KernelStateVal
public import proofs.«01_k».proof.Proof.Gen.KernelIdeal.Value
public import Idealize.ShloMosaic.Lib.Pipeline.ValueKit
@[expose] public section

/-!
# What a block's body reads

Point `t` works on the chunks `2 (15 - t)` and `2 (15 - t) + 1`; its reads are the retention's inputs there.
-/
noncomputable section
namespace Cert.KernelIdeal.Tile
open Cert.KernelIdeal Cert.KernelIdeal.Gen Idealize.ShloMosaic Idealize.ShloMosaic.TcCoe Idealize.SL.Sem
open Retention

section reads
variable {F : FTy → Type} [FloatOps F] {sp : Space} {e : EltTy}

/-- A whole buffer read through a rectangle of its rows and columns. -/
theorem readAt2 {R C r c : ℕ} {w a : ℕ} (A : Memref sig .tc sp ⟨2, ![R, C]⟩ e) (hA : A.IsWhole) (x : Vec F ⟨2, ![R, C]⟩ e)
    (inb : ∀ b : Fin 2, (![r, c] : Fin 2 → ℕ) b + (![a, w] : Fin 2 → ℕ) b ≤ (![R, C] : Fin 2 → ℕ) b) (i : Fin a) (j : Fin w)
    (hi : r + i < R) (hj : c + j < C) :
    View.readAt (Elt F) A.view (Rect.unit (s := ⟨2, ![R, C]⟩) ![r, c] ![a, w] inb).toLoadRect (hA.unread x) (ix2 i j)
      = x (ix2 ⟨r + i, hi⟩ ⟨c + j, hj⟩) := by
  rw [View.readAt_eq_ld, hA.read_unread]
  refine congrArg x ?_
  funext b; apply Fin.ext
  match b with
  | ⟨0, _⟩ => exact congrArg (r + ·) (Nat.one_mul _)
  | ⟨1, _⟩ => exact congrArg (c + ·) (Nat.one_mul _)

/-- A whole buffer of matrices read through a rectangle of one of them. -/
theorem readAt3 {N R C n r c : ℕ} {w a : ℕ} (A : Memref sig .tc sp ⟨3, ![N, R, C]⟩ e) (hA : A.IsWhole) (x : Vec F ⟨3, ![N, R, C]⟩ e)
    (inb : ∀ b : Fin 3, (![n, r, c] : Fin 3 → ℕ) b + (![1, a, w] : Fin 3 → ℕ) b ≤ (![N, R, C] : Fin 3 → ℕ) b)
    (i : Fin a) (j : Fin w) (hn : n < N) (hi : r + i < R) (hj : c + j < C) :
    View.readAt (Elt F) A.view (Rect.unit (s := ⟨3, ![N, R, C]⟩) ![n, r, c] ![1, a, w] inb).toLoadRect (hA.unread x) (ix3 0 i j)
      = x (ix3 ⟨n, hn⟩ ⟨r + i, hi⟩ ⟨c + j, hj⟩) := by
  rw [View.readAt_eq_ld, hA.read_unread]
  refine congrArg x ?_
  funext b; apply Fin.ext
  match b with
  | ⟨0, _⟩ => rfl
  | ⟨1, _⟩ => exact congrArg (r + ·) (Nat.one_mul _)
  | ⟨2, _⟩ => exact congrArg (c + ·) (Nat.one_mul _)
end reads

theorem idx : ∀ t : Fin cfg0.N, win0_0.index t = ![15 - t.val, 0] ∧ win0_1.index t = ![15 - t.val, 1] ∧ win0_2.index t = ![15 - t.val, 1]
    ∧ win0_3.index t = ![15 - t.val, 0] ∧ win0_4.index t = ![15 - t.val, 0, 0] ∧ win0_5.index t = ![15 - t.val, 0] ∧ win0_6.index t = ![15 - t.val, 0]
    ∧ win0_7.index t = ![0, 0, 0] ∧ win0_8.index t = ![0, 0, 0] ∧ win0_9.index t = ![0, 0, 0] ∧ win0_10.index t = ![15 - t.val, 0] := by
  decide +kernel

section blocks
variable (m : (ℓ : Loc nD τ sig) → Buf (Elt Ideal) ℓ) (c : Dev nD) (t : Fin cfg0.N)

theorem blk0 (i : Fin 256) (d : Fin 1024) :
    iblk m c 0 t (ix2 i d) = V m c main_v104 (ix2 ⟨256 * (15 - t.val) + i, by omega⟩ ⟨d, by omega⟩) := by
  blk_ext [iblk, idx t]
theorem blk1 (i : Fin 256) (d : Fin 1024) :
    iblk m c 1 t (ix2 i d) = V m c main_v104 (ix2 ⟨256 * (15 - t.val) + i, by omega⟩ ⟨1024 + d, by omega⟩) := by
  blk_ext [iblk, idx t]
theorem blk2 (i : Fin 256) (d : Fin 2048) :
    iblk m c 2 t (ix2 i d) = V m c main_v104 (ix2 ⟨256 * (15 - t.val) + i, by omega⟩ ⟨2048 + d, by omega⟩) := by
  blk_ext [iblk, idx t]
theorem blk3 (i : Fin 256) (d : Fin 2048) :
    iblk m c 3 t (ix2 i d) = V m c main_arg1 (ix2 ⟨256 * (15 - t.val) + i, by omega⟩ d) := by
  blk_ext [iblk, idx t]
theorem blk4 (j : Fin 2) (d : Fin 1024) (e : Fin 256) :
    iblk m c 4 t (ix3 j d e) = V m c main_v303 (ix3 ⟨2 * (15 - t.val) + j, by omega⟩ d e) := by
  blk_ext [iblk, idx t]
theorem blk5 (i : Fin 256) (d : Fin 128) :
    iblk m c 5 t (ix2 i d) = V m c main_v14 (ix2 ⟨256 * (15 - t.val) + i, by omega⟩ d) := by
  blk_ext [iblk, idx t]
theorem blk6 (i : Fin 256) (d : Fin 128) :
    iblk m c 6 t (ix2 i d) = V m c main_v16 (ix2 ⟨256 * (15 - t.val) + i, by omega⟩ d) := by
  blk_ext [iblk, idx t]
theorem blk7 (h : Fin 8) (i j : Fin 128) : iblk m c 7 t (ix3 h i j) = V m c main_v42 (ix3 h i j) := by
  blk_ext [iblk, idx t]
theorem blk8 (h : Fin 8) (i : Fin 128) (e : Fin 256) : iblk m c 8 t (ix3 h i e) = V m c main_v60 (ix3 h i e) := by
  blk_ext [iblk, idx t]
theorem blk9 (h : Fin 8) (i d : Fin 128) : iblk m c 9 t (ix3 h i d) = V m c main_v62 (ix3 h i d) := by
  blk_ext [iblk, idx t]

/-- The reads of point `t`. -/
abbrev L : Loads Ideal :=
  loads (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (ms0_7 t) (hs0_7 t) (ms0_8 t) (hs0_8 t) (ms0_9 t) (hs0_9 t)
    (iblk m c 0 t) (iblk m c 1 t) (iblk m c 2 t) (iblk m c 3 t) (iblk m c 4 t) (iblk m c 5 t) (iblk m c 6 t)
    (iblk m c 7 t) (iblk m c 8 t) (iblk m c 9 t)

/-- The row of a block's token. -/
theorem row (b j i : ℕ) : 256 * b + (128 * j + i) = 128 * (2 * b + j) + i := by ring

theorem fits (hcd : ∀ h : Fin 8, Tile.cd (F := Ideal) h = decay h) :
    Fits (L m c t) (inputs (Host.x m c) (Host.y m c)) (fun n i d => cosT (128 * n + i) d) (fun n i d => sinT (128 * n + i) d)
      (15 - t.val) where
  q h j i d := by
    unfold L loads; simp only
    rw [show ∀ (v : FVec Ideal S128x128 .bf16), shapeCast S128x128 v shapeCasts_S128x128_S128x128 (ix2 i d) = v (ix2 i d) from fun v => by pointwise]
    rw [readAt2 _ _ _ _ _ _ (by omega) (by omega), blk0]
    exact (Host.query m c _ h d).trans (by simp only [row]; rfl)
  k h j i d := by
    unfold L loads; simp only
    rw [show ∀ (v : FVec Ideal S128x128 .bf16), shapeCast S128x128 v shapeCasts_S128x128_S128x128 (ix2 i d) = v (ix2 i d) from fun v => by pointwise]
    rw [readAt2 _ _ _ _ _ _ (by omega) (by omega), blk1]
    exact (Host.key m c _ h d).trans (by simp only [row]; rfl)
  v h j i e := by
    unfold L loads; simp only
    rw [show ∀ (v : FVec Ideal S128x256 .bf16), shapeCast S128x256 v shapeCasts_S128x256_S128x256 (ix2 i e) = v (ix2 i e) from fun v => by pointwise]
    rw [readAt2 _ _ _ _ _ _ (by omega) (by omega), blk2]
    exact (Host.value m c _ h e).trans (by simp only [row]; rfl)
  dr h j i e := by
    unfold L loads; simp only
    rw [readAt2 _ _ _ _ _ _ (by omega) (by omega), blk3, V_main_arg1]
    exact (at2_ix (α := EReal) (m (c, Proc.tc.devRef main_arg1)) _ _).trans (by simp only [row]; rfl)
  s h j d e := by
    unfold L loads; simp only
    rw [show ∀ (v : FVec Ideal S1x128x256 .bf16), shapeCast S128x256 v shapeCasts_S1x128x256_S128x256 (ix2 d e) = v (ix3 0 d e) from fun v => by pointwise]
    rw [readAt3 _ _ _ _ _ _ (by omega) (by omega) (by omega), blk4]
    simp only [Nat.zero_add]
    exact Host.states m c _ h d e
  cos j i d := by
    unfold L loads; simp only
    rw [show ∀ (v : FVec Ideal S128x128 .f32), shapeCast S128x128 v shapeCasts_S128x128_S128x128 (ix2 i d) = v (ix2 i d) from fun v => by pointwise]
    rw [readAt2 _ _ _ _ _ _ (by omega) (by omega), blk5, Host.cos]
    simp only [row, Nat.zero_add]
  sin j i d := by
    unfold L loads; simp only
    rw [show ∀ (v : FVec Ideal S128x128 .f32), shapeCast S128x128 v shapeCasts_S128x128_S128x128 (ix2 i d) = v (ix2 i d) from fun v => by pointwise]
    rw [readAt2 _ _ _ _ _ _ (by omega) (by omega), blk6, Host.sin]
    simp only [row, Nat.zero_add]
  dm h i j := by
    unfold L loads; simp only
    rw [show ∀ (v : FVec Ideal S1x128x128 .f32), shapeCast S128x128 v shapeCasts_S1x128x128_S128x128 (ix2 i j) = v (ix3 0 i j) from fun v => by pointwise]
    rw [readAt3 _ _ _ _ _ _ (by omega) (by omega) (by omega), blk7]
    simp only [Nat.zero_add]
    exact Host.maskAt m c h i j
  xi h i e := by
    unfold L loads; simp only
    rw [show ∀ (v : FVec Ideal S1x128x256 .f32), shapeCast S128x256 v shapeCasts_S1x128x256_S128x256 (ix2 i e) = v (ix3 0 i e) from fun v => by pointwise]
    rw [readAt3 _ _ _ _ _ _ (by omega) (by omega) (by omega), blk8]
    simp only [Nat.zero_add]
    exact Host.fromStartAt m c h i e
  zt h i d := by
    unfold L loads; simp only
    rw [show ∀ (v : FVec Ideal S1x128x128 .f32), shapeCast S128x128 v shapeCasts_S1x128x128_S128x128 (ix2 i d) = v (ix3 0 i d) from fun v => by pointwise]
    rw [readAt3 _ _ _ _ _ _ (by omega) (by omega) (by omega), blk9]
    simp only [Nat.zero_add]
    exact Host.toEndAt m c h i d
  cd h := hcd h
  le := by omega

end blocks
end Cert.KernelIdeal.Tile
end
-- ==== Proof.Decay.lean ====
module
public import proofs.«01_k».proof.Proof.Tile
public import proofs.«01_k».proof.Proof.Inputs
public import Mathlib.Analysis.SpecialFunctions.Pow.Real
@[expose] public section

/-!
# The decay of a whole chunk

The kernel's constants are `(1 - 2^-(5+h))^128`; the host's value is the exponential of 128 times the logarithm of
`1 - 2^-(5+h)`. They are equal.
-/
noncomputable section
namespace Retention
open Idealize.ShloMosaic

theorem int_coe (n : ℕ) (hn : n < 2 ^ 31) : int n = ((n : ℝ) : EReal) := by
  show (((BitVec.ofNat 32 n).toInt : ℝ) : EReal) = _
  have : (BitVec.ofNat 32 n).toInt = n := by
    rw [BitVec.toInt_ofNat']
    have h1 : n % 2 ^ 32 = n := Nat.mod_eq_of_lt (by omega)
    rw [Int.bmod_def]
    omega
  rw [this]
  norm_cast

theorem decay_eq (h : Fin 8) : decay h = (((1 - (1 / 2 : ℝ) ^ (5 + h.val)) ^ 128 : ℝ) : EReal) := by
  have e1 : Ideal.ofBits .f32 1056964608#32 = ((1 / 2 : ℝ) : EReal) := by
    simp [Ideal.ofBits, Ideal.ieee, -EReal.coe_mul]; norm_num
  have e2 : Ideal.ofBits .f32 1084227584#32 = ((5 : ℝ) : EReal) := by
    simp [Ideal.ofBits, Ideal.ieee, -EReal.coe_mul]; norm_num
  have e3 : Ideal.ofBits .f32 1124073472#32 = ((128 : ℝ) : EReal) := by
    simp [Ideal.ofBits, Ideal.ieee, -EReal.coe_mul]; norm_num
  have hp : (1 / 2 : ℝ) ^ (5 + h.val) < 1 := pow_lt_one₀ (by norm_num) (by norm_num) (by omega)
  unfold decay logg
  rw [e1, e2, e3, int_coe _ (by omega), ← EReal.coe_add, Ideal.pow_coe_coe]
  have e4 : Real.rpow (1 / 2 : ℝ) (5 + (h.val : ℝ)) = (1 / 2 : ℝ) ^ (5 + h.val) := by
    rw [← Real.rpow_natCast]
    push_cast
    rfl
  rw [e4, show (1 : EReal) = ((1 : ℝ) : EReal) from rfl, ← EReal.coe_sub, Ideal.log_coe, if_neg (by linarith),
    ← EReal.coe_mul, Ideal.exp_coe, mul_comm, Real.exp_mul, Real.exp_log (by linarith)]
  norm_cast

end Retention

namespace Cert.KernelIdeal.Tile
open Idealize.ShloMosaic Retention

theorem named_val {name : String} {b : BitVec 32} {r : ℝ} (hr : Cert.KernelIdeal.κ name = some (r : EReal)) :
    Named.named (F := Ideal) Cert.KernelIdeal.κ name (φ := .f32) b = (r : EReal) := by
  show (Cert.KernelIdeal.κ name).getD _ = _
  rw [hr]
  rfl

theorem cd_eq (h : Fin 8) : Tile.cd (F := Ideal) h = decay h := by
  rw [decay_eq]
  fin_cases h
  all_goals
    refine (named_val rfl).trans (congrArg Real.toEReal ?_)
    norm_num

end Cert.KernelIdeal.Tile
end
-- ==== Proof.KernelBlock.lean ====
module
public import proofs.«01_k».proof.Proof.TileVal
public import proofs.«01_k».proof.Proof.Reads
public import proofs.«01_k».proof.Proof.Decay
@[expose] public section

/-!
# What a block stores, and what it leaves of the state's gradient

A block's stores hold the result's rows of its two chunks; the scratch holds, after each block, the gradient of the state
before the block's first chunk, of all eight heads.
-/
noncomputable section
namespace Cert.KernelIdeal.Tile
open Cert.KernelIdeal Cert.KernelIdeal.Gen Idealize.ShloMosaic Idealize.ShloMosaic.TcCoe Idealize.SL.Sem
open Retention

/-- A rectangle of rows and columns, at its own index. -/
theorem emb2 {R C r c w a : ℕ}
    (inb : ∀ b : Fin 2, (![r, c] : Fin 2 → ℕ) b + (![a, w] : Fin 2 → ℕ) b ≤ (![R, C] : Fin 2 → ℕ) b) (i : Fin a) (j : Fin w)
    (hi : r + i < R) (hj : c + j < C) :
    (Rect.unit (s := ⟨2, ![R, C]⟩) ![r, c] ![a, w] inb).emb (ix2 i j) = ix2 ⟨r + i, hi⟩ ⟨c + j, hj⟩ := by
  funext b; apply Fin.ext
  match b with
  | ⟨0, _⟩ => exact congrArg (r + ·) (Nat.one_mul _)
  | ⟨1, _⟩ => exact congrArg (c + ·) (Nat.one_mul _)

section scratch
variable {L : Loads Ideal} {D : Data} {C N : ℕ → Fin 128 → Fin 128 → EReal} {b : ℕ}

/-- The stored gradient of one head, at an index. -/
theorem stored_apply (H : Fits L D C N b) (g : FVec Ideal S128x256 .f32) (h : Fin 8)
    (hg : ∀ d e, g (ix2 d e) = D.G (31 - (2 * b + 1)) h d e) (d : Fin 128) (e : Fin 256) :
    (stored L g h).2 (ix2 d e) = D.G (32 - 2 * b) h d e := by
  have hs : ∀ v : FVec Ideal S128x256 .f32, shapeCast S128x256 v shapeCasts_S128x256_S128x256 (ix2 d e) = v (ix2 d e) :=
    fun v => by pointwise
  exact (hs _).trans (H.left g h hg d e)

/-- The scratch of all heads, at a row. -/
def slab (D : Data) (r : ℕ) (y : S1024x256.Idx) : EReal :=
  D.G r ⟨(y 0).val / 128, by have := (y 0).isLt; simp at this; omega⟩ ⟨(y 0).val % 128, Nat.mod_lt _ (by decide)⟩ (y 1)

theorem slab_ix (D : Data) (r : ℕ) (h : Fin 8) (d : Fin 128) (e : Fin 256) :
    slab D r (ix2 ⟨128 * h + d, by omega⟩ e) = D.G r h d e := by
  have h1 : (⟨(128 * h.val + d.val) / 128, by omega⟩ : Fin 8) = h := Fin.ext (by simp only; omega)
  have h2 : (⟨(128 * h.val + d.val) % 128, by omega⟩ : Fin 128) = d := Fin.ext (by simp only; omega)
  exact congrArg₂ (fun a b => D.G r a b e) h1 h2

/-- A later block's scratch. -/
theorem canon_left (H : Fits L D C N b) (g : Fin 8 → FVec Ideal S128x256 .f32)
    (hg : ∀ h d e, g h (ix2 d e) = D.G (31 - (2 * b + 1)) h d e) (y : S1024x256.Idx)
    (hy : ∃ p ∈ [7, 6, 5, 4, 3, 2, 1, 0].map (fun h => stored L (g h) h), y ∈ p.1.set) :
    View.canon ([7, 6, 5, 4, 3, 2, 1, 0].map fun h => stored L (g h) h) y = slab D (32 - 2 * b) y := by
  refine View.canon_apply_of_pieces (Val := Elt Ideal) (slab D (32 - 2 * b)) _ ?_ y hy
  intro p hp x
  obtain ⟨h, -, rfl⟩ := List.mem_map.mp hp
  obtain ⟨d, e, rfl⟩ : ∃ (d : Fin 128) (e : Fin 256), x = ix2 d e := ⟨x 0, x 1, by funext a; match a with | ⟨0, _⟩ => rfl | ⟨1, _⟩ => rfl⟩
  rw [stored_apply H (g h) h (hg h)]
  have := emb2 (R := 1024) (C := 256) (inb_rc (r := 128 * h) (c := 0) (w := 256) (by omega) (by omega)) d e (by omega) (by omega)
  refine Eq.trans ?_ (congrArg (slab D (32 - 2 * b)) this).symm
  simp only [Nat.zero_add]
  exact (slab_ix D _ h d e).symm

/-- The first block's scratch after `n` heads: those heads' gradients, and zero. -/
theorem canon_sofar (H : Fits L D C N 15) (A : Memref sig .tc .vmem S1024x256 .f32) (n : ℕ) (hn : n ≤ 8) (h : Fin 8)
    (d : Fin 128) (e : Fin 256) :
    View.canon (sofar L A n) (ix2 ⟨128 * h + d, by omega⟩ e) = if h.val < n then D.G 2 h d e else 0 := by
  induction n generalizing h d e with
  | zero =>
    have := emb2 (R := 1024) (C := 256) (r := 0) (c := 0) inb_S1024x256_S1024x256_0_0 ⟨128 * h + d, by omega⟩ e (by simp; omega) (by omega)
    simp only [Nat.zero_add] at this
    rw [← this]
    refine (View.canon_cons_emb (Val := Elt Ideal) _ _ _ _).trans ?_
    simp only [Nat.not_lt_zero, if_false]
    show k0_pay2 (F := Ideal) (ix2 _ _) = 0
    unfold k0_pay2
    pointwise
  | succ n ih =>
    have hn8 : n % 8 = n := Nat.mod_eq_of_lt (by omega)
    by_cases hh : h.val = n
    · have hfin : (⟨n % 8, by omega⟩ : Fin 8) = h := Fin.ext (by simp only; omega)
      have := emb2 (R := 1024) (C := 256) (inb_rc (r := 128 * (⟨n % 8, by omega⟩ : Fin 8).val) (c := 0) (w := 256) (by simp only; omega) (by omega)) d e (by simp only; omega) (by omega)
      rw [show (ix2 (⟨128 * h + d, by omega⟩ : Fin 1024) e : Shape.Idx ⟨2, ![1024, 256]⟩)
        = (Rect.unit (s := ⟨2, ![1024, 256]⟩) ![128 * (⟨n % 8, by omega⟩ : Fin 8).val, 0] ![128, 256] (inb_rc (by simp only; omega) (by omega))).emb (ix2 d e) from by
          rw [this]; simp only [hn8, hh, Nat.zero_add]]
      refine (View.canon_cons_emb (Val := Elt Ideal) _ _ _ _).trans ?_
      rw [if_pos (by omega)]
      refine (stored_apply H _ ⟨n % 8, by omega⟩ ?_ d e).trans ?_
      · intro d e
        rw [View.readCov_eq_canon']
        have hi : (Rect.unit (s := S1024x256) ![128 * (n % 8), 0] ![128, 256] (inb_rc (by omega) (by omega))).toLoadRect.idx (ix2 d e)
            = ix2 ⟨128 * h + d, by omega⟩ e := by
          refine (emb2 (R := 1024) (C := 256) (inb_rc (r := 128 * (n % 8)) (c := 0) (w := 256) (by omega) (by omega)) d e (by omega) (by omega)).trans ?_
          simp only [hn8, hh, Nat.zero_add]
        show View.canon (sofar L A n) _ = _
        rw [hi, ih (by omega), if_neg (by omega)]
        rfl
      · rw [hfin]
    · refine (View.canon_cons_of_not_mem (Val := Elt Ideal) _ _ ?_).trans ?_
      · intro hm
        have hm' : ix2 ⟨128 * h.val + d.val, by omega⟩ e
            ∈ (Rect.unit (s := S1024x256) ![128 * (n % 8), 0] ![128, 256] (inb_rc (by omega) (by omega))).set := hm
        have h0 := (Rect.mem_set_unit.mp hm') 0
        have h1 : 128 * (n % 8) ≤ 128 * h.val + d.val := h0.1
        have h2 : 128 * h.val + d.val < 128 * (n % 8) + 128 := h0.2
        omega
      · rw [ih (by omega)]
        by_cases hlt : h.val < n
        · rw [if_pos hlt, if_pos (by omega)]
        · rw [if_neg hlt, if_neg (by omega)]

/-- The first block starts from zero. -/
theorem gFirst_apply (H : Fits L D C N 15) (A : Memref sig .tc .vmem S1024x256 .f32) (h : Fin 8) (d : Fin 128) (e : Fin 256) :
    gFirst L A h (ix2 d e) = D.G (31 - (2 * 15 + 1)) h d e := by
  unfold gFirst
  rw [View.readCov_eq_canon']
  have hi : (Rect.unit (s := S1024x256) ![128 * (h.val % 8), 0] ![128, 256] (inb_rc (by omega) (by omega))).toLoadRect.idx (ix2 d e)
      = ix2 ⟨128 * h + d, by omega⟩ e := by
    refine (emb2 (R := 1024) (C := 256) (inb_rc (r := 128 * (h.val % 8)) (c := 0) (w := 256) (by omega) (by omega)) d e (by omega) (by omega)).trans ?_
    simp only [Nat.mod_eq_of_lt h.isLt, Nat.zero_add]
  show View.canon (sofar L A h) _ = _
  rw [hi, canon_sofar H A h (by omega), if_neg (by omega)]
  rfl

end scratch
end Cert.KernelIdeal.Tile
end
-- ==== Proof.KernelOut.lean ====
module
public import proofs.«01_k».proof.Proof.KernelBlock
@[expose] public section

/-!
# The kernel's result

The blocks' stores, point by point, and the array that they leave.
-/
noncomputable section

namespace Retention

section at_positions
variable (x y z : ℕ → ℕ → EReal) (n : ℕ) (i : Fin 128) (h : Fin 8)

/-- The result's query columns. -/
theorem out_q (d : Fin 128) : out x y z (128 * n + i) (128 * h + d)
    = unrope (fun d => (inputs x y).dq n i h d * scl) (fun d => cosT (128 * n + i) d) (fun d => sinT (128 * n + i) d) d := by
  unfold out
  rw [if_pos (by omega)]
  have h1 : (128 * n + i.val) / 128 = n := by omega
  have h2 : (⟨(128 * n + i.val) % 128, Nat.mod_lt _ (by decide)⟩ : Fin 128) = i := Fin.ext (by simp only; omega)
  have h3 : (⟨(128 * h.val + d.val) / 128 % 8, Nat.mod_lt _ (by decide)⟩ : Fin 8) = h := Fin.ext (by simp only; omega)
  have h4 : (⟨(128 * h.val + d.val) % 128, Nat.mod_lt _ (by decide)⟩ : Fin 128) = d := Fin.ext (by simp only; omega)
  simp only [h1, h2, h3, h4]

/-- The result's key columns. -/
theorem out_k (d : Fin 128) : out x y z (128 * n + i) (1024 + 128 * h + d)
    = unrope (fun d => (inputs x y).dk n i h d) (fun d => cosT (128 * n + i) d) (fun d => sinT (128 * n + i) d) d := by
  unfold out
  rw [if_neg (by omega), if_pos (by omega)]
  have h1 : (128 * n + i.val) / 128 = n := by omega
  have h2 : (⟨(128 * n + i.val) % 128, Nat.mod_lt _ (by decide)⟩ : Fin 128) = i := Fin.ext (by simp only; omega)
  have h3 : (⟨(1024 + 128 * h.val + d.val) / 128 % 8, Nat.mod_lt _ (by decide)⟩ : Fin 8) = h := Fin.ext (by simp only; omega)
  have h4 : (⟨(1024 + 128 * h.val + d.val) % 128, Nat.mod_lt _ (by decide)⟩ : Fin 128) = d := Fin.ext (by simp only; omega)
  simp only [h1, h2, h3, h4]

/-- The result's value columns. -/
theorem out_v (e : Fin 256) : out x y z (128 * n + i) (2048 + 256 * h + e) = (inputs x y).dv n i h e := by
  unfold out
  rw [if_neg (by omega), if_neg (by omega), if_pos (by omega)]
  have h1 : (128 * n + i.val) / 128 = n := by omega
  have h2 : (⟨(128 * n + i.val) % 128, Nat.mod_lt _ (by decide)⟩ : Fin 128) = i := Fin.ext (by simp only; omega)
  have h3 : (⟨(2048 + 256 * h.val + e.val) / 256 % 8, Nat.mod_lt _ (by decide)⟩ : Fin 8) = h := Fin.ext (by simp only; omega)
  have h4 : (⟨(2048 + 256 * h.val + e.val) % 256, Nat.mod_lt _ (by decide)⟩ : Fin 256) = e := Fin.ext (by simp only; omega)
  simp only [h1, h2, h3, h4]

/-- The columns that are handed through. -/
theorem out_z (r c : ℕ) (hc : 4096 ≤ c) : out x y z r c = z r c := by
  unfold out
  rw [if_neg (by omega), if_neg (by omega), if_neg (by omega)]

end at_positions
end Retention

namespace Cert.KernelIdeal.Tile
open Cert.KernelIdeal Cert.KernelIdeal.Gen Idealize.ShloMosaic Idealize.ShloMosaic.TcCoe Idealize.SL.Sem
open Retention

/-- The result's rows of block `b`. -/
def rows (x y z : ℕ → ℕ → EReal) (b : ℕ) (p : S256x4096.Idx) : EReal := out x y z (256 * b + (p 0).val) (p 1).val

theorem rows_at (x y z : ℕ → ℕ → EReal) (b : ℕ) {r c a w : ℕ}
    (inb : ∀ k : Fin 2, (![r, c] : Fin 2 → ℕ) k + (![a, w] : Fin 2 → ℕ) k ≤ (![256, 4096] : Fin 2 → ℕ) k) (i : Fin a) (j : Fin w)
    (hi : r + i < 256) (hj : c + j < 4096) :
    rows x y z b ((Rect.unit (s := S256x4096) ![r, c] ![a, w] inb).emb (ix2 i j)) = out x y z (256 * b + (r + i)) (c + j) :=
  congrArg (rows x y z b) (emb2 inb i j hi hj)

/-- A block's stores hold the result's rows. -/
theorem canon_stores {L : Loads Ideal} {x y : ℕ → ℕ → EReal} (z : ℕ → ℕ → EReal) {b : ℕ}
    (H : Fits L (inputs x y) (fun n i d => cosT (128 * n + i) d) (fun n i d => sinT (128 * n + i) d) b)
    (g : Fin 8 → FVec Ideal S128x256 .f32)
    (hg : ∀ h d e, g h (ix2 d e) = (inputs x y).G (31 - (2 * b + 1)) h d e) (p : S256x4096.Idx)
    (hp : ∃ pc ∈ stores L g, p ∈ pc.1.set) : View.canon (stores L g) p = rows x y z b p := by
  refine View.canon_apply_of_pieces (Val := Elt Ideal) (rows x y z b) _ ?_ p hp
  have key : ∀ (h : Fin 8) (j : Fin 2), ∀ pc ∈ pcs L (g h) h j, ∀ u : pc.1.shape.Idx, pc.2 u = rows x y z b (pc.1.emb u) := by
    intro h j pc hpc u
    simp only [pcs, List.mem_cons, List.not_mem_nil, or_false] at hpc
    rcases hpc with rfl | rfl | rfl
    · obtain ⟨i, e, rfl⟩ : ∃ (i : Fin 128) (e : Fin 256), u = ix2 i e := ⟨u 0, u 1, by funext a; match a with | ⟨0, _⟩ => rfl | ⟨1, _⟩ => rfl⟩
      refine (H.ov (g h) h (hg h) j i e).trans (Eq.trans ?_ (rows_at x y z b (r := 128 * j) (c := 2048 + 256 * h) (a := 128) (w := 256) (inb_rc (by omega) (by omega)) i e (by omega) (by omega)).symm)
      rw [show 256 * b + (128 * j.val + i.val) = 128 * (2 * b + j.val) + i.val from by omega, out_v]
    · obtain ⟨i, e, rfl⟩ : ∃ (i : Fin 128) (e : Fin 128), u = ix2 i e := ⟨u 0, u 1, by funext a; match a with | ⟨0, _⟩ => rfl | ⟨1, _⟩ => rfl⟩
      refine (H.ok (g h) h (hg h) j i e).trans (Eq.trans ?_ (rows_at x y z b (r := 128 * j) (c := 1024 + 128 * h) (a := 128) (w := 128) (inb_rc (by omega) (by omega)) i e (by omega) (by omega)).symm)
      rw [show 256 * b + (128 * j.val + i.val) = 128 * (2 * b + j.val) + i.val from by omega, out_k]
    · obtain ⟨i, e, rfl⟩ : ∃ (i : Fin 128) (e : Fin 128), u = ix2 i e := ⟨u 0, u 1, by funext a; match a with | ⟨0, _⟩ => rfl | ⟨1, _⟩ => rfl⟩
      refine (H.oq h j i e).trans (Eq.trans ?_ (rows_at x y z b (r := 128 * j) (c := 128 * h) (a := 128) (w := 128) (inb_rc (by omega) (by omega)) i e (by omega) (by omega)).symm)
      rw [show 256 * b + (128 * j.val + i.val) = 128 * (2 * b + j.val) + i.val from by omega, out_q]
      rfl
  intro pc hpc
  obtain ⟨h, -, hpc⟩ := List.mem_flatMap.mp hpc
  rcases List.mem_append.mp hpc with hpc | hpc
  · exact key h 0 pc hpc
  · exact key h 1 pc hpc

section points
variable (m : (ℓ : Loc nD τ sig) → Buf (Elt Ideal) ℓ) (c : Dev nD) (t : Fin cfg0.N)

theorem first (h0 : t.val % 16 = 0) :
    (outsAt0 m c t.val t.isLt).1 = View.canon (stores (L m c t) (gFirst (L m c t) scM0_0))
    ∧ (outsAt0 m c t.val t.isLt).2 = View.canon (sofar (L m c t) scM0_0 8)
    ∧ ∀ p : S256x4096.Idx, ∃ pc ∈ stores (L m c t) (gFirst (L m c t) scM0_0), p ∈ pc.1.set := by
  rw [outsAt0_A m c t h0]
  refine ⟨?_, ?_, fun p => ?_⟩
  · dsimp only [out0_A_10]
    rw [View.read_writes_junk_eq_canon, stores_first]
  · dsimp only [sout0_A_0]
    rw [View.read_writes_junk_eq_canon, left_first]
  · have := cover0_A_10 c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) (ms0_8 t) (hs0_8 t) (ms0_9 t) (hs0_9 t)
      (ms0_10 t) (hs0_10 t) scM0_0 (Memref.isWhole_whole _) ((hcond0_0 t).mpr h0) (iblk m c 0 t) (iblk m c 1 t) (iblk m c 2 t)
      (iblk m c 3 t) (iblk m c 4 t) (iblk m c 5 t) (iblk m c 6 t) (iblk m c 7 t) (iblk m c 8 t) (iblk m c 9 t) p
    rwa [stores_first] at this

/-- The scratch that a later point finds. -/
abbrev found : Vec Ideal S1024x256 .f32 := (outsAt0 m c (t.val - 1) (Nat.lt_of_le_of_lt (Nat.sub_le _ _) t.isLt)).2

theorem later (h0 : ¬t.val % 16 = 0) :
    (outsAt0 m c t.val t.isLt).1 = View.canon (stores (L m c t) (gIn scM0_0 (Memref.isWhole_whole _) (found m c t)))
    ∧ (outsAt0 m c t.val t.isLt).2 = View.canon ([7, 6, 5, 4, 3, 2, 1, 0].map fun h =>
        stored (L m c t) (gIn scM0_0 (Memref.isWhole_whole _) (found m c t) h) h)
    ∧ (∀ p : S256x4096.Idx, ∃ pc ∈ stores (L m c t) (gIn scM0_0 (Memref.isWhole_whole _) (found m c t)), p ∈ pc.1.set)
    ∧ ∀ p : S1024x256.Idx, ∃ pc ∈ [7, 6, 5, 4, 3, 2, 1, 0].map fun h =>
        stored (L m c t) (gIn scM0_0 (Memref.isWhole_whole _) (found m c t) h) h, p ∈ pc.1.set := by
  rw [outsAt0_B m c t h0]
  refine ⟨?_, ?_, fun p => ?_, fun p => ?_⟩
  · dsimp only [out0_B_10]
    rw [View.read_writes_junk_eq_canon, stores_later]
  · dsimp only [sout0_B_0]
    rw [View.read_writes_junk_eq_canon, left_later]
  · have := cover0_B_10 c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) (ms0_8 t) (hs0_8 t) (ms0_9 t) (hs0_9 t)
      (ms0_10 t) (hs0_10 t) scM0_0 (Memref.isWhole_whole _) (fun h => h0 ((hcond0_0 t).mp h)) (iblk m c 0 t) (iblk m c 1 t) (iblk m c 2 t)
      (iblk m c 3 t) (iblk m c 4 t) (iblk m c 5 t) (iblk m c 6 t) (iblk m c 7 t) (iblk m c 8 t) (iblk m c 9 t) (found m c t) p
    rwa [stores_later] at this
  · have := scover0_B_0 c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) (ms0_8 t) (hs0_8 t) (ms0_9 t) (hs0_9 t)
      (ms0_10 t) (hs0_10 t) scM0_0 (Memref.isWhole_whole _) (fun h => h0 ((hcond0_0 t).mp h)) (iblk m c 0 t) (iblk m c 1 t) (iblk m c 2 t)
      (iblk m c 3 t) (iblk m c 4 t) (iblk m c 5 t) (iblk m c 6 t) (iblk m c 7 t) (iblk m c 8 t) (iblk m c 9 t) (found m c t) p
    rwa [left_later] at this

/-- What a later point reads of the scratch. -/
theorem gIn_apply (xs : Vec Ideal S1024x256 .f32) (h : Fin 8) (d : Fin 128) (e : Fin 256) :
    gIn scM0_0 (Memref.isWhole_whole _) xs h (ix2 d e) = xs (ix2 ⟨128 * h + d, by omega⟩ e) := by
  unfold gIn
  refine (readAt2 scM0_0 (Memref.isWhole_whole _) xs (r := 128 * h) (c := 0) (a := 128) (w := 256) (inb_rc (by omega) (by omega)) d e (by omega) (by omega)).trans ?_
  simp only [Nat.zero_add]

end points

section run
variable (m : (ℓ : Loc nD τ sig) → Buf (Elt Ideal) ℓ) (c : Dev nD)

/-- After point `t` the scratch holds the gradient of the state before the block's first chunk. -/
theorem scratch (n : ℕ) : ∀ hn : n < cfg0.N, ∀ (h : Fin 8) (d : Fin 128) (e : Fin 256),
    (outsAt0 m c n hn).2 (ix2 ⟨128 * h + d, by omega⟩ e) = (inputs (Host.x m c) (Host.y m c)).G (2 * (n + 1)) h d e := by
  induction n with
  | zero =>
    intro hn h d e
    have hF := fits m c ⟨0, hn⟩ cd_eq
    rw [(first m c ⟨0, hn⟩ rfl).2.1, canon_sofar hF _ 8 le_rfl, if_pos h.isLt]
  | succ n ih =>
    intro hn h d e
    have hN : cfg0.N = 16 := N_0
    have h0 : ¬(n + 1) % 16 = 0 := by omega
    have hF := fits m c ⟨n + 1, hn⟩ cd_eq
    have hL := later m c ⟨n + 1, hn⟩ h0
    rw [hL.2.1, canon_left hF _ ?_ _ (hL.2.2.2 _), slab_ix]
    · congr 1; simp only; omega
    · intro h d e
      rw [gIn_apply]
      refine (ih (by omega) h d e).trans ?_
      congr 1; simp only; omega

/-- What point `t` writes back: the result's rows of its block. -/
theorem written (t : Fin cfg0.N) (p : S256x4096.Idx) :
    (outsAt0 m c t.val t.isLt).1 p = rows (Host.x m c) (Host.y m c) (Host.z m c) (15 - t.val) p := by
  have hF := fits m c t cd_eq
  have hN : cfg0.N = 16 := N_0
  have ht := t.isLt
  by_cases h0 : t.val % 16 = 0
  · have hA := first m c t h0
    rw [hA.1]
    refine canon_stores (Host.z m c) hF _ ?_ p (hA.2.2 p)
    have hb : 15 - t.val = 15 := by omega
    rw [hb] at hF ⊢
    exact gFirst_apply hF scM0_0
  · have hL := later m c t h0
    rw [hL.1]
    refine canon_stores (Host.z m c) hF _ ?_ p (hL.2.2.1 p)
    intro h d e
    rw [gIn_apply]
    refine (scratch m c (t.val - 1) (by omega) h d e).trans ?_
    congr 1; omega

end run
end Cert.KernelIdeal.Tile
end
-- ==== Proof.KernelValue.lean ====
module
public import proofs.«01_k».proof.Proof.KernelOut
public import Idealize.ShloMosaic.Lib.StableHlo.ReadAt
@[expose] public section

/-!
# The array that the kernel returns
-/
noncomputable section
namespace Cert.KernelIdeal.Tile
open Cert.KernelIdeal Cert.KernelIdeal.Gen Idealize.ShloMosaic Idealize.ShloMosaic.TcCoe Idealize.SL.Sem
open Retention

variable (m : (ℓ : Loc nD τ sig) → Buf (Elt Ideal) ℓ) (c : Dev nD)

theorem xsize : ∀ t : Fin cfg0.N, ((cfg0.win 10).xblock (grid0.coords t)).size = ![256, 4096] := by
  decide +kernel

theorem idx10 (t : Fin cfg0.N) : win0_10.index t = ![15 - t.val, 0] := (idx t).2.2.2.2.2.2.2.2.2.2

/-- The result's first 4096 columns. -/
theorem arr_lo (r : Fin 4096) (s : Fin 10240) (hs : s.val < 4096) :
    (dats m 0 c).arrAt 10 cfg0.N (ix2 r s) = out (Host.x m c) (Host.y m c) (Host.z m c) r s := by
  have hN : cfg0.N = 16 := N_0
  let t : Fin cfg0.N := ⟨15 - r.val / 256, by omega⟩
  have hx := xsize t
  let y : ((cfg0.win 10).xblock (grid0.coords t)).Idx := fun a => match a with
    | ⟨0, _⟩ => ⟨r.val % 256, by
        have : ((cfg0.win 10).xblock (grid0.coords t)).size (0 : Fin 2) = 256 := congrFun hx 0
        exact lt_of_lt_of_eq (Nat.mod_lt _ (by decide)) this.symm⟩
    | ⟨1, _⟩ => ⟨s.val, by
        have : ((cfg0.win 10).xblock (grid0.coords t)).size (1 : Fin 2) = 4096 := congrFun hx 1
        exact lt_of_lt_of_eq hs this.symm⟩
  have hb := congrFun (Value.blocks10 m c t (flush0_10 t)) y
  rw [Value.flushed10] at hb
  have he : ((cfg0.win 10).blk t).view.emb y = ix2 r s := by
    funext a; apply Fin.ext
    match a with
    | ⟨0, _⟩ =>
      blk_simp [idx10 t]
      show (15 - (15 - r.val / 256)) * 256 + r.val % 256 = r.val
      omega
    | ⟨1, _⟩ =>
      blk_simp [idx10 t]
      rfl
  have hl : ((cfg0.win 10).blk t).view.read (Elt Ideal) ((dats m 0 c).arrAt 10 cfg0.N) y = (dats m 0 c).arrAt 10 cfg0.N (ix2 r s) :=
    congrArg ((dats m 0 c).arrAt 10 cfg0.N) he
  rw [← hl, hb]
  refine (written m c t _).trans ?_
  unfold rows
  congr 1
  show 256 * (15 - (15 - r.val / 256)) + r.val % 256 = r.val
  omega

/-- Its other columns, which are handed through. -/
theorem arr_hi (r : Fin 4096) (s : Fin 10240) (hs : 4096 ≤ s.val) :
    (dats m 0 c).arrAt 10 cfg0.N (ix2 r s) = out (Host.x m c) (Host.y m c) (Host.z m c) r s := by
  rw [out_z _ _ _ _ _ hs, Value.entry10]
  · have : V m c main_v304 = m (c, Proc.tc.devRef main_arg2) := by
      unfold V; after_reads_at; rfl
    exact (congrFun this _).trans (at2_ix (α := EReal) (m (c, Proc.tc.devRef main_arg2)) _ _)
  · intro t _ hm
    obtain ⟨y, -, hy⟩ := Finset.mem_map.mp hm
    have h1 := congrArg (fun i : S4096x10240.Idx => (i 1).val) hy
    have hlt : (y 1).val < 4096 := lt_of_lt_of_eq (y 1).isLt (congrFun (xsize t) 1)
    blk_simp [idx10 t] at h1
    omega

/-- The array that the kernel returns, at every index. -/
theorem arr (r : Fin 4096) (s : Fin 10240) :
    (dats m 0 c).arrAt 10 cfg0.N (ix2 r s) = out (Host.x m c) (Host.y m c) (Host.z m c) r s := by
  by_cases hs : s.val < 4096
  · exact arr_lo m c r s hs
  · exact arr_hi m c r s (by omega)

end Cert.KernelIdeal.Tile
end
-- ==== Proof.RefSlices.lean ====
module
public import proofs.«01_k».proof.Proof.RefRun
public import proofs.«01_k».proof.Proof.Inputs
public import Idealize.ShloMosaic.Lib.StableHlo.ReadAt
@[expose] public section

/-!
# One member of a stack of 32, taken or overwritten at a loop's index
-/
noncomputable section
namespace Cert.ReferenceIdeal.Run
open Idealize.ShloMosaic Idealize.ShloMosaic.TcCoe Idealize.ShloMosaic.StableHlo
open Cert.ReferenceIdeal Cert.ReferenceIdeal.Gen

section slices
variable {A B C : ℕ} {α : Type}

/-- A leading unit axis dropped. -/
theorem drop5 (v : Shape.Idx ⟨5, ![1, 1, A, B, C]⟩ → α) (hc : Shape.ShapeCasts ⟨5, ![1, 1, A, B, C]⟩ ⟨4, ![1, A, B, C]⟩)
    (a : Fin A) (b : Fin B) (c : Fin C) : shapeCast ⟨4, ![1, A, B, C]⟩ v hc (ix4 0 a b c) = v (ix5 0 0 a b c) := by
  refine (shapeCast_dropUnit_apply ![1, A, B, C] v hc (ix4 0 a b c)).trans (congrArg v ?_)
  funext i
  match i with
  | ⟨0, _⟩ => rfl
  | ⟨1, _⟩ => rfl
  | ⟨2, _⟩ => rfl
  | ⟨3, _⟩ => rfl
  | ⟨4, _⟩ => rfl

/-- One member of a stack of 32, taken at a start that is a number. -/
theorem slice5 (x : Shape.Idx ⟨5, ![32, 1, A, B, C]⟩ → α) (st : Fin 5 → Int) (k : Fin 32) (h0 : st 0 = k.val)
    (hs : ∀ i : Fin 4, st i.succ = 0) (hf : Shape.Slices ⟨5, ![32, 1, A, B, C]⟩ (fun _ => 0) ⟨5, ![1, 1, A, B, C]⟩)
    (a : Fin A) (b : Fin B) (c : Fin C) :
    Host.dynamicSlice ⟨5, ![1, 1, A, B, C]⟩ x st hf (ix5 0 0 a b c) = x (ix5 k 0 a b c) := by
  have e : ∀ a, Host.clampedStart ⟨5, ![32, 1, A, B, C]⟩ ⟨5, ![1, 1, A, B, C]⟩ hf.1 st a = (![k.val, 0, 0, 0, 0] : Fin 5 → ℕ) a := by
    intro i
    refine Host.clampedStart_of_le hf.1 st i _ ?_ ?_
    · match i with
      | ⟨0, _⟩ => exact h0
      | ⟨1, _⟩ => exact hs 0
      | ⟨2, _⟩ => exact hs 1
      | ⟨3, _⟩ => exact hs 2
      | ⟨4, _⟩ => exact hs 3
    · match i with
      | ⟨0, _⟩ => exact k.isLt
      | ⟨1, _⟩ => exact le_rfl
      | ⟨2, _⟩ => exact (Nat.zero_add _).le
      | ⟨3, _⟩ => exact (Nat.zero_add _).le
      | ⟨4, _⟩ => exact (Nat.zero_add _).le
  rw [Host.dynamicSlice_apply]
  refine congrArg x ?_
  simp only [e]
  funext i; apply Fin.ext
  match i with
  | ⟨0, _⟩ => rfl
  | ⟨1, _⟩ => rfl
  | ⟨2, _⟩ => exact Nat.zero_add _
  | ⟨3, _⟩ => exact Nat.zero_add _
  | ⟨4, _⟩ => exact Nat.zero_add _

/-- One member of a stack of 32, overwritten at a start that is a number. -/
theorem upd5 (x : Shape.Idx ⟨5, ![32, 1, A, B, C]⟩ → α) (u : Shape.Idx ⟨4, ![1, A, B, C]⟩ → α) (st : Fin 5 → Int) (k : Fin 32) (h0 : st 0 = k.val)
    (hs : ∀ i : Fin 4, st i.succ = 0) (hf : Shape.Slices ⟨5, ![32, 1, A, B, C]⟩ (fun _ => 0) ⟨5, ![1, 1, A, B, C]⟩)
    (hb : Shape.BroadcastsInDim ⟨4, ![1, A, B, C]⟩ ⟨5, ![1, 1, A, B, C]⟩ ![1, 2, 3, 4])
    (n : Fin 32) (a : Fin A) (b : Fin B) (c : Fin C) :
    Host.dynamicUpdateSlice x (broadcastInDim ⟨5, ![1, 1, A, B, C]⟩ ![1, 2, 3, 4] hb u) st hf (ix5 n 0 a b c)
      = if n = k then u (ix4 0 a b c) else x (ix5 n 0 a b c) := by
  have e : ∀ a, Host.clampedStart ⟨5, ![32, 1, A, B, C]⟩ ⟨5, ![1, 1, A, B, C]⟩ hf.1 st a = (![k.val, 0, 0, 0, 0] : Fin 5 → ℕ) a := by
    intro i
    refine Host.clampedStart_of_le hf.1 st i _ ?_ ?_
    · match i with
      | ⟨0, _⟩ => exact h0
      | ⟨1, _⟩ => exact hs 0
      | ⟨2, _⟩ => exact hs 1
      | ⟨3, _⟩ => exact hs 2
      | ⟨4, _⟩ => exact hs 3
    · match i with
      | ⟨0, _⟩ => exact k.isLt
      | ⟨1, _⟩ => exact le_rfl
      | ⟨2, _⟩ => exact (Nat.zero_add _).le
      | ⟨3, _⟩ => exact (Nat.zero_add _).le
      | ⟨4, _⟩ => exact (Nat.zero_add _).le
  rw [Host.dynamicUpdateSlice_apply]
  simp only [e]
  by_cases hn : n = k
  · subst hn
    rw [if_pos rfl, dif_pos]
    · refine congrArg u ?_
      funext i; apply Fin.ext
      match i with
      | ⟨0, _⟩ => rfl
      | ⟨1, _⟩ =>
        refine (apply_dite Fin.val _ _ _).trans ?_
        split
        · rename_i h1
          have h1' : A = 1 := h1
          show 0 = a.val
          omega
        · rfl
      | ⟨2, _⟩ =>
        refine (apply_dite Fin.val _ _ _).trans ?_
        split
        · rename_i h1
          have h1' : B = 1 := h1
          show 0 = b.val
          omega
        · rfl
      | ⟨3, _⟩ =>
        refine (apply_dite Fin.val _ _ _).trans ?_
        split
        · rename_i h1
          have h1' : C = 1 := h1
          show 0 = c.val
          omega
        · rfl
    · intro i
      match i with
      | ⟨0, _⟩ => exact ⟨le_rfl, Nat.lt_succ_self _⟩
      | ⟨1, _⟩ => exact ⟨le_rfl, Nat.lt_succ_self _⟩
      | ⟨2, _⟩ => exact ⟨Nat.zero_le _, (Nat.zero_add A).symm ▸ a.isLt⟩
      | ⟨3, _⟩ => exact ⟨Nat.zero_le _, (Nat.zero_add B).symm ▸ b.isLt⟩
      | ⟨4, _⟩ => exact ⟨Nat.zero_le _, (Nat.zero_add C).symm ▸ c.isLt⟩
  · rw [if_neg hn, dif_neg]
    intro h
    have h1 : k.val ≤ n.val := (h 0).1
    have h2 : n.val < k.val + 1 := (h 0).2
    exact hn (Fin.ext (by omega))
end slices

/-- A buffer's element as a number. -/
abbrev num (x : EReal) : EReal := x

/-- The word that a buffer of one integer holds, read signed. -/
abbrev word (x : S_.Idx → BitVec 32) : Int := (x (Shape.Idx.first h_S_)).toInt

/-- A stretch leaves alone what it does not write. -/
theorem kept {ops : List (HloOp τ sig (Elt Ideal))} {W : List (Ref sig .tc)} (r : Ref sig .tc)
    (hw : ops.Forall fun op => op.writes ⊆ (W.map (Proc.devRef (τ := τ) .tc)).toFinset) (V : Valuation τ sig (Elt Ideal))
    (hr : r ∉ W := by decide) : after ops V (Proc.devRef .tc r) = V (Proc.devRef .tc r) :=
  after_of_writes_sub ops V hw hr

end Cert.ReferenceIdeal.Run
end
-- ==== Proof.RefReads.lean ====
module
public import proofs.«01_k».proof.Proof.RefSlices
@[expose] public section

/-!
# What the reference has before its first loop

The rotated queries and keys, the values, the mask, the decays and the angles' cosines and sines, as arrays of the inputs.
-/
noncomputable section
namespace Cert.ReferenceIdeal.Run
open Idealize.ShloMosaic Idealize.ShloMosaic.TcCoe Idealize.ShloMosaic.StableHlo
open Cert.ReferenceIdeal Cert.ReferenceIdeal.Gen
open Retention

variable (m : (ℓ : Loc nD τ sig) → Buf (Elt Ideal) ℓ) (c : Dev nD)

/-- The input projection. -/
def x : ℕ → ℕ → EReal := at2 (α := EReal) (a := 4096) (b := 4096) (m (c, Proc.tc.devRef main_arg0))
/-- The gradient of the retention's output. -/
def y : ℕ → ℕ → EReal := at2 (α := EReal) (a := 4096) (b := 2048) (m (c, Proc.tc.devRef main_arg1))
/-- The gradient's array before the call. -/
def z : ℕ → ℕ → EReal := at2 (α := EReal) (a := 4096) (b := 10240) (m (c, Proc.tc.devRef main_arg2))

theorem x_ix (r s : Fin 4096) : launchContents m c (Proc.tc.devRef main_arg0) (ix2 r s) = x m c r s :=
  at2_ix (α := EReal) (m (c, Proc.tc.devRef main_arg0)) r s

theorem E0_eq : E0 m c = after (preI (F := Ideal)).flatten (launchContents m c) := afterL_eq_after_flatten _ _

/-- The retention's inputs. -/
abbrev ins : Data := inputs (x m c) (y m c)

theorem cosq (r : Fin 4096) (d : Fin 64) : E0 m c (Proc.devRef .tc main_v23) (ix4 0 r 0 d) = Ideal.cos (angle r d) := by
  rw [E0_eq]
  after_reads_at
  rfl
theorem cosq' (r : Fin 4096) (d : Fin 64) : E0 m c (Proc.devRef .tc main_v30) (ix4 0 r 0 d) = Ideal.cos (angle r d) := by
  rw [E0_eq]
  after_reads_at
  rfl
theorem cosk (r : Fin 4096) (d : Fin 64) : E0 m c (Proc.devRef .tc main_v43) (ix4 0 r 0 d) = Ideal.cos (angle r d) := by
  rw [E0_eq]
  after_reads_at
  rfl
theorem cosk' (r : Fin 4096) (d : Fin 64) : E0 m c (Proc.devRef .tc main_v50) (ix4 0 r 0 d) = Ideal.cos (angle r d) := by
  rw [E0_eq]
  after_reads_at
  rfl
theorem sinq (r : Fin 4096) (d : Fin 64) : E0 m c (Proc.devRef .tc main_v26) (ix4 0 r 0 d) = Ideal.sin (angle r d) := by
  rw [E0_eq]
  after_reads_at
  rfl
theorem sinq' (r : Fin 4096) (d : Fin 64) : E0 m c (Proc.devRef .tc main_v33) (ix4 0 r 0 d) = Ideal.sin (angle r d) := by
  rw [E0_eq]
  after_reads_at
  rfl
theorem sink (r : Fin 4096) (d : Fin 64) : E0 m c (Proc.devRef .tc main_v46) (ix4 0 r 0 d) = Ideal.sin (angle r d) := by
  rw [E0_eq]
  after_reads_at
  rfl
theorem sink' (r : Fin 4096) (d : Fin 64) : E0 m c (Proc.devRef .tc main_v53) (ix4 0 r 0 d) = Ideal.sin (angle r d) := by
  rw [E0_eq]
  after_reads_at
  rfl

theorem query (n : Fin 32) (i : Fin 128) (h : Fin 8) (d : Fin 128) :
    E0 m c (Proc.devRef .tc main_v85) (ix5 0 n i h d) = (ins m c).q n i h d := by
  change _ = (rot (fun k => x m c (128 * n + i) (128 * h + k)) (128 * n + i) d) * scl
  rw [E0_eq]
  after_reads_at
  unfold rot
  by_cases hd : d.val < 64
  · rw [if_pos hd]
    simp only [hd, ↓reduceDIte]
    after_reads_at
    simp only [x_ix m c, mul_comm h.val 128, mul_comm n.val 128]
    rfl
  · rw [if_neg hd]
    simp only [hd, ↓reduceDIte]
    after_reads_at
    have e : 64 + (d.val - 64) = d := by omega
    simp only [x_ix m c, mul_comm h.val 128, mul_comm n.val 128, e]
    rfl

theorem key (n : Fin 32) (i : Fin 128) (h : Fin 8) (d : Fin 128) :
    E0 m c (Proc.devRef .tc main_v86) (ix5 0 n i h d) = (ins m c).k n i h d := by
  change _ = rot (fun k => x m c (128 * n + i) (1024 + (128 * h + k))) (128 * n + i) d
  rw [E0_eq]
  after_reads_at
  unfold rot
  by_cases hd : d.val < 64
  · rw [if_pos hd]
    simp only [hd, ↓reduceDIte]
    after_reads_at
    simp only [x_ix m c, mul_comm h.val 128, mul_comm n.val 128]
    rfl
  · rw [if_neg hd]
    simp only [hd, ↓reduceDIte]
    after_reads_at
    have e : 64 + (d.val - 64) = d := by omega
    simp only [x_ix m c, mul_comm h.val 128, mul_comm n.val 128, e]
    rfl

theorem value (n : Fin 32) (i : Fin 128) (h : Fin 8) (e : Fin 256) : E0 m c (Proc.devRef .tc main_v87) (ix5 0 n i h e) = (ins m c).v n i h e := by
  change _ = x m c (128 * n + i) (2048 + (256 * h + e))
  rw [E0_eq]
  after_reads_at
  simp only [x_ix m c, mul_comm h.val 256, mul_comm n.val 128]

theorem maskAt (h : Fin 8) (i j : Fin 128) : E0 m c (Proc.devRef .tc main_v84) (ix3 h i j) = mask h i j := by
  rw [E0_eq]
  after_reads_at
  simp only [mask, int, logg, id_eq]
  congr 1
  exact Ideal.ofBits_zero_f32

theorem fromStartAt (h : Fin 8) (i : Fin 128) : E0 m c (Proc.devRef .tc main_v101) (ix2 i h) = fromStart h i := by
  rw [E0_eq]
  after_reads_at
  rfl

theorem toEndAt (h : Fin 8) (i : Fin 128) : E0 m c (Proc.devRef .tc main_v109) (ix2 i h) = toEnd h i := by
  rw [E0_eq]
  after_reads_at
  rfl

theorem decayAt (h : Fin 8) : E0 m c (Proc.devRef .tc main_v112) (ix1 h) = decay h := by
  rw [E0_eq]
  after_reads_at
  rfl

theorem e_123_1 : E0 m c (Proc.devRef .tc main_v123_1) = E0 m c (Proc.devRef .tc main_v115) := by
  rw [show E0 m c = after main_part2_ops0 (afterL [main_part0_ops0, main_part1_ops0, main_part1_ops1, main_part1_ops2] (launchContents m c)) from rfl]
  generalize afterL [main_part0_ops0, main_part1_ops0, main_part1_ops1, main_part1_ops2] (launchContents m c) = V
  after_results
  rfl
theorem e_123_2 : E0 m c (Proc.devRef .tc main_v123_2) = E0 m c (Proc.devRef .tc main_v116) := by
  rw [show E0 m c = after main_part2_ops0 (afterL [main_part0_ops0, main_part1_ops0, main_part1_ops1, main_part1_ops2] (launchContents m c)) from rfl]
  generalize afterL [main_part0_ops0, main_part1_ops0, main_part1_ops1, main_part1_ops2] (launchContents m c) = V
  after_results
  rfl
theorem e_123_3 : E0 m c (Proc.devRef .tc main_v123_3) = E0 m c (Proc.devRef .tc main_v118) := by
  rw [show E0 m c = after main_part2_ops0 (afterL [main_part0_ops0, main_part1_ops0, main_part1_ops1, main_part1_ops2] (launchContents m c)) from rfl]
  generalize afterL [main_part0_ops0, main_part1_ops0, main_part1_ops1, main_part1_ops2] (launchContents m c) = V
  after_results
  rfl
theorem e_123_4 : E0 m c (Proc.devRef .tc main_v123_4) = E0 m c (Proc.devRef .tc main_v119) := by
  rw [show E0 m c = after main_part2_ops0 (afterL [main_part0_ops0, main_part1_ops0, main_part1_ops1, main_part1_ops2] (launchContents m c)) from rfl]
  generalize afterL [main_part0_ops0, main_part1_ops0, main_part1_ops1, main_part1_ops2] (launchContents m c) = V
  after_results
  rfl
theorem e_114 (n : Fin 32) (i : Fin 128) (h : Fin 8) (d : Fin 128) : E0 m c (Proc.devRef .tc main_v114) (ix5 n 0 i h d) = E0 m c (Proc.devRef .tc main_v85) (ix5 0 n i h d) := by
  rw [show E0 m c = after main_part2_ops0 (afterL [main_part0_ops0, main_part1_ops0, main_part1_ops1, main_part1_ops2] (launchContents m c)) from rfl]
  generalize afterL [main_part0_ops0, main_part1_ops0, main_part1_ops1, main_part1_ops2] (launchContents m c) = V
  after_reads_at
theorem e_115 (n : Fin 32) (i : Fin 128) (h : Fin 8) (d : Fin 128) : E0 m c (Proc.devRef .tc main_v115) (ix5 n 0 i h d) = E0 m c (Proc.devRef .tc main_v86) (ix5 0 n i h d) := by
  rw [show E0 m c = after main_part2_ops0 (afterL [main_part0_ops0, main_part1_ops0, main_part1_ops1, main_part1_ops2] (launchContents m c)) from rfl]
  generalize afterL [main_part0_ops0, main_part1_ops0, main_part1_ops1, main_part1_ops2] (launchContents m c) = V
  after_reads_at
theorem e_116 (n : Fin 32) (i : Fin 128) (h : Fin 8) (d : Fin 256) : E0 m c (Proc.devRef .tc main_v116) (ix5 n 0 i h d) = E0 m c (Proc.devRef .tc main_v87) (ix5 0 n i h d) := by
  rw [show E0 m c = after main_part2_ops0 (afterL [main_part0_ops0, main_part1_ops0, main_part1_ops1, main_part1_ops2] (launchContents m c)) from rfl]
  generalize afterL [main_part0_ops0, main_part1_ops0, main_part1_ops1, main_part1_ops2] (launchContents m c) = V
  after_reads_at
theorem e_117 (i : Fin 128) (h : Fin 8) : E0 m c (Proc.devRef .tc main_v117) (ix4 0 i h 0) = E0 m c (Proc.devRef .tc main_v101) (ix2 i h) := by
  rw [show E0 m c = after main_part2_ops0 (afterL [main_part0_ops0, main_part1_ops0, main_part1_ops1, main_part1_ops2] (launchContents m c)) from rfl]
  generalize afterL [main_part0_ops0, main_part1_ops0, main_part1_ops1, main_part1_ops2] (launchContents m c) = V
  after_reads_at
theorem e_118 (h : Fin 8) : E0 m c (Proc.devRef .tc main_v118) (ix4 0 h 0 0) = E0 m c (Proc.devRef .tc main_v112) (ix1 h) := by
  rw [show E0 m c = after main_part2_ops0 (afterL [main_part0_ops0, main_part1_ops0, main_part1_ops1, main_part1_ops2] (launchContents m c)) from rfl]
  generalize afterL [main_part0_ops0, main_part1_ops0, main_part1_ops1, main_part1_ops2] (launchContents m c) = V
  after_reads_at
theorem e_119 (i : Fin 128) (h : Fin 8) : E0 m c (Proc.devRef .tc main_v119) (ix4 0 i h 0) = E0 m c (Proc.devRef .tc main_v109) (ix2 i h) := by
  rw [show E0 m c = after main_part2_ops0 (afterL [main_part0_ops0, main_part1_ops0, main_part1_ops1, main_part1_ops2] (launchContents m c)) from rfl]
  generalize afterL [main_part0_ops0, main_part1_ops0, main_part1_ops1, main_part1_ops2] (launchContents m c) = V
  after_reads_at
theorem e_state (h : Fin 8) (d : Fin 128) (e : Fin 256) : E0 m c (Proc.devRef .tc main_v123_7) (ix4 0 h d e) = (0 : EReal) := by
  rw [show E0 m c = after main_part2_ops0 (afterL [main_part0_ops0, main_part1_ops0, main_part1_ops1, main_part1_ops2] (launchContents m c)) from rfl]
  generalize afterL [main_part0_ops0, main_part1_ops0, main_part1_ops1, main_part1_ops2] (launchContents m c) = V
  after_results
  exact Ideal.ofBits_zero_f32

theorem scores (n : Fin 32) (i : Fin 128) (h : Fin 8) (j : Fin 128) :
    E0 m c (Proc.devRef .tc main_v91) (ix5 0 n h i j)
      = (∑ d : Fin 128, num (E0 m c (Proc.devRef .tc main_v85) (ix5 0 n i h d)) * num (E0 m c (Proc.devRef .tc main_v86) (ix5 0 n j h d)))
        * num (E0 m c (Proc.devRef .tc main_v84) (ix3 h i j)) := by
  rw [show E0 m c = after main_part2_ops0 (after main_part1_ops2 (afterL [main_part0_ops0, main_part1_ops0, main_part1_ops1] (launchContents m c))) from rfl]
  generalize afterL [main_part0_ops0, main_part1_ops0, main_part1_ops1] (launchContents m c) = V
  after_reads_at

theorem maskRow (n : Fin 32) (h : Fin 8) (i j : Fin 128) :
    E0 m c (Proc.devRef .tc main_v89) (ix5 0 0 h i j) = E0 m c (Proc.devRef .tc main_v84) (ix3 h i j) := by
  rw [show E0 m c = after main_part2_ops0 (after main_part1_ops2 (afterL [main_part0_ops0, main_part1_ops0, main_part1_ops1] (launchContents m c))) from rfl]
  generalize afterL [main_part0_ops0, main_part1_ops0, main_part1_ops1] (launchContents m c) = V
  after_reads_at
end Cert.ReferenceIdeal.Run
end
-- ==== Proof.RefLoop0.lean ====
module
public import proofs.«01_k».proof.Proof.RefSlices
@[expose] public section

/-!
# One trip of the reference's first loop

It carries the state forwards over the chunks and keeps, of every chunk, the state before it and its decayed keys.
-/
noncomputable section
namespace Cert.ReferenceIdeal.Run
open Idealize.ShloMosaic Idealize.ShloMosaic.TcCoe Idealize.ShloMosaic.StableHlo
open Cert.ReferenceIdeal Cert.ReferenceIdeal.Gen

variable (V : Valuation τ sig (Elt Ideal)) (k : Fin 32)

/-- Chunk `k` of the keys. -/
theorem read_key (hc : word (V (Proc.devRef .tc main_v123_6)) = k.val) (j : Fin 128) (h : Fin 8) (d : Fin 128) :
    after while0Ops0_1 V (Proc.devRef .tc main_while0b_v199) (ix4 0 j h d) = V (Proc.devRef .tc main_v123_1) (ix5 k 0 j h d) := by
  have h6 : after (while0Ops0_1.take 4) V (Proc.devRef .tc main_v123_6) = V (Proc.devRef .tc main_v123_6) := by
    simp only [while0Ops0_1, List.take]; after_results
  after_results
  exact (drop5 _ shapeCasts_S1x1x128x8x128_S1x128x8x128 j h d).trans (slice5 (V (Proc.devRef .tc main_v123_1)) _ k
    ((congrArg word h6).trans hc) (fun i => by fin_cases i <;> rfl) sliceFits_S32x1x128x8x128_S1x1x128x8x128 j h d)

/-- Chunk `k` of the values. -/
theorem read_value (hc : word (V (Proc.devRef .tc main_v123_6)) = k.val) (j : Fin 128) (h : Fin 8) (e : Fin 256) :
    after while0Ops0_2 V (Proc.devRef .tc main_while0b_v200) (ix4 0 j h e) = V (Proc.devRef .tc main_v123_2) (ix5 k 0 j h e) := by
  have h6 : after (while0Ops0_2.take 4) V (Proc.devRef .tc main_v123_6) = V (Proc.devRef .tc main_v123_6) := by
    simp only [while0Ops0_2, List.take]; after_results
  after_results
  exact (drop5 _ shapeCasts_S1x1x128x8x256_S1x128x8x256 j h e).trans (slice5 (V (Proc.devRef .tc main_v123_2)) _ k
    ((congrArg word h6).trans hc) (fun i => by fin_cases i <;> rfl) sliceFits_S32x1x128x8x256_S1x1x128x8x256 j h e)

/-- The stack of the states, with chunk `k`'s put in. -/
theorem put_state (hc : word (V (Proc.devRef .tc main_v123_6)) = k.val) (n : Fin 32) (h : Fin 8) (d : Fin 128) (e : Fin 256) :
    after while0Ops0_5 V (Proc.devRef .tc main_while0b_v212) (ix5 n 0 h d e)
      = if n = k then V (Proc.devRef .tc main_v123_7) (ix4 0 h d e) else V (Proc.devRef .tc main_v123_9) (ix5 n 0 h d e) := by
  have h6 : after (while0Ops0_5.take 5) V (Proc.devRef .tc main_v123_6) = V (Proc.devRef .tc main_v123_6) := by
    simp only [while0Ops0_5, List.take]; after_results
  after_results
  exact upd5 (V (Proc.devRef .tc main_v123_9)) (V (Proc.devRef .tc main_v123_7)) _ k ((congrArg word h6).trans hc)
    (fun i => by fin_cases i <;> rfl) updateFits_S32x1x8x128x256_S1x1x8x128x256 bcast_S1x8x128x256_S1x1x8x128x256_1_2_3_4 n h d e

/-- The stack of the decayed keys, with chunk `k`'s put in. -/
theorem put_keys (hc : word (V (Proc.devRef .tc main_v123_6)) = k.val) (n : Fin 32) (j : Fin 128) (h : Fin 8) (d : Fin 128) :
    after while0Ops0_6 V (Proc.devRef .tc main_while0b_v213) (ix5 n 0 j h d)
      = if n = k then V (Proc.devRef .tc main_while0b_v208) (ix4 0 j h d) else V (Proc.devRef .tc main_v123_10) (ix5 n 0 j h d) := by
  have h6 : after (while0Ops0_6.take 5) V (Proc.devRef .tc main_v123_6) = V (Proc.devRef .tc main_v123_6) := by
    simp only [while0Ops0_6, List.take]; after_results
  after_results
  exact upd5 (V (Proc.devRef .tc main_v123_10)) (V (Proc.devRef .tc main_while0b_v208)) _ k ((congrArg word h6).trans hc)
    (fun i => by fin_cases i <;> rfl) updateFits_S32x1x128x8x128_S1x1x128x8x128 bcast_S1x128x8x128_S1x1x128x8x128_1_2_3_4 n j h d

/-- The decayed keys of the trip's chunk. -/
theorem mid_keys (j : Fin 128) (h : Fin 8) (d : Fin 128) :
    after while0Ops0_3 V (Proc.devRef .tc main_while0b_v208) (ix4 0 j h d)
      = (num (V (Proc.devRef .tc main_while0b_v199) (ix4 0 j h d)) * num (V (Proc.devRef .tc main_v123_4) (ix4 0 j h 0))) := by
  after_reads_at

/-- The state after the trip. -/
theorem mid_state (h : Fin 8) (d : Fin 128) (e : Fin 256) :
    after while0Ops0_3 V (Proc.devRef .tc main_while0b_v210) (ix4 0 h d e)
      = (num (V (Proc.devRef .tc main_v123_3) (ix4 0 h 0 0)) * num (V (Proc.devRef .tc main_v123_7) (ix4 0 h d e))
        + ∑ j : Fin 128, (num (V (Proc.devRef .tc main_while0b_v199) (ix4 0 j h d)) * num (V (Proc.devRef .tc main_v123_4) (ix4 0 j h 0)))
          * num (V (Proc.devRef .tc main_while0b_v200) (ix4 0 j h e))) := by
  after_reads_at

/-- The first loop's contents within a trip, after its first slices, and after each further stretch. -/
def part0_0 (V : Valuation τ sig (Elt Ideal)) : Valuation τ sig (Elt Ideal) := after while0Ops0_1 (after while0Ops0 (after cond0 V))
def part0_1 (V : Valuation τ sig (Elt Ideal)) : Valuation τ sig (Elt Ideal) := after while0Ops0_2 (part0_0 V)
def part0_2 (V : Valuation τ sig (Elt Ideal)) : Valuation τ sig (Elt Ideal) := after while0Ops0_3 (part0_1 V)
def part0_3 (V : Valuation τ sig (Elt Ideal)) : Valuation τ sig (Elt Ideal) := after while0Ops0_4 (part0_2 V)
def part0_4 (V : Valuation τ sig (Elt Ideal)) : Valuation τ sig (Elt Ideal) := after while0Ops0_5 (part0_3 V)
def part0_5 (V : Valuation τ sig (Elt Ideal)) : Valuation τ sig (Elt Ideal) := after while0Ops0_6 (part0_4 V)
def part0_6 (V : Valuation τ sig (Elt Ideal)) : Valuation τ sig (Elt Ideal) := after while0Ops0_7 (part0_5 V)

theorem part0_eq : afterL body0I (after cond0 V) = part0_6 V := rfl

/-- What a trip of the first loop leaves alone. -/
theorem keep0 (r : Ref sig .tc) (h1 : r ∉ cond0_W) (h2 : r ∉ body0I_W) :
    afterL body0I (after cond0 V) (Proc.devRef .tc r) = V (Proc.devRef .tc r) :=
  (body0I_writes.keep h2 _).trans (after_of_writes_sub cond0 V cond0_writes h1)

theorem part0_key (hc : word (V (Proc.devRef .tc main_v123_6)) = k.val) (j : Fin 128) (h : Fin 8) (d : Fin 128) :
    part0_1 V (Proc.devRef .tc main_while0b_v199) (ix4 0 j h d) = V (Proc.devRef .tc main_v123_1) (ix5 k 0 j h d) := by
  rw [part0_1, kept main_while0b_v199 while0Ops0_2_writes, part0_0, read_key _ k, kept main_v123_1 while0Ops0_writes, kept main_v123_1 cond0_writes]
  rw [kept main_v123_6 while0Ops0_writes, kept main_v123_6 cond0_writes]; exact hc

theorem part0_value (hc : word (V (Proc.devRef .tc main_v123_6)) = k.val) (j : Fin 128) (h : Fin 8) (e : Fin 256) :
    part0_1 V (Proc.devRef .tc main_while0b_v200) (ix4 0 j h e) = V (Proc.devRef .tc main_v123_2) (ix5 k 0 j h e) := by
  rw [part0_1, read_value _ k, part0_0, kept main_v123_2 while0Ops0_1_writes, kept main_v123_2 while0Ops0_writes, kept main_v123_2 cond0_writes]
  rw [part0_0, kept main_v123_6 while0Ops0_1_writes, kept main_v123_6 while0Ops0_writes, kept main_v123_6 cond0_writes]; exact hc

theorem part0_keep (r : Ref sig .tc) (hr : r ∉ while0Ops0_2_W ∧ r ∉ while0Ops0_1_W ∧ r ∉ while0Ops0_W ∧ r ∉ cond0_W) :
    part0_1 V (Proc.devRef .tc r) = V (Proc.devRef .tc r) := by
  rw [part0_1, kept r while0Ops0_2_writes _ hr.1, part0_0, kept r while0Ops0_1_writes _ hr.2.1, kept r while0Ops0_writes _ hr.2.2.1,
    kept r cond0_writes _ hr.2.2.2]

/-- The state after a trip. -/
theorem step0_state (hc : word (V (Proc.devRef .tc main_v123_6)) = k.val) (h : Fin 8) (d : Fin 128) (e : Fin 256) :
    afterL body0I (after cond0 V) (Proc.devRef .tc main_v123_7) (ix4 0 h d e)
      = num (V (Proc.devRef .tc main_v123_3) (ix4 0 h 0 0)) * num (V (Proc.devRef .tc main_v123_7) (ix4 0 h d e))
        + ∑ j : Fin 128, (num (V (Proc.devRef .tc main_v123_1) (ix5 k 0 j h d)) * num (V (Proc.devRef .tc main_v123_4) (ix4 0 j h 0)))
          * num (V (Proc.devRef .tc main_v123_2) (ix5 k 0 j h e)) := by
  have h7 : ∀ X : Valuation τ sig (Elt Ideal), after while0Ops0_7 X (Proc.devRef .tc main_v123_7) = X (Proc.devRef .tc main_while0b_v210) := by
    intro X; after_results; rfl
  rw [part0_eq, part0_6, h7, part0_5, kept main_while0b_v210 while0Ops0_6_writes, part0_4, kept main_while0b_v210 while0Ops0_5_writes, part0_3,
    kept main_while0b_v210 while0Ops0_4_writes, part0_2, mid_state]
  simp only [part0_key V k hc, part0_value V k hc]
  rw [part0_keep V main_v123_3 (by decide), part0_keep V main_v123_7 (by decide), part0_keep V main_v123_4 (by decide)]

/-- The stack of the states after a trip. -/
theorem step0_states (hc : word (V (Proc.devRef .tc main_v123_6)) = k.val) (n : Fin 32) (h : Fin 8) (d : Fin 128) (e : Fin 256) :
    afterL body0I (after cond0 V) (Proc.devRef .tc main_v123_9) (ix5 n 0 h d e)
      = if n = k then V (Proc.devRef .tc main_v123_7) (ix4 0 h d e) else V (Proc.devRef .tc main_v123_9) (ix5 n 0 h d e) := by
  have h7 : ∀ X : Valuation τ sig (Elt Ideal), after while0Ops0_7 X (Proc.devRef .tc main_v123_9) = X (Proc.devRef .tc main_while0b_v212) := by
    intro X; after_results; rfl
  have hk : ∀ r : Ref sig .tc, r ∉ while0Ops0_3_W → r ∉ while0Ops0_4_W → r ∉ while0Ops0_2_W ∧ r ∉ while0Ops0_1_W ∧ r ∉ while0Ops0_W ∧ r ∉ cond0_W →
      part0_3 V (Proc.devRef .tc r) = V (Proc.devRef .tc r) := by
    intro r h3 h4 h2
    rw [part0_3, kept r while0Ops0_4_writes _ h4, part0_2, kept r while0Ops0_3_writes _ h3, part0_keep V r h2]
  rw [part0_eq, part0_6, h7, part0_5, kept main_while0b_v212 while0Ops0_6_writes, part0_4, put_state _ k]
  · rw [hk main_v123_7 (by decide) (by decide) (by decide), hk main_v123_9 (by decide) (by decide) (by decide)]
  · rw [hk main_v123_6 (by decide) (by decide) (by decide)]; exact hc

/-- The stack of the decayed keys after a trip. -/
theorem step0_keys (hc : word (V (Proc.devRef .tc main_v123_6)) = k.val) (n : Fin 32) (j : Fin 128) (h : Fin 8) (d : Fin 128) :
    afterL body0I (after cond0 V) (Proc.devRef .tc main_v123_10) (ix5 n 0 j h d)
      = if n = k then num (V (Proc.devRef .tc main_v123_1) (ix5 k 0 j h d)) * num (V (Proc.devRef .tc main_v123_4) (ix4 0 j h 0))
        else V (Proc.devRef .tc main_v123_10) (ix5 n 0 j h d) := by
  have h7 : ∀ X : Valuation τ sig (Elt Ideal), after while0Ops0_7 X (Proc.devRef .tc main_v123_10) = X (Proc.devRef .tc main_while0b_v213) := by
    intro X; after_results; rfl
  have hk : ∀ r : Ref sig .tc, r ∉ while0Ops0_4_W → r ∉ while0Ops0_5_W → part0_4 V (Proc.devRef .tc r) = part0_2 V (Proc.devRef .tc r) := by
    intro r h4 h5
    rw [part0_4, kept r while0Ops0_5_writes _ h5, part0_3, kept r while0Ops0_4_writes _ h4]
  have hk2 : ∀ r : Ref sig .tc, r ∉ while0Ops0_3_W → part0_2 V (Proc.devRef .tc r) = part0_1 V (Proc.devRef .tc r) := by
    intro r h3
    rw [part0_2, kept r while0Ops0_3_writes _ h3]
  rw [part0_eq, part0_6, h7, part0_5, put_keys _ k]
  · rw [hk main_while0b_v208 (by decide) (by decide), part0_2, mid_keys, part0_key V k hc, part0_keep V main_v123_4 (by decide),
      hk main_v123_10 (by decide) (by decide), hk2 main_v123_10 (by decide), part0_keep V main_v123_10 (by decide)]
  · rw [hk main_v123_6 (by decide) (by decide), hk2 main_v123_6 (by decide), part0_keep V main_v123_6 (by decide)]; exact hc

end Cert.ReferenceIdeal.Run
end
-- ==== Proof.RefLoop1.lean ====
module
public import proofs.«01_k».proof.Proof.RefSlices
@[expose] public section

/-!
# One trip of the reference's second loop

It carries the state's gradient backwards over the chunks and keeps every chunk's gradients of the queries, keys and values.
-/
noncomputable section
namespace Cert.ReferenceIdeal.Run
open Idealize.ShloMosaic Idealize.ShloMosaic.TcCoe Idealize.ShloMosaic.StableHlo
open Cert.ReferenceIdeal Cert.ReferenceIdeal.Gen

variable (V : Valuation τ sig (Elt Ideal)) (k : Fin 32)

/-- The chunk of the output's gradient. -/
theorem read_dr (hc : word (V (Proc.devRef .tc main_while1b_v199)) = k.val) (j : Fin 128) (h : Fin 8) (e : Fin 256) :
    after while1Ops0_1 V (Proc.devRef .tc main_while1b_v200) (ix4 0 j h e) = V (Proc.devRef .tc main_v136_0) (ix5 k 0 j h e) := by
  have h6 : after (while1Ops0_1.take 4) V (Proc.devRef .tc main_while1b_v199) = V (Proc.devRef .tc main_while1b_v199) := by
    simp only [while1Ops0_1, List.take]; after_results
  after_results
  exact (drop5 _ shapeCasts_S1x1x128x8x256_S1x128x8x256 j h e).trans (slice5 (V (Proc.devRef .tc main_v136_0)) _ k
    ((congrArg word h6).trans hc) (fun i => by fin_cases i <;> rfl) sliceFits_S32x1x128x8x256_S1x1x128x8x256 j h e)

/-- The chunk of the queries. -/
theorem read_q (hc : word (V (Proc.devRef .tc main_while1b_v199)) = k.val) (j : Fin 128) (h : Fin 8) (d : Fin 128) :
    after while1Ops0_2 V (Proc.devRef .tc main_while1b_v201) (ix4 0 j h d) = V (Proc.devRef .tc main_v136_1) (ix5 k 0 j h d) := by
  have h6 : after (while1Ops0_2.take 4) V (Proc.devRef .tc main_while1b_v199) = V (Proc.devRef .tc main_while1b_v199) := by
    simp only [while1Ops0_2, List.take]; after_results
  after_results
  exact (drop5 _ shapeCasts_S1x1x128x8x128_S1x128x8x128 j h d).trans (slice5 (V (Proc.devRef .tc main_v136_1)) _ k
    ((congrArg word h6).trans hc) (fun i => by fin_cases i <;> rfl) sliceFits_S32x1x128x8x128_S1x1x128x8x128 j h d)

/-- The state before the chunk. -/
theorem read_s (hc : word (V (Proc.devRef .tc main_while1b_v199)) = k.val) (h : Fin 8) (d : Fin 128) (e : Fin 256) :
    after while1Ops0_3 V (Proc.devRef .tc main_while1b_v202) (ix4 0 h d e) = V (Proc.devRef .tc main_v136_2) (ix5 k 0 h d e) := by
  have h6 : after (while1Ops0_3.take 4) V (Proc.devRef .tc main_while1b_v199) = V (Proc.devRef .tc main_while1b_v199) := by
    simp only [while1Ops0_3, List.take]; after_results
  after_results
  exact (drop5 _ shapeCasts_S1x1x8x128x256_S1x8x128x256 h d e).trans (slice5 (V (Proc.devRef .tc main_v136_2)) _ k
    ((congrArg word h6).trans hc) (fun i => by fin_cases i <;> rfl) sliceFits_S32x1x8x128x256_S1x1x8x128x256 h d e)

/-- The chunk of the values. -/
theorem read_v (hc : word (V (Proc.devRef .tc main_while1b_v199)) = k.val) (j : Fin 128) (h : Fin 8) (e : Fin 256) :
    after while1Ops0_4 V (Proc.devRef .tc main_while1b_v203) (ix4 0 j h e) = V (Proc.devRef .tc main_v136_3) (ix5 k 0 j h e) := by
  have h6 : after (while1Ops0_4.take 4) V (Proc.devRef .tc main_while1b_v199) = V (Proc.devRef .tc main_while1b_v199) := by
    simp only [while1Ops0_4, List.take]; after_results
  after_results
  exact (drop5 _ shapeCasts_S1x1x128x8x256_S1x128x8x256 j h e).trans (slice5 (V (Proc.devRef .tc main_v136_3)) _ k
    ((congrArg word h6).trans hc) (fun i => by fin_cases i <;> rfl) sliceFits_S32x1x128x8x256_S1x1x128x8x256 j h e)

/-- The chunk of the decayed keys. -/
theorem read_kz (hc : word (V (Proc.devRef .tc main_while1b_v199)) = k.val) (j : Fin 128) (h : Fin 8) (d : Fin 128) :
    after while1Ops0_5 V (Proc.devRef .tc main_while1b_v204) (ix4 0 j h d) = V (Proc.devRef .tc main_v136_4) (ix5 k 0 j h d) := by
  have h6 : after (while1Ops0_5.take 4) V (Proc.devRef .tc main_while1b_v199) = V (Proc.devRef .tc main_while1b_v199) := by
    simp only [while1Ops0_5, List.take]; after_results
  after_results
  exact (drop5 _ shapeCasts_S1x1x128x8x128_S1x128x8x128 j h d).trans (slice5 (V (Proc.devRef .tc main_v136_4)) _ k
    ((congrArg word h6).trans hc) (fun i => by fin_cases i <;> rfl) sliceFits_S32x1x128x8x128_S1x1x128x8x128 j h d)

/-- The stack of the queries' gradients, with the chunk's put in. -/
theorem put_dq (hc : word (V (Proc.devRef .tc main_while1b_v199)) = k.val) (n : Fin 32) (j : Fin 128) (h : Fin 8) (d : Fin 128) :
    after while1Ops0_7 V (Proc.devRef .tc main_while1b_v221) (ix5 n 0 j h d)
      = if n = k then V (Proc.devRef .tc main_while1b_v217) (ix4 0 j h d) else V (Proc.devRef .tc main_v136_10) (ix5 n 0 j h d) := by
  have h6 : after (while1Ops0_7.take 5) V (Proc.devRef .tc main_while1b_v199) = V (Proc.devRef .tc main_while1b_v199) := by
    simp only [while1Ops0_7, List.take]; after_results
  after_results
  exact upd5 (V (Proc.devRef .tc main_v136_10)) (V (Proc.devRef .tc main_while1b_v217)) _ k ((congrArg word h6).trans hc)
    (fun i => by fin_cases i <;> rfl) updateFits_S32x1x128x8x128_S1x1x128x8x128 bcast_S1x128x8x128_S1x1x128x8x128_1_2_3_4 n j h d

/-- The stack of the keys' gradients, with the chunk's put in. -/
theorem put_dk (hc : word (V (Proc.devRef .tc main_while1b_v199)) = k.val) (n : Fin 32) (j : Fin 128) (h : Fin 8) (d : Fin 128) :
    after while1Ops0_8 V (Proc.devRef .tc main_while1b_v222) (ix5 n 0 j h d)
      = if n = k then V (Proc.devRef .tc main_while1b_v210) (ix4 0 j h d) else V (Proc.devRef .tc main_v136_11) (ix5 n 0 j h d) := by
  have h6 : after (while1Ops0_8.take 5) V (Proc.devRef .tc main_while1b_v199) = V (Proc.devRef .tc main_while1b_v199) := by
    simp only [while1Ops0_8, List.take]; after_results
  after_results
  exact upd5 (V (Proc.devRef .tc main_v136_11)) (V (Proc.devRef .tc main_while1b_v210)) _ k ((congrArg word h6).trans hc)
    (fun i => by fin_cases i <;> rfl) updateFits_S32x1x128x8x128_S1x1x128x8x128 bcast_S1x128x8x128_S1x1x128x8x128_1_2_3_4 n j h d

/-- The stack of the values' gradients, with the chunk's put in. -/
theorem put_dv (hc : word (V (Proc.devRef .tc main_while1b_v199)) = k.val) (n : Fin 32) (j : Fin 128) (h : Fin 8) (e : Fin 256) :
    after while1Ops0_9 V (Proc.devRef .tc main_while1b_v223) (ix5 n 0 j h e)
      = if n = k then V (Proc.devRef .tc main_while1b_v206) (ix4 0 j h e) else V (Proc.devRef .tc main_v136_12) (ix5 n 0 j h e) := by
  have h6 : after (while1Ops0_9.take 5) V (Proc.devRef .tc main_while1b_v199) = V (Proc.devRef .tc main_while1b_v199) := by
    simp only [while1Ops0_9, List.take]; after_results
  after_results
  exact upd5 (V (Proc.devRef .tc main_v136_12)) (V (Proc.devRef .tc main_while1b_v206)) _ k ((congrArg word h6).trans hc)
    (fun i => by fin_cases i <;> rfl) updateFits_S32x1x128x8x256_S1x1x128x8x256 bcast_S1x128x8x256_S1x1x128x8x256_1_2_3_4 n j h e

/-- The word of a loop's counter, counted down. -/
theorem down (c : S_.Idx → BitVec 32) (t : Fin 32) (hc : c = fun _ => Scf.iv 0#32 1#32 t.val) (hV : V (Proc.devRef .tc main_v136_8) = c) :
    word (after while1Ops0 V (Proc.devRef .tc main_while1b_v199)) = ((31 - t.val : ℕ) : Int) := by
  have h : after while1Ops0 V (Proc.devRef .tc main_while1b_v199)
      = subi (subi (constantI S_ 32 32#32) (V (Proc.devRef .tc main_v136_8))) (constantI S_ 32 1#32) := by
    after_results
  rw [h, hV, hc]
  exact (by decide : ∀ t : Fin 32, ((32#32 - Scf.iv 0#32 1#32 t.val) - 1#32 : BitVec 32).toInt = ((31 - t.val : ℕ) : Int)) t

/-- The values' gradient of the trip's chunk, through the state. -/
theorem mid_dv (j : Fin 128) (h : Fin 8) (e : Fin 256) :
    after while1Ops0_6 V (Proc.devRef .tc main_while1b_v206) (ix4 0 j h e)
      = ∑ d : Fin 128, num (V (Proc.devRef .tc main_v136_9) (ix4 0 h d e)) * num (V (Proc.devRef .tc main_while1b_v204) (ix4 0 j h d)) := by
  after_reads_at

/-- The keys' gradient of the trip's chunk, through the state. -/
theorem mid_dk (j : Fin 128) (h : Fin 8) (d : Fin 128) :
    after while1Ops0_6 V (Proc.devRef .tc main_while1b_v210) (ix4 0 j h d)
      = (∑ e : Fin 256, num (V (Proc.devRef .tc main_v136_9) (ix4 0 h d e)) * num (V (Proc.devRef .tc main_while1b_v203) (ix4 0 j h e)))
        * num (V (Proc.devRef .tc main_v136_7) (ix4 0 j h 0)) := by
  after_reads_at

/-- The queries' gradient of the trip's chunk, through the state. -/
theorem mid_dq (j : Fin 128) (h : Fin 8) (d : Fin 128) :
    after while1Ops0_6 V (Proc.devRef .tc main_while1b_v217) (ix4 0 j h d)
      = ∑ e : Fin 256, (num (V (Proc.devRef .tc main_while1b_v200) (ix4 0 j h e)) * num (V (Proc.devRef .tc main_v136_5) (ix4 0 j h 0)))
        * num (V (Proc.devRef .tc main_while1b_v202) (ix4 0 h d e)) := by
  after_reads_at

/-- The state's gradient after the trip. -/
theorem mid_dstate (h : Fin 8) (d : Fin 128) (e : Fin 256) :
    after while1Ops0_6 V (Proc.devRef .tc main_while1b_v220) (ix4 0 h d e)
      = num (V (Proc.devRef .tc main_v136_6) (ix4 0 h 0 0)) * num (V (Proc.devRef .tc main_v136_9) (ix4 0 h d e))
        + ∑ j : Fin 128, (num (V (Proc.devRef .tc main_while1b_v200) (ix4 0 j h e)) * num (V (Proc.devRef .tc main_v136_5) (ix4 0 j h 0)))
          * num (V (Proc.devRef .tc main_while1b_v201) (ix4 0 j h d)) := by
  after_reads_at

/-- The second loop's contents within a trip, after its counter, after the slices, and after each further stretch. -/
def part1_0 (V : Valuation τ sig (Elt Ideal)) : Valuation τ sig (Elt Ideal) := after while1Ops0 (after cond1 V)
def part1_1 (V : Valuation τ sig (Elt Ideal)) : Valuation τ sig (Elt Ideal) := after while1Ops0_1 (part1_0 V)
def part1_2 (V : Valuation τ sig (Elt Ideal)) : Valuation τ sig (Elt Ideal) := after while1Ops0_2 (part1_1 V)
def part1_3 (V : Valuation τ sig (Elt Ideal)) : Valuation τ sig (Elt Ideal) := after while1Ops0_3 (part1_2 V)
def part1_4 (V : Valuation τ sig (Elt Ideal)) : Valuation τ sig (Elt Ideal) := after while1Ops0_4 (part1_3 V)
def part1_5 (V : Valuation τ sig (Elt Ideal)) : Valuation τ sig (Elt Ideal) := after while1Ops0_5 (part1_4 V)
def part1_6 (V : Valuation τ sig (Elt Ideal)) : Valuation τ sig (Elt Ideal) := after while1Ops0_6 (part1_5 V)
def part1_7 (V : Valuation τ sig (Elt Ideal)) : Valuation τ sig (Elt Ideal) := after while1Ops0_7 (part1_6 V)
def part1_8 (V : Valuation τ sig (Elt Ideal)) : Valuation τ sig (Elt Ideal) := after while1Ops0_8 (part1_7 V)
def part1_9 (V : Valuation τ sig (Elt Ideal)) : Valuation τ sig (Elt Ideal) := after while1Ops0_9 (part1_8 V)
def part1_10 (V : Valuation τ sig (Elt Ideal)) : Valuation τ sig (Elt Ideal) := after while1Ops0_10 (part1_9 V)

theorem part1_eq : afterL body1I (after cond1 V) = part1_10 V := rfl

/-- What a trip of the second loop leaves alone. -/
theorem keep1 (r : Ref sig .tc) (h1 : r ∉ cond1_W) (h2 : r ∉ body1I_W) :
    afterL body1I (after cond1 V) (Proc.devRef .tc r) = V (Proc.devRef .tc r) :=
  (body1I_writes.keep h2 _).trans (after_of_writes_sub cond1 V cond1_writes h1)

/-- A trip's index counts down. -/
theorem part1_index (t : Fin 32) (hc : V (Proc.devRef .tc main_v136_8) = fun _ => Scf.iv 0#32 1#32 t.val) :
    word (part1_0 V (Proc.devRef .tc main_while1b_v199)) = ((31 - t.val : ℕ) : Int) :=
  down _ _ t hc (kept main_v136_8 cond1_writes V)

/-- What the slices leave alone. -/
theorem part1_keep (r : Ref sig .tc) (hr : r ∉ while1Ops0_5_W ∧ r ∉ while1Ops0_4_W ∧ r ∉ while1Ops0_3_W ∧ r ∉ while1Ops0_2_W ∧ r ∉ while1Ops0_1_W) :
    part1_5 V (Proc.devRef .tc r) = part1_0 V (Proc.devRef .tc r) := by
  rw [part1_5, kept r while1Ops0_5_writes _ hr.1, part1_4, kept r while1Ops0_4_writes _ hr.2.1, part1_3, kept r while1Ops0_3_writes _ hr.2.2.1,
    part1_2, kept r while1Ops0_2_writes _ hr.2.2.2.1, part1_1, kept r while1Ops0_1_writes _ hr.2.2.2.2]

/-- What the counter leaves alone. -/
theorem part1_entry (r : Ref sig .tc) (hr : r ∉ while1Ops0_W ∧ r ∉ cond1_W) : part1_0 V (Proc.devRef .tc r) = V (Proc.devRef .tc r) := by
  rw [part1_0, kept r while1Ops0_writes _ hr.1, kept r cond1_writes _ hr.2]

theorem part1_dr (hw : word (part1_0 V (Proc.devRef .tc main_while1b_v199)) = k.val) (j : Fin 128) (h : Fin 8) (e : Fin 256) :
    part1_5 V (Proc.devRef .tc main_while1b_v200) (ix4 0 j h e) = V (Proc.devRef .tc main_v136_0) (ix5 k 0 j h e) := by
  rw [part1_5, kept main_while1b_v200 while1Ops0_5_writes, part1_4, kept main_while1b_v200 while1Ops0_4_writes, part1_3, kept main_while1b_v200 while1Ops0_3_writes, part1_2, kept main_while1b_v200 while1Ops0_2_writes, part1_1, read_dr _ k, part1_entry V main_v136_0 (by decide)]
  exact hw

theorem part1_q (hw : word (part1_0 V (Proc.devRef .tc main_while1b_v199)) = k.val) (j : Fin 128) (h : Fin 8) (d : Fin 128) :
    part1_5 V (Proc.devRef .tc main_while1b_v201) (ix4 0 j h d) = V (Proc.devRef .tc main_v136_1) (ix5 k 0 j h d) := by
  rw [part1_5, kept main_while1b_v201 while1Ops0_5_writes, part1_4, kept main_while1b_v201 while1Ops0_4_writes, part1_3, kept main_while1b_v201 while1Ops0_3_writes, part1_2, read_q _ k, part1_1, kept main_v136_1 while1Ops0_1_writes, part1_entry V main_v136_1 (by decide)]
  rw [part1_1, kept main_while1b_v199 while1Ops0_1_writes]; exact hw

theorem part1_s (hw : word (part1_0 V (Proc.devRef .tc main_while1b_v199)) = k.val) (h : Fin 8) (d : Fin 128) (e : Fin 256) :
    part1_5 V (Proc.devRef .tc main_while1b_v202) (ix4 0 h d e) = V (Proc.devRef .tc main_v136_2) (ix5 k 0 h d e) := by
  rw [part1_5, kept main_while1b_v202 while1Ops0_5_writes, part1_4, kept main_while1b_v202 while1Ops0_4_writes, part1_3, read_s _ k, part1_2, kept main_v136_2 while1Ops0_2_writes, part1_1, kept main_v136_2 while1Ops0_1_writes, part1_entry V main_v136_2 (by decide)]
  rw [part1_2, kept main_while1b_v199 while1Ops0_2_writes, part1_1, kept main_while1b_v199 while1Ops0_1_writes]; exact hw

theorem part1_v (hw : word (part1_0 V (Proc.devRef .tc main_while1b_v199)) = k.val) (j : Fin 128) (h : Fin 8) (e : Fin 256) :
    part1_5 V (Proc.devRef .tc main_while1b_v203) (ix4 0 j h e) = V (Proc.devRef .tc main_v136_3) (ix5 k 0 j h e) := by
  rw [part1_5, kept main_while1b_v203 while1Ops0_5_writes, part1_4, read_v _ k, part1_3, kept main_v136_3 while1Ops0_3_writes, part1_2, kept main_v136_3 while1Ops0_2_writes, part1_1, kept main_v136_3 while1Ops0_1_writes, part1_entry V main_v136_3 (by decide)]
  rw [part1_3, kept main_while1b_v199 while1Ops0_3_writes, part1_2, kept main_while1b_v199 while1Ops0_2_writes, part1_1, kept main_while1b_v199 while1Ops0_1_writes]; exact hw

theorem part1_kz (hw : word (part1_0 V (Proc.devRef .tc main_while1b_v199)) = k.val) (j : Fin 128) (h : Fin 8) (d : Fin 128) :
    part1_5 V (Proc.devRef .tc main_while1b_v204) (ix4 0 j h d) = V (Proc.devRef .tc main_v136_4) (ix5 k 0 j h d) := by
  rw [part1_5, read_kz _ k, part1_4, kept main_v136_4 while1Ops0_4_writes, part1_3, kept main_v136_4 while1Ops0_3_writes, part1_2, kept main_v136_4 while1Ops0_2_writes, part1_1, kept main_v136_4 while1Ops0_1_writes, part1_entry V main_v136_4 (by decide)]
  rw [part1_4, kept main_while1b_v199 while1Ops0_4_writes, part1_3, kept main_while1b_v199 while1Ops0_3_writes, part1_2, kept main_while1b_v199 while1Ops0_2_writes, part1_1, kept main_while1b_v199 while1Ops0_1_writes]; exact hw

/-- The state's gradient after a trip. -/
theorem step1_state (hw : word (part1_0 V (Proc.devRef .tc main_while1b_v199)) = k.val) (h : Fin 8) (d : Fin 128) (e : Fin 256) :
    afterL body1I (after cond1 V) (Proc.devRef .tc main_v136_9) (ix4 0 h d e)
      = num (V (Proc.devRef .tc main_v136_6) (ix4 0 h 0 0)) * num (V (Proc.devRef .tc main_v136_9) (ix4 0 h d e))
        + ∑ j : Fin 128, (num (V (Proc.devRef .tc main_v136_0) (ix5 k 0 j h e)) * num (V (Proc.devRef .tc main_v136_5) (ix4 0 j h 0)))
          * num (V (Proc.devRef .tc main_v136_1) (ix5 k 0 j h d)) := by
  have hl : ∀ X : Valuation τ sig (Elt Ideal), after while1Ops0_10 X (Proc.devRef .tc main_v136_9) = X (Proc.devRef .tc main_while1b_v220) := by
    intro X; after_results; rfl
  rw [part1_eq, part1_10, hl, part1_9, kept main_while1b_v220 while1Ops0_9_writes, part1_8, kept main_while1b_v220 while1Ops0_8_writes, part1_7,
    kept main_while1b_v220 while1Ops0_7_writes, part1_6, mid_dstate]
  simp only [part1_dr V k hw, part1_q V k hw]
  rw [part1_keep V main_v136_6 (by decide), part1_entry V main_v136_6 (by decide), part1_keep V main_v136_9 (by decide), part1_entry V main_v136_9 (by decide), part1_keep V main_v136_5 (by decide), part1_entry V main_v136_5 (by decide)]

/-- The stack of the queries' gradients after a trip. -/
theorem step1_dq (hw : word (part1_0 V (Proc.devRef .tc main_while1b_v199)) = k.val) (n : Fin 32) (j : Fin 128) (h : Fin 8) (d : Fin 128) :
    afterL body1I (after cond1 V) (Proc.devRef .tc main_v136_10) (ix5 n 0 j h d)
      = if n = k then (∑ e : Fin 256, (num (V (Proc.devRef .tc main_v136_0) (ix5 k 0 j h e)) * num (V (Proc.devRef .tc main_v136_5) (ix4 0 j h 0))) * num (V (Proc.devRef .tc main_v136_2) (ix5 k 0 h d e)))
        else V (Proc.devRef .tc main_v136_10) (ix5 n 0 j h d) := by
  have hl : ∀ X : Valuation τ sig (Elt Ideal), after while1Ops0_10 X (Proc.devRef .tc main_v136_10) = X (Proc.devRef .tc main_while1b_v221) := by
    intro X; after_results; rfl
  have h6 : ∀ r : Ref sig .tc, r ∉ while1Ops0_6_W → part1_6 V (Proc.devRef .tc r) = part1_5 V (Proc.devRef .tc r) := by
    intro r h; rw [part1_6, kept r while1Ops0_6_writes _ h]
  rw [part1_eq, part1_10, hl, part1_9, kept main_while1b_v221 while1Ops0_9_writes, part1_8, kept main_while1b_v221 while1Ops0_8_writes, part1_7, put_dq _ k]
  · rw [h6 main_v136_10 (by decide), part1_keep V main_v136_10 (by decide), part1_entry V main_v136_10 (by decide), part1_6, mid_dq]
    simp only [part1_dr V k hw, part1_s V k hw]
    rw [part1_keep V main_v136_5 (by decide), part1_entry V main_v136_5 (by decide)]
  · rw [h6 main_while1b_v199 (by decide), part1_keep V main_while1b_v199 (by decide)]; exact hw

/-- The stack of the keys' gradients after a trip. -/
theorem step1_dk (hw : word (part1_0 V (Proc.devRef .tc main_while1b_v199)) = k.val) (n : Fin 32) (j : Fin 128) (h : Fin 8) (d : Fin 128) :
    afterL body1I (after cond1 V) (Proc.devRef .tc main_v136_11) (ix5 n 0 j h d)
      = if n = k then (∑ e : Fin 256, num (V (Proc.devRef .tc main_v136_9) (ix4 0 h d e)) * num (V (Proc.devRef .tc main_v136_3) (ix5 k 0 j h e))) * num (V (Proc.devRef .tc main_v136_7) (ix4 0 j h 0))
        else V (Proc.devRef .tc main_v136_11) (ix5 n 0 j h d) := by
  have hl : ∀ X : Valuation τ sig (Elt Ideal), after while1Ops0_10 X (Proc.devRef .tc main_v136_11) = X (Proc.devRef .tc main_while1b_v222) := by
    intro X; after_results; rfl
  have hk : ∀ r : Ref sig .tc, r ∉ while1Ops0_7_W → part1_7 V (Proc.devRef .tc r) = part1_6 V (Proc.devRef .tc r) := by
    intro r h7
    rw [part1_7, kept r while1Ops0_7_writes _ h7]
  have h6 : ∀ r : Ref sig .tc, r ∉ while1Ops0_6_W → part1_6 V (Proc.devRef .tc r) = part1_5 V (Proc.devRef .tc r) := by
    intro r h; rw [part1_6, kept r while1Ops0_6_writes _ h]
  rw [part1_eq, part1_10, hl, part1_9, kept main_while1b_v222 while1Ops0_9_writes, part1_8, put_dk _ k]
  · rw [hk main_v136_11 (by decide), h6 main_v136_11 (by decide), part1_keep V main_v136_11 (by decide), part1_entry V main_v136_11 (by decide), hk main_while1b_v210 (by decide), part1_6, mid_dk]
    simp only [part1_v V k hw]
    rw [part1_keep V main_v136_9 (by decide), part1_entry V main_v136_9 (by decide), part1_keep V main_v136_7 (by decide), part1_entry V main_v136_7 (by decide)]
  · rw [hk main_while1b_v199 (by decide), h6 main_while1b_v199 (by decide), part1_keep V main_while1b_v199 (by decide)]; exact hw

/-- The stack of the values' gradients after a trip. -/
theorem step1_dv (hw : word (part1_0 V (Proc.devRef .tc main_while1b_v199)) = k.val) (n : Fin 32) (j : Fin 128) (h : Fin 8) (e : Fin 256) :
    afterL body1I (after cond1 V) (Proc.devRef .tc main_v136_12) (ix5 n 0 j h e)
      = if n = k then (∑ d : Fin 128, num (V (Proc.devRef .tc main_v136_9) (ix4 0 h d e)) * num (V (Proc.devRef .tc main_v136_4) (ix5 k 0 j h d)))
        else V (Proc.devRef .tc main_v136_12) (ix5 n 0 j h e) := by
  have hl : ∀ X : Valuation τ sig (Elt Ideal), after while1Ops0_10 X (Proc.devRef .tc main_v136_12) = X (Proc.devRef .tc main_while1b_v223) := by
    intro X; after_results; rfl
  have hk : ∀ r : Ref sig .tc, r ∉ while1Ops0_7_W → r ∉ while1Ops0_8_W → part1_8 V (Proc.devRef .tc r) = part1_6 V (Proc.devRef .tc r) := by
    intro r h7 h8
    rw [part1_8, kept r while1Ops0_8_writes _ h8, part1_7, kept r while1Ops0_7_writes _ h7]
  have h6 : ∀ r : Ref sig .tc, r ∉ while1Ops0_6_W → part1_6 V (Proc.devRef .tc r) = part1_5 V (Proc.devRef .tc r) := by
    intro r h; rw [part1_6, kept r while1Ops0_6_writes _ h]
  rw [part1_eq, part1_10, hl, part1_9, put_dv _ k]
  · rw [hk main_v136_12 (by decide) (by decide), h6 main_v136_12 (by decide), part1_keep V main_v136_12 (by decide), part1_entry V main_v136_12 (by decide), hk main_while1b_v206 (by decide) (by decide), part1_6, mid_dv]
    simp only [part1_kz V k hw]
    rw [part1_keep V main_v136_9 (by decide), part1_entry V main_v136_9 (by decide)]
  · rw [hk main_while1b_v199 (by decide) (by decide), h6 main_while1b_v199 (by decide), part1_keep V main_while1b_v199 (by decide)]; exact hw

end Cert.ReferenceIdeal.Run
end
-- ==== Proof.RefStates.lean ====
module
public import proofs.«01_k».proof.Proof.RefReads
public import proofs.«01_k».proof.Proof.RefLoop0
public import proofs.«01_k».proof.Proof.RefLoop1
@[expose] public section

/-!
# What the reference's loops have computed

After `k` trips the first loop has the state before chunk `k`, and the second one its gradient after the last `k` chunks.
-/
noncomputable section
namespace Cert.ReferenceIdeal.Run
open Idealize.ShloMosaic Idealize.ShloMosaic.TcCoe Idealize.ShloMosaic.StableHlo
open Cert.ReferenceIdeal Cert.ReferenceIdeal.Gen
open Retention

variable (m : (ℓ : Loc nD τ sig) → Buf (Elt Ideal) ℓ) (c : Dev nD)

/-- What the first loop leaves alone is as it was before it. -/
theorem W0_keep (k : ℕ) (r : Ref sig .tc) (h1 : r ∉ cond0_W) (h2 : r ∉ body0I_W) :
    W0 m k c (Proc.devRef .tc r) = E0 m c (Proc.devRef .tc r) :=
  Writes.keep_trips cond0_writes body0I_writes h1 h2 _ c k

/-- What the second loop leaves alone is as it was before it. -/
theorem W1_keep (k : ℕ) (r : Ref sig .tc) (h1 : r ∉ cond1_W) (h2 : r ∉ body1I_W) :
    W1 m k c (Proc.devRef .tc r) = E1 m c (Proc.devRef .tc r) :=
  Writes.keep_trips cond1_writes body1I_writes h1 h2 _ c k

theorem up0 (k : Fin 32) : word (W0 m k c (Proc.devRef .tc main_v123_6)) = k.val := by
  rw [ctr0]
  exact (by decide : ∀ k : Fin 32, (Scf.iv 0#32 1#32 k.val).toInt = (k.val : Int)) k

/-- The state before chunk `k`. -/
theorem loop0_state : ∀ k : ℕ, k ≤ 32 → ∀ (h : Fin 8) (d : Fin 128) (e : Fin 256),
    W0 m k c (Proc.devRef .tc main_v123_7) (ix4 0 h d e) = (ins m c).S k h d e
  | 0, _, h, d, e => e_state m c h d e
  | k + 1, hk, h, d, e => by
    rw [show W0 m (k + 1) c = afterL body0I (after cond0 (W0 m k c)) from rfl, step0_state (W0 m k c) ⟨k, hk⟩ (up0 m c ⟨k, hk⟩)]
    rw [W0_keep m c k main_v123_3 (by decide) (by decide), W0_keep m c k main_v123_1 (by decide) (by decide),
      W0_keep m c k main_v123_2 (by decide) (by decide), W0_keep m c k main_v123_4 (by decide) (by decide),
      e_123_1, e_123_2, e_123_3, e_123_4, loop0_state k (by omega)]
    refine congrArg₂ (· + ·) ?_ (Finset.sum_congr rfl fun j _ => ?_)
    · rw [e_118, decayAt]; rfl
    · rw [e_115, e_116, e_119, key, value, toEndAt]; rfl

/-- The states kept so far. -/
theorem loop0_states : ∀ k : ℕ, k ≤ 32 → ∀ (n : Fin 32), n < k → ∀ (h : Fin 8) (d : Fin 128) (e : Fin 256),
    W0 m k c (Proc.devRef .tc main_v123_9) (ix5 n 0 h d e) = (ins m c).S n h d e
  | 0, _, n, hn, _, _, _ => absurd hn (Nat.not_lt_zero _)
  | k + 1, hk, n, hn, h, d, e => by
    rw [show W0 m (k + 1) c = afterL body0I (after cond0 (W0 m k c)) from rfl, step0_states (W0 m k c) ⟨k, hk⟩ (up0 m c ⟨k, hk⟩)]
    by_cases e' : n = ⟨k, hk⟩
    · rw [if_pos e', loop0_state m c k (by omega), e']
    · rw [if_neg e']
      exact loop0_states k (by omega) n (lt_of_le_of_ne (Nat.lt_succ_iff.mp hn) fun h => e' (Fin.ext h)) h d e

/-- The decayed keys kept so far. -/
theorem loop0_keys : ∀ k : ℕ, k ≤ 32 → ∀ (n : Fin 32), n < k → ∀ (j : Fin 128) (h : Fin 8) (d : Fin 128),
    W0 m k c (Proc.devRef .tc main_v123_10) (ix5 n 0 j h d) = (ins m c).k n j h d * (ins m c).zt h j
  | 0, _, n, hn, _, _, _ => absurd hn (Nat.not_lt_zero _)
  | k + 1, hk, n, hn, j, h, d => by
    rw [show W0 m (k + 1) c = afterL body0I (after cond0 (W0 m k c)) from rfl, step0_keys (W0 m k c) ⟨k, hk⟩ (up0 m c ⟨k, hk⟩)]
    by_cases e' : n = ⟨k, hk⟩
    · rw [if_pos e', W0_keep m c k main_v123_1 (by decide) (by decide), W0_keep m c k main_v123_4 (by decide) (by decide),
        e_123_1, e_123_4, e_115, e_119, key, toEndAt, e']
      rfl
    · rw [if_neg e']
      exact loop0_keys k (by omega) n (lt_of_le_of_ne (Nat.lt_succ_iff.mp hn) fun h => e' (Fin.ext h)) j h d

/-! ## Between the loops -/

/-- What nothing writes from the first loop to the second one. -/
theorem E1_keep (r : Ref sig .tc) (h : r ∉ cond0_W ∧ r ∉ body0I_W ∧ r ∉ midI_W) : E1 m c (Proc.devRef .tc r) = E0 m c (Proc.devRef .tc r) :=
  (midI_writes.keep h.2.2 _).trans <| (after_of_writes_sub cond0 _ cond0_writes h.1).trans (W0_keep m c 32 r h.1 h.2.1)

theorem X0_eq (r : Ref sig .tc) (h : r ∉ cond0_W) : X0 m c (Proc.devRef .tc r) = W0 m 32 c (Proc.devRef .tc r) :=
  after_of_writes_sub cond0 _ cond0_writes h

theorem e_136_1 : E1 m c (Proc.devRef .tc main_v136_1) = E0 m c (Proc.devRef .tc main_v114) := by
  rw [← (X0_eq m c main_v114 (by decide)).trans (W0_keep m c 32 main_v114 (by decide) (by decide))]
  rw [show E1 m c = after main_part3_ops0 (after main_part2_ops1 (X0 m c)) from rfl]
  generalize X0 m c = V
  after_results
  rfl
theorem e_136_2 : E1 m c (Proc.devRef .tc main_v136_2) = W0 m 32 c (Proc.devRef .tc main_v123_9) := by
  rw [← X0_eq m c main_v123_9 (by decide)]
  rw [show E1 m c = after main_part3_ops0 (after main_part2_ops1 (X0 m c)) from rfl]
  generalize X0 m c = V
  after_results
  rfl
theorem e_136_3 : E1 m c (Proc.devRef .tc main_v136_3) = E0 m c (Proc.devRef .tc main_v116) := by
  rw [← (X0_eq m c main_v116 (by decide)).trans (W0_keep m c 32 main_v116 (by decide) (by decide))]
  rw [show E1 m c = after main_part3_ops0 (after main_part2_ops1 (X0 m c)) from rfl]
  generalize X0 m c = V
  after_results
  rfl
theorem e_136_4 : E1 m c (Proc.devRef .tc main_v136_4) = W0 m 32 c (Proc.devRef .tc main_v123_10) := by
  rw [← X0_eq m c main_v123_10 (by decide)]
  rw [show E1 m c = after main_part3_ops0 (after main_part2_ops1 (X0 m c)) from rfl]
  generalize X0 m c = V
  after_results
  rfl
theorem e_136_5 : E1 m c (Proc.devRef .tc main_v136_5) = E0 m c (Proc.devRef .tc main_v117) := by
  rw [← (X0_eq m c main_v117 (by decide)).trans (W0_keep m c 32 main_v117 (by decide) (by decide))]
  rw [show E1 m c = after main_part3_ops0 (after main_part2_ops1 (X0 m c)) from rfl]
  generalize X0 m c = V
  after_results
  rfl
theorem e_136_6 : E1 m c (Proc.devRef .tc main_v136_6) = E0 m c (Proc.devRef .tc main_v118) := by
  rw [← (X0_eq m c main_v118 (by decide)).trans (W0_keep m c 32 main_v118 (by decide) (by decide))]
  rw [show E1 m c = after main_part3_ops0 (after main_part2_ops1 (X0 m c)) from rfl]
  generalize X0 m c = V
  after_results
  rfl
theorem e_136_7 : E1 m c (Proc.devRef .tc main_v136_7) = E0 m c (Proc.devRef .tc main_v119) := by
  rw [← (X0_eq m c main_v119 (by decide)).trans (W0_keep m c 32 main_v119 (by decide) (by decide))]
  rw [show E1 m c = after main_part3_ops0 (after main_part2_ops1 (X0 m c)) from rfl]
  generalize X0 m c = V
  after_results
  rfl

theorem e_136_0 (n : Fin 32) (i : Fin 128) (h : Fin 8) (e : Fin 256) :
    E1 m c (Proc.devRef .tc main_v136_0) (ix5 n 0 i h e) = E1 m c (Proc.devRef .tc main_v130) (ix5 0 n i h e) := by
  rw [show E1 m c = after main_part3_ops0 (after main_part2_ops1 (X0 m c)) from rfl]
  generalize X0 m c = V
  after_reads_at
  simp only [id_eq]
  pointwise

theorem gradient (n : Fin 32) (i : Fin 128) (h : Fin 8) (e : Fin 256) :
    E1 m c (Proc.devRef .tc main_v130) (ix5 0 n i h e) = (ins m c).dr n i h e := by
  have h1 : X0 m c (Proc.devRef .tc main_arg1) = m (c, Proc.devRef .tc main_arg1) :=
    (X0_eq m c main_arg1 (by decide)).trans ((W0_keep m c 32 main_arg1 (by decide) (by decide)).trans (preI_writes.keep (by decide) _))
  change _ = y m c (128 * n + i) (256 * h + e)
  have h2 := at2_ix (α := EReal) (a := 4096) (b := 2048) (m (c, Proc.devRef .tc main_arg1)) ⟨128 * n + i, by omega⟩ ⟨256 * h + e, by omega⟩
  refine Eq.trans ?_ h2
  rw [← h1]
  rw [show E1 m c = after main_part3_ops0 (after main_part2_ops1 (X0 m c)) from rfl]
  generalize X0 m c = V
  after_reads_at
  simp only [mul_comm h.val 256, mul_comm n.val 128]

theorem e_dstate (h : Fin 8) (d : Fin 128) (e : Fin 256) : E1 m c (Proc.devRef .tc main_v136_9) (ix4 0 h d e) = (0 : EReal) := by
  rw [show E1 m c = after main_part3_ops0 (after main_part2_ops1 (X0 m c)) from rfl]
  generalize X0 m c = V
  after_results
  exact Ideal.ofBits_zero_f32

/-! ## The second loop -/

theorem down1 (t : Fin 32) : word (part1_0 (W1 m t c) (Proc.devRef .tc main_while1b_v199)) = ((⟨31 - t, by omega⟩ : Fin 32).val : Int) :=
  part1_index _ t (ctr1 m c t)

/-- The state's gradient after the last `t` chunks. -/
theorem loop1_state : ∀ t : ℕ, t ≤ 32 → ∀ (h : Fin 8) (d : Fin 128) (e : Fin 256),
    W1 m t c (Proc.devRef .tc main_v136_9) (ix4 0 h d e) = (ins m c).G t h d e
  | 0, _, h, d, e => e_dstate m c h d e
  | t + 1, ht, h, d, e => by
    rw [show W1 m (t + 1) c = afterL body1I (after cond1 (W1 m t c)) from rfl, step1_state (W1 m t c) ⟨31 - t, by omega⟩ (down1 m c ⟨t, ht⟩)]
    rw [W1_keep m c t main_v136_0 (by decide) (by decide), W1_keep m c t main_v136_1 (by decide) (by decide),
      W1_keep m c t main_v136_5 (by decide) (by decide), W1_keep m c t main_v136_6 (by decide) (by decide),
      e_136_1, e_136_5, e_136_6, loop1_state t (by omega)]
    refine congrArg₂ (· + ·) ?_ (Finset.sum_congr rfl fun j _ => ?_)
    · rw [e_118, decayAt]; rfl
    · rw [e_136_0, gradient, e_117, fromStartAt, e_114, query]; exact mul_comm _ _

/-- The queries' gradients of the last `t` chunks, through the state. -/
theorem loop1_dq : ∀ t : ℕ, t ≤ 32 → ∀ (n : Fin 32), 32 ≤ n + t → ∀ (j : Fin 128) (h : Fin 8) (d : Fin 128),
    W1 m t c (Proc.devRef .tc main_v136_10) (ix5 n 0 j h d) = ∑ e : Fin 256, ((ins m c).dr n j h e * (ins m c).xi h j) * (ins m c).S n h d e
  | 0, _, n, hn, _, _, _ => absurd hn (by omega)
  | t + 1, ht, n, hn, j, h, d => by
    rw [show W1 m (t + 1) c = afterL body1I (after cond1 (W1 m t c)) from rfl, step1_dq (W1 m t c) ⟨31 - t, by omega⟩ (down1 m c ⟨t, ht⟩)]
    by_cases e' : n = ⟨31 - t, by omega⟩
    · rw [if_pos e', ← e', W1_keep m c t main_v136_0 (by decide) (by decide), W1_keep m c t main_v136_5 (by decide) (by decide), W1_keep m c t main_v136_2 (by decide) (by decide), e_136_2, e_136_5]
      refine show @Eq EReal _ _ from Finset.sum_congr rfl fun e _ => ?_
      rw [e_136_0, gradient, e_117, fromStartAt, loop0_states m c 32 le_rfl n n.isLt]
      rfl
    · rw [if_neg e']
      exact loop1_dq t (by omega) n (by by_contra h'; exact e' (Fin.ext (by simp only; omega))) j h d

/-- The keys' gradients of the last `t` chunks, through the state. -/
theorem loop1_dk : ∀ t : ℕ, t ≤ 32 → ∀ (n : Fin 32), 32 ≤ n + t → ∀ (j : Fin 128) (h : Fin 8) (d : Fin 128),
    W1 m t c (Proc.devRef .tc main_v136_11) (ix5 n 0 j h d) = (∑ e : Fin 256, (ins m c).G (31 - n) h d e * (ins m c).v n j h e) * (ins m c).zt h j
  | 0, _, n, hn, _, _, _ => absurd hn (by omega)
  | t + 1, ht, n, hn, j, h, d => by
    rw [show W1 m (t + 1) c = afterL body1I (after cond1 (W1 m t c)) from rfl, step1_dk (W1 m t c) ⟨31 - t, by omega⟩ (down1 m c ⟨t, ht⟩)]
    by_cases e' : n = ⟨31 - t, by omega⟩
    · have e'' : 31 - n.val = t := by rw [e']; simp only; omega
      rw [if_pos e', ← e', W1_keep m c t main_v136_3 (by decide) (by decide), W1_keep m c t main_v136_7 (by decide) (by decide), e_136_3, e_136_7]
      refine congrArg₂ (· * ·) (Finset.sum_congr rfl fun e _ => ?_) ?_
      · rw [loop1_state m c t (Nat.le_of_succ_le ht), e_116, value, e'']
      · rw [e_119, toEndAt]; rfl
    · rw [if_neg e']
      exact loop1_dk t (by omega) n (by by_contra h'; exact e' (Fin.ext (by simp only; omega))) j h d

/-- The values' gradients of the last `t` chunks, through the state. -/
theorem loop1_dv : ∀ t : ℕ, t ≤ 32 → ∀ (n : Fin 32), 32 ≤ n + t → ∀ (j : Fin 128) (h : Fin 8) (e : Fin 256),
    W1 m t c (Proc.devRef .tc main_v136_12) (ix5 n 0 j h e) = ∑ d : Fin 128, (ins m c).G (31 - n) h d e * ((ins m c).k n j h d * (ins m c).zt h j)
  | 0, _, n, hn, _, _, _ => absurd hn (by omega)
  | t + 1, ht, n, hn, j, h, e => by
    rw [show W1 m (t + 1) c = afterL body1I (after cond1 (W1 m t c)) from rfl, step1_dv (W1 m t c) ⟨31 - t, by omega⟩ (down1 m c ⟨t, ht⟩)]
    by_cases e' : n = ⟨31 - t, by omega⟩
    · have e'' : 31 - n.val = t := by rw [e']; simp only; omega
      rw [if_pos e', ← e', W1_keep m c t main_v136_4 (by decide) (by decide), e_136_4]
      refine show @Eq EReal _ _ from Finset.sum_congr rfl fun d _ => ?_
      rw [loop1_state m c t (Nat.le_of_succ_le ht), loop0_keys m c 32 le_rfl n n.isLt, e'']
    · rw [if_neg e']
      exact loop1_dv t (by omega) n (by by_contra h'; exact e' (Fin.ext (by simp only; omega))) j h e

end Cert.ReferenceIdeal.Run
end
-- ==== Proof.RefPost.lean ====
module
public import proofs.«01_k».proof.Proof.RefSlices
@[expose] public section

/-!
# What the reference does after its loops

The gradients within the chunks are added to the ones through the state, the rotation is undone, and the columns are put
beside each other.
-/
noncomputable section
namespace Cert.ReferenceIdeal.Run
open Idealize.ShloMosaic Idealize.ShloMosaic.TcCoe Idealize.ShloMosaic.StableHlo
open Cert.ReferenceIdeal Cert.ReferenceIdeal.Gen
open Retention

variable (V : Valuation τ sig (Elt Ideal))

theorem after_split {ops : List (HloOp τ sig (Elt Ideal))} (k : ℕ) : after ops V = after (ops.drop k) (after (ops.take k) V) := by
  rw [← after_append, List.take_append_drop]

theorem post_dv (n : Fin 32) (j : Fin 128) (h : Fin 8) (e : Fin 256) :
    after (main_part3_ops1.take 16) V (Proc.devRef .tc main_v144) (ix5 0 n j h e)
      = num (V (Proc.devRef .tc main_v136_12) (ix5 n 0 j h e)) + ∑ i : Fin 128, num (V (Proc.devRef .tc main_v130) (ix5 0 n i h e)) * num (V (Proc.devRef .tc main_v91) (ix5 0 n h i j)) := by
  simp only [main_part3_ops1, List.take]
  after_reads_at

theorem post_dk (n : Fin 32) (j : Fin 128) (h : Fin 8) (d : Fin 128) :
    after (main_part3_ops1.take 16) V (Proc.devRef .tc main_v149) (ix5 0 n j h d)
      = num (V (Proc.devRef .tc main_v136_11) (ix5 n 0 j h d)) + ∑ i : Fin 128, ((∑ e : Fin 256, num (V (Proc.devRef .tc main_v130) (ix5 0 n i h e)) * num (V (Proc.devRef .tc main_v87) (ix5 0 n j h e))) * num (V (Proc.devRef .tc main_v89) (ix5 0 0 h i j))) * num (V (Proc.devRef .tc main_v85) (ix5 0 n i h d)) := by
  simp only [main_part3_ops1, List.take]
  after_reads_at

theorem post_dq (n : Fin 32) (i : Fin 128) (h : Fin 8) (d : Fin 128) :
    after (main_part3_ops1.take 16) V (Proc.devRef .tc main_v152) (ix5 0 n i h d)
      = num (V (Proc.devRef .tc main_v136_10) (ix5 n 0 i h d)) + ∑ j : Fin 128, ((∑ e : Fin 256, num (V (Proc.devRef .tc main_v130) (ix5 0 n i h e)) * num (V (Proc.devRef .tc main_v87) (ix5 0 n j h e))) * num (V (Proc.devRef .tc main_v89) (ix5 0 0 h i j))) * num (V (Proc.devRef .tc main_v86) (ix5 0 n j h d)) := by
  simp only [main_part3_ops1, List.take]
  after_reads_at

/-- The rotation undone, in the first half of a row. -/
theorem turn_low (f : Fin 128 → EReal) (r : ℕ) (d : Fin 128) (hd : d.val < 64) :
    0 + (f ⟨64 + d, by omega⟩ * Ideal.sin (angle r d) + f d * Ideal.cos (angle r d)) = unrope f (fun d => cosT r d) (fun d => sinT r d) d := by
  have e : d + 64 = (⟨64 + d, by omega⟩ : Fin 128) := Fin.ext (by rw [Fin.val_add]; simp only [Fin.isValue]; change (d.val + 64) % 128 = _; omega)
  have e1 : ¬ 64 + d.val < 64 := by omega
  have e2 : 64 + d.val - 64 = d.val := by omega
  unfold unrope
  rw [e]
  simp only [cosT, sinT, hd, e1, e2, ↓reduceIte]
  rw [zero_add, add_comm]

/-- The rotation undone, in the second half of a row. -/
theorem turn_high (f : Fin 128 → EReal) (r : ℕ) (d : Fin 128) (hd : ¬ d.val < 64) :
    f ⟨64 + (d - 64), by omega⟩ * Ideal.cos (angle r (d.val - 64)) + -f ⟨d - 64, by omega⟩ * Ideal.sin (angle r (d.val - 64)) + 0
      = unrope f (fun d => cosT r d) (fun d => sinT r d) d := by
  have e : d + 64 = (⟨d - 64, by omega⟩ : Fin 128) := Fin.ext (by rw [Fin.val_add]; simp only [Fin.isValue]; change (d.val + 64) % 128 = _; omega)
  have e0 : (⟨64 + (d - 64), by omega⟩ : Fin 128) = d := Fin.ext (by simp only; omega)
  have e1 : d.val - 64 < 64 := by omega
  unfold unrope
  rw [e, e0]
  simp only [cosT, sinT, hd, e1, ↓reduceIte]
  rw [add_zero, neg_mul, mul_neg]

/-- The rotation undone in the keys' gradients. -/
theorem back_k (n : Fin 32) (i : Fin 128) (h : Fin 8) (d : Fin 128)
    (hc : ∀ (r : Fin 4096) (d : Fin 64), V (Proc.devRef .tc main_v43) (ix4 0 r 0 d) = Ideal.cos (angle r d))
    (hs : ∀ (r : Fin 4096) (d : Fin 64), V (Proc.devRef .tc main_v46) (ix4 0 r 0 d) = Ideal.sin (angle r d))
    (hc' : ∀ (r : Fin 4096) (d : Fin 64), V (Proc.devRef .tc main_v50) (ix4 0 r 0 d) = Ideal.cos (angle r d))
    (hs' : ∀ (r : Fin 4096) (d : Fin 64), V (Proc.devRef .tc main_v53) (ix4 0 r 0 d) = Ideal.sin (angle r d)) :
    after (main_part3_ops1.drop 16) V (Proc.devRef .tc main_v173) (ix3 0 ⟨128 * n + i, by omega⟩ ⟨128 * h + d, by omega⟩)
      = unrope (fun d => num (V (Proc.devRef .tc main_v149) (ix5 0 n i h d))) (fun d => cosT (128 * n + i) d) (fun d => sinT (128 * n + i) d) d := by
  simp only [main_part3_ops1, List.drop, main_part4_ops0, List.take]
  after_reads_at
  have h0 : 128 * n.val + i.val < 4096 := by omega
  have h1 : (128 * h.val + d.val) / 128 = h.val := by omega
  have h2 : (128 * h.val + d.val) % 128 = d.val := by omega
  have h3 : (128 * n.val + i.val) / 128 = n.val := by omega
  have h4 : (128 * n.val + i.val) % 128 = i.val := by omega
  simp only [h1, h2, h3, h4, h0, true_and, hc, hs, hc', hs']
  by_cases hd : d.val < 64
  · have e1 : ¬ (64 ≤ d.val ∧ d.val - 64 < 64) := by omega
    simp only [hd, e1, ↓reduceDIte]
    exact turn_low (fun d => num (V (Proc.devRef .tc main_v149) (ix5 0 n i h d))) _ d hd
  · have e1 : 64 ≤ d.val ∧ d.val - 64 < 64 := by omega
    simp only [hd, e1, and_self, ↓reduceDIte]
    exact turn_high (fun d => num (V (Proc.devRef .tc main_v149) (ix5 0 n i h d))) _ d hd

/-- The rotation undone in the queries' gradients. -/
theorem back_q (n : Fin 32) (i : Fin 128) (h : Fin 8) (d : Fin 128)
    (hc : ∀ (r : Fin 4096) (d : Fin 64), V (Proc.devRef .tc main_v23) (ix4 0 r 0 d) = Ideal.cos (angle r d))
    (hs : ∀ (r : Fin 4096) (d : Fin 64), V (Proc.devRef .tc main_v26) (ix4 0 r 0 d) = Ideal.sin (angle r d))
    (hc' : ∀ (r : Fin 4096) (d : Fin 64), V (Proc.devRef .tc main_v30) (ix4 0 r 0 d) = Ideal.cos (angle r d))
    (hs' : ∀ (r : Fin 4096) (d : Fin 64), V (Proc.devRef .tc main_v33) (ix4 0 r 0 d) = Ideal.sin (angle r d)) :
    after (main_part4_ops0.take 5) (after (main_part3_ops1.drop 16) V) (Proc.devRef .tc main_v192) (ix3 0 ⟨128 * n + i, by omega⟩ ⟨128 * h + d, by omega⟩)
      = unrope (fun d => num (V (Proc.devRef .tc main_v152) (ix5 0 n i h d)) * scl) (fun d => cosT (128 * n + i) d) (fun d => sinT (128 * n + i) d) d := by
  simp only [main_part3_ops1, List.drop, main_part4_ops0, List.take]
  after_reads_at
  have h0 : 128 * n.val + i.val < 4096 := by omega
  have h1 : (128 * h.val + d.val) / 128 = h.val := by omega
  have h2 : (128 * h.val + d.val) % 128 = d.val := by omega
  have h3 : (128 * n.val + i.val) / 128 = n.val := by omega
  have h4 : (128 * n.val + i.val) % 128 = i.val := by omega
  simp only [h1, h2, h3, h4, h0, true_and, hc, hs, hc', hs']
  by_cases hd : d.val < 64
  · have e1 : ¬ (64 ≤ d.val ∧ d.val - 64 < 64) := by omega
    simp only [hd, e1, ↓reduceDIte]
    exact turn_low (fun d => num (V (Proc.devRef .tc main_v152) (ix5 0 n i h d)) * scl) _ d hd
  · have e1 : 64 ≤ d.val ∧ d.val - 64 < 64 := by omega
    simp only [hd, e1, and_self, ↓reduceDIte]
    exact turn_high (fun d => num (V (Proc.devRef .tc main_v152) (ix5 0 n i h d)) * scl) _ d hd

theorem back_v (n : Fin 32) (i : Fin 128) (h : Fin 8) (e : Fin 256) :
    after (main_part3_ops1.drop 16) V (Proc.devRef .tc main_v156) (ix3 0 ⟨128 * n + i, by omega⟩ ⟨256 * h + e, by omega⟩)
      = V (Proc.devRef .tc main_v144) (ix5 0 n i h e) := by
  simp only [main_part3_ops1, List.drop]
  after_reads_at
  have h1 : (256 * h.val + e.val) / 256 = h.val := by omega
  have h2 : (256 * h.val + e.val) % 256 = e.val := by omega
  have h3 : (128 * n.val + i.val) / 128 = n.val := by omega
  have h4 : (128 * n.val + i.val) % 128 = i.val := by omega
  simp only [h1, h2, h3, h4]

theorem cols_q (r : Fin 4096) (s : Fin 1024) :
    after (main_part4_ops0.drop 5) V (Proc.devRef .tc main_v197) (ix2 r ⟨s, by omega⟩) = V (Proc.devRef .tc main_v192) (ix3 0 r s) := by
  simp only [main_part4_ops0, List.drop]
  after_reads_at
  rw [dif_pos (by omega)]
  after_reads_at
  exact Fin.sum_univ_one _

theorem cols_k (r : Fin 4096) (s : Fin 1024) :
    after (main_part4_ops0.drop 5) V (Proc.devRef .tc main_v197) (ix2 r ⟨1024 + s, by omega⟩) = V (Proc.devRef .tc main_v173) (ix3 0 r s) := by
  simp only [main_part4_ops0, List.drop]
  after_reads_at
  rw [dif_pos (by omega)]
  after_reads_at
  exact Fin.sum_univ_one _

theorem cols_v (r : Fin 4096) (s : Fin 2048) :
    after (main_part4_ops0.drop 5) V (Proc.devRef .tc main_v197) (ix2 r ⟨2048 + s, by omega⟩) = V (Proc.devRef .tc main_v156) (ix3 0 r s) := by
  simp only [main_part4_ops0, List.drop]
  after_reads_at
  rw [dif_pos (by omega)]
  after_reads_at
  rw [Fin.sum_univ_one, dif_neg (by omega), dif_neg (by omega)]
  have e : 2048 + s.val - 1024 - 1024 = s := by omega
  simp only [e]

theorem cols_z (r : Fin 4096) (s : Fin 6144) :
    after (main_part4_ops0.drop 5) V (Proc.devRef .tc main_v197) (ix2 r ⟨4096 + s, by omega⟩) = V (Proc.devRef .tc main_arg2) (ix2 r ⟨4096 + s, by omega⟩) := by
  simp only [main_part4_ops0, List.drop]
  after_reads_at

end Cert.ReferenceIdeal.Run
end
-- ==== Proof.RefValue.lean ====
module
public import proofs.«01_k».proof.Proof.RefStates
public import proofs.«01_k».proof.Proof.RefPost
public import proofs.«01_k».proof.Proof.KernelOut
@[expose] public section

/-!
# The array that the reference returns
-/
noncomputable section
namespace Cert.ReferenceIdeal.Run
open Idealize.ShloMosaic Idealize.ShloMosaic.TcCoe Idealize.ShloMosaic.StableHlo
open Cert.ReferenceIdeal Cert.ReferenceIdeal.Gen
open Retention

/-- A part of a stretch leaves alone what the stretch does not write. -/
theorem kept_part {ops part : List (HloOp τ sig (Elt Ideal))} {W : List (Ref sig .tc)} (r : Ref sig .tc) (hp : part ⊆ ops)
    (hw : ops.Forall fun op => op.writes ⊆ (W.map (Proc.devRef (τ := τ) .tc)).toFinset) (V : Valuation τ sig (Elt Ideal))
    (hr : r ∉ W) : after part V (Proc.devRef .tc r) = V (Proc.devRef .tc r) :=
  after_of_writes_sub part V (List.forall_iff_forall_mem.mpr fun op h => List.forall_iff_forall_mem.mp hw op (hp h)) hr

variable (m : (ℓ : Loc nD τ sig) → Buf (Elt Ideal) ℓ) (c : Dev nD)

/-- After the sums of the gradients, after the keys' rotation is undone, and after the queries'. -/
def P1 : Valuation τ sig (Elt Ideal) := after (main_part3_ops1.take 16) (X1 m c)
def P2 : Valuation τ sig (Elt Ideal) := after (main_part3_ops1.drop 16) (P1 m c)
def P3 : Valuation τ sig (Elt Ideal) := after (main_part4_ops0.take 5) (P2 m c)

theorem fin_eq : Fin' m c = after (main_part4_ops0.drop 5) (P3 m c) := by
  rw [show Fin' m c = after main_part4_ops0 (after main_part3_ops1 (X1 m c)) from rfl, after_split _ 5, after_split (X1 m c) 16]
  rfl

theorem X1_keep (r : Ref sig .tc) (h : r ∉ cond1_W ∧ r ∉ body1I_W) : X1 m c (Proc.devRef .tc r) = E1 m c (Proc.devRef .tc r) :=
  (after_of_writes_sub cond1 _ cond1_writes h.1).trans (W1_keep m c 32 r h.1 h.2)

theorem X1_E0 (r : Ref sig .tc) (h : r ∉ cond1_W ∧ r ∉ body1I_W) (h' : r ∉ cond0_W ∧ r ∉ body0I_W ∧ r ∉ midI_W) :
    X1 m c (Proc.devRef .tc r) = E0 m c (Proc.devRef .tc r) :=
  (X1_keep m c r h).trans (E1_keep m c r h')

theorem X1_W1 (r : Ref sig .tc) (h : r ∉ cond1_W) : X1 m c (Proc.devRef .tc r) = W1 m 32 c (Proc.devRef .tc r) :=
  after_of_writes_sub cond1 _ cond1_writes h

theorem P1_E0 (r : Ref sig .tc) (h'' : r ∉ main_part3_ops1_W) (h : r ∉ cond1_W ∧ r ∉ body1I_W) (h' : r ∉ cond0_W ∧ r ∉ body0I_W ∧ r ∉ midI_W) :
    P1 m c (Proc.devRef .tc r) = E0 m c (Proc.devRef .tc r) :=
  (kept_part r (List.take_subset _ _) main_part3_ops1_writes _ h'').trans (X1_E0 m c r h h')

theorem score (n : Fin 32) (h : Fin 8) (i j : Fin 128) : X1 m c (Proc.devRef .tc main_v91) (ix5 0 n h i j) = (ins m c).sc n h i j := by
  rw [X1_E0 m c main_v91 (by decide) (by decide), scores]
  refine congrArg₂ (· * ·) (Finset.sum_congr rfl fun d _ => ?_) ?_
  · rw [query, key]
  · rw [maskAt]; rfl

/-- The gradient of a chunk's scores. -/
theorem dscore (n : Fin 32) (h : Fin 8) (i j : Fin 128) :
    (∑ e : Fin 256, num (X1 m c (Proc.devRef .tc main_v130) (ix5 0 n i h e)) * num (X1 m c (Proc.devRef .tc main_v87) (ix5 0 n j h e)))
      * num (X1 m c (Proc.devRef .tc main_v89) (ix5 0 0 h i j)) = (ins m c).dsc n h i j := by
  refine congrArg₂ (· * ·) (Finset.sum_congr rfl fun e _ => ?_) ?_
  · rw [X1_keep m c main_v130 (by decide), gradient, X1_E0 m c main_v87 (by decide) (by decide), value]
  · rw [X1_E0 m c main_v89 (by decide) (by decide), maskRow _ _ n, maskAt]; rfl

theorem grad_v (n : Fin 32) (j : Fin 128) (h : Fin 8) (e : Fin 256) :
    P1 m c (Proc.devRef .tc main_v144) (ix5 0 n j h e) = (ins m c).dv n j h e := by
  rw [P1, post_dv, X1_W1 m c main_v136_12 (by decide), loop1_dv m c 32 le_rfl n (by omega)]
  refine (add_comm (G := EReal) _ _).trans (congrArg₂ (· + ·) (Finset.sum_congr rfl fun i _ => ?_) (Finset.sum_congr rfl fun d _ => mul_comm _ _))
  rw [X1_keep m c main_v130 (by decide), gradient, score]
  exact mul_comm _ _

theorem grad_k (n : Fin 32) (j : Fin 128) (h : Fin 8) (d : Fin 128) :
    P1 m c (Proc.devRef .tc main_v149) (ix5 0 n j h d) = (ins m c).dk n j h d := by
  rw [P1, post_dk, X1_W1 m c main_v136_11 (by decide), loop1_dk m c 32 le_rfl n (by omega)]
  refine (add_comm (G := EReal) _ _).trans (congrArg₂ (· + ·) (Finset.sum_congr rfl fun i _ => ?_)
    (congrArg (· * _) (Finset.sum_congr rfl fun e _ => mul_comm _ _)))
  rw [dscore, X1_E0 m c main_v85 (by decide) (by decide), query]

theorem grad_q (n : Fin 32) (i : Fin 128) (h : Fin 8) (d : Fin 128) :
    P1 m c (Proc.devRef .tc main_v152) (ix5 0 n i h d) = (ins m c).dq n i h d := by
  rw [P1, post_dq, X1_W1 m c main_v136_10 (by decide), loop1_dq m c 32 le_rfl n (by omega)]
  refine (add_comm (G := EReal) _ _).trans (congrArg₂ (· + ·) (Finset.sum_congr rfl fun j _ => ?_) rfl)
  rw [dscore, X1_E0 m c main_v86 (by decide) (by decide), key]

/-- The result's columns of the queries. -/
theorem result_q (n : Fin 32) (i : Fin 128) (h : Fin 8) (d : Fin 128) :
    Fin' m c (Proc.devRef .tc main_v197) (ix2 ⟨128 * n + i, by omega⟩ ⟨128 * h + d, by omega⟩) = out (x m c) (y m c) (z m c) (128 * n + i) (128 * h + d) := by
  rw [fin_eq, cols_q _ _ ⟨128 * h + d, by omega⟩, P3, P2, back_q, out_q]
  · exact congrArg (fun f => unrope f _ _ d) (funext fun d => congrArg (· * scl) (grad_q m c n i h d))
  · intro r d; rw [P1_E0 m c main_v23 (by decide) (by decide) (by decide), cosq]
  · intro r d; rw [P1_E0 m c main_v26 (by decide) (by decide) (by decide), sinq]
  · intro r d; rw [P1_E0 m c main_v30 (by decide) (by decide) (by decide), cosq']
  · intro r d; rw [P1_E0 m c main_v33 (by decide) (by decide) (by decide), sinq']

/-- The result's columns of the keys. -/
theorem result_k (n : Fin 32) (i : Fin 128) (h : Fin 8) (d : Fin 128) :
    Fin' m c (Proc.devRef .tc main_v197) (ix2 ⟨128 * n + i, by omega⟩ ⟨1024 + (128 * h + d), by omega⟩)
      = out (x m c) (y m c) (z m c) (128 * n + i) (1024 + (128 * h + d)) := by
  rw [fin_eq, cols_k _ _ ⟨128 * h + d, by omega⟩, P3, kept_part main_v173 (List.take_subset _ _) main_part4_ops0_writes _ (by decide), P2, back_k,
    ← Nat.add_assoc 1024, out_k]
  · exact congrArg (fun f => unrope f _ _ d) (funext fun d => grad_k m c n i h d)
  · intro r d; rw [P1_E0 m c main_v43 (by decide) (by decide) (by decide), cosk]
  · intro r d; rw [P1_E0 m c main_v46 (by decide) (by decide) (by decide), sink]
  · intro r d; rw [P1_E0 m c main_v50 (by decide) (by decide) (by decide), cosk']
  · intro r d; rw [P1_E0 m c main_v53 (by decide) (by decide) (by decide), sink']

/-- The result's columns of the values. -/
theorem result_v (n : Fin 32) (i : Fin 128) (h : Fin 8) (e : Fin 256) :
    Fin' m c (Proc.devRef .tc main_v197) (ix2 ⟨128 * n + i, by omega⟩ ⟨2048 + (256 * h + e), by omega⟩)
      = out (x m c) (y m c) (z m c) (128 * n + i) (2048 + (256 * h + e)) := by
  rw [fin_eq, cols_v _ _ ⟨256 * h + e, by omega⟩, P3, kept_part main_v156 (List.take_subset _ _) main_part4_ops0_writes _ (by decide), P2, back_v,
    grad_v, ← Nat.add_assoc 2048, out_v]

/-- The columns that are handed through. -/
theorem result_z (r : Fin 4096) (s : Fin 6144) :
    Fin' m c (Proc.devRef .tc main_v197) (ix2 r ⟨4096 + s, by omega⟩) = out (x m c) (y m c) (z m c) r (4096 + s) := by
  have h : P3 m c (Proc.devRef .tc main_arg2) = m (c, Proc.devRef .tc main_arg2) := by
    rw [P3, kept_part main_arg2 (List.take_subset _ _) main_part4_ops0_writes _ (by decide), P2,
      kept_part main_arg2 (List.drop_subset _ _) main_part3_ops1_writes _ (by decide), P1_E0 m c main_arg2 (by decide) (by decide) (by decide)]
    exact preI_writes.keep (by decide) _
  rw [fin_eq, cols_z, h, out_z _ _ _ _ _ (by omega)]
  exact at2_ix (α := EReal) (a := 4096) (b := 10240) (m (c, Proc.devRef .tc main_arg2)) r ⟨4096 + s, by omega⟩

/-- The array that the reference returns, at every index. -/
theorem result (r : Fin 4096) (s : Fin 10240) :
    Fin' m c (Proc.devRef .tc main_v197) (ix2 r s) = out (x m c) (y m c) (z m c) r s := by
  obtain ⟨r, hr⟩ := r
  obtain ⟨s, hs⟩ := s
  obtain ⟨n, i, hn, hi, rfl⟩ : ∃ n i, n < 32 ∧ i < 128 ∧ r = 128 * n + i := ⟨r / 128, r % 128, by omega, by omega, by omega⟩
  by_cases h1 : s < 1024
  · obtain ⟨h, d, hh, hd, rfl⟩ : ∃ h d, h < 8 ∧ d < 128 ∧ s = 128 * h + d := ⟨s / 128, s % 128, by omega, by omega, by omega⟩
    exact result_q m c ⟨n, hn⟩ ⟨i, hi⟩ ⟨h, hh⟩ ⟨d, hd⟩
  by_cases h2 : s < 2048
  · obtain ⟨h, d, hh, hd, rfl⟩ : ∃ h d, h < 8 ∧ d < 128 ∧ s = 1024 + (128 * h + d) :=
      ⟨(s - 1024) / 128, s % 128, by omega, by omega, by omega⟩
    exact result_k m c ⟨n, hn⟩ ⟨i, hi⟩ ⟨h, hh⟩ ⟨d, hd⟩
  by_cases h3 : s < 4096
  · obtain ⟨h, e, hh, he, rfl⟩ : ∃ h e, h < 8 ∧ e < 256 ∧ s = 2048 + (256 * h + e) :=
      ⟨(s - 2048) / 256, s % 256, by omega, by omega, by omega⟩
    exact result_v m c ⟨n, hn⟩ ⟨i, hi⟩ ⟨h, hh⟩ ⟨e, he⟩
  · obtain ⟨e, he, rfl⟩ : ∃ e, e < 6144 ∧ s = 4096 + e := ⟨s - 4096, by omega, by omega⟩
    exact result_z m c ⟨128 * n + i, hr⟩ ⟨e, he⟩

end Cert.ReferenceIdeal.Run
end
-- ==== Proof.Equal.lean ====
module
public import proofs.«01_k».proof.Defs
public import proofs.«01_k».proof.Proof.KernelValue
public import proofs.«01_k».proof.Proof.RefValue
@[expose] public section

/-!
# The kernel returns what the reference returns
-/
noncomputable section
namespace Cert.Proof
open Idealize.ShloMosaic Idealize.SL.Sem

/-- From equal arguments, both programs end with the same array. -/
theorem equal (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.ReferenceIdeal.Run.Fin' m' c (Proc.devRef .tc Cert.ReferenceIdeal.main_v197)
      = (Cert.KernelIdeal.Gen.dats m 0 c).arrAt 10 Cert.KernelIdeal.cfg0.N := by
  have ex : Cert.ReferenceIdeal.Run.x m' c = Cert.KernelIdeal.Host.x m c := congrArg (Retention.at2 (α := EReal) (a := 4096) (b := 4096)) h0
  have ey : Cert.ReferenceIdeal.Run.y m' c = Cert.KernelIdeal.Host.y m c := congrArg (Retention.at2 (α := EReal) (a := 4096) (b := 2048)) h1
  have ez : Cert.ReferenceIdeal.Run.z m' c = Cert.KernelIdeal.Host.z m c := congrArg (Retention.at2 (α := EReal) (a := 4096) (b := 10240)) h2
  refine funext fun i => ?_
  obtain ⟨r, s, rfl⟩ : ∃ (r : Fin 4096) (s : Fin 10240), i = ix2 r s := ⟨i 0, i 1, (ix2_eta i).symm⟩
  exact (Cert.ReferenceIdeal.Run.result m' c r s).trans (by rw [ex, ey, ez]; exact (Cert.KernelIdeal.Tile.arr m c r s).symm)

theorem algebraic : Cert.algebraic_KernelIdeal_ReferenceIdeal (hKernelIdeal := Cert.KernelIdeal.Gen.facts) (hReferenceIdeal := Cert.ReferenceIdeal.Gen.facts) := by
  intro m g m' g' _ hm
  refine ⟨fun c => (Cert.KernelIdeal.Gen.dats m 0 c).arrAt 10 Cert.KernelIdeal.cfg0.N, Cert.KernelIdeal.Value.run_blocks m g, ?_⟩
  refine (θ_run Cert.ReferenceIdeal.defs _ _).mono (fun r h c => ?_) (Cert.ReferenceIdeal.Run.run m' g')
  obtain ⟨h0, h1, h2⟩ := hm c
  exact ⟨(h c Cert.ReferenceIdeal.main_v197 rfl).trans (equal m m' c h0 h1 h2),
    (h c Cert.ReferenceIdeal.main_arg0 rfl).trans (Cert.ReferenceIdeal.Run.fin_keep m' c _ (by decide)),
    (h c Cert.ReferenceIdeal.main_arg1 rfl).trans (Cert.ReferenceIdeal.Run.fin_keep m' c _ (by decide)),
    (h c Cert.ReferenceIdeal.main_arg2 rfl).trans (Cert.ReferenceIdeal.Run.fin_keep m' c _ (by decide))⟩

end Cert.Proof
end
-- ==== Proof.InGrad.lean ====
module
public import proofs.«01_k».proof.Proof.Gen.Kernel2Ideal.Value
public import proofs.«01_k».proof.Proof.Gen.Reference2Ideal.Run
public import proofs.«01_k».proof.Proof.Gen.Reference2Ideal.Read
public import Idealize.ShloMosaic.Lib.Pointwise
public import Idealize.ShloMosaic.Lib.StableHlo.ReadAt
public import Idealize.ShloMosaic.Lib.Pipeline.ValueKit
public import Idealize.ShloMosaic.Lib.Quiescent
@[expose] public section

/-!
# The gradients of the input projection's weights and bias

The weights' gradient is the product of the transposed input with the projection's gradient, the bias's the sum of the
projection's gradient over the tokens. The columns lie in four groups of 2560, one matrix each.
-/
noncomputable section
namespace InProj
open Idealize.ShloMosaic

/-- The weights' gradient at group `a`, row `i`, column `j` of the group. -/
def weight (x : Fin 4096 → Fin 1024 → EReal) (d : Fin 4096 → Fin 10240 → EReal) (a : Fin 4) (i : Fin 1024) (j : Fin 2560) : EReal :=
  ∑ k : Fin 4096, x k i * d k ⟨2560 * a + j, by omega⟩

/-- The bias's gradient at a column. -/
def bias (d : Fin 4096 → Fin 10240 → EReal) (j : Fin 10240) : EReal := ∑ k : Fin 4096, d k j

end InProj

namespace Cert.Kernel2Ideal.InGrad
open Cert.Kernel2Ideal Cert.Kernel2Ideal.Gen Idealize.ShloMosaic Idealize.ShloMosaic.TcCoe Idealize.SL.Sem

theorem pay1_apply (v0 : Vec Ideal S1024x4096 .bf16) (v2 : Vec Ideal S4096x512 .bf16) (i : Fin 1024) (j : Fin 512) :
    k0_pay1 v0 v2 (ix3 0 i j) = ∑ k : Fin 4096, v0 (ix2 i k) * v2 (ix2 k j) := by
  unfold k0_pay1
  pointwise

theorem pay2_apply (v : Vec Ideal S4096x512 .bf16) (j : Fin 512) :
    k0_pay2 v (ix2 0 j) = ∑ k : Fin 4096, v (ix2 k j) := by
  unfold k0_pay2
  pointwise

variable (m : (ℓ : Loc nD τ sig) → Buf (Elt Ideal) ℓ) (c : Dev nD)

/-- The input. -/
def x (k : Fin 4096) (i : Fin 1024) : EReal := m (c, Proc.tc.devRef main_arg0) (ix2 k i)
/-- The projection's gradient. -/
def d (k : Fin 4096) (j : Fin 10240) : EReal := m (c, Proc.tc.devRef main_arg1) (ix2 k j)

theorem lhs (i : Fin 1024) (k : Fin 4096) : V m c main_v1 (ix2 i k) = x m c k i := by
  unfold V
  after_reads_at
  rfl
theorem rhs (k : Fin 4096) (j : Fin 10240) : V m c main_arg1 (ix2 k j) = d m c k j :=
  congrFun (V_main_arg1 m c) _

theorem idx : ∀ t : Fin cfg0.N, win0_0.index t = ![0, 0] ∧ win0_1.index t = ![0, t.val]
    ∧ win0_2.index t = ![t.val / 5, 0, t.val % 5] ∧ win0_3.index t = ![0, t.val] := by
  decide +kernel

theorem blk0 (t : Fin cfg0.N) (i : Fin 1024) (k : Fin 4096) : iblk m c 0 t (ix2 i k) = V m c main_v1 (ix2 i k) := by
  blk_ext [iblk, idx t]
theorem blk1 (t : Fin cfg0.N) (k : Fin 4096) (j : Fin 512) :
    iblk m c 1 t (ix2 k j) = V m c main_arg1 (ix2 k ⟨512 * t + j, by have := t.isLt; have : cfg0.N = 20 := N_0; omega⟩) := by
  blk_ext [iblk, idx t]

theorem xsize2 : ∀ t : Fin cfg0.N, ((cfg0.win 2).xblock (grid0.coords t)).size = ![1, 1024, 512] := by
  decide +kernel
theorem xsize3 : ∀ t : Fin cfg0.N, ((cfg0.win 3).xblock (grid0.coords t)).size = ![1, 512] := by
  decide +kernel

/-- What a point writes of the weights' gradient. -/
theorem out2_apply (t : Fin cfg0.N) (i : Fin 1024) (j : Fin 512) (a : Fin 4) (l : Fin 2560) (h : 2560 * a.val + l.val = 512 * t.val + j.val) :
    out0_2 (iblk m c 0 t) (iblk m c 1 t) (ix3 0 i j) = InProj.weight (x m c) (d m c) a i l := by
  unfold out0_2
  rw [View.canon_unit_zero (Val := Elt Ideal) (by funext b; match b with | ⟨0, _⟩ => rfl | ⟨1, _⟩ => rfl | ⟨2, _⟩ => rfl), pay1_apply,
    View.ld_unit_zero (by funext b; match b with | ⟨0, _⟩ => rfl | ⟨1, _⟩ => rfl),
    View.ld_unit_zero (by funext b; match b with | ⟨0, _⟩ => rfl | ⟨1, _⟩ => rfl)]
  unfold InProj.weight
  refine Finset.sum_congr rfl fun k _ => ?_
  rw [blk0, blk1, lhs, rhs]
  exact congrArg (fun q => x m c k i * d m c k q) (Fin.ext h.symm)

/-- What a point writes of the bias's gradient. -/
theorem out3_apply (t : Fin cfg0.N) (j : Fin 512) (l : Fin 10240) (h : l.val = 512 * t.val + j.val) :
    out0_3 (iblk m c 0 t) (iblk m c 1 t) (ix2 0 j) = InProj.bias (d m c) l := by
  unfold out0_3
  rw [View.canon_unit_zero (Val := Elt Ideal) (by funext b; match b with | ⟨0, _⟩ => rfl | ⟨1, _⟩ => rfl), pay2_apply,
    View.ld_unit_zero (by funext b; match b with | ⟨0, _⟩ => rfl | ⟨1, _⟩ => rfl)]
  unfold InProj.bias
  refine Finset.sum_congr rfl fun k _ => ?_
  rw [blk1, rhs]
  exact congrArg (d m c k) (Fin.ext h.symm)

/-- The array of the weights' gradient. -/
theorem arr2 (a : Fin 4) (i : Fin 1024) (l : Fin 2560) :
    (dats m 0 c).arrAt 2 cfg0.N (ix3 a i l) = InProj.weight (x m c) (d m c) a i l := by
  have hN : cfg0.N = 20 := N_0
  let t : Fin cfg0.N := ⟨5 * a.val + l.val / 512, by omega⟩
  have hx := xsize2 t
  let y : ((cfg0.win 2).xblock (grid0.coords t)).Idx := fun b => match b with
    | ⟨0, _⟩ => ⟨0, lt_of_lt_of_eq (b := 1) (by omega) (congrFun hx 0).symm⟩
    | ⟨1, _⟩ => ⟨i.val, lt_of_lt_of_eq (b := 1024) (by omega) (congrFun hx 1).symm⟩
    | ⟨2, _⟩ => ⟨l.val % 512, lt_of_lt_of_eq (b := 512) (by omega) (congrFun hx 2).symm⟩
  have hb := congrFun (Value.blocks2 m c t (flush0_2 t)) y
  rw [Value.flushed2] at hb
  have he : ((cfg0.win 2).blk t).view.emb y = ix3 a i l := by
    funext b; apply Fin.ext
    match b with
    | ⟨0, _⟩ =>
      blk_simp [(idx t).2.2.1]
      show (5 * a.val + l.val / 512) / 5 = a.val
      omega
    | ⟨1, _⟩ =>
      blk_simp [(idx t).2.2.1]
      rfl
    | ⟨2, _⟩ =>
      blk_simp [(idx t).2.2.1]
      show (5 * a.val + l.val / 512) % 5 * 512 + l.val % 512 = l.val
      omega
  refine (congrArg ((dats m 0 c).arrAt 2 cfg0.N) he).symm.trans (hb.trans ?_)
  refine Eq.trans (congrArg (out0_2 (iblk m c 0 t) (iblk m c 1 t)) ?_)
    (out2_apply m c t i ⟨l.val % 512, by omega⟩ a l (by show 2560 * a.val + l.val = 512 * (5 * a.val + l.val / 512) + l.val % 512; omega))
  funext b; apply Fin.ext
  match b with
  | ⟨0, _⟩ => rfl
  | ⟨1, _⟩ => rfl
  | ⟨2, _⟩ => rfl

/-- The array of the bias's gradient. -/
theorem arr3 (l : Fin 10240) : (dats m 0 c).arrAt 3 cfg0.N (ix2 0 l) = InProj.bias (d m c) l := by
  have hN : cfg0.N = 20 := N_0
  let t : Fin cfg0.N := ⟨l.val / 512, by omega⟩
  have hx := xsize3 t
  let y : ((cfg0.win 3).xblock (grid0.coords t)).Idx := fun b => match b with
    | ⟨0, _⟩ => ⟨0, lt_of_lt_of_eq (b := 1) (by omega) (congrFun hx 0).symm⟩
    | ⟨1, _⟩ => ⟨l.val % 512, lt_of_lt_of_eq (b := 512) (by omega) (congrFun hx 1).symm⟩
  have hb := congrFun (Value.blocks3 m c t (flush0_3 t)) y
  rw [Value.flushed3] at hb
  have he : ((cfg0.win 3).blk t).view.emb y = ix2 0 l := by
    funext b; apply Fin.ext
    match b with
    | ⟨0, _⟩ =>
      blk_simp [(idx t).2.2.2]
      rfl
    | ⟨1, _⟩ =>
      blk_simp [(idx t).2.2.2]
      show l.val / 512 * 512 + l.val % 512 = l.val
      omega
  refine (congrArg ((dats m 0 c).arrAt 3 cfg0.N) he).symm.trans (hb.trans ?_)
  refine Eq.trans (congrArg (out0_3 (iblk m c 0 t) (iblk m c 1 t)) ?_)
    (out3_apply m c t ⟨l.val % 512, by omega⟩ l (by show l.val = 512 * (l.val / 512) + l.val % 512; omega))
  funext b; apply Fin.ext
  match b with
  | ⟨0, _⟩ => rfl
  | ⟨1, _⟩ => rfl

end Cert.Kernel2Ideal.InGrad

namespace Cert.Reference2Ideal.InGrad
open Cert.Reference2Ideal Cert.Reference2Ideal.Gen Idealize.ShloMosaic Idealize.ShloMosaic.TcCoe Idealize.SL.Sem

variable (x0 : (⟨S4096x1024, .f32⟩ : BufTy).Contents (Elt Ideal)) (x1 : (⟨S4096x10240, .bf16⟩ : BufTy).Contents (Elt Ideal))

theorem weight (a : Fin 4) (i : Fin 1024) (l : Fin 2560) :
    Read.val_main_v8 x0 x1 (ix3 a i l) = InProj.weight (fun k i => x0 (ix2 k i)) (fun k j => x1 (ix2 k j)) a i l := by
  unfold Read.val_main_v8 Read.val_main_v7 Read.val_main_v6 Read.val_main_v5 Read.val_main_v4 Read.val_main_v0
  pointwise
  unfold InProj.weight
  refine Finset.sum_congr rfl fun k _ => (mul_comm (G := EReal) _ _).trans ?_
  exact congrArg (fun q => x0 (ix2 k i) * x1 (ix2 k q)) (Fin.ext (congrArg (· + l.val) (Nat.mul_comm a.val 2560)))

theorem bias (l : Fin 10240) :
    Read.val_main_v9 x1 (ix2 0 l) = InProj.bias (fun k j => x1 (ix2 k j)) l := by
  unfold Read.val_main_v9 Read.val_main_v3 Read.val_main_v2 Read.val_main_v1 Read.val_main_v0
  pointwise
  have hz : Read.val_main_cst (F := Ideal) (Shape.Idx.first h_S_) = (0 : EReal) := Ideal.ofBits_zero_f32
  have hz' : Read.val_main_cst_0 (F := Ideal) (Shape.Idx.first h_S_) = (0 : EReal) := Ideal.ofBits_zero_f32
  rw [hz, hz', Fin.sum_univ_one]
  exact (zero_add (M := EReal) _).trans (zero_add (M := EReal) _)

/-- The arguments end as they began, and every semaphore (there is none) at zero. -/
theorem frame (m : (ℓ : Loc nD τ sig) → Buf (Elt Ideal) ℓ) (ρ : Dev nD → PrngReg) : θ_run defs (onTc (τ := τ) main) ⟨m, fun _ => 0, ρ⟩
    (fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => (h c).2.2, sem_eq_zero_of_no_sems rfl _⟩) (Value.run m ρ)

end Cert.Reference2Ideal.InGrad
end
-- ==== Proof.InGradEqual.lean ====
module
public import proofs.«01_k».proof.Defs
public import proofs.«01_k».proof.Proof.InGrad
@[expose] public section

/-!
# The input projection's gradients: the kernel returns what the reference returns
-/
noncomputable section
namespace Cert.Proof.InGrad
open Idealize.ShloMosaic Idealize.SL.Sem

theorem algebraic : Cert.algebraic_Kernel2Ideal_Reference2Ideal (hKernel2Ideal := Cert.Kernel2Ideal.Gen.facts) (hReference2Ideal := Cert.Reference2Ideal.Gen.facts) := by
  intro m g m' g' _ hm
  refine ⟨fun c => (Cert.Kernel2Ideal.Gen.dats m 0 c).arrAt 2 Cert.Kernel2Ideal.cfg0.N, fun c => (Cert.Kernel2Ideal.Gen.dats m 0 c).arrAt 3 Cert.Kernel2Ideal.cfg0.N,
    (θ_run Cert.Kernel2Ideal.defs _ _).mono (fun _ h c => ⟨(h c).1, (h c).2.1, (h c).2.2.2⟩) (Cert.Kernel2Ideal.Value.run_blocks m g), ?_⟩
  refine (θ_run Cert.Reference2Ideal.defs _ _).mono (fun r h c => ?_) (Cert.Reference2Ideal.Value.run m' g')
  obtain ⟨h0, h1⟩ := hm c
  refine ⟨(h c).1.trans ((Cert.Reference2Ideal.Read.val_main_v8_eq _ _).trans (funext fun i => ?_)),
    (h c).2.1.trans ((Cert.Reference2Ideal.Read.val_main_v9_eq _).trans (funext fun i => ?_)), (h c).2.2⟩
  · obtain ⟨a, j, l, rfl⟩ : ∃ (a : Fin 4) (j : Fin 1024) (l : Fin 2560), i = ix3 a j l := ⟨i 0, i 1, i 2, (ix3_eta i).symm⟩
    rw [h0, h1]
    exact (Cert.Reference2Ideal.InGrad.weight _ _ a j l).trans (Cert.Kernel2Ideal.InGrad.arr2 m c a j l).symm
  · obtain ⟨a, l, rfl⟩ : ∃ (a : Fin 1) (l : Fin 10240), i = ix2 a l := ⟨i 0, i 1, (ix2_eta i).symm⟩
    obtain rfl : a = 0 := Subsingleton.elim _ _
    rw [h1]
    exact (Cert.Reference2Ideal.InGrad.bias _ l).trans (Cert.Kernel2Ideal.InGrad.arr3 m c l).symm

end Cert.Proof.InGrad
end
-- ==== Proof.Rects.lean ====
module
public import Idealize.ShloMosaic.Lib.Pointwise
public import Idealize.ShloMosaic.Lib.Pipeline.Value
@[expose] public section

/-!
# Loads of rectangles, and sums over padded groups
-/
noncomputable section
namespace Rects
open Idealize.ShloMosaic

section loads
variable {F : FTy → Type} [FloatOps F] {e : EltTy}

/-- A matrix read through a rectangle of its rows and columns. -/
theorem ld2 {R C r c a w : ℕ} (x : Vec F ⟨2, ![R, C]⟩ e)
    (inb : ∀ b : Fin 2, (![r, c] : Fin 2 → ℕ) b + (![a, w] : Fin 2 → ℕ) b ≤ (![R, C] : Fin 2 → ℕ) b) (i : Fin a) (j : Fin w) :
    View.ld (Val := Elt F) x (Rect.unit (s := ⟨2, ![R, C]⟩) ![r, c] ![a, w] inb) (ix2 i j)
      = x (ix2 ⟨r + i, lt_of_lt_of_le (Nat.add_lt_add_left i.isLt r) (inb 0)⟩ ⟨c + j, lt_of_lt_of_le (Nat.add_lt_add_left j.isLt c) (inb 1)⟩) := by
  refine congrArg x ?_
  funext b; apply Fin.ext
  match b with
  | ⟨0, _⟩ => exact congrArg (r + ·) (Nat.one_mul _)
  | ⟨1, _⟩ => exact congrArg (c + ·) (Nat.one_mul _)

/-- A stack of matrices read through a rectangle of one of them. -/
theorem ld3 {N R C n r c a w : ℕ} (x : Vec F ⟨3, ![N, R, C]⟩ e)
    (inb : ∀ b : Fin 3, (![n, r, c] : Fin 3 → ℕ) b + (![1, a, w] : Fin 3 → ℕ) b ≤ (![N, R, C] : Fin 3 → ℕ) b) (i : Fin a) (j : Fin w) :
    View.ld (Val := Elt F) x (Rect.unit (s := ⟨3, ![N, R, C]⟩) ![n, r, c] ![1, a, w] inb) (ix3 0 i j)
      = x (ix3 ⟨n, inb 0⟩ ⟨r + i, lt_of_lt_of_le (Nat.add_lt_add_left i.isLt r) (inb 1)⟩ ⟨c + j, lt_of_lt_of_le (Nat.add_lt_add_left j.isLt c) (inb 2)⟩) := by
  refine congrArg x ?_
  funext b; apply Fin.ext
  match b with
  | ⟨0, _⟩ => rfl
  | ⟨1, _⟩ => exact congrArg (r + ·) (Nat.one_mul _)
  | ⟨2, _⟩ => exact congrArg (c + ·) (Nat.one_mul _)

/-- A rectangle of rows and columns, at its own index. -/
theorem emb {R C r c w a : ℕ}
    (inb : ∀ b : Fin 2, (![r, c] : Fin 2 → ℕ) b + (![a, w] : Fin 2 → ℕ) b ≤ (![R, C] : Fin 2 → ℕ) b) (i : Fin a) (j : Fin w) :
    (Rect.unit (s := ⟨2, ![R, C]⟩) ![r, c] ![a, w] inb).emb (ix2 i j)
      = ix2 ⟨r + i, lt_of_lt_of_le (Nat.add_lt_add_left i.isLt r) (inb 0)⟩ ⟨c + j, lt_of_lt_of_le (Nat.add_lt_add_left j.isLt c) (inb 1)⟩ := by
  funext b; apply Fin.ext
  match b with
  | ⟨0, _⟩ => exact congrArg (r + ·) (Nat.one_mul _)
  | ⟨1, _⟩ => exact congrArg (c + ·) (Nat.one_mul _)

end loads

/-- A sum over 768 whose last 64 terms are zero. -/
theorem sum_pad (f : Fin 704 → EReal) : ∑ k : Fin 768, (if h : k.val < 704 then f ⟨k, h⟩ else 0) = ∑ k : Fin 704, f k := by
  rw [show (768 : ℕ) = 704 + 64 from rfl, Fin.sum_univ_add]
  have h0 : ∑ k : Fin 64, (if h : (Fin.natAdd 704 k).val < 704 then f ⟨_, h⟩ else 0) = 0 :=
    Finset.sum_eq_zero fun k _ => dif_neg (by simp)
  rw [h0, add_zero]
  exact Finset.sum_congr rfl fun k _ => dif_pos k.isLt

/-- The padding is zero. -/
theorem int_zero : (FloatOps.sitofp (F := Ideal) .f32 0#32 : EReal) = 0 := by
  show (((0#32).toInt : ℝ) : EReal) = 0
  simp

/-- A padded group's product is the group's. -/
theorem pad_mul (a b : Fin 704 → EReal) :
    ∑ k : Fin 768, (if h : k.val < 704 then a ⟨k, h⟩ else 0) * (if h : k.val < 704 then b ⟨k, h⟩ else 0) = ∑ k : Fin 704, a k * b k := by
  rw [← sum_pad]
  refine Finset.sum_congr rfl fun k _ => ?_
  by_cases h : k.val < 704
  · rw [dif_pos h, dif_pos h, dif_pos h]
  · rw [dif_neg h, dif_neg h, dif_neg h, zero_mul]

/-- A sum over 2816 in four groups of 704. -/
theorem sum_groups (f : Fin 2816 → EReal) :
    ∑ k : Fin 2816, f k = ∑ j : Fin 4, ∑ k : Fin 704, f ⟨704 * j + k, by omega⟩ := by
  rw [← Finset.sum_product', Finset.univ_product_univ]
  refine (Fintype.sum_equiv (finProdFinEquiv (m := 4) (n := 704)) _ _ fun p => ?_).symm
  exact congrArg f (Fin.ext (Nat.add_comm _ _))

end Rects
end
-- ==== Proof.DxGrad.lean ====
module
public import proofs.«01_k».proof.Proof.Rects
public import proofs.«01_k».proof.Proof.Gen.Kernel3Ideal.Value
public import proofs.«01_k».proof.Proof.Gen.Reference3Ideal.Run
public import proofs.«01_k».proof.Proof.Gen.Reference3Ideal.Read
public import Idealize.ShloMosaic.Lib.StableHlo.ReadAt
public import Idealize.ShloMosaic.Lib.Pipeline.ValueKit
public import Idealize.ShloMosaic.Lib.Quiescent
@[expose] public section

/-!
# The gradient of the first feed-forward layer's input

It is `alpha` times the gradient after the residual sum, plus the gradients of the gate and of the up projection through their
weights. The 2816 hidden columns lie in four groups of 704; the kernel pads each group to 768 with zeros.
-/
noncomputable section
namespace DxGrad
open Idealize.ShloMosaic

/-- The residual's factor. -/
def alpha : EReal := Ideal.ofBits .f32 0x3F9837F0#32

/-- The input's gradient at a token and a column. -/
def grad (da db : Fin 4096 → Fin 2816 → EReal) (wg wu : Fin 1024 → Fin 2816 → EReal) (dz : Fin 4096 → Fin 1024 → EReal)
    (r : Fin 4096) (s : Fin 1024) : EReal :=
  alpha * dz r s + ∑ k : Fin 2816, db r k * wu s k + ∑ k : Fin 2816, da r k * wg s k

end DxGrad

namespace Cert.Kernel3Ideal.DxGrad
open Cert.Kernel3Ideal Cert.Kernel3Ideal.Gen Idealize.ShloMosaic Idealize.ShloMosaic.TcCoe Idealize.SL.Sem

/-- One group's product, at an index of the block. -/
def term (x : Vec Ideal S512x3072 .bf16) (w : Vec Ideal S4x1024x1536 .bf16) (r : Fin 512) (s : Fin 1024) (j : Fin 4) (o : Fin 2) : EReal :=
  ∑ k : Fin 768, x (ix2 r ⟨768 * j + k, by omega⟩) * w (ix3 j s ⟨768 * o + k, by omega⟩)

/-- The block at an index. -/
def block (x0 x1 : Vec Ideal S512x3072 .bf16) (w : Vec Ideal S4x1024x1536 .bf16) (z : Vec Ideal S512x1024 .f32) (r : Fin 512) (s : Fin 1024) : EReal :=
  term x0 w r s 0 0 + term x1 w r s 0 1 + term x0 w r s 1 0 + term x1 w r s 1 1 + term x0 w r s 2 0 + term x1 w r s 2 1
    + term x0 w r s 3 0 + term x1 w r s 3 1 + DxGrad.alpha * z (ix2 r s)

/-- A product of a load of rows with a load of a group's weights. -/
def prod (x : Vec Ideal S256x768 .bf16) (w : Vec Ideal S1x1024x768 .bf16) (i : Fin 256) (s : Fin 1024) : EReal :=
  ∑ k : Fin 768, x (ix2 i k) * w (ix3 0 s k)

theorem lower (a0 a1 a2 a3 b0 b1 b2 b3 : Vec Ideal S256x768 .bf16) (u0 u1 u2 u3 w0 w1 w2 w3 : Vec Ideal S1x1024x768 .bf16)
    (z : Vec Ideal S256x1024 .f32) (i : Fin 256) (s : Fin 1024) :
    k0_pay3 (k0_pay2 a0 u0 b0 w0 a1 u1 b1 w1 a2 u2) b2 w2 a3 u3 b3 w3 z (ix2 i s)
      = prod a0 u0 i s + prod b0 w0 i s + prod a1 u1 i s + prod b1 w1 i s + prod a2 u2 i s + prod b2 w2 i s + prod a3 u3 i s + prod b3 w3 i s
        + DxGrad.alpha * z (ix2 i s) := by
  unfold k0_pay3 k0_pay2 prod
  pointwise
  rfl

theorem upper (a0 a1 a2 a3 b0 b1 b2 b3 : Vec Ideal S256x768 .bf16) (u0 u1 u2 u3 w0 w1 w2 w3 : Vec Ideal S1x1024x768 .bf16)
    (z : Vec Ideal S256x1024 .f32) (i : Fin 256) (s : Fin 1024) :
    k0_pay1 (k0_pay5 (k0_pay4 a0 u0) b0 w0 a1 u1 b1 w1 a2 u2 b2 w2) a3 u3 b3 w3 z (ix2 i s)
      = prod a0 u0 i s + prod b0 w0 i s + prod a1 u1 i s + prod b1 w1 i s + prod a2 u2 i s + prod b2 w2 i s + prod a3 u3 i s + prod b3 w3 i s
        + DxGrad.alpha * z (ix2 i s) := by
  unfold k0_pay1 k0_pay5 k0_pay4 prod
  pointwise
  rfl

theorem prod_term {q : ℕ} (x : Vec Ideal S512x3072 .bf16) (w : Vec Ideal S4x1024x1536 .bf16) (j : Fin 4) (o : Fin 2)
    (inb : ∀ b : Fin 2, (![q, 768 * j.val] : Fin 2 → ℕ) b + (![256, 768] : Fin 2 → ℕ) b ≤ (![512, 3072] : Fin 2 → ℕ) b)
    (inb' : ∀ b : Fin 3, (![j.val, 0, 768 * o.val] : Fin 3 → ℕ) b + (![1, 1024, 768] : Fin 3 → ℕ) b ≤ (![4, 1024, 1536] : Fin 3 → ℕ) b)
    (i : Fin 256) (s s' : Fin 1024) (r : Fin 512) (hr : q + i.val = r.val) (hs : s'.val = s.val) :
    prod (View.ld x (Rect.unit (s := S512x3072) ![q, 768 * j.val] ![256, 768] inb))
      (View.ld w (Rect.unit (s := S4x1024x1536) ![j.val, 0, 768 * o.val] ![1, 1024, 768] inb')) i s = term x w r s' j o := by
  unfold prod term
  refine Finset.sum_congr rfl fun k _ => congrArg₂ (· * ·) ?_ ?_
  · refine (Rects.ld2 (F := Ideal) x inb i k).trans (congrArg (fun a => x (ix2 a _)) (Fin.ext hr))
  · refine (Rects.ld3 (F := Ideal) w inb' s k).trans (congrArg (fun a => w (ix3 _ a _)) (Fin.ext ?_))
    exact (Nat.zero_add _).trans hs.symm

theorem out_apply (x0 x1 : Vec Ideal S512x3072 .bf16) (w : Vec Ideal S4x1024x1536 .bf16) (z : Vec Ideal S512x1024 .f32) (r : Fin 512) (s : Fin 1024) :
    out0_4 x0 x1 w z (ix2 r s) = block x0 x1 w z r s := by
  unfold out0_4
  refine View.canon_apply_of_pieces (Val := Elt Ideal) (fun y => block x0 x1 w z (y 0) (y 1)) _ ?_ _ (cover0_4 _ _ _)
  intro pc hpc
  rcases List.mem_cons.mp hpc with rfl | hpc
  · intro x
    obtain ⟨i, j, rfl⟩ : ∃ (i : Fin 256) (j : Fin 1024), x = ix2 i j := ⟨x 0, x 1, (ix2_eta x).symm⟩
    refine (upper ..).trans (Eq.trans ?_ (congrArg (fun y : S512x1024.Idx => block x0 x1 w z (y 0) (y 1)) (Rects.emb inb_S512x1024_S256x1024_256_0 i j)).symm)
    unfold block
    have h (x j' o inb inb') := prod_term (q := 256) x w j' o inb inb' i j ⟨0 + j, by omega⟩ ⟨256 + i, by omega⟩ rfl (Nat.zero_add _)
    exact congrArg₂ (· + ·) (congrArg₂ (· + ·) (congrArg₂ (· + ·) (congrArg₂ (· + ·) (congrArg₂ (· + ·) (congrArg₂ (· + ·) (congrArg₂ (· + ·)
      (congrArg₂ (· + ·) (h x0 0 0 _ _) (h x1 0 1 _ _)) (h x0 1 0 _ _)) (h x1 1 1 _ _)) (h x0 2 0 _ _)) (h x1 2 1 _ _)) (h x0 3 0 _ _)) (h x1 3 1 _ _))
      (congrArg (DxGrad.alpha * ·) (Rects.ld2 (F := Ideal) z _ i j))
  rcases List.mem_cons.mp hpc with rfl | hpc
  · intro x
    obtain ⟨i, j, rfl⟩ : ∃ (i : Fin 256) (j : Fin 1024), x = ix2 i j := ⟨x 0, x 1, (ix2_eta x).symm⟩
    refine (lower ..).trans (Eq.trans ?_ (congrArg (fun y : S512x1024.Idx => block x0 x1 w z (y 0) (y 1)) (Rects.emb inb_S512x1024_S256x1024_0_0 i j)).symm)
    unfold block
    have h (x j' o inb inb') := prod_term (q := 0) x w j' o inb inb' i j ⟨0 + j, by omega⟩ ⟨0 + i, by omega⟩ rfl (Nat.zero_add _)
    exact congrArg₂ (· + ·) (congrArg₂ (· + ·) (congrArg₂ (· + ·) (congrArg₂ (· + ·) (congrArg₂ (· + ·) (congrArg₂ (· + ·) (congrArg₂ (· + ·)
      (congrArg₂ (· + ·) (h x0 0 0 _ _) (h x1 0 1 _ _)) (h x0 1 0 _ _)) (h x1 1 1 _ _)) (h x0 2 0 _ _)) (h x1 2 1 _ _)) (h x0 3 0 _ _)) (h x1 3 1 _ _))
      (congrArg (DxGrad.alpha * ·) (Rects.ld2 (F := Ideal) z _ i j))
  nomatch hpc

variable (m : (ℓ : Loc nD τ sig) → Buf (Elt Ideal) ℓ) (c : Dev nD)

def da (r : Fin 4096) (k : Fin 2816) : EReal := m (c, Proc.tc.devRef main_arg0) (ix2 r k)
def db (r : Fin 4096) (k : Fin 2816) : EReal := m (c, Proc.tc.devRef main_arg1) (ix2 r k)
def wg (s : Fin 1024) (k : Fin 2816) : EReal := m (c, Proc.tc.devRef main_arg2) (ix2 s k)
def wu (s : Fin 1024) (k : Fin 2816) : EReal := m (c, Proc.tc.devRef main_arg3) (ix2 s k)
def dz (r : Fin 4096) (s : Fin 1024) : EReal := m (c, Proc.tc.devRef main_arg4) (ix2 r s)

theorem gate (r : Fin 4096) (j : Fin 4) (k : Fin 768) : V m c main_v11 (ix2 r ⟨768 * j + k, by omega⟩)
    = if h : k.val < 704 then da m c r ⟨704 * j + k, by omega⟩ else 0 := by
  unfold V
  after_reads_at
  have h1 : (768 * j.val + k.val) / 768 = j := by omega
  have h2 : (768 * j.val + k.val) % 768 = k := by omega
  simp only [h1, h2, j.isLt, true_and, mul_comm j.val 704, Rects.int_zero]
  rfl
theorem up (r : Fin 4096) (j : Fin 4) (k : Fin 768) : V m c main_v15 (ix2 r ⟨768 * j + k, by omega⟩)
    = if h : k.val < 704 then db m c r ⟨704 * j + k, by omega⟩ else 0 := by
  unfold V
  after_reads_at
  have h1 : (768 * j.val + k.val) / 768 = j := by omega
  have h2 : (768 * j.val + k.val) % 768 = k := by omega
  simp only [h1, h2, j.isLt, true_and, mul_comm j.val 704, Rects.int_zero]
  rfl
theorem weightsGate (j : Fin 4) (s : Fin 1024) (k : Fin 768) : V m c main_v7 (ix3 j s ⟨768 * (0 : Fin 2) + k, by omega⟩)
    = if h : k.val < 704 then wg m c s ⟨704 * j + k, by omega⟩ else 0 := by
  unfold V
  after_reads_at
  after_reads_at
  simp only [mul_comm j.val 704, Rects.int_zero]
  rfl
theorem weightsUp (j : Fin 4) (s : Fin 1024) (k : Fin 768) : V m c main_v7 (ix3 j s ⟨768 * (1 : Fin 2) + k, by omega⟩)
    = if h : k.val < 704 then wu m c s ⟨704 * j + k, by omega⟩ else 0 := by
  unfold V
  after_reads_at
  after_reads_at
  simp only [mul_comm j.val 704, Rects.int_zero]
  rfl

theorem idx : ∀ t : Fin cfg0.N, win0_0.index t = ![t.val, 0] ∧ win0_1.index t = ![t.val, 0]
    ∧ win0_2.index t = ![0, 0, 0] ∧ win0_3.index t = ![t.val, 0] ∧ win0_4.index t = ![t.val, 0] := by
  decide +kernel

theorem lt8 (t : Fin cfg0.N) : t.val < 8 := lt_of_lt_of_eq t.isLt N_0

theorem blk0 (t : Fin cfg0.N) (i : Fin 512) (k : Fin 3072) :
    iblk m c 0 t (ix2 i k) = V m c main_v11 (ix2 ⟨512 * t + i, by have := lt8 t; omega⟩ k) := by
  blk_ext [iblk, idx t]
theorem blk1 (t : Fin cfg0.N) (i : Fin 512) (k : Fin 3072) :
    iblk m c 1 t (ix2 i k) = V m c main_v15 (ix2 ⟨512 * t + i, by have := lt8 t; omega⟩ k) := by
  blk_ext [iblk, idx t]
theorem blk2 (t : Fin cfg0.N) (j : Fin 4) (s : Fin 1024) (k : Fin 1536) :
    iblk m c 2 t (ix3 j s k) = V m c main_v7 (ix3 j s k) := by
  blk_ext [iblk, idx t]
theorem blk3 (t : Fin cfg0.N) (i : Fin 512) (s : Fin 1024) :
    iblk m c 3 t (ix2 i s) = dz m c ⟨512 * t + i, by have := lt8 t; omega⟩ s := by
  refine Eq.trans ?_ (congrFun (V_main_arg4 m c) _)
  blk_ext [iblk, idx t]

theorem termGate (t : Fin cfg0.N) (i : Fin 512) (s : Fin 1024) (j : Fin 4) :
    term (iblk m c 0 t) (iblk m c 2 t) i s j 0
      = ∑ k : Fin 704, da m c ⟨512 * t + i, by have := lt8 t; omega⟩ ⟨704 * j + k, by omega⟩ * wg m c s ⟨704 * j + k, by omega⟩ := by
  refine Eq.trans ?_ (Rects.pad_mul (fun k => da m c ⟨512 * t + i, by have := lt8 t; omega⟩ ⟨704 * j + k, by omega⟩) (fun k => wg m c s ⟨704 * j + k, by omega⟩))
  exact Finset.sum_congr rfl fun k _ => congrArg₂ (· * ·) ((blk0 m c t i _).trans (gate m c _ j k)) ((blk2 m c t j s _).trans (weightsGate m c j s k))
theorem termUp (t : Fin cfg0.N) (i : Fin 512) (s : Fin 1024) (j : Fin 4) :
    term (iblk m c 1 t) (iblk m c 2 t) i s j 1
      = ∑ k : Fin 704, db m c ⟨512 * t + i, by have := lt8 t; omega⟩ ⟨704 * j + k, by omega⟩ * wu m c s ⟨704 * j + k, by omega⟩ := by
  refine Eq.trans ?_ (Rects.pad_mul (fun k => db m c ⟨512 * t + i, by have := lt8 t; omega⟩ ⟨704 * j + k, by omega⟩) (fun k => wu m c s ⟨704 * j + k, by omega⟩))
  exact Finset.sum_congr rfl fun k _ => congrArg₂ (· * ·) ((blk1 m c t i _).trans (up m c _ j k)) ((blk2 m c t j s _).trans (weightsUp m c j s k))

/-- What a point writes. -/
theorem written (t : Fin cfg0.N) (i : Fin 512) (s : Fin 1024) :
    out0_4 (iblk m c 0 t) (iblk m c 1 t) (iblk m c 2 t) (iblk m c 3 t) (ix2 i s)
      = DxGrad.grad (da m c) (db m c) (wg m c) (wu m c) (dz m c) ⟨512 * t + i, by have := lt8 t; omega⟩ s := by
  rw [out_apply]
  unfold block DxGrad.grad
  rw [Rects.sum_groups, Rects.sum_groups, Fin.sum_univ_four, Fin.sum_univ_four, blk3]
  simp only [termGate, termUp]
  generalize (DxGrad.alpha * dz m c _ s : EReal) = z
  abel

theorem xsize : ∀ t : Fin cfg0.N, ((cfg0.win 4).xblock (grid0.coords t)).size = ![512, 1024] := by
  decide +kernel

/-- The array that the kernel returns. -/
theorem arr (r : Fin 4096) (s : Fin 1024) :
    (dats m 0 c).arrAt 4 cfg0.N (ix2 r s) = DxGrad.grad (da m c) (db m c) (wg m c) (wu m c) (dz m c) r s := by
  have hN : cfg0.N = 8 := N_0
  let t : Fin cfg0.N := ⟨r.val / 512, by omega⟩
  have hx := xsize t
  let y : ((cfg0.win 4).xblock (grid0.coords t)).Idx := fun b => match b with
    | ⟨0, _⟩ => ⟨r.val % 512, lt_of_lt_of_eq (b := 512) (by omega) (congrFun hx 0).symm⟩
    | ⟨1, _⟩ => ⟨s.val, lt_of_lt_of_eq (b := 1024) (by omega) (congrFun hx 1).symm⟩
  have hb := congrFun (Value.blocks4 m c t (flush0_4 t)) y
  rw [Value.flushed4] at hb
  have he : ((cfg0.win 4).blk t).view.emb y = ix2 r s := by
    funext b; apply Fin.ext
    match b with
    | ⟨0, _⟩ =>
      blk_simp [(idx t).2.2.2.2]
      show r.val / 512 * 512 + r.val % 512 = r.val
      omega
    | ⟨1, _⟩ =>
      blk_simp [(idx t).2.2.2.2]
      rfl
  refine (congrArg ((dats m 0 c).arrAt 4 cfg0.N) he).symm.trans (hb.trans ?_)
  refine Eq.trans (congrArg (out0_4 (iblk m c 0 t) (iblk m c 1 t) (iblk m c 2 t) (iblk m c 3 t)) ?_)
    ((written m c t ⟨r.val % 512, by omega⟩ s).trans (congrArg (fun q => DxGrad.grad (da m c) (db m c) (wg m c) (wu m c) (dz m c) q s)
      (Fin.ext (by show 512 * (r.val / 512) + r.val % 512 = r.val; omega))))
  funext b; apply Fin.ext
  match b with
  | ⟨0, _⟩ => rfl
  | ⟨1, _⟩ => rfl

end Cert.Kernel3Ideal.DxGrad

namespace Cert.Reference3Ideal.DxGrad
open Cert.Reference3Ideal Cert.Reference3Ideal.Gen Idealize.ShloMosaic Idealize.ShloMosaic.TcCoe Idealize.SL.Sem

theorem result (x0 x1 : (⟨S4096x2816, .f32⟩ : BufTy).Contents (Elt Ideal)) (x2 x3 : (⟨S1024x2816, .f32⟩ : BufTy).Contents (Elt Ideal))
    (x4 : (⟨S4096x1024, .f32⟩ : BufTy).Contents (Elt Ideal)) (r : Fin 4096) (s : Fin 1024) :
    Read.val_main_v5 x0 x1 x2 x3 x4 (ix2 r s)
      = DxGrad.grad (fun r k => x0 (ix2 r k)) (fun r k => x1 (ix2 r k)) (fun s k => x2 (ix2 s k)) (fun s k => x3 (ix2 s k)) (fun r s => x4 (ix2 r s)) r s := by
  unfold Read.val_main_v5 Read.val_main_v4 Read.val_main_v3 Read.val_main_v2 Read.val_main_v1 Read.val_main_v0 Read.val_main_cst
  pointwise
  rfl

/-- The arguments end as they began, and every semaphore (there is none) at zero. -/
theorem frame (m : (ℓ : Loc nD τ sig) → Buf (Elt Ideal) ℓ) (ρ : Dev nD → PrngReg) : θ_run defs (onTc (τ := τ) main) ⟨m, fun _ => 0, ρ⟩
    (fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => (h c).2, sem_eq_zero_of_no_sems rfl _⟩) (Value.run m ρ)

end Cert.Reference3Ideal.DxGrad
end
-- ==== Proof.DxGradEqual.lean ====
module
public import proofs.«01_k».proof.Defs
public import proofs.«01_k».proof.Proof.DxGrad
@[expose] public section

/-!
# The gradient of the layer's input: the kernel returns what the reference returns
-/
noncomputable section
namespace Cert.Proof.DxGrad
open Idealize.ShloMosaic Idealize.SL.Sem

theorem algebraic : Cert.algebraic_Kernel3Ideal_Reference3Ideal (hKernel3Ideal := Cert.Kernel3Ideal.Gen.facts) (hReference3Ideal := Cert.Reference3Ideal.Gen.facts) := by
  intro m g m' g' _ hm
  refine ⟨fun c => (Cert.Kernel3Ideal.Gen.dats m 0 c).arrAt 4 Cert.Kernel3Ideal.cfg0.N, Cert.Kernel3Ideal.Value.run_blocks m g, ?_⟩
  refine (θ_run Cert.Reference3Ideal.defs _ _).mono (fun r h c => ?_) (Cert.Reference3Ideal.Value.run m' g')
  obtain ⟨h0, h1, h2, h3, h4⟩ := hm c
  refine ⟨(h c).1.trans ((Cert.Reference3Ideal.Read.val_main_v5_eq _ _ _ _ _).trans (funext fun i => ?_)), (h c).2⟩
  obtain ⟨a, j, rfl⟩ : ∃ (a : Fin 4096) (j : Fin 1024), i = ix2 a j := ⟨i 0, i 1, (ix2_eta i).symm⟩
  rw [h0, h1, h2, h3, h4]
  exact (Cert.Reference3Ideal.DxGrad.result _ _ _ _ _ a j).trans (Cert.Kernel3Ideal.DxGrad.arr m c a j).symm

end Cert.Proof.DxGrad
end
-- ==== Proof.ProjTile.lean ====
module
public import proofs.«01_k».proof.Proof.Gen.Kernel5Ideal.Value
public import Idealize.ShloMosaic.Lib.Pointwise
@[expose] public section

/-!
# The input projection: what a block of rows stores

The columns go in twenty groups of 512. Of the first four groups, the queries and keys, each head of 128 columns is rotated and
stored apart; the other sixteen are stored as they are.
-/
noncomputable section
namespace Cert.Kernel5Ideal.Proj
open Cert.Kernel5Ideal Cert.Kernel5Ideal.Gen Idealize.ShloMosaic Idealize.ShloMosaic.TcCoe Idealize.SL.Sem

variable {F : FTy → Type} [FloatOps F]

/-- What a block's body reads: the rows, the weights and biases of each group, the angles' cosines and sines. -/
structure Loads (F : FTy → Type) where
  x : FVec F S512x1024 .bf16
  w : Fin 20 → FVec F S1x1024x512 .bf16
  b : Fin 20 → FVec F S1x512 .f32
  cos : FVec F S512x128 .f32
  sin : FVec F S512x128 .f32

/-- A head lies within its group. -/
def headIn : (h : Fin 4) → S512x512.Slices ![0, 128 * h.val] S512x128
  | 0 => slices_S512x512_o0_0_S512x128
  | 1 => slices_S512x512_o0_128_S512x128
  | 2 => slices_S512x512_o0_256_S512x128
  | 3 => slices_S512x512_o0_384_S512x128

/-- The factor of a group's heads. -/
def scale : Fin 4 → F .f32
  | 0 => Scalar.ofBits .f32 0x3DB504F3#32
  | 1 => Scalar.ofBits .f32 0x3DB504F3#32
  | 2 => Scalar.ofBits .f32 0x3F800000#32
  | 3 => Scalar.ofBits .f32 0x3F800000#32

namespace Loads
variable (L : Loads F)

/-- A group's columns of the projection. -/
def group (n : Fin 20) : FVec F S512x512 .f32 :=
  addf (matmul dot_S512x1024_S1024x512_S512x512_1_0_0_1_n_n none L.x (shapeCast S1024x512 (L.w n) shapeCasts_S1x1024x512_S1024x512)
      (constant S512x512 .f32 0x00000000#32))
    (broadcastTo S512x512 (shapeCast S1x512 (L.b n) shapeCasts_S1x512_S1x512) broadcasts_S1x512_S512x512)

/-- A head of a group. -/
def head (n : Fin 20) (h : Fin 4) : FVec F S512x128 .f32 := extractStridedSlice S512x128 ![0, 128 * h.val] (L.group n) (headIn h)

/-- A head rotated. -/
def rotated (n : Fin 20) (h : Fin 4) (s : F .f32) : FVec F S512x128 .bf16 :=
  truncf .bf16 (mulf (addf (mulf (L.head n h) L.cos) (mulf (dynamicRotate 1 64#32 none (L.head n h) rotates_S512x128_d1) L.sin)) (broadcast S512x128 s))
    bitsLt_bf16_f32

end Loads

theorem inb_c {c w : ℕ} (hc : c + w ≤ 10240) : ∀ a : Fin 2, (![0, c] : Fin 2 → ℕ) a + (![512, w] : Fin 2 → ℕ) a ≤ (![512, 10240] : Fin 2 → ℕ) a := by
  intro a; fin_cases a <;> simpa

theorem inb_b (n : Fin 20) : ∀ a : Fin 2, (![0, 512 * n.val] : Fin 2 → ℕ) a + (![1, 512] : Fin 2 → ℕ) a ≤ (![1, 10240] : Fin 2 → ℕ) a := by
  intro a; fin_cases a
  · exact le_refl 1
  · show 512 * n.val + 512 ≤ 10240; omega

theorem inb_w (n : Fin 20) : ∀ a : Fin 3, (![n.val / 5, 0, 512 * (n.val % 5)] : Fin 3 → ℕ) a + (![1, 1024, 512] : Fin 3 → ℕ) a ≤ (![4, 1024, 2560] : Fin 3 → ℕ) a := by
  intro a; fin_cases a
  · show n.val / 5 + 1 ≤ 4; omega
  · exact le_refl 1024
  · show 512 * (n.val % 5) + 512 ≤ 2560; omega

theorem inb_all {R C : ℕ} : ∀ a : Fin 2, (![0, 0] : Fin 2 → ℕ) a + (![R, C] : Fin 2 → ℕ) a ≤ (![R, C] : Fin 2 → ℕ) a := by
  intro a; fin_cases a <;> simp

/-- A group's store, as it is. -/
def plain (L : Loads F) (n : Fin 20) : View.Piece (Elt F) S512x10240 .bf16 :=
  ⟨Rect.unit (s := S512x10240) ![0, 512 * n.val] ![512, 512] (inb_c (by omega)), truncf .bf16 (L.group n) bitsLt_bf16_f32⟩

/-- A head's store. -/
def turned (L : Loads F) (n h : Fin 4) : View.Piece (Elt F) S512x10240 .bf16 :=
  ⟨Rect.unit (s := S512x10240) ![0, 512 * n.val + 128 * h.val] ![512, 128] (inb_c (by omega)), L.rotated ⟨n.val, by omega⟩ h (scale n)⟩

/-- The stores of the whole body, the last first. -/
def stores (L : Loads F) : List (View.Piece (Elt F) S512x10240 .bf16) :=
  ([19, 18, 17, 16, 15, 14, 13, 12, 11, 10, 9, 8, 7, 6, 5, 4] : List (Fin 20)).map (plain L)
    ++ ([3, 2, 1, 0] : List (Fin 4)).flatMap fun n => ([3, 2, 1, 0] : List (Fin 4)).map (turned L n)

section run
variable (c : Dev nD) (i : grid0.Coords)
  (arg1 : Memref sig .tc .vmem S512x1024 .bf16) (harg1 : arg1.IsWhole)
  (arg2 : Memref sig .tc .vmem S4x1024x2560 .bf16) (harg2 : arg2.IsWhole)
  (arg3 : Memref sig .tc .vmem S1x10240 .f32) (harg3 : arg3.IsWhole)
  (arg4 : Memref sig .tc .vmem S512x128 .f32) (harg4 : arg4.IsWhole)
  (arg5 : Memref sig .tc .vmem S512x128 .f32) (harg5 : arg5.IsWhole)
  (arg6 : Memref sig .tc .vmem S512x10240 .bf16) (harg6 : arg6.IsWhole)
  (x0 : Vec F S512x1024 .bf16) (x1 : Vec F S4x1024x2560 .bf16) (x2 : Vec F S1x10240 .f32) (x3 x4 : Vec F S512x128 .f32)

/-- The loads of the body. -/
def loads : Loads F where
  x := shapeCast S512x1024 (View.readAt (Elt F) arg1.view (Rect.unit (s := S512x1024) ![0, 0] ![512, 1024] inb_all).toLoadRect (harg1.unread x0)) shapeCasts_S512x1024_S512x1024
  w n := View.readAt (Elt F) arg2.view (Rect.unit (s := S4x1024x2560) ![n.val / 5, 0, 512 * (n.val % 5)] ![1, 1024, 512] (inb_w n)).toLoadRect (harg2.unread x1)
  b n := View.readAt (Elt F) arg3.view (Rect.unit (s := S1x10240) ![0, 512 * n.val] ![1, 512] (inb_b n)).toLoadRect (harg3.unread x2)
  cos := shapeCast S512x128 (View.readAt (Elt F) arg4.view (Rect.unit (s := S512x128) ![0, 0] ![512, 128] inb_all).toLoadRect (harg4.unread x3)) shapeCasts_S512x128_S512x128
  sin := shapeCast S512x128 (View.readAt (Elt F) arg5.view (Rect.unit (s := S512x128) ![0, 0] ![512, 128] inb_all).toLoadRect (harg5.unread x4)) shapeCasts_S512x128_S512x128

/-- The stores of the body are these. -/
theorem stores_eq :
    (kernelRun0_A c i arg1 harg1 arg2 harg2 arg3 harg3 arg4 harg4 arg5 harg5 arg6 harg6 x0 x1 x2 x3 x4).1
      = stores (loads arg1 harg1 arg2 harg2 arg3 harg3 arg4 harg4 arg5 harg5 x0 x1 x2 x3 x4) := by
  sl_kernel_rfl

end run
end Cert.Kernel5Ideal.Proj
end
-- ==== Proof.Proj.lean ====
module
public import proofs.«01_k».proof.Proof.ProjTile
public import proofs.«01_k».proof.Proof.Rects
public import proofs.«01_k».proof.Proof.Inputs
public import proofs.«01_k».proof.Proof.Gen.Reference5Ideal.Run
public import proofs.«01_k».proof.Proof.Gen.Reference5Ideal.Read
public import Idealize.ShloMosaic.Lib.StableHlo.ReadAt
public import Idealize.ShloMosaic.Lib.Pipeline.ValueKit
public import Idealize.ShloMosaic.Lib.Quiescent
@[expose] public section

/-!
# The input projection, with the queries and keys rotated

Columns 0..1023 are the queries, 1024..2047 the keys, in heads of 128; the queries are scaled after the rotation.
-/
noncomputable section
namespace Projection
open Idealize.ShloMosaic Retention

/-- The projection at a token and a column. -/
def lin (x : ℕ → Fin 1024 → EReal) (w : Fin 1024 → ℕ → EReal) (b : ℕ → EReal) (r c : ℕ) : EReal := ∑ s : Fin 1024, x r s * w s c + b c

/-- A head's row of the projection, rotated. -/
def turn (x : ℕ → Fin 1024 → EReal) (w : Fin 1024 → ℕ → EReal) (b : ℕ → EReal) (r c : ℕ) : EReal :=
  rot (fun k => lin x w b r (128 * (c / 128) + k)) r (c % 128)

/-- What the projection hands to the mixer. -/
def out (x : ℕ → Fin 1024 → EReal) (w : Fin 1024 → ℕ → EReal) (b : ℕ → EReal) (r c : ℕ) : EReal :=
  if c < 1024 then turn x w b r c * scl else if c < 2048 then turn x w b r c else lin x w b r c

end Projection

namespace Cert.Kernel5Ideal.Proj
open Cert.Kernel5Ideal Cert.Kernel5Ideal.Gen Idealize.ShloMosaic Idealize.ShloMosaic.TcCoe Idealize.SL.Sem
open Projection Retention

section block
variable (L : Loads Ideal)

theorem group_apply (n : Fin 20) (i k : Fin 512) :
    L.group n (ix2 i k) = ∑ s : Fin 1024, L.x (ix2 i s) * L.w n (ix3 0 s k) + L.b n (ix2 0 k) := by
  unfold Loads.group
  pointwise

theorem rotated_apply (n : Fin 20) (h : Fin 4) (s : EReal) (i : Fin 512) (d : Fin 128) :
    L.rotated n h s (ix2 i d) = (L.group n (ix2 i ⟨128 * h + d, by omega⟩) * L.cos (ix2 i d)
      + L.group n (ix2 i ⟨128 * h + (d + 64) % 128, by omega⟩) * L.sin (ix2 i d)) * s := by
  unfold Loads.rotated Loads.head
  pointwise
  rfl

end block

/-- What the loads of the block `t` hold. -/
structure Fits (L : Loads Ideal) (x : ℕ → Fin 1024 → EReal) (w : Fin 1024 → ℕ → EReal) (b : ℕ → EReal) (t : ℕ) : Prop where
  x (i : Fin 512) (s : Fin 1024) : L.x (ix2 i s) = x (512 * t + i) s
  w (n : Fin 20) (s : Fin 1024) (k : Fin 512) : L.w n (ix3 0 s k) = w s (512 * n + k)
  b (n : Fin 20) (k : Fin 512) : L.b n (ix2 0 k) = b (512 * n + k)
  cos (i : Fin 512) (d : Fin 128) : L.cos (ix2 i d) = cosT (512 * t + i) d
  sin (i : Fin 512) (d : Fin 128) : L.sin (ix2 i d) = sinT (512 * t + i) d

namespace Fits
variable {L : Loads Ideal} {x : ℕ → Fin 1024 → EReal} {w : Fin 1024 → ℕ → EReal} {b : ℕ → EReal} {t : ℕ} (H : Fits L x w b t)
include H

theorem group (n : Fin 20) (i k : Fin 512) : L.group n (ix2 i k) = lin x w b (512 * t + i) (512 * n + k) :=
  (group_apply L n i k).trans (congrArg₂ (· + ·) (Finset.sum_congr rfl fun s _ => congrArg₂ (· * ·) (H.x i s) (H.w n s k)) (H.b n k))

theorem rotated (n : Fin 20) (h : Fin 4) (s : EReal) (i : Fin 512) (d : Fin 128) :
    L.rotated n h s (ix2 i d) = turn x w b (512 * t + i) (512 * n + 128 * h + d) * s := by
  rw [rotated_apply, H.group, H.group, H.cos, H.sin]
  refine congrArg (· * s) ?_
  unfold turn rot cosT sinT
  have h1 : (512 * n.val + 128 * h.val + d.val) % 128 = d := by omega
  have h2 : 128 * ((512 * n.val + 128 * h.val + d.val) / 128) = 512 * n + 128 * h := by omega
  rw [h1, h2]
  have e (k : ℕ) : 512 * n.val + (128 * h.val + k) = 512 * n + 128 * h + k := (Nat.add_assoc _ _ _).symm
  by_cases hd : d.val < 64
  · have h3 : (d.val + 64) % 128 = 64 + d := by omega
    simp only [if_pos hd, h3, e, mul_neg, sub_eq_add_neg]
  · have h3 : (d.val + 64) % 128 = d - 64 := by omega
    simp only [if_neg hd, h3, e]

/-- The block's stores hold its rows of the result. -/
theorem canon_stores (p : S512x10240.Idx) (hp : ∃ pc ∈ stores L, p ∈ pc.1.set) :
    View.canon (stores L) p = Projection.out x w b (512 * t + (p 0).val) (p 1).val := by
  refine View.canon_apply_of_pieces (Val := Elt Ideal) (fun p => Projection.out x w b (512 * t + (p 0).val) (p 1).val) _ ?_ p hp
  intro pc hpc u
  rcases List.mem_append.mp hpc with hpc | hpc
  · obtain ⟨n, hn, rfl⟩ := List.mem_map.mp hpc
    have hn4 : 4 ≤ n.val := (by decide : ∀ n ∈ ([19, 18, 17, 16, 15, 14, 13, 12, 11, 10, 9, 8, 7, 6, 5, 4] : List (Fin 20)), 4 ≤ n.val) n hn
    obtain ⟨i, k, rfl⟩ : ∃ (i k : Fin 512), u = ix2 i k := ⟨u 0, u 1, (ix2_eta u).symm⟩
    refine (H.group n i k).trans (Eq.trans ?_ (congrArg (fun p : S512x10240.Idx => Projection.out x w b (512 * t + (p 0).val) (p 1).val)
      (Rects.emb (inb_c (c := 512 * n.val) (w := 512) (by omega)) i k)).symm)
    show _ = Projection.out x w b (512 * t + (0 + i.val)) (512 * n.val + k.val)
    unfold Projection.out
    rw [if_neg (by omega), if_neg (by omega), Nat.zero_add]
  · obtain ⟨n, -, hpc⟩ := List.mem_flatMap.mp hpc
    obtain ⟨h, -, rfl⟩ := List.mem_map.mp hpc
    obtain ⟨i, d, rfl⟩ : ∃ (i : Fin 512) (d : Fin 128), u = ix2 i d := ⟨u 0, u 1, (ix2_eta u).symm⟩
    refine (H.rotated ⟨n.val, by omega⟩ h (scale (F := Ideal) n) i d).trans (Eq.trans ?_ (congrArg (fun p : S512x10240.Idx => Projection.out x w b (512 * t + (p 0).val) (p 1).val)
      (Rects.emb (inb_c (c := 512 * n.val + 128 * h.val) (w := 128) (by omega)) i d)).symm)
    show _ = Projection.out x w b (512 * t + (0 + i.val)) (512 * n.val + 128 * h.val + d.val)
    unfold Projection.out
    rw [Nat.zero_add]
    have one : (Scalar.ofBits (F := Ideal) .f32 0x3F800000#32 : EReal) = 1 := by
      show Ideal.ofBits .f32 0x3F800000#32 = 1
      pointwise
    match n with
    | 0 => rw [if_pos (by show 512 * 0 + 128 * h.val + d.val < 1024; omega)]; rfl
    | 1 => rw [if_pos (by show 512 * 1 + 128 * h.val + d.val < 1024; omega)]; rfl
    | 2 =>
      rw [if_neg (by show ¬512 * 2 + 128 * h.val + d.val < 1024; omega), if_pos (by show 512 * 2 + 128 * h.val + d.val < 2048; omega)]
      exact (congrArg (_ * ·) one).trans (mul_one _)
    | 3 =>
      rw [if_neg (by show ¬512 * 3 + 128 * h.val + d.val < 1024; omega), if_pos (by show 512 * 3 + 128 * h.val + d.val < 2048; omega)]
      exact (congrArg (_ * ·) one).trans (mul_one _)

end Fits

variable (m : (ℓ : Loc nD τ sig) → Buf (Elt Ideal) ℓ) (c : Dev nD)

def x (r : ℕ) (s : Fin 1024) : EReal := at2 (a := 4096) (b := 1024) (α := EReal) (m (c, Proc.tc.devRef main_arg0)) r s
def w (s : Fin 1024) (k : ℕ) : EReal := at2 (a := 1024) (b := 10240) (α := EReal) (m (c, Proc.tc.devRef main_arg1)) s k
def b (k : ℕ) : EReal := if h : k < 10240 then (m (c, Proc.tc.devRef main_arg2) : S10240.Idx → EReal) (ix1 ⟨k, h⟩) else 0

theorem rows (r : Fin 4096) (s : Fin 1024) : V m c main_v20 (ix2 r s) = x m c r s := by
  unfold V x
  rw [← at2_ix]
  after_reads_at
theorem weights (j : Fin 4) (s : Fin 1024) (k : Fin 2560) : V m c main_v2 (ix3 j s k) = w m c s (2560 * j + k) := by
  unfold V w
  refine Eq.trans ?_ (at2_ix (a := 1024) (b := 10240) (α := EReal) _ s ⟨2560 * j + k, by omega⟩)
  after_reads_at
  simp only [mul_comm j.val 2560]
theorem bias (k : Fin 10240) : V m c main_v21 (ix2 0 k) = b m c k := by
  unfold V b
  rw [dif_pos k.isLt]
  after_reads_at
theorem cosines (r : Fin 4096) (d : Fin 128) : V m c main_v17 (ix2 r d) = cosT r d := by
  unfold V cosT
  after_reads_at
  by_cases hd : d.val < 64
  · rw [dif_pos hd, if_pos hd]; rfl
  · rw [dif_neg hd, if_neg hd]; rfl
theorem sines (r : Fin 4096) (d : Fin 128) : V m c main_v19 (ix2 r d) = sinT r d := by
  unfold V sinT
  after_reads_at
  by_cases hd : d.val < 64
  · rw [dif_pos hd, if_pos hd]; rfl
  · rw [dif_neg hd, if_neg hd]; rfl

theorem idx : ∀ t : Fin cfg0.N, win0_0.index t = ![t.val, 0] ∧ win0_1.index t = ![0, 0, 0] ∧ win0_2.index t = ![0, 0]
    ∧ win0_3.index t = ![t.val, 0] ∧ win0_4.index t = ![t.val, 0] ∧ win0_5.index t = ![t.val, 0] := by
  decide +kernel

theorem lt8 (t : Fin cfg0.N) : t.val < 8 := lt_of_lt_of_eq t.isLt N_0

theorem blk0 (t : Fin cfg0.N) (i : Fin 512) (s : Fin 1024) :
    iblk m c 0 t (ix2 i s) = V m c main_v20 (ix2 ⟨512 * t + i, by have := lt8 t; omega⟩ s) := by
  blk_ext [iblk, idx t]
theorem blk1 (t : Fin cfg0.N) (j : Fin 4) (s : Fin 1024) (k : Fin 2560) :
    iblk m c 1 t (ix3 j s k) = V m c main_v2 (ix3 j s k) := by
  blk_ext [iblk, idx t]
theorem blk2 (t : Fin cfg0.N) (k : Fin 10240) : iblk m c 2 t (ix2 0 k) = V m c main_v21 (ix2 0 k) := by
  blk_ext [iblk, idx t]
theorem blk3 (t : Fin cfg0.N) (i : Fin 512) (d : Fin 128) :
    iblk m c 3 t (ix2 i d) = V m c main_v17 (ix2 ⟨512 * t + i, by have := lt8 t; omega⟩ d) := by
  blk_ext [iblk, idx t]
theorem blk4 (t : Fin cfg0.N) (i : Fin 512) (d : Fin 128) :
    iblk m c 4 t (ix2 i d) = V m c main_v19 (ix2 ⟨512 * t + i, by have := lt8 t; omega⟩ d) := by
  blk_ext [iblk, idx t]

/-- The loads at a grid point. -/
def L (t : Fin cfg0.N) : Loads Ideal :=
  loads (ms0_0 t) (hs0_0 t) (ms0_1 t) (hs0_1 t) (ms0_2 t) (hs0_2 t) (ms0_3 t) (hs0_3 t) (ms0_4 t) (hs0_4 t)
    (iblk m c 0 t) (iblk m c 1 t) (iblk m c 2 t) (iblk m c 3 t) (iblk m c 4 t)

theorem fits (t : Fin cfg0.N) : Fits (L m c t) (x m c) (w m c) (b m c) t where
  x i s := by
    unfold L loads
    pointwise
    rw [View.readAt_eq_ld, (hs0_0 t).read_unread]
    refine (Rects.ld2 (F := Ideal) _ _ i s).trans ?_
    refine Eq.trans (congrArg₂ (fun a b => iblk m c 0 t (ix2 a b)) (Fin.ext (Nat.zero_add _)) (Fin.ext (Nat.zero_add _))) ((blk0 m c t i s).trans (rows m c _ s))
  w n s k := by
    unfold L loads
    dsimp only
    rw [View.readAt_eq_ld, (hs0_1 t).read_unread]
    refine (Rects.ld3 (F := Ideal) _ _ s k).trans ?_
    refine Eq.trans (congrArg (fun a => iblk m c 1 t (ix3 _ a _)) (Fin.ext (Nat.zero_add _))) ((blk1 m c t _ s _).trans ((weights m c _ s _).trans ?_))
    refine congrArg (w m c s) ?_
    show 2560 * (n.val / 5) + (512 * (n.val % 5) + k.val) = 512 * n.val + k.val
    omega
  b n k := by
    unfold L loads
    dsimp only
    rw [View.readAt_eq_ld, (hs0_2 t).read_unread]
    exact (Rects.ld2 (F := Ideal) _ _ 0 k).trans ((blk2 m c t _).trans (bias m c _))
  cos i d := by
    unfold L loads
    pointwise
    rw [View.readAt_eq_ld, (hs0_3 t).read_unread]
    refine (Rects.ld2 (F := Ideal) _ _ i d).trans ?_
    refine Eq.trans (congrArg₂ (fun a b => iblk m c 3 t (ix2 a b)) (Fin.ext (Nat.zero_add _)) (Fin.ext (Nat.zero_add _))) ((blk3 m c t i d).trans (cosines m c _ d))
  sin i d := by
    unfold L loads
    pointwise
    rw [View.readAt_eq_ld, (hs0_4 t).read_unread]
    refine (Rects.ld2 (F := Ideal) _ _ i d).trans ?_
    refine Eq.trans (congrArg₂ (fun a b => iblk m c 4 t (ix2 a b)) (Fin.ext (Nat.zero_add _)) (Fin.ext (Nat.zero_add _))) ((blk4 m c t i d).trans (sines m c _ d))

/-- What a grid point leaves in the output's block. -/
theorem written (t : Fin cfg0.N) (i : Fin 512) (k : Fin 10240) :
    outsAt0 m c t (ix2 i k) = Projection.out (x m c) (w m c) (b m c) (512 * t + i) k := by
  have hc := cover0_A_5 c (grid0.coords t) (ms0_0 t) (hs0_0 t) (ms0_1 t) (hs0_1 t) (ms0_2 t) (hs0_2 t) (ms0_3 t) (hs0_3 t)
    (ms0_4 t) (hs0_4 t) (ms0_5 t) (hs0_5 t) (iblk m c 0 t) (iblk m c 1 t) (iblk m c 2 t) (iblk m c 3 t) (iblk m c 4 t) (ix2 i k)
  unfold outsAt0 out0_A_5
  rw [View.read_writes_junk_eq_canon]
  rw [stores_eq] at hc ⊢
  exact (fits m c t).canon_stores _ hc

set_option maxRecDepth 100000 in
theorem array_rows (t : Fin cfg0.N) (i : Fin 512) (k : Fin 10240) :
    (dats m 0 c).arrAt 5 cfg0.N (ix2 ⟨512 * t + i, by have := lt8 t; omega⟩ k) = outsAt0 m c t (ix2 i k) := by
  have hb := congrFun (Value.blocks5 m c t (flush0_5 t)) (ix2 i k)
  rw [Value.flushed5] at hb
  refine Eq.trans (congrArg ((dats m 0 c).arrAt 5 cfg0.N) ?_) hb
  blk_ext [idx t]

/-- The array that the kernel returns. -/
theorem arr (r : Fin 4096) (k : Fin 10240) : (dats m 0 c).arrAt 5 cfg0.N (ix2 r k) = Projection.out (x m c) (w m c) (b m c) r k := by
  have hr : 512 * (r.val / 512) + r.val % 512 = r.val := by omega
  have h := (array_rows m c ⟨r.val / 512, lt_of_lt_of_eq (b := 8) (by omega) N_0.symm⟩ ⟨r.val % 512, by omega⟩ k).trans (written m c _ _ k)
  simp only [hr] at h
  exact h

end Cert.Kernel5Ideal.Proj

namespace Cert.Reference5Ideal.Proj
open Cert.Reference5Ideal Cert.Reference5Ideal.Gen Idealize.ShloMosaic Idealize.ShloMosaic.TcCoe Idealize.SL.Sem
open Projection Retention

variable (x0 : (⟨S4096x1024, .f32⟩ : BufTy).Contents (Elt Ideal)) (x1 : (⟨S1024x10240, .f32⟩ : BufTy).Contents (Elt Ideal))
  (x2 : (⟨S10240, .f32⟩ : BufTy).Contents (Elt Ideal))

def x (r : ℕ) (s : Fin 1024) : EReal := at2 (a := 4096) (b := 1024) (α := EReal) x0 r s
def w (s : Fin 1024) (k : ℕ) : EReal := at2 (a := 1024) (b := 10240) (α := EReal) x1 s k
def b (k : ℕ) : EReal := if h : k < 10240 then (x2 : S10240.Idx → EReal) (ix1 ⟨k, h⟩) else 0

theorem linear (r : Fin 4096) (k : Fin 10240) : Read.val_main_v19 x0 x1 x2 (ix2 r k) = lin (x x0) (w x1) (b x2) r k := by
  unfold Read.val_main_v19 Read.val_main_v18 Read.val_main_v17 Read.val_main_v16 lin
  pointwise
  have hb : b x2 k = x2 (ix1 k) := dif_pos k.isLt
  rw [hb]
  refine congrArg (· + x2 (ix1 k)) (Finset.sum_congr rfl fun s _ => ?_)
  exact congrArg₂ (fun a b : EReal => a * b) (at2_ix (α := EReal) x0 r s) (at2_ix (α := EReal) x1 s k)

theorem cosines (r : Fin 4096) (d : Fin 64) : Read.val_main_v13 (F := Ideal) (ix3 r 0 d) = Ideal.cos (angle r d) := by
  unfold Read.val_main_v13 Read.val_main_v12 Read.val_main_v11 Read.val_main_v10 Read.val_main_v9 Read.val_main_v8 Read.val_main_v7 Read.val_main_v6
    Read.val_main_v5 Read.val_main_v4 Read.val_main_v3 Read.val_main_v2 Read.val_main_v1 Read.val_main_v0 Read.val_main_cst Read.val_main_cst_0
  pointwise
  rfl

theorem sines (r : Fin 4096) (d : Fin 64) : Read.val_main_v15 (F := Ideal) (ix3 r 0 d) = Ideal.sin (angle r d) := by
  unfold Read.val_main_v15 Read.val_main_v14 Read.val_main_v11 Read.val_main_v10 Read.val_main_v9 Read.val_main_v8 Read.val_main_v7 Read.val_main_v6
    Read.val_main_v5 Read.val_main_v4 Read.val_main_v3 Read.val_main_v2 Read.val_main_v1 Read.val_main_v0 Read.val_main_cst Read.val_main_cst_0
  pointwise
  rfl

/-- A head's row of the projection, as the rotation takes it apart. -/
theorem rotated (r : Fin 4096) (o : ℕ) (d : Fin 128) (f : Fin 128 → EReal) (hf : ∀ k, f k = lin (x x0) (w x1) (b x2) r (o + k)) :
    (if h : d.val < 64 then f d * Read.val_main_v13 (F := Ideal) (ix3 r 0 ⟨d, h⟩) - f ⟨64 + d, by omega⟩ * Read.val_main_v15 (F := Ideal) (ix3 r 0 ⟨d, h⟩)
      else f ⟨64 + (d - 64), by omega⟩ * Read.val_main_v13 (F := Ideal) (ix3 r 0 ⟨d - 64, by omega⟩)
        + f ⟨d - 64, by omega⟩ * Read.val_main_v15 (F := Ideal) (ix3 r 0 ⟨d - 64, by omega⟩))
    = rot (fun k => lin (x x0) (w x1) (b x2) r (o + k)) r d := by
  unfold rot
  simp only [hf, cosines, sines]
  by_cases hd : d.val < 64
  · rw [dif_pos hd, if_pos hd]
  · have e : 64 + (d.val - 64) = d := by omega
    rw [dif_neg hd, if_neg hd, e]

theorem queries (r : Fin 4096) (h : Fin 8) (d : Fin 128) : Read.val_main_v36 x0 x1 x2 (ix3 r h d)
    = rot (fun k => lin (x x0) (w x1) (b x2) r (128 * h + k)) r d := by
  refine Eq.trans ?_ (rotated x0 x1 x2 r (128 * h) d (fun k => Read.val_main_v19 x0 x1 x2 (ix2 r ⟨128 * h + k, by omega⟩)) (fun k => linear x0 x1 x2 r _))
  unfold Read.val_main_v36 Read.val_main_v35 Read.val_main_v34 Read.val_main_v33 Read.val_main_v32 Read.val_main_v31 Read.val_main_v30
    Read.val_main_v29 Read.val_main_v28 Read.val_main_v27 Read.val_main_v26 Read.val_main_v25 Read.val_main_v24 Read.val_main_v23 Read.val_main_v20
  pointwise
  simp only [mul_comm h.val 128]

theorem keys (r : Fin 4096) (h : Fin 8) (d : Fin 128) : Read.val_main_v52 x0 x1 x2 (ix3 r h d)
    = rot (fun k => lin (x x0) (w x1) (b x2) r (1024 + 128 * h + k)) r d := by
  refine Eq.trans ?_ (rotated x0 x1 x2 r (1024 + 128 * h) d (fun k => Read.val_main_v19 x0 x1 x2 (ix2 r ⟨1024 + 128 * h + k, by omega⟩)) (fun k => linear x0 x1 x2 r _))
  unfold Read.val_main_v52 Read.val_main_v51 Read.val_main_v50 Read.val_main_v49 Read.val_main_v48 Read.val_main_v47 Read.val_main_v46
    Read.val_main_v45 Read.val_main_v44 Read.val_main_v43 Read.val_main_v42 Read.val_main_v41 Read.val_main_v40 Read.val_main_v39 Read.val_main_v21
  pointwise
  simp only [mul_comm h.val 128, ← add_assoc]

/-- What the reference returns. -/
theorem result (r : Fin 4096) (k : Fin 10240) : Read.val_main_v56 x0 x1 x2 (ix2 r k) = Projection.out (x x0) (w x1) (b x2) r k := by
  unfold Read.val_main_v56 Read.val_main_v55 Read.val_main_v54 Read.val_main_v53 Read.val_main_v38 Read.val_main_v37 Read.val_main_v22 Read.val_main_cst_1 Projection.out Projection.turn
  pointwise
  by_cases h1 : k.val < 1024
  · rw [dif_pos h1, if_pos h1]
    exact congrArg (· * scl) (queries x0 x1 x2 r ⟨k / 128, by omega⟩ ⟨k % 128, by omega⟩)
  · rw [dif_neg h1, if_neg h1]
    by_cases h2 : k.val < 2048
    · rw [dif_pos (by omega), if_pos h2]
      refine (keys x0 x1 x2 r ⟨(k - 1024) / 128, by omega⟩ ⟨(k - 1024) % 128, by omega⟩).trans ?_
      have e1 : 1024 + 128 * ((k.val - 1024) / 128) = 128 * (k.val / 128) := by omega
      have e2 : (k.val - 1024) % 128 = k.val % 128 := by omega
      simp only [e1, e2]
    · rw [dif_neg (by omega), if_neg h2]
      have e : 2048 + (k.val - 1024 - 1024) = k.val := by omega
      exact (linear x0 x1 x2 r ⟨2048 + (k - 1024 - 1024), by omega⟩).trans (congrArg (lin (x x0) (w x1) (b x2) r) e)

/-- The arguments end as they began, and every semaphore (there is none) at zero. -/
theorem frame (m : (ℓ : Loc nD τ sig) → Buf (Elt Ideal) ℓ) (ρ : Dev nD → PrngReg) : θ_run defs (onTc (τ := τ) main) ⟨m, fun _ => 0, ρ⟩
    (fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c => (h c).2, sem_eq_zero_of_no_sems rfl _⟩) (Value.run m ρ)

end Cert.Reference5Ideal.Proj
end
-- ==== Proof.ProjEqual.lean ====
module
public import proofs.«01_k».proof.Defs
public import proofs.«01_k».proof.Proof.Proj
@[expose] public section

/-!
# The input projection: the kernel returns what the reference returns
-/
noncomputable section
namespace Cert.Proof.Proj
open Idealize.ShloMosaic Idealize.SL.Sem

theorem algebraic : Cert.algebraic_Kernel5Ideal_Reference5Ideal (hKernel5Ideal := Cert.Kernel5Ideal.Gen.facts) (hReference5Ideal := Cert.Reference5Ideal.Gen.facts) := by
  intro m g m' g' _ hm
  refine ⟨fun c => (Cert.Kernel5Ideal.Gen.dats m 0 c).arrAt 5 Cert.Kernel5Ideal.cfg0.N, Cert.Kernel5Ideal.Value.run_blocks m g, ?_⟩
  refine (θ_run Cert.Reference5Ideal.defs _ _).mono (fun r h c => ?_) (Cert.Reference5Ideal.Value.run m' g')
  obtain ⟨h0, h1, h2⟩ := hm c
  refine ⟨(h c).1.trans ((Cert.Reference5Ideal.Read.val_main_v56_eq _ _).trans (funext fun i => ?_)), (h c).2⟩
  obtain ⟨a, j, rfl⟩ : ∃ (a : Fin 4096) (j : Fin 10240), i = ix2 a j := ⟨i 0, i 1, (ix2_eta i).symm⟩
  rw [h0, h1, h2]
  exact (Cert.Reference5Ideal.Proj.result _ _ _ a j).trans (Cert.Kernel5Ideal.Proj.arr m c a j).symm

end Cert.Proof.Proj
end
-- ==== Proof.Up.lean ====
module
public import proofs.«01_k».proof.Proof.Rects
public import proofs.«01_k».proof.Proof.Gen.Kernel6Ideal.Value
public import proofs.«01_k».proof.Proof.Gen.Reference6Ideal.Run
public import proofs.«01_k».proof.Proof.Gen.Reference6Ideal.Read
public import Idealize.ShloMosaic.Lib.StableHlo.ReadAt
public import Idealize.ShloMosaic.Lib.Pipeline.ValueKit
public import Idealize.ShloMosaic.Lib.Quiescent
@[expose] public section

/-!
# The gate, the up projection and the hidden activation of a feed-forward layer

The hidden activation is the gate times its sigmoid times the up projection. The 2816 hidden columns lie in four groups of 704,
each followed by 64 zeros.
-/
noncomputable section
namespace Ffn
open Idealize.ShloMosaic

/-- A projection at a token and a hidden column. -/
def lin (x : Fin 4096 → Fin 1024 → EReal) (w : Fin 1024 → Fin 2816 → EReal) (r : Fin 4096) (k : Fin 2816) : EReal :=
  ∑ s : Fin 1024, x r s * w s k

/-- The activation of a gate and an up projection. -/
def act (a b : EReal) : EReal := a * Ideal.div 1 (1 + Ideal.exp (-a)) * b

/-- The groups of 704 columns, each followed by 64 zeros. -/
def padded (f : Fin 4096 → Fin 2816 → EReal) (r : Fin 4096) (j : Fin 4) (k : Fin 768) : EReal :=
  if h : k.val < 704 then f r ⟨704 * j + k, by omega⟩ else 0

theorem padded_lin (x : Fin 4096 → Fin 1024 → EReal) (w : Fin 1024 → Fin 2816 → EReal) (r : Fin 4096) (j : Fin 4) (k : Fin 768) :
    ∑ s : Fin 1024, x r s * (if h : k.val < 704 then w s ⟨704 * j + k, by omega⟩ else 0) = padded (lin x w) r j k := by
  unfold padded lin
  by_cases h : k.val < 704
  · rw [dif_pos h]; exact Finset.sum_congr rfl fun s _ => congrArg (x r s * ·) (dif_pos h)
  · rw [dif_neg h]; exact Finset.sum_eq_zero fun s _ => by rw [dif_neg h, mul_zero]

/-- The activation of padded columns is the padded activation. -/
theorem padded_act (f g : Fin 4096 → Fin 2816 → EReal) (r : Fin 4096) (j : Fin 4) (k : Fin 768) :
    act (padded f r j k) (padded g r j k) = padded (fun r k => act (f r k) (g r k)) r j k := by
  unfold padded
  by_cases h : k.val < 704
  · rw [dif_pos h, dif_pos h, dif_pos h]
  · rw [dif_neg h, dif_neg h, dif_neg h]; exact mul_zero _

/-- A column of the padded array, found again from its group and its place there. -/
theorem split {α : Type} {n : ℕ} (f : Fin n → Fin 4 → Fin 768 → α) (i i' : Fin n) (j : Fin 4) (k : Fin 768) (q : ℕ) (hi : i'.val = i.val)
    (hq : q = 768 * j.val + k.val) : f i' ⟨q / 768, by omega⟩ ⟨q % 768, by omega⟩ = f i j k := by
  have h0 : i' = i := Fin.ext hi
  have h1 : (⟨q / 768, by omega⟩ : Fin 4) = j := Fin.ext (by show q / 768 = j.val; omega)
  have h2 : (⟨q % 768, by omega⟩ : Fin 768) = k := Fin.ext (by show q % 768 = k.val; omega)
  rw [h0, h1, h2]

/-- The hidden activation. -/
def hidden (x : Fin 4096 → Fin 1024 → EReal) (wg wu : Fin 1024 → Fin 2816 → EReal) (r : Fin 4096) (k : Fin 2816) : EReal :=
  act (lin x wg r k) (lin x wu r k)

end Ffn

namespace Cert.Kernel6Ideal.Up
open Cert.Kernel6Ideal Cert.Kernel6Ideal.Gen Idealize.ShloMosaic Idealize.ShloMosaic.TcCoe Idealize.SL.Sem

/-- The product of a block of rows with one group's weights, `o` choosing the gate's or the up projection's. -/
def term (x : Vec Ideal S512x1024 .bf16) (w : Vec Ideal S4x1024x1536 .bf16) (o : Fin 2) (i : Fin 512) (j : Fin 4) (k : Fin 768) : EReal :=
  ∑ s : Fin 1024, x (ix2 i s) * w (ix3 j s ⟨768 * o + k, by omega⟩)

/-- The product of the loads. -/
def prod (x : Vec Ideal S512x1024 .bf16) (w : Vec Ideal S1x1024x768 .bf16) (i : Fin 512) (k : Fin 768) : EReal :=
  ∑ s : Fin 1024, x (ix2 i s) * w (ix3 0 s k)

theorem prod_term (x : Vec Ideal S512x1024 .bf16) (w : Vec Ideal S4x1024x1536 .bf16) (o : Fin 2) (j : Fin 4)
    (inb : ∀ b : Fin 2, (![0, 0] : Fin 2 → ℕ) b + (![512, 1024] : Fin 2 → ℕ) b ≤ (![512, 1024] : Fin 2 → ℕ) b)
    (inb' : ∀ b : Fin 3, (![j.val, 0, 768 * o.val] : Fin 3 → ℕ) b + (![1, 1024, 768] : Fin 3 → ℕ) b ≤ (![4, 1024, 1536] : Fin 3 → ℕ) b)
    (i : Fin 512) (k : Fin 768) :
    prod (View.ld x (Rect.unit (s := S512x1024) ![0, 0] ![512, 1024] inb))
      (View.ld w (Rect.unit (s := S4x1024x1536) ![j.val, 0, 768 * o.val] ![1, 1024, 768] inb')) i k = term x w o i j k := by
  unfold prod term
  refine Finset.sum_congr rfl fun s _ => congrArg₂ (· * ·) ?_ ?_
  · exact (Rects.ld2 (F := Ideal) x inb i s).trans (congrArg₂ (fun a b => x (ix2 a b)) (Fin.ext (Nat.zero_add _)) (Fin.ext (Nat.zero_add _)))
  · exact (Rects.ld3 (F := Ideal) w inb' s k).trans (congrArg (fun a => w (ix3 _ a _)) (Fin.ext (Nat.zero_add _)))

theorem gate_pay (x : Vec Ideal S512x1024 .bf16) (w : Vec Ideal S1x1024x768 .bf16) (i : Fin 512) (k : Fin 768) :
    k0_pay10 x w (ix2 i k) = prod x w i k := by
  unfold k0_pay10 k0_pay8 k0_pay7 prod
  pointwise

theorem act_pay (x : Vec Ideal S512x1024 .bf16) (w u : Vec Ideal S1x1024x768 .bf16) (i : Fin 512) (k : Fin 768) :
    k0_pay12 x w u (ix2 i k) = Ffn.act (prod x w i k) (prod x u i k) := by
  unfold k0_pay12 k0_pay9 k0_pay8 k0_pay7 prod Ffn.act
  pointwise
  rw [zero_sub]

/-- The four stores of an output, one for each group of columns. -/
theorem stored (f : Fin 512 → Fin 4 → Fin 768 → EReal) (p0 p1 p2 p3 : Vec Ideal S512x768 .bf16)
    (h0 : ∀ i k, p0 (ix2 i k) = f i 0 k) (h1 : ∀ i k, p1 (ix2 i k) = f i 1 k) (h2 : ∀ i k, p2 (ix2 i k) = f i 2 k) (h3 : ∀ i k, p3 (ix2 i k) = f i 3 k)
    (i : Fin 512) (j : Fin 4) (k : Fin 768) :
    (View.canon [⟨r0_12, p3⟩, ⟨r0_9, p2⟩, ⟨r0_6, p1⟩, ⟨r0_3, p0⟩] : Vec Ideal S512x3072 .bf16) (ix2 i ⟨768 * j + k, by omega⟩) = f i j k := by
  have hG (a : Fin 4) (p : Vec Ideal S512x768 .bf16) (hp : ∀ i k, p (ix2 i k) = f i a k)
      (inb : ∀ b : Fin 2, (![0, 768 * a.val] : Fin 2 → ℕ) b + (![512, 768] : Fin 2 → ℕ) b ≤ (![512, 3072] : Fin 2 → ℕ) b) (x : S512x768.Idx) :
      p x = (fun y : S512x3072.Idx => f (y 0) ⟨(y 1).val / 768, Nat.div_lt_of_lt_mul (y 1).isLt⟩ ⟨(y 1).val % 768, Nat.mod_lt _ (by decide)⟩)
        ((Rect.unit (s := S512x3072) ![0, 768 * a.val] ![512, 768] inb).emb x) := by
    obtain ⟨i, k, rfl⟩ : ∃ (i : Fin 512) (k : Fin 768), x = ix2 i k := ⟨x 0, x 1, (ix2_eta x).symm⟩
    rw [Rects.emb inb i k]
    exact (hp i k).trans (Ffn.split f i _ a k _ (Nat.zero_add _) rfl).symm
  refine (View.canon_apply_of_pieces (Val := Elt Ideal)
    (fun y : S512x3072.Idx => f (y 0) ⟨(y 1).val / 768, Nat.div_lt_of_lt_mul (y 1).isLt⟩ ⟨(y 1).val % 768, Nat.mod_lt _ (by decide)⟩) _ ?_ _
    (cover0_2 _ _ _ _ _)).trans (Ffn.split f i i j k _ rfl rfl)
  intro pc hpc
  rcases List.mem_cons.mp hpc with rfl | hpc
  · exact hG 3 p3 h3 inb_S512x3072_S512x768_0_2304
  rcases List.mem_cons.mp hpc with rfl | hpc
  · exact hG 2 p2 h2 inb_S512x3072_S512x768_0_1536
  rcases List.mem_cons.mp hpc with rfl | hpc
  · exact hG 1 p1 h1 inb_S512x3072_S512x768_0_768
  rcases List.mem_cons.mp hpc with rfl | hpc
  · exact hG 0 p0 h0 inb_S512x3072_S512x768_0_0
  nomatch hpc

section block
variable (x : Vec Ideal S512x1024 .bf16) (w : Vec Ideal S4x1024x1536 .bf16) (i : Fin 512) (j : Fin 4) (k : Fin 768)

theorem gate_block : out0_2 x w (ix2 i ⟨768 * j + k, by omega⟩) = term x w 0 i j k :=
  stored (term x w 0) _ _ _ _ (fun i k => (gate_pay _ _ i k).trans (prod_term x w 0 0 _ _ i k)) (fun i k => (gate_pay _ _ i k).trans (prod_term x w 0 1 _ _ i k))
    (fun i k => (gate_pay _ _ i k).trans (prod_term x w 0 2 _ _ i k)) (fun i k => (gate_pay _ _ i k).trans (prod_term x w 0 3 _ _ i k)) i j k

theorem up_block : out0_3 x w (ix2 i ⟨768 * j + k, by omega⟩) = term x w 1 i j k :=
  stored (term x w 1) _ _ _ _ (fun i k => (gate_pay _ _ i k).trans (prod_term x w 1 0 _ _ i k)) (fun i k => (gate_pay _ _ i k).trans (prod_term x w 1 1 _ _ i k))
    (fun i k => (gate_pay _ _ i k).trans (prod_term x w 1 2 _ _ i k)) (fun i k => (gate_pay _ _ i k).trans (prod_term x w 1 3 _ _ i k)) i j k

theorem act_block : out0_4 x w (ix2 i ⟨768 * j + k, by omega⟩) = Ffn.act (term x w 0 i j k) (term x w 1 i j k) := by
  have h (a : Fin 4) (inb inb' inb'') (i : Fin 512) (k : Fin 768) :=
    (act_pay _ _ _ i k).trans (congrArg₂ Ffn.act (prod_term x w 0 a inb inb' i k) (prod_term x w 1 a inb inb'' i k))
  exact stored (fun i j k => Ffn.act (term x w 0 i j k) (term x w 1 i j k)) _ _ _ _ (h 0 _ _ _) (h 1 _ _ _) (h 2 _ _ _) (h 3 _ _ _) i j k

end block

variable (m : (ℓ : Loc nD τ sig) → Buf (Elt Ideal) ℓ) (c : Dev nD)

def x (r : Fin 4096) (s : Fin 1024) : EReal := m (c, Proc.tc.devRef main_arg0) (ix2 r s)
def wg (s : Fin 1024) (k : Fin 2816) : EReal := m (c, Proc.tc.devRef main_arg1) (ix2 s k)
def wu (s : Fin 1024) (k : Fin 2816) : EReal := m (c, Proc.tc.devRef main_arg2) (ix2 s k)

theorem rows (r : Fin 4096) (s : Fin 1024) : V m c main_v0 (ix2 r s) = x m c r s := by
  unfold V
  after_reads_at
  try rfl
theorem weightsGate (j : Fin 4) (s : Fin 1024) (k : Fin 768) : V m c main_v8 (ix3 j s ⟨768 * (0 : Fin 2) + k, by omega⟩)
    = if h : k.val < 704 then wg m c s ⟨704 * j + k, by omega⟩ else 0 := by
  unfold V
  after_reads_at
  after_reads_at
  simp only [mul_comm j.val 704, Rects.int_zero]
  rfl
theorem weightsUp (j : Fin 4) (s : Fin 1024) (k : Fin 768) : V m c main_v8 (ix3 j s ⟨768 * (1 : Fin 2) + k, by omega⟩)
    = if h : k.val < 704 then wu m c s ⟨704 * j + k, by omega⟩ else 0 := by
  unfold V
  after_reads_at
  after_reads_at
  simp only [mul_comm j.val 704, Rects.int_zero]
  rfl

theorem idx : ∀ t : Fin cfg0.N, win0_0.index t = ![t.val, 0] ∧ win0_1.index t = ![0, 0, 0]
    ∧ win0_2.index t = ![t.val, 0] ∧ win0_3.index t = ![t.val, 0] ∧ win0_4.index t = ![t.val, 0] := by
  decide +kernel

theorem lt8 (t : Fin cfg0.N) : t.val < 8 := lt_of_lt_of_eq t.isLt N_0

theorem blk0 (t : Fin cfg0.N) (i : Fin 512) (s : Fin 1024) :
    iblk m c 0 t (ix2 i s) = V m c main_v0 (ix2 ⟨512 * t + i, by have := lt8 t; omega⟩ s) := by
  blk_ext [iblk, idx t]
theorem blk1 (t : Fin cfg0.N) (j : Fin 4) (s : Fin 1024) (k : Fin 1536) :
    iblk m c 1 t (ix3 j s k) = V m c main_v8 (ix3 j s k) := by
  blk_ext [iblk, idx t]

theorem termGate (t : Fin cfg0.N) (i : Fin 512) (j : Fin 4) (k : Fin 768) :
    term (iblk m c 0 t) (iblk m c 1 t) 0 i j k = Ffn.padded (Ffn.lin (x m c) (wg m c)) ⟨512 * t + i, by have := lt8 t; omega⟩ j k :=
  Eq.trans (Finset.sum_congr rfl fun s _ => congrArg₂ (· * ·) ((blk0 m c t i s).trans (rows m c _ s)) ((blk1 m c t j s _).trans (weightsGate m c j s k)))
    (Ffn.padded_lin _ _ _ j k)
theorem termUp (t : Fin cfg0.N) (i : Fin 512) (j : Fin 4) (k : Fin 768) :
    term (iblk m c 0 t) (iblk m c 1 t) 1 i j k = Ffn.padded (Ffn.lin (x m c) (wu m c)) ⟨512 * t + i, by have := lt8 t; omega⟩ j k :=
  Eq.trans (Finset.sum_congr rfl fun s _ => congrArg₂ (· * ·) ((blk0 m c t i s).trans (rows m c _ s)) ((blk1 m c t j s _).trans (weightsUp m c j s k)))
    (Ffn.padded_lin _ _ _ j k)

theorem gate_written (t : Fin cfg0.N) (i : Fin 512) (j : Fin 4) (k : Fin 768) : out0_2 (iblk m c 0 t) (iblk m c 1 t) (ix2 i ⟨768 * j + k, by omega⟩)
    = Ffn.padded (Ffn.lin (x m c) (wg m c)) ⟨512 * t + i, by have := lt8 t; omega⟩ j k :=
  (gate_block _ _ i j k).trans (termGate m c t i j k)
theorem up_written (t : Fin cfg0.N) (i : Fin 512) (j : Fin 4) (k : Fin 768) : out0_3 (iblk m c 0 t) (iblk m c 1 t) (ix2 i ⟨768 * j + k, by omega⟩)
    = Ffn.padded (Ffn.lin (x m c) (wu m c)) ⟨512 * t + i, by have := lt8 t; omega⟩ j k :=
  (up_block _ _ i j k).trans (termUp m c t i j k)
theorem act_written (t : Fin cfg0.N) (i : Fin 512) (j : Fin 4) (k : Fin 768) : out0_4 (iblk m c 0 t) (iblk m c 1 t) (ix2 i ⟨768 * j + k, by omega⟩)
    = Ffn.padded (Ffn.hidden (x m c) (wg m c) (wu m c)) ⟨512 * t + i, by have := lt8 t; omega⟩ j k :=
  (act_block _ _ i j k).trans ((congrArg₂ Ffn.act (termGate m c t i j k) (termUp m c t i j k)).trans (Ffn.padded_act _ _ _ j k))

/-- The grid point that writes a row. -/
def point (r : Fin 4096) : Fin cfg0.N := ⟨r.val / 512, lt_of_lt_of_eq (b := 8) (by omega) N_0.symm⟩

/-- An array whose blocks of 512 rows the grid points write, from what each of them writes. -/
theorem at_row (g : S4096x3072.Idx → EReal) (f : Fin 4096 → Fin 4 → Fin 768 → EReal) (o : Fin cfg0.N → S512x3072.Idx → EReal)
    (hg : ∀ (t : Fin cfg0.N) (i : Fin 512) (s : Fin 3072), g (ix2 ⟨512 * t + i, by have := lt8 t; omega⟩ s) = o t (ix2 i s))
    (ho : ∀ (t : Fin cfg0.N) (i : Fin 512) (j : Fin 4) (k : Fin 768), o t (ix2 i ⟨768 * j + k, by omega⟩) = f ⟨512 * t + i, by have := lt8 t; omega⟩ j k)
    (r : Fin 4096) (j : Fin 4) (k : Fin 768) : g (ix2 r ⟨768 * j + k, by omega⟩) = f r j k := by
  have hr : (⟨512 * (point r).val + r.val % 512, by show 512 * (r.val / 512) + r.val % 512 < 4096; omega⟩ : Fin 4096) = r :=
    Fin.ext (by show 512 * (r.val / 512) + r.val % 512 = r.val; omega)
  have h := (hg (point r) ⟨r.val % 512, by omega⟩ _).trans (ho (point r) ⟨r.val % 512, by omega⟩ j k)
  rwa [hr] at h

theorem gate_rows (t : Fin cfg0.N) (i : Fin 512) (s : Fin 3072) : (dats m 0 c).arrAt 2 cfg0.N (ix2 ⟨512 * t + i, by have := lt8 t; omega⟩ s)
    = out0_2 (iblk m c 0 t) (iblk m c 1 t) (ix2 i s) := by
  have hb := congrFun (Value.blocks2 m c t (flush0_2 t)) (ix2 i s)
  rw [Value.flushed2] at hb
  refine Eq.trans (congrArg ((dats m 0 c).arrAt 2 cfg0.N) ?_) hb
  blk_ext [idx t]
theorem up_rows (t : Fin cfg0.N) (i : Fin 512) (s : Fin 3072) : (dats m 0 c).arrAt 3 cfg0.N (ix2 ⟨512 * t + i, by have := lt8 t; omega⟩ s)
    = out0_3 (iblk m c 0 t) (iblk m c 1 t) (ix2 i s) := by
  have hb := congrFun (Value.blocks3 m c t (flush0_3 t)) (ix2 i s)
  rw [Value.flushed3] at hb
  refine Eq.trans (congrArg ((dats m 0 c).arrAt 3 cfg0.N) ?_) hb
  blk_ext [idx t]
theorem act_rows (t : Fin cfg0.N) (i : Fin 512) (s : Fin 3072) : (dats m 0 c).arrAt 4 cfg0.N (ix2 ⟨512 * t + i, by have := lt8 t; omega⟩ s)
    = out0_4 (iblk m c 0 t) (iblk m c 1 t) (ix2 i s) := by
  have hb := congrFun (Value.blocks4 m c t (flush0_4 t)) (ix2 i s)
  rw [Value.flushed4] at hb
  refine Eq.trans (congrArg ((dats m 0 c).arrAt 4 cfg0.N) ?_) hb
  blk_ext [idx t]

/-- The arrays that the kernel returns. -/
theorem gate_arr (r : Fin 4096) (j : Fin 4) (k : Fin 768) :
    (dats m 0 c).arrAt 2 cfg0.N (ix2 r ⟨768 * j + k, by omega⟩) = Ffn.padded (Ffn.lin (x m c) (wg m c)) r j k :=
  at_row _ _ _ (gate_rows m c) (gate_written m c) r j k
theorem up_arr (r : Fin 4096) (j : Fin 4) (k : Fin 768) :
    (dats m 0 c).arrAt 3 cfg0.N (ix2 r ⟨768 * j + k, by omega⟩) = Ffn.padded (Ffn.lin (x m c) (wu m c)) r j k :=
  at_row _ _ _ (up_rows m c) (up_written m c) r j k
theorem act_arr (r : Fin 4096) (j : Fin 4) (k : Fin 768) :
    (dats m 0 c).arrAt 4 cfg0.N (ix2 r ⟨768 * j + k, by omega⟩) = Ffn.padded (Ffn.hidden (x m c) (wg m c) (wu m c)) r j k :=
  at_row _ _ _ (act_rows m c) (act_written m c) r j k

end Cert.Kernel6Ideal.Up

namespace Cert.Reference6Ideal.Up
open Cert.Reference6Ideal Cert.Reference6Ideal.Gen Idealize.ShloMosaic Idealize.ShloMosaic.TcCoe Idealize.SL.Sem

variable (x0 : (⟨S4096x1024, .f32⟩ : BufTy).Contents (Elt Ideal)) (x1 x2 : (⟨S1024x2816, .f32⟩ : BufTy).Contents (Elt Ideal))
  (r : Fin 4096) (j : Fin 4) (k : Fin 768)

theorem gate : Read.val_main_v7 x0 x1 (ix2 r ⟨768 * j + k, by omega⟩)
    = Ffn.padded (Ffn.lin (fun r s => x0 (ix2 r s)) (fun s k => x1 (ix2 s k))) r j k := by
  unfold Read.val_main_v7 Read.val_main_v6 Read.val_main_v5 Read.val_main_v4 Read.val_main_v0 Read.val_main_call1_v0 Read.val_main_c
  pointwise
  have h1 : (768 * j.val + k.val) / 768 = j := by omega
  have h2 : (768 * j.val + k.val) % 768 = k := by omega
  simp only [h1, h2, j.isLt, true_and, mul_comm j.val 704, Rects.int_zero]
  rfl

theorem up : Read.val_main_v11 x0 x2 (ix2 r ⟨768 * j + k, by omega⟩)
    = Ffn.padded (Ffn.lin (fun r s => x0 (ix2 r s)) (fun s k => x2 (ix2 s k))) r j k := gate x0 x2 r j k

theorem hidden (k : Fin 2816) : Read.val_main_v3 x0 x1 x2 (ix2 r k)
    = Ffn.hidden (fun r s => x0 (ix2 r s)) (fun s k => x1 (ix2 s k)) (fun s k => x2 (ix2 s k)) r k := by
  unfold Read.val_main_v3 Read.val_main_v2 Read.val_main_v1 Read.val_main_v0 Read.val_main_call0_v5 Read.val_main_call0_v4 Read.val_main_call0_v3
    Read.val_main_call0_v2 Read.val_main_call0_v1 Read.val_main_call0_v0 Read.val_main_v0 Read.val_main_call0_cst Read.val_main_call0_cst_0 Ffn.hidden Ffn.act Ffn.lin
  pointwise

theorem act : Read.val_main_v15 x0 x1 x2 (ix2 r ⟨768 * j + k, by omega⟩)
    = Ffn.padded (Ffn.hidden (fun r s => x0 (ix2 r s)) (fun s k => x1 (ix2 s k)) (fun s k => x2 (ix2 s k))) r j k := by
  unfold Read.val_main_v15 Read.val_main_v14 Read.val_main_v13 Read.val_main_v12 Read.val_main_call3_v0 Read.val_main_c_1 Ffn.padded
  pointwise
  have h1 : (768 * j.val + k.val) / 768 = j := by omega
  have h2 : (768 * j.val + k.val) % 768 = k := by omega
  simp only [h1, h2, j.isLt, true_and, mul_comm j.val 704, Rects.int_zero, hidden]

/-- The arguments end as they began, and every semaphore (there is none) at zero. -/
theorem frame (m : (ℓ : Loc nD τ sig) → Buf (Elt Ideal) ℓ) (ρ : Dev nD → PrngReg) : θ_run defs (onTc (τ := τ) main) ⟨m, fun _ => 0, ρ⟩
    (fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c => (h c).2.2.2, sem_eq_zero_of_no_sems rfl _⟩) (Value.run m ρ)

end Cert.Reference6Ideal.Up
end
-- ==== Proof.UpEqual.lean ====
module
public import proofs.«01_k».proof.Defs
public import proofs.«01_k».proof.Proof.Up
@[expose] public section

/-!
# The gate, the up projection and the hidden activation: the kernel returns what the reference returns
-/
noncomputable section
namespace Cert.Proof.Up
open Idealize.ShloMosaic Idealize.SL.Sem

theorem algebraic : Cert.algebraic_Kernel6Ideal_Reference6Ideal (hKernel6Ideal := Cert.Kernel6Ideal.Gen.facts) (hReference6Ideal := Cert.Reference6Ideal.Gen.facts) := by
  intro m g m' g' _ hm
  refine ⟨fun c => (Cert.Kernel6Ideal.Gen.dats m 0 c).arrAt 2 Cert.Kernel6Ideal.cfg0.N, fun c => (Cert.Kernel6Ideal.Gen.dats m 0 c).arrAt 3 Cert.Kernel6Ideal.cfg0.N,
    fun c => (Cert.Kernel6Ideal.Gen.dats m 0 c).arrAt 4 Cert.Kernel6Ideal.cfg0.N, Cert.Kernel6Ideal.Value.run_blocks m g, ?_⟩
  refine (θ_run Cert.Reference6Ideal.defs _ _).mono (fun r h c => ?_) (Cert.Reference6Ideal.Value.run m' g')
  obtain ⟨h0, h1, h2⟩ := hm c
  have hi (i : Cert.Kernel6Ideal.S4096x3072.Idx) : ∃ (a : Fin 4096) (j : Fin 4) (k : Fin 768), i = ix2 a ⟨768 * j + k, by omega⟩ := by
    have hk : (i 1).val < 3072 := (i 1).isLt
    exact ⟨i 0, ⟨(i 1).val / 768, by omega⟩, ⟨(i 1).val % 768, by omega⟩,
      (ix2_eta i).symm.trans (congrArg (ix2 (i 0)) (Fin.ext (Nat.div_add_mod _ _).symm))⟩
  refine ⟨(h c).1.trans ((Cert.Reference6Ideal.Read.val_main_v7_eq _ _).trans (funext fun i => ?_)),
    (h c).2.1.trans ((Cert.Reference6Ideal.Read.val_main_v11_eq _ _).trans (funext fun i => ?_)),
    (h c).2.2.1.trans ((Cert.Reference6Ideal.Read.val_main_v15_eq _ _ _).trans (funext fun i => ?_)), (h c).2.2.2⟩
  all_goals
    obtain ⟨a, j, k, rfl⟩ := hi i
    simp only [h0, h1, h2]
  · exact (Cert.Reference6Ideal.Up.gate _ _ a j k).trans (Cert.Kernel6Ideal.Up.gate_arr m c a j k).symm
  · exact (Cert.Reference6Ideal.Up.up _ _ a j k).trans (Cert.Kernel6Ideal.Up.up_arr m c a j k).symm
  · exact (Cert.Reference6Ideal.Up.act _ _ _ a j k).trans (Cert.Kernel6Ideal.Up.act_arr m c a j k).symm

end Cert.Proof.Up
end
-- ==== Proof.Adam.lean ====
module
public import Idealize.ShloMosaic.Lib.Pointwise
@[expose] public section

/-!
# The AdamW step of one number

Both programs do it element by element.
-/
noncomputable section
namespace Adam
open Idealize.ShloMosaic

/-- A constant of the step, by its float word. -/
def lit (w : BitVec 32) : EReal := Ideal.ofBits .f32 w

/-- The first moment after the step: `0.9 m + 0.1 g`. -/
def newM (g m : EReal) : EReal := lit 0x3F666666#32 * m + lit 0x3DCCCCCD#32 * g

/-- The second moment after the step: `0.999 v + 0.001 g²`. -/
def newV (g v : EReal) : EReal := lit 0x3F7FBE77#32 * v + lit 0x3A83126F#32 * (g * g)

/-- The weight's change: `-0.001 (m̂ / (√v̂ + 1e-8) + 0.01 w)`, `m̂` and `v̂` the moments without their bias. -/
def delta (w g m v : EReal) : EReal :=
  lit 0xBA83126F#32 * (Ideal.div (Ideal.div (newM g m) (lit 0x3F26BD02#32))
    (Ideal.sqrt (Ideal.div (newV g v) (lit 0x3C231ACC#32)) + lit 0x322BCC77#32) + lit 0x3C23D70A#32 * w)

/-- A block is read and written whole. -/
theorem zero2 : (![0, 0] : Fin 2 → ℕ) = fun _ => 0 := by
  funext b
  match b with
  | ⟨0, _⟩ => rfl
  | ⟨1, _⟩ => rfl

theorem below {N B R : ℕ} (h : N * B = R) (t : Fin N) (i : Fin B) : B * t.val + i.val < R := by
  have h1 : B * (t.val + 1) ≤ B * N := Nat.mul_le_mul_left B t.isLt
  have h2 := i.isLt
  rw [Nat.mul_add, Nat.mul_one] at h1
  rw [Nat.mul_comm] at h
  omega

/-- Two arrays that agree on every block of `B` rows agree. -/
theorem of_blocks {N B R C : ℕ} (h : N * B = R) (p q : Fin R → Fin C → EReal)
    (hpq : ∀ (t : Fin N) (i : Fin B) (s : Fin C), p ⟨B * t + i, below h t i⟩ s = q ⟨B * t + i, below h t i⟩ s) (r : Fin R) (s : Fin C) : p r s = q r s := by
  have hr : r.val < B * N := lt_of_lt_of_eq r.isLt (h.symm.trans (Nat.mul_comm N B))
  have hB : 0 < B := Nat.pos_of_mul_pos_right (Nat.lt_of_le_of_lt (Nat.zero_le _) hr)
  have hr := hpq ⟨r.val / B, Nat.div_lt_of_lt_mul hr⟩ ⟨r.val % B, Nat.mod_lt _ hB⟩ s
  simp only [Nat.div_add_mod] at hr
  exact hr

end Adam
end
-- ==== Proof.AdamIn.lean ====
module
public import proofs.«01_k».proof.Proof.Adam
public import proofs.«01_k».proof.Proof.Gen.Kernel7Ideal.Value
public import proofs.«01_k».proof.Proof.Gen.Reference7Ideal.Run
public import proofs.«01_k».proof.Proof.Gen.Reference7Ideal.Read
public import Idealize.ShloMosaic.Lib.StableHlo.ReadAt
public import Idealize.ShloMosaic.Lib.Pipeline.ValueKit
public import Idealize.ShloMosaic.Lib.Quiescent
@[expose] public section

/-!
# The AdamW step of the input projection's weights

The kernel goes through blocks of 128 rows; a row is written once, by the point `row / 128`.
-/
noncomputable section

namespace Cert.Kernel7Ideal.Adam
open Cert.Kernel7Ideal Cert.Kernel7Ideal.Gen Idealize.ShloMosaic Idealize.ShloMosaic.TcCoe Idealize.SL.Sem

theorem whole (v : Vec Ideal S128x2560 .f32) : View.ld (Val := Elt Ideal) v r0_0 = v := View.ld_unit_zero Adam.zero2 _ v

section
variable (v0 v1 v2 v3 : Vec Ideal S128x2560 .f32) (y : S128x2560.Idx)
theorem out4 : out0_4 v0 v1 v2 v3 y = v1 y := by
  unfold out0_4
  rw [View.canon_unit_zero (Val := Elt Ideal) Adam.zero2, whole]
theorem out5 : out0_5 v0 v1 v2 v3 y = Adam.delta (v0 y) (v1 y) (v2 y) (v3 y) := by
  unfold out0_5
  rw [View.canon_unit_zero (Val := Elt Ideal) Adam.zero2]
  simp only [whole]
  rfl
theorem out6 : out0_6 v0 v1 v2 v3 y = Adam.newM (v1 y) (v2 y) := by
  unfold out0_6
  rw [View.canon_unit_zero (Val := Elt Ideal) Adam.zero2]
  simp only [whole]
  rfl
theorem out7 : out0_7 v0 v1 v2 v3 y = Adam.newV (v1 y) (v3 y) := by
  unfold out0_7
  rw [View.canon_unit_zero (Val := Elt Ideal) Adam.zero2]
  simp only [whole]
  rfl
end

variable (m : (ℓ : Loc nD τ sig) → Buf (Elt Ideal) ℓ) (c : Dev nD)

/-- The weight, its gradient and its two moments. -/
def w (r : Fin 1024) (s : Fin 2560) : EReal := m (c, Proc.tc.devRef main_arg0) (ix2 r s)
def g (r : Fin 1024) (s : Fin 2560) : EReal := m (c, Proc.tc.devRef main_arg1) (ix2 r s)
def mo (r : Fin 1024) (s : Fin 2560) : EReal := m (c, Proc.tc.devRef main_arg2) (ix2 r s)
def ve (r : Fin 1024) (s : Fin 2560) : EReal := m (c, Proc.tc.devRef main_arg3) (ix2 r s)

/-- Every window's block at point `t` is the rows from `128 t` on. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] := by
  decide +kernel

theorem rows : cfg0.N * 128 = 1024 := congrArg (· * 128) N_0

section
variable (t : Fin cfg0.N) (i : Fin 128) (s : Fin 2560)
theorem blk0 : iblk m c 0 t (ix2 i s) = w m c ⟨128 * t + i, Adam.below rows t i⟩ s := by
  refine Eq.trans ?_ (congrFun (V_main_arg0 m c) (ix2 ⟨128 * t + i, Adam.below rows t i⟩ s))
  blk_ext [iblk, idx t]
theorem blk1 : iblk m c 1 t (ix2 i s) = g m c ⟨128 * t + i, Adam.below rows t i⟩ s := by
  refine Eq.trans ?_ (congrFun (V_main_arg1 m c) (ix2 ⟨128 * t + i, Adam.below rows t i⟩ s))
  blk_ext [iblk, idx t]
theorem blk2 : iblk m c 2 t (ix2 i s) = mo m c ⟨128 * t + i, Adam.below rows t i⟩ s := by
  refine Eq.trans ?_ (congrFun (V_main_arg2 m c) (ix2 ⟨128 * t + i, Adam.below rows t i⟩ s))
  blk_ext [iblk, idx t]
theorem blk3 : iblk m c 3 t (ix2 i s) = ve m c ⟨128 * t + i, Adam.below rows t i⟩ s := by
  refine Eq.trans ?_ (congrFun (V_main_arg3 m c) (ix2 ⟨128 * t + i, Adam.below rows t i⟩ s))
  blk_ext [iblk, idx t]

/-! What the points leave in the arrays. -/
theorem rows4 : (dats m 0 c).arrAt 4 cfg0.N (ix2 ⟨128 * t + i, Adam.below rows t i⟩ s)
    = out0_4 (iblk m c 0 t) (iblk m c 1 t) (iblk m c 2 t) (iblk m c 3 t) (ix2 i s) := by
  have hb := congrFun (Value.blocks4 m c t (flush0_4 t)) (ix2 i s)
  rw [Value.flushed4] at hb
  refine Eq.trans (congrArg ((dats m 0 c).arrAt 4 cfg0.N) ?_) hb
  blk_ext [idx t]
theorem rows5 : (dats m 0 c).arrAt 5 cfg0.N (ix2 ⟨128 * t + i, Adam.below rows t i⟩ s)
    = out0_5 (iblk m c 0 t) (iblk m c 1 t) (iblk m c 2 t) (iblk m c 3 t) (ix2 i s) := by
  have hb := congrFun (Value.blocks5 m c t (flush0_5 t)) (ix2 i s)
  rw [Value.flushed5] at hb
  refine Eq.trans (congrArg ((dats m 0 c).arrAt 5 cfg0.N) ?_) hb
  blk_ext [idx t]
theorem rows6 : (dats m 0 c).arrAt 6 cfg0.N (ix2 ⟨128 * t + i, Adam.below rows t i⟩ s)
    = out0_6 (iblk m c 0 t) (iblk m c 1 t) (iblk m c 2 t) (iblk m c 3 t) (ix2 i s) := by
  have hb := congrFun (Value.blocks6 m c t (flush0_6 t)) (ix2 i s)
  rw [Value.flushed6] at hb
  refine Eq.trans (congrArg ((dats m 0 c).arrAt 6 cfg0.N) ?_) hb
  blk_ext [idx t]
theorem rows7 : (dats m 0 c).arrAt 7 cfg0.N (ix2 ⟨128 * t + i, Adam.below rows t i⟩ s)
    = out0_7 (iblk m c 0 t) (iblk m c 1 t) (iblk m c 2 t) (iblk m c 3 t) (ix2 i s) := by
  have hb := congrFun (Value.blocks7 m c t (flush0_7 t)) (ix2 i s)
  rw [Value.flushed7] at hb
  refine Eq.trans (congrArg ((dats m 0 c).arrAt 7 cfg0.N) ?_) hb
  blk_ext [idx t]
end

/-! The arrays that the kernel returns. -/
variable (r : Fin 1024) (s : Fin 2560)
theorem arr4 : (dats m 0 c).arrAt 4 cfg0.N (ix2 r s) = g m c r s :=
  Adam.of_blocks rows (fun r s => (dats m 0 c).arrAt 4 cfg0.N (ix2 r s)) _
    (fun t i s => (rows4 m c t i s).trans ((out4 _ _ _ _ _).trans (blk1 m c t i s))) r s
theorem arr5 : (dats m 0 c).arrAt 5 cfg0.N (ix2 r s) = Adam.delta (w m c r s) (g m c r s) (mo m c r s) (ve m c r s) :=
  Adam.of_blocks rows (fun r s => (dats m 0 c).arrAt 5 cfg0.N (ix2 r s)) (fun r s => Adam.delta (w m c r s) (g m c r s) (mo m c r s) (ve m c r s))
    (fun t i s => (rows5 m c t i s).trans ((out5 _ _ _ _ _).trans (by rw [blk0, blk1, blk2, blk3]))) r s
theorem arr6 : (dats m 0 c).arrAt 6 cfg0.N (ix2 r s) = Adam.newM (g m c r s) (mo m c r s) :=
  Adam.of_blocks rows (fun r s => (dats m 0 c).arrAt 6 cfg0.N (ix2 r s)) (fun r s => Adam.newM (g m c r s) (mo m c r s))
    (fun t i s => (rows6 m c t i s).trans ((out6 _ _ _ _ _).trans (by rw [blk1, blk2]))) r s
theorem arr7 : (dats m 0 c).arrAt 7 cfg0.N (ix2 r s) = Adam.newV (g m c r s) (ve m c r s) :=
  Adam.of_blocks rows (fun r s => (dats m 0 c).arrAt 7 cfg0.N (ix2 r s)) (fun r s => Adam.newV (g m c r s) (ve m c r s))
    (fun t i s => (rows7 m c t i s).trans ((out7 _ _ _ _ _).trans (by rw [blk1, blk3]))) r s

end Cert.Kernel7Ideal.Adam

namespace Cert.Reference7Ideal.Adam
open Cert.Reference7Ideal Cert.Reference7Ideal.Gen Idealize.ShloMosaic Idealize.ShloMosaic.TcCoe Idealize.SL.Sem

variable (x0 x1 x2 x3 : (⟨S1024x2560, .f32⟩ : BufTy).Contents (Elt Ideal)) (i : S1024x2560.Idx)
theorem delta : Read.val_main_v23 x0 x1 x2 x3 i = Adam.delta (x0 i) (x1 i) (x2 i) (x3 i) := rfl
theorem newM : Read.val_main_v4 x1 x2 i = Adam.newM (x1 i) (x2 i) := rfl
theorem newV : Read.val_main_v10 x1 x3 i = Adam.newV (x1 i) (x3 i) := rfl

/-- The arguments end as they began, and every semaphore (there is none) at zero. -/
theorem frame (m : (ℓ : Loc nD τ sig) → Buf (Elt Ideal) ℓ) (ρ : Dev nD → PrngReg) : θ_run defs (onTc (τ := τ) main) ⟨m, fun _ => 0, ρ⟩
    (fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c => (h c).2.2.2.2, sem_eq_zero_of_no_sems rfl _⟩) (Value.run m ρ)

end Cert.Reference7Ideal.Adam
end
-- ==== Proof.AdamInEqual.lean ====
module
public import proofs.«01_k».proof.Defs
public import proofs.«01_k».proof.Proof.AdamIn
@[expose] public section

/-!
# The AdamW step of the input projection's weights: the kernel returns what the reference returns
-/
noncomputable section
namespace Cert.Proof.AdamIn
open Idealize.ShloMosaic Idealize.SL.Sem

theorem algebraic : Cert.algebraic_Kernel7Ideal_Reference7Ideal (hKernel7Ideal := Cert.Kernel7Ideal.Gen.facts) (hReference7Ideal := Cert.Reference7Ideal.Gen.facts) := by
  intro m g m' g' _ hm
  refine ⟨fun c => (Cert.Kernel7Ideal.Gen.dats m 0 c).arrAt 4 Cert.Kernel7Ideal.cfg0.N, fun c => (Cert.Kernel7Ideal.Gen.dats m 0 c).arrAt 5 Cert.Kernel7Ideal.cfg0.N,
    fun c => (Cert.Kernel7Ideal.Gen.dats m 0 c).arrAt 6 Cert.Kernel7Ideal.cfg0.N, fun c => (Cert.Kernel7Ideal.Gen.dats m 0 c).arrAt 7 Cert.Kernel7Ideal.cfg0.N,
    Cert.Kernel7Ideal.Value.run_blocks m g, ?_⟩
  refine (θ_run Cert.Reference7Ideal.defs _ _).mono (fun r h c => ?_) (Cert.Reference7Ideal.Value.run m' g')
  obtain ⟨h0, h1, h2, h3⟩ := hm c
  refine ⟨(h c).1.trans (h1.trans (funext fun i => ?_)),
    (h c).2.1.trans ((Cert.Reference7Ideal.Read.val_main_v23_eq _ _ _ _).trans (funext fun i => ?_)),
    (h c).2.2.1.trans ((Cert.Reference7Ideal.Read.val_main_v4_eq _ _).trans (funext fun i => ?_)),
    (h c).2.2.2.1.trans ((Cert.Reference7Ideal.Read.val_main_v10_eq _ _).trans (funext fun i => ?_)), (h c).2.2.2.2⟩
  all_goals obtain ⟨a, j, rfl⟩ : ∃ (a : Fin 1024) (j : Fin 2560), i = ix2 a j := ⟨i 0, i 1, (ix2_eta i).symm⟩
  · exact (Cert.Kernel7Ideal.Adam.arr4 m c a j).symm
  · rw [h0, h1, h2, h3]
    exact (Cert.Reference7Ideal.Adam.delta _ _ _ _ _).trans (Cert.Kernel7Ideal.Adam.arr5 m c a j).symm
  · rw [h1, h2]
    exact (Cert.Reference7Ideal.Adam.newM _ _ _).trans (Cert.Kernel7Ideal.Adam.arr6 m c a j).symm
  · rw [h1, h3]
    exact (Cert.Reference7Ideal.Adam.newV _ _ _).trans (Cert.Kernel7Ideal.Adam.arr7 m c a j).symm

end Cert.Proof.AdamIn
end
-- ==== Proof.AdamFfn.lean ====
module
public import proofs.«01_k».proof.Proof.Adam
public import proofs.«01_k».proof.Proof.Gen.Kernel8Ideal.Value
public import proofs.«01_k».proof.Proof.Gen.Reference8Ideal.Run
public import proofs.«01_k».proof.Proof.Gen.Reference8Ideal.Read
public import Idealize.ShloMosaic.Lib.StableHlo.ReadAt
public import Idealize.ShloMosaic.Lib.Pipeline.ValueKit
public import Idealize.ShloMosaic.Lib.Quiescent
@[expose] public section

/-!
# The AdamW step of a feed-forward weight

The kernel goes through blocks of 352 rows; a row is written once, by the point `row / 352`.
-/
noncomputable section

namespace Cert.Kernel8Ideal.Adam
open Cert.Kernel8Ideal Cert.Kernel8Ideal.Gen Idealize.ShloMosaic Idealize.ShloMosaic.TcCoe Idealize.SL.Sem

theorem whole (v : Vec Ideal S352x1024 .f32) : View.ld (Val := Elt Ideal) v r0_0 = v := View.ld_unit_zero Adam.zero2 _ v

section
variable (v0 v1 v2 v3 : Vec Ideal S352x1024 .f32) (y : S352x1024.Idx)
theorem out4 : out0_4 v0 v1 v2 v3 y = v1 y := by
  unfold out0_4
  rw [View.canon_unit_zero (Val := Elt Ideal) Adam.zero2, whole]
theorem out5 : out0_5 v0 v1 v2 v3 y = Adam.delta (v0 y) (v1 y) (v2 y) (v3 y) := by
  unfold out0_5
  rw [View.canon_unit_zero (Val := Elt Ideal) Adam.zero2]
  simp only [whole]
  rfl
theorem out6 : out0_6 v0 v1 v2 v3 y = Adam.newM (v1 y) (v2 y) := by
  unfold out0_6
  rw [View.canon_unit_zero (Val := Elt Ideal) Adam.zero2]
  simp only [whole]
  rfl
theorem out7 : out0_7 v0 v1 v2 v3 y = Adam.newV (v1 y) (v3 y) := by
  unfold out0_7
  rw [View.canon_unit_zero (Val := Elt Ideal) Adam.zero2]
  simp only [whole]
  rfl
end

variable (m : (ℓ : Loc nD τ sig) → Buf (Elt Ideal) ℓ) (c : Dev nD)

/-- The weight, its gradient and its two moments. -/
def w (r : Fin 704) (s : Fin 1024) : EReal := m (c, Proc.tc.devRef main_arg0) (ix2 r s)
def g (r : Fin 704) (s : Fin 1024) : EReal := m (c, Proc.tc.devRef main_arg1) (ix2 r s)
def mo (r : Fin 704) (s : Fin 1024) : EReal := m (c, Proc.tc.devRef main_arg2) (ix2 r s)
def ve (r : Fin 704) (s : Fin 1024) : EReal := m (c, Proc.tc.devRef main_arg3) (ix2 r s)

/-- Every window's block at point `t` is the rows from `352 t` on. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] := by
  decide +kernel

theorem rows : cfg0.N * 352 = 704 := congrArg (· * 352) N_0

section
variable (t : Fin cfg0.N) (i : Fin 352) (s : Fin 1024)
theorem blk0 : iblk m c 0 t (ix2 i s) = w m c ⟨352 * t + i, Adam.below rows t i⟩ s := by
  refine Eq.trans ?_ (congrFun (V_main_arg0 m c) (ix2 ⟨352 * t + i, Adam.below rows t i⟩ s))
  blk_ext [iblk, idx t]
theorem blk1 : iblk m c 1 t (ix2 i s) = g m c ⟨352 * t + i, Adam.below rows t i⟩ s := by
  refine Eq.trans ?_ (congrFun (V_main_arg1 m c) (ix2 ⟨352 * t + i, Adam.below rows t i⟩ s))
  blk_ext [iblk, idx t]
theorem blk2 : iblk m c 2 t (ix2 i s) = mo m c ⟨352 * t + i, Adam.below rows t i⟩ s := by
  refine Eq.trans ?_ (congrFun (V_main_arg2 m c) (ix2 ⟨352 * t + i, Adam.below rows t i⟩ s))
  blk_ext [iblk, idx t]
theorem blk3 : iblk m c 3 t (ix2 i s) = ve m c ⟨352 * t + i, Adam.below rows t i⟩ s := by
  refine Eq.trans ?_ (congrFun (V_main_arg3 m c) (ix2 ⟨352 * t + i, Adam.below rows t i⟩ s))
  blk_ext [iblk, idx t]

/-! What the points leave in the arrays. -/
theorem rows4 : (dats m 0 c).arrAt 4 cfg0.N (ix2 ⟨352 * t + i, Adam.below rows t i⟩ s)
    = out0_4 (iblk m c 0 t) (iblk m c 1 t) (iblk m c 2 t) (iblk m c 3 t) (ix2 i s) := by
  have hb := congrFun (Value.blocks4 m c t (flush0_4 t)) (ix2 i s)
  rw [Value.flushed4] at hb
  refine Eq.trans (congrArg ((dats m 0 c).arrAt 4 cfg0.N) ?_) hb
  blk_ext [idx t]
theorem rows5 : (dats m 0 c).arrAt 5 cfg0.N (ix2 ⟨352 * t + i, Adam.below rows t i⟩ s)
    = out0_5 (iblk m c 0 t) (iblk m c 1 t) (iblk m c 2 t) (iblk m c 3 t) (ix2 i s) := by
  have hb := congrFun (Value.blocks5 m c t (flush0_5 t)) (ix2 i s)
  rw [Value.flushed5] at hb
  refine Eq.trans (congrArg ((dats m 0 c).arrAt 5 cfg0.N) ?_) hb
  blk_ext [idx t]
theorem rows6 : (dats m 0 c).arrAt 6 cfg0.N (ix2 ⟨352 * t + i, Adam.below rows t i⟩ s)
    = out0_6 (iblk m c 0 t) (iblk m c 1 t) (iblk m c 2 t) (iblk m c 3 t) (ix2 i s) := by
  have hb := congrFun (Value.blocks6 m c t (flush0_6 t)) (ix2 i s)
  rw [Value.flushed6] at hb
  refine Eq.trans (congrArg ((dats m 0 c).arrAt 6 cfg0.N) ?_) hb
  blk_ext [idx t]
theorem rows7 : (dats m 0 c).arrAt 7 cfg0.N (ix2 ⟨352 * t + i, Adam.below rows t i⟩ s)
    = out0_7 (iblk m c 0 t) (iblk m c 1 t) (iblk m c 2 t) (iblk m c 3 t) (ix2 i s) := by
  have hb := congrFun (Value.blocks7 m c t (flush0_7 t)) (ix2 i s)
  rw [Value.flushed7] at hb
  refine Eq.trans (congrArg ((dats m 0 c).arrAt 7 cfg0.N) ?_) hb
  blk_ext [idx t]
end

/-! The arrays that the kernel returns. -/
variable (r : Fin 704) (s : Fin 1024)
theorem arr4 : (dats m 0 c).arrAt 4 cfg0.N (ix2 r s) = g m c r s :=
  Adam.of_blocks rows (fun r s => (dats m 0 c).arrAt 4 cfg0.N (ix2 r s)) _
    (fun t i s => (rows4 m c t i s).trans ((out4 _ _ _ _ _).trans (blk1 m c t i s))) r s
theorem arr5 : (dats m 0 c).arrAt 5 cfg0.N (ix2 r s) = Adam.delta (w m c r s) (g m c r s) (mo m c r s) (ve m c r s) :=
  Adam.of_blocks rows (fun r s => (dats m 0 c).arrAt 5 cfg0.N (ix2 r s)) (fun r s => Adam.delta (w m c r s) (g m c r s) (mo m c r s) (ve m c r s))
    (fun t i s => (rows5 m c t i s).trans ((out5 _ _ _ _ _).trans (by rw [blk0, blk1, blk2, blk3]))) r s
theorem arr6 : (dats m 0 c).arrAt 6 cfg0.N (ix2 r s) = Adam.newM (g m c r s) (mo m c r s) :=
  Adam.of_blocks rows (fun r s => (dats m 0 c).arrAt 6 cfg0.N (ix2 r s)) (fun r s => Adam.newM (g m c r s) (mo m c r s))
    (fun t i s => (rows6 m c t i s).trans ((out6 _ _ _ _ _).trans (by rw [blk1, blk2]))) r s
theorem arr7 : (dats m 0 c).arrAt 7 cfg0.N (ix2 r s) = Adam.newV (g m c r s) (ve m c r s) :=
  Adam.of_blocks rows (fun r s => (dats m 0 c).arrAt 7 cfg0.N (ix2 r s)) (fun r s => Adam.newV (g m c r s) (ve m c r s))
    (fun t i s => (rows7 m c t i s).trans ((out7 _ _ _ _ _).trans (by rw [blk1, blk3]))) r s

end Cert.Kernel8Ideal.Adam

namespace Cert.Reference8Ideal.Adam
open Cert.Reference8Ideal Cert.Reference8Ideal.Gen Idealize.ShloMosaic Idealize.ShloMosaic.TcCoe Idealize.SL.Sem

variable (x0 x1 x2 x3 : (⟨S704x1024, .f32⟩ : BufTy).Contents (Elt Ideal)) (i : S704x1024.Idx)
theorem delta : Read.val_main_v23 x0 x1 x2 x3 i = Adam.delta (x0 i) (x1 i) (x2 i) (x3 i) := rfl
theorem newM : Read.val_main_v4 x1 x2 i = Adam.newM (x1 i) (x2 i) := rfl
theorem newV : Read.val_main_v10 x1 x3 i = Adam.newV (x1 i) (x3 i) := rfl

/-- The arguments end as they began, and every semaphore (there is none) at zero. -/
theorem frame (m : (ℓ : Loc nD τ sig) → Buf (Elt Ideal) ℓ) (ρ : Dev nD → PrngReg) : θ_run defs (onTc (τ := τ) main) ⟨m, fun _ => 0, ρ⟩
    (fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c => (h c).2.2.2.2, sem_eq_zero_of_no_sems rfl _⟩) (Value.run m ρ)

end Cert.Reference8Ideal.Adam
end
-- ==== Proof.AdamFfnEqual.lean ====
module
public import proofs.«01_k».proof.Defs
public import proofs.«01_k».proof.Proof.AdamFfn
@[expose] public section

/-!
# The AdamW step of a feed-forward weight: the kernel returns what the reference returns
-/
noncomputable section
namespace Cert.Proof.AdamFfn
open Idealize.ShloMosaic Idealize.SL.Sem

theorem algebraic : Cert.algebraic_Kernel8Ideal_Reference8Ideal (hKernel8Ideal := Cert.Kernel8Ideal.Gen.facts) (hReference8Ideal := Cert.Reference8Ideal.Gen.facts) := by
  intro m g m' g' _ hm
  refine ⟨fun c => (Cert.Kernel8Ideal.Gen.dats m 0 c).arrAt 4 Cert.Kernel8Ideal.cfg0.N, fun c => (Cert.Kernel8Ideal.Gen.dats m 0 c).arrAt 5 Cert.Kernel8Ideal.cfg0.N,
    fun c => (Cert.Kernel8Ideal.Gen.dats m 0 c).arrAt 6 Cert.Kernel8Ideal.cfg0.N, fun c => (Cert.Kernel8Ideal.Gen.dats m 0 c).arrAt 7 Cert.Kernel8Ideal.cfg0.N,
    Cert.Kernel8Ideal.Value.run_blocks m g, ?_⟩
  refine (θ_run Cert.Reference8Ideal.defs _ _).mono (fun r h c => ?_) (Cert.Reference8Ideal.Value.run m' g')
  obtain ⟨h0, h1, h2, h3⟩ := hm c
  refine ⟨(h c).1.trans (h1.trans (funext fun i => ?_)),
    (h c).2.1.trans ((Cert.Reference8Ideal.Read.val_main_v23_eq _ _ _ _).trans (funext fun i => ?_)),
    (h c).2.2.1.trans ((Cert.Reference8Ideal.Read.val_main_v4_eq _ _).trans (funext fun i => ?_)),
    (h c).2.2.2.1.trans ((Cert.Reference8Ideal.Read.val_main_v10_eq _ _).trans (funext fun i => ?_)), (h c).2.2.2.2⟩
  all_goals obtain ⟨a, j, rfl⟩ : ∃ (a : Fin 704) (j : Fin 1024), i = ix2 a j := ⟨i 0, i 1, (ix2_eta i).symm⟩
  · exact (Cert.Kernel8Ideal.Adam.arr4 m c a j).symm
  · rw [h0, h1, h2, h3]
    exact (Cert.Reference8Ideal.Adam.delta _ _ _ _ _).trans (Cert.Kernel8Ideal.Adam.arr5 m c a j).symm
  · rw [h1, h2]
    exact (Cert.Reference8Ideal.Adam.newM _ _ _).trans (Cert.Kernel8Ideal.Adam.arr6 m c a j).symm
  · rw [h1, h3]
    exact (Cert.Reference8Ideal.Adam.newV _ _ _).trans (Cert.Kernel8Ideal.Adam.arr7 m c a j).symm

end Cert.Proof.AdamFfn
end
-- ==== Proof.DxPart.lean ====
module
public import proofs.«01_k».proof.Proof.Adam
public import proofs.«01_k».proof.Proof.Rects
public import proofs.«01_k».proof.Proof.Gen.Kernel9Ideal.Value
public import proofs.«01_k».proof.Proof.Gen.Reference9Ideal.Run
public import proofs.«01_k».proof.Proof.Gen.Reference9Ideal.Read
public import Idealize.ShloMosaic.Lib.StableHlo.ReadAt
public import Idealize.ShloMosaic.Lib.Pipeline.ValueKit
public import Idealize.ShloMosaic.Lib.Quiescent
@[expose] public section

/-!
# The gradient of the mixer's input through the first half of the input projection's columns

The 5120 columns lie in two groups of 2560, one matrix of weights each.
-/
noncomputable section
namespace DxPart
open Idealize.ShloMosaic

/-- The gradient at a token and a column. -/
def grad (d : Fin 4096 → Fin 10240 → EReal) (w : Fin 1024 → Fin 10240 → EReal) (r : Fin 4096) (s : Fin 1024) : EReal :=
  ∑ k : Fin 5120, d r ⟨k, by omega⟩ * w s ⟨k, by omega⟩

/-- A sum over 5120 in two halves. -/
theorem sum_halves (f : Fin 5120 → EReal) :
    ∑ k : Fin 5120, f k = ∑ k : Fin 2560, f ⟨2560 * (0 : Fin 2) + k, by omega⟩ + ∑ k : Fin 2560, f ⟨2560 * (1 : Fin 2) + k, by omega⟩ := by
  refine (Fin.sum_univ_add (a := 2560) (b := 2560) f).trans (congrArg₂ (· + ·) (Finset.sum_congr rfl fun k _ => congrArg f (Fin.ext ?_)) rfl)
  exact (Nat.zero_add _).symm

end DxPart

namespace Cert.Kernel9Ideal.DxPart
open Cert.Kernel9Ideal Cert.Kernel9Ideal.Gen Idealize.ShloMosaic Idealize.ShloMosaic.TcCoe Idealize.SL.Sem

/-- One group's product, at an index of the block. -/
def term (x : Vec Ideal S512x5120 .bf16) (w : Vec Ideal S2x1024x2560 .bf16) (r : Fin 512) (s : Fin 1024) (j : Fin 2) : EReal :=
  ∑ k : Fin 2560, x (ix2 r ⟨2560 * j + k, by omega⟩) * w (ix3 j s k)

/-- A product of a load of rows with a load of a group's weights. -/
def prod (x : Vec Ideal S256x2560 .bf16) (w : Vec Ideal S1x1024x2560 .bf16) (i : Fin 256) (s : Fin 1024) : EReal :=
  ∑ k : Fin 2560, x (ix2 i k) * w (ix3 0 s k)

theorem lower (a b : Vec Ideal S256x2560 .bf16) (u w : Vec Ideal S1x1024x2560 .bf16) (i : Fin 256) (s : Fin 1024) :
    k0_pay1 a u b w (ix2 i s) = prod a u i s + prod b w i s := by
  unfold k0_pay1 prod
  pointwise

theorem upper (a b : Vec Ideal S256x2560 .bf16) (u w : Vec Ideal S1x1024x2560 .bf16) : k0_pay2 a u b w = k0_pay1 a u b w := rfl

theorem prod_term {q : ℕ} (x : Vec Ideal S512x5120 .bf16) (w : Vec Ideal S2x1024x2560 .bf16) (j : Fin 2)
    (inb : ∀ b : Fin 2, (![q, 2560 * j.val] : Fin 2 → ℕ) b + (![256, 2560] : Fin 2 → ℕ) b ≤ (![512, 5120] : Fin 2 → ℕ) b)
    (inb' : ∀ b : Fin 3, (![j.val, 0, 0] : Fin 3 → ℕ) b + (![1, 1024, 2560] : Fin 3 → ℕ) b ≤ (![2, 1024, 2560] : Fin 3 → ℕ) b)
    (i : Fin 256) (s s' : Fin 1024) (r : Fin 512) (hr : q + i.val = r.val) (hs : s'.val = s.val) :
    prod (View.ld x (Rect.unit (s := S512x5120) ![q, 2560 * j.val] ![256, 2560] inb))
      (View.ld w (Rect.unit (s := S2x1024x2560) ![j.val, 0, 0] ![1, 1024, 2560] inb')) i s = term x w r s' j := by
  unfold prod term
  refine Finset.sum_congr rfl fun k _ => congrArg₂ (· * ·) ?_ ?_
  · refine (Rects.ld2 (F := Ideal) x inb i k).trans (congrArg (fun a => x (ix2 a _)) (Fin.ext hr))
  · refine (Rects.ld3 (F := Ideal) w inb' s k).trans (congrArg₂ (fun a b => w (ix3 _ a b)) (Fin.ext ?_) (Fin.ext (Nat.zero_add _)))
    exact (Nat.zero_add _).trans hs.symm

/-- A half of the block's rows, from row `q` on. -/
theorem half (q : ℕ) (x : Vec Ideal S512x5120 .bf16) (w : Vec Ideal S2x1024x2560 .bf16)
    (inb : ∀ b : Fin 2, (![q, 0] : Fin 2 → ℕ) b + (![256, 1024] : Fin 2 → ℕ) b ≤ (![512, 1024] : Fin 2 → ℕ) b)
    (inb0 : ∀ b : Fin 2, (![q, 2560 * (0 : Fin 2).val] : Fin 2 → ℕ) b + (![256, 2560] : Fin 2 → ℕ) b ≤ (![512, 5120] : Fin 2 → ℕ) b)
    (inb1 : ∀ b : Fin 2, (![q, 2560 * (1 : Fin 2).val] : Fin 2 → ℕ) b + (![256, 2560] : Fin 2 → ℕ) b ≤ (![512, 5120] : Fin 2 → ℕ) b)
    (inb0' : ∀ b : Fin 3, (![(0 : Fin 2).val, 0, 0] : Fin 3 → ℕ) b + (![1, 1024, 2560] : Fin 3 → ℕ) b ≤ (![2, 1024, 2560] : Fin 3 → ℕ) b)
    (inb1' : ∀ b : Fin 3, (![(1 : Fin 2).val, 0, 0] : Fin 3 → ℕ) b + (![1, 1024, 2560] : Fin 3 → ℕ) b ≤ (![2, 1024, 2560] : Fin 3 → ℕ) b)
    (y : S256x1024.Idx) :
    k0_pay1 (View.ld x (Rect.unit (s := S512x5120) ![q, 2560 * (0 : Fin 2).val] ![256, 2560] inb0))
        (View.ld w (Rect.unit (s := S2x1024x2560) ![(0 : Fin 2).val, 0, 0] ![1, 1024, 2560] inb0'))
        (View.ld x (Rect.unit (s := S512x5120) ![q, 2560 * (1 : Fin 2).val] ![256, 2560] inb1))
        (View.ld w (Rect.unit (s := S2x1024x2560) ![(1 : Fin 2).val, 0, 0] ![1, 1024, 2560] inb1')) y
      = (fun p : S512x1024.Idx => term x w (p 0) (p 1) 0 + term x w (p 0) (p 1) 1) ((Rect.unit (s := S512x1024) ![q, 0] ![256, 1024] inb).emb y) := by
  obtain ⟨i, j, rfl⟩ : ∃ (i : Fin 256) (j : Fin 1024), y = ix2 i j := ⟨y 0, y 1, (ix2_eta y).symm⟩
  have hq : q + 256 ≤ 512 := inb 0
  refine (lower ..).trans (Eq.trans ?_ (congrArg (fun p : S512x1024.Idx => term x w (p 0) (p 1) 0 + term x w (p 0) (p 1) 1) (Rects.emb inb i j)).symm)
  exact congrArg₂ (· + ·) (prod_term x w 0 inb0 inb0' i j ⟨0 + j, by omega⟩ ⟨q + i, by omega⟩ rfl (Nat.zero_add _))
    (prod_term x w 1 inb1 inb1' i j ⟨0 + j, by omega⟩ ⟨q + i, by omega⟩ rfl (Nat.zero_add _))

theorem out_apply (x : Vec Ideal S512x5120 .bf16) (w : Vec Ideal S2x1024x2560 .bf16) (r : Fin 512) (s : Fin 1024) :
    out0_2 x w (ix2 r s) = term x w r s 0 + term x w r s 1 := by
  unfold out0_2
  refine View.canon_apply_of_pieces (Val := Elt Ideal) (fun p : S512x1024.Idx => term x w (p 0) (p 1) 0 + term x w (p 0) (p 1) 1) _ ?_ _ (cover0_2 _ _ _)
  intro pc hpc
  rcases List.mem_cons.mp hpc with rfl | hpc
  · intro y
    exact (congrFun (upper ..) y).trans (half 256 x w inb_S512x1024_S256x1024_256_0 _ _ _ _ y)
  rcases List.mem_cons.mp hpc with rfl | hpc
  · exact half 0 x w inb_S512x1024_S256x1024_0_0 _ _ _ _
  nomatch hpc

variable (m : (ℓ : Loc nD τ sig) → Buf (Elt Ideal) ℓ) (c : Dev nD)

/-- The projection's gradient. -/
def d (r : Fin 4096) (k : Fin 10240) : EReal := m (c, Proc.tc.devRef main_arg0) (ix2 r k)
/-- The weights. -/
def w (s : Fin 1024) (k : Fin 10240) : EReal := m (c, Proc.tc.devRef main_arg1) (ix2 s k)

theorem weights (j : Fin 4) (s : Fin 1024) (k : Fin 2560) : V m c main_v2 (ix3 j s k) = w m c s ⟨2560 * j + k, by omega⟩ := by
  unfold V w
  after_reads_at
  simp only [mul_comm j.val 2560]

theorem idx : ∀ t : Fin cfg0.N, win0_0.index t = ![t.val, 0] ∧ win0_1.index t = ![0, 0, 0] ∧ win0_2.index t = ![t.val, 0] := by
  decide +kernel

theorem lt8 (t : Fin cfg0.N) : t.val < 8 := lt_of_lt_of_eq t.isLt N_0

theorem blk0 (t : Fin cfg0.N) (i : Fin 512) (k : Fin 5120) :
    iblk m c 0 t (ix2 i k) = d m c ⟨512 * t + i, by have := lt8 t; omega⟩ ⟨k, by omega⟩ := by
  refine Eq.trans ?_ (congrFun (V_main_arg0 m c) _)
  blk_ext [iblk, idx t]
theorem blk1 (t : Fin cfg0.N) (j : Fin 2) (s : Fin 1024) (k : Fin 2560) :
    iblk m c 1 t (ix3 j s k) = w m c s ⟨2560 * j + k, by omega⟩ := by
  refine Eq.trans ?_ (weights m c ⟨j, by omega⟩ s k)
  blk_ext [iblk, idx t]

/-- What a grid point writes. -/
theorem written (t : Fin cfg0.N) (i : Fin 512) (s : Fin 1024) :
    out0_2 (iblk m c 0 t) (iblk m c 1 t) (ix2 i s) = DxPart.grad (d m c) (w m c) ⟨512 * t + i, by have := lt8 t; omega⟩ s := by
  rw [out_apply]
  unfold term DxPart.grad
  rw [DxPart.sum_halves]
  simp only [blk0, blk1]

theorem array_rows (t : Fin cfg0.N) (i : Fin 512) (s : Fin 1024) :
    (dats m 0 c).arrAt 2 cfg0.N (ix2 ⟨512 * t + i, by have := lt8 t; omega⟩ s) = out0_2 (iblk m c 0 t) (iblk m c 1 t) (ix2 i s) := by
  have hb := congrFun (Value.blocks2 m c t (flush0_2 t)) (ix2 i s)
  rw [Value.flushed2] at hb
  refine Eq.trans (congrArg ((dats m 0 c).arrAt 2 cfg0.N) ?_) hb
  blk_ext [idx t]

/-- The array that the kernel returns. -/
theorem arr (r : Fin 4096) (s : Fin 1024) : (dats m 0 c).arrAt 2 cfg0.N (ix2 r s) = DxPart.grad (d m c) (w m c) r s :=
  Adam.of_blocks (N := cfg0.N) (B := 512) (congrArg (· * 512) N_0) (fun r s => (dats m 0 c).arrAt 2 cfg0.N (ix2 r s)) (DxPart.grad (d m c) (w m c))
    (fun t i s => (array_rows m c t i s).trans (written m c t i s)) r s

end Cert.Kernel9Ideal.DxPart

namespace Cert.Reference9Ideal.DxPart
open Cert.Reference9Ideal Cert.Reference9Ideal.Gen Idealize.ShloMosaic Idealize.ShloMosaic.TcCoe Idealize.SL.Sem

theorem result (x0 : (⟨S4096x10240, .bf16⟩ : BufTy).Contents (Elt Ideal)) (x1 : (⟨S1024x10240, .f32⟩ : BufTy).Contents (Elt Ideal))
    (r : Fin 4096) (s : Fin 1024) :
    Read.val_main_v3 x0 x1 (ix2 r s) = DxPart.grad (fun r k => x0 (ix2 r k)) (fun s k => x1 (ix2 s k)) r s := by
  unfold Read.val_main_v3 Read.val_main_v2 Read.val_main_v1 Read.val_main_v0 DxPart.grad
  pointwise

/-- The arguments end as they began, and every semaphore (there is none) at zero. -/
theorem frame (m : (ℓ : Loc nD τ sig) → Buf (Elt Ideal) ℓ) (ρ : Dev nD → PrngReg) : θ_run defs (onTc (τ := τ) main) ⟨m, fun _ => 0, ρ⟩
    (fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => (h c).2, sem_eq_zero_of_no_sems rfl _⟩) (Value.run m ρ)

end Cert.Reference9Ideal.DxPart
end
-- ==== Proof.DxPartEqual.lean ====
module
public import proofs.«01_k».proof.Defs
public import proofs.«01_k».proof.Proof.DxPart
@[expose] public section

/-!
# The gradient of the mixer's input, half of the columns: the kernel returns what the reference returns
-/
noncomputable section
namespace Cert.Proof.DxPart
open Idealize.ShloMosaic Idealize.SL.Sem

theorem algebraic : Cert.algebraic_Kernel9Ideal_Reference9Ideal (hKernel9Ideal := Cert.Kernel9Ideal.Gen.facts) (hReference9Ideal := Cert.Reference9Ideal.Gen.facts) := by
  intro m g m' g' _ hm
  refine ⟨fun c => (Cert.Kernel9Ideal.Gen.dats m 0 c).arrAt 2 Cert.Kernel9Ideal.cfg0.N, Cert.Kernel9Ideal.Value.run_blocks m g, ?_⟩
  refine (θ_run Cert.Reference9Ideal.defs _ _).mono (fun r h c => ?_) (Cert.Reference9Ideal.Value.run m' g')
  obtain ⟨h0, h1⟩ := hm c
  refine ⟨(h c).1.trans ((Cert.Reference9Ideal.Read.val_main_v3_eq _ _).trans (funext fun i => ?_)), (h c).2⟩
  obtain ⟨a, j, rfl⟩ : ∃ (a : Fin 4096) (j : Fin 1024), i = ix2 a j := ⟨i 0, i 1, (ix2_eta i).symm⟩
  rw [h0, h1]
  exact (Cert.Reference9Ideal.DxPart.result _ _ a j).trans (Cert.Kernel9Ideal.DxPart.arr m c a j).symm

end Cert.Proof.DxPart
end
-- ==== Proof.DownGrad.lean ====
module
public import proofs.«01_k».proof.Proof.Adam
public import proofs.«01_k».proof.Proof.Rects
public import proofs.«01_k».proof.Proof.Gen.Kernel10Ideal.Value
public import proofs.«01_k».proof.Proof.Gen.Reference10Ideal.Run
public import proofs.«01_k».proof.Proof.Gen.Reference10Ideal.Read
public import Idealize.ShloMosaic.Lib.StableHlo.ReadAt
public import Idealize.ShloMosaic.Lib.Pipeline.ValueKit
public import Idealize.ShloMosaic.Lib.Quiescent
@[expose] public section

/-!
# The gradient of the first feed-forward layer's down projection

The 2816 hidden rows lie in four groups of 704, each padded to 768 with zeros and transposed.
-/
noncomputable section
namespace DownGrad
open Idealize.ShloMosaic

/-- The gradient at group `a`, output column `i` and row `j` of the padded group. -/
def weight (h : Fin 4096 → Fin 2816 → EReal) (d : Fin 4096 → Fin 1024 → EReal) (a : Fin 4) (i : Fin 1024) (j : Fin 768) : EReal :=
  if hj : j.val < 704 then ∑ k : Fin 4096, d k i * h k ⟨704 * a + j, by omega⟩ else 0

/-- The gradient as a sum over the tokens, the padded columns' terms zero. -/
theorem weight_of (h : Fin 4096 → Fin 2816 → EReal) (d : Fin 4096 → Fin 1024 → EReal) (a : Fin 4) (i : Fin 1024) (j : Fin 768) (u v : Fin 4096 → EReal)
    (hu : ∀ k, u k = d k i) (hv : ∀ k, v k = if hj : j.val < 704 then h k ⟨704 * a + j, by omega⟩ else 0) : ∑ k : Fin 4096, u k * v k = weight h d a i j := by
  unfold weight
  refine (Finset.sum_congr rfl fun k _ => congrArg₂ (· * ·) (hu k) (hv k)).trans ?_
  by_cases hj : j.val < 704
  · simp only [dif_pos hj]
  · simp only [dif_neg hj, mul_zero, Finset.sum_const_zero]

theorem zero3 : (![0, 0, 0] : Fin 3 → ℕ) = fun _ => 0 := by
  funext b
  match b with
  | ⟨0, _⟩ => rfl
  | ⟨1, _⟩ => rfl
  | ⟨2, _⟩ => rfl

end DownGrad

namespace Cert.Kernel10Ideal.DownGrad
open Cert.Kernel10Ideal Cert.Kernel10Ideal.Gen Idealize.ShloMosaic Idealize.ShloMosaic.TcCoe Idealize.SL.Sem

theorem pay_apply (v0 : Vec Ideal S1024x4096 .bf16) (v2 : Vec Ideal S4096x768 .bf16) (i : Fin 1024) (j : Fin 768) :
    k0_pay1 v0 v2 (ix3 0 i j) = ∑ k : Fin 4096, v0 (ix2 i k) * v2 (ix2 k j) := by
  unfold k0_pay1
  pointwise

variable (m : (ℓ : Loc nD τ sig) → Buf (Elt Ideal) ℓ) (c : Dev nD)

/-- The hidden layer. -/
def h (k : Fin 4096) (j : Fin 2816) : EReal := m (c, Proc.tc.devRef main_arg0) (ix2 k j)
/-- The gradient of the layer's output. -/
def d (k : Fin 4096) (i : Fin 1024) : EReal := m (c, Proc.tc.devRef main_arg1) (ix2 k i)

theorem lhs (i : Fin 1024) (k : Fin 4096) : V m c main_v5 (ix2 i k) = d m c k i := by
  unfold V
  after_reads_at
  rfl
theorem rhs (k : Fin 4096) (a : Fin 4) (j : Fin 768) : V m c main_v3 (ix2 k ⟨768 * a + j, by omega⟩)
    = if hj : j.val < 704 then h m c k ⟨704 * a + j, by omega⟩ else 0 := by
  unfold V
  after_reads_at
  have h1 : (768 * a.val + j.val) / 768 = a := by omega
  have h2 : (768 * a.val + j.val) % 768 = j := by omega
  simp only [h1, h2, a.isLt, true_and, mul_comm a.val 704, Rects.int_zero]
  rfl

theorem idx : ∀ t : Fin cfg0.N, win0_0.index t = ![0, 0] ∧ win0_1.index t = ![0, t.val] ∧ win0_2.index t = ![t.val, 0, 0] := by
  decide +kernel

theorem lt4 (t : Fin cfg0.N) : t.val < 4 := lt_of_lt_of_eq t.isLt N_0

theorem blk0 (t : Fin cfg0.N) (i : Fin 1024) (k : Fin 4096) : iblk m c 0 t (ix2 i k) = V m c main_v5 (ix2 i k) := by
  blk_ext [iblk, idx t]
theorem blk1 (t : Fin cfg0.N) (k : Fin 4096) (j : Fin 768) :
    iblk m c 1 t (ix2 k j) = V m c main_v3 (ix2 k ⟨768 * t + j, by have := lt4 t; omega⟩) := by
  blk_ext [iblk, idx t]

theorem whole0 (x : Vec Ideal S1024x4096 .bf16) : View.ld (Val := Elt Ideal) x r0_0 = x := View.ld_unit_zero Adam.zero2 _ x
theorem whole1 (x : Vec Ideal S4096x768 .bf16) : View.ld (Val := Elt Ideal) x r0_1 = x := View.ld_unit_zero Adam.zero2 _ x

/-- What a grid point writes. -/
theorem written (t : Fin cfg0.N) (i : Fin 1024) (j : Fin 768) :
    out0_2 (iblk m c 0 t) (iblk m c 1 t) (ix3 0 i j) = DownGrad.weight (h m c) (d m c) ⟨t, lt4 t⟩ i j := by
  unfold out0_2
  rw [View.canon_unit_zero (Val := Elt Ideal) DownGrad.zero3, whole0, whole1, pay_apply]
  exact _root_.DownGrad.weight_of (h m c) (d m c) ⟨t, lt4 t⟩ i j (fun k => iblk m c 0 t (ix2 i k)) (fun k => iblk m c 1 t (ix2 k j))
    (fun k => (blk0 m c t i k).trans (lhs m c i k)) (fun k => (blk1 m c t k j).trans (rhs m c k ⟨t, lt4 t⟩ j))

theorem array_rows (t : Fin cfg0.N) (i : Fin 1024) (j : Fin 768) :
    (dats m 0 c).arrAt 2 cfg0.N (ix3 ⟨t, lt4 t⟩ i j) = out0_2 (iblk m c 0 t) (iblk m c 1 t) (ix3 0 i j) := by
  have hb := congrFun (Value.blocks2 m c t (flush0_2 t)) (ix3 0 i j)
  rw [Value.flushed2] at hb
  refine Eq.trans (congrArg ((dats m 0 c).arrAt 2 cfg0.N) ?_) hb
  blk_ext [idx t]

/-- The array that the kernel returns. -/
theorem arr (a : Fin 4) (i : Fin 1024) (j : Fin 768) : (dats m 0 c).arrAt 2 cfg0.N (ix3 a i j) = DownGrad.weight (h m c) (d m c) a i j :=
  (array_rows m c ⟨a, lt_of_lt_of_eq a.isLt N_0.symm⟩ i j).trans (written m c _ i j)

end Cert.Kernel10Ideal.DownGrad

namespace Cert.Reference10Ideal.DownGrad
open Cert.Reference10Ideal Cert.Reference10Ideal.Gen Idealize.ShloMosaic Idealize.ShloMosaic.TcCoe Idealize.SL.Sem

theorem result (x0 : (⟨S4096x2816, .f32⟩ : BufTy).Contents (Elt Ideal)) (x1 : (⟨S4096x1024, .f32⟩ : BufTy).Contents (Elt Ideal))
    (a : Fin 4) (i : Fin 1024) (j : Fin 768) :
    Read.val_main_v5 x0 x1 (ix3 a i j) = DownGrad.weight (fun k j => x0 (ix2 k j)) (fun k i => x1 (ix2 k i)) a i j := by
  unfold Read.val_main_v5 Read.val_main_v4 Read.val_main_v3 Read.val_main_v2 Read.val_main_v1 Read.val_main_v0 Read.val_main_call0_v0 Read.val_main_c DownGrad.weight
  pointwise
  simp only [mul_comm a.val 704, Rects.int_zero]

/-- The arguments end as they began, and every semaphore (there is none) at zero. -/
theorem frame (m : (ℓ : Loc nD τ sig) → Buf (Elt Ideal) ℓ) (ρ : Dev nD → PrngReg) : θ_run defs (onTc (τ := τ) main) ⟨m, fun _ => 0, ρ⟩
    (fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => (h c).2, sem_eq_zero_of_no_sems rfl _⟩) (Value.run m ρ)

end Cert.Reference10Ideal.DownGrad
end
-- ==== Proof.DownGradEqual.lean ====
module
public import proofs.«01_k».proof.Defs
public import proofs.«01_k».proof.Proof.DownGrad
@[expose] public section

/-!
# The gradient of the down projection: the kernel returns what the reference returns
-/
noncomputable section
namespace Cert.Proof.DownGrad
open Idealize.ShloMosaic Idealize.SL.Sem

theorem algebraic : Cert.algebraic_Kernel10Ideal_Reference10Ideal (hKernel10Ideal := Cert.Kernel10Ideal.Gen.facts) (hReference10Ideal := Cert.Reference10Ideal.Gen.facts) := by
  intro m g m' g' _ hm
  refine ⟨fun c => (Cert.Kernel10Ideal.Gen.dats m 0 c).arrAt 2 Cert.Kernel10Ideal.cfg0.N,
    (θ_run Cert.Kernel10Ideal.defs _ _).mono (fun _ h c => ⟨(h c).1, (h c).2.2⟩) (Cert.Kernel10Ideal.Value.run_blocks m g), ?_⟩
  refine (θ_run Cert.Reference10Ideal.defs _ _).mono (fun r h c => ?_) (Cert.Reference10Ideal.Value.run m' g')
  obtain ⟨h0, h1⟩ := hm c
  refine ⟨(h c).1.trans ((Cert.Reference10Ideal.Read.val_main_v5_eq _ _).trans (funext fun i => ?_)), (h c).2⟩
  obtain ⟨a, j, l, rfl⟩ : ∃ (a : Fin 4) (j : Fin 1024) (l : Fin 768), i = ix3 a j l := ⟨i 0, i 1, i 2, (ix3_eta i).symm⟩
  rw [h0, h1]
  exact (Cert.Reference10Ideal.DownGrad.result _ _ a j l).trans (Cert.Kernel10Ideal.DownGrad.arr m c a j l).symm

end Cert.Proof.DownGrad
end
-- ==== Proof.DownNorm.lean ====
module
public import proofs.«01_k».proof.Proof.Adam
public import proofs.«01_k».proof.Proof.Rects
public import proofs.«01_k».proof.Proof.Gen.Kernel11Ideal.Value
public import proofs.«01_k».proof.Proof.Gen.Reference11Ideal.Run
public import proofs.«01_k».proof.Proof.Gen.Reference11Ideal.Read
public import Idealize.ShloMosaic.Lib.StableHlo.ReadAt
public import Idealize.ShloMosaic.Lib.Pipeline.ValueKit
public import Idealize.ShloMosaic.Lib.Quiescent
@[expose] public section

/-!
# The first feed-forward layer's down projection, its residual sum and its layer norm

The 2816 hidden columns lie in four groups of 704; the kernel pads each group to 768 with zeros.
-/
noncomputable section
namespace DownNorm
open Idealize.ShloMosaic

/-- A constant of the layer, by its float word. -/
def lit (w : BitVec 32) : EReal := Ideal.ofBits .f32 w

/-- The residual sum at a token and a column. -/
def sum (h : Fin 4096 → Fin 2816 → EReal) (w : Fin 2816 → Fin 1024 → EReal) (x : Fin 4096 → Fin 1024 → EReal) (r : Fin 4096) (s : Fin 1024) : EReal :=
  lit 0x3F9837F0#32 * x r s + lit 0x3F000000#32 * ∑ k : Fin 2816, h r k * w k s

/-- A row's mean. -/
def mean (z : Fin 1024 → EReal) : EReal := Ideal.div (∑ k : Fin 1024, z k) (lit 0x44800000#32)

/-- The layer norm of a row at a column. -/
def layerNorm (z g b : Fin 1024 → EReal) (s : Fin 1024) : EReal :=
  (z s - mean z) * Ideal.rsqrt (mean (fun k => (z k - mean z) * (z k - mean z)) + lit 0x3727C5AC#32) * g s + b s

end DownNorm

namespace Cert.Kernel11Ideal.DownNorm
open Cert.Kernel11Ideal Cert.Kernel11Ideal.Gen Idealize.ShloMosaic Idealize.ShloMosaic.TcCoe Idealize.SL.Sem
open _root_.DownNorm

/-- One group's product, at an index of the block. -/
def term (x : Vec Ideal S512x3072 .bf16) (w : Vec Ideal S4x1024x768 .bf16) (r : Fin 512) (s : Fin 1024) (j : Fin 4) : EReal :=
  ∑ k : Fin 768, x (ix2 r ⟨768 * j + k, by omega⟩) * w (ix3 j s k)

/-- The residual sum at an index of the block. -/
def block (x : Vec Ideal S512x3072 .bf16) (w : Vec Ideal S4x1024x768 .bf16) (z : Vec Ideal S512x1024 .f32) (r : Fin 512) (s : Fin 1024) : EReal :=
  lit 0x3F9837F0#32 * z (ix2 r s) + lit 0x3F000000#32 * (term x w r s 0 + term x w r s 1 + term x w r s 2 + term x w r s 3)

/-- A product of a load of rows with a load of a group's weights. -/
def prod (x : Vec Ideal S256x768 .bf16) (w : Vec Ideal S1x1024x768 .bf16) (i : Fin 256) (s : Fin 1024) : EReal :=
  ∑ k : Fin 768, x (ix2 i k) * w (ix3 0 s k)

theorem sum_apply (a0 a1 a2 a3 : Vec Ideal S256x768 .bf16) (u0 u1 u2 u3 : Vec Ideal S1x1024x768 .bf16) (z : Vec Ideal S256x1024 .f32)
    (i : Fin 256) (s : Fin 1024) :
    k0_pay4 a0 u0 a1 u1 a2 u2 a3 u3 z (ix2 i s)
      = lit 0x3F9837F0#32 * z (ix2 i s) + lit 0x3F000000#32 * (prod a0 u0 i s + prod a1 u1 i s + prod a2 u2 i s + prod a3 u3 i s) := by
  unfold k0_pay4 prod
  pointwise
  rfl

/-- The lower rows' residual sum is written as the upper rows' is. -/
theorem sum_upper (a0 a1 a2 a3 : Vec Ideal S256x768 .bf16) (u0 u1 u2 u3 : Vec Ideal S1x1024x768 .bf16) (z : Vec Ideal S256x1024 .f32) :
    k0_pay9 (k0_pay8 a0 u0) a1 u1 a2 u2 a3 u3 z = k0_pay4 a0 u0 a1 u1 a2 u2 a3 u3 z := rfl

theorem norm_apply (z : FVec Ideal S256x1024 .f32) (g b : Vec Ideal S1x1024 .f32) (i : Fin 256) (s : Fin 1024) :
    k0_pay5 z g b (ix2 i s) = layerNorm (fun k => z (ix2 i k)) (fun k => g (ix2 0 k)) (fun k => b (ix2 0 k)) s := by
  unfold k0_pay5 layerNorm mean lit
  pointwise

theorem prod_term {q : ℕ} (x : Vec Ideal S512x3072 .bf16) (w : Vec Ideal S4x1024x768 .bf16) (j : Fin 4)
    (inb : ∀ b : Fin 2, (![q, 768 * j.val] : Fin 2 → ℕ) b + (![256, 768] : Fin 2 → ℕ) b ≤ (![512, 3072] : Fin 2 → ℕ) b)
    (inb' : ∀ b : Fin 3, (![j.val, 0, 0] : Fin 3 → ℕ) b + (![1, 1024, 768] : Fin 3 → ℕ) b ≤ (![4, 1024, 768] : Fin 3 → ℕ) b)
    (i : Fin 256) (s : Fin 1024) (r : Fin 512) (hr : q + i.val = r.val) :
    prod (View.ld x (Rect.unit (s := S512x3072) ![q, 768 * j.val] ![256, 768] inb))
      (View.ld w (Rect.unit (s := S4x1024x768) ![j.val, 0, 0] ![1, 1024, 768] inb')) i s = term x w r s j := by
  unfold prod term
  refine Finset.sum_congr rfl fun k _ => congrArg₂ (· * ·) ?_ ?_
  · exact (Rects.ld2 (F := Ideal) x inb i k).trans (congrArg (fun a => x (ix2 a _)) (Fin.ext hr))
  · exact (Rects.ld3 (F := Ideal) w inb' s k).trans (congrArg₂ (fun a b => w (ix3 _ a b)) (Fin.ext (Nat.zero_add _)) (Fin.ext (Nat.zero_add _)))

section block
variable (x : Vec Ideal S512x3072 .bf16) (w : Vec Ideal S4x1024x768 .bf16) (z : Vec Ideal S512x1024 .f32) (g b : Vec Ideal S1x1024 .f32)

/-- The normalised rows of the block. -/
def normed (r : Fin 512) (s : Fin 1024) : EReal := layerNorm (block x w z r) (fun k => g (ix2 0 k)) (fun k => b (ix2 0 k)) s

/-- The upper half's residual sum. -/
theorem sum0 (i : Fin 256) (s : Fin 1024) : k0_pay12 x w z g b (ix2 i s) = block x w z ⟨i, by omega⟩ s := by
  unfold k0_pay12
  rw [sum_apply]
  unfold block
  have h (j inb inb') := prod_term (q := 0) x w j inb inb' i s ⟨i, by omega⟩ (Nat.zero_add _)
  refine congrArg₂ (fun a b : EReal => lit 0x3F9837F0#32 * a + lit 0x3F000000#32 * b) ?_
    (congrArg₂ (· + ·) (congrArg₂ (· + ·) (congrArg₂ (· + ·) (h 0 _ _) (h 1 _ _)) (h 2 _ _)) (h 3 _ _))
  exact (Rects.ld2 (F := Ideal) z _ i s).trans (congrArg₂ (fun a b => z (ix2 a b)) (Fin.ext (Nat.zero_add _)) (Fin.ext (Nat.zero_add _)))

/-- The lower half's residual sum. -/
theorem sum256 (i : Fin 256) (s : Fin 1024) : k0_pay14 x w z g b (ix2 i s) = block x w z ⟨256 + i, by omega⟩ s := by
  unfold k0_pay14 k0_pay13
  rw [sum_upper, sum_apply]
  unfold block
  have h (j inb inb') := prod_term (q := 256) x w j inb inb' i s ⟨256 + i, by omega⟩ rfl
  refine congrArg₂ (fun a b : EReal => lit 0x3F9837F0#32 * a + lit 0x3F000000#32 * b) ?_
    (congrArg₂ (· + ·) (congrArg₂ (· + ·) (congrArg₂ (· + ·) (h 0 _ _) (h 1 _ _)) (h 2 _ _)) (h 3 _ _))
  exact (Rects.ld2 (F := Ideal) z _ i s).trans (congrArg₂ (fun a b => z (ix2 a b)) (Fin.ext rfl) (Fin.ext (Nat.zero_add _)))

/-- The padded groups' products are one product. -/
theorem block_sum (h : Fin 4096 → Fin 2816 → EReal) (v : Fin 2816 → Fin 1024 → EReal) (y : Fin 4096 → Fin 1024 → EReal) (i : Fin 512) (r : Fin 4096) (s : Fin 1024)
    (hx : ∀ (j : Fin 4) (k : Fin 768), x (ix2 i ⟨768 * j + k, by omega⟩) = if hk : k.val < 704 then h r ⟨704 * j + k, by omega⟩ else 0)
    (hw : ∀ (j : Fin 4) (k : Fin 768), w (ix3 j s k) = if hk : k.val < 704 then v ⟨704 * j + k, by omega⟩ s else 0)
    (hz : z (ix2 i s) = y r s) : block x w z i s = DownNorm.sum h v y r s := by
  unfold block DownNorm.sum
  have ht (j : Fin 4) : term x w i s j = ∑ k : Fin 704, h r ⟨704 * j + k, by omega⟩ * v ⟨704 * j + k, by omega⟩ s :=
    Eq.trans (Finset.sum_congr rfl fun k _ => congrArg₂ (· * ·) (hx j k) (hw j k))
      (Rects.pad_mul (fun k => h r ⟨704 * j + k, by omega⟩) (fun k => v ⟨704 * j + k, by omega⟩ s))
  rw [Rects.sum_groups, Fin.sum_univ_four, hz, ht, ht, ht, ht]

theorem whole (v : Vec Ideal S1x1024 .f32) : View.ld (Val := Elt Ideal) v r0_9 = v := View.ld_unit_zero Adam.zero2 _ v

theorem norm0 (i : Fin 256) (s : Fin 1024) :
    k0_pay5 (k0_pay12 x w z g b) (View.ld g r0_9) (View.ld b r0_9) (ix2 i s) = normed x w z g b ⟨i, by omega⟩ s := by
  rw [whole, whole, norm_apply]
  exact congrArg (fun f => layerNorm f _ _ s) (funext fun k => sum0 x w z g b i k)

theorem norm256 (i : Fin 256) (s : Fin 1024) :
    k0_pay1 (k0_pay14 x w z g b) (View.ld g r0_9) (View.ld b r0_9) (k0_pay15 x w z g b) (k0_pay16 x w z g b) (ix2 i s)
      = normed x w z g b ⟨256 + i, by omega⟩ s := by
  refine Eq.trans (congrFun (rfl : _ = k0_pay5 (k0_pay14 x w z g b) (View.ld g r0_9) (View.ld b r0_9)) _) ?_
  rw [whole, whole, norm_apply]
  exact congrArg (fun f => layerNorm f _ _ s) (funext fun k => sum256 x w z g b i k)

/-- A block of rows written in two halves. -/
theorem halves (f : Fin 512 → Fin 1024 → EReal) (p0 p1 : S256x1024.Idx → EReal)
    (h0 : ∀ i s, p0 (ix2 i s) = f ⟨i, by omega⟩ s) (h1 : ∀ i s, p1 (ix2 i s) = f ⟨256 + i, by omega⟩ s) :
    (∀ y : S256x1024.Idx, p1 y = (fun p : S512x1024.Idx => f (p 0) (p 1)) (r0_15.emb y))
      ∧ ∀ y : S256x1024.Idx, p0 y = (fun p : S512x1024.Idx => f (p 0) (p 1)) (r0_8.emb y) := by
  constructor
  · intro y
    obtain ⟨i, s, rfl⟩ : ∃ (i : Fin 256) (s : Fin 1024), y = ix2 i s := ⟨y 0, y 1, (ix2_eta y).symm⟩
    refine (h1 i s).trans (Eq.trans ?_ (congrArg (fun p : S512x1024.Idx => f (p 0) (p 1)) (Rects.emb inb_S512x1024_S256x1024_256_0 i s)).symm)
    exact congrArg (f _) (Fin.ext (Nat.zero_add _).symm)
  · intro y
    obtain ⟨i, s, rfl⟩ : ∃ (i : Fin 256) (s : Fin 1024), y = ix2 i s := ⟨y 0, y 1, (ix2_eta y).symm⟩
    refine (h0 i s).trans (Eq.trans ?_ (congrArg (fun p : S512x1024.Idx => f (p 0) (p 1)) (Rects.emb inb_S512x1024_S256x1024_0_0 i s)).symm)
    exact congrArg₂ f (Fin.ext (Nat.zero_add _).symm) (Fin.ext (Nat.zero_add _).symm)

theorem out5 (r : Fin 512) (s : Fin 1024) : out0_5 x w z g b (ix2 r s) = block x w z r s := by
  unfold out0_5
  refine View.canon_apply_of_pieces (Val := Elt Ideal) (fun p : S512x1024.Idx => block x w z (p 0) (p 1)) _ ?_ _ (cover0_5 _ _ _)
  have h := halves (block x w z) _ _ (sum0 x w z g b) (sum256 x w z g b)
  intro pc hpc
  rcases List.mem_cons.mp hpc with rfl | hpc
  · exact h.1
  rcases List.mem_cons.mp hpc with rfl | hpc
  · exact h.2
  nomatch hpc

theorem out6 (r : Fin 512) (s : Fin 1024) : out0_6 x w z g b (ix2 r s) = normed x w z g b r s := by
  unfold out0_6
  refine View.canon_apply_of_pieces (Val := Elt Ideal) (fun p : S512x1024.Idx => normed x w z g b (p 0) (p 1)) _ ?_ _ (cover0_6 _ _ _)
  have h := halves (normed x w z g b) _ _ (norm0 x w z g b) (norm256 x w z g b)
  intro pc hpc
  rcases List.mem_cons.mp hpc with rfl | hpc
  · exact h.1
  rcases List.mem_cons.mp hpc with rfl | hpc
  · exact h.2
  nomatch hpc

theorem out7 (r : Fin 512) (s : Fin 1024) : out0_7 x w z g b (ix2 r s) = normed x w z g b r s := by
  unfold out0_7
  refine View.canon_apply_of_pieces (Val := Elt Ideal) (fun p : S512x1024.Idx => normed x w z g b (p 0) (p 1)) _ ?_ _ (cover0_7 _ _ _)
  have h := halves (normed x w z g b) _ _ (norm0 x w z g b) (norm256 x w z g b)
  intro pc hpc
  rcases List.mem_cons.mp hpc with rfl | hpc
  · exact h.1
  rcases List.mem_cons.mp hpc with rfl | hpc
  · exact h.2
  nomatch hpc

theorem out8 (r : Fin 512) (s : Fin 1024) : out0_8 x w z g b (ix2 s r) = normed x w z g b r s := by
  unfold out0_8
  refine View.canon_apply_of_pieces (Val := Elt Ideal) (fun p : S1024x512.Idx => normed x w z g b (p 1) (p 0)) _ ?_ _ (cover0_8 _ _ _)
  intro pc hpc
  rcases List.mem_cons.mp hpc with rfl | hpc
  · intro y
    obtain ⟨s, i, rfl⟩ : ∃ (s : Fin 1024) (i : Fin 256), y = ix2 s i := ⟨y 0, y 1, (ix2_eta y).symm⟩
    refine Eq.trans ?_ ((norm256 x w z g b i s).trans (Eq.trans ?_ (congrArg (fun p : S1024x512.Idx => normed x w z g b (p 1) (p 0)) (Rects.emb inb_S1024x512_S1024x256_0_256 s i)).symm))
    · show k0_pay3 _ _ _ _ _ (ix2 s i) = _
      unfold k0_pay3
      generalize k0_pay1 (k0_pay14 x w z g b) (View.ld g r0_9) (View.ld b r0_9) (k0_pay15 x w z g b) (k0_pay16 x w z g b) = v
      pointwise
    · exact congrArg (normed x w z g b _) (Fin.ext (Nat.zero_add _).symm)
  rcases List.mem_cons.mp hpc with rfl | hpc
  · intro y
    obtain ⟨s, i, rfl⟩ : ∃ (s : Fin 1024) (i : Fin 256), y = ix2 s i := ⟨y 0, y 1, (ix2_eta y).symm⟩
    refine Eq.trans ?_ ((norm0 x w z g b i s).trans (Eq.trans ?_ (congrArg (fun p : S1024x512.Idx => normed x w z g b (p 1) (p 0)) (Rects.emb inb_S1024x512_S1024x256_0_0 s i)).symm))
    · show k0_pay7 _ _ _ (ix2 s i) = _
      unfold k0_pay7
      generalize k0_pay5 (k0_pay12 x w z g b) (View.ld g r0_9) (View.ld b r0_9) = v
      pointwise
    · exact congrArg₂ (normed x w z g b) (Fin.ext (Nat.zero_add _).symm) (Fin.ext (Nat.zero_add _).symm)
  nomatch hpc

end block

variable (m : (ℓ : Loc nD τ sig) → Buf (Elt Ideal) ℓ) (c : Dev nD)

def h (r : Fin 4096) (k : Fin 2816) : EReal := m (c, Proc.tc.devRef main_arg0) (ix2 r k)
def w (k : Fin 2816) (s : Fin 1024) : EReal := m (c, Proc.tc.devRef main_arg1) (ix2 k s)
def x (r : Fin 4096) (s : Fin 1024) : EReal := m (c, Proc.tc.devRef main_arg2) (ix2 r s)
def g (s : Fin 1024) : EReal := m (c, Proc.tc.devRef main_arg3) (ix2 0 s)
def b (s : Fin 1024) : EReal := m (c, Proc.tc.devRef main_arg4) (ix2 0 s)

theorem hidden (r : Fin 4096) (j : Fin 4) (k : Fin 768) : V m c main_v3 (ix2 r ⟨768 * j + k, by omega⟩)
    = if hk : k.val < 704 then h m c r ⟨704 * j + k, by omega⟩ else 0 := by
  unfold V
  after_reads_at
  have h1 : (768 * j.val + k.val) / 768 = j := by omega
  have h2 : (768 * j.val + k.val) % 768 = k := by omega
  simp only [h1, h2, j.isLt, true_and, mul_comm j.val 704, Rects.int_zero]
  rfl
theorem weights (j : Fin 4) (s : Fin 1024) (k : Fin 768) : V m c main_v8 (ix3 j s k)
    = if hk : k.val < 704 then w m c ⟨704 * j + k, by omega⟩ s else 0 := by
  unfold V
  after_reads_at
  simp only [mul_comm j.val 704, Rects.int_zero]
  rfl

theorem idx : ∀ t : Fin cfg0.N, win0_0.index t = ![t.val, 0] ∧ win0_1.index t = ![0, 0, 0] ∧ win0_2.index t = ![t.val, 0]
    ∧ win0_3.index t = ![0, 0] ∧ win0_4.index t = ![0, 0] ∧ win0_5.index t = ![t.val, 0] ∧ win0_6.index t = ![t.val, 0]
    ∧ win0_7.index t = ![t.val, 0] ∧ win0_8.index t = ![0, t.val] := by
  decide +kernel

theorem lt8 (t : Fin cfg0.N) : t.val < 8 := lt_of_lt_of_eq t.isLt N_0

theorem blk0 (t : Fin cfg0.N) (i : Fin 512) (k : Fin 3072) :
    iblk m c 0 t (ix2 i k) = V m c main_v3 (ix2 ⟨512 * t + i, by have := lt8 t; omega⟩ k) := by
  blk_ext [iblk, idx t]
theorem blk1 (t : Fin cfg0.N) (j : Fin 4) (s : Fin 1024) (k : Fin 768) : iblk m c 1 t (ix3 j s k) = V m c main_v8 (ix3 j s k) := by
  blk_ext [iblk, idx t]
theorem blk2 (t : Fin cfg0.N) (i : Fin 512) (s : Fin 1024) : iblk m c 2 t (ix2 i s) = x m c ⟨512 * t + i, by have := lt8 t; omega⟩ s := by
  refine Eq.trans ?_ (congrFun (V_main_arg2 m c) _)
  blk_ext [iblk, idx t]
theorem blk3 (t : Fin cfg0.N) (s : Fin 1024) : iblk m c 3 t (ix2 0 s) = g m c s := by
  refine Eq.trans ?_ (congrFun (V_main_arg3 m c) _)
  blk_ext [iblk, idx t]
theorem blk4 (t : Fin cfg0.N) (s : Fin 1024) : iblk m c 4 t (ix2 0 s) = b m c s := by
  refine Eq.trans ?_ (congrFun (V_main_arg4 m c) _)
  blk_ext [iblk, idx t]

/-- A block's residual sum. -/
theorem block_at (t : Fin cfg0.N) (i : Fin 512) (s : Fin 1024) :
    block (iblk m c 0 t) (iblk m c 1 t) (iblk m c 2 t) i s
      = DownNorm.sum (h m c) (w m c) (x m c) ⟨512 * t + i, by have := lt8 t; omega⟩ s :=
  block_sum _ _ _ (h m c) (w m c) (x m c) i _ s (fun j k => (blk0 m c t i _).trans (hidden m c _ j k))
    (fun j k => (blk1 m c t j s k).trans (weights m c j s k)) (blk2 m c t i s)

/-- The layer norm of the residual sum. -/
def out (r : Fin 4096) (s : Fin 1024) : EReal := layerNorm (DownNorm.sum (h m c) (w m c) (x m c) r) (g m c) (b m c) s

/-- A block's layer norm. -/
theorem normed_at (t : Fin cfg0.N) (i : Fin 512) (s : Fin 1024) :
    normed (iblk m c 0 t) (iblk m c 1 t) (iblk m c 2 t) (iblk m c 3 t) (iblk m c 4 t) i s = out m c ⟨512 * t + i, by have := lt8 t; omega⟩ s := by
  unfold normed out
  have h1 : block (iblk m c 0 t) (iblk m c 1 t) (iblk m c 2 t) i = DownNorm.sum (h m c) (w m c) (x m c) ⟨512 * t + i, by have := lt8 t; omega⟩ :=
    funext fun k => block_at m c t i k
  have h2 : (fun k : Fin 1024 => iblk m c 3 t (ix2 0 k)) = g m c := funext fun k => blk3 m c t k
  have h3 : (fun k : Fin 1024 => iblk m c 4 t (ix2 0 k)) = b m c := funext fun k => blk4 m c t k
  exact congr (congr (congr (congrArg layerNorm h1) h2) h3) rfl

theorem rows5 (t : Fin cfg0.N) (i : Fin 512) (s : Fin 1024) :
    (dats m 0 c).arrAt 5 cfg0.N (ix2 ⟨512 * t + i, by have := lt8 t; omega⟩ s)
      = out0_5 (iblk m c 0 t) (iblk m c 1 t) (iblk m c 2 t) (iblk m c 3 t) (iblk m c 4 t) (ix2 i s) := by
  have hb := congrFun (Value.blocks5 m c t (flush0_5 t)) (ix2 i s)
  rw [Value.flushed5] at hb
  refine Eq.trans (congrArg ((dats m 0 c).arrAt 5 cfg0.N) ?_) hb
  blk_ext [idx t]
theorem rows6 (t : Fin cfg0.N) (i : Fin 512) (s : Fin 1024) :
    (dats m 0 c).arrAt 6 cfg0.N (ix2 ⟨512 * t + i, by have := lt8 t; omega⟩ s)
      = out0_6 (iblk m c 0 t) (iblk m c 1 t) (iblk m c 2 t) (iblk m c 3 t) (iblk m c 4 t) (ix2 i s) := by
  have hb := congrFun (Value.blocks6 m c t (flush0_6 t)) (ix2 i s)
  rw [Value.flushed6] at hb
  refine Eq.trans (congrArg ((dats m 0 c).arrAt 6 cfg0.N) ?_) hb
  blk_ext [idx t]
theorem rows7 (t : Fin cfg0.N) (i : Fin 512) (s : Fin 1024) :
    (dats m 0 c).arrAt 7 cfg0.N (ix2 ⟨512 * t + i, by have := lt8 t; omega⟩ s)
      = out0_7 (iblk m c 0 t) (iblk m c 1 t) (iblk m c 2 t) (iblk m c 3 t) (iblk m c 4 t) (ix2 i s) := by
  have hb := congrFun (Value.blocks7 m c t (flush0_7 t)) (ix2 i s)
  rw [Value.flushed7] at hb
  refine Eq.trans (congrArg ((dats m 0 c).arrAt 7 cfg0.N) ?_) hb
  blk_ext [idx t]
theorem columns8 (t : Fin cfg0.N) (i : Fin 512) (s : Fin 1024) :
    (dats m 0 c).arrAt 8 cfg0.N (ix2 s ⟨512 * t + i, by have := lt8 t; omega⟩)
      = out0_8 (iblk m c 0 t) (iblk m c 1 t) (iblk m c 2 t) (iblk m c 3 t) (iblk m c 4 t) (ix2 s i) := by
  have hb := congrFun (Value.blocks8 m c t (flush0_8 t)) (ix2 s i)
  rw [Value.flushed8] at hb
  refine Eq.trans (congrArg ((dats m 0 c).arrAt 8 cfg0.N) ?_) hb
  blk_ext [idx t]

/-- The arrays that the kernel returns: the residual sum, its layer norm twice, and the layer norm transposed. -/
theorem arr5 (r : Fin 4096) (s : Fin 1024) : (dats m 0 c).arrAt 5 cfg0.N (ix2 r s) = DownNorm.sum (h m c) (w m c) (x m c) r s :=
  Adam.of_blocks (N := cfg0.N) (B := 512) (congrArg (· * 512) N_0) (fun r s => (dats m 0 c).arrAt 5 cfg0.N (ix2 r s)) (DownNorm.sum (h m c) (w m c) (x m c))
    (fun t i s => (rows5 m c t i s).trans ((out5 _ _ _ _ _ i s).trans (block_at m c t i s))) r s
theorem arr6 (r : Fin 4096) (s : Fin 1024) : (dats m 0 c).arrAt 6 cfg0.N (ix2 r s) = out m c r s :=
  Adam.of_blocks (N := cfg0.N) (B := 512) (congrArg (· * 512) N_0) (fun r s => (dats m 0 c).arrAt 6 cfg0.N (ix2 r s)) (out m c)
    (fun t i s => (rows6 m c t i s).trans ((out6 _ _ _ _ _ i s).trans (normed_at m c t i s))) r s
theorem arr7 (r : Fin 4096) (s : Fin 1024) : (dats m 0 c).arrAt 7 cfg0.N (ix2 r s) = out m c r s :=
  Adam.of_blocks (N := cfg0.N) (B := 512) (congrArg (· * 512) N_0) (fun r s => (dats m 0 c).arrAt 7 cfg0.N (ix2 r s)) (out m c)
    (fun t i s => (rows7 m c t i s).trans ((out7 _ _ _ _ _ i s).trans (normed_at m c t i s))) r s
theorem arr8 (r : Fin 4096) (s : Fin 1024) : (dats m 0 c).arrAt 8 cfg0.N (ix2 s r) = out m c r s :=
  Adam.of_blocks (N := cfg0.N) (B := 512) (congrArg (· * 512) N_0) (fun r s => (dats m 0 c).arrAt 8 cfg0.N (ix2 s r)) (out m c)
    (fun t i s => (columns8 m c t i s).trans ((out8 _ _ _ _ _ i s).trans (normed_at m c t i s))) r s

end Cert.Kernel11Ideal.DownNorm

namespace Cert.Reference11Ideal.DownNorm
open Cert.Reference11Ideal Cert.Reference11Ideal.Gen Idealize.ShloMosaic Idealize.ShloMosaic.TcCoe Idealize.SL.Sem
open _root_.DownNorm

variable (x0 : (⟨S4096x2816, .f32⟩ : BufTy).Contents (Elt Ideal)) (x1 : (⟨S2816x1024, .f32⟩ : BufTy).Contents (Elt Ideal))
  (x2 : (⟨S4096x1024, .f32⟩ : BufTy).Contents (Elt Ideal)) (x3 x4 : (⟨S1x1024, .f32⟩ : BufTy).Contents (Elt Ideal))

theorem residual (r : Fin 4096) (s : Fin 1024) : Read.val_main_v5 x0 x1 x2 (ix2 r s)
    = DownNorm.sum (fun r k => x0 (ix2 r k)) (fun k s => x1 (ix2 k s)) (fun r s => x2 (ix2 r s)) r s := by
  unfold Read.val_main_v5 Read.val_main_v4 Read.val_main_v3 Read.val_main_v2 Read.val_main_v1 Read.val_main_v0 Read.val_main_cst Read.val_main_cst_0
  pointwise
  rfl

/-- The layer norm of the residual sum. -/
def out (r : Fin 4096) (s : Fin 1024) : EReal :=
  layerNorm (DownNorm.sum (fun r k => x0 (ix2 r k)) (fun k s => x1 (ix2 k s)) (fun r s => x2 (ix2 r s)) r) (fun k => x3 (ix2 0 k)) (fun k => x4 (ix2 0 k)) s

theorem mean_at (r : Fin 4096) : Read.val_main_v11 x0 x1 x2 (ix2 r 0) = mean (fun k => Read.val_main_v5 x0 x1 x2 (ix2 r k)) := by
  unfold Read.val_main_v11 Read.val_main_v10 Read.val_main_v9 Read.val_main_v8 Read.val_main_cst_1 Read.val_main_cst_2 mean lit
  generalize Read.val_main_v5 x0 x1 x2 = v
  pointwise

theorem var_at (r : Fin 4096) : Read.val_main_v18 x0 x1 x2 (ix2 r 0)
    = mean (fun k => (Read.val_main_v5 x0 x1 x2 (ix2 r k) - Read.val_main_v11 x0 x1 x2 (ix2 r 0)) * (Read.val_main_v5 x0 x1 x2 (ix2 r k) - Read.val_main_v11 x0 x1 x2 (ix2 r 0))) := by
  unfold Read.val_main_v18 Read.val_main_v17 Read.val_main_v16 Read.val_main_v15 Read.val_main_v14 Read.val_main_v13 Read.val_main_v12 Read.val_main_cst_3 Read.val_main_cst_4 mean lit
  generalize Read.val_main_v5 x0 x1 x2 = v
  generalize Read.val_main_v11 x0 x1 x2 = u
  pointwise

theorem normal (r : Fin 4096) (s : Fin 1024) : Read.val_main_v31 x0 x1 x2 x3 x4 (ix2 r s) = out x0 x1 x2 x3 x4 r s := by
  have h : Read.val_main_v31 x0 x1 x2 x3 x4 (ix2 r s) = (Read.val_main_v5 x0 x1 x2 (ix2 r s) - Read.val_main_v11 x0 x1 x2 (ix2 r 0))
      * Ideal.rsqrt (Read.val_main_v18 x0 x1 x2 (ix2 r 0) + lit 0x3727C5AC#32) * x3 (ix2 0 s) + x4 (ix2 0 s) := by
    unfold Read.val_main_v31 Read.val_main_v30 Read.val_main_v29 Read.val_main_v28 Read.val_main_v27 Read.val_main_v26 Read.val_main_v25 Read.val_main_v24
      Read.val_main_v23 Read.val_main_v22 Read.val_main_v21 Read.val_main_v20 Read.val_main_v19 Read.val_main_cst_5 Read.val_main_v6 Read.val_main_v7 lit
    generalize Read.val_main_v5 x0 x1 x2 = v
    generalize Read.val_main_v11 x0 x1 x2 = u
    generalize Read.val_main_v18 x0 x1 x2 = t
    pointwise
  rw [h, var_at, mean_at]
  unfold out layerNorm
  simp only [residual]

theorem copy (r : Fin 4096) (s : Fin 1024) : Read.val_main_v32 x0 x1 x2 x3 x4 (ix2 r s) = out x0 x1 x2 x3 x4 r s :=
  normal x0 x1 x2 x3 x4 r s

theorem transposed (r : Fin 4096) (s : Fin 1024) : Read.val_main_v34 x0 x1 x2 x3 x4 (ix2 s r) = out x0 x1 x2 x3 x4 r s := by
  rw [← normal]
  unfold Read.val_main_v34 Read.val_main_v33
  generalize Read.val_main_v31 x0 x1 x2 x3 x4 = v
  pointwise

/-- The arguments end as they began, and every semaphore (there is none) at zero. -/
theorem frame (m : (ℓ : Loc nD τ sig) → Buf (Elt Ideal) ℓ) (ρ : Dev nD → PrngReg) : θ_run defs (onTc (τ := τ) main) ⟨m, fun _ => 0, ρ⟩
    (fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => (h c).2.2.2.2, sem_eq_zero_of_no_sems rfl _⟩) (Value.run m ρ)

end Cert.Reference11Ideal.DownNorm
end
-- ==== Proof.DownNormEqual.lean ====
module
public import proofs.«01_k».proof.Defs
public import proofs.«01_k».proof.Proof.DownNorm
@[expose] public section

/-!
# The down projection with its layer norm: the kernel returns what the reference returns
-/
noncomputable section
namespace Cert.Proof.DownNorm
open Idealize.ShloMosaic Idealize.SL.Sem

theorem algebraic : Cert.algebraic_Kernel11Ideal_Reference11Ideal (hKernel11Ideal := Cert.Kernel11Ideal.Gen.facts) (hReference11Ideal := Cert.Reference11Ideal.Gen.facts) := by
  intro m g m' g' _ hm
  refine ⟨fun c => (Cert.Kernel11Ideal.Gen.dats m 0 c).arrAt 5 Cert.Kernel11Ideal.cfg0.N, fun c => (Cert.Kernel11Ideal.Gen.dats m 0 c).arrAt 6 Cert.Kernel11Ideal.cfg0.N,
    fun c => (Cert.Kernel11Ideal.Gen.dats m 0 c).arrAt 7 Cert.Kernel11Ideal.cfg0.N, fun c => (Cert.Kernel11Ideal.Gen.dats m 0 c).arrAt 8 Cert.Kernel11Ideal.cfg0.N,
    Cert.Kernel11Ideal.Value.run_blocks m g, ?_⟩
  refine (θ_run Cert.Reference11Ideal.defs _ _).mono (fun r h c => ?_) (Cert.Reference11Ideal.Value.run m' g')
  obtain ⟨h0, h1, h2, h3, h4⟩ := hm c
  refine ⟨(h c).1.trans ((Cert.Reference11Ideal.Read.val_main_v5_eq _ _ _).trans (funext fun i => ?_)),
    (h c).2.1.trans ((Cert.Reference11Ideal.Read.val_main_v31_eq m' c).trans (funext fun i => ?_)),
    (h c).2.2.1.trans ((Cert.Reference11Ideal.Read.val_main_v32_eq m' c).trans (funext fun i => ?_)),
    (h c).2.2.2.1.trans ((Cert.Reference11Ideal.Read.val_main_v34_eq m' c).trans (funext fun i => ?_)), (h c).2.2.2.2⟩
  · obtain ⟨a, j, rfl⟩ : ∃ (a : Fin 4096) (j : Fin 1024), i = ix2 a j := ⟨i 0, i 1, (ix2_eta i).symm⟩
    rw [h0, h1, h2]
    exact (Cert.Reference11Ideal.DownNorm.residual _ _ _ a j).trans (Cert.Kernel11Ideal.DownNorm.arr5 m c a j).symm
  · obtain ⟨a, j, rfl⟩ : ∃ (a : Fin 4096) (j : Fin 1024), i = ix2 a j := ⟨i 0, i 1, (ix2_eta i).symm⟩
    rw [h0, h1, h2, h3, h4]
    exact (Cert.Reference11Ideal.DownNorm.normal _ _ _ _ _ a j).trans (Cert.Kernel11Ideal.DownNorm.arr6 m c a j).symm
  · obtain ⟨a, j, rfl⟩ : ∃ (a : Fin 4096) (j : Fin 1024), i = ix2 a j := ⟨i 0, i 1, (ix2_eta i).symm⟩
    rw [h0, h1, h2, h3, h4]
    exact (Cert.Reference11Ideal.DownNorm.copy _ _ _ _ _ a j).trans (Cert.Kernel11Ideal.DownNorm.arr7 m c a j).symm
  · obtain ⟨j, a, rfl⟩ : ∃ (j : Fin 1024) (a : Fin 4096), i = ix2 j a := ⟨i 0, i 1, (ix2_eta i).symm⟩
    rw [h0, h1, h2, h3, h4]
    exact (Cert.Reference11Ideal.DownNorm.transposed _ _ _ _ _ a j).trans (Cert.Kernel11Ideal.DownNorm.arr8 m c a j).symm

end Cert.Proof.DownNorm
end
-- ==== Proof.Merge.lean ====
module
public import proofs.«01_k».proof.Proof.Adam
public import proofs.«01_k».proof.Proof.Rects
public import proofs.«01_k».proof.Proof.Gen.Kernel12Ideal.Value
public import proofs.«01_k».proof.Proof.Gen.Reference12Ideal.Run
public import proofs.«01_k».proof.Proof.Gen.Reference12Ideal.Read
public import Idealize.ShloMosaic.Lib.StableHlo.ReadAt
public import Idealize.ShloMosaic.Lib.Pipeline.ValueKit
public import Idealize.ShloMosaic.Lib.Quiescent
@[expose] public section

/-!
# The two mixers' output projections and their gated sum

Each product's inner dimension lies on four chips; the kernel adds the chips' products.
-/
noncomputable section
namespace Gated
open Idealize.ShloMosaic

/-- A product at a token and a column. -/
def lin {n : ℕ} (x : Fin 4096 → Fin n → EReal) (w : Fin n → Fin 1024 → EReal) (r : Fin 4096) (s : Fin 1024) : EReal :=
  ∑ k : Fin n, x r k * w k s

/-- The logistic function. -/
def sig (a : EReal) : EReal := Ideal.div 1 (1 + Ideal.exp (-a))

/-- The gated sum of two numbers. -/
def sum (a p b q : EReal) : EReal := sig a * p + sig b * q

theorem lt_four {n : ℕ} (j : Fin 4) (k : Fin n) : n * j.val + k.val < 4 * n := by
  have h := Nat.mul_le_mul_right n (Nat.succ_le_of_lt j.isLt)
  have := k.isLt
  rw [Nat.succ_mul, Nat.mul_comm j.val n] at h
  omega

/-- A sum over four groups. -/
theorem sum_four {n : ℕ} (f : Fin (4 * n) → EReal) : ∑ k : Fin (4 * n), f k = ∑ j : Fin 4, ∑ k : Fin n, f ⟨n * j + k, lt_four j k⟩ := by
  rw [← Finset.sum_product', Finset.univ_product_univ]
  refine (Fintype.sum_equiv (finProdFinEquiv (m := 4) (n := n)) _ _ fun p => ?_).symm
  exact congrArg f (Fin.ext (Nat.add_comm _ _))

/-- A load of rows times a load of a chip's weights, at a row and a column. -/
def prod {n : ℕ} (x : Vec Ideal ⟨2, ![512, n]⟩ .bf16) (w : Vec Ideal ⟨3, ![1, 1024, n]⟩ .bf16) (i : Fin 512) (s : Fin 1024) : EReal :=
  ∑ k : Fin n, x (ix2 i k) * w (ix3 0 s k)

/-- A chip's product at a row and a column of the block. -/
def term {n : ℕ} (x : Vec Ideal ⟨2, ![512, 4 * n]⟩ .bf16) (w : Vec Ideal ⟨3, ![4, 1024, n]⟩ .bf16) (i : Fin 512) (s : Fin 1024) (j : Fin 4) : EReal :=
  ∑ k : Fin n, x (ix2 i ⟨n * j + k, lt_four j k⟩) * w (ix3 j s k)

/-- The chips' products, added. -/
def total {n : ℕ} (x : Vec Ideal ⟨2, ![512, 4 * n]⟩ .bf16) (w : Vec Ideal ⟨3, ![4, 1024, n]⟩ .bf16) (i : Fin 512) (s : Fin 1024) : EReal :=
  term x w i s 0 + term x w i s 1 + term x w i s 2 + term x w i s 3

theorem prod_term {n : ℕ} (x : Vec Ideal ⟨2, ![512, 4 * n]⟩ .bf16) (w : Vec Ideal ⟨3, ![4, 1024, n]⟩ .bf16) (j : Fin 4) (i : Fin 512) (s : Fin 1024)
    (inb : ∀ b : Fin 2, (![0, n * j.val] : Fin 2 → ℕ) b + (![512, n] : Fin 2 → ℕ) b ≤ (![512, 4 * n] : Fin 2 → ℕ) b)
    (inb' : ∀ b : Fin 3, (![j.val, 0, 0] : Fin 3 → ℕ) b + (![1, 1024, n] : Fin 3 → ℕ) b ≤ (![4, 1024, n] : Fin 3 → ℕ) b) :
    prod (n := n) (View.ld x (Rect.unit (s := ⟨2, ![512, 4 * n]⟩) ![0, n * j.val] ![512, n] inb))
      (View.ld w (Rect.unit (s := ⟨3, ![4, 1024, n]⟩) ![j.val, 0, 0] ![1, 1024, n] inb')) i s = term x w i s j := by
  unfold prod term
  refine Finset.sum_congr rfl fun k _ => congrArg₂ (· * ·) ?_ ?_
  · exact (Rects.ld2 (F := Ideal) x inb i k).trans (congrArg (fun a => x (ix2 a _)) (Fin.ext (Nat.zero_add _)))
  · exact (Rects.ld3 (F := Ideal) w inb' s k).trans (congrArg₂ (fun a b => w (ix3 _ a b)) (Fin.ext (Nat.zero_add _)) (Fin.ext (Nat.zero_add _)))

/-- The chips' products are one product. -/
theorem total_lin {n : ℕ} (x : Vec Ideal ⟨2, ![512, 4 * n]⟩ .bf16) (w : Vec Ideal ⟨3, ![4, 1024, n]⟩ .bf16)
    (u : Fin 4096 → Fin (4 * n) → EReal) (v : Fin (4 * n) → Fin 1024 → EReal) (i : Fin 512) (r : Fin 4096) (s : Fin 1024)
    (hx : ∀ k, x (ix2 i k) = u r k) (hw : ∀ (j : Fin 4) (k : Fin n), w (ix3 j s k) = v ⟨n * j + k, lt_four j k⟩ s) :
    total x w i s = lin u v r s := by
  unfold total lin
  rw [sum_four, Fin.sum_univ_four]
  have h (j : Fin 4) : term x w i s j = ∑ k : Fin n, u r ⟨n * j + k, lt_four j k⟩ * v ⟨n * j + k, lt_four j k⟩ s :=
    Finset.sum_congr rfl fun k _ => congrArg₂ (· * ·) (hx _) (hw j k)
  rw [h, h, h, h]

end Gated

namespace Cert.Kernel12Ideal.Merge
open Cert.Kernel12Ideal Cert.Kernel12Ideal.Gen Idealize.ShloMosaic Idealize.ShloMosaic.TcCoe Idealize.SL.Sem

section block
variable (x0 : Vec Ideal S512x2048 .bf16) (x1 x2 x3 : Vec Ideal S512x1024 .bf16) (x4 : Vec Ideal S4x1024x512 .bf16) (x5 : Vec Ideal S4x1024x256 .bf16)
  (i : Fin 512) (s : Fin 1024)

theorem three_apply (a0 a1 a2 : Vec Ideal S512x512 .bf16) (u0 u1 u2 : Vec Ideal S1x1024x512 .bf16) :
    k0_pay3 a0 u0 a1 u1 a2 u2 (ix2 i s) = Gated.prod a0 u0 i s + Gated.prod a1 u1 i s + Gated.prod a2 u2 i s := by
  unfold k0_pay3 Gated.prod
  pointwise

theorem last_apply (z : FVec Ideal S512x1024 .f32) (a : Vec Ideal S512x512 .bf16) (u : Vec Ideal S1x1024x512 .bf16) :
    k0_pay4 z a u (ix2 i s) = z (ix2 i s) + Gated.prod a u i s := by
  unfold k0_pay4 Gated.prod
  pointwise

theorem two_apply (a0 a1 : Vec Ideal S512x256 .bf16) (u0 u1 : Vec Ideal S1x1024x256 .bf16) :
    k0_pay2 a0 u0 a1 u1 (ix2 i s) = Gated.prod a0 u0 i s + Gated.prod a1 u1 i s := by
  unfold k0_pay2 Gated.prod
  pointwise

theorem four_apply (z : FVec Ideal S512x1024 .f32) (a0 a1 : Vec Ideal S512x256 .bf16) (u0 u1 : Vec Ideal S1x1024x256 .bf16) :
    k0_pay5 z a0 u0 a1 u1 (ix2 i s) = z (ix2 i s) + Gated.prod a0 u0 i s + Gated.prod a1 u1 i s := by
  unfold k0_pay5 Gated.prod
  pointwise

/-- The retention's projection. -/
theorem ret_block : k0_pay4 (k0_pay10 x0 x1 x2 x3 x4 x5) (View.ld x0 r0_12) (View.ld x4 r0_13) (ix2 i s) = Gated.total (n := 512) x0 x4 i s := by
  unfold k0_pay10
  rw [last_apply, three_apply]
  have h (j inb inb') := Gated.prod_term (n := 512) x0 x4 j i s inb inb'
  exact congrArg₂ (· + ·) (congrArg₂ (· + ·) (congrArg₂ (· + ·) (h 0 _ _) (h 1 _ _)) (h 2 _ _)) (h 3 _ _)

/-- The convolution's projection. -/
theorem conv_block : k0_pay5 (k0_pay9 x0 x1 x2 x3 x4 x5) (View.ld x1 r0_10) (View.ld x5 r0_11) (View.ld x1 r0_14) (View.ld x5 r0_15) (ix2 i s)
    = Gated.total (n := 256) x1 x5 i s := by
  unfold k0_pay9
  rw [four_apply, two_apply]
  have h (j inb inb') := Gated.prod_term (n := 256) x1 x5 j i s inb inb'
  exact congrArg₂ (· + ·) (congrArg₂ (· + ·) (congrArg₂ (· + ·) (h 0 _ _) (h 1 _ _)) (h 2 _ _)) (h 3 _ _)

theorem whole (v : Vec Ideal S512x1024 .bf16) : View.ld (Val := Elt Ideal) v r0_16 = v := View.ld_unit_zero Adam.zero2 _ v

theorem gate_ret (z : FVec Ideal S512x1024 .f32) (a : Vec Ideal S512x512 .bf16) (u : Vec Ideal S1x1024x512 .bf16) (g : Vec Ideal S512x1024 .bf16) :
    k0_pay8 z a u g (ix2 i s) = Gated.sig (g (ix2 i s)) * k0_pay4 z a u (ix2 i s) := by
  unfold k0_pay8 Gated.sig
  generalize k0_pay4 z a u = y
  pointwise
  rw [zero_sub]

theorem gate_sum (z y : FVec Ideal S512x1024 .f32) (g : Vec Ideal S512x1024 .bf16) :
    k0_pay1 z y g (ix2 i s) = y (ix2 i s) + Gated.sig (g (ix2 i s)) * z (ix2 i s) := by
  unfold k0_pay1 Gated.sig
  pointwise
  rw [zero_sub]

theorem out6 : out0_6 x0 x1 x2 x3 x4 x5 (ix2 i s) = Gated.total (n := 512) x0 x4 i s := by
  unfold out0_6
  rw [View.canon_unit_zero (Val := Elt Ideal) Adam.zero2]
  exact ret_block x0 x1 x2 x3 x4 x5 i s

theorem out7 : out0_7 x0 x1 x2 x3 x4 x5 (ix2 i s) = Gated.total (n := 256) x1 x5 i s := by
  unfold out0_7
  rw [View.canon_unit_zero (Val := Elt Ideal) Adam.zero2]
  exact conv_block x0 x1 x2 x3 x4 x5 i s

theorem out8 : out0_8 x0 x1 x2 x3 x4 x5 (ix2 i s)
    = Gated.sum (x2 (ix2 i s)) (Gated.total (n := 512) x0 x4 i s) (x3 (ix2 i s)) (Gated.total (n := 256) x1 x5 i s) := by
  unfold out0_8
  rw [View.canon_unit_zero (Val := Elt Ideal) Adam.zero2, whole, whole, gate_sum, gate_ret, ret_block, conv_block]
  rfl

end block

variable (m : (ℓ : Loc nD τ sig) → Buf (Elt Ideal) ℓ) (c : Dev nD)

def ret (r : Fin 4096) (k : Fin 2048) : EReal := m (c, Proc.tc.devRef main_arg0) (ix2 r k)
def conv (r : Fin 4096) (k : Fin 1024) : EReal := m (c, Proc.tc.devRef main_arg1) (ix2 r k)
def proj (r : Fin 4096) (k : Fin 10240) : EReal := m (c, Proc.tc.devRef main_arg2) (ix2 r k)
def wr (k : Fin 2048) (s : Fin 1024) : EReal := m (c, Proc.tc.devRef main_arg3) (ix2 k s)
def wc (k : Fin 1024) (s : Fin 1024) : EReal := m (c, Proc.tc.devRef main_arg4) (ix2 k s)

theorem rowsRet (r : Fin 4096) (k : Fin 2048) : V m c main_v8 (ix2 r k) = ret m c r k := by
  unfold V
  after_reads_at
  try rfl
theorem rowsConv (r : Fin 4096) (k : Fin 1024) : V m c main_v9 (ix2 r k) = conv m c r k := by
  unfold V
  after_reads_at
  try rfl
theorem weightsRet (j : Fin 4) (s : Fin 1024) (k : Fin 512) : V m c main_v7 (ix3 j s ⟨k, by omega⟩) = wr m c ⟨512 * j + k, by omega⟩ s := by
  unfold V
  after_reads_at
  after_reads_at
  simp only [mul_comm j.val 512]
  rfl
theorem weightsConv (j : Fin 4) (s : Fin 1024) (k : Fin 256) : V m c main_v7 (ix3 j s ⟨512 + k, by omega⟩) = wc m c ⟨256 * j + k, by omega⟩ s := by
  unfold V
  after_reads_at
  after_reads_at
  simp only [mul_comm j.val 256]
  rfl

theorem idx : ∀ t : Fin cfg0.N, win0_0.index t = ![t.val, 0] ∧ win0_1.index t = ![t.val, 0] ∧ win0_2.index t = ![t.val, 8]
    ∧ win0_3.index t = ![t.val, 9] ∧ win0_4.index t = ![0, 0, 0] ∧ win0_5.index t = ![0, 0, 2] ∧ win0_6.index t = ![t.val, 0]
    ∧ win0_7.index t = ![t.val, 0] ∧ win0_8.index t = ![t.val, 0] := by
  decide +kernel

theorem lt8 (t : Fin cfg0.N) : t.val < 8 := lt_of_lt_of_eq t.isLt N_0

theorem blk0 (t : Fin cfg0.N) (i : Fin 512) (k : Fin 2048) : iblk m c 0 t (ix2 i k) = V m c main_v8 (ix2 ⟨512 * t + i, by have := lt8 t; omega⟩ k) := by
  blk_ext [iblk, idx t]
theorem blk1 (t : Fin cfg0.N) (i : Fin 512) (k : Fin 1024) : iblk m c 1 t (ix2 i k) = V m c main_v9 (ix2 ⟨512 * t + i, by have := lt8 t; omega⟩ k) := by
  blk_ext [iblk, idx t]
theorem blk2 (t : Fin cfg0.N) (i : Fin 512) (s : Fin 1024) :
    iblk m c 2 t (ix2 i s) = proj m c ⟨512 * t + i, by have := lt8 t; omega⟩ ⟨8192 + s, by omega⟩ := by
  refine Eq.trans ?_ (congrFun (V_main_arg2 m c) _)
  blk_ext [iblk, idx t]
theorem blk3 (t : Fin cfg0.N) (i : Fin 512) (s : Fin 1024) :
    iblk m c 3 t (ix2 i s) = proj m c ⟨512 * t + i, by have := lt8 t; omega⟩ ⟨9216 + s, by omega⟩ := by
  refine Eq.trans ?_ (congrFun (V_main_arg2 m c) _)
  blk_ext [iblk, idx t]
theorem blk4 (t : Fin cfg0.N) (j : Fin 4) (s : Fin 1024) (k : Fin 512) : iblk m c 4 t (ix3 j s k) = V m c main_v7 (ix3 j s ⟨k, by omega⟩) := by
  blk_ext [iblk, idx t]
theorem blk5 (t : Fin cfg0.N) (j : Fin 4) (s : Fin 1024) (k : Fin 256) : iblk m c 5 t (ix3 j s k) = V m c main_v7 (ix3 j s ⟨512 + k, by omega⟩) := by
  blk_ext [iblk, idx t]

theorem ret_at (t : Fin cfg0.N) (i : Fin 512) (s : Fin 1024) :
    Gated.total (n := 512) (iblk m c 0 t) (iblk m c 4 t) i s = Gated.lin (ret m c) (wr m c) ⟨512 * t + i, by have := lt8 t; omega⟩ s :=
  Gated.total_lin (n := 512) _ _ (ret m c) (wr m c) i _ s (fun k => (blk0 m c t i k).trans (rowsRet m c _ k))
    (fun j k => (blk4 m c t j s k).trans (weightsRet m c j s k))
theorem conv_at (t : Fin cfg0.N) (i : Fin 512) (s : Fin 1024) :
    Gated.total (n := 256) (iblk m c 1 t) (iblk m c 5 t) i s = Gated.lin (conv m c) (wc m c) ⟨512 * t + i, by have := lt8 t; omega⟩ s :=
  Gated.total_lin (n := 256) _ _ (conv m c) (wc m c) i _ s (fun k => (blk1 m c t i k).trans (rowsConv m c _ k))
    (fun j k => (blk5 m c t j s k).trans (weightsConv m c j s k))

/-- The gated sum of the two projections. -/
def merged (r : Fin 4096) (s : Fin 1024) : EReal :=
  Gated.sum (proj m c r ⟨8192 + s, by omega⟩) (Gated.lin (ret m c) (wr m c) r s) (proj m c r ⟨9216 + s, by omega⟩) (Gated.lin (conv m c) (wc m c) r s)

theorem merged_at (t : Fin cfg0.N) (i : Fin 512) (s : Fin 1024) :
    Gated.sum (iblk m c 2 t (ix2 i s)) (Gated.total (n := 512) (iblk m c 0 t) (iblk m c 4 t) i s) (iblk m c 3 t (ix2 i s))
      (Gated.total (n := 256) (iblk m c 1 t) (iblk m c 5 t) i s) = merged m c ⟨512 * t + i, by have := lt8 t; omega⟩ s := by
  unfold merged
  exact congr (congr (congr (congrArg Gated.sum (blk2 m c t i s)) (ret_at m c t i s)) (blk3 m c t i s)) (conv_at m c t i s)

theorem rows6 (t : Fin cfg0.N) (i : Fin 512) (s : Fin 1024) : (dats m 0 c).arrAt 6 cfg0.N (ix2 ⟨512 * t + i, by have := lt8 t; omega⟩ s)
    = out0_6 (iblk m c 0 t) (iblk m c 1 t) (iblk m c 2 t) (iblk m c 3 t) (iblk m c 4 t) (iblk m c 5 t) (ix2 i s) := by
  have hb := congrFun (Value.blocks6 m c t (flush0_6 t)) (ix2 i s)
  rw [Value.flushed6] at hb
  refine Eq.trans (congrArg ((dats m 0 c).arrAt 6 cfg0.N) ?_) hb
  blk_ext [idx t]
theorem rows7 (t : Fin cfg0.N) (i : Fin 512) (s : Fin 1024) : (dats m 0 c).arrAt 7 cfg0.N (ix2 ⟨512 * t + i, by have := lt8 t; omega⟩ s)
    = out0_7 (iblk m c 0 t) (iblk m c 1 t) (iblk m c 2 t) (iblk m c 3 t) (iblk m c 4 t) (iblk m c 5 t) (ix2 i s) := by
  have hb := congrFun (Value.blocks7 m c t (flush0_7 t)) (ix2 i s)
  rw [Value.flushed7] at hb
  refine Eq.trans (congrArg ((dats m 0 c).arrAt 7 cfg0.N) ?_) hb
  blk_ext [idx t]
theorem rows8 (t : Fin cfg0.N) (i : Fin 512) (s : Fin 1024) : (dats m 0 c).arrAt 8 cfg0.N (ix2 ⟨512 * t + i, by have := lt8 t; omega⟩ s)
    = out0_8 (iblk m c 0 t) (iblk m c 1 t) (iblk m c 2 t) (iblk m c 3 t) (iblk m c 4 t) (iblk m c 5 t) (ix2 i s) := by
  have hb := congrFun (Value.blocks8 m c t (flush0_8 t)) (ix2 i s)
  rw [Value.flushed8] at hb
  refine Eq.trans (congrArg ((dats m 0 c).arrAt 8 cfg0.N) ?_) hb
  blk_ext [idx t]

/-- The arrays that the kernel returns: the two projections and their gated sum. -/
theorem arr6 (r : Fin 4096) (s : Fin 1024) : (dats m 0 c).arrAt 6 cfg0.N (ix2 r s) = Gated.lin (ret m c) (wr m c) r s :=
  Adam.of_blocks (N := cfg0.N) (B := 512) (congrArg (· * 512) N_0) (fun r s => (dats m 0 c).arrAt 6 cfg0.N (ix2 r s)) (Gated.lin (ret m c) (wr m c))
    (fun t i s => (rows6 m c t i s).trans ((out6 _ _ _ _ _ _ i s).trans (ret_at m c t i s))) r s
theorem arr7 (r : Fin 4096) (s : Fin 1024) : (dats m 0 c).arrAt 7 cfg0.N (ix2 r s) = Gated.lin (conv m c) (wc m c) r s :=
  Adam.of_blocks (N := cfg0.N) (B := 512) (congrArg (· * 512) N_0) (fun r s => (dats m 0 c).arrAt 7 cfg0.N (ix2 r s)) (Gated.lin (conv m c) (wc m c))
    (fun t i s => (rows7 m c t i s).trans ((out7 _ _ _ _ _ _ i s).trans (conv_at m c t i s))) r s
theorem arr8 (r : Fin 4096) (s : Fin 1024) : (dats m 0 c).arrAt 8 cfg0.N (ix2 r s) = merged m c r s :=
  Adam.of_blocks (N := cfg0.N) (B := 512) (congrArg (· * 512) N_0) (fun r s => (dats m 0 c).arrAt 8 cfg0.N (ix2 r s)) (merged m c)
    (fun t i s => (rows8 m c t i s).trans ((out8 _ _ _ _ _ _ i s).trans (merged_at m c t i s))) r s

end Cert.Kernel12Ideal.Merge

namespace Cert.Reference12Ideal.Merge
open Cert.Reference12Ideal Cert.Reference12Ideal.Gen Idealize.ShloMosaic Idealize.ShloMosaic.TcCoe Idealize.SL.Sem

variable (x0 : (⟨S4096x2048, .f32⟩ : BufTy).Contents (Elt Ideal)) (x1 : (⟨S4096x1024, .f32⟩ : BufTy).Contents (Elt Ideal))
  (x2 : (⟨S4096x10240, .bf16⟩ : BufTy).Contents (Elt Ideal)) (x3 : (⟨S2048x1024, .f32⟩ : BufTy).Contents (Elt Ideal))
  (x4 : (⟨S1024x1024, .f32⟩ : BufTy).Contents (Elt Ideal)) (r : Fin 4096) (s : Fin 1024)

theorem ret : Read.val_main_v21 x0 x3 (ix2 r s) = Gated.lin (fun r k => x0 (ix2 r k)) (fun k s => x3 (ix2 k s)) r s := by
  unfold Read.val_main_v21 Read.val_main_v4 Gated.lin
  pointwise

theorem conv : Read.val_main_v22 x1 x4 (ix2 r s) = Gated.lin (fun r k => x1 (ix2 r k)) (fun k s => x4 (ix2 k s)) r s := by
  unfold Read.val_main_v22 Read.val_main_v5 Gated.lin
  pointwise

theorem merged : Read.val_main_v23 x0 x1 x2 x3 x4 (ix2 r s)
    = Gated.sum (x2 (ix2 r ⟨8192 + s, by omega⟩)) (Gated.lin (fun r k => x0 (ix2 r k)) (fun k s => x3 (ix2 k s)) r s)
      (x2 (ix2 r ⟨9216 + s, by omega⟩)) (Gated.lin (fun r k => x1 (ix2 r k)) (fun k s => x4 (ix2 k s)) r s) := by
  unfold Read.val_main_v23 Read.val_main_v20 Read.val_main_v19 Read.val_main_v18 Read.val_main_v17 Read.val_main_v16 Read.val_main_v15 Read.val_main_v14
    Read.val_main_v13 Read.val_main_v12 Read.val_main_v11 Read.val_main_v10 Read.val_main_v9 Read.val_main_v8 Read.val_main_v7 Read.val_main_v6 Read.val_main_v5
    Read.val_main_v4 Read.val_main_v3 Read.val_main_v2 Read.val_main_v1 Read.val_main_v0 Read.val_main_cst Read.val_main_cst_0 Read.val_main_cst_1 Read.val_main_cst_2
    Gated.sum Gated.sig Gated.lin
  pointwise

/-- The arguments end as they began, and every semaphore (there is none) at zero. -/
theorem frame (m : (ℓ : Loc nD τ sig) → Buf (Elt Ideal) ℓ) (ρ : Dev nD → PrngReg) : θ_run defs (onTc (τ := τ) main) ⟨m, fun _ => 0, ρ⟩
    (fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun _ h => ⟨fun c => (h c).2.2.2, sem_eq_zero_of_no_sems rfl _⟩) (Value.run m ρ)

end Cert.Reference12Ideal.Merge
end
-- ==== Proof.MergeEqual.lean ====
module
public import proofs.«01_k».proof.Defs
public import proofs.«01_k».proof.Proof.Merge
@[expose] public section

/-!
# The mixers' output projections and their gated sum: the kernel returns what the reference returns
-/
noncomputable section
namespace Cert.Proof.Merge
open Idealize.ShloMosaic Idealize.SL.Sem

theorem algebraic : Cert.algebraic_Kernel12Ideal_Reference12Ideal (hKernel12Ideal := Cert.Kernel12Ideal.Gen.facts) (hReference12Ideal := Cert.Reference12Ideal.Gen.facts) := by
  intro m g m' g' _ hm
  refine ⟨fun c => (Cert.Kernel12Ideal.Gen.dats m 0 c).arrAt 6 Cert.Kernel12Ideal.cfg0.N, fun c => (Cert.Kernel12Ideal.Gen.dats m 0 c).arrAt 7 Cert.Kernel12Ideal.cfg0.N,
    fun c => (Cert.Kernel12Ideal.Gen.dats m 0 c).arrAt 8 Cert.Kernel12Ideal.cfg0.N, Cert.Kernel12Ideal.Value.run_blocks m g, ?_⟩
  refine (θ_run Cert.Reference12Ideal.defs _ _).mono (fun r h c => ?_) (Cert.Reference12Ideal.Value.run m' g')
  obtain ⟨h0, h1, h2, h3, h4, _⟩ := hm c
  refine ⟨(h c).1.trans ((Cert.Reference12Ideal.Read.val_main_v21_eq _ _).trans (funext fun i => ?_)),
    (h c).2.1.trans ((Cert.Reference12Ideal.Read.val_main_v22_eq _ _).trans (funext fun i => ?_)),
    (h c).2.2.1.trans ((Cert.Reference12Ideal.Read.val_main_v23_eq _ _ _ _ _).trans (funext fun i => ?_)), (h c).2.2.2⟩
  · obtain ⟨a, j, rfl⟩ : ∃ (a : Fin 4096) (j : Fin 1024), i = ix2 a j := ⟨i 0, i 1, (ix2_eta i).symm⟩
    rw [h0, h3]
    exact (Cert.Reference12Ideal.Merge.ret _ _ a j).trans (Cert.Kernel12Ideal.Merge.arr6 m c a j).symm
  · obtain ⟨a, j, rfl⟩ : ∃ (a : Fin 4096) (j : Fin 1024), i = ix2 a j := ⟨i 0, i 1, (ix2_eta i).symm⟩
    rw [h1, h4]
    exact (Cert.Reference12Ideal.Merge.conv _ _ a j).trans (Cert.Kernel12Ideal.Merge.arr7 m c a j).symm
  · obtain ⟨a, j, rfl⟩ : ∃ (a : Fin 4096) (j : Fin 1024), i = ix2 a j := ⟨i 0, i 1, (ix2_eta i).symm⟩
    rw [h0, h1, h2, h3, h4]
    exact (Cert.Reference12Ideal.Merge.merged _ _ _ _ _ a j).trans (Cert.Kernel12Ideal.Merge.arr8 m c a j).symm

end Cert.Proof.Merge
end
-- ==== Proof.UpGrad.lean ====
module
public import proofs.«01_k».proof.Proof.DownGrad
public import proofs.«01_k».proof.Proof.Gen.Kernel13Ideal.Value
public import proofs.«01_k».proof.Proof.Gen.Reference13Ideal.Run
public import proofs.«01_k».proof.Proof.Gen.Reference13Ideal.Read
@[expose] public section

/-!
# The gradient of the first feed-forward layer's up projection

The call writes it beside the gate's gradient, which the array that it is given holds already.
-/
noncomputable section
namespace UpGrad
open Idealize.ShloMosaic

/-- An array whose columns from `lo` on are another's, as many as that has. -/
def beside {N B : ℕ} (lo : ℕ) (g : Fin 4 → Fin 1024 → Fin N → EReal) (f : Fin 4 → Fin 1024 → Fin B → EReal)
    (a : Fin 4) (i : Fin 1024) (j : Fin N) : EReal :=
  if hj : lo ≤ j.val ∧ j.val - lo < B then f a i ⟨j - lo, hj.2⟩ else g a i j

theorem beside_of {N B lo : ℕ} (hN : lo + B ≤ N) (v g : Fin 4 → Fin 1024 → Fin N → EReal) (f : Fin 4 → Fin 1024 → Fin B → EReal)
    (inside : ∀ (a : Fin 4) (i : Fin 1024) (j : Fin B), v a i ⟨lo + j, by omega⟩ = f a i j)
    (outside : ∀ (a : Fin 4) (i : Fin 1024) (j : Fin N), (j.val < lo ∨ lo + B ≤ j.val) → v a i j = g a i j)
    (a : Fin 4) (i : Fin 1024) (j : Fin N) : v a i j = beside lo g f a i j := by
  unfold beside
  by_cases hj : lo ≤ j.val ∧ j.val - lo < B
  · rw [dif_pos hj]
    exact (congrArg (v a i) (Fin.ext (by show j.val = lo + (j.val - lo); omega))).trans (inside a i ⟨j - lo, hj.2⟩)
  · rw [dif_neg hj]
    exact outside a i j (by omega)

end UpGrad

namespace Cert.Kernel13Ideal.UpGrad
open Cert.Kernel13Ideal Cert.Kernel13Ideal.Gen Idealize.ShloMosaic Idealize.ShloMosaic.TcCoe Idealize.SL.Sem

theorem pay_apply (v0 : Vec Ideal S1024x4096 .bf16) (v2 : Vec Ideal S4096x768 .bf16) (i : Fin 1024) (j : Fin 768) :
    k0_pay1 v0 v2 (ix3 0 i j) = ∑ k : Fin 4096, v0 (ix2 i k) * v2 (ix2 k j) := by
  unfold k0_pay1
  pointwise

variable (m : (ℓ : Loc nD τ sig) → Buf (Elt Ideal) ℓ) (c : Dev nD)

/-- The layer's input. -/
def x (k : Fin 4096) (i : Fin 1024) : EReal := m (c, Proc.tc.devRef main_arg0) (ix2 k i)
/-- The gradient of the up projection's result. -/
def d (k : Fin 4096) (j : Fin 2816) : EReal := m (c, Proc.tc.devRef main_arg1) (ix2 k j)
/-- The array that the call writes into. -/
def g (a : Fin 4) (i : Fin 1024) (j : Fin 1536) : EReal := m (c, Proc.tc.devRef main_arg2) (ix3 a i j)

theorem lhs (i : Fin 1024) (k : Fin 4096) : V m c main_v5 (ix2 i k) = x m c k i := by
  unfold V
  after_reads_at
  rfl
theorem rhs (k : Fin 4096) (a : Fin 4) (j : Fin 768) : V m c main_v3 (ix2 k ⟨768 * a + j, by omega⟩)
    = if hj : j.val < 704 then d m c k ⟨704 * a + j, by omega⟩ else 0 := by
  unfold V
  after_reads_at
  have h1 : (768 * a.val + j.val) / 768 = a := by omega
  have h2 : (768 * a.val + j.val) % 768 = j := by omega
  simp only [h1, h2, a.isLt, true_and, mul_comm a.val 704, Rects.int_zero]
  rfl
theorem given (a : Fin 4) (i : Fin 1024) (j : Fin 1536) : V m c main_v6_0 (ix3 a i j) = g m c a i j := by
  unfold V
  after_reads_at
  rfl

theorem idx : ∀ t : Fin cfg0.N, win0_0.index t = ![0, 0] ∧ win0_1.index t = ![0, t.val] ∧ win0_2.index t = ![t.val, 0, 1] := by
  decide +kernel

theorem lt4 (t : Fin cfg0.N) : t.val < 4 := lt_of_lt_of_eq t.isLt N_0

theorem blk0 (t : Fin cfg0.N) (i : Fin 1024) (k : Fin 4096) : iblk m c 0 t (ix2 i k) = V m c main_v5 (ix2 i k) := by
  blk_ext [iblk, idx t]
theorem blk1 (t : Fin cfg0.N) (k : Fin 4096) (j : Fin 768) :
    iblk m c 1 t (ix2 k j) = V m c main_v3 (ix2 k ⟨768 * t + j, by have := lt4 t; omega⟩) := by
  blk_ext [iblk, idx t]

/-- A block's product, padded columns and all. -/
theorem product (t : Fin cfg0.N) (i : Fin 1024) (j : Fin 768) :
    k0_pay1 (iblk m c 0 t) (iblk m c 1 t) (ix3 0 i j) = DownGrad.weight (d m c) (x m c) ⟨t, lt4 t⟩ i j := by
  rw [pay_apply]
  exact DownGrad.weight_of (d m c) (x m c) ⟨t, lt4 t⟩ i j (fun k => iblk m c 0 t (ix2 i k)) (fun k => iblk m c 1 t (ix2 k j))
    (fun k => (blk0 m c t i k).trans (lhs m c i k)) (fun k => (blk1 m c t k j).trans (rhs m c k ⟨t, lt4 t⟩ j))

/-- What a grid point writes. -/
theorem written (t : Fin cfg0.N) (i : Fin 1024) (j : Fin 768) :
    (outsAt0 m c t).1 (ix3 0 i j) = DownGrad.weight (d m c) (x m c) ⟨t, lt4 t⟩ i j := by
  refine Eq.trans ?_ (product m c t i j)
  unfold outsAt0 out0_A_2
  dsimp only
  rw [View.read_writes_junk_eq_canon]
  unfold kernelRun0_A
  dsimp only
  rw [View.canon_unit_zero (Val := Elt Ideal) DownGrad.zero3, View.readAt_eq_ld, View.readAt_eq_ld, (hs0_0 t).read_unread, (hs0_1 t).read_unread]
  exact congrArg₂ (fun x y => k0_pay1 x y (ix3 0 i j)) (View.ld_unit_zero Adam.zero2 _ _) (View.ld_unit_zero Adam.zero2 _ _)

theorem rows (t : Fin cfg0.N) (i : Fin 1024) (j : Fin 768) :
    (dats m 0 c).arrAt 2 cfg0.N (ix3 ⟨t, lt4 t⟩ i ⟨768 + j, by omega⟩) = (outsAt0 m c t).1 (ix3 0 i j) := by
  have hb := congrFun (Value.blocks2 m c t (flush0_2 t)) (ix3 0 i j)
  rw [Value.flushed2] at hb
  refine Eq.trans (congrArg ((dats m 0 c).arrAt 2 cfg0.N) ?_) hb
  blk_ext [idx t]

/-- The gate's half is kept. -/
theorem kept (a : Fin 4) (i : Fin 1024) (j : Fin 1536) (hj : j.val < 768 ∨ 768 + 768 ≤ j.val) :
    (dats m 0 c).arrAt 2 cfg0.N (ix3 a i j) = g m c a i j := by
  refine (Value.entry2 m c _ fun t _ hm => ?_).trans (given m c a i j)
  mem_blk [idx t] at hm
  have h : 768 ≤ j.val := hm.2.2.1
  omega

/-- The array that the kernel returns. -/
theorem arr (a : Fin 4) (i : Fin 1024) (j : Fin 1536) :
    (dats m 0 c).arrAt 2 cfg0.N (ix3 a i j) = UpGrad.beside 768 (g m c) (DownGrad.weight (d m c) (x m c)) a i j :=
  UpGrad.beside_of (by decide) (fun a i j => (dats m 0 c).arrAt 2 cfg0.N (ix3 a i j)) _ _
    (fun a i j => (rows m c ⟨a, lt_of_lt_of_eq a.isLt N_0.symm⟩ i j).trans (written m c _ i j)) (kept m c) a i j

end Cert.Kernel13Ideal.UpGrad

namespace Cert.Reference13Ideal.UpGrad
open Cert.Reference13Ideal Cert.Reference13Ideal.Gen Idealize.ShloMosaic Idealize.ShloMosaic.TcCoe Idealize.SL.Sem

theorem gradient (x0 : (⟨S4096x1024, .f32⟩ : BufTy).Contents (Elt Ideal)) (x1 : (⟨S4096x2816, .f32⟩ : BufTy).Contents (Elt Ideal))
    (a : Fin 4) (i : Fin 1024) (j : Fin 768) :
    Read.val_main_v6 x0 x1 (ix3 a i j) = DownGrad.weight (fun k j => x1 (ix2 k j)) (fun k i => x0 (ix2 k i)) a i j := by
  unfold Read.val_main_v6 Read.val_main_v5 Read.val_main_v3 Read.val_main_v2 Read.val_main_v1 Read.val_main_v0 Read.val_main_call0_v0 Read.val_main_c DownGrad.weight
  pointwise
  simp only [mul_comm a.val 704, Rects.int_zero, mul_comm (x0 _)]

theorem result (x0 : (⟨S4096x1024, .f32⟩ : BufTy).Contents (Elt Ideal)) (x1 : (⟨S4096x2816, .f32⟩ : BufTy).Contents (Elt Ideal))
    (x2 : (⟨S4x1024x1536, .bf16⟩ : BufTy).Contents (Elt Ideal)) (a : Fin 4) (i : Fin 1024) (j : Fin 1536) : Read.val_main_v7 x0 x1 x2 (ix3 a i j)
    = UpGrad.beside 768 (fun a i j => x2 (ix3 a i j)) (DownGrad.weight (fun k j => x1 (ix2 k j)) (fun k i => x0 (ix2 k i))) a i j := by
  refine UpGrad.beside_of (by decide) (fun a i j => Read.val_main_v7 x0 x1 x2 (ix3 a i j)) _ _ (fun a i j => ?_) (fun a i j hj => ?_) a i j
  · refine Eq.trans ?_ (gradient x0 x1 a i j)
    unfold Read.val_main_v7
    pointwise
  · unfold Read.val_main_v7 Read.val_main_v4
    pointwise
    rw [dif_pos (by omega)]

/-- The arguments end as they began, and every semaphore (there is none) at zero. -/
theorem frame (m : (ℓ : Loc nD τ sig) → Buf (Elt Ideal) ℓ) (ρ : Dev nD → PrngReg) : θ_run defs (onTc (τ := τ) main) ⟨m, fun _ => 0, ρ⟩
    (fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c => (h c).2, sem_eq_zero_of_no_sems rfl _⟩) (Value.run m ρ)

end Cert.Reference13Ideal.UpGrad
end
-- ==== Proof.UpGradEqual.lean ====
module
public import proofs.«01_k».proof.Defs
public import proofs.«01_k».proof.Proof.UpGrad
@[expose] public section

/-!
# The gradient of the up projection: the kernel returns what the reference returns
-/
noncomputable section
namespace Cert.Proof.UpGrad
open Idealize.ShloMosaic Idealize.SL.Sem

theorem algebraic : Cert.algebraic_Kernel13Ideal_Reference13Ideal (hKernel13Ideal := Cert.Kernel13Ideal.Gen.facts) (hReference13Ideal := Cert.Reference13Ideal.Gen.facts) := by
  intro m g m' g' _ hm
  refine ⟨fun c => (Cert.Kernel13Ideal.Gen.dats m 0 c).arrAt 2 Cert.Kernel13Ideal.cfg0.N,
    (θ_run Cert.Kernel13Ideal.defs _ _).mono (fun _ h c => ⟨(h c).1, (h c).2.2⟩) (Cert.Kernel13Ideal.Value.run_blocks m g), ?_⟩
  refine (θ_run Cert.Reference13Ideal.defs _ _).mono (fun r h c => ?_) (Cert.Reference13Ideal.Value.run m' g')
  obtain ⟨h0, h1, h2⟩ := hm c
  refine ⟨(h c).1.trans ((Cert.Reference13Ideal.Read.val_main_v7_eq _ _ _).trans (funext fun i => ?_)), (h c).2⟩
  obtain ⟨a, j, l, rfl⟩ : ∃ (a : Fin 4) (j : Fin 1024) (l : Fin 1536), i = ix3 a j l := ⟨i 0, i 1, i 2, (ix3_eta i).symm⟩
  rw [h0, h1, h2]
  exact (Cert.Reference13Ideal.UpGrad.result _ _ _ a j l).trans (Cert.Kernel13Ideal.UpGrad.arr m c a j l).symm

end Cert.Proof.UpGrad
end
-- ==== Proof.DownLast.lean ====
module
public import proofs.«01_k».proof.Proof.DownNorm
public import proofs.«01_k».proof.Proof.Gen.Kernel14Ideal.Value
public import proofs.«01_k».proof.Proof.Gen.Reference14Ideal.Run
public import proofs.«01_k».proof.Proof.Gen.Reference14Ideal.Read
@[expose] public section

/-!
# The second feed-forward layer's down projection and its residual sum

A block's arithmetic is that of `DownNorm`, without the norm. The weights' array holds the gate's and the up projection's slabs
before the down projection's.
-/
noncomputable section
namespace Cert.Kernel14Ideal.DownLast
open Cert.Kernel14Ideal Cert.Kernel14Ideal.Gen Idealize.ShloMosaic Idealize.ShloMosaic.TcCoe Idealize.SL.Sem

/-- The block that a grid point writes is the first that `DownNorm`'s writes. -/
theorem out5 (x : Vec Ideal S512x3072 .bf16) (w : Vec Ideal S4x1024x768 .bf16) (z : Vec Ideal S512x1024 .f32) (g b : Vec Ideal S1x1024 .f32)
    (r : Fin 512) (s : Fin 1024) : out0_5 x w z g b (ix2 r s) = Cert.Kernel11Ideal.DownNorm.block x w z r s :=
  (congrFun (show out0_5 x w z g b = Cert.Kernel11Ideal.Gen.out0_5 x w z g b from rfl) _).trans (Cert.Kernel11Ideal.DownNorm.out5 x w z g b r s)

variable (m : (ℓ : Loc nD τ sig) → Buf (Elt Ideal) ℓ) (c : Dev nD)

def h (r : Fin 4096) (k : Fin 2816) : EReal := m (c, Proc.tc.devRef main_arg0) (ix2 r k)
def w (k : Fin 2816) (s : Fin 1024) : EReal := m (c, Proc.tc.devRef main_arg3) (ix2 k s)
def x (r : Fin 4096) (s : Fin 1024) : EReal := m (c, Proc.tc.devRef main_arg4) (ix2 r s)

theorem hidden (r : Fin 4096) (j : Fin 4) (k : Fin 768) : V m c main_v3 (ix2 r ⟨768 * j + k, by omega⟩)
    = if hk : k.val < 704 then h m c r ⟨704 * j + k, by omega⟩ else 0 := by
  unfold V
  after_reads_at
  have h1 : (768 * j.val + k.val) / 768 = j := by omega
  have h2 : (768 * j.val + k.val) % 768 = k := by omega
  simp only [h1, h2, j.isLt, true_and, mul_comm j.val 704, Rects.int_zero]
  rfl
set_option maxRecDepth 100000 in
theorem weights (j : Fin 4) (s : Fin 1024) (k : Fin 768) : V m c main_v15 (ix3 j s ⟨1536 + k, by omega⟩)
    = if hk : k.val < 704 then w m c ⟨704 * j + k, by omega⟩ s else 0 := by
  unfold V
  after_reads_at
  after_reads_at
  have e : 1536 + k.val - 768 - 768 = k := by omega
  simp only [mul_comm j.val 704, Rects.int_zero]
  rw [dif_neg (by omega), dif_neg (by omega)]
  simp only [e]
  rfl

theorem idx : ∀ t : Fin cfg0.N, win0_0.index t = ![t.val, 0] ∧ win0_1.index t = ![0, 0, 2] ∧ win0_2.index t = ![t.val, 0]
    ∧ win0_5.index t = ![t.val, 0] := by
  decide +kernel

theorem lt8 (t : Fin cfg0.N) : t.val < 8 := lt_of_lt_of_eq t.isLt N_0

theorem blk0 (t : Fin cfg0.N) (i : Fin 512) (k : Fin 3072) :
    iblk m c 0 t (ix2 i k) = V m c main_v3 (ix2 ⟨512 * t + i, by have := lt8 t; omega⟩ k) := by
  blk_ext [iblk, idx t]
theorem blk1 (t : Fin cfg0.N) (j : Fin 4) (s : Fin 1024) (k : Fin 768) :
    iblk m c 1 t (ix3 j s k) = V m c main_v15 (ix3 j s ⟨1536 + k, by omega⟩) := by
  blk_ext [iblk, idx t]
theorem blk2 (t : Fin cfg0.N) (i : Fin 512) (s : Fin 1024) : iblk m c 2 t (ix2 i s) = x m c ⟨512 * t + i, by have := lt8 t; omega⟩ s := by
  refine Eq.trans ?_ (congrFun (V_main_arg4 m c) _)
  blk_ext [iblk, idx t]

theorem rows5 (t : Fin cfg0.N) (i : Fin 512) (s : Fin 1024) :
    (dats m 0 c).arrAt 5 cfg0.N (ix2 ⟨512 * t + i, by have := lt8 t; omega⟩ s)
      = out0_5 (iblk m c 0 t) (iblk m c 1 t) (iblk m c 2 t) (iblk m c 3 t) (iblk m c 4 t) (ix2 i s) := by
  have hb := congrFun (Value.blocks5 m c t (flush0_5 t)) (ix2 i s)
  rw [Value.flushed5] at hb
  refine Eq.trans (congrArg ((dats m 0 c).arrAt 5 cfg0.N) ?_) hb
  blk_ext [idx t]

/-- What a grid point writes. -/
theorem written (t : Fin cfg0.N) (i : Fin 512) (s : Fin 1024) :
    Cert.Kernel11Ideal.DownNorm.block (iblk m c 0 t) (iblk m c 1 t) (iblk m c 2 t) i s
      = DownNorm.sum (h m c) (w m c) (x m c) ⟨512 * t + i, by have := lt8 t; omega⟩ s :=
  Cert.Kernel11Ideal.DownNorm.block_sum _ _ _ (h m c) (w m c) (x m c) i _ s (fun j k => (blk0 m c t i _).trans (hidden m c _ j k))
    (fun j k => (blk1 m c t j s k).trans (weights m c j s k)) (blk2 m c t i s)

/-- The array that the kernel returns. -/
theorem arr (r : Fin 4096) (s : Fin 1024) : (dats m 0 c).arrAt 5 cfg0.N (ix2 r s) = DownNorm.sum (h m c) (w m c) (x m c) r s :=
  Adam.of_blocks (N := cfg0.N) (B := 512) (congrArg (· * 512) N_0) (fun r s => (dats m 0 c).arrAt 5 cfg0.N (ix2 r s)) (DownNorm.sum (h m c) (w m c) (x m c))
    (fun t i s => (rows5 m c t i s).trans ((out5 _ _ _ _ _ i s).trans (written m c t i s))) r s

end Cert.Kernel14Ideal.DownLast

namespace Cert.Reference14Ideal.DownLast
open Cert.Reference14Ideal Cert.Reference14Ideal.Gen Idealize.ShloMosaic Idealize.ShloMosaic.TcCoe Idealize.SL.Sem

theorem result (x0 : (⟨S4096x2816, .f32⟩ : BufTy).Contents (Elt Ideal)) (x3 : (⟨S2816x1024, .f32⟩ : BufTy).Contents (Elt Ideal))
    (x4 : (⟨S4096x1024, .f32⟩ : BufTy).Contents (Elt Ideal)) (r : Fin 4096) (s : Fin 1024) : Read.val_main_v5 x0 x3 x4 (ix2 r s)
    = DownNorm.sum (fun r k => x0 (ix2 r k)) (fun k s => x3 (ix2 k s)) (fun r s => x4 (ix2 r s)) r s :=
  Cert.Reference11Ideal.DownNorm.residual x0 x3 x4 r s

/-- The arguments end as they began, and every semaphore (there is none) at zero. -/
theorem frame (m : (ℓ : Loc nD τ sig) → Buf (Elt Ideal) ℓ) (ρ : Dev nD → PrngReg) : θ_run defs (onTc (τ := τ) main) ⟨m, fun _ => 0, ρ⟩
    (fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  (θ_run defs _ _).mono (fun _ h => ⟨fun c => (h c).2, sem_eq_zero_of_no_sems rfl _⟩) (Value.run m ρ)

end Cert.Reference14Ideal.DownLast
end
-- ==== Proof.DownLastEqual.lean ====
module
public import proofs.«01_k».proof.Defs
public import proofs.«01_k».proof.Proof.DownLast
@[expose] public section

/-!
# The second feed-forward layer's down projection: the kernel returns what the reference returns
-/
noncomputable section
namespace Cert.Proof.DownLast
open Idealize.ShloMosaic Idealize.SL.Sem

theorem algebraic : Cert.algebraic_Kernel14Ideal_Reference14Ideal (hKernel14Ideal := Cert.Kernel14Ideal.Gen.facts) (hReference14Ideal := Cert.Reference14Ideal.Gen.facts) := by
  intro m g m' g' _ hm
  refine ⟨fun c => (Cert.Kernel14Ideal.Gen.dats m 0 c).arrAt 5 Cert.Kernel14Ideal.cfg0.N, Cert.Kernel14Ideal.Value.run_blocks m g, ?_⟩
  refine (θ_run Cert.Reference14Ideal.defs _ _).mono (fun r h c => ?_) (Cert.Reference14Ideal.Value.run m' g')
  obtain ⟨h0, h1, h2, h3, h4, _⟩ := hm c
  refine ⟨(h c).1.trans ((Cert.Reference14Ideal.Read.val_main_v5_eq _ _ _).trans (funext fun i => ?_)), (h c).2⟩
  obtain ⟨a, j, rfl⟩ : ∃ (a : Fin 4096) (j : Fin 1024), i = ix2 a j := ⟨i 0, i 1, (ix2_eta i).symm⟩
  rw [h0, h3, h4]
  exact (Cert.Reference14Ideal.DownLast.result _ _ _ a j).trans (Cert.Kernel14Ideal.DownLast.arr m c a j).symm

end Cert.Proof.DownLast
end
-- ==== Proof.SecondGrad.lean ====
module
public import proofs.«01_k».proof.Proof.UpGrad
public import proofs.«01_k».proof.Proof.Gen.Kernel16Ideal.Value
public import proofs.«01_k».proof.Proof.Gen.Reference16Ideal.Run
public import proofs.«01_k».proof.Proof.Gen.Reference16Ideal.Read
public import proofs.«01_k».proof.Proof.Gen.Kernel17Ideal.Value
public import proofs.«01_k».proof.Proof.Gen.Reference17Ideal.Run
public import proofs.«01_k».proof.Proof.Gen.Reference17Ideal.Read
@[expose] public section

/-!
# The gradients of the second feed-forward layer's gate and up projection

Both calls write beside the other weights' gradients, into an array that holds three; a block's product is `UpGrad`'s.
-/
noncomputable section
namespace Cert.Kernel16Ideal.UpGrad
open Cert.Kernel16Ideal Cert.Kernel16Ideal.Gen Idealize.ShloMosaic Idealize.ShloMosaic.TcCoe Idealize.SL.Sem

variable (m : (ℓ : Loc nD τ sig) → Buf (Elt Ideal) ℓ) (c : Dev nD)

/-- The layer's input. -/
def x (k : Fin 4096) (i : Fin 1024) : EReal := m (c, Proc.tc.devRef main_arg0) (ix2 k i)
/-- The gradient of the up projection's result. -/
def d (k : Fin 4096) (j : Fin 2816) : EReal := m (c, Proc.tc.devRef main_arg1) (ix2 k j)
/-- The array that the call writes into. -/
def g (a : Fin 4) (i : Fin 1024) (j : Fin 2304) : EReal := m (c, Proc.tc.devRef main_arg2) (ix3 a i j)

theorem lhs (i : Fin 1024) (k : Fin 4096) : V m c main_v5 (ix2 i k) = x m c k i := by
  unfold V
  after_reads_at
  rfl
theorem rhs (k : Fin 4096) (a : Fin 4) (j : Fin 768) : V m c main_v3 (ix2 k ⟨768 * a + j, by omega⟩)
    = if hj : j.val < 704 then d m c k ⟨704 * a + j, by omega⟩ else 0 := by
  unfold V
  after_reads_at
  have h1 : (768 * a.val + j.val) / 768 = a := by omega
  have h2 : (768 * a.val + j.val) % 768 = j := by omega
  simp only [h1, h2, a.isLt, true_and, mul_comm a.val 704, Rects.int_zero]
  rfl
theorem given (a : Fin 4) (i : Fin 1024) (j : Fin 2304) : V m c main_v6_0 (ix3 a i j) = g m c a i j := by
  unfold V
  after_reads_at
  rfl

theorem idx : ∀ t : Fin cfg0.N, win0_0.index t = ![0, 0] ∧ win0_1.index t = ![0, t.val] ∧ win0_2.index t = ![t.val, 0, 1] := by
  decide +kernel

theorem lt4 (t : Fin cfg0.N) : t.val < 4 := lt_of_lt_of_eq t.isLt N_0

theorem blk0 (t : Fin cfg0.N) (i : Fin 1024) (k : Fin 4096) : iblk m c 0 t (ix2 i k) = V m c main_v5 (ix2 i k) := by
  blk_ext [iblk, idx t]
theorem blk1 (t : Fin cfg0.N) (k : Fin 4096) (j : Fin 768) :
    iblk m c 1 t (ix2 k j) = V m c main_v3 (ix2 k ⟨768 * t + j, by have := lt4 t; omega⟩) := by
  blk_ext [iblk, idx t]

/-- A block's product, padded columns and all. -/
theorem product (t : Fin cfg0.N) (i : Fin 1024) (j : Fin 768) :
    k0_pay1 (iblk m c 0 t) (iblk m c 1 t) (ix3 0 i j) = DownGrad.weight (d m c) (x m c) ⟨t, lt4 t⟩ i j := by
  refine (Cert.Kernel13Ideal.UpGrad.pay_apply (iblk m c 0 t) (iblk m c 1 t) i j).trans ?_
  exact DownGrad.weight_of (d m c) (x m c) ⟨t, lt4 t⟩ i j (fun k => iblk m c 0 t (ix2 i k)) (fun k => iblk m c 1 t (ix2 k j))
    (fun k => (blk0 m c t i k).trans (lhs m c i k)) (fun k => (blk1 m c t k j).trans (rhs m c k ⟨t, lt4 t⟩ j))

/-- What a grid point writes. -/
theorem written (t : Fin cfg0.N) (i : Fin 1024) (j : Fin 768) :
    (outsAt0 m c t).1 (ix3 0 i j) = DownGrad.weight (d m c) (x m c) ⟨t, lt4 t⟩ i j := by
  refine Eq.trans ?_ (product m c t i j)
  unfold outsAt0 out0_A_2
  dsimp only
  rw [View.read_writes_junk_eq_canon]
  unfold kernelRun0_A
  dsimp only
  rw [View.canon_unit_zero (Val := Elt Ideal) DownGrad.zero3, View.readAt_eq_ld, View.readAt_eq_ld, (hs0_0 t).read_unread, (hs0_1 t).read_unread]
  exact congrArg₂ (fun x y => k0_pay1 x y (ix3 0 i j)) (View.ld_unit_zero Adam.zero2 _ _) (View.ld_unit_zero Adam.zero2 _ _)

theorem rows (t : Fin cfg0.N) (i : Fin 1024) (j : Fin 768) :
    (dats m 0 c).arrAt 2 cfg0.N (ix3 ⟨t, lt4 t⟩ i ⟨768 + j, by omega⟩) = (outsAt0 m c t).1 (ix3 0 i j) := by
  have hb := congrFun (Value.blocks2 m c t (flush0_2 t)) (ix3 0 i j)
  rw [Value.flushed2] at hb
  refine Eq.trans (congrArg ((dats m 0 c).arrAt 2 cfg0.N) ?_) hb
  blk_ext [idx t]

/-- The other columns are kept. -/
theorem kept (a : Fin 4) (i : Fin 1024) (j : Fin 2304) (hj : j.val < 768 ∨ 768 + 768 ≤ j.val) :
    (dats m 0 c).arrAt 2 cfg0.N (ix3 a i j) = g m c a i j := by
  refine (Value.entry2 m c _ fun t _ hm => ?_).trans (given m c a i j)
  mem_blk [idx t] at hm
  have h : 768 ≤ j.val := hm.2.2.1
  have h' : j.val < 768 + 768 := hm.2.2.2
  omega

/-- The array that the kernel returns. -/
theorem arr (a : Fin 4) (i : Fin 1024) (j : Fin 2304) :
    (dats m 0 c).arrAt 2 cfg0.N (ix3 a i j) = _root_.UpGrad.beside 768 (g m c) (DownGrad.weight (d m c) (x m c)) a i j :=
  _root_.UpGrad.beside_of (by decide) (fun a i j => (dats m 0 c).arrAt 2 cfg0.N (ix3 a i j)) _ _
    (fun a i j => (rows m c ⟨a, lt_of_lt_of_eq a.isLt N_0.symm⟩ i j).trans (written m c _ i j)) (kept m c) a i j

end Cert.Kernel16Ideal.UpGrad

namespace Cert.Reference16Ideal.UpGrad
open Cert.Reference16Ideal Cert.Reference16Ideal.Gen Idealize.ShloMosaic Idealize.ShloMosaic.TcCoe Idealize.SL.Sem

theorem gradient (x0 : (⟨S4096x1024, .f32⟩ : BufTy).Contents (Elt Ideal)) (x1 : (⟨S4096x2816, .f32⟩ : BufTy).Contents (Elt Ideal))
    (a : Fin 4) (i : Fin 1024) (j : Fin 768) :
    Read.val_main_v6 x0 x1 (ix3 a i j) = DownGrad.weight (fun k j => x1 (ix2 k j)) (fun k i => x0 (ix2 k i)) a i j :=
  Cert.Reference13Ideal.UpGrad.gradient x0 x1 a i j

theorem result (x0 : (⟨S4096x1024, .f32⟩ : BufTy).Contents (Elt Ideal)) (x1 : (⟨S4096x2816, .f32⟩ : BufTy).Contents (Elt Ideal))
    (x2 : (⟨S4x1024x2304, .bf16⟩ : BufTy).Contents (Elt Ideal)) (a : Fin 4) (i : Fin 1024) (j : Fin 2304) : Read.val_main_v8 x0 x1 x2 (ix3 a i j)
    = _root_.UpGrad.beside 768 (fun a i j => x2 (ix3 a i j)) (DownGrad.weight (fun k j => x1 (ix2 k j)) (fun k i => x0 (ix2 k i))) a i j := by
  refine _root_.UpGrad.beside_of (by decide) (fun a i j => Read.val_main_v8 x0 x1 x2 (ix3 a i j)) _ _ (fun a i j => ?_) (fun a i j hj => ?_) a i j
  · refine Eq.trans ?_ (gradient x0 x1 a i j)
    unfold Read.val_main_v8
    pointwise
  · unfold Read.val_main_v8 Read.val_main_v4 Read.val_main_v7
    pointwise
    split
    · rfl
    · rw [dif_neg (by omega)]
      exact congrArg (fun j => x2 (ix3 a i j)) (Fin.ext (by show 1536 + (j.val - 768 - 768) = j.val; omega))

/-- The arguments end as they began, and every semaphore (there is none) at zero. -/
theorem frame (m : (ℓ : Loc nD τ sig) → Buf (Elt Ideal) ℓ) (ρ : Dev nD → PrngReg) : θ_run defs (onTc (τ := τ) main) ⟨m, fun _ => 0, ρ⟩
    (fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c => (h c).2, sem_eq_zero_of_no_sems rfl _⟩) (Value.run m ρ)

end Cert.Reference16Ideal.UpGrad

namespace Cert.Kernel17Ideal.GateGrad
open Cert.Kernel17Ideal Cert.Kernel17Ideal.Gen Idealize.ShloMosaic Idealize.ShloMosaic.TcCoe Idealize.SL.Sem

variable (m : (ℓ : Loc nD τ sig) → Buf (Elt Ideal) ℓ) (c : Dev nD)

/-- The layer's input. -/
def x (k : Fin 4096) (i : Fin 1024) : EReal := m (c, Proc.tc.devRef main_arg0) (ix2 k i)
/-- The gradient of the gate's result. -/
def d (k : Fin 4096) (j : Fin 2816) : EReal := m (c, Proc.tc.devRef main_arg1) (ix2 k j)
/-- The array that the call writes into. -/
def g (a : Fin 4) (i : Fin 1024) (j : Fin 2304) : EReal := m (c, Proc.tc.devRef main_arg2) (ix3 a i j)

theorem lhs (i : Fin 1024) (k : Fin 4096) : V m c main_v5 (ix2 i k) = x m c k i := by
  unfold V
  after_reads_at
  rfl
theorem rhs (k : Fin 4096) (a : Fin 4) (j : Fin 768) : V m c main_v3 (ix2 k ⟨768 * a + j, by omega⟩)
    = if hj : j.val < 704 then d m c k ⟨704 * a + j, by omega⟩ else 0 := by
  unfold V
  after_reads_at
  have h1 : (768 * a.val + j.val) / 768 = a := by omega
  have h2 : (768 * a.val + j.val) % 768 = j := by omega
  simp only [h1, h2, a.isLt, true_and, mul_comm a.val 704, Rects.int_zero]
  rfl
theorem given (a : Fin 4) (i : Fin 1024) (j : Fin 2304) : V m c main_v6_0 (ix3 a i j) = g m c a i j := by
  unfold V
  after_reads_at
  rfl

theorem idx : ∀ t : Fin cfg0.N, win0_0.index t = ![0, 0] ∧ win0_1.index t = ![0, t.val] ∧ win0_2.index t = ![t.val, 0, 0] := by
  decide +kernel

theorem lt4 (t : Fin cfg0.N) : t.val < 4 := lt_of_lt_of_eq t.isLt N_0

theorem blk0 (t : Fin cfg0.N) (i : Fin 1024) (k : Fin 4096) : iblk m c 0 t (ix2 i k) = V m c main_v5 (ix2 i k) := by
  blk_ext [iblk, idx t]
theorem blk1 (t : Fin cfg0.N) (k : Fin 4096) (j : Fin 768) :
    iblk m c 1 t (ix2 k j) = V m c main_v3 (ix2 k ⟨768 * t + j, by have := lt4 t; omega⟩) := by
  blk_ext [iblk, idx t]

/-- A block's product, padded columns and all. -/
theorem product (t : Fin cfg0.N) (i : Fin 1024) (j : Fin 768) :
    k0_pay1 (iblk m c 0 t) (iblk m c 1 t) (ix3 0 i j) = DownGrad.weight (d m c) (x m c) ⟨t, lt4 t⟩ i j := by
  refine (Cert.Kernel13Ideal.UpGrad.pay_apply (iblk m c 0 t) (iblk m c 1 t) i j).trans ?_
  exact DownGrad.weight_of (d m c) (x m c) ⟨t, lt4 t⟩ i j (fun k => iblk m c 0 t (ix2 i k)) (fun k => iblk m c 1 t (ix2 k j))
    (fun k => (blk0 m c t i k).trans (lhs m c i k)) (fun k => (blk1 m c t k j).trans (rhs m c k ⟨t, lt4 t⟩ j))

/-- What a grid point writes. -/
theorem written (t : Fin cfg0.N) (i : Fin 1024) (j : Fin 768) :
    (outsAt0 m c t).1 (ix3 0 i j) = DownGrad.weight (d m c) (x m c) ⟨t, lt4 t⟩ i j := by
  refine Eq.trans ?_ (product m c t i j)
  unfold outsAt0 out0_A_2
  dsimp only
  rw [View.read_writes_junk_eq_canon]
  unfold kernelRun0_A
  dsimp only
  rw [View.canon_unit_zero (Val := Elt Ideal) DownGrad.zero3, View.readAt_eq_ld, View.readAt_eq_ld, (hs0_0 t).read_unread, (hs0_1 t).read_unread]
  exact congrArg₂ (fun x y => k0_pay1 x y (ix3 0 i j)) (View.ld_unit_zero Adam.zero2 _ _) (View.ld_unit_zero Adam.zero2 _ _)

theorem rows (t : Fin cfg0.N) (i : Fin 1024) (j : Fin 768) :
    (dats m 0 c).arrAt 2 cfg0.N (ix3 ⟨t, lt4 t⟩ i ⟨0 + j, by omega⟩) = (outsAt0 m c t).1 (ix3 0 i j) := by
  have hb := congrFun (Value.blocks2 m c t (flush0_2 t)) (ix3 0 i j)
  rw [Value.flushed2] at hb
  refine Eq.trans (congrArg ((dats m 0 c).arrAt 2 cfg0.N) ?_) hb
  blk_ext [idx t]

/-- The other columns are kept. -/
theorem kept (a : Fin 4) (i : Fin 1024) (j : Fin 2304) (hj : j.val < 0 ∨ 0 + 768 ≤ j.val) :
    (dats m 0 c).arrAt 2 cfg0.N (ix3 a i j) = g m c a i j := by
  refine (Value.entry2 m c _ fun t _ hm => ?_).trans (given m c a i j)
  mem_blk [idx t] at hm
  have h : 0 ≤ j.val := hm.2.2.1
  have h' : j.val < 0 + 768 := hm.2.2.2
  omega

/-- The array that the kernel returns. -/
theorem arr (a : Fin 4) (i : Fin 1024) (j : Fin 2304) :
    (dats m 0 c).arrAt 2 cfg0.N (ix3 a i j) = _root_.UpGrad.beside 0 (g m c) (DownGrad.weight (d m c) (x m c)) a i j :=
  _root_.UpGrad.beside_of (by decide) (fun a i j => (dats m 0 c).arrAt 2 cfg0.N (ix3 a i j)) _ _
    (fun a i j => (rows m c ⟨a, lt_of_lt_of_eq a.isLt N_0.symm⟩ i j).trans (written m c _ i j)) (kept m c) a i j

end Cert.Kernel17Ideal.GateGrad

namespace Cert.Reference17Ideal.GateGrad
open Cert.Reference17Ideal Cert.Reference17Ideal.Gen Idealize.ShloMosaic Idealize.ShloMosaic.TcCoe Idealize.SL.Sem

theorem gradient (x0 : (⟨S4096x1024, .f32⟩ : BufTy).Contents (Elt Ideal)) (x1 : (⟨S4096x2816, .f32⟩ : BufTy).Contents (Elt Ideal))
    (a : Fin 4) (i : Fin 1024) (j : Fin 768) :
    Read.val_main_v5 x0 x1 (ix3 a i j) = DownGrad.weight (fun k j => x1 (ix2 k j)) (fun k i => x0 (ix2 k i)) a i j :=
  Cert.Reference13Ideal.UpGrad.gradient x0 x1 a i j

theorem result (x0 : (⟨S4096x1024, .f32⟩ : BufTy).Contents (Elt Ideal)) (x1 : (⟨S4096x2816, .f32⟩ : BufTy).Contents (Elt Ideal))
    (x2 : (⟨S4x1024x2304, .bf16⟩ : BufTy).Contents (Elt Ideal)) (a : Fin 4) (i : Fin 1024) (j : Fin 2304) : Read.val_main_v7 x0 x1 x2 (ix3 a i j)
    = _root_.UpGrad.beside 0 (fun a i j => x2 (ix3 a i j)) (DownGrad.weight (fun k j => x1 (ix2 k j)) (fun k i => x0 (ix2 k i))) a i j := by
  refine _root_.UpGrad.beside_of (by decide) (fun a i j => Read.val_main_v7 x0 x1 x2 (ix3 a i j)) _ _ (fun a i j => ?_) (fun a i j hj => ?_) a i j
  · refine Eq.trans ?_ (gradient x0 x1 a i j)
    unfold Read.val_main_v7
    pointwise
  · unfold Read.val_main_v7 Read.val_main_v6
    pointwise
    rw [dif_neg (by omega)]
    exact congrArg (fun j => x2 (ix3 a i j)) (Fin.ext (by show 768 + (j.val - 768) = j.val; omega))

/-- The arguments end as they began, and every semaphore (there is none) at zero. -/
theorem frame (m : (ℓ : Loc nD τ sig) → Buf (Elt Ideal) ℓ) (ρ : Dev nD → PrngReg) : θ_run defs (onTc (τ := τ) main) ⟨m, fun _ => 0, ρ⟩
    (fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c => (h c).2, sem_eq_zero_of_no_sems rfl _⟩) (Value.run m ρ)

end Cert.Reference17Ideal.GateGrad
end
-- ==== Proof.SecondGradEqual.lean ====
module
public import proofs.«01_k».proof.Defs
public import proofs.«01_k».proof.Proof.SecondGrad
@[expose] public section

/-!
# The gradients of the second layer's gate and up projection: the kernels return what the references return
-/
noncomputable section
namespace Cert.Proof.SecondGrad
open Idealize.ShloMosaic Idealize.SL.Sem

theorem up : Cert.algebraic_Kernel16Ideal_Reference16Ideal (hKernel16Ideal := Cert.Kernel16Ideal.Gen.facts) (hReference16Ideal := Cert.Reference16Ideal.Gen.facts) := by
  intro m g m' g' _ hm
  refine ⟨fun c => (Cert.Kernel16Ideal.Gen.dats m 0 c).arrAt 2 Cert.Kernel16Ideal.cfg0.N,
    (θ_run Cert.Kernel16Ideal.defs _ _).mono (fun _ h c => ⟨(h c).1, (h c).2.2⟩) (Cert.Kernel16Ideal.Value.run_blocks m g), ?_⟩
  refine (θ_run Cert.Reference16Ideal.defs _ _).mono (fun r h c => ?_) (Cert.Reference16Ideal.Value.run m' g')
  obtain ⟨h0, h1, h2⟩ := hm c
  refine ⟨(h c).1.trans ((Cert.Reference16Ideal.Read.val_main_v8_eq _ _ _).trans (funext fun i => ?_)), (h c).2⟩
  obtain ⟨a, j, l, rfl⟩ : ∃ (a : Fin 4) (j : Fin 1024) (l : Fin 2304), i = ix3 a j l := ⟨i 0, i 1, i 2, (ix3_eta i).symm⟩
  rw [h0, h1, h2]
  exact (Cert.Reference16Ideal.UpGrad.result _ _ _ a j l).trans (Cert.Kernel16Ideal.UpGrad.arr m c a j l).symm

theorem gate : Cert.algebraic_Kernel17Ideal_Reference17Ideal (hKernel17Ideal := Cert.Kernel17Ideal.Gen.facts) (hReference17Ideal := Cert.Reference17Ideal.Gen.facts) := by
  intro m g m' g' _ hm
  refine ⟨fun c => (Cert.Kernel17Ideal.Gen.dats m 0 c).arrAt 2 Cert.Kernel17Ideal.cfg0.N,
    (θ_run Cert.Kernel17Ideal.defs _ _).mono (fun _ h c => ⟨(h c).1, (h c).2.2⟩) (Cert.Kernel17Ideal.Value.run_blocks m g), ?_⟩
  refine (θ_run Cert.Reference17Ideal.defs _ _).mono (fun r h c => ?_) (Cert.Reference17Ideal.Value.run m' g')
  obtain ⟨h0, h1, h2⟩ := hm c
  refine ⟨(h c).1.trans ((Cert.Reference17Ideal.Read.val_main_v7_eq _ _ _).trans (funext fun i => ?_)), (h c).2⟩
  obtain ⟨a, j, l, rfl⟩ : ∃ (a : Fin 4) (j : Fin 1024) (l : Fin 2304), i = ix3 a j l := ⟨i 0, i 1, i 2, (ix3_eta i).symm⟩
  rw [h0, h1, h2]
  exact (Cert.Reference17Ideal.GateGrad.result _ _ _ a j l).trans (Cert.Kernel17Ideal.GateGrad.arr m c a j l).symm

end Cert.Proof.SecondGrad
end
-- ==== Proof.RetOGrad.lean ====
module
public import proofs.«01_k».proof.Proof.UpGrad
public import proofs.«01_k».proof.Proof.Gen.Kernel18Ideal.Value
public import proofs.«01_k».proof.Proof.Gen.Reference18Ideal.Run
public import proofs.«01_k».proof.Proof.Gen.Reference18Ideal.Read
@[expose] public section

/-!
# The gradient of the retention's output projection

The 2048 rows of the weights lie in four groups of 512, transposed; the call writes them before the other weights' gradients.
-/
noncomputable section
namespace RetOGrad
open Idealize.ShloMosaic

/-- The gradient at group `a`, output column `i` and row `j` of the group. -/
def weight {B : ℕ} (r : Fin 4096 → Fin 4 → Fin B → EReal) (d : Fin 4096 → Fin 1024 → EReal) (a : Fin 4) (i : Fin 1024) (j : Fin B) : EReal :=
  ∑ k : Fin 4096, d k i * r k a j

end RetOGrad

namespace Cert.Kernel18Ideal.RetOGrad
open Cert.Kernel18Ideal Cert.Kernel18Ideal.Gen Idealize.ShloMosaic Idealize.ShloMosaic.TcCoe Idealize.SL.Sem

theorem pay_apply (v0 : Vec Ideal S1024x4096 .bf16) (v2 : Vec Ideal S4096x512 .bf16) (i : Fin 1024) (j : Fin 512) :
    k0_pay1 v0 v2 (ix3 0 i j) = ∑ k : Fin 4096, v0 (ix2 i k) * v2 (ix2 k j) := by
  unfold k0_pay1
  pointwise

variable (m : (ℓ : Loc nD τ sig) → Buf (Elt Ideal) ℓ) (c : Dev nD)

/-- The retention's result, a group's columns. -/
def r (k : Fin 4096) (a : Fin 4) (j : Fin 512) : EReal := m (c, Proc.tc.devRef main_arg0) (ix2 k ⟨512 * a + j, by omega⟩)
/-- The gradient of the projection's result. -/
def d (k : Fin 4096) (i : Fin 1024) : EReal := m (c, Proc.tc.devRef main_arg1) (ix2 k i)
/-- The array that the call writes into. -/
def g (a : Fin 4) (i : Fin 1024) (j : Fin 1024) : EReal := m (c, Proc.tc.devRef main_arg2) (ix3 a i j)

theorem lhs (i : Fin 1024) (k : Fin 4096) : V m c main_v1 (ix2 i k) = d m c k i := by
  unfold V
  after_reads_at
  rfl
theorem rhs (k : Fin 4096) (a : Fin 4) (j : Fin 512) : V m c main_v2 (ix2 k ⟨512 * a + j, by omega⟩) = r m c k a j := by
  unfold V
  after_reads_at
  rfl
theorem given (a : Fin 4) (i : Fin 1024) (j : Fin 1024) : V m c main_v3_0 (ix3 a i j) = g m c a i j := by
  unfold V
  after_reads_at
  rfl

theorem idx : ∀ t : Fin cfg0.N, win0_0.index t = ![0, 0] ∧ win0_1.index t = ![0, t.val] ∧ win0_2.index t = ![t.val, 0, 0] := by
  decide +kernel

theorem lt4 (t : Fin cfg0.N) : t.val < 4 := lt_of_lt_of_eq t.isLt N_0

theorem blk0 (t : Fin cfg0.N) (i : Fin 1024) (k : Fin 4096) : iblk m c 0 t (ix2 i k) = V m c main_v1 (ix2 i k) := by
  blk_ext [iblk, idx t]
theorem blk1 (t : Fin cfg0.N) (k : Fin 4096) (j : Fin 512) :
    iblk m c 1 t (ix2 k j) = V m c main_v2 (ix2 k ⟨512 * t + j, by have := lt4 t; omega⟩) := by
  blk_ext [iblk, idx t]

theorem product (t : Fin cfg0.N) (i : Fin 1024) (j : Fin 512) :
    k0_pay1 (iblk m c 0 t) (iblk m c 1 t) (ix3 0 i j) = RetOGrad.weight (r m c) (d m c) ⟨t, lt4 t⟩ i j :=
  (pay_apply (iblk m c 0 t) (iblk m c 1 t) i j).trans (Finset.sum_congr rfl fun k _ => congrArg₂ (fun a b : EReal => a * b)
    ((blk0 m c t i k).trans (lhs m c i k)) ((blk1 m c t k j).trans (rhs m c k ⟨t, lt4 t⟩ j)))

/-- What a grid point writes. -/
theorem written (t : Fin cfg0.N) (i : Fin 1024) (j : Fin 512) :
    (outsAt0 m c t).1 (ix3 0 i j) = RetOGrad.weight (r m c) (d m c) ⟨t, lt4 t⟩ i j := by
  refine Eq.trans ?_ (product m c t i j)
  unfold outsAt0 out0_A_2
  dsimp only
  rw [View.read_writes_junk_eq_canon]
  unfold kernelRun0_A
  dsimp only
  rw [View.canon_unit_zero (Val := Elt Ideal) DownGrad.zero3, View.readAt_eq_ld, View.readAt_eq_ld, (hs0_0 t).read_unread, (hs0_1 t).read_unread]
  exact congrArg₂ (fun x y => k0_pay1 x y (ix3 0 i j)) (View.ld_unit_zero Adam.zero2 _ _) (View.ld_unit_zero Adam.zero2 _ _)

theorem rows (t : Fin cfg0.N) (i : Fin 1024) (j : Fin 512) :
    (dats m 0 c).arrAt 2 cfg0.N (ix3 ⟨t, lt4 t⟩ i ⟨0 + j, by omega⟩) = (outsAt0 m c t).1 (ix3 0 i j) := by
  have hb := congrFun (Value.blocks2 m c t (flush0_2 t)) (ix3 0 i j)
  rw [Value.flushed2] at hb
  refine Eq.trans (congrArg ((dats m 0 c).arrAt 2 cfg0.N) ?_) hb
  blk_ext [idx t]

/-- The other columns are kept. -/
theorem kept (a : Fin 4) (i : Fin 1024) (j : Fin 1024) (hj : j.val < 0 ∨ 0 + 512 ≤ j.val) :
    (dats m 0 c).arrAt 2 cfg0.N (ix3 a i j) = g m c a i j := by
  refine (Value.entry2 m c _ fun t _ hm => ?_).trans (given m c a i j)
  mem_blk [idx t] at hm
  have h : j.val < 0 + 512 := hm.2.2.2
  omega

/-- The array that the kernel returns. -/
theorem arr (a : Fin 4) (i : Fin 1024) (j : Fin 1024) :
    (dats m 0 c).arrAt 2 cfg0.N (ix3 a i j) = UpGrad.beside 0 (g m c) (RetOGrad.weight (r m c) (d m c)) a i j :=
  UpGrad.beside_of (by decide) (fun a i j => (dats m 0 c).arrAt 2 cfg0.N (ix3 a i j)) _ _
    (fun a i j => (rows m c ⟨a, lt_of_lt_of_eq a.isLt N_0.symm⟩ i j).trans (written m c _ i j)) (kept m c) a i j

end Cert.Kernel18Ideal.RetOGrad

namespace Cert.Reference18Ideal.RetOGrad
open Cert.Reference18Ideal Cert.Reference18Ideal.Gen Idealize.ShloMosaic Idealize.ShloMosaic.TcCoe Idealize.SL.Sem

theorem gradient (x0 : (⟨S4096x2048, .f32⟩ : BufTy).Contents (Elt Ideal)) (x1 : (⟨S4096x1024, .f32⟩ : BufTy).Contents (Elt Ideal))
    (a : Fin 4) (i : Fin 1024) (j : Fin 512) :
    Read.val_main_v4 x0 x1 (ix3 a i j) = RetOGrad.weight (fun k (a : Fin 4) (j : Fin 512) => x0 (ix2 k ⟨512 * a + j, by omega⟩)) (fun k i => x1 (ix2 k i)) a i j := by
  unfold Read.val_main_v4 Read.val_main_v3 Read.val_main_v2 Read.val_main_v1 Read.val_main_v0 RetOGrad.weight
  pointwise
  simp only [mul_comm a.val 512]

theorem result (x0 : (⟨S4096x2048, .f32⟩ : BufTy).Contents (Elt Ideal)) (x1 : (⟨S4096x1024, .f32⟩ : BufTy).Contents (Elt Ideal))
    (x2 : (⟨S4x1024x1024, .bf16⟩ : BufTy).Contents (Elt Ideal)) (a : Fin 4) (i : Fin 1024) (j : Fin 1024) : Read.val_main_v6 x0 x1 x2 (ix3 a i j)
    = UpGrad.beside 0 (fun a i j => x2 (ix3 a i j)) (RetOGrad.weight (fun k (a : Fin 4) (j : Fin 512) => x0 (ix2 k ⟨512 * a + j, by omega⟩)) (fun k i => x1 (ix2 k i))) a i j := by
  refine UpGrad.beside_of (by decide) (fun a i j => Read.val_main_v6 x0 x1 x2 (ix3 a i j)) _ _ (fun a i j => ?_) (fun a i j hj => ?_) a i j
  · refine Eq.trans ?_ (gradient x0 x1 a i j)
    unfold Read.val_main_v6
    pointwise
  · unfold Read.val_main_v6 Read.val_main_v5
    pointwise
    rw [dif_neg (by omega)]
    exact congrArg (fun j => x2 (ix3 a i j)) (Fin.ext (by show 512 + (j.val - 512) = j.val; omega))

/-- The arguments end as they began, and every semaphore (there is none) at zero. -/
theorem frame (m : (ℓ : Loc nD τ sig) → Buf (Elt Ideal) ℓ) (ρ : Dev nD → PrngReg) : θ_run defs (onTc (τ := τ) main) ⟨m, fun _ => 0, ρ⟩
    (fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c => (h c).2, sem_eq_zero_of_no_sems rfl _⟩) (Value.run m ρ)

end Cert.Reference18Ideal.RetOGrad
end
-- ==== Proof.RetOGradEqual.lean ====
module
public import proofs.«01_k».proof.Defs
public import proofs.«01_k».proof.Proof.RetOGrad
@[expose] public section

/-!
# The gradient of the retention's output projection: the kernel returns what the reference returns
-/
noncomputable section
namespace Cert.Proof.RetOGrad
open Idealize.ShloMosaic Idealize.SL.Sem

theorem algebraic : Cert.algebraic_Kernel18Ideal_Reference18Ideal (hKernel18Ideal := Cert.Kernel18Ideal.Gen.facts) (hReference18Ideal := Cert.Reference18Ideal.Gen.facts) := by
  intro m g m' g' _ hm
  refine ⟨fun c => (Cert.Kernel18Ideal.Gen.dats m 0 c).arrAt 2 Cert.Kernel18Ideal.cfg0.N,
    (θ_run Cert.Kernel18Ideal.defs _ _).mono (fun _ h c => ⟨(h c).1, (h c).2.2⟩) (Cert.Kernel18Ideal.Value.run_blocks m g), ?_⟩
  refine (θ_run Cert.Reference18Ideal.defs _ _).mono (fun r h c => ?_) (Cert.Reference18Ideal.Value.run m' g')
  obtain ⟨h0, h1, h2⟩ := hm c
  refine ⟨(h c).1.trans ((Cert.Reference18Ideal.Read.val_main_v6_eq _ _ _).trans (funext fun i => ?_)), (h c).2⟩
  obtain ⟨a, j, l, rfl⟩ : ∃ (a : Fin 4) (j : Fin 1024) (l : Fin 1024), i = ix3 a j l := ⟨i 0, i 1, i 2, (ix3_eta i).symm⟩
  rw [h0, h1, h2]
  exact (Cert.Reference18Ideal.RetOGrad.result _ _ _ a j l).trans (Cert.Kernel18Ideal.RetOGrad.arr m c a j l).symm

end Cert.Proof.RetOGrad
end
-- ==== Proof.ConvOGrad.lean ====
module
public import proofs.«01_k».proof.Proof.RetOGrad
public import proofs.«01_k».proof.Proof.Gen.Kernel19Ideal.Value
public import proofs.«01_k».proof.Proof.Gen.Reference19Ideal.Run
public import proofs.«01_k».proof.Proof.Gen.Reference19Ideal.Read
@[expose] public section

/-!
# The gradient of the convolution's output projection

The 1024 rows of the weights lie in four groups of 256, transposed; the call writes them between the other weights' gradients.
-/
noncomputable section
namespace Cert.Kernel19Ideal.ConvOGrad
open Cert.Kernel19Ideal Cert.Kernel19Ideal.Gen Idealize.ShloMosaic Idealize.ShloMosaic.TcCoe Idealize.SL.Sem

theorem pay_apply (v0 : Vec Ideal S1024x4096 .bf16) (v2 : Vec Ideal S4096x256 .bf16) (i : Fin 1024) (j : Fin 256) :
    k0_pay1 v0 v2 (ix3 0 i j) = ∑ k : Fin 4096, v0 (ix2 i k) * v2 (ix2 k j) := by
  unfold k0_pay1
  pointwise

variable (m : (ℓ : Loc nD τ sig) → Buf (Elt Ideal) ℓ) (c : Dev nD)

/-- The convolution's result, a group's columns. -/
def r (k : Fin 4096) (a : Fin 4) (j : Fin 256) : EReal := m (c, Proc.tc.devRef main_arg0) (ix2 k ⟨256 * a + j, by omega⟩)
/-- The gradient of the projection's result. -/
def d (k : Fin 4096) (i : Fin 1024) : EReal := m (c, Proc.tc.devRef main_arg1) (ix2 k i)
/-- The array that the call writes into. -/
def g (a : Fin 4) (i : Fin 1024) (j : Fin 1024) : EReal := m (c, Proc.tc.devRef main_arg2) (ix3 a i j)

theorem lhs (i : Fin 1024) (k : Fin 4096) : V m c main_v1 (ix2 i k) = d m c k i := by
  unfold V
  after_reads_at
  rfl
theorem rhs (k : Fin 4096) (a : Fin 4) (j : Fin 256) : V m c main_v2 (ix2 k ⟨256 * a + j, by omega⟩) = r m c k a j := by
  unfold V
  after_reads_at
  rfl
theorem given (a : Fin 4) (i : Fin 1024) (j : Fin 1024) : V m c main_v3_0 (ix3 a i j) = g m c a i j := by
  unfold V
  after_reads_at
  rfl

theorem idx : ∀ t : Fin cfg0.N, win0_0.index t = ![0, 0] ∧ win0_1.index t = ![0, t.val] ∧ win0_2.index t = ![t.val, 0, 2] := by
  decide +kernel

theorem lt4 (t : Fin cfg0.N) : t.val < 4 := lt_of_lt_of_eq t.isLt N_0

theorem blk0 (t : Fin cfg0.N) (i : Fin 1024) (k : Fin 4096) : iblk m c 0 t (ix2 i k) = V m c main_v1 (ix2 i k) := by
  blk_ext [iblk, idx t]
theorem blk1 (t : Fin cfg0.N) (k : Fin 4096) (j : Fin 256) :
    iblk m c 1 t (ix2 k j) = V m c main_v2 (ix2 k ⟨256 * t + j, by have := lt4 t; omega⟩) := by
  blk_ext [iblk, idx t]

theorem product (t : Fin cfg0.N) (i : Fin 1024) (j : Fin 256) :
    k0_pay1 (iblk m c 0 t) (iblk m c 1 t) (ix3 0 i j) = RetOGrad.weight (r m c) (d m c) ⟨t, lt4 t⟩ i j :=
  (pay_apply (iblk m c 0 t) (iblk m c 1 t) i j).trans (Finset.sum_congr rfl fun k _ => congrArg₂ (fun a b : EReal => a * b)
    ((blk0 m c t i k).trans (lhs m c i k)) ((blk1 m c t k j).trans (rhs m c k ⟨t, lt4 t⟩ j)))

/-- What a grid point writes. -/
theorem written (t : Fin cfg0.N) (i : Fin 1024) (j : Fin 256) :
    (outsAt0 m c t).1 (ix3 0 i j) = RetOGrad.weight (r m c) (d m c) ⟨t, lt4 t⟩ i j := by
  refine Eq.trans ?_ (product m c t i j)
  unfold outsAt0 out0_A_2
  dsimp only
  rw [View.read_writes_junk_eq_canon]
  unfold kernelRun0_A
  dsimp only
  rw [View.canon_unit_zero (Val := Elt Ideal) DownGrad.zero3, View.readAt_eq_ld, View.readAt_eq_ld, (hs0_0 t).read_unread, (hs0_1 t).read_unread]
  exact congrArg₂ (fun x y => k0_pay1 x y (ix3 0 i j)) (View.ld_unit_zero Adam.zero2 _ _) (View.ld_unit_zero Adam.zero2 _ _)

theorem rows (t : Fin cfg0.N) (i : Fin 1024) (j : Fin 256) :
    (dats m 0 c).arrAt 2 cfg0.N (ix3 ⟨t, lt4 t⟩ i ⟨512 + j, by omega⟩) = (outsAt0 m c t).1 (ix3 0 i j) := by
  have hb := congrFun (Value.blocks2 m c t (flush0_2 t)) (ix3 0 i j)
  rw [Value.flushed2] at hb
  refine Eq.trans (congrArg ((dats m 0 c).arrAt 2 cfg0.N) ?_) hb
  blk_ext [idx t]

/-- The other columns are kept. -/
theorem kept (a : Fin 4) (i : Fin 1024) (j : Fin 1024) (hj : j.val < 512 ∨ 512 + 256 ≤ j.val) :
    (dats m 0 c).arrAt 2 cfg0.N (ix3 a i j) = g m c a i j := by
  refine (Value.entry2 m c _ fun t _ hm => ?_).trans (given m c a i j)
  mem_blk [idx t] at hm
  have h : 512 ≤ j.val := hm.2.2.1
  have h' : j.val < 512 + 256 := hm.2.2.2
  omega

/-- The array that the kernel returns. -/
theorem arr (a : Fin 4) (i : Fin 1024) (j : Fin 1024) :
    (dats m 0 c).arrAt 2 cfg0.N (ix3 a i j) = UpGrad.beside 512 (g m c) (RetOGrad.weight (r m c) (d m c)) a i j :=
  UpGrad.beside_of (by decide) (fun a i j => (dats m 0 c).arrAt 2 cfg0.N (ix3 a i j)) _ _
    (fun a i j => (rows m c ⟨a, lt_of_lt_of_eq a.isLt N_0.symm⟩ i j).trans (written m c _ i j)) (kept m c) a i j

end Cert.Kernel19Ideal.ConvOGrad

namespace Cert.Reference19Ideal.ConvOGrad
open Cert.Reference19Ideal Cert.Reference19Ideal.Gen Idealize.ShloMosaic Idealize.ShloMosaic.TcCoe Idealize.SL.Sem

theorem gradient (x0 : (⟨S4096x1024, .f32⟩ : BufTy).Contents (Elt Ideal)) (x1 : (⟨S4096x1024, .f32⟩ : BufTy).Contents (Elt Ideal))
    (a : Fin 4) (i : Fin 1024) (j : Fin 256) :
    Read.val_main_v4 x0 x1 (ix3 a i j) = RetOGrad.weight (fun k (a : Fin 4) (j : Fin 256) => x0 (ix2 k ⟨256 * a + j, by omega⟩)) (fun k i => x1 (ix2 k i)) a i j := by
  unfold Read.val_main_v4 Read.val_main_v3 Read.val_main_v2 Read.val_main_v1 Read.val_main_v0 RetOGrad.weight
  pointwise
  simp only [mul_comm a.val 256]

theorem result (x0 : (⟨S4096x1024, .f32⟩ : BufTy).Contents (Elt Ideal)) (x1 : (⟨S4096x1024, .f32⟩ : BufTy).Contents (Elt Ideal))
    (x2 : (⟨S4x1024x1024, .bf16⟩ : BufTy).Contents (Elt Ideal)) (a : Fin 4) (i : Fin 1024) (j : Fin 1024) : Read.val_main_v7 x0 x1 x2 (ix3 a i j)
    = UpGrad.beside 512 (fun a i j => x2 (ix3 a i j)) (RetOGrad.weight (fun k (a : Fin 4) (j : Fin 256) => x0 (ix2 k ⟨256 * a + j, by omega⟩)) (fun k i => x1 (ix2 k i))) a i j := by
  refine UpGrad.beside_of (by decide) (fun a i j => Read.val_main_v7 x0 x1 x2 (ix3 a i j)) _ _ (fun a i j => ?_) (fun a i j hj => ?_) a i j
  · refine Eq.trans ?_ (gradient x0 x1 a i j)
    unfold Read.val_main_v7
    pointwise
  · unfold Read.val_main_v7 Read.val_main_v5 Read.val_main_v6
    pointwise
    split
    · rfl
    · rw [dif_neg (by omega)]
      exact congrArg (fun j => x2 (ix3 a i j)) (Fin.ext (by show 768 + (j.val - 512 - 256) = j.val; omega))

/-- The arguments end as they began, and every semaphore (there is none) at zero. -/
theorem frame (m : (ℓ : Loc nD τ sig) → Buf (Elt Ideal) ℓ) (ρ : Dev nD → PrngReg) : θ_run defs (onTc (τ := τ) main) ⟨m, fun _ => 0, ρ⟩
    (fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c => (h c).2, sem_eq_zero_of_no_sems rfl _⟩) (Value.run m ρ)

end Cert.Reference19Ideal.ConvOGrad
end
-- ==== Proof.ConvOGradEqual.lean ====
module
public import proofs.«01_k».proof.Defs
public import proofs.«01_k».proof.Proof.ConvOGrad
@[expose] public section

/-!
# The gradient of the convolution's output projection: the kernel returns what the reference returns
-/
noncomputable section
namespace Cert.Proof.ConvOGrad
open Idealize.ShloMosaic Idealize.SL.Sem

theorem algebraic : Cert.algebraic_Kernel19Ideal_Reference19Ideal (hKernel19Ideal := Cert.Kernel19Ideal.Gen.facts) (hReference19Ideal := Cert.Reference19Ideal.Gen.facts) := by
  intro m g m' g' _ hm
  refine ⟨fun c => (Cert.Kernel19Ideal.Gen.dats m 0 c).arrAt 2 Cert.Kernel19Ideal.cfg0.N,
    (θ_run Cert.Kernel19Ideal.defs _ _).mono (fun _ h c => ⟨(h c).1, (h c).2.2⟩) (Cert.Kernel19Ideal.Value.run_blocks m g), ?_⟩
  refine (θ_run Cert.Reference19Ideal.defs _ _).mono (fun r h c => ?_) (Cert.Reference19Ideal.Value.run m' g')
  obtain ⟨h0, h1, h2⟩ := hm c
  refine ⟨(h c).1.trans ((Cert.Reference19Ideal.Read.val_main_v7_eq _ _ _).trans (funext fun i => ?_)), (h c).2⟩
  obtain ⟨a, j, l, rfl⟩ : ∃ (a : Fin 4) (j : Fin 1024) (l : Fin 1024), i = ix3 a j l := ⟨i 0, i 1, i 2, (ix3_eta i).symm⟩
  rw [h0, h1, h2]
  exact (Cert.Reference19Ideal.ConvOGrad.result _ _ _ a j l).trans (Cert.Kernel19Ideal.ConvOGrad.arr m c a j l).symm

end Cert.Proof.ConvOGrad
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.RefRun
public import proofs.«01_k».proof.Proof.Equal
public import proofs.«01_k».proof.Proof.InGradEqual
public import proofs.«01_k».proof.Proof.DxGradEqual
public import proofs.«01_k».proof.Proof.ProjEqual
public import proofs.«01_k».proof.Proof.UpEqual
public import proofs.«01_k».proof.Proof.AdamInEqual
public import proofs.«01_k».proof.Proof.AdamFfnEqual
public import proofs.«01_k».proof.Proof.DxPartEqual
public import proofs.«01_k».proof.Proof.DownGradEqual
public import proofs.«01_k».proof.Proof.DownNormEqual
public import proofs.«01_k».proof.Proof.MergeEqual
public import proofs.«01_k».proof.Proof.UpGradEqual
public import proofs.«01_k».proof.Proof.DownLastEqual
public import proofs.«01_k».proof.Proof.SecondGradEqual
public import proofs.«01_k».proof.Proof.RetOGradEqual
public import proofs.«01_k».proof.Proof.ConvOGradEqual
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  fun m ρ _ => Cert.Kernel.Gen.frame m ρ, fun m ρ _ => Cert.KernelIdeal.Gen.frame m ρ, fun m ρ _ => Cert.ReferenceIdeal.Run.frame m ρ,
  fun m ρ _ => Cert.Kernel2.Gen.frame m ρ, fun m ρ _ => Cert.Kernel2Ideal.Gen.frame m ρ, fun m ρ _ => Cert.Reference2Ideal.InGrad.frame m ρ,
  fun m ρ _ => Cert.Kernel3.Gen.frame m ρ, fun m ρ _ => Cert.Kernel3Ideal.Gen.frame m ρ, fun m ρ _ => Cert.Reference3Ideal.DxGrad.frame m ρ,
  fun m ρ _ => Cert.Kernel5.Gen.frame m ρ, fun m ρ _ => Cert.Kernel5Ideal.Gen.frame m ρ, fun m ρ _ => Cert.Reference5Ideal.Proj.frame m ρ,
  fun m ρ _ => Cert.Kernel6.Gen.frame m ρ, fun m ρ _ => Cert.Kernel6Ideal.Gen.frame m ρ, fun m ρ _ => Cert.Reference6Ideal.Up.frame m ρ,
  fun m ρ _ => Cert.Kernel7.Gen.frame m ρ, fun m ρ _ => Cert.Kernel7Ideal.Gen.frame m ρ, fun m ρ _ => Cert.Reference7Ideal.Adam.frame m ρ,
  fun m ρ _ => Cert.Kernel8.Gen.frame m ρ, fun m ρ _ => Cert.Kernel8Ideal.Gen.frame m ρ, fun m ρ _ => Cert.Reference8Ideal.Adam.frame m ρ,
  fun m ρ _ => Cert.Kernel9.Gen.frame m ρ, fun m ρ _ => Cert.Kernel9Ideal.Gen.frame m ρ, fun m ρ _ => Cert.Reference9Ideal.DxPart.frame m ρ,
  fun m ρ _ => Cert.Kernel10.Gen.frame m ρ, fun m ρ _ => Cert.Kernel10Ideal.Gen.frame m ρ, fun m ρ _ => Cert.Reference10Ideal.DownGrad.frame m ρ,
  fun m ρ _ => Cert.Kernel11.Gen.frame m ρ, fun m ρ _ => Cert.Kernel11Ideal.Gen.frame m ρ, fun m ρ _ => Cert.Reference11Ideal.DownNorm.frame m ρ,
  fun m ρ _ => Cert.Kernel12.Gen.frame m ρ, fun m ρ _ => Cert.Kernel12Ideal.Gen.frame m ρ, fun m ρ _ => Cert.Reference12Ideal.Merge.frame m ρ,
  fun m ρ _ => Cert.Kernel13.Gen.frame m ρ, fun m ρ _ => Cert.Kernel13Ideal.Gen.frame m ρ, fun m ρ _ => Cert.Reference13Ideal.UpGrad.frame m ρ,
  fun m ρ _ => Cert.Kernel14.Gen.frame m ρ, fun m ρ _ => Cert.Kernel14Ideal.Gen.frame m ρ, fun m ρ _ => Cert.Reference14Ideal.DownLast.frame m ρ,
  fun m ρ _ => Cert.Kernel16.Gen.frame m ρ, fun m ρ _ => Cert.Kernel16Ideal.Gen.frame m ρ, fun m ρ _ => Cert.Reference16Ideal.UpGrad.frame m ρ,
  fun m ρ _ => Cert.Kernel17.Gen.frame m ρ, fun m ρ _ => Cert.Kernel17Ideal.Gen.frame m ρ, fun m ρ _ => Cert.Reference17Ideal.GateGrad.frame m ρ,
  fun m ρ _ => Cert.Kernel18.Gen.frame m ρ, fun m ρ _ => Cert.Kernel18Ideal.Gen.frame m ρ, fun m ρ _ => Cert.Reference18Ideal.RetOGrad.frame m ρ,
  fun m ρ _ => Cert.Kernel19.Gen.frame m ρ, fun m ρ _ => Cert.Kernel19Ideal.Gen.frame m ρ, fun m ρ _ => Cert.Reference19Ideal.ConvOGrad.frame m ρ,
  ⟨IdealRules.named_const.statement _ _ _ _ _ rfl, IdealRules.named_const.statement _ _ _ _ _ rfl, IdealRules.named_const.statement _ _ _ _ _ rfl,
    IdealRules.named_const.statement _ _ _ _ _ rfl, IdealRules.named_const.statement _ _ _ _ _ rfl, IdealRules.named_const.statement _ _ _ _ _ rfl,
    IdealRules.named_const.statement _ _ _ _ _ rfl, IdealRules.named_const.statement _ _ _ _ _ rfl⟩,
  algebraic, trivial, InGrad.algebraic, trivial, DxGrad.algebraic, trivial, Proj.algebraic, trivial, Up.algebraic,
  trivial, AdamIn.algebraic, trivial, AdamFfn.algebraic, trivial, DxPart.algebraic, trivial, DownGrad.algebraic,
  trivial, DownNorm.algebraic, trivial, Merge.algebraic, trivial, UpGrad.algebraic, trivial, DownLast.algebraic,
  trivial, SecondGrad.up, trivial, SecondGrad.gate, trivial, RetOGrad.algebraic, trivial, ConvOGrad.algebraic⟩

end Cert.Proof

end
